-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_qk_fwd [hPre_finite_qk_fwd : Cert.Pre_finite_qk_fwd.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_qk_fwd.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_qk_fwd [hPre_finite_qk_fwd : Cert.Pre_finite_qk_fwd.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_qk_fwd.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_qk_fwd [hKernel8Ideal : Cert.Kernel8Ideal.Facts] [hPre_finite_qk_fwd : Cert.Pre_finite_qk_fwd.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_qk_fwd m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_qk_fwd [hReference8Ideal : Cert.Reference8Ideal.Facts] [hPre_finite_qk_fwd : Cert.Pre_finite_qk_fwd.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_qk_fwd m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v17)) (v2 : (c : Dev Cert.Kernel2Ideal.nD) → Buf (Elt Ideal) ((c.tc : Thread Cert.Kernel2Ideal.nD Cert.Kernel2Ideal.τ).loc Cert.Kernel2Ideal.main_v19)) (v3 : (c : Dev Cert.Kernel2Ideal.nD) → Buf (Elt Ideal) ((c.tc : Thread Cert.Kernel2Ideal.nD Cert.Kernel2Ideal.τ).loc Cert.Kernel2Ideal.main_v21)) (v4 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v17) = v1 c
          ∧ r.2.mem ((c.tc : Thread Cert.Kernel2Ideal.nD Cert.Kernel2Ideal.τ).loc Cert.Kernel2Ideal.main_v19) = v2 c
          ∧ r.2.mem ((c.tc : Thread Cert.Kernel2Ideal.nD Cert.Kernel2Ideal.τ).loc Cert.Kernel2Ideal.main_v21) = v3 c
          ∧ r.2.mem ((c.tc : Thread Cert.Kernel2Ideal.nD Cert.Kernel2Ideal.τ).loc Cert.Kernel2Ideal.main_v22) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v15) = v2 c
          ∧ r.2.mem ((c.tc : Thread Cert.Reference2Ideal.nD Cert.Reference2Ideal.τ).loc Cert.Reference2Ideal.main_v11) = v3 c
          ∧ r.2.mem ((c.tc : Thread Cert.Reference2Ideal.nD Cert.Reference2Ideal.τ).loc Cert.Reference2Ideal.main_v6) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v55)) (v1 : (c : Dev Cert.Kernel3Ideal.nD) → Buf (Elt Ideal) ((c.tc : Thread Cert.Kernel3Ideal.nD Cert.Kernel3Ideal.τ).loc Cert.Kernel3Ideal.main_v64)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v55) = v0 c
          ∧ r.2.mem ((c.tc : Thread Cert.Kernel3Ideal.nD Cert.Kernel3Ideal.τ).loc Cert.Kernel3Ideal.main_v64) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v2) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v46)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v12)) (v1 : (c : Dev Cert.Kernel5Ideal.nD) → Buf (Elt Ideal) ((c.tc : Thread Cert.Kernel5Ideal.nD Cert.Kernel5Ideal.τ).loc Cert.Kernel5Ideal.main_v15)) (v2 : (c : Dev Cert.Kernel5Ideal.nD) → Buf (Elt Ideal) ((c.tc : Thread Cert.Kernel5Ideal.nD Cert.Kernel5Ideal.τ).loc Cert.Kernel5Ideal.main_v16)) (v3 : (c : Dev Cert.Kernel5Ideal.nD) → Buf (Elt Ideal) ((c.tc : Thread Cert.Kernel5Ideal.nD Cert.Kernel5Ideal.τ).loc Cert.Kernel5Ideal.main_v18)) (v4 : (c : Dev Cert.Kernel5Ideal.nD) → Buf (Elt Ideal) ((c.tc : Thread Cert.Kernel5Ideal.nD Cert.Kernel5Ideal.τ).loc Cert.Kernel5Ideal.main_v14_0)) (v5 : (c : Dev Cert.Kernel5Ideal.nD) → Buf (Elt Ideal) ((c.tc : Thread Cert.Kernel5Ideal.nD Cert.Kernel5Ideal.τ).loc Cert.Kernel5Ideal.main_v14_1)) (v6 : (c : Dev Cert.Kernel5Ideal.nD) → Buf (Elt Ideal) ((c.tc : Thread Cert.Kernel5Ideal.nD Cert.Kernel5Ideal.τ).loc Cert.Kernel5Ideal.main_v14_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_v15) = v1 c
          ∧ r.2.mem ((c.tc : Thread Cert.Kernel5Ideal.nD Cert.Kernel5Ideal.τ).loc Cert.Kernel5Ideal.main_v16) = v2 c
          ∧ r.2.mem ((c.tc : Thread Cert.Kernel5Ideal.nD Cert.Kernel5Ideal.τ).loc Cert.Kernel5Ideal.main_v18) = v3 c
          ∧ r.2.mem ((c.tc : Thread Cert.Kernel5Ideal.nD Cert.Kernel5Ideal.τ).loc Cert.Kernel5Ideal.main_v14_0) = v4 c
          ∧ r.2.mem ((c.tc : Thread Cert.Kernel5Ideal.nD Cert.Kernel5Ideal.τ).loc Cert.Kernel5Ideal.main_v14_1) = v5 c
          ∧ r.2.mem ((c.tc : Thread Cert.Kernel5Ideal.nD Cert.Kernel5Ideal.τ).loc Cert.Kernel5Ideal.main_v14_2) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_v48) = v1 c
          ∧ r.2.mem ((c.tc : Thread Cert.Reference5Ideal.nD Cert.Reference5Ideal.τ).loc Cert.Reference5Ideal.main_v47) = v2 c
          ∧ r.2.mem ((c.tc : Thread Cert.Reference5Ideal.nD Cert.Reference5Ideal.τ).loc Cert.Reference5Ideal.main_v46) = v3 c
          ∧ r.2.mem ((c.tc : Thread Cert.Reference5Ideal.nD Cert.Reference5Ideal.τ).loc Cert.Reference5Ideal.main_v45) = v4 c
          ∧ r.2.mem ((c.tc : Thread Cert.Reference5Ideal.nD Cert.Reference5Ideal.τ).loc Cert.Reference5Ideal.main_v42) = v5 c
          ∧ r.2.mem ((c.tc : Thread Cert.Reference5Ideal.nD Cert.Reference5Ideal.τ).loc Cert.Reference5Ideal.main_v39) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "mask" .f32 0xF149F2CA#32 ⊥

def algebraic_Kernel8Ideal_Reference8Ideal_pre_finite_qk_fwd [hKernel8Ideal : Cert.Kernel8Ideal.Facts] [hReference8Ideal : Cert.Reference8Ideal.Facts] [hPre_finite_qk_fwd : Cert.Pre_finite_qk_fwd.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_qk_fwd m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference7Ideal [hKernel9Ideal : Cert.Kernel9Ideal.Facts] [hReference7Ideal : Cert.Reference7Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel9Ideal m →
    (∀ c : Dev Cert.Kernel9Ideal.nD,
      m' ((c.tc : Thread Cert.Reference7Ideal.nD Cert.Reference7Ideal.τ).loc Cert.Reference7Ideal.main_arg0) = m ((c.tc : Thread Cert.Kernel9Ideal.nD Cert.Kernel9Ideal.τ).loc Cert.Kernel9Ideal.main_arg0)
      ∧ m' ((c.tc : Thread Cert.Reference7Ideal.nD Cert.Reference7Ideal.τ).loc Cert.Reference7Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v7)) (v1 : (c : Dev Cert.Kernel10Ideal.nD) → Buf (Elt Ideal) ((c.tc : Thread Cert.Kernel10Ideal.nD Cert.Kernel10Ideal.τ).loc Cert.Kernel10Ideal.main_v8)) (v2 : (c : Dev Cert.Kernel10Ideal.nD) → Buf (Elt Ideal) ((c.tc : Thread Cert.Kernel10Ideal.nD Cert.Kernel10Ideal.τ).loc Cert.Kernel10Ideal.main_v9)) (v3 : (c : Dev Cert.Kernel10Ideal.nD) → Buf (Elt Ideal) ((c.tc : Thread Cert.Kernel10Ideal.nD Cert.Kernel10Ideal.τ).loc Cert.Kernel10Ideal.main_v13)) (v4 : (c : Dev Cert.Kernel10Ideal.nD) → Buf (Elt Ideal) ((c.tc : Thread Cert.Kernel10Ideal.nD Cert.Kernel10Ideal.τ).loc Cert.Kernel10Ideal.main_v14)) (v5 : (c : Dev Cert.Kernel10Ideal.nD) → Buf (Elt Ideal) ((c.tc : Thread Cert.Kernel10Ideal.nD Cert.Kernel10Ideal.τ).loc Cert.Kernel10Ideal.main_v12)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_v8) = v1 c
          ∧ r.2.mem ((c.tc : Thread Cert.Kernel10Ideal.nD Cert.Kernel10Ideal.τ).loc Cert.Kernel10Ideal.main_v9) = v2 c
          ∧ r.2.mem ((c.tc : Thread Cert.Kernel10Ideal.nD Cert.Kernel10Ideal.τ).loc Cert.Kernel10Ideal.main_v13) = v3 c
          ∧ r.2.mem ((c.tc : Thread Cert.Kernel10Ideal.nD Cert.Kernel10Ideal.τ).loc Cert.Kernel10Ideal.main_v14) = v4 c
          ∧ r.2.mem ((c.tc : Thread Cert.Kernel10Ideal.nD Cert.Kernel10Ideal.τ).loc Cert.Kernel10Ideal.main_v12) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v1) = v1 c
          ∧ r.2.mem ((c.tc : Thread Cert.Reference10Ideal.nD Cert.Reference10Ideal.τ).loc Cert.Reference10Ideal.main_v2) = v2 c
          ∧ r.2.mem ((c.tc : Thread Cert.Reference10Ideal.nD Cert.Reference10Ideal.τ).loc Cert.Reference10Ideal.main_v5) = v3 c
          ∧ r.2.mem ((c.tc : Thread Cert.Reference10Ideal.nD Cert.Reference10Ideal.τ).loc Cert.Reference10Ideal.main_v4) = v4 c
          ∧ r.2.mem ((c.tc : Thread Cert.Reference10Ideal.nD Cert.Reference10Ideal.τ).loc Cert.Reference10Ideal.main_v3) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_qk : Cert.Pre_finite_qk.Facts) (hPre_finite_ffn : Cert.Pre_finite_ffn.Facts) (hPre_finite_qk_fwd : Cert.Pre_finite_qk_fwd.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_qk_fwd (hKernel8Ideal := hKernel8Ideal) (hPre_finite_qk_fwd := hPre_finite_qk_fwd)
    ∧ quiescent_Reference8Ideal (hReference8Ideal := hReference8Ideal)
    ∧ quiescent_Reference8Ideal_pre_finite_qk_fwd (hReference8Ideal := hReference8Ideal) (hPre_finite_qk_fwd := hPre_finite_qk_fwd)
    ∧ quiescent_Kernel9 (hKernel9 := hKernel9)
    ∧ quiescent_Kernel9Ideal (hKernel9Ideal := hKernel9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_qk_fwd (hKernel8Ideal := hKernel8Ideal) (hReference8Ideal := hReference8Ideal) (hPre_finite_qk_fwd := hPre_finite_qk_fwd)
    ∧ preserves_Kernel9_Kernel9Ideal
    ∧ algebraic_Kernel9Ideal_Reference7Ideal (hKernel9Ideal := hKernel9Ideal) (hReference7Ideal := hReference7Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite_ffn.lean ====
abbrev S2176x1024 : Shape := ⟨2, ![2176, 1024]⟩
abbrev S1024x2816 : Shape := ⟨2, ![1024, 2816]⟩
abbrev S2816x1024 : Shape := ⟨2, ![2816, 1024]⟩
abbrev S_ : Shape := ⟨0, ![]⟩

class Facts : Prop where
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2176x1024 1) : IVec S_ 1 :=
  let main_c_5 : IVec S_ 1 := constantI S_ 1 1#1
  let main_v17 : IVec S_ 1 := (fun x v => Host.reduce IntOp.andi x v reducesTo_S2176x1024_S_d0_1 h_S_) main_v16 main_c_5
  let main_v18 : IVec S_ 1 := andi main_v13 main_v17
  main_v18

def fn {F : FTy → Type} [FloatOps F] (main_arg0 : FVec F S2176x1024 .f32) (main_arg1 : FVec F S1024x2816 .f32) (main_arg2 : FVec F S1024x2816 .f32) (main_arg3 : FVec F S2816x1024 .f32) (main_arg4 : FVec F S2176x1024 .f32) (main_arg5 : FVec F S2176x1024 .f32) : IVec S_ 1 :=
  let main_v0 : FVec F S2176x1024 .f32 := Host.absf main_arg0
  let main_cst : FVec F S_ .f32 := constant S_ .f32 0x7F800000#32
  let main_v1 : FVec F S2176x1024 .f32 := broadcastInDim S2176x1024 ![] bcast_S_S2176x1024 main_cst
  let main_v2 : IVec S2176x1024 1 := cmpf .olt main_v0 main_v1
  let main_c : IVec S_ 1 := constantI S_ 1 1#1
  let main_v3 : IVec S_ 1 := (fun x v => Host.reduce IntOp.andi x v reducesTo_S2176x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2176x1024 .f32 := Host.absf main_arg5
  let main_cst_4 : FVec F S_ .f32 := constant S_ .f32 0x7F800000#32
  let main_v15 : FVec F S2176x1024 .f32 := broadcastInDim S2176x1024 ![] bcast_S_S2176x1024 main_cst_4
  let main_v16 : IVec S2176x1024 1 := cmpf .olt main_v14 main_v15
  fn_part1 (F := F) main_v13 main_v16
-- ==== Pre_finite_qk.lean ====
abbrev S2176x8x96 : Shape := ⟨3, ![2176, 8, 96]⟩
abbrev S2176x8x64 : Shape := ⟨3, ![2176, 8, 64]⟩
abbrev S_ : Shape := ⟨0, ![]⟩

class Facts : Prop where
  bcast_S_S2176x8x96 : S_.BroadcastsInDim S2176x8x96 (![] : Fin 0 → Fin S2176x8x96.rank)
  reducesTo_S2176x8x96_S_d0_1_2 : S2176x8x96.ReducesTo [0, 1, 2] S_
  h_S_ : 0 < S_.numel

variable [Facts]

def fn {F : FTy → Type} [FloatOps F] (main_arg0 : FVec F S2176x8x96 .f32) (main_arg1 : FVec F S2176x8x96 .f32) (main_arg2 : FVec F S2176x8x64 .f32) (main_arg3 : FVec F S2176x8x64 .f32) : IVec S_ 1 :=
  let main_v0 : FVec F S2176x8x96 .f32 := Host.absf main_arg0
  let main_cst : FVec F S_ .f32 := constant S_ .f32 0x7F800000#32
  let main_v1 : FVec F S2176x8x96 .f32 := broadcastInDim S2176x8x96 ![] bcast_S_S2176x8x96 main_cst
  let main_v2 : IVec S2176x8x96 1 := cmpf .olt main_v0 main_v1
  let main_c : IVec S_ 1 := constantI S_ 1 1#1
  let main_v3 : IVec S_ 1 := (fun x v => Host.reduce IntOp.andi x v reducesTo_S2176x8x96_S_d0_1_2 h_S_) main_v2 main_c
  let main_v4 : FVec F S2176x8x96 .f32 := Host.absf main_arg1
  let main_cst_0 : FVec F S_ .f32 := constant S_ .f32 0x7F800000#32
  let main_v5 : FVec F S2176x8x96 .f32 := broadcastInDim S2176x8x96 ![] bcast_S_S2176x8x96 main_cst_0
  let main_v6 : IVec S2176x8x96 1 := cmpf .olt main_v4 main_v5
  let main_c_1 : IVec S_ 1 := constantI S_ 1 1#1
  let main_v7 : IVec S_ 1 := (fun x v => Host.reduce IntOp.andi x v reducesTo_S2176x8x96_S_d0_1_2 h_S_) main_v6 main_c_1
  let main_v8 : IVec S_ 1 := andi main_v3 main_v7
  main_v8
-- ==== Pre_finite_qk_fwd.lean ====
abbrev S2176x8x96 : Shape := ⟨3, ![2176, 8, 96]⟩
abbrev S2176x8x64 : Shape := ⟨3, ![2176, 8, 64]⟩
abbrev S_ : Shape := ⟨0, ![]⟩

class Facts : Prop where
  bcast_S_S2176x8x96 : S_.BroadcastsInDim S2176x8x96 (![] : Fin 0 → Fin S2176x8x96.rank)
  reducesTo_S2176x8x96_S_d0_1_2 : S2176x8x96.ReducesTo [0, 1, 2] S_
  h_S_ : 0 < S_.numel

variable [Facts]

def fn {F : FTy → Type} [FloatOps F] (main_arg0 : FVec F S2176x8x96 .f32) (main_arg1 : FVec F S2176x8x96 .f32) (main_arg2 : FVec F S2176x8x64 .f32) : IVec S_ 1 :=
  let main_v0 : FVec F S2176x8x96 .f32 := Host.absf main_arg0
  let main_cst : FVec F S_ .f32 := constant S_ .f32 0x7F800000#32
  let main_v1 : FVec F S2176x8x96 .f32 := broadcastInDim S2176x8x96 ![] bcast_S_S2176x8x96 main_cst
  let main_v2 : IVec S2176x8x96 1 := cmpf .olt main_v0 main_v1
  let main_c : IVec S_ 1 := constantI S_ 1 1#1
  let main_v3 : IVec S_ 1 := (fun x v => Host.reduce IntOp.andi x v reducesTo_S2176x8x96_S_d0_1_2 h_S_) main_v2 main_c
  let main_v4 : FVec F S2176x8x96 .f32 := Host.absf main_arg1
  let main_cst_0 : FVec F S_ .f32 := constant S_ .f32 0x7F800000#32
  let main_v5 : FVec F S2176x8x96 .f32 := broadcastInDim S2176x8x96 ![] bcast_S_S2176x8x96 main_cst_0
  let main_v6 : IVec S2176x8x96 1 := cmpf .olt main_v4 main_v5
  let main_c_1 : IVec S_ 1 := constantI S_ 1 1#1
  let main_v7 : IVec S_ 1 := (fun x v => Host.reduce IntOp.andi x v reducesTo_S2176x8x96_S_d0_1_2 h_S_) main_v6 main_c_1
  let main_v8 : IVec S_ 1 := andi main_v3 main_v7
  main_v8
-- ==== Kernel.lean ====
abbrev S2176x8x96 : Shape := ⟨3, ![2176, 8, 96]⟩
abbrev S2176x8x64 : Shape := ⟨3, ![2176, 8, 64]⟩
abbrev S_ : Shape := ⟨0, ![]⟩
abbrev S8x2176x32 : Shape := ⟨3, ![8, 2176, 32]⟩
abbrev S8x2176x96 : Shape := ⟨3, ![8, 2176, 96]⟩
abbrev S8x2176x128 : Shape := ⟨3, ![8, 2176, 128]⟩
abbrev S8x2176x64 : Shape := ⟨3, ![8, 2176, 64]⟩
abbrev S8x544x128 : Shape := ⟨3, ![8, 544, 128]⟩
abbrev S1x272x128 : Shape := ⟨3, ![1, 272, 128]⟩
abbrev S1x2176x128 : Shape := ⟨3, ![1, 2176, 128]⟩
abbrev S1x2176x64 : Shape := ⟨3, ![1, 2176, 64]⟩
abbrev S1x272x64 : Shape := ⟨3, ![1, 272, 64]⟩
abbrev S272x128 : Shape := ⟨2, ![272, 128]⟩
abbrev S2176x128 : Shape := ⟨2, ![2176, 128]⟩
abbrev S2176x64 : Shape := ⟨2, ![2176, 64]⟩
abbrev S272x64 : Shape := ⟨2, ![272, 64]⟩
abbrev S272x2176 : Shape := ⟨2, ![272, 2176]⟩
abbrev S272 : Shape := ⟨1, ![272]⟩
abbrev S272x1 : Shape := ⟨2, ![272, 1]⟩
abbrev S1x1632x128 : Shape := ⟨3, ![1, 1632, 128]⟩
abbrev S1x1632x64 : Shape := ⟨3, ![1, 1632, 64]⟩
abbrev S1632x128 : Shape := ⟨2, ![1632, 128]⟩
abbrev S1632x64 : Shape := ⟨2, ![1632, 64]⟩
abbrev S272x1632 : Shape := ⟨2, ![272, 1632]⟩
abbrev S1x1088x128 : Shape := ⟨3, ![1, 1088, 128]⟩
abbrev S1x1088x64 : Shape := ⟨3, ![1, 1088, 64]⟩
abbrev S1088x128 : Shape := ⟨2, ![1088, 128]⟩
abbrev S1088x64 : Shape := ⟨2, ![1088, 64]⟩
abbrev S272x1088 : Shape := ⟨2, ![272, 1088]⟩
abbrev S1x544x128 : Shape := ⟨3, ![1, 544, 128]⟩
abbrev S1x544x64 : Shape := ⟨3, ![1, 544, 64]⟩
abbrev S544x128 : Shape := ⟨2, ![544, 128]⟩
abbrev S544x64 : Shape := ⟨2, ![544, 64]⟩
abbrev S272x544 : Shape := ⟨2, ![272, 544]⟩
abbrev S2176x8x128 : Shape := ⟨3, ![2176, 8, 128]⟩

abbrev nBuf : Space → Nat
  | .hbm => 37
  | .vmem => 72
  | .smem => 0
  | _ => 0

abbrev bufTy : (tb : Table) → Fin (tcTables nBuf tb) → BufTy
  | .hbm, ⟨0, _⟩ => ⟨S2176x8x96, .f32⟩
  | .hbm, ⟨1, _⟩ => ⟨S2176x8x96, .f32⟩
  | .hbm, ⟨2, _⟩ => ⟨S2176x8x64, .f32⟩
  | .hbm, ⟨3, _⟩ => ⟨S2176x8x64, .f32⟩
  | .hbm, ⟨4, _⟩ => ⟨S_, .bf16⟩
  | .hbm, ⟨5, _⟩ => ⟨S8x2176x32, .bf16⟩
  | .hbm, ⟨6, _⟩ => ⟨S2176x8x96, .bf16⟩
  | .hbm, ⟨7, _⟩ => ⟨S8x2176x96, .bf16⟩
  | .hbm, ⟨8, _⟩ => ⟨S8x2176x128, .bf16⟩
  | .hbm, ⟨9, _⟩ => ⟨S2176x8x96, .bf16⟩
  | .hbm, ⟨10, _⟩ => ⟨S8x2176x96, .bf16⟩
  | .hbm, ⟨11, _⟩ => ⟨S8x2176x128, .bf16⟩
  | .hbm, ⟨12, _⟩ => ⟨S2176x8x64, .bf16⟩
  | .hbm, ⟨13, _⟩ => ⟨S8x2176x64, .bf16⟩
  | .hbm, ⟨14, _⟩ => ⟨S8x2176x64, .f32⟩
  | .hbm, ⟨15, _⟩ => ⟨S_, .f32⟩
  | .hbm, ⟨16, _⟩ => ⟨S8x2176x128, .f32⟩
  | .hbm, ⟨17, _⟩ => ⟨S_, .f32⟩
  | .hbm, ⟨18, _⟩ => ⟨S8x2176x64, .f32⟩
  | .hbm, ⟨19, _⟩ => ⟨S8x544x128, .f32⟩
  | .hbm, ⟨20, _⟩ => ⟨S8x2176x128, .f32⟩
  | .hbm, ⟨21, _⟩ => ⟨S8x2176x64, .f32⟩
  | .hbm, ⟨22, _⟩ => ⟨S8x544x128, .f32⟩
  | .hbm, ⟨23, _⟩ => ⟨S8x2176x128, .f32⟩
  | .hbm, ⟨24, _⟩ => ⟨S8x2176x64, .f32⟩
  | .hbm, ⟨25, _⟩ => ⟨S8x544x128, .f32⟩
  | .hbm, ⟨26, _⟩ => ⟨S8x2176x128, .f32⟩
  | .hbm, ⟨27, _⟩ => ⟨S8x2176x64, .f32⟩
  | .hbm, ⟨28, _⟩ => ⟨S8x544x128, .f32⟩
  | .hbm, ⟨29, _⟩ => ⟨S8x2176x128, .f32⟩
  | .hbm, ⟨30, _⟩ => ⟨S8x2176x64, .f32⟩
  | .hbm, ⟨31, _⟩ => ⟨S8x2176x128, .f32⟩
  | .hbm, ⟨32, _⟩ => ⟨S2176x8x128, .f32⟩
  | .hbm, ⟨33, _⟩ => ⟨S2176x8x96, .f32⟩
  | .hbm, ⟨34, _⟩ => ⟨S2176x8x128, .f32⟩
  | .hbm, ⟨35, _⟩ => ⟨S2176x8x96, .f32⟩
  | .hbm, ⟨36, _⟩ => ⟨S2176x8x64, .f32⟩
  | .local _ .vmem, ⟨0, _⟩ => ⟨S1x272x128, .bf16⟩
  | .local _ .vmem, ⟨1, _⟩ => ⟨S1x272x128, .bf16⟩
  | .local _ .vmem, ⟨2, _⟩ => ⟨S1x2176x128, .bf16⟩
  | .local _ .vmem, ⟨3, _⟩ => ⟨S1x2176x128, .bf16⟩
  | .local _ .vmem, ⟨4, _⟩ => ⟨S1x2176x64, .bf16⟩
  | .local _ .vmem, ⟨5, _⟩ => ⟨S1x2176x64, .bf16⟩
  | .local _ .vmem, ⟨6, _⟩ => ⟨S1x272x64, .f32⟩
  | .local _ .vmem, ⟨7, _⟩ => ⟨S1x272x64, .f32⟩
  | .local _ .vmem, ⟨8, _⟩ => ⟨S1x2176x128, .f32⟩
  | .local _ .vmem, ⟨9, _⟩ => ⟨S1x2176x128, .f32⟩
  | .local _ .vmem, ⟨10, _⟩ => ⟨S1x2176x64, .f32⟩
  | .local _ .vmem, ⟨11, _⟩ => ⟨S1x2176x64, .f32⟩
  | .local _ .vmem, ⟨12, _⟩ => ⟨S1x272x128, .f32⟩
  | .local _ .vmem, ⟨13, _⟩ => ⟨S1x272x128, .f32⟩
  | .local _ .vmem, ⟨14, _⟩ => ⟨S1x2176x128, .f32⟩
  | .local _ .vmem, ⟨15, _⟩ => ⟨S1x2176x128, .f32⟩
  | .local _ .vmem, ⟨16, _⟩ => ⟨S1x2176x64, .f32⟩
  | .local _ .vmem, ⟨17, _⟩ => ⟨S1x2176x64, .f32⟩
  | .local _ .vmem, ⟨18, _⟩ => ⟨S1x272x128, .bf16⟩
  | .local _ .vmem, ⟨19, _⟩ => ⟨S1x272x128, .bf16⟩
  | .local _ .vmem, ⟨20, _⟩ => ⟨S1x1632x128, .bf16⟩
  | .local _ .vmem, ⟨21, _⟩ => ⟨S1x1632x128, .bf16⟩
  | .local _ .vmem, ⟨22, _⟩ => ⟨S1x1632x64, .bf16⟩
  | .local _ .vmem, ⟨23, _⟩ => ⟨S1x1632x64, .bf16⟩
  | .local _ .vmem, ⟨24, _⟩ => ⟨S1x272x64, .f32⟩
  | .local _ .vmem, ⟨25, _⟩ => ⟨S1x272x64, .f32⟩
  | .local _ .vmem, ⟨26, _⟩ => ⟨S1x1632x128, .f32⟩
  | .local _ .vmem, ⟨27, _⟩ => ⟨S1x1632x128, .f32⟩
  | .local _ .vmem, ⟨28, _⟩ => ⟨S1x1632x64, .f32⟩
  | .local _ .vmem, ⟨29, _⟩ => ⟨S1x1632x64, .f32⟩
  | .local _ .vmem, ⟨30, _⟩ => ⟨S1x272x128, .f32⟩
  | .local _ .vmem, ⟨31, _⟩ => ⟨S1x272x128, .f32⟩
  | .local _ .vmem, ⟨32, _⟩ => ⟨S1x1632x128, .f32⟩
  | .local _ .vmem, ⟨33, _⟩ => ⟨S1x1632x128, .f32⟩
  | .local _ .vmem, ⟨34, _⟩ => ⟨S1x1632x64, .f32⟩
  | .local _ .vmem, ⟨35, _⟩ => ⟨S1x1632x64, .f32⟩
  | .local _ .vmem, ⟨36, _⟩ => ⟨S1x272x128, .bf16⟩
  | .local _ .vmem, ⟨37, _⟩ => ⟨S1x272x128, .bf16⟩
  | .local _ .vmem, ⟨38, _⟩ => ⟨S1x1088x128, .bf16⟩
  | .local _ .vmem, ⟨39, _⟩ => ⟨S1x1088x128, .bf16⟩
  | .local _ .vmem, ⟨40, _⟩ => ⟨S1x1088x64, .bf16⟩
  | .local _ .vmem, ⟨41, _⟩ => ⟨S1x1088x64, .bf16⟩
  | .local _ .vmem, ⟨42, _⟩ => ⟨S1x272x64, .f32⟩
  | .local _ .vmem, ⟨43, _⟩ => ⟨S1x272x64, .f32⟩
  | .local _ .vmem, ⟨44, _⟩ => ⟨S1x1088x128, .f32⟩
  | .local _ .vmem, ⟨45, _⟩ => ⟨S1x1088x128, .f32⟩
  | .local _ .vmem, ⟨46, _⟩ => ⟨S1x1088x64, .f32⟩
  | .local _ .vmem, ⟨47, _⟩ => ⟨S1x1088x64, .f32⟩
  | .local _ .vmem, ⟨48, _⟩ => ⟨S1x272x128, .f32⟩
  | .local _ .vmem, ⟨49, _⟩ => ⟨S1x272x128, .f32⟩
  | .local _ .vmem, ⟨50, _⟩ => ⟨S1x1088x128, .f32⟩
  | .local _ .vmem, ⟨51, _⟩ => ⟨S1x1088x128, .f32⟩
  | .local _ .vmem, ⟨52, _⟩ => ⟨S1x1088x64, .f32⟩
  | .local _ .vmem, ⟨53, _⟩ => ⟨S1x1088x64, .f32⟩
  | .local _ .vmem, ⟨54, _⟩ => ⟨S1x272x128, .bf16⟩
  | .local _ .vmem, ⟨55, _⟩ => ⟨S1x272x128, .bf16⟩
  | .local _ .vmem, ⟨56, _⟩ => ⟨S1x544x128, .bf16⟩
  | .local _ .vmem, ⟨57, _⟩ => ⟨S1x544x128, .bf16⟩
  | .local _ .vmem, ⟨58, _⟩ => ⟨S1x544x64, .bf16⟩
  | .local _ .vmem, ⟨59, _⟩ => ⟨S1x544x64, .bf16⟩
  | .local _ .vmem, ⟨60, _⟩ => ⟨S1x272x64, .f32⟩
  | .local _ .vmem, ⟨61, _⟩ => ⟨S1x272x64, .f32⟩
  | .local _ .vmem, ⟨62, _⟩ => ⟨S1x544x128, .f32⟩
  | .local _ .vmem, ⟨63, _⟩ => ⟨S1x544x128, .f32⟩
  | .local _ .vmem, ⟨64, _⟩ => ⟨S1x544x64, .f32⟩
  | .local _ .vmem, ⟨65, _⟩ => ⟨S1x544x64, .f32⟩
  | .local _ .vmem, ⟨66, _⟩ => ⟨S1x272x128, .f32⟩
  | .local _ .vmem, ⟨67, _⟩ => ⟨S1x272x128, .f32⟩
  | .local _ .vmem, ⟨68, _⟩ => ⟨S1x544x128, .f32⟩
  | .local _ .vmem, ⟨69, _⟩ => ⟨S1x544x128, .f32⟩
  | .local _ .vmem, ⟨70, _⟩ => ⟨S1x544x64, .f32⟩
  | .local _ .vmem, ⟨71, _⟩ => ⟨S1x544x64, .f32⟩
  | _, _ => ⟨S2176x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_stg8_0 : Ref sig .tc := ⟨.vmem, 52, rfl⟩
abbrev cc2_stg8_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg5_1 : Ref sig .tc := ⟨.vmem, 65, rfl⟩
abbrev cc3_stg6_0 : Ref sig .tc := ⟨.vmem, 66, rfl⟩
abbrev cc3_stg6_1 : Ref sig .tc := ⟨.vmem, 67, rfl⟩
abbrev cc3_stg7_0 : Ref sig .tc := ⟨.vmem, 68, rfl⟩
abbrev cc3_stg7_1 : Ref sig .tc := ⟨.vmem, 69, rfl⟩
abbrev cc3_stg8_0 : Ref sig .tc := ⟨.vmem, 70, rfl⟩
abbrev cc3_stg8_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc2_sem8_0 : DmaSem sig := 52
abbrev cc2_sem8_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem3_1 : DmaSem sig := 61
abbrev cc3_sem4_0 : DmaSem sig := 62
abbrev cc3_sem4_1 : DmaSem sig := 63
abbrev cc3_sem5_0 : DmaSem sig := 64
abbrev cc3_sem5_1 : DmaSem sig := 65
abbrev cc3_sem6_0 : DmaSem sig := 66
abbrev cc3_sem6_1 : DmaSem sig := 67
abbrev cc3_sem7_0 : DmaSem sig := 68
abbrev cc3_sem7_1 : DmaSem sig := 69
abbrev cc3_sem8_0 : DmaSem sig := 70
abbrev cc3_sem8_1 : DmaSem sig := 71

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v49 : BitVec 1 := Scalar.cmpi .eq arg1 c0_i32
  let v50 : BitVec 32 := Scalar.extui v49
  let c0_i32_25 : BitVec 32 := 0#32
  let v51 : BitVec 1 := Scalar.cmpi .ne v50 c0_i32_25
  v51

def k0_cond2 (i : grid0.Coords) : BitVec 1 :=
  let arg1 : BitVec 32 := BitVec.ofNat 32 (i 1).val
  let c0_i32_26 : BitVec 32 := 0#32
  let v52 : BitVec 1 := Scalar.cmpi .sgt arg1 c0_i32_26
  let v53 : BitVec 32 := Scalar.extui v52
  let c0_i32_27 : BitVec 32 := 0#32
  let v54 : BitVec 1 := Scalar.cmpi .ne v53 c0_i32_27
  v54

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x272x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2176x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x272x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2176x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x272x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2176x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2176x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![8, 2], ![false, false]⟩

def k1_cond1 (i : grid1.Coords) : BitVec 1 :=
  let arg1 : BitVec 32 := BitVec.ofNat 32 (i 1).val
  let c0_i32 : BitVec 32 := 0#32
  let v49 : BitVec 1 := Scalar.cmpi .eq arg1 c0_i32
  let v50 : BitVec 32 := Scalar.extui v49
  let c0_i32_25 : BitVec 32 := 0#32
  let v51 : BitVec 1 := Scalar.cmpi .ne v50 c0_i32_25
  v51

def k1_cond2 (i : grid1.Coords) : BitVec 1 :=
  let arg1 : BitVec 32 := BitVec.ofNat 32 (i 1).val
  let c0_i32_26 : BitVec 32 := 0#32
  let v52 : BitVec 1 := Scalar.cmpi .sgt arg1 c0_i32_26
  let v53 : BitVec 32 := Scalar.extui v52
  let c0_i32_27 : BitVec 32 := 0#32
  let v54 : BitVec 1 := Scalar.cmpi .ne v53 c0_i32_27
  v54

def cc1_transform_0 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x272x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1632x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1632x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x272x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1632x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1632x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x272x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1632x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1632x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![8, 2], ![false, false]⟩

def k2_cond1 (i : grid2.Coords) : BitVec 1 :=
  let arg1 : BitVec 32 := BitVec.ofNat 32 (i 1).val
  let c0_i32 : BitVec 32 := 0#32
  let v49 : BitVec 1 := Scalar.cmpi .eq arg1 c0_i32
  let v50 : BitVec 32 := Scalar.extui v49
  let c0_i32_25 : BitVec 32 := 0#32
  let v51 : BitVec 1 := Scalar.cmpi .ne v50 c0_i32_25
  v51

def k2_cond2 (i : grid2.Coords) : BitVec 1 :=
  let arg1 : BitVec 32 := BitVec.ofNat 32 (i 1).val
  let c0_i32_26 : BitVec 32 := 0#32
  let v52 : BitVec 1 := Scalar.cmpi .sgt arg1 c0_i32_26
  let v53 : BitVec 32 := Scalar.extui v52
  let c0_i32_27 : BitVec 32 := 0#32
  let v54 : BitVec 1 := Scalar.cmpi .ne v53 c0_i32_27
  v54

def cc2_transform_0 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x272x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1088x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1088x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x272x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1088x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x1088x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x272x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x1088x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1x1088x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨2, ![8, 2], ![false, false]⟩

def k3_cond1 (i : grid3.Coords) : BitVec 1 :=
  let arg1 : BitVec 32 := BitVec.ofNat 32 (i 1).val
  let c0_i32_25 : BitVec 32 := 0#32
  let v49 : BitVec 1 := Scalar.cmpi .eq arg1 c0_i32_25
  let v50 : BitVec 32 := Scalar.extui v49
  let c0_i32_26 : BitVec 32 := 0#32
  let v51 : BitVec 1 := Scalar.cmpi .ne v50 c0_i32_26
  v51

def k3_cond2 (i : grid3.Coords) : BitVec 1 :=
  let arg1 : BitVec 32 := BitVec.ofNat 32 (i 1).val
  let c0_i32_27 : BitVec 32 := 0#32
  let v52 : BitVec 1 := Scalar.cmpi .sgt arg1 c0_i32_27
  let v53 : BitVec 32 := Scalar.extui v52
  let c0_i32_28 : BitVec 32 := 0#32
  let v54 : BitVec 1 := Scalar.cmpi .ne v53 c0_i32_28
  v54

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x272x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x544x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x544x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x272x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x544x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x544x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x272x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x544x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S1x544x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]
-- ==== KernelIdeal.lean ====
variable {F : FTy → Type} [FloatOps F] [Named F]
def κ : String → Option EReal := fun
  | "mask" => some ⊥
  | _ => none
-- ==== ReferenceIdeal.lean ====
abbrev S2176x8x96 : Shape := ⟨3, ![2176, 8, 96]⟩
abbrev S2176x8x64 : Shape := ⟨3, ![2176, 8, 64]⟩
abbrev S8x2176x2176 : Shape := ⟨3, ![8, 2176, 2176]⟩
abbrev S_ : Shape := ⟨0, ![]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S1x2176x2176 : Shape := ⟨3, ![1, 2176, 2176]⟩
abbrev S8x2176 : Shape := ⟨2, ![8, 2176]⟩
abbrev S8x2176x1 : Shape := ⟨3, ![8, 2176, 1]⟩
abbrev S8x64x2176 : Shape := ⟨3, ![8, 64, 2176]⟩
abbrev S8x2176x96 : Shape := ⟨3, ![8, 2176, 96]⟩

abbrev nBuf : Space → Nat
  | .hbm => 90
  | .vmem => 0
  | .smem => 0
  | _ => 0

abbrev bufTy : (tb : Table) → Fin (tcTables nBuf tb) → BufTy
  | .hbm, ⟨0, _⟩ => ⟨S2176x8x96, .f32⟩
  | .hbm, ⟨1, _⟩ => ⟨S2176x8x96, .f32⟩
  | .hbm, ⟨2, _⟩ => ⟨S2176x8x64, .f32⟩
  | .hbm, ⟨3, _⟩ => ⟨S2176x8x64, .f32⟩
  | .hbm, ⟨4, _⟩ => ⟨S8x2176x2176, .f32⟩
  | .hbm, ⟨5, _⟩ => ⟨S_, .f32⟩
  | .hbm, ⟨6, _⟩ => ⟨S8x2176x2176, .f32⟩
  | .hbm, ⟨7, _⟩ => ⟨S8x2176x2176, .f32⟩
  | .hbm, ⟨8, _⟩ => ⟨S2176, .i32⟩
  | .hbm, ⟨9, _⟩ => ⟨S1x2176, .i32⟩
  | .hbm, ⟨10, _⟩ => ⟨S2176x1, .i32⟩
  | .hbm, ⟨11, _⟩ => ⟨S2176x2176, .i32⟩
  | .hbm, ⟨12, _⟩ => ⟨S2176x2176, .i32⟩
  | .hbm, ⟨13, _⟩ => ⟨S2176x2176, .i1⟩
  | .hbm, ⟨14, _⟩ => ⟨S1x2176x2176, .i1⟩
  | .hbm, ⟨15, _⟩ => ⟨S_, .f32⟩
  | .hbm, ⟨16, _⟩ => ⟨S_, .f32⟩
  | .hbm, ⟨17, _⟩ => ⟨S8x2176x2176, .i1⟩
  | .hbm, ⟨18, _⟩ => ⟨S8x2176x2176, .f32⟩
  | .hbm, ⟨19, _⟩ => ⟨S8x2176x2176, .f32⟩
  | .hbm, ⟨20, _⟩ => ⟨S_, .f32⟩
  | .hbm, ⟨21, _⟩ => ⟨S8x2176x2176, .f32⟩
  | .hbm, ⟨22, _⟩ => ⟨S_, .f32⟩
  | .hbm, ⟨23, _⟩ => ⟨S8x2176, .f32⟩
  | .hbm, ⟨24, _⟩ => ⟨S8x2176x1, .f32⟩
  | .hbm, ⟨25, _⟩ => ⟨S8x2176x2176, .f32⟩
  | .hbm, ⟨26, _⟩ => ⟨S8x2176x2176, .i1⟩
  | .hbm, ⟨27, _⟩ => ⟨S8x2176x2176, .f32⟩
  | .hbm, ⟨28, _⟩ => ⟨S_, .f32⟩
  | .hbm, ⟨29, _⟩ => ⟨S8x2176, .f32⟩
  | .hbm, ⟨30, _⟩ => ⟨S_, .f32⟩
  | .hbm, ⟨31, _⟩ => ⟨S8x2176, .f32⟩
  | .hbm, ⟨32, _⟩ => ⟨S8x2176, .f32⟩
  | .hbm, ⟨33, _⟩ => ⟨S_, .f32⟩
  | .hbm, ⟨34, _⟩ => ⟨S8x2176, .f32⟩
  | .hbm, ⟨35, _⟩ => ⟨S8x2176, .i1⟩
  | .hbm, ⟨36, _⟩ => ⟨S_, .f32⟩
  | .hbm, ⟨37, _⟩ => ⟨S8x2176, .f32⟩
  | .hbm, ⟨38, _⟩ => ⟨S8x2176, .i1⟩
  | .hbm, ⟨39, _⟩ => ⟨S_, .f32⟩
  | .hbm, ⟨40, _⟩ => ⟨S8x2176, .f32⟩
  | .hbm, ⟨41, _⟩ => ⟨S_, .f32⟩
  | .hbm, ⟨42, _⟩ => ⟨S8x2176, .f32⟩
  | .hbm, ⟨43, _⟩ => ⟨S_, .f32⟩
  | .hbm, ⟨44, _⟩ => ⟨S8x2176, .f32⟩
  | .hbm, ⟨45, _⟩ => ⟨S8x2176, .f32⟩
  | .hbm, ⟨46, _⟩ => ⟨S8x2176, .f32⟩
  | .hbm, ⟨47, _⟩ => ⟨S8x2176x1, .f32⟩
  | .hbm, ⟨48, _⟩ => ⟨S8x2176x2176, .f32⟩
  | .hbm, ⟨49, _⟩ => ⟨S8x2176x2176, .f32⟩
  | .hbm, ⟨50, _⟩ => ⟨S8x2176x2176, .f32⟩
  | .hbm, ⟨51, _⟩ => ⟨S_, .f32⟩
  | .hbm, ⟨52, _⟩ => ⟨S8x2176, .f32⟩
  | .hbm, ⟨53, _⟩ => ⟨S8x2176x1, .f32⟩
  | .hbm, ⟨54, _⟩ => ⟨S8x2176x2176, .f32⟩
  | .hbm, ⟨55, _⟩ => ⟨S8x2176x2176, .f32⟩
  | .hbm, ⟨56, _⟩ => ⟨S8x2176x1, .f32⟩
  | .hbm, ⟨57, _⟩ => ⟨S_, .f32⟩
  | .hbm, ⟨58, _⟩ => ⟨S8x2176x1, .f32⟩
  | .hbm, ⟨59, _⟩ => ⟨S8x2176x1, .f32⟩
  | .hbm, ⟨60, _⟩ => ⟨S8x64x2176, .f32⟩
  | .hbm, ⟨61, _⟩ => ⟨S2176x8x64, .f32⟩
  | .hbm, ⟨62, _⟩ => ⟨S8x64x2176, .f32⟩
  | .hbm, ⟨63, _⟩ => ⟨S8x2176x2176, .f32⟩
  | .hbm, ⟨64, _⟩ => ⟨S8x64x2176, .f32⟩
  | .hbm, ⟨65, _⟩ => ⟨S2176x8x64, .f32⟩
  | .hbm, ⟨66, _⟩ => ⟨S8x2176x2176, .f32⟩
  | .hbm, ⟨67, _⟩ => ⟨S8x2176x2176, .f32⟩
  | .hbm, ⟨68, _⟩ => ⟨S8x2176x2176, .f32⟩
  | .hbm, ⟨69, _⟩ => ⟨S_, .f32⟩
  | .hbm, ⟨70, _⟩ => ⟨S8x2176, .f32⟩
  | .hbm, ⟨71, _⟩ => ⟨S8x2176x1, .f32⟩
  | .hbm, ⟨72, _⟩ => ⟨S8x2176x1, .f32⟩
  | .hbm, ⟨73, _⟩ => ⟨S8x2176x2176, .f32⟩
  | .hbm, ⟨74, _⟩ => ⟨S8x2176x2176, .f32⟩
  | .hbm, ⟨75, _⟩ => ⟨S_, .f32⟩
  | .hbm, ⟨76, _⟩ => ⟨S8x2176, .f32⟩
  | .hbm, ⟨77, _⟩ => ⟨S8x2176x2176, .f32⟩
  | .hbm, ⟨78, _⟩ => ⟨S8x2176x2176, .f32⟩
  | .hbm, ⟨79, _⟩ => ⟨S8x2176x2176, .f32⟩
  | .hbm, ⟨80, _⟩ => ⟨S_, .f32⟩
  | .hbm, ⟨81, _⟩ => ⟨S8x2176x2176, .f32⟩
  | .hbm, ⟨82, _⟩ => ⟨S8x2176x2176, .f32⟩
  | .hbm, ⟨83, _⟩ => ⟨S_, .f32⟩
  | .hbm, ⟨84, _⟩ => ⟨S8x2176x2176, .f32⟩
  | .hbm, ⟨85, _⟩ => ⟨S8x2176x2176, .f32⟩
  | .hbm, ⟨86, _⟩ => ⟨S8x2176x96, .f32⟩
  | .hbm, ⟨87, _⟩ => ⟨S2176x8x96, .f32⟩
  | .hbm, ⟨88, _⟩ => ⟨S8x2176x96, .f32⟩
  | .hbm, ⟨89, _⟩ => ⟨S2176x8x96, .f32⟩
  | _, _ => ⟨S2176x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Kernel2.lean ====
abbrev S2176x1024 : Shape := ⟨2, ![2176, 1024]⟩
abbrev S1024x2816 : Shape := ⟨2, ![1024, 2816]⟩
abbrev S2816x1024 : Shape := ⟨2, ![2816, 1024]⟩
abbrev S544x1024 : Shape := ⟨2, ![544, 1024]⟩
abbrev S2176x2816 : Shape := ⟨2, ![2176, 2816]⟩
abbrev S256x1024 : Shape := ⟨2, ![256, 1024]⟩
abbrev S2176x256 : Shape := ⟨2, ![2176, 256]⟩
abbrev S128x2816 : Shape := ⟨2, ![128, 2816]⟩
abbrev S1088x2816 : Shape := ⟨2, ![1088, 2816]⟩
abbrev S2816x512 : Shape := ⟨2, ![2816, 512]⟩
abbrev S1088x512 : Shape := ⟨2, ![1088, 512]⟩
abbrev S2176x1408 : Shape := ⟨2, ![2176, 1408]⟩
abbrev S2176x512 : Shape := ⟨2, ![2176, 512]⟩
abbrev S1408x512 : Shape := ⟨2, ![1408, 512]⟩

abbrev nBuf : Space → Nat
  | .hbm => 30
  | .vmem => 75
  | .smem => 0
  | _ => 0

abbrev bufTy : (tb : Table) → Fin (tcTables nBuf tb) → BufTy
  | .hbm, ⟨0, _⟩ => ⟨S2176x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2176x1024, .f32⟩
  | .hbm, ⟨5, _⟩ => ⟨S2176x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S2176x1024, .bf16⟩
  | .hbm, ⟨12, _⟩ => ⟨S2176x1024, .bf16⟩
  | .hbm, ⟨13, _⟩ => ⟨S2176x2816, .f32⟩
  | .hbm, ⟨14, _⟩ => ⟨S2176x2816, .f32⟩
  | .hbm, ⟨15, _⟩ => ⟨S2176x2816, .bf16⟩
  | .hbm, ⟨16, _⟩ => ⟨S2176x1024, .f32⟩
  | .hbm, ⟨17, _⟩ => ⟨S2176x2816, .bf16⟩
  | .hbm, ⟨18, _⟩ => ⟨S2816x1024, .bf16⟩
  | .hbm, ⟨19, _⟩ => ⟨S2176x2816, .bf16⟩
  | .hbm, ⟨20, _⟩ => ⟨S2176x2816, .bf16⟩
  | .hbm, ⟨21, _⟩ => ⟨S2816x1024, .bf16⟩
  | .hbm, ⟨22, _⟩ => ⟨S2816x1024, .bf16⟩
  | .hbm, ⟨23, _⟩ => ⟨S2176x1024, .f32⟩
  | .hbm, ⟨24, _⟩ => ⟨S2176x1024, .f32⟩
  | .hbm, ⟨25, _⟩ => ⟨S1024x2816, .bf16⟩
  | .hbm, ⟨26, _⟩ => ⟨S1024x2816, .f32⟩
  | .hbm, ⟨27, _⟩ => ⟨S1024x2816, .bf16⟩
  | .hbm, ⟨28, _⟩ => ⟨S1024x2816, .f32⟩
  | .hbm, ⟨29, _⟩ => ⟨S2816x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .bf16⟩
  | .local _ .vmem, ⟨3, _⟩ => ⟨S544x1024, .bf16⟩
  | .local _ .vmem, ⟨4, _⟩ => ⟨S2176x1024, .bf16⟩
  | .local _ .vmem, ⟨5, _⟩ => ⟨S256x1024, .bf16⟩
  | .local _ .vmem, ⟨6, _⟩ => ⟨S256x1024, .bf16⟩
  | .local _ .vmem, ⟨7, _⟩ => ⟨S2176x256, .f32⟩
  | .local _ .vmem, ⟨8, _⟩ => ⟨S2176x256, .f32⟩
  | .local _ .vmem, ⟨9, _⟩ => ⟨S2176x1024, .bf16⟩
  | .local _ .vmem, ⟨10, _⟩ => ⟨S256x1024, .bf16⟩
  | .local _ .vmem, ⟨11, _⟩ => ⟨S256x1024, .bf16⟩
  | .local _ .vmem, ⟨12, _⟩ => ⟨S2176x256, .f32⟩
  | .local _ .vmem, ⟨13, _⟩ => ⟨S2176x256, .f32⟩
  | .local _ .vmem, ⟨14, _⟩ => ⟨S128x2816, .f32⟩
  | .local _ .vmem, ⟨15, _⟩ => ⟨S128x2816, .f32⟩
  | .local _ .vmem, ⟨16, _⟩ => ⟨S128x2816, .f32⟩
  | .local _ .vmem, ⟨17, _⟩ => ⟨S128x2816, .f32⟩
  | .local _ .vmem, ⟨18, _⟩ => ⟨S128x2816, .bf16⟩
  | .local _ .vmem, ⟨19, _⟩ => ⟨S128x2816, .bf16⟩
  | .local _ .vmem, ⟨20, _⟩ => ⟨S1088x2816, .bf16⟩
  | .local _ .vmem, ⟨21, _⟩ => ⟨S1088x2816, .bf16⟩
  | .local _ .vmem, ⟨22, _⟩ => ⟨S2816x512, .bf16⟩
  | .local _ .vmem, ⟨23, _⟩ => ⟨S2816x512, .bf16⟩
  | .local _ .vmem, ⟨24, _⟩ => ⟨S1088x512, .f32⟩
  | .local _ .vmem, ⟨25, _⟩ => ⟨S1088x512, .f32⟩
  | .local _ .vmem, ⟨26, _⟩ => ⟨S2176x1024, .bf16⟩
  | .local _ .vmem, ⟨27, _⟩ => ⟨S256x1024, .bf16⟩
  | .local _ .vmem, ⟨28, _⟩ => ⟨S256x1024, .bf16⟩
  | .local _ .vmem, ⟨29, _⟩ => ⟨S2176x256, .bf16⟩
  | .local _ .vmem, ⟨30, _⟩ => ⟨S2176x256, .bf16⟩
  | .local _ .vmem, ⟨31, _⟩ => ⟨S2176x1408, .bf16⟩
  | .local _ .vmem, ⟨32, _⟩ => ⟨S2176x1408, .bf16⟩
  | .local _ .vmem, ⟨33, _⟩ => ⟨S2176x512, .bf16⟩
  | .local _ .vmem, ⟨34, _⟩ => ⟨S2176x512, .bf16⟩
  | .local _ .vmem, ⟨35, _⟩ => ⟨S1408x512, .bf16⟩
  | .local _ .vmem, ⟨36, _⟩ => ⟨S1408x512, .bf16⟩
  | .local _ .vmem, ⟨37, _⟩ => ⟨S128x2816, .f32⟩
  | .local _ .vmem, ⟨38, _⟩ => ⟨S128x2816, .f32⟩
  | .local _ .vmem, ⟨39, _⟩ => ⟨S128x2816, .f32⟩
  | .local _ .vmem, ⟨40, _⟩ => ⟨S128x2816, .f32⟩
  | .local _ .vmem, ⟨41, _⟩ => ⟨S128x2816, .bf16⟩
  | .local _ .vmem, ⟨42, _⟩ => ⟨S128x2816, .bf16⟩
  | .local _ .vmem, ⟨43, _⟩ => ⟨S128x2816, .bf16⟩
  | .local _ .vmem, ⟨44, _⟩ => ⟨S128x2816, .bf16⟩
  | .local _ .vmem, ⟨45, _⟩ => ⟨S128x2816, .bf16⟩
  | .local _ .vmem, ⟨46, _⟩ => ⟨S128x2816, .bf16⟩
  | .local _ .vmem, ⟨47, _⟩ => ⟨S2176x1408, .bf16⟩
  | .local _ .vmem, ⟨48, _⟩ => ⟨S2176x1408, .bf16⟩
  | .local _ .vmem, ⟨49, _⟩ => ⟨S2176x512, .bf16⟩
  | .local _ .vmem, ⟨50, _⟩ => ⟨S2176x512, .bf16⟩
  | .local _ .vmem, ⟨51, _⟩ => ⟨S1408x512, .bf16⟩
  | .local _ .vmem, ⟨52, _⟩ => ⟨S1408x512, .bf16⟩
  | .local _ .vmem, ⟨53, _⟩ => ⟨S2176x1408, .bf16⟩
  | .local _ .vmem, ⟨54, _⟩ => ⟨S2176x1408, .bf16⟩
  | .local _ .vmem, ⟨55, _⟩ => ⟨S2176x512, .bf16⟩
  | .local _ .vmem, ⟨56, _⟩ => ⟨S2176x512, .bf16⟩
  | .local _ .vmem, ⟨57, _⟩ => ⟨S1408x512, .bf16⟩
  | .local _ .vmem, ⟨58, _⟩ => ⟨S1408x512, .bf16⟩
  | .local _ .vmem, ⟨59, _⟩ => ⟨S1088x2816, .bf16⟩
  | .local _ .vmem, ⟨60, _⟩ => ⟨S1088x2816, .bf16⟩
  | .local _ .vmem, ⟨61, _⟩ => ⟨S2816x512, .bf16⟩
  | .local _ .vmem, ⟨62, _⟩ => ⟨S2816x512, .bf16⟩
  | .local _ .vmem, ⟨63, _⟩ => ⟨S1088x512, .f32⟩
  | .local _ .vmem, ⟨64, _⟩ => ⟨S1088x512, .f32⟩
  | .local _ .vmem, ⟨65, _⟩ => ⟨S1088x512, .f32⟩
  | .local _ .vmem, ⟨66, _⟩ => ⟨S1088x512, .f32⟩
  | .local _ .vmem, ⟨67, _⟩ => ⟨S1088x2816, .bf16⟩
  | .local _ .vmem, ⟨68, _⟩ => ⟨S1088x2816, .bf16⟩
  | .local _ .vmem, ⟨69, _⟩ => ⟨S2816x512, .bf16⟩
  | .local _ .vmem, ⟨70, _⟩ => ⟨S2816x512, .bf16⟩
  | .local _ .vmem, ⟨71, _⟩ => ⟨S1088x512, .f32⟩
  | .local _ .vmem, ⟨72, _⟩ => ⟨S1088x512, .f32⟩
  | .local _ .vmem, ⟨73, _⟩ => ⟨S1088x512, .f32⟩
  | .local _ .vmem, ⟨74, _⟩ => ⟨S1088x512, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg1_1 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc7_stg3_0 : Ref sig .tc := ⟨.vmem, 43, rfl⟩
abbrev cc7_stg3_1 : Ref sig .tc := ⟨.vmem, 44, rfl⟩
abbrev cc7_stg4_0 : Ref sig .tc := ⟨.vmem, 45, rfl⟩
abbrev cc7_stg4_1 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg1_1 : Ref sig .tc := ⟨.vmem, 50, rfl⟩
abbrev cc8_stg2_0 : Ref sig .tc := ⟨.vmem, 51, rfl⟩
abbrev cc8_stg2_1 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg1_1 : Ref sig .tc := ⟨.vmem, 56, rfl⟩
abbrev cc9_stg2_0 : Ref sig .tc := ⟨.vmem, 57, rfl⟩
abbrev cc9_stg2_1 : Ref sig .tc := ⟨.vmem, 58, rfl⟩
abbrev cc10_stg0_0 : Ref sig .tc := ⟨.vmem, 59, rfl⟩
abbrev cc10_stg0_1 : Ref sig .tc := ⟨.vmem, 60, rfl⟩
abbrev cc10_stg1_0 : Ref sig .tc := ⟨.vmem, 61, rfl⟩
abbrev cc10_stg1_1 : Ref sig .tc := ⟨.vmem, 62, rfl⟩
abbrev cc10_stg2_0 : Ref sig .tc := ⟨.vmem, 63, rfl⟩
abbrev cc10_stg2_1 : Ref sig .tc := ⟨.vmem, 64, rfl⟩
abbrev cc10_stg3_0 : Ref sig .tc := ⟨.vmem, 65, rfl⟩
abbrev cc10_stg3_1 : Ref sig .tc := ⟨.vmem, 66, rfl⟩
abbrev cc11_stg0_0 : Ref sig .tc := ⟨.vmem, 67, rfl⟩
abbrev cc11_stg0_1 : Ref sig .tc := ⟨.vmem, 68, rfl⟩
abbrev cc11_stg1_0 : Ref sig .tc := ⟨.vmem, 69, rfl⟩
abbrev cc11_stg1_1 : Ref sig .tc := ⟨.vmem, 70, rfl⟩
abbrev cc11_stg2_0 : Ref sig .tc := ⟨.vmem, 71, rfl⟩
abbrev cc11_stg2_1 : Ref sig .tc := ⟨.vmem, 72, rfl⟩
abbrev cc11_stg3_0 : Ref sig .tc := ⟨.vmem, 73, rfl⟩
abbrev cc11_stg3_1 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc2_sem0_0 : DmaSem sig := 9
abbrev cc2_sem1_0 : DmaSem sig := 10
abbrev cc2_sem1_1 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc5_sem0_0 : DmaSem sig := 26
abbrev cc5_sem1_0 : DmaSem sig := 27
abbrev cc5_sem1_1 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem1_1 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc7_sem3_0 : DmaSem sig := 43
abbrev cc7_sem3_1 : DmaSem sig := 44
abbrev cc7_sem4_0 : DmaSem sig := 45
abbrev cc7_sem4_1 : DmaSem sig := 46
abbrev cc8_sem0_0 : DmaSem sig := 47
abbrev cc8_sem0_1 : DmaSem sig := 48
abbrev cc8_sem1_0 : DmaSem sig := 49
abbrev cc8_sem1_1 : DmaSem sig := 50
abbrev cc8_sem2_0 : DmaSem sig := 51
abbrev cc8_sem2_1 : DmaSem sig := 52
abbrev cc9_sem0_0 : DmaSem sig := 53
abbrev cc9_sem0_1 : DmaSem sig := 54
abbrev cc9_sem1_0 : DmaSem sig := 55
abbrev cc9_sem1_1 : DmaSem sig := 56
abbrev cc9_sem2_0 : DmaSem sig := 57
abbrev cc9_sem2_1 : DmaSem sig := 58
abbrev cc10_sem0_0 : DmaSem sig := 59
abbrev cc10_sem0_1 : DmaSem sig := 60
abbrev cc10_sem1_0 : DmaSem sig := 61
abbrev cc10_sem1_1 : DmaSem sig := 62
abbrev cc10_sem2_0 : DmaSem sig := 63
abbrev cc10_sem2_1 : DmaSem sig := 64
abbrev cc10_sem3_0 : DmaSem sig := 65
abbrev cc10_sem3_1 : DmaSem sig := 66
abbrev cc11_sem0_0 : DmaSem sig := 67
abbrev cc11_sem0_1 : DmaSem sig := 68
abbrev cc11_sem1_0 : DmaSem sig := 69
abbrev cc11_sem1_1 : DmaSem sig := 70
abbrev cc11_sem2_0 : DmaSem sig := 71
abbrev cc11_sem2_1 : DmaSem sig := 72
abbrev cc11_sem3_0 : DmaSem sig := 73
abbrev cc11_sem3_1 : DmaSem sig := 74

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![1, 11, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2176x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2176x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2176x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2176x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![17], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x2816 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x2816 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x2816 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1088x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2816x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1088x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 11, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2176x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S256x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2176x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2176x1408 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2176x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1408x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨1, ![17], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S128x2816 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S128x2816 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S128x2816 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S128x2816 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S128x2816 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨3, ![2, 2, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S2176x1408 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S2176x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1408x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![2, 2, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S2176x1408 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S2176x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1408x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![2, 2, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc10_transform_3 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1088x2816 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S2816x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S1088x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev stage10_3 : Fin 2 → Memref sig .tc .vmem S1088x512 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true, false]

abbrev grid11 : Pipeline.Grid := ⟨3, ![2, 2, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc11_transform_3 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S1088x2816 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 2 → Memref sig .tc .vmem S2816x512 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S1088x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev stage11_3 : Fin 2 → Memref sig .tc .vmem S1088x512 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true, false]
-- ==== Reference2Ideal.lean ====
abbrev S2176x1024 : Shape := ⟨2, ![2176, 1024]⟩
abbrev S1024x2816 : Shape := ⟨2, ![1024, 2816]⟩
abbrev S2816x1024 : Shape := ⟨2, ![2816, 1024]⟩
abbrev S2176x2816 : Shape := ⟨2, ![2176, 2816]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2176x1024, .f32⟩
  | .hbm, ⟨5, _⟩ => ⟨S2176x1024, .f32⟩
  | .hbm, ⟨6, _⟩ => ⟨S2176x2816, .f32⟩
  | .hbm, ⟨7, _⟩ => ⟨S2176x2816, .f32⟩
  | .hbm, ⟨8, _⟩ => ⟨S2176x2816, .f32⟩
  | .hbm, ⟨9, _⟩ => ⟨S_, .f32⟩
  | .hbm, ⟨10, _⟩ => ⟨S2176x2816, .f32⟩
  | .hbm, ⟨11, _⟩ => ⟨S2176x2816, .f32⟩
  | .hbm, ⟨12, _⟩ => ⟨S_, .f32⟩
  | .hbm, ⟨13, _⟩ => ⟨S2176x2816, .f32⟩
  | .hbm, ⟨14, _⟩ => ⟨S2176x2816, .f32⟩
  | .hbm, ⟨15, _⟩ => ⟨S_, .f32⟩
  | .hbm, ⟨16, _⟩ => ⟨S2176x2816, .f32⟩
  | .hbm, ⟨17, _⟩ => ⟨S2176x2816, .f32⟩
  | .hbm, ⟨18, _⟩ => ⟨S2176x2816, .f32⟩
  | .hbm, ⟨19, _⟩ => ⟨S2176x2816, .f32⟩
  | .hbm, ⟨20, _⟩ => ⟨S2176x2816, .f32⟩
  | .hbm, ⟨21, _⟩ => ⟨S2176x2816, .f32⟩
  | .hbm, ⟨22, _⟩ => ⟨S2176x1024, .f32⟩
  | .hbm, ⟨23, _⟩ => ⟨S1024x2816, .f32⟩
  | .hbm, ⟨24, _⟩ => ⟨S2816x1024, .f32⟩
  | .hbm, ⟨25, _⟩ => ⟨S2176x2816, .f32⟩
  | .hbm, ⟨26, _⟩ => ⟨S2176x2816, .f32⟩
  | .hbm, ⟨27, _⟩ => ⟨S2176x2816, .f32⟩
  | .hbm, ⟨28, _⟩ => ⟨S2816x1024, .f32⟩
  | .hbm, ⟨29, _⟩ => ⟨S1024x2816, .f32⟩
  | .hbm, ⟨30, _⟩ => ⟨S2176x1024, .f32⟩
  | .hbm, ⟨31, _⟩ => ⟨S2176x2816, .f32⟩
  | .hbm, ⟨32, _⟩ => ⟨S2176x2816, .f32⟩
  | .hbm, ⟨33, _⟩ => ⟨S2176x2816, .f32⟩
  | .hbm, ⟨34, _⟩ => ⟨S2176x2816, .f32⟩
  | .hbm, ⟨35, _⟩ => ⟨S2816x1024, .f32⟩
  | .hbm, ⟨36, _⟩ => ⟨S1024x2816, .f32⟩
  | .hbm, ⟨37, _⟩ => ⟨S2176x1024, .f32⟩
  | .hbm, ⟨38, _⟩ => ⟨S2176x1024, .f32⟩
  | .hbm, ⟨39, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v1_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v1_1 : Ref sig .tc := ⟨.hbm, 18, rfl⟩
abbrev main_v1_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Kernel3.lean ====
abbrev S2176x1024 : Shape := ⟨2, ![2176, 1024]⟩
abbrev S1024x5792 : Shape := ⟨2, ![1024, 5792]⟩
abbrev S2176x5792 : Shape := ⟨2, ![2176, 5792]⟩
abbrev S5792x1024 : Shape := ⟨2, ![5792, 1024]⟩
abbrev S384x1024 : Shape := ⟨2, ![384, 1024]⟩
abbrev S256x1024 : Shape := ⟨2, ![256, 1024]⟩
abbrev S32x1024 : Shape := ⟨2, ![32, 1024]⟩
abbrev S512x1024 : Shape := ⟨2, ![512, 1024]⟩
abbrev S3072x1024 : Shape := ⟨2, ![3072, 1024]⟩
abbrev S16x1024 : Shape := ⟨2, ![16, 1024]⟩
abbrev S_ : Shape := ⟨0, ![]⟩
abbrev S128x1024 : Shape := ⟨2, ![128, 1024]⟩
abbrev S6144x1024 : Shape := ⟨2, ![6144, 1024]⟩
abbrev S544x1024 : Shape := ⟨2, ![544, 1024]⟩
abbrev S2176x6144 : Shape := ⟨2, ![2176, 6144]⟩
abbrev S2176x512 : Shape := ⟨2, ![2176, 512]⟩
abbrev S2176x384 : Shape := ⟨2, ![2176, 384]⟩
abbrev S2176x256 : Shape := ⟨2, ![2176, 256]⟩
abbrev S2176x32 : Shape := ⟨2, ![2176, 32]⟩
abbrev S2176x16 : Shape := ⟨2, ![2176, 16]⟩
abbrev S2176x112 : Shape := ⟨2, ![2176, 112]⟩
abbrev S2176x128 : Shape := ⟨2, ![2176, 128]⟩
abbrev S1024x512 : Shape := ⟨2, ![1024, 512]⟩
abbrev S2176x2048 : Shape := ⟨2, ![2176, 2048]⟩
abbrev S2176x3072 : Shape := ⟨2, ![2176, 3072]⟩
abbrev S2048x1024 : Shape := ⟨2, ![2048, 1024]⟩

abbrev nBuf : Space → Nat
  | .hbm => 76
  | .vmem => 15
  | .smem => 0
  | _ => 0

abbrev bufTy : (tb : Table) → Fin (tcTables nBuf tb) → BufTy
  | .hbm, ⟨0, _⟩ => ⟨S2176x1024, .f32⟩
  | .hbm, ⟨1, _⟩ => ⟨S1024x5792, .f32⟩
  | .hbm, ⟨2, _⟩ => ⟨S2176x5792, .f32⟩
  | .hbm, ⟨3, _⟩ => ⟨S5792x1024, .f32⟩
  | .hbm, ⟨4, _⟩ => ⟨S5792x1024, .bf16⟩
  | .hbm, ⟨5, _⟩ => ⟨S384x1024, .bf16⟩
  | .hbm, ⟨6, _⟩ => ⟨S256x1024, .bf16⟩
  | .hbm, ⟨7, _⟩ => ⟨S32x1024, .bf16⟩
  | .hbm, ⟨8, _⟩ => ⟨S512x1024, .bf16⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S3072x1024, .bf16⟩
  | .hbm, ⟨13, _⟩ => ⟨S16x1024, .bf16⟩
  | .hbm, ⟨14, _⟩ => ⟨S_, .i32⟩
  | .hbm, ⟨15, _⟩ => ⟨S_, .bf16⟩
  | .hbm, ⟨16, _⟩ => ⟨S128x1024, .bf16⟩
  | .hbm, ⟨17, _⟩ => ⟨S16x1024, .bf16⟩
  | .hbm, ⟨18, _⟩ => ⟨S_, .i32⟩
  | .hbm, ⟨19, _⟩ => ⟨S_, .bf16⟩
  | .hbm, ⟨20, _⟩ => ⟨S128x1024, .bf16⟩
  | .hbm, ⟨21, _⟩ => ⟨S_, .bf16⟩
  | .hbm, ⟨22, _⟩ => ⟨S128x1024, .bf16⟩
  | .hbm, ⟨23, _⟩ => ⟨S6144x1024, .bf16⟩
  | .hbm, ⟨24, _⟩ => ⟨S2176x1024, .bf16⟩
  | .hbm, ⟨25, _⟩ => ⟨S2176x6144, .f32⟩
  | .hbm, ⟨26, _⟩ => ⟨S2176x384, .f32⟩
  | .hbm, ⟨27, _⟩ => ⟨S2176x256, .f32⟩
  | .hbm, ⟨28, _⟩ => ⟨S2176x32, .f32⟩
  | .hbm, ⟨29, _⟩ => ⟨S2176x512, .f32⟩
  | .hbm, ⟨30, _⟩ => ⟨S2176x512, .f32⟩
  | .hbm, ⟨31, _⟩ => ⟨S2176x512, .f32⟩
  | .hbm, ⟨32, _⟩ => ⟨S2176x512, .f32⟩
  | .hbm, ⟨33, _⟩ => ⟨S2176x1024, .f32⟩
  | .hbm, ⟨34, _⟩ => ⟨S2176x1024, .f32⟩
  | .hbm, ⟨35, _⟩ => ⟨S2176x1024, .f32⟩
  | .hbm, ⟨36, _⟩ => ⟨S2176x16, .f32⟩
  | .hbm, ⟨37, _⟩ => ⟨S_, .f32⟩
  | .hbm, ⟨38, _⟩ => ⟨S2176x112, .f32⟩
  | .hbm, ⟨39, _⟩ => ⟨S2176x128, .f32⟩
  | .hbm, ⟨40, _⟩ => ⟨S2176x16, .f32⟩
  | .hbm, ⟨41, _⟩ => ⟨S_, .f32⟩
  | .hbm, ⟨42, _⟩ => ⟨S2176x112, .f32⟩
  | .hbm, ⟨43, _⟩ => ⟨S2176x128, .f32⟩
  | .hbm, ⟨44, _⟩ => ⟨S_, .f32⟩
  | .hbm, ⟨45, _⟩ => ⟨S2176x128, .f32⟩
  | .hbm, ⟨46, _⟩ => ⟨S2176x384, .bf16⟩
  | .hbm, ⟨47, _⟩ => ⟨S2176x256, .bf16⟩
  | .hbm, ⟨48, _⟩ => ⟨S2176x128, .bf16⟩
  | .hbm, ⟨49, _⟩ => ⟨S2176x128, .bf16⟩
  | .hbm, ⟨50, _⟩ => ⟨S2176x512, .bf16⟩
  | .hbm, ⟨51, _⟩ => ⟨S2176x512, .bf16⟩
  | .hbm, ⟨52, _⟩ => ⟨S2176x512, .bf16⟩
  | .hbm, ⟨53, _⟩ => ⟨S2176x512, .bf16⟩
  | .hbm, ⟨54, _⟩ => ⟨S2176x1024, .bf16⟩
  | .hbm, ⟨55, _⟩ => ⟨S2176x1024, .bf16⟩
  | .hbm, ⟨56, _⟩ => ⟨S2176x1024, .bf16⟩
  | .hbm, ⟨57, _⟩ => ⟨S2176x128, .bf16⟩
  | .hbm, ⟨58, _⟩ => ⟨S2176x6144, .bf16⟩
  | .hbm, ⟨59, _⟩ => ⟨S6144x1024, .bf16⟩
  | .hbm, ⟨60, _⟩ => ⟨S2176x384, .f32⟩
  | .hbm, ⟨61, _⟩ => ⟨S2176x256, .f32⟩
  | .hbm, ⟨62, _⟩ => ⟨S2176x16, .f32⟩
  | .hbm, ⟨63, _⟩ => ⟨S2176x16, .f32⟩
  | .hbm, ⟨64, _⟩ => ⟨S2176x2048, .f32⟩
  | .hbm, ⟨65, _⟩ => ⟨S2176x3072, .f32⟩
  | .hbm, ⟨66, _⟩ => ⟨S2176x5792, .f32⟩
  | .hbm, ⟨67, _⟩ => ⟨S384x1024, .bf16⟩
  | .hbm, ⟨68, _⟩ => ⟨S256x1024, .bf16⟩
  | .hbm, ⟨69, _⟩ => ⟨S16x1024, .bf16⟩
  | .hbm, ⟨70, _⟩ => ⟨S16x1024, .bf16⟩
  | .hbm, ⟨71, _⟩ => ⟨S2048x1024, .bf16⟩
  | .hbm, ⟨72, _⟩ => ⟨S3072x1024, .bf16⟩
  | .hbm, ⟨73, _⟩ => ⟨S5792x1024, .bf16⟩
  | .hbm, ⟨74, _⟩ => ⟨S1024x5792, .bf16⟩
  | .hbm, ⟨75, _⟩ => ⟨S1024x5792, .f32⟩
  | .local _ .vmem, ⟨0, _⟩ => ⟨S544x1024, .f32⟩
  | .local _ .vmem, ⟨1, _⟩ => ⟨S544x1024, .f32⟩
  | .local _ .vmem, ⟨2, _⟩ => ⟨S544x1024, .bf16⟩
  | .local _ .vmem, ⟨3, _⟩ => ⟨S544x1024, .bf16⟩
  | .local _ .vmem, ⟨4, _⟩ => ⟨S2176x1024, .bf16⟩
  | .local _ .vmem, ⟨5, _⟩ => ⟨S512x1024, .bf16⟩
  | .local _ .vmem, ⟨6, _⟩ => ⟨S512x1024, .bf16⟩
  | .local _ .vmem, ⟨7, _⟩ => ⟨S2176x512, .f32⟩
  | .local _ .vmem, ⟨8, _⟩ => ⟨S2176x512, .f32⟩
  | .local _ .vmem, ⟨9, _⟩ => ⟨S2176x1024, .bf16⟩
  | .local _ .vmem, ⟨10, _⟩ => ⟨S2176x1024, .bf16⟩
  | .local _ .vmem, ⟨11, _⟩ => ⟨S2176x512, .bf16⟩
  | .local _ .vmem, ⟨12, _⟩ => ⟨S2176x512, .bf16⟩
  | .local _ .vmem, ⟨13, _⟩ => ⟨S1024x512, .bf16⟩
  | .local _ .vmem, ⟨14, _⟩ => ⟨S1024x512, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![1, 12, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2176x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2176x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![6, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2176x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2176x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference3Ideal.lean ====
abbrev S2176x1024 : Shape := ⟨2, ![2176, 1024]⟩
abbrev S1024x5792 : Shape := ⟨2, ![1024, 5792]⟩
abbrev S2176x5792 : Shape := ⟨2, ![2176, 5792]⟩
abbrev S5792x1024 : Shape := ⟨2, ![5792, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x5792, .f32⟩
  | .hbm, ⟨2, _⟩ => ⟨S2176x5792, .f32⟩
  | .hbm, ⟨3, _⟩ => ⟨S2176x5792, .f32⟩
  | .hbm, ⟨4, _⟩ => ⟨S5792x1024, .f32⟩
  | .hbm, ⟨5, _⟩ => ⟨S1024x5792, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S1024x5792 : Shape := ⟨2, ![1024, 5792]⟩
abbrev S2176x5792 : Shape := ⟨2, ![2176, 5792]⟩
abbrev S5792x1024 : Shape := ⟨2, ![5792, 1024]⟩
abbrev S384x1024 : Shape := ⟨2, ![384, 1024]⟩
abbrev S256x1024 : Shape := ⟨2, ![256, 1024]⟩
abbrev S32x1024 : Shape := ⟨2, ![32, 1024]⟩
abbrev S512x1024 : Shape := ⟨2, ![512, 1024]⟩
abbrev S3072x1024 : Shape := ⟨2, ![3072, 1024]⟩
abbrev S16x1024 : Shape := ⟨2, ![16, 1024]⟩
abbrev S_ : Shape := ⟨0, ![]⟩
abbrev S128x1024 : Shape := ⟨2, ![128, 1024]⟩
abbrev S6144x1024 : Shape := ⟨2, ![6144, 1024]⟩
abbrev S2176x384 : Shape := ⟨2, ![2176, 384]⟩
abbrev S2176x256 : Shape := ⟨2, ![2176, 256]⟩
abbrev S2176x32 : Shape := ⟨2, ![2176, 32]⟩
abbrev S2176x512 : Shape := ⟨2, ![2176, 512]⟩
abbrev S2176x1024 : Shape := ⟨2, ![2176, 1024]⟩
abbrev S2176x16 : Shape := ⟨2, ![2176, 16]⟩
abbrev S2176x112 : Shape := ⟨2, ![2176, 112]⟩
abbrev S2176x128 : Shape := ⟨2, ![2176, 128]⟩
abbrev S2176x6144 : Shape := ⟨2, ![2176, 6144]⟩
abbrev S1024x512 : Shape := ⟨2, ![1024, 512]⟩

abbrev nBuf : Space → Nat
  | .hbm => 57
  | .vmem => 6
  | .smem => 0
  | _ => 0

abbrev bufTy : (tb : Table) → Fin (tcTables nBuf tb) → BufTy
  | .hbm, ⟨0, _⟩ => ⟨S1024x5792, .f32⟩
  | .hbm, ⟨1, _⟩ => ⟨S2176x5792, .f32⟩
  | .hbm, ⟨2, _⟩ => ⟨S5792x1024, .f32⟩
  | .hbm, ⟨3, _⟩ => ⟨S5792x1024, .bf16⟩
  | .hbm, ⟨4, _⟩ => ⟨S384x1024, .bf16⟩
  | .hbm, ⟨5, _⟩ => ⟨S256x1024, .bf16⟩
  | .hbm, ⟨6, _⟩ => ⟨S32x1024, .bf16⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S512x1024, .bf16⟩
  | .hbm, ⟨11, _⟩ => ⟨S3072x1024, .bf16⟩
  | .hbm, ⟨12, _⟩ => ⟨S16x1024, .bf16⟩
  | .hbm, ⟨13, _⟩ => ⟨S_, .i32⟩
  | .hbm, ⟨14, _⟩ => ⟨S_, .bf16⟩
  | .hbm, ⟨15, _⟩ => ⟨S128x1024, .bf16⟩
  | .hbm, ⟨16, _⟩ => ⟨S16x1024, .bf16⟩
  | .hbm, ⟨17, _⟩ => ⟨S_, .i32⟩
  | .hbm, ⟨18, _⟩ => ⟨S_, .bf16⟩
  | .hbm, ⟨19, _⟩ => ⟨S128x1024, .bf16⟩
  | .hbm, ⟨20, _⟩ => ⟨S_, .bf16⟩
  | .hbm, ⟨21, _⟩ => ⟨S128x1024, .bf16⟩
  | .hbm, ⟨22, _⟩ => ⟨S6144x1024, .bf16⟩
  | .hbm, ⟨23, _⟩ => ⟨S2176x384, .f32⟩
  | .hbm, ⟨24, _⟩ => ⟨S2176x256, .f32⟩
  | .hbm, ⟨25, _⟩ => ⟨S2176x32, .f32⟩
  | .hbm, ⟨26, _⟩ => ⟨S2176x512, .f32⟩
  | .hbm, ⟨27, _⟩ => ⟨S2176x512, .f32⟩
  | .hbm, ⟨28, _⟩ => ⟨S2176x512, .f32⟩
  | .hbm, ⟨29, _⟩ => ⟨S2176x512, .f32⟩
  | .hbm, ⟨30, _⟩ => ⟨S2176x1024, .f32⟩
  | .hbm, ⟨31, _⟩ => ⟨S2176x1024, .f32⟩
  | .hbm, ⟨32, _⟩ => ⟨S2176x1024, .f32⟩
  | .hbm, ⟨33, _⟩ => ⟨S2176x16, .f32⟩
  | .hbm, ⟨34, _⟩ => ⟨S_, .f32⟩
  | .hbm, ⟨35, _⟩ => ⟨S2176x112, .f32⟩
  | .hbm, ⟨36, _⟩ => ⟨S2176x128, .f32⟩
  | .hbm, ⟨37, _⟩ => ⟨S2176x16, .f32⟩
  | .hbm, ⟨38, _⟩ => ⟨S_, .f32⟩
  | .hbm, ⟨39, _⟩ => ⟨S2176x112, .f32⟩
  | .hbm, ⟨40, _⟩ => ⟨S2176x128, .f32⟩
  | .hbm, ⟨41, _⟩ => ⟨S_, .f32⟩
  | .hbm, ⟨42, _⟩ => ⟨S2176x128, .f32⟩
  | .hbm, ⟨43, _⟩ => ⟨S2176x384, .bf16⟩
  | .hbm, ⟨44, _⟩ => ⟨S2176x256, .bf16⟩
  | .hbm, ⟨45, _⟩ => ⟨S2176x128, .bf16⟩
  | .hbm, ⟨46, _⟩ => ⟨S2176x128, .bf16⟩
  | .hbm, ⟨47, _⟩ => ⟨S2176x512, .bf16⟩
  | .hbm, ⟨48, _⟩ => ⟨S2176x512, .bf16⟩
  | .hbm, ⟨49, _⟩ => ⟨S2176x512, .bf16⟩
  | .hbm, ⟨50, _⟩ => ⟨S2176x512, .bf16⟩
  | .hbm, ⟨51, _⟩ => ⟨S2176x1024, .bf16⟩
  | .hbm, ⟨52, _⟩ => ⟨S2176x1024, .bf16⟩
  | .hbm, ⟨53, _⟩ => ⟨S2176x1024, .bf16⟩
  | .hbm, ⟨54, _⟩ => ⟨S2176x128, .bf16⟩
  | .hbm, ⟨55, _⟩ => ⟨S2176x6144, .bf16⟩
  | .hbm, ⟨56, _⟩ => ⟨S2176x1024, .f32⟩
  | .local _ .vmem, ⟨0, _⟩ => ⟨S2176x1024, .bf16⟩
  | .local _ .vmem, ⟨1, _⟩ => ⟨S2176x1024, .bf16⟩
  | .local _ .vmem, ⟨2, _⟩ => ⟨S1024x512, .bf16⟩
  | .local _ .vmem, ⟨3, _⟩ => ⟨S1024x512, .bf16⟩
  | .local _ .vmem, ⟨4, _⟩ => ⟨S2176x512, .f32⟩
  | .local _ .vmem, ⟨5, _⟩ => ⟨S2176x512, .f32⟩
  | _, _ => ⟨S1024x5792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_call1_v0 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x5792 : Shape := ⟨2, ![1024, 5792]⟩
abbrev S2176x5792 : Shape := ⟨2, ![2176, 5792]⟩
abbrev S_ : Shape := ⟨0, ![]⟩
abbrev S2176x1024 : Shape := ⟨2, ![2176, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x5792, .f32⟩
  | .hbm, ⟨1, _⟩ => ⟨S2176x5792, .f32⟩
  | .hbm, ⟨2, _⟩ => ⟨S_, .f32⟩
  | .hbm, ⟨3, _⟩ => ⟨S2176x1024, .f32⟩
  | .hbm, ⟨4, _⟩ => ⟨S2176x5792, .f32⟩
  | .hbm, ⟨5, _⟩ => ⟨S2176x1024, .f32⟩
  | _, _ => ⟨S1024x5792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S2176x512 : Shape := ⟨2, ![2176, 512]⟩
abbrev S2176x1024 : Shape := ⟨2, ![2176, 1024]⟩
abbrev S512x1024 : Shape := ⟨2, ![512, 1024]⟩
abbrev S1024x1024 : Shape := ⟨2, ![1024, 1024]⟩
abbrev S1024x512 : Shape := ⟨2, ![1024, 512]⟩
abbrev S1088x512 : Shape := ⟨2, ![1088, 512]⟩
abbrev S512x512 : Shape := ⟨2, ![512, 512]⟩
abbrev S128x1024 : Shape := ⟨2, ![128, 1024]⟩
abbrev S1088x1024 : Shape := ⟨2, ![1088, 1024]⟩
abbrev S64x1024 : Shape := ⟨2, ![64, 1024]⟩

abbrev nBuf : Space → Nat
  | .hbm => 35
  | .vmem => 83
  | .smem => 0
  | _ => 0

abbrev bufTy : (tb : Table) → Fin (tcTables nBuf tb) → BufTy
  | .hbm, ⟨0, _⟩ => ⟨S2176x512, .f32⟩
  | .hbm, ⟨1, _⟩ => ⟨S2176x512, .f32⟩
  | .hbm, ⟨2, _⟩ => ⟨S2176x512, .f32⟩
  | .hbm, ⟨3, _⟩ => ⟨S2176x1024, .f32⟩
  | .hbm, ⟨4, _⟩ => ⟨S2176x1024, .f32⟩
  | .hbm, ⟨5, _⟩ => ⟨S2176x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S2176x1024, .f32⟩
  | .hbm, ⟨11, _⟩ => ⟨S2176x512, .bf16⟩
  | .hbm, ⟨12, _⟩ => ⟨S1024x512, .f32⟩
  | .hbm, ⟨13, _⟩ => ⟨S1024x512, .bf16⟩
  | .hbm, ⟨14, _⟩ => ⟨S1024x512, .f32⟩
  | .hbm, ⟨15, _⟩ => ⟨S1024x512, .bf16⟩
  | .hbm, ⟨16, _⟩ => ⟨S1024x512, .f32⟩
  | .hbm, ⟨17, _⟩ => ⟨S1024x512, .bf16⟩
  | .hbm, ⟨18, _⟩ => ⟨S1024x1024, .bf16⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2176x1024, .bf16⟩
  | .hbm, ⟨23, _⟩ => ⟨S2176x1024, .f32⟩
  | .hbm, ⟨24, _⟩ => ⟨S2176x1024, .bf16⟩
  | .hbm, ⟨25, _⟩ => ⟨S2176x1024, .f32⟩
  | .hbm, ⟨26, _⟩ => ⟨S2176x1024, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S2176x1024, .f32⟩
  | .hbm, ⟨31, _⟩ => ⟨S2176x512, .f32⟩
  | .hbm, ⟨32, _⟩ => ⟨S2176x512, .f32⟩
  | .hbm, ⟨33, _⟩ => ⟨S2176x512, .bf16⟩
  | .hbm, ⟨34, _⟩ => ⟨S2176x512, .f32⟩
  | .local _ .vmem, ⟨0, _⟩ => ⟨S1088x512, .f32⟩
  | .local _ .vmem, ⟨1, _⟩ => ⟨S1088x512, .f32⟩
  | .local _ .vmem, ⟨2, _⟩ => ⟨S512x512, .bf16⟩
  | .local _ .vmem, ⟨3, _⟩ => ⟨S512x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | .local _ .vmem, ⟨8, _⟩ => ⟨S512x512, .bf16⟩
  | .local _ .vmem, ⟨9, _⟩ => ⟨S512x512, .bf16⟩
  | .local _ .vmem, ⟨10, _⟩ => ⟨S1088x512, .f32⟩
  | .local _ .vmem, ⟨11, _⟩ => ⟨S1088x512, .f32⟩
  | .local _ .vmem, ⟨12, _⟩ => ⟨S2176x512, .bf16⟩
  | .local _ .vmem, ⟨13, _⟩ => ⟨S512x512, .bf16⟩
  | .local _ .vmem, ⟨14, _⟩ => ⟨S512x512, .bf16⟩
  | .local _ .vmem, ⟨15, _⟩ => ⟨S2176x512, .f32⟩
  | .local _ .vmem, ⟨16, _⟩ => ⟨S2176x512, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .bf16⟩
  | .local _ .vmem, ⟨30, _⟩ => ⟨S128x1024, .bf16⟩
  | .local _ .vmem, ⟨31, _⟩ => ⟨S2176x1024, .bf16⟩
  | .local _ .vmem, ⟨32, _⟩ => ⟨S1024x512, .bf16⟩
  | .local _ .vmem, ⟨33, _⟩ => ⟨S1024x512, .bf16⟩
  | .local _ .vmem, ⟨34, _⟩ => ⟨S2176x512, .f32⟩
  | .local _ .vmem, ⟨35, _⟩ => ⟨S2176x512, .f32⟩
  | .local _ .vmem, ⟨36, _⟩ => ⟨S1088x1024, .f32⟩
  | .local _ .vmem, ⟨37, _⟩ => ⟨S1088x1024, .f32⟩
  | .local _ .vmem, ⟨38, _⟩ => ⟨S512x1024, .bf16⟩
  | .local _ .vmem, ⟨39, _⟩ => ⟨S512x1024, .bf16⟩
  | .local _ .vmem, ⟨40, _⟩ => ⟨S1088x512, .bf16⟩
  | .local _ .vmem, ⟨41, _⟩ => ⟨S1088x512, .bf16⟩
  | .local _ .vmem, ⟨42, _⟩ => ⟨S64x1024, .f32⟩
  | .local _ .vmem, ⟨43, _⟩ => ⟨S64x1024, .f32⟩
  | .local _ .vmem, ⟨44, _⟩ => ⟨S64x1024, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | .local _ .vmem, ⟨48, _⟩ => ⟨S64x1024, .f32⟩
  | .local _ .vmem, ⟨49, _⟩ => ⟨S64x1024, .f32⟩
  | .local _ .vmem, ⟨50, _⟩ => ⟨S64x1024, .f32⟩
  | .local _ .vmem, ⟨51, _⟩ => ⟨S64x1024, .f32⟩
  | .local _ .vmem, ⟨52, _⟩ => ⟨S64x1024, .f32⟩
  | .local _ .vmem, ⟨53, _⟩ => ⟨S64x1024, .f32⟩
  | .local _ .vmem, ⟨54, _⟩ => ⟨S64x1024, .bf16⟩
  | .local _ .vmem, ⟨55, _⟩ => ⟨S64x1024, .bf16⟩
  | .local _ .vmem, ⟨56, _⟩ => ⟨S64x1024, .f32⟩
  | .local _ .vmem, ⟨57, _⟩ => ⟨S64x1024, .f32⟩
  | .local _ .vmem, ⟨58, _⟩ => ⟨S64x1024, .f32⟩
  | .local _ .vmem, ⟨59, _⟩ => ⟨S64x1024, .f32⟩
  | .local _ .vmem, ⟨60, _⟩ => ⟨S64x1024, .f32⟩
  | .local _ .vmem, ⟨61, _⟩ => ⟨S64x1024, .f32⟩
  | .local _ .vmem, ⟨62, _⟩ => ⟨S64x1024, .f32⟩
  | .local _ .vmem, ⟨63, _⟩ => ⟨S64x1024, .f32⟩
  | .local _ .vmem, ⟨64, _⟩ => ⟨S64x1024, .f32⟩
  | .local _ .vmem, ⟨65, _⟩ => ⟨S64x1024, .f32⟩
  | .local _ .vmem, ⟨66, _⟩ => ⟨S64x1024, .f32⟩
  | .local _ .vmem, ⟨67, _⟩ => ⟨S64x1024, .f32⟩
  | .local _ .vmem, ⟨68, _⟩ => ⟨S1088x1024, .f32⟩
  | .local _ .vmem, ⟨69, _⟩ => ⟨S1088x1024, .f32⟩
  | .local _ .vmem, ⟨70, _⟩ => ⟨S1024x512, .bf16⟩
  | .local _ .vmem, ⟨71, _⟩ => ⟨S1088x512, .f32⟩
  | .local _ .vmem, ⟨72, _⟩ => ⟨S1088x512, .f32⟩
  | .local _ .vmem, ⟨73, _⟩ => ⟨S1088x1024, .f32⟩
  | .local _ .vmem, ⟨74, _⟩ => ⟨S1088x1024, .f32⟩
  | .local _ .vmem, ⟨75, _⟩ => ⟨S1024x512, .bf16⟩
  | .local _ .vmem, ⟨76, _⟩ => ⟨S1088x512, .f32⟩
  | .local _ .vmem, ⟨77, _⟩ => ⟨S1088x512, .f32⟩
  | .local _ .vmem, ⟨78, _⟩ => ⟨S1088x1024, .f32⟩
  | .local _ .vmem, ⟨79, _⟩ => ⟨S1088x1024, .f32⟩
  | .local _ .vmem, ⟨80, _⟩ => ⟨S1024x512, .bf16⟩
  | .local _ .vmem, ⟨81, _⟩ => ⟨S1088x512, .bf16⟩
  | .local _ .vmem, ⟨82, _⟩ => ⟨S1088x512, .bf16⟩
  | _, _ => ⟨S2176x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc3_stg5_0 : Ref sig .tc := ⟨.vmem, 27, rfl⟩
abbrev cc3_stg5_1 : Ref sig .tc := ⟨.vmem, 28, rfl⟩
abbrev cc3_stg6_0 : Ref sig .tc := ⟨.vmem, 29, rfl⟩
abbrev cc3_stg6_1 : Ref sig .tc := ⟨.vmem, 30, rfl⟩
abbrev cc4_stg0_0 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg3_1 : Ref sig .tc := ⟨.vmem, 49, rfl⟩
abbrev cc6_stg4_0 : Ref sig .tc := ⟨.vmem, 50, rfl⟩
abbrev cc6_stg4_1 : Ref sig .tc := ⟨.vmem, 51, rfl⟩
abbrev cc6_stg5_0 : Ref sig .tc := ⟨.vmem, 52, rfl⟩
abbrev cc6_stg5_1 : Ref sig .tc := ⟨.vmem, 53, rfl⟩
abbrev cc6_stg6_0 : Ref sig .tc := ⟨.vmem, 54, rfl⟩
abbrev cc6_stg6_1 : Ref sig .tc := ⟨.vmem, 55, rfl⟩
abbrev cc6_stg7_0 : Ref sig .tc := ⟨.vmem, 56, rfl⟩
abbrev cc6_stg7_1 : Ref sig .tc := ⟨.vmem, 57, rfl⟩
abbrev cc6_stg8_0 : Ref sig .tc := ⟨.vmem, 58, rfl⟩
abbrev cc6_stg8_1 : Ref sig .tc := ⟨.vmem, 59, rfl⟩
abbrev cc6_stg9_0 : Ref sig .tc := ⟨.vmem, 60, rfl⟩
abbrev cc6_stg9_1 : Ref sig .tc := ⟨.vmem, 61, rfl⟩
abbrev cc6_stg10_0 : Ref sig .tc := ⟨.vmem, 62, rfl⟩
abbrev cc6_stg10_1 : Ref sig .tc := ⟨.vmem, 63, rfl⟩
abbrev cc6_stg11_0 : Ref sig .tc := ⟨.vmem, 64, rfl⟩
abbrev cc6_stg11_1 : Ref sig .tc := ⟨.vmem, 65, rfl⟩
abbrev cc6_stg12_0 : Ref sig .tc := ⟨.vmem, 66, rfl⟩
abbrev cc6_stg12_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg2_0 : Ref sig .tc := ⟨.vmem, 71, rfl⟩
abbrev cc7_stg2_1 : Ref sig .tc := ⟨.vmem, 72, rfl⟩
abbrev cc8_stg0_0 : Ref sig .tc := ⟨.vmem, 73, rfl⟩
abbrev cc8_stg0_1 : Ref sig .tc := ⟨.vmem, 74, rfl⟩
abbrev cc8_stg1_0 : Ref sig .tc := ⟨.vmem, 75, rfl⟩
abbrev cc8_stg2_0 : Ref sig .tc := ⟨.vmem, 76, rfl⟩
abbrev cc8_stg2_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg2_0 : Ref sig .tc := ⟨.vmem, 81, rfl⟩
abbrev cc9_stg2_1 : Ref sig .tc := ⟨.vmem, 82, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev cc3_sem5_0 : DmaSem sig := 27
abbrev cc3_sem5_1 : DmaSem sig := 28
abbrev cc3_sem6_0 : DmaSem sig := 29
abbrev cc3_sem6_1 : DmaSem sig := 30
abbrev cc4_sem0_0 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem3_1 : DmaSem sig := 49
abbrev cc6_sem4_0 : DmaSem sig := 50
abbrev cc6_sem4_1 : DmaSem sig := 51
abbrev cc6_sem5_0 : DmaSem sig := 52
abbrev cc6_sem5_1 : DmaSem sig := 53
abbrev cc6_sem6_0 : DmaSem sig := 54
abbrev cc6_sem6_1 : DmaSem sig := 55
abbrev cc6_sem7_0 : DmaSem sig := 56
abbrev cc6_sem7_1 : DmaSem sig := 57
abbrev cc6_sem8_0 : DmaSem sig := 58
abbrev cc6_sem8_1 : DmaSem sig := 59
abbrev cc6_sem9_0 : DmaSem sig := 60
abbrev cc6_sem9_1 : DmaSem sig := 61
abbrev cc6_sem10_0 : DmaSem sig := 62
abbrev cc6_sem10_1 : DmaSem sig := 63
abbrev cc6_sem11_0 : DmaSem sig := 64
abbrev cc6_sem11_1 : DmaSem sig := 65
abbrev cc6_sem12_0 : DmaSem sig := 66
abbrev cc6_sem12_1 : DmaSem sig := 67
abbrev cc7_sem0_0 : DmaSem sig := 68
abbrev cc7_sem0_1 : DmaSem sig := 69
abbrev cc7_sem1_0 : DmaSem sig := 70
abbrev cc7_sem2_0 : DmaSem sig := 71
abbrev cc7_sem2_1 : DmaSem sig := 72
abbrev cc8_sem0_0 : DmaSem sig := 73
abbrev cc8_sem0_1 : DmaSem sig := 74
abbrev cc8_sem1_0 : DmaSem sig := 75
abbrev cc8_sem2_0 : DmaSem sig := 76
abbrev cc8_sem2_1 : DmaSem sig := 77
abbrev cc9_sem0_0 : DmaSem sig := 78
abbrev cc9_sem0_1 : DmaSem sig := 79
abbrev cc9_sem1_0 : DmaSem sig := 80
abbrev cc9_sem2_0 : DmaSem sig := 81
abbrev cc9_sem2_1 : DmaSem sig := 82

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1088x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1088x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2176x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2176x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨1, ![17], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S128x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S128x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S128x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨3, ![1, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2176x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2176x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1088x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S512x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1088x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![34], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_12 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S64x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S64x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S64x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S64x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S64x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S64x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S64x1024 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S64x1024 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S64x1024 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 2 → Memref sig .tc .vmem S64x1024 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S64x1024 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev stage6_11 : Fin 2 → Memref sig .tc .vmem S64x1024 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev stage6_12 : Fin 2 → Memref sig .tc .vmem S64x1024 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

abbrev grid7 : Pipeline.Grid := ⟨3, ![2, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1088x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S1024x512 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1088x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![2, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1088x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 1 → Memref sig .tc .vmem S1024x512 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 2 → Memref sig .tc .vmem S1088x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![2, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1088x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 1 → Memref sig .tc .vmem S1024x512 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 2 → Memref sig .tc .vmem S1088x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]
-- ==== Reference5Ideal.lean ====
abbrev S2176x512 : Shape := ⟨2, ![2176, 512]⟩
abbrev S2176x1024 : Shape := ⟨2, ![2176, 1024]⟩
abbrev S512x1024 : Shape := ⟨2, ![512, 1024]⟩
abbrev S1024x1024 : Shape := ⟨2, ![1024, 1024]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S2176x512, .f32⟩
  | .hbm, ⟨1, _⟩ => ⟨S2176x512, .f32⟩
  | .hbm, ⟨2, _⟩ => ⟨S2176x512, .f32⟩
  | .hbm, ⟨3, _⟩ => ⟨S2176x1024, .f32⟩
  | .hbm, ⟨4, _⟩ => ⟨S2176x1024, .f32⟩
  | .hbm, ⟨5, _⟩ => ⟨S2176x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S2176x1024, .f32⟩
  | .hbm, ⟨11, _⟩ => ⟨S2176x1024, .f32⟩
  | .hbm, ⟨12, _⟩ => ⟨S2176x1024, .f32⟩
  | .hbm, ⟨13, _⟩ => ⟨S2176x1024, .f32⟩
  | .hbm, ⟨14, _⟩ => ⟨S2176x1024, .f32⟩
  | .hbm, ⟨15, _⟩ => ⟨S2176x1024, .f32⟩
  | .hbm, ⟨16, _⟩ => ⟨S_, .f32⟩
  | .hbm, ⟨17, _⟩ => ⟨S2176x1024, .f32⟩
  | .hbm, ⟨18, _⟩ => ⟨S2176x1024, .f32⟩
  | .hbm, ⟨19, _⟩ => ⟨S_, .f32⟩
  | .hbm, ⟨20, _⟩ => ⟨S2176x1024, .f32⟩
  | .hbm, ⟨21, _⟩ => ⟨S2176x1024, .f32⟩
  | .hbm, ⟨22, _⟩ => ⟨S_, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S2176x1024, .f32⟩
  | .hbm, ⟨27, _⟩ => ⟨S2176x1024, .f32⟩
  | .hbm, ⟨28, _⟩ => ⟨S2176x1024, .f32⟩
  | .hbm, ⟨29, _⟩ => ⟨S_, .f32⟩
  | .hbm, ⟨30, _⟩ => ⟨S2176x1024, .f32⟩
  | .hbm, ⟨31, _⟩ => ⟨S2176x1024, .f32⟩
  | .hbm, ⟨32, _⟩ => ⟨S_, .f32⟩
  | .hbm, ⟨33, _⟩ => ⟨S2176x1024, .f32⟩
  | .hbm, ⟨34, _⟩ => ⟨S2176x1024, .f32⟩
  | .hbm, ⟨35, _⟩ => ⟨S_, .f32⟩
  | .hbm, ⟨36, _⟩ => ⟨S2176x1024, .f32⟩
  | .hbm, ⟨37, _⟩ => ⟨S2176x1024, .f32⟩
  | .hbm, ⟨38, _⟩ => ⟨S2176x1024, .f32⟩
  | .hbm, ⟨39, _⟩ => ⟨S2176x1024, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S_, .f32⟩
  | .hbm, ⟨44, _⟩ => ⟨S2176x1024, .f32⟩
  | .hbm, ⟨45, _⟩ => ⟨S2176x1024, .f32⟩
  | .hbm, ⟨46, _⟩ => ⟨S_, .f32⟩
  | .hbm, ⟨47, _⟩ => ⟨S2176x1024, .f32⟩
  | .hbm, ⟨48, _⟩ => ⟨S2176x1024, .f32⟩
  | .hbm, ⟨49, _⟩ => ⟨S_, .f32⟩
  | .hbm, ⟨50, _⟩ => ⟨S2176x1024, .f32⟩
  | .hbm, ⟨51, _⟩ => ⟨S2176x1024, .f32⟩
  | .hbm, ⟨52, _⟩ => ⟨S2176x1024, .f32⟩
  | .hbm, ⟨53, _⟩ => ⟨S2176x1024, .f32⟩
  | .hbm, ⟨54, _⟩ => ⟨S2176x1024, .f32⟩
  | .hbm, ⟨55, _⟩ => ⟨S2176x1024, .f32⟩
  | .hbm, ⟨56, _⟩ => ⟨S2176x1024, .f32⟩
  | .hbm, ⟨57, _⟩ => ⟨S2176x1024, .f32⟩
  | .hbm, ⟨58, _⟩ => ⟨S2176x1024, .f32⟩
  | .hbm, ⟨59, _⟩ => ⟨S2176x1024, .f32⟩
  | .hbm, ⟨60, _⟩ => ⟨S2176x1024, .f32⟩
  | .hbm, ⟨61, _⟩ => ⟨S2176x1024, .f32⟩
  | .hbm, ⟨62, _⟩ => ⟨S2176x1024, .f32⟩
  | .hbm, ⟨63, _⟩ => ⟨S2176x1024, .f32⟩
  | .hbm, ⟨64, _⟩ => ⟨S2176x1024, .f32⟩
  | .hbm, ⟨65, _⟩ => ⟨S2176x1024, .f32⟩
  | .hbm, ⟨66, _⟩ => ⟨S2176x512, .f32⟩
  | .hbm, ⟨67, _⟩ => ⟨S2176x512, .f32⟩
  | .hbm, ⟨68, _⟩ => ⟨S2176x512, .f32⟩
  | _, _ => ⟨S2176x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Kernel6.lean ====
abbrev S2176x1024 : Shape := ⟨2, ![2176, 1024]⟩
abbrev S1024x1024 : Shape := ⟨2, ![1024, 1024]⟩
abbrev S1088x1024 : Shape := ⟨2, ![1088, 1024]⟩
abbrev S1088x512 : Shape := ⟨2, ![1088, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .bf16⟩
  | .hbm, ⟨3, _⟩ => ⟨S1024x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x512, .f32⟩
  | .local _ .vmem, ⟨3, _⟩ => ⟨S1088x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2176x1024 : Shape := ⟨2, ![2176, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S_, .f32⟩
  | .hbm, ⟨3, _⟩ => ⟨S1024x1024, .f32⟩
  | .hbm, ⟨4, _⟩ => ⟨S2176x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2176x512 : Shape := ⟨2, ![2176, 512]⟩
abbrev S2176x1024 : Shape := ⟨2, ![2176, 1024]⟩
abbrev S1024x512 : Shape := ⟨2, ![1024, 512]⟩
abbrev S1088x1024 : Shape := ⟨2, ![1088, 1024]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S2176x512, .f32⟩
  | .hbm, ⟨1, _⟩ => ⟨S2176x1024, .f32⟩
  | .hbm, ⟨2, _⟩ => ⟨S1024x512, .bf16⟩
  | .local _ .vmem, ⟨0, _⟩ => ⟨S1088x1024, .f32⟩
  | .local _ .vmem, ⟨1, _⟩ => ⟨S1088x1024, .f32⟩
  | .local _ .vmem, ⟨2, _⟩ => ⟨S1088x512, .f32⟩
  | .local _ .vmem, ⟨3, _⟩ => ⟨S1088x512, .f32⟩
  | .local _ .vmem, ⟨4, _⟩ => ⟨S1024x512, .bf16⟩
  | .local _ .vmem, ⟨5, _⟩ => ⟨S1024x512, .f32⟩
  | _, _ => ⟨S2176x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S2176x512 : Shape := ⟨2, ![2176, 512]⟩
abbrev S2176x1024 : Shape := ⟨2, ![2176, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S2176x512, .f32⟩
  | .hbm, ⟨1, _⟩ => ⟨S2176x1024, .f32⟩
  | .hbm, ⟨2, _⟩ => ⟨S_, .f32⟩
  | .hbm, ⟨3, _⟩ => ⟨S512x1024, .f32⟩
  | .hbm, ⟨4, _⟩ => ⟨S2176x1024, .f32⟩
  | .hbm, ⟨5, _⟩ => ⟨S1024x512, .f32⟩
  | .hbm, ⟨6, _⟩ => ⟨S512x1024, .f32⟩
  | .hbm, ⟨7, _⟩ => ⟨S1024x512, .f32⟩
  | .hbm, ⟨8, _⟩ => ⟨S1024x512, .bf16⟩
  | _, _ => ⟨S2176x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2176x8x96 : Shape := ⟨3, ![2176, 8, 96]⟩
abbrev S2176x8x64 : Shape := ⟨3, ![2176, 8, 64]⟩
abbrev S_ : Shape := ⟨0, ![]⟩
abbrev S8x2176x32 : Shape := ⟨3, ![8, 2176, 32]⟩
abbrev S8x2176x96 : Shape := ⟨3, ![8, 2176, 96]⟩
abbrev S8x2176x128 : Shape := ⟨3, ![8, 2176, 128]⟩
abbrev S8x2176x64 : Shape := ⟨3, ![8, 2176, 64]⟩
abbrev S8x544x64 : Shape := ⟨3, ![8, 544, 64]⟩
abbrev S1x272x128 : Shape := ⟨3, ![1, 272, 128]⟩
abbrev S1x544x128 : Shape := ⟨3, ![1, 544, 128]⟩
abbrev S1x544x64 : Shape := ⟨3, ![1, 544, 64]⟩
abbrev S1x272x64 : Shape := ⟨3, ![1, 272, 64]⟩
abbrev S272x128 : Shape := ⟨2, ![272, 128]⟩
abbrev S544x128 : Shape := ⟨2, ![544, 128]⟩
abbrev S272x544 : Shape := ⟨2, ![272, 544]⟩
abbrev S272 : Shape := ⟨1, ![272]⟩
abbrev S272x1 : Shape := ⟨2, ![272, 1]⟩
abbrev S544x64 : Shape := ⟨2, ![544, 64]⟩
abbrev S272x64 : Shape := ⟨2, ![272, 64]⟩
abbrev S1x1088x128 : Shape := ⟨3, ![1, 1088, 128]⟩
abbrev S1x1088x64 : Shape := ⟨3, ![1, 1088, 64]⟩
abbrev S1088x128 : Shape := ⟨2, ![1088, 128]⟩
abbrev S272x1088 : Shape := ⟨2, ![272, 1088]⟩
abbrev S1088x64 : Shape := ⟨2, ![1088, 64]⟩
abbrev S1x1632x128 : Shape := ⟨3, ![1, 1632, 128]⟩
abbrev S1x1632x64 : Shape := ⟨3, ![1, 1632, 64]⟩
abbrev S1632x128 : Shape := ⟨2, ![1632, 128]⟩
abbrev S272x1632 : Shape := ⟨2, ![272, 1632]⟩
abbrev S1632x64 : Shape := ⟨2, ![1632, 64]⟩
abbrev S1x2176x128 : Shape := ⟨3, ![1, 2176, 128]⟩
abbrev S1x2176x64 : Shape := ⟨3, ![1, 2176, 64]⟩
abbrev S2176x128 : Shape := ⟨2, ![2176, 128]⟩
abbrev S272x2176 : Shape := ⟨2, ![272, 2176]⟩
abbrev S2176x64 : Shape := ⟨2, ![2176, 64]⟩

abbrev nBuf : Space → Nat
  | .hbm => 19
  | .vmem => 32
  | .smem => 0
  | _ => 0

abbrev bufTy : (tb : Table) → Fin (tcTables nBuf tb) → BufTy
  | .hbm, ⟨0, _⟩ => ⟨S2176x8x96, .f32⟩
  | .hbm, ⟨1, _⟩ => ⟨S2176x8x96, .f32⟩
  | .hbm, ⟨2, _⟩ => ⟨S2176x8x64, .f32⟩
  | .hbm, ⟨3, _⟩ => ⟨S_, .bf16⟩
  | .hbm, ⟨4, _⟩ => ⟨S8x2176x32, .bf16⟩
  | .hbm, ⟨5, _⟩ => ⟨S2176x8x96, .bf16⟩
  | .hbm, ⟨6, _⟩ => ⟨S8x2176x96, .bf16⟩
  | .hbm, ⟨7, _⟩ => ⟨S8x2176x128, .bf16⟩
  | .hbm, ⟨8, _⟩ => ⟨S2176x8x96, .bf16⟩
  | .hbm, ⟨9, _⟩ => ⟨S8x2176x96, .bf16⟩
  | .hbm, ⟨10, _⟩ => ⟨S8x2176x128, .bf16⟩
  | .hbm, ⟨11, _⟩ => ⟨S2176x8x64, .bf16⟩
  | .hbm, ⟨12, _⟩ => ⟨S8x2176x64, .bf16⟩
  | .hbm, ⟨13, _⟩ => ⟨S8x544x64, .f32⟩
  | .hbm, ⟨14, _⟩ => ⟨S8x544x64, .f32⟩
  | .hbm, ⟨15, _⟩ => ⟨S8x544x64, .f32⟩
  | .hbm, ⟨16, _⟩ => ⟨S8x544x64, .f32⟩
  | .hbm, ⟨17, _⟩ => ⟨S8x2176x64, .f32⟩
  | .hbm, ⟨18, _⟩ => ⟨S2176x8x64, .f32⟩
  | .local _ .vmem, ⟨0, _⟩ => ⟨S1x272x128, .bf16⟩
  | .local _ .vmem, ⟨1, _⟩ => ⟨S1x272x128, .bf16⟩
  | .local _ .vmem, ⟨2, _⟩ => ⟨S1x544x128, .bf16⟩
  | .local _ .vmem, ⟨3, _⟩ => ⟨S1x544x128, .bf16⟩
  | .local _ .vmem, ⟨4, _⟩ => ⟨S1x544x64, .bf16⟩
  | .local _ .vmem, ⟨5, _⟩ => ⟨S1x544x64, .bf16⟩
  | .local _ .vmem, ⟨6, _⟩ => ⟨S1x272x64, .f32⟩
  | .local _ .vmem, ⟨7, _⟩ => ⟨S1x272x64, .f32⟩
  | .local _ .vmem, ⟨8, _⟩ => ⟨S1x272x128, .bf16⟩
  | .local _ .vmem, ⟨9, _⟩ => ⟨S1x272x128, .bf16⟩
  | .local _ .vmem, ⟨10, _⟩ => ⟨S1x1088x128, .bf16⟩
  | .local _ .vmem, ⟨11, _⟩ => ⟨S1x1088x128, .bf16⟩
  | .local _ .vmem, ⟨12, _⟩ => ⟨S1x1088x64, .bf16⟩
  | .local _ .vmem, ⟨13, _⟩ => ⟨S1x1088x64, .bf16⟩
  | .local _ .vmem, ⟨14, _⟩ => ⟨S1x272x64, .f32⟩
  | .local _ .vmem, ⟨15, _⟩ => ⟨S1x272x64, .f32⟩
  | .local _ .vmem, ⟨16, _⟩ => ⟨S1x272x128, .bf16⟩
  | .local _ .vmem, ⟨17, _⟩ => ⟨S1x272x128, .bf16⟩
  | .local _ .vmem, ⟨18, _⟩ => ⟨S1x1632x128, .bf16⟩
  | .local _ .vmem, ⟨19, _⟩ => ⟨S1x1632x128, .bf16⟩
  | .local _ .vmem, ⟨20, _⟩ => ⟨S1x1632x64, .bf16⟩
  | .local _ .vmem, ⟨21, _⟩ => ⟨S1x1632x64, .bf16⟩
  | .local _ .vmem, ⟨22, _⟩ => ⟨S1x272x64, .f32⟩
  | .local _ .vmem, ⟨23, _⟩ => ⟨S1x272x64, .f32⟩
  | .local _ .vmem, ⟨24, _⟩ => ⟨S1x272x128, .bf16⟩
  | .local _ .vmem, ⟨25, _⟩ => ⟨S1x272x128, .bf16⟩
  | .local _ .vmem, ⟨26, _⟩ => ⟨S1x2176x128, .bf16⟩
  | .local _ .vmem, ⟨27, _⟩ => ⟨S1x2176x128, .bf16⟩
  | .local _ .vmem, ⟨28, _⟩ => ⟨S1x2176x64, .bf16⟩
  | .local _ .vmem, ⟨29, _⟩ => ⟨S1x2176x64, .bf16⟩
  | .local _ .vmem, ⟨30, _⟩ => ⟨S1x272x64, .f32⟩
  | .local _ .vmem, ⟨31, _⟩ => ⟨S1x272x64, .f32⟩
  | _, _ => ⟨S2176x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x272x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x544x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x272x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x272x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1088x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1088x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x272x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x272x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1632x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1632x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x272x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 2], ![false, false]⟩

def cc3_transform_0 (i : grid3.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, v0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x272x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2176x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x2176x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x272x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== Kernel8Ideal.lean ====
variable {F : FTy → Type} [FloatOps F] [Named F]
def κ : String → Option EReal := fun
  | "mask" => some ⊥
  | _ => none
-- ==== Reference8Ideal.lean ====
abbrev S2176x8x96 : Shape := ⟨3, ![2176, 8, 96]⟩
abbrev S2176x8x64 : Shape := ⟨3, ![2176, 8, 64]⟩
abbrev S8x2176x2176 : Shape := ⟨3, ![8, 2176, 2176]⟩
abbrev S_ : Shape := ⟨0, ![]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S1x2176x2176 : Shape := ⟨3, ![1, 2176, 2176]⟩
abbrev S8x2176 : Shape := ⟨2, ![8, 2176]⟩
abbrev S8x2176x1 : Shape := ⟨3, ![8, 2176, 1]⟩
abbrev S8x64x2176 : Shape := ⟨3, ![8, 64, 2176]⟩

abbrev nBuf : Space → Nat
  | .hbm => 35
  | .vmem => 0
  | .smem => 0
  | _ => 0

abbrev bufTy : (tb : Table) → Fin (tcTables nBuf tb) → BufTy
  | .hbm, ⟨0, _⟩ => ⟨S2176x8x96, .f32⟩
  | .hbm, ⟨1, _⟩ => ⟨S2176x8x96, .f32⟩
  | .hbm, ⟨2, _⟩ => ⟨S2176x8x64, .f32⟩
  | .hbm, ⟨3, _⟩ => ⟨S8x2176x2176, .f32⟩
  | .hbm, ⟨4, _⟩ => ⟨S_, .f32⟩
  | .hbm, ⟨5, _⟩ => ⟨S8x2176x2176, .f32⟩
  | .hbm, ⟨6, _⟩ => ⟨S8x2176x2176, .f32⟩
  | .hbm, ⟨7, _⟩ => ⟨S2176, .i32⟩
  | .hbm, ⟨8, _⟩ => ⟨S1x2176, .i32⟩
  | .hbm, ⟨9, _⟩ => ⟨S2176x1, .i32⟩
  | .hbm, ⟨10, _⟩ => ⟨S2176x2176, .i32⟩
  | .hbm, ⟨11, _⟩ => ⟨S2176x2176, .i32⟩
  | .hbm, ⟨12, _⟩ => ⟨S2176x2176, .i1⟩
  | .hbm, ⟨13, _⟩ => ⟨S1x2176x2176, .i1⟩
  | .hbm, ⟨14, _⟩ => ⟨S_, .f32⟩
  | .hbm, ⟨15, _⟩ => ⟨S_, .f32⟩
  | .hbm, ⟨16, _⟩ => ⟨S8x2176x2176, .i1⟩
  | .hbm, ⟨17, _⟩ => ⟨S8x2176x2176, .f32⟩
  | .hbm, ⟨18, _⟩ => ⟨S8x2176x2176, .f32⟩
  | .hbm, ⟨19, _⟩ => ⟨S_, .f32⟩
  | .hbm, ⟨20, _⟩ => ⟨S8x2176, .f32⟩
  | .hbm, ⟨21, _⟩ => ⟨S_, .f32⟩
  | .hbm, ⟨22, _⟩ => ⟨S8x2176, .f32⟩
  | .hbm, ⟨23, _⟩ => ⟨S8x2176, .f32⟩
  | .hbm, ⟨24, _⟩ => ⟨S8x2176x1, .f32⟩
  | .hbm, ⟨25, _⟩ => ⟨S8x2176x2176, .f32⟩
  | .hbm, ⟨26, _⟩ => ⟨S8x2176x2176, .f32⟩
  | .hbm, ⟨27, _⟩ => ⟨S8x2176x2176, .f32⟩
  | .hbm, ⟨28, _⟩ => ⟨S_, .f32⟩
  | .hbm, ⟨29, _⟩ => ⟨S8x2176, .f32⟩
  | .hbm, ⟨30, _⟩ => ⟨S8x2176x1, .f32⟩
  | .hbm, ⟨31, _⟩ => ⟨S8x2176x2176, .f32⟩
  | .hbm, ⟨32, _⟩ => ⟨S8x2176x2176, .f32⟩
  | .hbm, ⟨33, _⟩ => ⟨S8x64x2176, .f32⟩
  | .hbm, ⟨34, _⟩ => ⟨S2176x8x64, .f32⟩
  | _, _ => ⟨S2176x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel9.lean ====
abbrev S2176x512 : Shape := ⟨2, ![2176, 512]⟩
abbrev S2176x1024 : Shape := ⟨2, ![2176, 1024]⟩
abbrev S1024x512 : Shape := ⟨2, ![1024, 512]⟩
abbrev S1088x1024 : Shape := ⟨2, ![1088, 1024]⟩
abbrev S1088x512 : Shape := ⟨2, ![1088, 512]⟩

abbrev nBuf : Space → Nat
  | .hbm => 4
  | .vmem => 6
  | .smem => 0
  | _ => 0

abbrev bufTy : (tb : Table) → Fin (tcTables nBuf tb) → BufTy
  | .hbm, ⟨0, _⟩ => ⟨S2176x512, .f32⟩
  | .hbm, ⟨1, _⟩ => ⟨S2176x1024, .f32⟩
  | .hbm, ⟨2, _⟩ => ⟨S2176x512, .bf16⟩
  | .hbm, ⟨3, _⟩ => ⟨S1024x512, .bf16⟩
  | .local _ .vmem, ⟨0, _⟩ => ⟨S1088x1024, .f32⟩
  | .local _ .vmem, ⟨1, _⟩ => ⟨S1088x1024, .f32⟩
  | .local _ .vmem, ⟨2, _⟩ => ⟨S1088x512, .bf16⟩
  | .local _ .vmem, ⟨3, _⟩ => ⟨S1088x512, .bf16⟩
  | .local _ .vmem, ⟨4, _⟩ => ⟨S1024x512, .bf16⟩
  | .local _ .vmem, ⟨5, _⟩ => ⟨S1024x512, .f32⟩
  | _, _ => ⟨S2176x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel10.lean ====
abbrev S2176x384 : Shape := ⟨2, ![2176, 384]⟩
abbrev S2176x256 : Shape := ⟨2, ![2176, 256]⟩
abbrev S2176x512 : Shape := ⟨2, ![2176, 512]⟩
abbrev S384x768 : Shape := ⟨2, ![384, 768]⟩
abbrev S256x1024 : Shape := ⟨2, ![256, 1024]⟩
abbrev S512x512 : Shape := ⟨2, ![512, 512]⟩
abbrev S2176x768 : Shape := ⟨2, ![2176, 768]⟩
abbrev S2176x1024 : Shape := ⟨2, ![2176, 1024]⟩
abbrev S768x384 : Shape := ⟨2, ![768, 384]⟩
abbrev S1024x256 : Shape := ⟨2, ![1024, 256]⟩
abbrev S384x384 : Shape := ⟨2, ![384, 384]⟩
abbrev S512x256 : Shape := ⟨2, ![512, 256]⟩
abbrev S1088x512 : Shape := ⟨2, ![1088, 512]⟩
abbrev S1088x768 : Shape := ⟨2, ![1088, 768]⟩
abbrev S1088x384 : Shape := ⟨2, ![1088, 384]⟩
abbrev S1088x1024 : Shape := ⟨2, ![1088, 1024]⟩
abbrev S1088x256 : Shape := ⟨2, ![1088, 256]⟩

abbrev nBuf : Space → Nat
  | .hbm => 24
  | .vmem => 30
  | .smem => 0
  | _ => 0

abbrev bufTy : (tb : Table) → Fin (tcTables nBuf tb) → BufTy
  | .hbm, ⟨0, _⟩ => ⟨S2176x384, .f32⟩
  | .hbm, ⟨1, _⟩ => ⟨S2176x256, .f32⟩
  | .hbm, ⟨2, _⟩ => ⟨S2176x512, .f32⟩
  | .hbm, ⟨3, _⟩ => ⟨S384x768, .f32⟩
  | .hbm, ⟨4, _⟩ => ⟨S256x1024, .f32⟩
  | .hbm, ⟨5, _⟩ => ⟨S512x512, .f32⟩
  | .hbm, ⟨6, _⟩ => ⟨S2176x768, .f32⟩
  | .hbm, ⟨7, _⟩ => ⟨S2176x1024, .f32⟩
  | .hbm, ⟨8, _⟩ => ⟨S2176x512, .f32⟩
  | .hbm, ⟨9, _⟩ => ⟨S2176x384, .bf16⟩
  | .hbm, ⟨10, _⟩ => ⟨S2176x256, .bf16⟩
  | .hbm, ⟨11, _⟩ => ⟨S768x384, .f32⟩
  | .hbm, ⟨12, _⟩ => ⟨S768x384, .bf16⟩
  | .hbm, ⟨13, _⟩ => ⟨S1024x256, .f32⟩
  | .hbm, ⟨14, _⟩ => ⟨S1024x256, .bf16⟩
  | .hbm, ⟨15, _⟩ => ⟨S512x512, .bf16⟩
  | .hbm, ⟨16, _⟩ => ⟨S2176x768, .f32⟩
  | .hbm, ⟨17, _⟩ => ⟨S2176x1024, .f32⟩
  | .hbm, ⟨18, _⟩ => ⟨S2176x512, .f32⟩
  | .hbm, ⟨19, _⟩ => ⟨S2176x384, .bf16⟩
  | .hbm, ⟨20, _⟩ => ⟨S2176x256, .bf16⟩
  | .hbm, ⟨21, _⟩ => ⟨S2176x512, .f32⟩
  | .hbm, ⟨22, _⟩ => ⟨S2176x384, .f32⟩
  | .hbm, ⟨23, _⟩ => ⟨S2176x256, .f32⟩
  | .local _ .vmem, ⟨0, _⟩ => ⟨S2176x384, .bf16⟩
  | .local _ .vmem, ⟨1, _⟩ => ⟨S384x384, .bf16⟩
  | .local _ .vmem, ⟨2, _⟩ => ⟨S384x384, .bf16⟩
  | .local _ .vmem, ⟨3, _⟩ => ⟨S2176x384, .f32⟩
  | .local _ .vmem, ⟨4, _⟩ => ⟨S2176x384, .f32⟩
  | .local _ .vmem, ⟨5, _⟩ => ⟨S2176x256, .bf16⟩
  | .local _ .vmem, ⟨6, _⟩ => ⟨S512x256, .bf16⟩
  | .local _ .vmem, ⟨7, _⟩ => ⟨S512x256, .bf16⟩
  | .local _ .vmem, ⟨8, _⟩ => ⟨S2176x512, .f32⟩
  | .local _ .vmem, ⟨9, _⟩ => ⟨S2176x512, .f32⟩
  | .local _ .vmem, ⟨10, _⟩ => ⟨S1088x512, .f32⟩
  | .local _ .vmem, ⟨11, _⟩ => ⟨S1088x512, .f32⟩
  | .local _ .vmem, ⟨12, _⟩ => ⟨S512x512, .bf16⟩
  | .local _ .vmem, ⟨13, _⟩ => ⟨S1088x512, .f32⟩
  | .local _ .vmem, ⟨14, _⟩ => ⟨S1088x512, .f32⟩
  | .local _ .vmem, ⟨15, _⟩ => ⟨S1088x768, .f32⟩
  | .local _ .vmem, ⟨16, _⟩ => ⟨S1088x768, .f32⟩
  | .local _ .vmem, ⟨17, _⟩ => ⟨S768x384, .bf16⟩
  | .local _ .vmem, ⟨18, _⟩ => ⟨S1088x384, .bf16⟩
  | .local _ .vmem, ⟨19, _⟩ => ⟨S1088x384, .bf16⟩
  | .local _ .vmem, ⟨20, _⟩ => ⟨S1088x1024, .f32⟩
  | .local _ .vmem, ⟨21, _⟩ => ⟨S1088x1024, .f32⟩
  | .local _ .vmem, ⟨22, _⟩ => ⟨S1024x256, .bf16⟩
  | .local _ .vmem, ⟨23, _⟩ => ⟨S1088x256, .bf16⟩
  | .local _ .vmem, ⟨24, _⟩ => ⟨S1088x256, .bf16⟩
  | .local _ .vmem, ⟨25, _⟩ => ⟨S1088x512, .f32⟩
  | .local _ .vmem, ⟨26, _⟩ => ⟨S1088x512, .f32⟩
  | .local _ .vmem, ⟨27, _⟩ => ⟨S512x512, .bf16⟩
  | .local _ .vmem, ⟨28, _⟩ => ⟨S1088x512, .f32⟩
  | .local _ .vmem, ⟨29, _⟩ => ⟨S1088x512, .f32⟩
  | _, _ => ⟨S2176x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S384x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2176x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2176x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1088x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1088x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1088x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S768x384 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1088x384 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1088x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1088x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1088x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S512x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1088x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference10Ideal.lean ====
abbrev S2176x384 : Shape := ⟨2, ![2176, 384]⟩
abbrev S2176x256 : Shape := ⟨2, ![2176, 256]⟩
abbrev S2176x512 : Shape := ⟨2, ![2176, 512]⟩
abbrev S384x768 : Shape := ⟨2, ![384, 768]⟩
abbrev S256x1024 : Shape := ⟨2, ![256, 1024]⟩
abbrev S512x512 : Shape := ⟨2, ![512, 512]⟩
abbrev S2176x768 : Shape := ⟨2, ![2176, 768]⟩
abbrev S2176x1024 : Shape := ⟨2, ![2176, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2176x384, .f32⟩
  | .hbm, ⟨1, _⟩ => ⟨S2176x256, .f32⟩
  | .hbm, ⟨2, _⟩ => ⟨S2176x512, .f32⟩
  | .hbm, ⟨3, _⟩ => ⟨S384x768, .f32⟩
  | .hbm, ⟨4, _⟩ => ⟨S256x1024, .f32⟩
  | .hbm, ⟨5, _⟩ => ⟨S512x512, .f32⟩
  | .hbm, ⟨6, _⟩ => ⟨S2176x768, .f32⟩
  | .hbm, ⟨7, _⟩ => ⟨S2176x1024, .f32⟩
  | .hbm, ⟨8, _⟩ => ⟨S2176x512, .f32⟩
  | .hbm, ⟨9, _⟩ => ⟨S2176x768, .f32⟩
  | .hbm, ⟨10, _⟩ => ⟨S2176x1024, .f32⟩
  | .hbm, ⟨11, _⟩ => ⟨S2176x512, .f32⟩
  | .hbm, ⟨12, _⟩ => ⟨S2176x512, .f32⟩
  | .hbm, ⟨13, _⟩ => ⟨S2176x256, .f32⟩
  | .hbm, ⟨14, _⟩ => ⟨S2176x384, .f32⟩
  | _, _ => ⟨S2176x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel11.lean ====
abbrev S2176x384 : Shape := ⟨2, ![2176, 384]⟩
abbrev S2176x768 : Shape := ⟨2, ![2176, 768]⟩
abbrev S768x384 : Shape := ⟨2, ![768, 384]⟩
abbrev S1088x768 : Shape := ⟨2, ![1088, 768]⟩
abbrev S1088x384 : Shape := ⟨2, ![1088, 384]⟩

abbrev nBuf : Space → Nat
  | .hbm => 4
  | .vmem => 6
  | .smem => 0
  | _ => 0

abbrev bufTy : (tb : Table) → Fin (tcTables nBuf tb) → BufTy
  | .hbm, ⟨0, _⟩ => ⟨S2176x384, .f32⟩
  | .hbm, ⟨1, _⟩ => ⟨S2176x768, .f32⟩
  | .hbm, ⟨2, _⟩ => ⟨S2176x384, .bf16⟩
  | .hbm, ⟨3, _⟩ => ⟨S768x384, .bf16⟩
  | .local _ .vmem, ⟨0, _⟩ => ⟨S1088x768, .f32⟩
  | .local _ .vmem, ⟨1, _⟩ => ⟨S1088x768, .f32⟩
  | .local _ .vmem, ⟨2, _⟩ => ⟨S1088x384, .bf16⟩
  | .local _ .vmem, ⟨3, _⟩ => ⟨S1088x384, .bf16⟩
  | .local _ .vmem, ⟨4, _⟩ => ⟨S768x384, .bf16⟩
  | .local _ .vmem, ⟨5, _⟩ => ⟨S768x384, .f32⟩
  | _, _ => ⟨S2176x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S2176x384 : Shape := ⟨2, ![2176, 384]⟩
abbrev S2176x768 : Shape := ⟨2, ![2176, 768]⟩
abbrev S_ : Shape := ⟨0, ![]⟩
abbrev S384x768 : Shape := ⟨2, ![384, 768]⟩
abbrev S768x384 : Shape := ⟨2, ![768, 384]⟩

abbrev nBuf : Space → Nat
  | .hbm => 9
  | .vmem => 0
  | .smem => 0
  | _ => 0

abbrev bufTy : (tb : Table) → Fin (tcTables nBuf tb) → BufTy
  | .hbm, ⟨0, _⟩ => ⟨S2176x384, .f32⟩
  | .hbm, ⟨1, _⟩ => ⟨S2176x768, .f32⟩
  | .hbm, ⟨2, _⟩ => ⟨S_, .f32⟩
  | .hbm, ⟨3, _⟩ => ⟨S384x768, .f32⟩
  | .hbm, ⟨4, _⟩ => ⟨S2176x768, .f32⟩
  | .hbm, ⟨5, _⟩ => ⟨S768x384, .f32⟩
  | .hbm, ⟨6, _⟩ => ⟨S384x768, .f32⟩
  | .hbm, ⟨7, _⟩ => ⟨S768x384, .f32⟩
  | .hbm, ⟨8, _⟩ => ⟨S768x384, .bf16⟩
  | _, _ => ⟨S2176x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S2176x256 : Shape := ⟨2, ![2176, 256]⟩
abbrev S2176x1024 : Shape := ⟨2, ![2176, 1024]⟩
abbrev S1024x256 : Shape := ⟨2, ![1024, 256]⟩
abbrev S1088x1024 : Shape := ⟨2, ![1088, 1024]⟩
abbrev S1088x256 : Shape := ⟨2, ![1088, 256]⟩

abbrev nBuf : Space → Nat
  | .hbm => 4
  | .vmem => 6
  | .smem => 0
  | _ => 0

abbrev bufTy : (tb : Table) → Fin (tcTables nBuf tb) → BufTy
  | .hbm, ⟨0, _⟩ => ⟨S2176x256, .f32⟩
  | .hbm, ⟨1, _⟩ => ⟨S2176x1024, .f32⟩
  | .hbm, ⟨2, _⟩ => ⟨S2176x256, .bf16⟩
  | .hbm, ⟨3, _⟩ => ⟨S1024x256, .bf16⟩
  | .local _ .vmem, ⟨0, _⟩ => ⟨S1088x1024, .f32⟩
  | .local _ .vmem, ⟨1, _⟩ => ⟨S1088x1024, .f32⟩
  | .local _ .vmem, ⟨2, _⟩ => ⟨S1088x256, .bf16⟩
  | .local _ .vmem, ⟨3, _⟩ => ⟨S1088x256, .bf16⟩
  | .local _ .vmem, ⟨4, _⟩ => ⟨S1024x256, .bf16⟩
  | .local _ .vmem, ⟨5, _⟩ => ⟨S1024x256, .f32⟩
  | _, _ => ⟨S2176x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S2176x256 : Shape := ⟨2, ![2176, 256]⟩
abbrev S2176x1024 : Shape := ⟨2, ![2176, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S2176x256, .f32⟩
  | .hbm, ⟨1, _⟩ => ⟨S2176x1024, .f32⟩
  | .hbm, ⟨2, _⟩ => ⟨S_, .f32⟩
  | .hbm, ⟨3, _⟩ => ⟨S256x1024, .f32⟩
  | .hbm, ⟨4, _⟩ => ⟨S2176x1024, .f32⟩
  | .hbm, ⟨5, _⟩ => ⟨S1024x256, .f32⟩
  | .hbm, ⟨6, _⟩ => ⟨S256x1024, .f32⟩
  | .hbm, ⟨7, _⟩ => ⟨S1024x256, .f32⟩
  | .hbm, ⟨8, _⟩ => ⟨S1024x256, .bf16⟩
  | _, _ => ⟨S2176x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2176x512 : Shape := ⟨2, ![2176, 512]⟩
abbrev S512x512 : Shape := ⟨2, ![512, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S2176x512, .f32⟩
  | .hbm, ⟨1, _⟩ => ⟨S2176x512, .f32⟩
  | .hbm, ⟨2, _⟩ => ⟨S512x512, .bf16⟩
  | .local _ .vmem, ⟨0, _⟩ => ⟨S1088x512, .f32⟩
  | .local _ .vmem, ⟨1, _⟩ => ⟨S1088x512, .f32⟩
  | .local _ .vmem, ⟨2, _⟩ => ⟨S1088x512, .f32⟩
  | .local _ .vmem, ⟨3, _⟩ => ⟨S1088x512, .f32⟩
  | .local _ .vmem, ⟨4, _⟩ => ⟨S512x512, .bf16⟩
  | .local _ .vmem, ⟨5, _⟩ => ⟨S512x512, .f32⟩
  | _, _ => ⟨S2176x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S2176x512 : Shape := ⟨2, ![2176, 512]⟩
abbrev S_ : Shape := ⟨0, ![]⟩
abbrev S512x512 : Shape := ⟨2, ![512, 512]⟩

abbrev nBuf : Space → Nat
  | .hbm => 8
  | .vmem => 0
  | .smem => 0
  | _ => 0

abbrev bufTy : (tb : Table) → Fin (tcTables nBuf tb) → BufTy
  | .hbm, ⟨0, _⟩ => ⟨S2176x512, .f32⟩
  | .hbm, ⟨1, _⟩ => ⟨S2176x512, .f32⟩
  | .hbm, ⟨2, _⟩ => ⟨S_, .f32⟩
  | .hbm, ⟨3, _⟩ => ⟨S512x512, .f32⟩
  | .hbm, ⟨4, _⟩ => ⟨S2176x512, .f32⟩
  | .hbm, ⟨5, _⟩ => ⟨S512x512, .f32⟩
  | .hbm, ⟨6, _⟩ => ⟨S512x512, .f32⟩
  | .hbm, ⟨7, _⟩ => ⟨S512x512, .bf16⟩
  | _, _ => ⟨S2176x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Region0.lean ====
/- Region 0 of the program: segment 3 of the attention's backward pass. What its body computes at a grid point, the
   body's specification, and the proof data of its pipeline, at any contents of the buffers when the region is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameSuffix
public import Idealize.ShloMosaic.Lib.Pipeline.TableIdle
public import Idealize.ShloMosaic.Lib.Pipeline.ValueKit
public import Idealize.ShloMosaic.Lib.Ring
public import Idealize.ShloMosaic.Lib.WordCmp

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body computes from the blocks it reads -/

/-- The gradient of the block of queries. -/
def dqOut0 (i : grid0.Coords) (x0 : Vec F S1x272x128 .bf16) (x1 : Vec F S1x2176x128 .bf16) (x2 : Vec F S1x2176x64 .bf16) (x3 : Vec F S1x272x64 .f32) : Vec F S1x272x128 .f32 :=
  k0_pay2 (k0_pay10 x1) (k0_pay12 i x0 x1) (k0_pay13 x2 x3) (k0_pay14 i x0 x1 x2 x3)
/-- The keys' gradient so far, `acc`, and this block of queries' part of it. -/
def dkAdd0 (i : grid0.Coords) (x0 : Vec F S1x272x128 .bf16) (x1 : Vec F S1x2176x128 .bf16) (x2 : Vec F S1x2176x64 .bf16) (x3 : Vec F S1x272x64 .f32) (acc : Vec F S1x2176x128 .f32) : Vec F S1x2176x128 .f32 :=
  k0_pay5 (k0_pay9 x0) (k0_pay12 i x0 x1) (k0_pay13 x2 x3) (k0_pay14 i x0 x1 x2 x3) acc
/-- The values' gradient so far, `acc`, and this block of queries' part of it. -/
def dvAdd0 (i : grid0.Coords) (x0 : Vec F S1x272x128 .bf16) (x1 : Vec F S1x2176x128 .bf16) (x3 : Vec F S1x272x64 .f32) (acc : Vec F S1x2176x64 .f32) : Vec F S1x2176x64 .f32 :=
  k0_pay6 (k0_pay11 x3) (k0_pay12 i x0 x1) acc

private theorem zeros : (![0, 0, 0] : Fin 3 → ℕ) = fun _ => 0 := by funext a; fin_cases a <;> rfl

/-- A load of a whole buffer through the rectangle at offset zero gives what the buffer holds. -/
private theorem load_whole {S : Shape} {e : EltTy} (m : Memref sig .tc .vmem S e) (h : m.IsWhole) (x : Vec F S e) {off : Fin S.rank → ℕ}
    (ho : off = fun _ => 0) (inb : ∀ a, off a + S.size a ≤ S.size a) :
    m.view.readAt (Elt F) (Rect.unit off S.size inb).toLoadRect (h.unread x) = x := by
  rw [View.readAt_eq_ld, Memref.IsWhole.read_unread]; exact View.ld_unit_zero ho inb x

set_option maxHeartbeats 2000000 in
/-- At the first block of queries of a head the keys' and values' gradients start from what was handed in. -/
theorem sound0_A (c : Dev nD) (i : grid0.Coords) (arg2 : Memref sig .tc .vmem S1x272x128 .bf16) (harg2 : arg2.IsWhole) (arg3 : Memref sig .tc .vmem S1x2176x128 .bf16) (harg3 : arg3.IsWhole) (arg4 : Memref sig .tc .vmem S1x2176x64 .bf16) (harg4 : arg4.IsWhole) (arg5 : Memref sig .tc .vmem S1x272x64 .f32) (harg5 : arg5.IsWhole) (arg6 : Memref sig .tc .vmem S1x2176x128 .f32) (harg6 : arg6.IsWhole) (arg7 : Memref sig .tc .vmem S1x2176x64 .f32) (harg7 : arg7.IsWhole) (arg8 : Memref sig .tc .vmem S1x272x128 .f32) (harg8 : arg8.IsWhole) (arg9 : Memref sig .tc .vmem S1x2176x128 .f32) (harg9 : arg9.IsWhole) (arg10 : Memref sig .tc .vmem S1x2176x64 .f32) (harg10 : arg10.IsWhole) (hc0 : k0_cond1 i = 1#1) (hc1 : ¬k0_cond2 i = 1#1)
    (x0 : Vec F S1x272x128 .bf16) (x1 : Vec F S1x2176x128 .bf16) (x2 : Vec F S1x2176x64 .bf16) (x3 : Vec F S1x272x64 .f32) (x4 : Vec F S1x2176x128 .f32) (x5 : Vec F S1x2176x64 .f32) (E : Set ℕ) (Q : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ (∃ d, owns c.tc arg9 fullShare d) ∗ (∃ d, owns c.tc arg10 fullShare d)
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare (dqOut0 i x0 x1 x2 x3) ∗ owns c.tc arg9 fullShare (dkAdd0 i x0 x1 x2 x3 x4) ∗ owns c.tc arg10 fullShare (dvAdd0 i x0 x1 x3 x5)) -∗ Q ⟨⟩))
      ⊢ wp frame (wpE (defs₀ (F := F)) Variants.none c none) E (cc0_attn_bwd_seg3 i arg2 harg2 arg3 harg3 arg4 harg4 arg5 harg5 arg6 harg6 arg7 harg7 arg8 harg8 arg9 harg9 arg10 harg10) Q := by
  simp only [cc0_attn_bwd_seg3_eq_skeleton]; unfold cc0_attn_bwd_seg3_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_eq_canon _ _ _ (View.cover_of_tiled _ S1x272x128.size (by rfl))).trans ?_
    rw [View.canon_unit_zero zeros]
    delta sound0_A.sl.r_1 sound0_A.sl.r_3 sound0_A.sl.r_4 sound0_A.sl.r_5
    iterate 8 (try rw [load_whole _ _ _ zeros])
    rfl
  isplitl [H7]
  · iexists _; isplitr
    swap; · iexact H7
    ipureintro
    refine (View.read_writes_eq_canon _ _ _ (View.cover_of_tiled _ S1x2176x128.size (by rfl))).trans ?_
    rw [View.canon_unit_zero zeros]
    delta sound0_A.sl.r sound0_A.sl.r_3 sound0_A.sl.r_4 sound0_A.sl.r_5
    iterate 8 (try rw [load_whole _ _ _ zeros])
    rfl
  iexists _; isplitr
  swap; · iexact H8
  ipureintro
  refine (View.read_writes_eq_canon _ _ _ (View.cover_of_tiled _ S1x2176x64.size (by rfl))).trans ?_
  rw [View.canon_unit_zero zeros]
  delta sound0_A.sl.r_2 sound0_A.sl.r_3
  iterate 8 (try rw [load_whole _ _ _ zeros])
  rfl

set_option maxHeartbeats 2000000 in
/-- At a later block of queries the part is added to what the block before left. -/
theorem sound0_B (c : Dev nD) (i : grid0.Coords) (arg2 : Memref sig .tc .vmem S1x272x128 .bf16) (harg2 : arg2.IsWhole) (arg3 : Memref sig .tc .vmem S1x2176x128 .bf16) (harg3 : arg3.IsWhole) (arg4 : Memref sig .tc .vmem S1x2176x64 .bf16) (harg4 : arg4.IsWhole) (arg5 : Memref sig .tc .vmem S1x272x64 .f32) (harg5 : arg5.IsWhole) (arg6 : Memref sig .tc .vmem S1x2176x128 .f32) (harg6 : arg6.IsWhole) (arg7 : Memref sig .tc .vmem S1x2176x64 .f32) (harg7 : arg7.IsWhole) (arg8 : Memref sig .tc .vmem S1x272x128 .f32) (harg8 : arg8.IsWhole) (arg9 : Memref sig .tc .vmem S1x2176x128 .f32) (harg9 : arg9.IsWhole) (arg10 : Memref sig .tc .vmem S1x2176x64 .f32) (harg10 : arg10.IsWhole) (hc0 : ¬k0_cond1 i = 1#1) (hc1 : k0_cond2 i = 1#1)
    (x0 : Vec F S1x272x128 .bf16) (x1 : Vec F S1x2176x128 .bf16) (x2 : Vec F S1x2176x64 .bf16) (x3 : Vec F S1x272x64 .f32) (x4 : Vec F S1x2176x128 .f32) (x5 : Vec F S1x2176x64 .f32) (y7 : Vec F S1x2176x128 .f32) (y8 : Vec F S1x2176x64 .f32) (E : Set ℕ) (Q : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ owns c.tc arg9 fullShare y7 ∗ owns c.tc arg10 fullShare y8
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare (dqOut0 i x0 x1 x2 x3) ∗ owns c.tc arg9 fullShare (dkAdd0 i x0 x1 x2 x3 y7) ∗ owns c.tc arg10 fullShare (dvAdd0 i x0 x1 x3 y8)) -∗ Q ⟨⟩))
      ⊢ wp frame (wpE (defs₀ (F := F)) Variants.none c none) E (cc0_attn_bwd_seg3 i arg2 harg2 arg3 harg3 arg4 harg4 arg5 harg5 arg6 harg6 arg7 harg7 arg8 harg8 arg9 harg9 arg10 harg10) Q := by
  simp only [cc0_attn_bwd_seg3_eq_skeleton]; unfold cc0_attn_bwd_seg3_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_eq_canon _ _ _ (View.cover_of_tiled _ S1x272x128.size (by rfl))).trans ?_
    rw [View.canon_unit_zero zeros]
    delta sound0_B.sl.r_1 sound0_B.sl.r_3 sound0_B.sl.r_4 sound0_B.sl.r_5
    iterate 8 (try rw [load_whole _ _ _ zeros])
    rfl
  isplitl [H7]
  · iexists _; isplitr
    swap; · iexact H7
    ipureintro
    refine (View.read_writes_eq_canon _ _ _ (View.cover_of_tiled _ S1x2176x128.size (by rfl))).trans ?_
    rw [View.canon_unit_zero zeros]
    delta sound0_B.sl.r sound0_B.sl.r_3 sound0_B.sl.r_4 sound0_B.sl.r_5
    iterate 8 (try rw [load_whole _ _ _ zeros])
    rfl
  iexists _; isplitr
  swap; · iexact H8
  ipureintro
  refine (View.read_writes_eq_canon _ _ _ (View.cover_of_tiled _ S1x2176x64.size (by rfl))).trans ?_
  rw [View.canon_unit_zero zeros]
  delta sound0_B.sl.r_2 sound0_B.sl.r_3
  iterate 8 (try rw [load_whole _ _ _ zeros])
  rfl

section Regions
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

variable (c : Dev nD) (t : Fin cfg0.N)

/-- No point's block of window 7 is cut short by the array's edge. -/
theorem xsize0_7 : ∀ (t : Fin cfg0.N) (a), (cfg0.win 7).xsize (cfg0.grid.coords t) a = (cfg0.win 7).size a :=
  (by decide +kernel : ∀ (t : Fin grid0.N) (a), win0_7.xsize (grid0.coords t) a = win0_7.size a)
theorem moved0_7 (j) : (cfg0.win 7).moved (cfg0.grid.coords t) j = true :=
  ((cfg0.win 7).moved_iff _ j).mpr fun a => by rw [xsize0_7 t a]; exact (j a).isLt
/-- No point's block of window 8 is cut short by the array's edge. -/
theorem xsize0_8 : ∀ (t : Fin cfg0.N) (a), (cfg0.win 8).xsize (cfg0.grid.coords t) a = (cfg0.win 8).size a :=
  (by decide +kernel : ∀ (t : Fin grid0.N) (a), win0_8.xsize (grid0.coords t) a = win0_8.size a)
theorem moved0_8 (j) : (cfg0.win 8).moved (cfg0.grid.coords t) j = true :=
  ((cfg0.win 8).moved_iff _ j).mpr fun a => by rw [xsize0_8 t a]; exact (j a).isLt

theorem cond0_1 : ∀ t : Fin cfg0.N, k0_cond1 (grid0.coords t) = 1#1 ↔ t.val % 2 = 0 :=
  (by decide +kernel : ∀ t : Fin grid0.N, k0_cond1 (grid0.coords t) = 1#1 ↔ t.val % 2 = 0)
theorem cond0_2 : ∀ t : Fin cfg0.N, k0_cond2 (grid0.coords t) = 1#1 ↔ t.val % 2 = 1 :=
  (by decide +kernel : ∀ t : Fin grid0.N, k0_cond2 (grid0.coords t) = 1#1 ↔ t.val % 2 = 1)

/-- The point before `t` (the first block of queries of the head when `t` is at the second). -/
def prev0 : Fin cfg0.N := ⟨t.val - 1, Nat.lt_of_le_of_lt (Nat.sub_le _ _) t.isLt⟩

/-! ## What the buffers of the outputs hold after the body -/

def dqAt0 : Vec F S1x272x128 .f32 := dqOut0 (grid0.coords t) (iblk0 V c 0 t) (iblk0 V c 1 t) (iblk0 V c 2 t) (iblk0 V c 3 t)
/-- The keys' gradient after the first block of queries, -/
def dkA0 : Vec F S1x2176x128 .f32 := dkAdd0 (grid0.coords t) (iblk0 V c 0 t) (iblk0 V c 1 t) (iblk0 V c 2 t) (iblk0 V c 3 t) (iblk0 V c 4 t)
/-- and at any point. -/
def dkAt0 : Vec F S1x2176x128 .f32 :=
  if t.val % 2 = 0 then dkA0 V c t else dkAdd0 (grid0.coords t) (iblk0 V c 0 t) (iblk0 V c 1 t) (iblk0 V c 2 t) (iblk0 V c 3 t) (dkA0 V c (prev0 t))
/-- The values' gradient after the first block of queries, -/
def dvA0 : Vec F S1x2176x64 .f32 := dvAdd0 (grid0.coords t) (iblk0 V c 0 t) (iblk0 V c 1 t) (iblk0 V c 3 t) (iblk0 V c 5 t)
/-- and at any point. -/
def dvAt0 : Vec F S1x2176x64 .f32 :=
  if t.val % 2 = 0 then dvA0 V c t else dvAdd0 (grid0.coords t) (iblk0 V c 0 t) (iblk0 V c 1 t) (iblk0 V c 3 t) (dvA0 V c (prev0 t))

/-- The pipeline's proof data: the arrays as the region finds them, and what each buffer holds after the body at a point. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => dqAt0 V c t
    | ⟨7, _⟩ => dkAt0 V c t
    | ⟨8, _⟩ => dvAt0 V c t
  Φ _ := Pipeline.ΦA spec0 c
  q _ := fullShare
  owed _ := 0

theorem A_eq0 (w : Fin cfg0.W) : (dat0 V c).A w = V c (Pipeline.arrRef spec0 w) := by
  dsimp only [dat0]
theorem after0_0 : (dat0 V c).after 0 t = iblk0 V c 0 t := rfl
theorem after0_1 : (dat0 V c).after 1 t = iblk0 V c 1 t := rfl
theorem after0_2 : (dat0 V c).after 2 t = iblk0 V c 2 t := rfl
theorem after0_3 : (dat0 V c).after 3 t = iblk0 V c 3 t := rfl
theorem after0_4 : (dat0 V c).after 4 t = iblk0 V c 4 t := rfl
theorem after0_5 : (dat0 V c).after 5 t = iblk0 V c 5 t := rfl
theorem after0_6 : (dat0 V c).after 6 t = dqAt0 V c t := rfl
theorem after0_7 : (dat0 V c).after 7 t = dkAt0 V c t := rfl
theorem after0_8 : (dat0 V c).after 8 t = dvAt0 V c t := rfl

theorem before0_0 (d) : (dat0 V c).before 0 t d = iblk0 V c 0 t :=
  ((dat0 V c).before_in_eq_fetched 0 rfl (fun _ => rfl) (fun _ _ _ => rfl) (fun _ => rfl) t d).trans rfl
theorem before0_1 (d) : (dat0 V c).before 1 t d = iblk0 V c 1 t :=
  ((dat0 V c).before_in_eq_fetched 1 rfl (fun _ => rfl) (fun _ _ _ => rfl) (fun _ => rfl) t d).trans rfl
theorem before0_2 (d) : (dat0 V c).before 2 t d = iblk0 V c 2 t :=
  ((dat0 V c).before_in_eq_fetched 2 rfl (fun _ => rfl) (fun _ _ _ => rfl) (fun _ => rfl) t d).trans rfl
theorem before0_3 (d) : (dat0 V c).before 3 t d = iblk0 V c 3 t :=
  ((dat0 V c).before_in_eq_fetched 3 rfl (fun _ => rfl) (fun _ _ _ => rfl) (fun _ => rfl) t d).trans rfl
theorem before0_4 (d) : (dat0 V c).before 4 t d = iblk0 V c 4 t :=
  ((dat0 V c).before_in_eq_fetched 4 rfl (fun _ => rfl) (fun _ _ _ => rfl) (fun _ => rfl) t d).trans rfl
theorem before0_5 (d) : (dat0 V c).before 5 t d = iblk0 V c 5 t :=
  ((dat0 V c).before_in_eq_fetched 5 rfl (fun _ => rfl) (fun _ _ _ => rfl) (fun _ => rfl) t d).trans rfl
theorem live0_0 : cfg0.idle 0 (grid0.coords t) = false := rfl
theorem live0_1 : cfg0.idle 1 (grid0.coords t) = false := rfl
theorem live0_2 : cfg0.idle 2 (grid0.coords t) = false := rfl
theorem live0_3 : cfg0.idle 3 (grid0.coords t) = false := rfl
theorem live0_4 : cfg0.idle 4 (grid0.coords t) = false := rfl
theorem live0_5 : cfg0.idle 5 (grid0.coords t) = false := rfl
theorem live0_6 : cfg0.idle 6 (grid0.coords t) = false := rfl
theorem live0_7 : ∀ t : Fin cfg0.N, cfg0.idle 7 (grid0.coords t) = false :=
  (by decide +kernel : ∀ t : Fin grid0.N, cfg0.idle 7 (grid0.coords t) = false)
theorem live0_8 : ∀ t : Fin cfg0.N, cfg0.idle 8 (grid0.coords t) = false :=
  (by decide +kernel : ∀ t : Fin grid0.N, cfg0.idle 8 (grid0.coords t) = false)
/-- At the second block of queries the buffer holds what the first left. -/
theorem before0_7 (h : t.val % 2 = 1) (d) : (dat0 V c).before 7 t d = dkA0 V c (prev0 t) := by
  have hp : (prev0 t).val % 2 = 0 := by show (t.val - 1) % 2 = 0; omega
  rw [Dat.before_of_pos _ 7 t (by omega) ((cfg0.win 7).fetch_out rfl _) d,
    if_neg (fun hf => by have := (flush0_7 (prev0 t)).mp hf; omega)]
  show (dat0 V c).left 7 (prev0 t) d = _
  unfold Dat.left
  rw [show cfg0.idle 7 (cfg0.grid.coords (prev0 t)) = false from live0_7 (prev0 t)]
  show (dat0 V c).kept 7 (prev0 t) d = _
  unfold Dat.kept
  rw [after0_7]
  unfold dkAt0
  rw [if_pos hp]
  funext j
  unfold Pipeline.Window.fill
  rw [dif_pos (moved0_7 (prev0 t) j)]

/-- At the second block of queries the buffer holds what the first left. -/
theorem before0_8 (h : t.val % 2 = 1) (d) : (dat0 V c).before 8 t d = dvA0 V c (prev0 t) := by
  have hp : (prev0 t).val % 2 = 0 := by show (t.val - 1) % 2 = 0; omega
  rw [Dat.before_of_pos _ 8 t (by omega) ((cfg0.win 8).fetch_out rfl _) d,
    if_neg (fun hf => by have := (flush0_8 (prev0 t)).mp hf; omega)]
  show (dat0 V c).left 8 (prev0 t) d = _
  unfold Dat.left
  rw [show cfg0.idle 8 (cfg0.grid.coords (prev0 t)) = false from live0_8 (prev0 t)]
  show (dat0 V c).kept 8 (prev0 t) d = _
  unfold Dat.kept
  rw [after0_8]
  unfold dvAt0
  rw [if_pos hp]
  funext j
  unfold Pipeline.Window.fill
  rw [dif_pos (moved0_8 (prev0 t) j)]

/-! ## The body obligation -/

def bodyPre0 : sProp 𝕄 :=
  iprop((dat0 V c).Φ t.castSucc ∗ (dat0 V c).owesAt () t.castSucc
    ∗ (∃ d, owns c.tc (st0_0 t) fullShare ((dat0 V c).before 0 t d))
    ∗ (∃ d, owns c.tc (st0_1 t) fullShare ((dat0 V c).before 1 t d))
    ∗ (∃ d, owns c.tc (st0_2 t) fullShare ((dat0 V c).before 2 t d))
    ∗ (∃ d, owns c.tc (st0_3 t) fullShare ((dat0 V c).before 3 t d))
    ∗ (∃ d, owns c.tc (st0_4 t) fullShare ((dat0 V c).before 4 t d))
    ∗ (∃ d, owns c.tc (st0_5 t) fullShare ((dat0 V c).before 5 t d))
    ∗ (∃ d, owns c.tc (st0_6 t) fullShare ((dat0 V c).before 6 t d))
    ∗ (∃ d, owns c.tc (st0_7 t) fullShare ((dat0 V c).before 7 t d))
    ∗ (∃ d, owns c.tc (st0_8 t) fullShare ((dat0 V c).before 8 t d)))
def bodyPost0 : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

theorem leaves0_0 : (dat0 V c).leavesExact 0 t = owns c.tc (st0_0 t) fullShare (iblk0 V c 0 t) := rfl
theorem leaves0_1 : (dat0 V c).leavesExact 1 t = owns c.tc (st0_1 t) fullShare (iblk0 V c 1 t) := rfl
theorem leaves0_2 : (dat0 V c).leavesExact 2 t = owns c.tc (st0_2 t) fullShare (iblk0 V c 2 t) := rfl
theorem leaves0_3 : (dat0 V c).leavesExact 3 t = owns c.tc (st0_3 t) fullShare (iblk0 V c 3 t) := rfl
theorem leaves0_4 : (dat0 V c).leavesExact 4 t = owns c.tc (st0_4 t) fullShare (iblk0 V c 4 t) := rfl
theorem leaves0_5 : (dat0 V c).leavesExact 5 t = owns c.tc (st0_5 t) fullShare (iblk0 V c 5 t) := rfl
theorem leaves0_6 : (dat0 V c).leavesExact 6 t = owns c.tc (st0_6 t) fullShare (dqAt0 V c t) := rfl
theorem leaves0_7 : (dat0 V c).leavesExact 7 t = owns c.tc (st0_7 t) fullShare (dkAt0 V c t) := by
  unfold Dat.leavesExact; rw [live0_7 t, after0_7]
theorem leaves0_8 : (dat0 V c).leavesExact 8 t = owns c.tc (st0_8 t) fullShare (dvAt0 V c t) := by
  unfold Dat.leavesExact; rw [live0_8 t, after0_8]

set_option maxHeartbeats 1600000 in
theorem sound_body0 :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    leaves0_0, leaves0_1, leaves0_2, leaves0_3, leaves0_4, leaves0_5, leaves0_6, leaves0_7, leaves0_8]
  unfold dqAt0 dkAt0 dvAt0
  by_cases h : t.val % 2 = 0
  · rw [if_pos h, if_pos h]
    unfold dkA0 dvA0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound0_A c (grid0.coords t) _ _ _ _ _ _ _ _ _ _ _ _ _ _ _ _ _ _ ((cond0_1 t).mpr h) (fun h' => by have := (cond0_2 t).mp h'; omega) (iblk0 V c 0 t) (iblk0 V c 1 t) (iblk0 V c 2 t) (iblk0 V c 3 t) (iblk0 V c 4 t) (iblk0 V c 5 t) Set.univ _)
    iframe H0 H1 H2 H3 H4 H5
    isplitl [H6]; · iexists _; iexact H6
    isplitl [H7]; · iexists _; iexact H7
    isplitl [H8]; · iexists _; iexact H8
    iintro ⟨H0, H1, H2, H3, H4, H5, H6, H7, H8⟩
    iframe
  · rw [if_neg h, if_neg h]
    have h1 : t.val % 2 = 1 := by omega
    simp only [before0_7 V c t h1, before0_8 V c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound0_B c (grid0.coords t) _ _ _ _ _ _ _ _ _ _ _ _ _ _ _ _ _ _ (fun h' => h ((cond0_1 t).mp h')) ((cond0_2 t).mpr h1) (iblk0 V c 0 t) (iblk0 V c 1 t) (iblk0 V c 2 t) (iblk0 V c 3 t) (iblk0 V c 4 t) (iblk0 V c 5 t) (dkA0 V c (prev0 t)) (dvA0 V c (prev0 t)) Set.univ _)
    iframe H0 H1 H2 H3 H4 H5
    isplitl [H6]; · iexists _; iexact H6
    isplitl [H7]; · iexact H7
    isplitl [H8]; · iexact H8
    iintro ⟨H0, H1, H2, H3, H4, H5, H6, H7, H8⟩
    iframe

theorem defs₀_row0 :
    defs₀ (F := F) .tc cfg0.body (cfg0.bodyArgs t (cfg0.slots t)) = bodyAt0 t := by
  unfold defs₀; rw [Defs.onTc_tc]

/-- The body meets the pipeline's obligation at every point. -/
theorem body_obligation0 : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Att

end
-- ==== Proof.Region1.lean ====
/- Region 1 of the program: segment 2 of the attention's backward pass. What its body computes at a grid point, the
   body's specification, and the proof data of its pipeline, at any contents of the buffers when the region is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameSuffix
public import Idealize.ShloMosaic.Lib.Pipeline.TableIdle
public import Idealize.ShloMosaic.Lib.Pipeline.ValueKit
public import Idealize.ShloMosaic.Lib.Ring
public import Idealize.ShloMosaic.Lib.WordCmp

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body computes from the blocks it reads -/

/-- The gradient of the block of queries. -/
def dqOut1 (i : grid1.Coords) (x0 : Vec F S1x272x128 .bf16) (x1 : Vec F S1x1632x128 .bf16) (x2 : Vec F S1x1632x64 .bf16) (x3 : Vec F S1x272x64 .f32) : Vec F S1x272x128 .f32 :=
  k1_pay2 (k1_pay10 x1) (k1_pay12 i x0 x1) (k1_pay13 x2 x3) (k1_pay14 i x0 x1 x2 x3)
/-- The keys' gradient so far, `acc`, and this block of queries' part of it. -/
def dkAdd1 (i : grid1.Coords) (x0 : Vec F S1x272x128 .bf16) (x1 : Vec F S1x1632x128 .bf16) (x2 : Vec F S1x1632x64 .bf16) (x3 : Vec F S1x272x64 .f32) (acc : Vec F S1x1632x128 .f32) : Vec F S1x1632x128 .f32 :=
  k1_pay5 (k1_pay9 x0) (k1_pay12 i x0 x1) (k1_pay13 x2 x3) (k1_pay14 i x0 x1 x2 x3) acc
/-- The values' gradient so far, `acc`, and this block of queries' part of it. -/
def dvAdd1 (i : grid1.Coords) (x0 : Vec F S1x272x128 .bf16) (x1 : Vec F S1x1632x128 .bf16) (x3 : Vec F S1x272x64 .f32) (acc : Vec F S1x1632x64 .f32) : Vec F S1x1632x64 .f32 :=
  k1_pay6 (k1_pay11 x3) (k1_pay12 i x0 x1) acc

private theorem zeros : (![0, 0, 0] : Fin 3 → ℕ) = fun _ => 0 := by funext a; fin_cases a <;> rfl

/-- A load of a whole buffer through the rectangle at offset zero gives what the buffer holds. -/
private theorem load_whole {S : Shape} {e : EltTy} (m : Memref sig .tc .vmem S e) (h : m.IsWhole) (x : Vec F S e) {off : Fin S.rank → ℕ}
    (ho : off = fun _ => 0) (inb : ∀ a, off a + S.size a ≤ S.size a) :
    m.view.readAt (Elt F) (Rect.unit off S.size inb).toLoadRect (h.unread x) = x := by
  rw [View.readAt_eq_ld, Memref.IsWhole.read_unread]; exact View.ld_unit_zero ho inb x

set_option maxHeartbeats 2000000 in
/-- At the first block of queries of a head the keys' and values' gradients start from what was handed in. -/
theorem sound1_A (c : Dev nD) (i : grid1.Coords) (arg2 : Memref sig .tc .vmem S1x272x128 .bf16) (harg2 : arg2.IsWhole) (arg3 : Memref sig .tc .vmem S1x1632x128 .bf16) (harg3 : arg3.IsWhole) (arg4 : Memref sig .tc .vmem S1x1632x64 .bf16) (harg4 : arg4.IsWhole) (arg5 : Memref sig .tc .vmem S1x272x64 .f32) (harg5 : arg5.IsWhole) (arg6 : Memref sig .tc .vmem S1x1632x128 .f32) (harg6 : arg6.IsWhole) (arg7 : Memref sig .tc .vmem S1x1632x64 .f32) (harg7 : arg7.IsWhole) (arg8 : Memref sig .tc .vmem S1x272x128 .f32) (harg8 : arg8.IsWhole) (arg9 : Memref sig .tc .vmem S1x1632x128 .f32) (harg9 : arg9.IsWhole) (arg10 : Memref sig .tc .vmem S1x1632x64 .f32) (harg10 : arg10.IsWhole) (hc0 : k1_cond1 i = 1#1) (hc1 : ¬k1_cond2 i = 1#1)
    (x0 : Vec F S1x272x128 .bf16) (x1 : Vec F S1x1632x128 .bf16) (x2 : Vec F S1x1632x64 .bf16) (x3 : Vec F S1x272x64 .f32) (x4 : Vec F S1x1632x128 .f32) (x5 : Vec F S1x1632x64 .f32) (E : Set ℕ) (Q : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ (∃ d, owns c.tc arg9 fullShare d) ∗ (∃ d, owns c.tc arg10 fullShare d)
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare (dqOut1 i x0 x1 x2 x3) ∗ owns c.tc arg9 fullShare (dkAdd1 i x0 x1 x2 x3 x4) ∗ owns c.tc arg10 fullShare (dvAdd1 i x0 x1 x3 x5)) -∗ Q ⟨⟩))
      ⊢ wp frame (wpE (defs₀ (F := F)) Variants.none c none) E (cc1_attn_bwd_seg2 i arg2 harg2 arg3 harg3 arg4 harg4 arg5 harg5 arg6 harg6 arg7 harg7 arg8 harg8 arg9 harg9 arg10 harg10) Q := by
  simp only [cc1_attn_bwd_seg2_eq_skeleton]; unfold cc1_attn_bwd_seg2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_eq_canon _ _ _ (View.cover_of_tiled _ S1x272x128.size (by rfl))).trans ?_
    rw [View.canon_unit_zero zeros]
    delta sound1_A.sl.r_1 sound1_A.sl.r_3 sound1_A.sl.r_4 sound1_A.sl.r_5
    iterate 8 (try rw [load_whole _ _ _ zeros])
    rfl
  isplitl [H7]
  · iexists _; isplitr
    swap; · iexact H7
    ipureintro
    refine (View.read_writes_eq_canon _ _ _ (View.cover_of_tiled _ S1x1632x128.size (by rfl))).trans ?_
    rw [View.canon_unit_zero zeros]
    delta sound1_A.sl.r sound1_A.sl.r_3 sound1_A.sl.r_4 sound1_A.sl.r_5
    iterate 8 (try rw [load_whole _ _ _ zeros])
    rfl
  iexists _; isplitr
  swap; · iexact H8
  ipureintro
  refine (View.read_writes_eq_canon _ _ _ (View.cover_of_tiled _ S1x1632x64.size (by rfl))).trans ?_
  rw [View.canon_unit_zero zeros]
  delta sound1_A.sl.r_2 sound1_A.sl.r_3
  iterate 8 (try rw [load_whole _ _ _ zeros])
  rfl

set_option maxHeartbeats 2000000 in
/-- At a later block of queries the part is added to what the block before left. -/
theorem sound1_B (c : Dev nD) (i : grid1.Coords) (arg2 : Memref sig .tc .vmem S1x272x128 .bf16) (harg2 : arg2.IsWhole) (arg3 : Memref sig .tc .vmem S1x1632x128 .bf16) (harg3 : arg3.IsWhole) (arg4 : Memref sig .tc .vmem S1x1632x64 .bf16) (harg4 : arg4.IsWhole) (arg5 : Memref sig .tc .vmem S1x272x64 .f32) (harg5 : arg5.IsWhole) (arg6 : Memref sig .tc .vmem S1x1632x128 .f32) (harg6 : arg6.IsWhole) (arg7 : Memref sig .tc .vmem S1x1632x64 .f32) (harg7 : arg7.IsWhole) (arg8 : Memref sig .tc .vmem S1x272x128 .f32) (harg8 : arg8.IsWhole) (arg9 : Memref sig .tc .vmem S1x1632x128 .f32) (harg9 : arg9.IsWhole) (arg10 : Memref sig .tc .vmem S1x1632x64 .f32) (harg10 : arg10.IsWhole) (hc0 : ¬k1_cond1 i = 1#1) (hc1 : k1_cond2 i = 1#1)
    (x0 : Vec F S1x272x128 .bf16) (x1 : Vec F S1x1632x128 .bf16) (x2 : Vec F S1x1632x64 .bf16) (x3 : Vec F S1x272x64 .f32) (x4 : Vec F S1x1632x128 .f32) (x5 : Vec F S1x1632x64 .f32) (y7 : Vec F S1x1632x128 .f32) (y8 : Vec F S1x1632x64 .f32) (E : Set ℕ) (Q : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ owns c.tc arg9 fullShare y7 ∗ owns c.tc arg10 fullShare y8
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare (dqOut1 i x0 x1 x2 x3) ∗ owns c.tc arg9 fullShare (dkAdd1 i x0 x1 x2 x3 y7) ∗ owns c.tc arg10 fullShare (dvAdd1 i x0 x1 x3 y8)) -∗ Q ⟨⟩))
      ⊢ wp frame (wpE (defs₀ (F := F)) Variants.none c none) E (cc1_attn_bwd_seg2 i arg2 harg2 arg3 harg3 arg4 harg4 arg5 harg5 arg6 harg6 arg7 harg7 arg8 harg8 arg9 harg9 arg10 harg10) Q := by
  simp only [cc1_attn_bwd_seg2_eq_skeleton]; unfold cc1_attn_bwd_seg2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_eq_canon _ _ _ (View.cover_of_tiled _ S1x272x128.size (by rfl))).trans ?_
    rw [View.canon_unit_zero zeros]
    delta sound1_B.sl.r_1 sound1_B.sl.r_3 sound1_B.sl.r_4 sound1_B.sl.r_5
    iterate 8 (try rw [load_whole _ _ _ zeros])
    rfl
  isplitl [H7]
  · iexists _; isplitr
    swap; · iexact H7
    ipureintro
    refine (View.read_writes_eq_canon _ _ _ (View.cover_of_tiled _ S1x1632x128.size (by rfl))).trans ?_
    rw [View.canon_unit_zero zeros]
    delta sound1_B.sl.r sound1_B.sl.r_3 sound1_B.sl.r_4 sound1_B.sl.r_5
    iterate 8 (try rw [load_whole _ _ _ zeros])
    rfl
  iexists _; isplitr
  swap; · iexact H8
  ipureintro
  refine (View.read_writes_eq_canon _ _ _ (View.cover_of_tiled _ S1x1632x64.size (by rfl))).trans ?_
  rw [View.canon_unit_zero zeros]
  delta sound1_B.sl.r_2 sound1_B.sl.r_3
  iterate 8 (try rw [load_whole _ _ _ zeros])
  rfl

section Regions
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

variable (c : Dev nD) (t : Fin cfg1.N)

/-- No point's block of window 1 is cut short by the array's edge. -/
theorem xsize1_1 : ∀ (t : Fin cfg1.N) (a), (cfg1.win 1).xsize (cfg1.grid.coords t) a = (cfg1.win 1).size a :=
  (by decide +kernel : ∀ (t : Fin grid1.N) (a), win1_1.xsize (grid1.coords t) a = win1_1.size a)
theorem moved1_1 (j) : (cfg1.win 1).moved (cfg1.grid.coords t) j = true :=
  ((cfg1.win 1).moved_iff _ j).mpr fun a => by rw [xsize1_1 t a]; exact (j a).isLt
/-- No point's block of window 2 is cut short by the array's edge. -/
theorem xsize1_2 : ∀ (t : Fin cfg1.N) (a), (cfg1.win 2).xsize (cfg1.grid.coords t) a = (cfg1.win 2).size a :=
  (by decide +kernel : ∀ (t : Fin grid1.N) (a), win1_2.xsize (grid1.coords t) a = win1_2.size a)
theorem moved1_2 (j) : (cfg1.win 2).moved (cfg1.grid.coords t) j = true :=
  ((cfg1.win 2).moved_iff _ j).mpr fun a => by rw [xsize1_2 t a]; exact (j a).isLt
/-- No point's block of window 4 is cut short by the array's edge. -/
theorem xsize1_4 : ∀ (t : Fin cfg1.N) (a), (cfg1.win 4).xsize (cfg1.grid.coords t) a = (cfg1.win 4).size a :=
  (by decide +kernel : ∀ (t : Fin grid1.N) (a), win1_4.xsize (grid1.coords t) a = win1_4.size a)
theorem moved1_4 (j) : (cfg1.win 4).moved (cfg1.grid.coords t) j = true :=
  ((cfg1.win 4).moved_iff _ j).mpr fun a => by rw [xsize1_4 t a]; exact (j a).isLt
/-- No point's block of window 5 is cut short by the array's edge. -/
theorem xsize1_5 : ∀ (t : Fin cfg1.N) (a), (cfg1.win 5).xsize (cfg1.grid.coords t) a = (cfg1.win 5).size a :=
  (by decide +kernel : ∀ (t : Fin grid1.N) (a), win1_5.xsize (grid1.coords t) a = win1_5.size a)
theorem moved1_5 (j) : (cfg1.win 5).moved (cfg1.grid.coords t) j = true :=
  ((cfg1.win 5).moved_iff _ j).mpr fun a => by rw [xsize1_5 t a]; exact (j a).isLt
/-- No point's block of window 7 is cut short by the array's edge. -/
theorem xsize1_7 : ∀ (t : Fin cfg1.N) (a), (cfg1.win 7).xsize (cfg1.grid.coords t) a = (cfg1.win 7).size a :=
  (by decide +kernel : ∀ (t : Fin grid1.N) (a), win1_7.xsize (grid1.coords t) a = win1_7.size a)
theorem moved1_7 (j) : (cfg1.win 7).moved (cfg1.grid.coords t) j = true :=
  ((cfg1.win 7).moved_iff _ j).mpr fun a => by rw [xsize1_7 t a]; exact (j a).isLt
/-- No point's block of window 8 is cut short by the array's edge. -/
theorem xsize1_8 : ∀ (t : Fin cfg1.N) (a), (cfg1.win 8).xsize (cfg1.grid.coords t) a = (cfg1.win 8).size a :=
  (by decide +kernel : ∀ (t : Fin grid1.N) (a), win1_8.xsize (grid1.coords t) a = win1_8.size a)
theorem moved1_8 (j) : (cfg1.win 8).moved (cfg1.grid.coords t) j = true :=
  ((cfg1.win 8).moved_iff _ j).mpr fun a => by rw [xsize1_8 t a]; exact (j a).isLt
def dflt1_1 : (cfg1.win 1).block.Idx → Elt F (cfg1.win 1).elt := fun _ => Classical.choice inferInstance
/-- What the buffer of window 1 holds once its block is fetched. -/
def full1_1 : (cfg1.win 1).block.Idx → Elt F (cfg1.win 1).elt :=
  (cfg1.win 1).fill (cfg1.grid.coords t) dflt1_1 (iblk1 V c 1 t)
theorem fill1_1 (t : Fin cfg1.N) (d d' : (cfg1.win 1).block.Idx → Elt F (cfg1.win 1).elt) (g) :
    (cfg1.win 1).fill (cfg1.grid.coords t) d g = (cfg1.win 1).fill (cfg1.grid.coords t) d' g := by
  funext j; unfold Pipeline.Window.fill; rw [dif_pos (moved1_1 t j), dif_pos (moved1_1 t j)]
def dflt1_2 : (cfg1.win 2).block.Idx → Elt F (cfg1.win 2).elt := fun _ => Classical.choice inferInstance
/-- What the buffer of window 2 holds once its block is fetched. -/
def full1_2 : (cfg1.win 2).block.Idx → Elt F (cfg1.win 2).elt :=
  (cfg1.win 2).fill (cfg1.grid.coords t) dflt1_2 (iblk1 V c 2 t)
theorem fill1_2 (t : Fin cfg1.N) (d d' : (cfg1.win 2).block.Idx → Elt F (cfg1.win 2).elt) (g) :
    (cfg1.win 2).fill (cfg1.grid.coords t) d g = (cfg1.win 2).fill (cfg1.grid.coords t) d' g := by
  funext j; unfold Pipeline.Window.fill; rw [dif_pos (moved1_2 t j), dif_pos (moved1_2 t j)]
def dflt1_4 : (cfg1.win 4).block.Idx → Elt F (cfg1.win 4).elt := fun _ => Classical.choice inferInstance
/-- What the buffer of window 4 holds once its block is fetched. -/
def full1_4 : (cfg1.win 4).block.Idx → Elt F (cfg1.win 4).elt :=
  (cfg1.win 4).fill (cfg1.grid.coords t) dflt1_4 (iblk1 V c 4 t)
theorem fill1_4 (t : Fin cfg1.N) (d d' : (cfg1.win 4).block.Idx → Elt F (cfg1.win 4).elt) (g) :
    (cfg1.win 4).fill (cfg1.grid.coords t) d g = (cfg1.win 4).fill (cfg1.grid.coords t) d' g := by
  funext j; unfold Pipeline.Window.fill; rw [dif_pos (moved1_4 t j), dif_pos (moved1_4 t j)]
def dflt1_5 : (cfg1.win 5).block.Idx → Elt F (cfg1.win 5).elt := fun _ => Classical.choice inferInstance
/-- What the buffer of window 5 holds once its block is fetched. -/
def full1_5 : (cfg1.win 5).block.Idx → Elt F (cfg1.win 5).elt :=
  (cfg1.win 5).fill (cfg1.grid.coords t) dflt1_5 (iblk1 V c 5 t)
theorem fill1_5 (t : Fin cfg1.N) (d d' : (cfg1.win 5).block.Idx → Elt F (cfg1.win 5).elt) (g) :
    (cfg1.win 5).fill (cfg1.grid.coords t) d g = (cfg1.win 5).fill (cfg1.grid.coords t) d' g := by
  funext j; unfold Pipeline.Window.fill; rw [dif_pos (moved1_5 t j), dif_pos (moved1_5 t j)]

theorem cond1_1 : ∀ t : Fin cfg1.N, k1_cond1 (grid1.coords t) = 1#1 ↔ t.val % 2 = 0 :=
  (by decide +kernel : ∀ t : Fin grid1.N, k1_cond1 (grid1.coords t) = 1#1 ↔ t.val % 2 = 0)
theorem cond1_2 : ∀ t : Fin cfg1.N, k1_cond2 (grid1.coords t) = 1#1 ↔ t.val % 2 = 1 :=
  (by decide +kernel : ∀ t : Fin grid1.N, k1_cond2 (grid1.coords t) = 1#1 ↔ t.val % 2 = 1)

/-- The point before `t` (the first block of queries of the head when `t` is at the second). -/
def prev1 : Fin cfg1.N := ⟨t.val - 1, Nat.lt_of_le_of_lt (Nat.sub_le _ _) t.isLt⟩

/-! ## What the buffers of the outputs hold after the body -/

def dqAt1 : Vec F S1x272x128 .f32 := dqOut1 (grid1.coords t) (iblk1 V c 0 t) (full1_1 V c t) (full1_2 V c t) (iblk1 V c 3 t)
/-- The keys' gradient after the first block of queries, -/
def dkA1 : Vec F S1x1632x128 .f32 := dkAdd1 (grid1.coords t) (iblk1 V c 0 t) (full1_1 V c t) (full1_2 V c t) (iblk1 V c 3 t) (full1_4 V c t)
/-- and at any point. -/
def dkAt1 : Vec F S1x1632x128 .f32 :=
  if t.val % 2 = 0 then dkA1 V c t else dkAdd1 (grid1.coords t) (iblk1 V c 0 t) (full1_1 V c t) (full1_2 V c t) (iblk1 V c 3 t) (dkA1 V c (prev1 t))
/-- The values' gradient after the first block of queries, -/
def dvA1 : Vec F S1x1632x64 .f32 := dvAdd1 (grid1.coords t) (iblk1 V c 0 t) (full1_1 V c t) (iblk1 V c 3 t) (full1_5 V c t)
/-- and at any point. -/
def dvAt1 : Vec F S1x1632x64 .f32 :=
  if t.val % 2 = 0 then dvA1 V c t else dvAdd1 (grid1.coords t) (iblk1 V c 0 t) (full1_1 V c t) (iblk1 V c 3 t) (dvA1 V c (prev1 t))

/-- The pipeline's proof data: the arrays as the region finds them, and what each buffer holds after the body at a point. -/
def dat1 : Dat τ (Elt F) Unit ℕ (UR sig nD τ) ℕ cfg1 c where
  A w := V c (Pipeline.arrRef spec1 w)
  after w t := match w with
    | ⟨0, _⟩ => iblk1 V c 0 t
    | ⟨1, _⟩ => full1_1 V c t
    | ⟨2, _⟩ => full1_2 V c t
    | ⟨3, _⟩ => iblk1 V c 3 t
    | ⟨4, _⟩ => full1_4 V c t
    | ⟨5, _⟩ => full1_5 V c t
    | ⟨6, _⟩ => dqAt1 V c t
    | ⟨7, _⟩ => dkAt1 V c t
    | ⟨8, _⟩ => dvAt1 V c t
  Φ _ := Pipeline.ΦA spec1 c
  q _ := fullShare
  owed _ := 0

theorem A_eq1 (w : Fin cfg1.W) : (dat1 V c).A w = V c (Pipeline.arrRef spec1 w) := by
  dsimp only [dat1]
theorem after1_0 : (dat1 V c).after 0 t = iblk1 V c 0 t := rfl
theorem after1_1 : (dat1 V c).after 1 t = full1_1 V c t := rfl
theorem after1_2 : (dat1 V c).after 2 t = full1_2 V c t := rfl
theorem after1_3 : (dat1 V c).after 3 t = iblk1 V c 3 t := rfl
theorem after1_4 : (dat1 V c).after 4 t = full1_4 V c t := rfl
theorem after1_5 : (dat1 V c).after 5 t = full1_5 V c t := rfl
theorem after1_6 : (dat1 V c).after 6 t = dqAt1 V c t := rfl
theorem after1_7 : (dat1 V c).after 7 t = dkAt1 V c t := rfl
theorem after1_8 : (dat1 V c).after 8 t = dvAt1 V c t := rfl

theorem before1_0 (d) : (dat1 V c).before 0 t d = iblk1 V c 0 t :=
  ((dat1 V c).before_in_eq_fetched 0 rfl (fun _ => rfl) (fun _ _ _ => rfl) (fun _ => rfl) t d).trans rfl
theorem before1_1 (d) : (dat1 V c).before 1 t d = full1_1 V c t :=
  ((dat1 V c).before_in_eq_fetched 1 rfl (fun _ => rfl)
    (fun t t' h => funext fun a => congrArg (fun n => Pipeline.Clip.of n ((cfg1.win 1).size a) (S8x2176x128.size a)) (congrFun h a))
    (fun t => by rw [after1_1]; unfold full1_1; rw [Pipeline.Window.cut_fill]; unfold Dat.blockOf iblk1; rw [A_eq1]; try rfl) t d).trans
    (by unfold Dat.fetched full1_1; rw [fill1_1 t d dflt1_1]; unfold Dat.blockOf iblk1; rw [A_eq1]; try rfl)
theorem before1_2 (d) : (dat1 V c).before 2 t d = full1_2 V c t :=
  ((dat1 V c).before_in_eq_fetched 2 rfl (fun _ => rfl)
    (fun t t' h => funext fun a => congrArg (fun n => Pipeline.Clip.of n ((cfg1.win 2).size a) (S8x2176x64.size a)) (congrFun h a))
    (fun t => by rw [after1_2]; unfold full1_2; rw [Pipeline.Window.cut_fill]; unfold Dat.blockOf iblk1; rw [A_eq1]; try rfl) t d).trans
    (by unfold Dat.fetched full1_2; rw [fill1_2 t d dflt1_2]; unfold Dat.blockOf iblk1; rw [A_eq1]; try rfl)
theorem before1_3 (d) : (dat1 V c).before 3 t d = iblk1 V c 3 t :=
  ((dat1 V c).before_in_eq_fetched 3 rfl (fun _ => rfl) (fun _ _ _ => rfl) (fun _ => rfl) t d).trans rfl
theorem before1_4 (d) : (dat1 V c).before 4 t d = full1_4 V c t :=
  ((dat1 V c).before_in_eq_fetched 4 rfl (fun _ => rfl)
    (fun t t' h => funext fun a => congrArg (fun n => Pipeline.Clip.of n ((cfg1.win 4).size a) (S8x2176x128.size a)) (congrFun h a))
    (fun t => by rw [after1_4]; unfold full1_4; rw [Pipeline.Window.cut_fill]; unfold Dat.blockOf iblk1; rw [A_eq1]; try rfl) t d).trans
    (by unfold Dat.fetched full1_4; rw [fill1_4 t d dflt1_4]; unfold Dat.blockOf iblk1; rw [A_eq1]; try rfl)
theorem before1_5 (d) : (dat1 V c).before 5 t d = full1_5 V c t :=
  ((dat1 V c).before_in_eq_fetched 5 rfl (fun _ => rfl)
    (fun t t' h => funext fun a => congrArg (fun n => Pipeline.Clip.of n ((cfg1.win 5).size a) (S8x2176x64.size a)) (congrFun h a))
    (fun t => by rw [after1_5]; unfold full1_5; rw [Pipeline.Window.cut_fill]; unfold Dat.blockOf iblk1; rw [A_eq1]; try rfl) t d).trans
    (by unfold Dat.fetched full1_5; rw [fill1_5 t d dflt1_5]; unfold Dat.blockOf iblk1; rw [A_eq1]; try rfl)
theorem live1_0 : cfg1.idle 0 (grid1.coords t) = false := rfl
theorem live1_1 : cfg1.idle 1 (grid1.coords t) = false := rfl
theorem live1_2 : cfg1.idle 2 (grid1.coords t) = false := rfl
theorem live1_3 : cfg1.idle 3 (grid1.coords t) = false := rfl
theorem live1_4 : cfg1.idle 4 (grid1.coords t) = false := rfl
theorem live1_5 : cfg1.idle 5 (grid1.coords t) = false := rfl
theorem live1_6 : cfg1.idle 6 (grid1.coords t) = false := rfl
theorem live1_7 : ∀ t : Fin cfg1.N, cfg1.idle 7 (grid1.coords t) = false :=
  (by decide +kernel : ∀ t : Fin grid1.N, cfg1.idle 7 (grid1.coords t) = false)
theorem live1_8 : ∀ t : Fin cfg1.N, cfg1.idle 8 (grid1.coords t) = false :=
  (by decide +kernel : ∀ t : Fin grid1.N, cfg1.idle 8 (grid1.coords t) = false)
/-- At the second block of queries the buffer holds what the first left. -/
theorem before1_7 (h : t.val % 2 = 1) (d) : (dat1 V c).before 7 t d = dkA1 V c (prev1 t) := by
  have hp : (prev1 t).val % 2 = 0 := by show (t.val - 1) % 2 = 0; omega
  rw [Dat.before_of_pos _ 7 t (by omega) ((cfg1.win 7).fetch_out rfl _) d,
    if_neg (fun hf => by have := (flush1_7 (prev1 t)).mp hf; omega)]
  show (dat1 V c).left 7 (prev1 t) d = _
  unfold Dat.left
  rw [show cfg1.idle 7 (cfg1.grid.coords (prev1 t)) = false from live1_7 (prev1 t)]
  show (dat1 V c).kept 7 (prev1 t) d = _
  unfold Dat.kept
  rw [after1_7]
  unfold dkAt1
  rw [if_pos hp]
  funext j
  unfold Pipeline.Window.fill
  rw [dif_pos (moved1_7 (prev1 t) j)]

/-- At the second block of queries the buffer holds what the first left. -/
theorem before1_8 (h : t.val % 2 = 1) (d) : (dat1 V c).before 8 t d = dvA1 V c (prev1 t) := by
  have hp : (prev1 t).val % 2 = 0 := by show (t.val - 1) % 2 = 0; omega
  rw [Dat.before_of_pos _ 8 t (by omega) ((cfg1.win 8).fetch_out rfl _) d,
    if_neg (fun hf => by have := (flush1_8 (prev1 t)).mp hf; omega)]
  show (dat1 V c).left 8 (prev1 t) d = _
  unfold Dat.left
  rw [show cfg1.idle 8 (cfg1.grid.coords (prev1 t)) = false from live1_8 (prev1 t)]
  show (dat1 V c).kept 8 (prev1 t) d = _
  unfold Dat.kept
  rw [after1_8]
  unfold dvAt1
  rw [if_pos hp]
  funext j
  unfold Pipeline.Window.fill
  rw [dif_pos (moved1_8 (prev1 t) j)]

/-! ## The body obligation -/

def bodyPre1 : sProp 𝕄 :=
  iprop((dat1 V c).Φ t.castSucc ∗ (dat1 V c).owesAt () t.castSucc
    ∗ (∃ d, owns c.tc (st1_0 t) fullShare ((dat1 V c).before 0 t d))
    ∗ (∃ d, owns c.tc (st1_1 t) fullShare ((dat1 V c).before 1 t d))
    ∗ (∃ d, owns c.tc (st1_2 t) fullShare ((dat1 V c).before 2 t d))
    ∗ (∃ d, owns c.tc (st1_3 t) fullShare ((dat1 V c).before 3 t d))
    ∗ (∃ d, owns c.tc (st1_4 t) fullShare ((dat1 V c).before 4 t d))
    ∗ (∃ d, owns c.tc (st1_5 t) fullShare ((dat1 V c).before 5 t d))
    ∗ (∃ d, owns c.tc (st1_6 t) fullShare ((dat1 V c).before 6 t d))
    ∗ (∃ d, owns c.tc (st1_7 t) fullShare ((dat1 V c).before 7 t d))
    ∗ (∃ d, owns c.tc (st1_8 t) fullShare ((dat1 V c).before 8 t d)))
def bodyPost1 : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

theorem leaves1_0 : (dat1 V c).leavesExact 0 t = owns c.tc (st1_0 t) fullShare (iblk1 V c 0 t) := rfl
theorem leaves1_1 : (dat1 V c).leavesExact 1 t = owns c.tc (st1_1 t) fullShare (full1_1 V c t) := rfl
theorem leaves1_2 : (dat1 V c).leavesExact 2 t = owns c.tc (st1_2 t) fullShare (full1_2 V c t) := rfl
theorem leaves1_3 : (dat1 V c).leavesExact 3 t = owns c.tc (st1_3 t) fullShare (iblk1 V c 3 t) := rfl
theorem leaves1_4 : (dat1 V c).leavesExact 4 t = owns c.tc (st1_4 t) fullShare (full1_4 V c t) := rfl
theorem leaves1_5 : (dat1 V c).leavesExact 5 t = owns c.tc (st1_5 t) fullShare (full1_5 V c t) := rfl
theorem leaves1_6 : (dat1 V c).leavesExact 6 t = owns c.tc (st1_6 t) fullShare (dqAt1 V c t) := rfl
theorem leaves1_7 : (dat1 V c).leavesExact 7 t = owns c.tc (st1_7 t) fullShare (dkAt1 V c t) := by
  unfold Dat.leavesExact; rw [live1_7 t, after1_7]
theorem leaves1_8 : (dat1 V c).leavesExact 8 t = owns c.tc (st1_8 t) fullShare (dvAt1 V c t) := by
  unfold Dat.leavesExact; rw [live1_8 t, after1_8]

set_option maxHeartbeats 1600000 in
theorem sound_body1 :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    leaves1_0, leaves1_1, leaves1_2, leaves1_3, leaves1_4, leaves1_5, leaves1_6, leaves1_7, leaves1_8]
  unfold dqAt1 dkAt1 dvAt1
  by_cases h : t.val % 2 = 0
  · rw [if_pos h, if_pos h]
    unfold dkA1 dvA1
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound1_A c (grid1.coords t) _ _ _ _ _ _ _ _ _ _ _ _ _ _ _ _ _ _ ((cond1_1 t).mpr h) (fun h' => by have := (cond1_2 t).mp h'; omega) (iblk1 V c 0 t) (full1_1 V c t) (full1_2 V c t) (iblk1 V c 3 t) (full1_4 V c t) (full1_5 V c t) Set.univ _)
    iframe H0 H1 H2 H3 H4 H5
    isplitl [H6]; · iexists _; iexact H6
    isplitl [H7]; · iexists _; iexact H7
    isplitl [H8]; · iexists _; iexact H8
    iintro ⟨H0, H1, H2, H3, H4, H5, H6, H7, H8⟩
    iframe
  · rw [if_neg h, if_neg h]
    have h1 : t.val % 2 = 1 := by omega
    simp only [before1_7 V c t h1, before1_8 V c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound1_B c (grid1.coords t) _ _ _ _ _ _ _ _ _ _ _ _ _ _ _ _ _ _ (fun h' => h ((cond1_1 t).mp h')) ((cond1_2 t).mpr h1) (iblk1 V c 0 t) (full1_1 V c t) (full1_2 V c t) (iblk1 V c 3 t) (full1_4 V c t) (full1_5 V c t) (dkA1 V c (prev1 t)) (dvA1 V c (prev1 t)) Set.univ _)
    iframe H0 H1 H2 H3 H4 H5
    isplitl [H6]; · iexists _; iexact H6
    isplitl [H7]; · iexact H7
    isplitl [H8]; · iexact H8
    iintro ⟨H0, H1, H2, H3, H4, H5, H6, H7, H8⟩
    iframe

theorem defs₀_row1 :
    defs₀ (F := F) .tc cfg1.body (cfg1.bodyArgs t (cfg1.slots t)) = bodyAt1 t := by
  unfold defs₀; rw [Defs.onTc_tc]

/-- The body meets the pipeline's obligation at every point. -/
theorem body_obligation1 : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Att

end
-- ==== Proof.Region2.lean ====
/- Region 2 of the program: segment 1 of the attention's backward pass. What its body computes at a grid point, the
   body's specification, and the proof data of its pipeline, at any contents of the buffers when the region is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameSuffix
public import Idealize.ShloMosaic.Lib.Pipeline.TableIdle
public import Idealize.ShloMosaic.Lib.Pipeline.ValueKit
public import Idealize.ShloMosaic.Lib.Ring
public import Idealize.ShloMosaic.Lib.WordCmp

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body computes from the blocks it reads -/

/-- The gradient of the block of queries. -/
def dqOut2 (i : grid2.Coords) (x0 : Vec F S1x272x128 .bf16) (x1 : Vec F S1x1088x128 .bf16) (x2 : Vec F S1x1088x64 .bf16) (x3 : Vec F S1x272x64 .f32) : Vec F S1x272x128 .f32 :=
  k2_pay2 (k2_pay10 x1) (k2_pay12 i x0 x1) (k2_pay13 x2 x3) (k2_pay14 i x0 x1 x2 x3)
/-- The keys' gradient so far, `acc`, and this block of queries' part of it. -/
def dkAdd2 (i : grid2.Coords) (x0 : Vec F S1x272x128 .bf16) (x1 : Vec F S1x1088x128 .bf16) (x2 : Vec F S1x1088x64 .bf16) (x3 : Vec F S1x272x64 .f32) (acc : Vec F S1x1088x128 .f32) : Vec F S1x1088x128 .f32 :=
  k2_pay5 (k2_pay9 x0) (k2_pay12 i x0 x1) (k2_pay13 x2 x3) (k2_pay14 i x0 x1 x2 x3) acc
/-- The values' gradient so far, `acc`, and this block of queries' part of it. -/
def dvAdd2 (i : grid2.Coords) (x0 : Vec F S1x272x128 .bf16) (x1 : Vec F S1x1088x128 .bf16) (x3 : Vec F S1x272x64 .f32) (acc : Vec F S1x1088x64 .f32) : Vec F S1x1088x64 .f32 :=
  k2_pay6 (k2_pay11 x3) (k2_pay12 i x0 x1) acc

private theorem zeros : (![0, 0, 0] : Fin 3 → ℕ) = fun _ => 0 := by funext a; fin_cases a <;> rfl

/-- A load of a whole buffer through the rectangle at offset zero gives what the buffer holds. -/
private theorem load_whole {S : Shape} {e : EltTy} (m : Memref sig .tc .vmem S e) (h : m.IsWhole) (x : Vec F S e) {off : Fin S.rank → ℕ}
    (ho : off = fun _ => 0) (inb : ∀ a, off a + S.size a ≤ S.size a) :
    m.view.readAt (Elt F) (Rect.unit off S.size inb).toLoadRect (h.unread x) = x := by
  rw [View.readAt_eq_ld, Memref.IsWhole.read_unread]; exact View.ld_unit_zero ho inb x

set_option maxHeartbeats 2000000 in
/-- At the first block of queries of a head the keys' and values' gradients start from what was handed in. -/
theorem sound2_A (c : Dev nD) (i : grid2.Coords) (arg2 : Memref sig .tc .vmem S1x272x128 .bf16) (harg2 : arg2.IsWhole) (arg3 : Memref sig .tc .vmem S1x1088x128 .bf16) (harg3 : arg3.IsWhole) (arg4 : Memref sig .tc .vmem S1x1088x64 .bf16) (harg4 : arg4.IsWhole) (arg5 : Memref sig .tc .vmem S1x272x64 .f32) (harg5 : arg5.IsWhole) (arg6 : Memref sig .tc .vmem S1x1088x128 .f32) (harg6 : arg6.IsWhole) (arg7 : Memref sig .tc .vmem S1x1088x64 .f32) (harg7 : arg7.IsWhole) (arg8 : Memref sig .tc .vmem S1x272x128 .f32) (harg8 : arg8.IsWhole) (arg9 : Memref sig .tc .vmem S1x1088x128 .f32) (harg9 : arg9.IsWhole) (arg10 : Memref sig .tc .vmem S1x1088x64 .f32) (harg10 : arg10.IsWhole) (hc0 : k2_cond1 i = 1#1) (hc1 : ¬k2_cond2 i = 1#1)
    (x0 : Vec F S1x272x128 .bf16) (x1 : Vec F S1x1088x128 .bf16) (x2 : Vec F S1x1088x64 .bf16) (x3 : Vec F S1x272x64 .f32) (x4 : Vec F S1x1088x128 .f32) (x5 : Vec F S1x1088x64 .f32) (E : Set ℕ) (Q : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ (∃ d, owns c.tc arg9 fullShare d) ∗ (∃ d, owns c.tc arg10 fullShare d)
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare (dqOut2 i x0 x1 x2 x3) ∗ owns c.tc arg9 fullShare (dkAdd2 i x0 x1 x2 x3 x4) ∗ owns c.tc arg10 fullShare (dvAdd2 i x0 x1 x3 x5)) -∗ Q ⟨⟩))
      ⊢ wp frame (wpE (defs₀ (F := F)) Variants.none c none) E (cc2_attn_bwd_seg1 i arg2 harg2 arg3 harg3 arg4 harg4 arg5 harg5 arg6 harg6 arg7 harg7 arg8 harg8 arg9 harg9 arg10 harg10) Q := by
  simp only [cc2_attn_bwd_seg1_eq_skeleton]; unfold cc2_attn_bwd_seg1_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_eq_canon _ _ _ (View.cover_of_tiled _ S1x272x128.size (by rfl))).trans ?_
    rw [View.canon_unit_zero zeros]
    delta sound2_A.sl.r_1 sound2_A.sl.r_3 sound2_A.sl.r_4 sound2_A.sl.r_5
    iterate 8 (try rw [load_whole _ _ _ zeros])
    rfl
  isplitl [H7]
  · iexists _; isplitr
    swap; · iexact H7
    ipureintro
    refine (View.read_writes_eq_canon _ _ _ (View.cover_of_tiled _ S1x1088x128.size (by rfl))).trans ?_
    rw [View.canon_unit_zero zeros]
    delta sound2_A.sl.r sound2_A.sl.r_3 sound2_A.sl.r_4 sound2_A.sl.r_5
    iterate 8 (try rw [load_whole _ _ _ zeros])
    rfl
  iexists _; isplitr
  swap; · iexact H8
  ipureintro
  refine (View.read_writes_eq_canon _ _ _ (View.cover_of_tiled _ S1x1088x64.size (by rfl))).trans ?_
  rw [View.canon_unit_zero zeros]
  delta sound2_A.sl.r_2 sound2_A.sl.r_3
  iterate 8 (try rw [load_whole _ _ _ zeros])
  rfl

set_option maxHeartbeats 2000000 in
/-- At a later block of queries the part is added to what the block before left. -/
theorem sound2_B (c : Dev nD) (i : grid2.Coords) (arg2 : Memref sig .tc .vmem S1x272x128 .bf16) (harg2 : arg2.IsWhole) (arg3 : Memref sig .tc .vmem S1x1088x128 .bf16) (harg3 : arg3.IsWhole) (arg4 : Memref sig .tc .vmem S1x1088x64 .bf16) (harg4 : arg4.IsWhole) (arg5 : Memref sig .tc .vmem S1x272x64 .f32) (harg5 : arg5.IsWhole) (arg6 : Memref sig .tc .vmem S1x1088x128 .f32) (harg6 : arg6.IsWhole) (arg7 : Memref sig .tc .vmem S1x1088x64 .f32) (harg7 : arg7.IsWhole) (arg8 : Memref sig .tc .vmem S1x272x128 .f32) (harg8 : arg8.IsWhole) (arg9 : Memref sig .tc .vmem S1x1088x128 .f32) (harg9 : arg9.IsWhole) (arg10 : Memref sig .tc .vmem S1x1088x64 .f32) (harg10 : arg10.IsWhole) (hc0 : ¬k2_cond1 i = 1#1) (hc1 : k2_cond2 i = 1#1)
    (x0 : Vec F S1x272x128 .bf16) (x1 : Vec F S1x1088x128 .bf16) (x2 : Vec F S1x1088x64 .bf16) (x3 : Vec F S1x272x64 .f32) (x4 : Vec F S1x1088x128 .f32) (x5 : Vec F S1x1088x64 .f32) (y7 : Vec F S1x1088x128 .f32) (y8 : Vec F S1x1088x64 .f32) (E : Set ℕ) (Q : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ owns c.tc arg9 fullShare y7 ∗ owns c.tc arg10 fullShare y8
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare (dqOut2 i x0 x1 x2 x3) ∗ owns c.tc arg9 fullShare (dkAdd2 i x0 x1 x2 x3 y7) ∗ owns c.tc arg10 fullShare (dvAdd2 i x0 x1 x3 y8)) -∗ Q ⟨⟩))
      ⊢ wp frame (wpE (defs₀ (F := F)) Variants.none c none) E (cc2_attn_bwd_seg1 i arg2 harg2 arg3 harg3 arg4 harg4 arg5 harg5 arg6 harg6 arg7 harg7 arg8 harg8 arg9 harg9 arg10 harg10) Q := by
  simp only [cc2_attn_bwd_seg1_eq_skeleton]; unfold cc2_attn_bwd_seg1_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_eq_canon _ _ _ (View.cover_of_tiled _ S1x272x128.size (by rfl))).trans ?_
    rw [View.canon_unit_zero zeros]
    delta sound2_B.sl.r_1 sound2_B.sl.r_3 sound2_B.sl.r_4 sound2_B.sl.r_5
    iterate 8 (try rw [load_whole _ _ _ zeros])
    rfl
  isplitl [H7]
  · iexists _; isplitr
    swap; · iexact H7
    ipureintro
    refine (View.read_writes_eq_canon _ _ _ (View.cover_of_tiled _ S1x1088x128.size (by rfl))).trans ?_
    rw [View.canon_unit_zero zeros]
    delta sound2_B.sl.r sound2_B.sl.r_3 sound2_B.sl.r_4 sound2_B.sl.r_5
    iterate 8 (try rw [load_whole _ _ _ zeros])
    rfl
  iexists _; isplitr
  swap; · iexact H8
  ipureintro
  refine (View.read_writes_eq_canon _ _ _ (View.cover_of_tiled _ S1x1088x64.size (by rfl))).trans ?_
  rw [View.canon_unit_zero zeros]
  delta sound2_B.sl.r_2 sound2_B.sl.r_3
  iterate 8 (try rw [load_whole _ _ _ zeros])
  rfl

section Regions
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

variable (c : Dev nD) (t : Fin cfg2.N)

/-- No point's block of window 7 is cut short by the array's edge. -/
theorem xsize2_7 : ∀ (t : Fin cfg2.N) (a), (cfg2.win 7).xsize (cfg2.grid.coords t) a = (cfg2.win 7).size a :=
  (by decide +kernel : ∀ (t : Fin grid2.N) (a), win2_7.xsize (grid2.coords t) a = win2_7.size a)
theorem moved2_7 (j) : (cfg2.win 7).moved (cfg2.grid.coords t) j = true :=
  ((cfg2.win 7).moved_iff _ j).mpr fun a => by rw [xsize2_7 t a]; exact (j a).isLt
/-- No point's block of window 8 is cut short by the array's edge. -/
theorem xsize2_8 : ∀ (t : Fin cfg2.N) (a), (cfg2.win 8).xsize (cfg2.grid.coords t) a = (cfg2.win 8).size a :=
  (by decide +kernel : ∀ (t : Fin grid2.N) (a), win2_8.xsize (grid2.coords t) a = win2_8.size a)
theorem moved2_8 (j) : (cfg2.win 8).moved (cfg2.grid.coords t) j = true :=
  ((cfg2.win 8).moved_iff _ j).mpr fun a => by rw [xsize2_8 t a]; exact (j a).isLt

theorem cond2_1 : ∀ t : Fin cfg2.N, k2_cond1 (grid2.coords t) = 1#1 ↔ t.val % 2 = 0 :=
  (by decide +kernel : ∀ t : Fin grid2.N, k2_cond1 (grid2.coords t) = 1#1 ↔ t.val % 2 = 0)
theorem cond2_2 : ∀ t : Fin cfg2.N, k2_cond2 (grid2.coords t) = 1#1 ↔ t.val % 2 = 1 :=
  (by decide +kernel : ∀ t : Fin grid2.N, k2_cond2 (grid2.coords t) = 1#1 ↔ t.val % 2 = 1)

/-- The point before `t` (the first block of queries of the head when `t` is at the second). -/
def prev2 : Fin cfg2.N := ⟨t.val - 1, Nat.lt_of_le_of_lt (Nat.sub_le _ _) t.isLt⟩

/-! ## What the buffers of the outputs hold after the body -/

def dqAt2 : Vec F S1x272x128 .f32 := dqOut2 (grid2.coords t) (iblk2 V c 0 t) (iblk2 V c 1 t) (iblk2 V c 2 t) (iblk2 V c 3 t)
/-- The keys' gradient after the first block of queries, -/
def dkA2 : Vec F S1x1088x128 .f32 := dkAdd2 (grid2.coords t) (iblk2 V c 0 t) (iblk2 V c 1 t) (iblk2 V c 2 t) (iblk2 V c 3 t) (iblk2 V c 4 t)
/-- and at any point. -/
def dkAt2 : Vec F S1x1088x128 .f32 :=
  if t.val % 2 = 0 then dkA2 V c t else dkAdd2 (grid2.coords t) (iblk2 V c 0 t) (iblk2 V c 1 t) (iblk2 V c 2 t) (iblk2 V c 3 t) (dkA2 V c (prev2 t))
/-- The values' gradient after the first block of queries, -/
def dvA2 : Vec F S1x1088x64 .f32 := dvAdd2 (grid2.coords t) (iblk2 V c 0 t) (iblk2 V c 1 t) (iblk2 V c 3 t) (iblk2 V c 5 t)
/-- and at any point. -/
def dvAt2 : Vec F S1x1088x64 .f32 :=
  if t.val % 2 = 0 then dvA2 V c t else dvAdd2 (grid2.coords t) (iblk2 V c 0 t) (iblk2 V c 1 t) (iblk2 V c 3 t) (dvA2 V c (prev2 t))

/-- The pipeline's proof data: the arrays as the region finds them, and what each buffer holds after the body at a point. -/
def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => dqAt2 V c t
    | ⟨7, _⟩ => dkAt2 V c t
    | ⟨8, _⟩ => dvAt2 V c t
  Φ _ := Pipeline.ΦA spec2 c
  q _ := fullShare
  owed _ := 0

theorem A_eq2 (w : Fin cfg2.W) : (dat2 V c).A w = V c (Pipeline.arrRef spec2 w) := by
  dsimp only [dat2]
theorem after2_0 : (dat2 V c).after 0 t = iblk2 V c 0 t := rfl
theorem after2_1 : (dat2 V c).after 1 t = iblk2 V c 1 t := rfl
theorem after2_2 : (dat2 V c).after 2 t = iblk2 V c 2 t := rfl
theorem after2_3 : (dat2 V c).after 3 t = iblk2 V c 3 t := rfl
theorem after2_4 : (dat2 V c).after 4 t = iblk2 V c 4 t := rfl
theorem after2_5 : (dat2 V c).after 5 t = iblk2 V c 5 t := rfl
theorem after2_6 : (dat2 V c).after 6 t = dqAt2 V c t := rfl
theorem after2_7 : (dat2 V c).after 7 t = dkAt2 V c t := rfl
theorem after2_8 : (dat2 V c).after 8 t = dvAt2 V c t := rfl

theorem before2_0 (d) : (dat2 V c).before 0 t d = iblk2 V c 0 t :=
  ((dat2 V c).before_in_eq_fetched 0 rfl (fun _ => rfl) (fun _ _ _ => rfl) (fun _ => rfl) t d).trans rfl
theorem before2_1 (d) : (dat2 V c).before 1 t d = iblk2 V c 1 t :=
  ((dat2 V c).before_in_eq_fetched 1 rfl (fun _ => rfl) (fun _ _ _ => rfl) (fun _ => rfl) t d).trans rfl
theorem before2_2 (d) : (dat2 V c).before 2 t d = iblk2 V c 2 t :=
  ((dat2 V c).before_in_eq_fetched 2 rfl (fun _ => rfl) (fun _ _ _ => rfl) (fun _ => rfl) t d).trans rfl
theorem before2_3 (d) : (dat2 V c).before 3 t d = iblk2 V c 3 t :=
  ((dat2 V c).before_in_eq_fetched 3 rfl (fun _ => rfl) (fun _ _ _ => rfl) (fun _ => rfl) t d).trans rfl
theorem before2_4 (d) : (dat2 V c).before 4 t d = iblk2 V c 4 t :=
  ((dat2 V c).before_in_eq_fetched 4 rfl (fun _ => rfl) (fun _ _ _ => rfl) (fun _ => rfl) t d).trans rfl
theorem before2_5 (d) : (dat2 V c).before 5 t d = iblk2 V c 5 t :=
  ((dat2 V c).before_in_eq_fetched 5 rfl (fun _ => rfl) (fun _ _ _ => rfl) (fun _ => rfl) t d).trans rfl
theorem live2_0 : cfg2.idle 0 (grid2.coords t) = false := rfl
theorem live2_1 : cfg2.idle 1 (grid2.coords t) = false := rfl
theorem live2_2 : cfg2.idle 2 (grid2.coords t) = false := rfl
theorem live2_3 : cfg2.idle 3 (grid2.coords t) = false := rfl
theorem live2_4 : cfg2.idle 4 (grid2.coords t) = false := rfl
theorem live2_5 : cfg2.idle 5 (grid2.coords t) = false := rfl
theorem live2_6 : cfg2.idle 6 (grid2.coords t) = false := rfl
theorem live2_7 : ∀ t : Fin cfg2.N, cfg2.idle 7 (grid2.coords t) = false :=
  (by decide +kernel : ∀ t : Fin grid2.N, cfg2.idle 7 (grid2.coords t) = false)
theorem live2_8 : ∀ t : Fin cfg2.N, cfg2.idle 8 (grid2.coords t) = false :=
  (by decide +kernel : ∀ t : Fin grid2.N, cfg2.idle 8 (grid2.coords t) = false)
/-- At the second block of queries the buffer holds what the first left. -/
theorem before2_7 (h : t.val % 2 = 1) (d) : (dat2 V c).before 7 t d = dkA2 V c (prev2 t) := by
  have hp : (prev2 t).val % 2 = 0 := by show (t.val - 1) % 2 = 0; omega
  rw [Dat.before_of_pos _ 7 t (by omega) ((cfg2.win 7).fetch_out rfl _) d,
    if_neg (fun hf => by have := (flush2_7 (prev2 t)).mp hf; omega)]
  show (dat2 V c).left 7 (prev2 t) d = _
  unfold Dat.left
  rw [show cfg2.idle 7 (cfg2.grid.coords (prev2 t)) = false from live2_7 (prev2 t)]
  show (dat2 V c).kept 7 (prev2 t) d = _
  unfold Dat.kept
  rw [after2_7]
  unfold dkAt2
  rw [if_pos hp]
  funext j
  unfold Pipeline.Window.fill
  rw [dif_pos (moved2_7 (prev2 t) j)]

/-- At the second block of queries the buffer holds what the first left. -/
theorem before2_8 (h : t.val % 2 = 1) (d) : (dat2 V c).before 8 t d = dvA2 V c (prev2 t) := by
  have hp : (prev2 t).val % 2 = 0 := by show (t.val - 1) % 2 = 0; omega
  rw [Dat.before_of_pos _ 8 t (by omega) ((cfg2.win 8).fetch_out rfl _) d,
    if_neg (fun hf => by have := (flush2_8 (prev2 t)).mp hf; omega)]
  show (dat2 V c).left 8 (prev2 t) d = _
  unfold Dat.left
  rw [show cfg2.idle 8 (cfg2.grid.coords (prev2 t)) = false from live2_8 (prev2 t)]
  show (dat2 V c).kept 8 (prev2 t) d = _
  unfold Dat.kept
  rw [after2_8]
  unfold dvAt2
  rw [if_pos hp]
  funext j
  unfold Pipeline.Window.fill
  rw [dif_pos (moved2_8 (prev2 t) j)]

/-! ## The body obligation -/

def bodyPre2 : sProp 𝕄 :=
  iprop((dat2 V c).Φ t.castSucc ∗ (dat2 V c).owesAt () t.castSucc
    ∗ (∃ d, owns c.tc (st2_0 t) fullShare ((dat2 V c).before 0 t d))
    ∗ (∃ d, owns c.tc (st2_1 t) fullShare ((dat2 V c).before 1 t d))
    ∗ (∃ d, owns c.tc (st2_2 t) fullShare ((dat2 V c).before 2 t d))
    ∗ (∃ d, owns c.tc (st2_3 t) fullShare ((dat2 V c).before 3 t d))
    ∗ (∃ d, owns c.tc (st2_4 t) fullShare ((dat2 V c).before 4 t d))
    ∗ (∃ d, owns c.tc (st2_5 t) fullShare ((dat2 V c).before 5 t d))
    ∗ (∃ d, owns c.tc (st2_6 t) fullShare ((dat2 V c).before 6 t d))
    ∗ (∃ d, owns c.tc (st2_7 t) fullShare ((dat2 V c).before 7 t d))
    ∗ (∃ d, owns c.tc (st2_8 t) fullShare ((dat2 V c).before 8 t d)))
def bodyPost2 : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

theorem leaves2_0 : (dat2 V c).leavesExact 0 t = owns c.tc (st2_0 t) fullShare (iblk2 V c 0 t) := rfl
theorem leaves2_1 : (dat2 V c).leavesExact 1 t = owns c.tc (st2_1 t) fullShare (iblk2 V c 1 t) := rfl
theorem leaves2_2 : (dat2 V c).leavesExact 2 t = owns c.tc (st2_2 t) fullShare (iblk2 V c 2 t) := rfl
theorem leaves2_3 : (dat2 V c).leavesExact 3 t = owns c.tc (st2_3 t) fullShare (iblk2 V c 3 t) := rfl
theorem leaves2_4 : (dat2 V c).leavesExact 4 t = owns c.tc (st2_4 t) fullShare (iblk2 V c 4 t) := rfl
theorem leaves2_5 : (dat2 V c).leavesExact 5 t = owns c.tc (st2_5 t) fullShare (iblk2 V c 5 t) := rfl
theorem leaves2_6 : (dat2 V c).leavesExact 6 t = owns c.tc (st2_6 t) fullShare (dqAt2 V c t) := rfl
theorem leaves2_7 : (dat2 V c).leavesExact 7 t = owns c.tc (st2_7 t) fullShare (dkAt2 V c t) := by
  unfold Dat.leavesExact; rw [live2_7 t, after2_7]
theorem leaves2_8 : (dat2 V c).leavesExact 8 t = owns c.tc (st2_8 t) fullShare (dvAt2 V c t) := by
  unfold Dat.leavesExact; rw [live2_8 t, after2_8]

set_option maxHeartbeats 1600000 in
theorem sound_body2 :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    leaves2_0, leaves2_1, leaves2_2, leaves2_3, leaves2_4, leaves2_5, leaves2_6, leaves2_7, leaves2_8]
  unfold dqAt2 dkAt2 dvAt2
  by_cases h : t.val % 2 = 0
  · rw [if_pos h, if_pos h]
    unfold dkA2 dvA2
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound2_A c (grid2.coords t) _ _ _ _ _ _ _ _ _ _ _ _ _ _ _ _ _ _ ((cond2_1 t).mpr h) (fun h' => by have := (cond2_2 t).mp h'; omega) (iblk2 V c 0 t) (iblk2 V c 1 t) (iblk2 V c 2 t) (iblk2 V c 3 t) (iblk2 V c 4 t) (iblk2 V c 5 t) Set.univ _)
    iframe H0 H1 H2 H3 H4 H5
    isplitl [H6]; · iexists _; iexact H6
    isplitl [H7]; · iexists _; iexact H7
    isplitl [H8]; · iexists _; iexact H8
    iintro ⟨H0, H1, H2, H3, H4, H5, H6, H7, H8⟩
    iframe
  · rw [if_neg h, if_neg h]
    have h1 : t.val % 2 = 1 := by omega
    simp only [before2_7 V c t h1, before2_8 V c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound2_B c (grid2.coords t) _ _ _ _ _ _ _ _ _ _ _ _ _ _ _ _ _ _ (fun h' => h ((cond2_1 t).mp h')) ((cond2_2 t).mpr h1) (iblk2 V c 0 t) (iblk2 V c 1 t) (iblk2 V c 2 t) (iblk2 V c 3 t) (iblk2 V c 4 t) (iblk2 V c 5 t) (dkA2 V c (prev2 t)) (dvA2 V c (prev2 t)) Set.univ _)
    iframe H0 H1 H2 H3 H4 H5
    isplitl [H6]; · iexists _; iexact H6
    isplitl [H7]; · iexact H7
    isplitl [H8]; · iexact H8
    iintro ⟨H0, H1, H2, H3, H4, H5, H6, H7, H8⟩
    iframe

theorem defs₀_row2 :
    defs₀ (F := F) .tc cfg2.body (cfg2.bodyArgs t (cfg2.slots t)) = bodyAt2 t := by
  unfold defs₀; rw [Defs.onTc_tc]

/-- The body meets the pipeline's obligation at every point. -/
theorem body_obligation2 : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Att

end
-- ==== Proof.Region3.lean ====
/- Region 3 of the program: segment 0 of the attention's backward pass. What its body computes at a grid point, the
   body's specification, and the proof data of its pipeline, at any contents of the buffers when the region is entered. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameSuffix
public import Idealize.ShloMosaic.Lib.Pipeline.TableIdle
public import Idealize.ShloMosaic.Lib.Pipeline.ValueKit
public import Idealize.ShloMosaic.Lib.Ring
public import Idealize.ShloMosaic.Lib.WordCmp

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body computes from the blocks it reads -/

/-- The gradient of the block of queries. -/
def dqOut3 (i : grid3.Coords) (x0 : Vec F S1x272x128 .bf16) (x1 : Vec F S1x544x128 .bf16) (x2 : Vec F S1x544x64 .bf16) (x3 : Vec F S1x272x64 .f32) : Vec F S1x272x128 .f32 :=
  k3_pay2 (k3_pay10 x1) (k3_pay12 i x0 x1) (k3_pay13 x2 x3) (k3_pay14 i x0 x1 x2 x3)
/-- The keys' gradient so far, `acc`, and this block of queries' part of it. -/
def dkAdd3 (i : grid3.Coords) (x0 : Vec F S1x272x128 .bf16) (x1 : Vec F S1x544x128 .bf16) (x2 : Vec F S1x544x64 .bf16) (x3 : Vec F S1x272x64 .f32) (acc : Vec F S1x544x128 .f32) : Vec F S1x544x128 .f32 :=
  k3_pay5 (k3_pay9 x0) (k3_pay12 i x0 x1) (k3_pay13 x2 x3) (k3_pay14 i x0 x1 x2 x3) acc
/-- The values' gradient so far, `acc`, and this block of queries' part of it. -/
def dvAdd3 (i : grid3.Coords) (x0 : Vec F S1x272x128 .bf16) (x1 : Vec F S1x544x128 .bf16) (x3 : Vec F S1x272x64 .f32) (acc : Vec F S1x544x64 .f32) : Vec F S1x544x64 .f32 :=
  k3_pay6 (k3_pay11 x3) (k3_pay12 i x0 x1) acc

private theorem zeros : (![0, 0, 0] : Fin 3 → ℕ) = fun _ => 0 := by funext a; fin_cases a <;> rfl

/-- A load of a whole buffer through the rectangle at offset zero gives what the buffer holds. -/
private theorem load_whole {S : Shape} {e : EltTy} (m : Memref sig .tc .vmem S e) (h : m.IsWhole) (x : Vec F S e) {off : Fin S.rank → ℕ}
    (ho : off = fun _ => 0) (inb : ∀ a, off a + S.size a ≤ S.size a) :
    m.view.readAt (Elt F) (Rect.unit off S.size inb).toLoadRect (h.unread x) = x := by
  rw [View.readAt_eq_ld, Memref.IsWhole.read_unread]; exact View.ld_unit_zero ho inb x

set_option maxHeartbeats 2000000 in
/-- At the first block of queries of a head the keys' and values' gradients start from what was handed in. -/
theorem sound3_A (c : Dev nD) (i : grid3.Coords) (arg2 : Memref sig .tc .vmem S1x272x128 .bf16) (harg2 : arg2.IsWhole) (arg3 : Memref sig .tc .vmem S1x544x128 .bf16) (harg3 : arg3.IsWhole) (arg4 : Memref sig .tc .vmem S1x544x64 .bf16) (harg4 : arg4.IsWhole) (arg5 : Memref sig .tc .vmem S1x272x64 .f32) (harg5 : arg5.IsWhole) (arg6 : Memref sig .tc .vmem S1x544x128 .f32) (harg6 : arg6.IsWhole) (arg7 : Memref sig .tc .vmem S1x544x64 .f32) (harg7 : arg7.IsWhole) (arg8 : Memref sig .tc .vmem S1x272x128 .f32) (harg8 : arg8.IsWhole) (arg9 : Memref sig .tc .vmem S1x544x128 .f32) (harg9 : arg9.IsWhole) (arg10 : Memref sig .tc .vmem S1x544x64 .f32) (harg10 : arg10.IsWhole) (hc0 : k3_cond1 i = 1#1) (hc1 : ¬k3_cond2 i = 1#1)
    (x0 : Vec F S1x272x128 .bf16) (x1 : Vec F S1x544x128 .bf16) (x2 : Vec F S1x544x64 .bf16) (x3 : Vec F S1x272x64 .f32) (x4 : Vec F S1x544x128 .f32) (x5 : Vec F S1x544x64 .f32) (E : Set ℕ) (Q : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ (∃ d, owns c.tc arg9 fullShare d) ∗ (∃ d, owns c.tc arg10 fullShare d)
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare (dqOut3 i x0 x1 x2 x3) ∗ owns c.tc arg9 fullShare (dkAdd3 i x0 x1 x2 x3 x4) ∗ owns c.tc arg10 fullShare (dvAdd3 i x0 x1 x3 x5)) -∗ Q ⟨⟩))
      ⊢ wp frame (wpE (defs₀ (F := F)) Variants.none c none) E (cc3_attn_bwd_seg0 i arg2 harg2 arg3 harg3 arg4 harg4 arg5 harg5 arg6 harg6 arg7 harg7 arg8 harg8 arg9 harg9 arg10 harg10) Q := by
  simp only [cc3_attn_bwd_seg0_eq_skeleton]; unfold cc3_attn_bwd_seg0_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_eq_canon _ _ _ (View.cover_of_tiled _ S1x272x128.size (by rfl))).trans ?_
    rw [View.canon_unit_zero zeros]
    delta sound3_A.sl.r_1 sound3_A.sl.r_3 sound3_A.sl.r_4 sound3_A.sl.r_5
    iterate 8 (try rw [load_whole _ _ _ zeros])
    rfl
  isplitl [H7]
  · iexists _; isplitr
    swap; · iexact H7
    ipureintro
    refine (View.read_writes_eq_canon _ _ _ (View.cover_of_tiled _ S1x544x128.size (by rfl))).trans ?_
    rw [View.canon_unit_zero zeros]
    delta sound3_A.sl.r sound3_A.sl.r_3 sound3_A.sl.r_4 sound3_A.sl.r_5
    iterate 8 (try rw [load_whole _ _ _ zeros])
    rfl
  iexists _; isplitr
  swap; · iexact H8
  ipureintro
  refine (View.read_writes_eq_canon _ _ _ (View.cover_of_tiled _ S1x544x64.size (by rfl))).trans ?_
  rw [View.canon_unit_zero zeros]
  delta sound3_A.sl.r_2 sound3_A.sl.r_3
  iterate 8 (try rw [load_whole _ _ _ zeros])
  rfl

set_option maxHeartbeats 2000000 in
/-- At a later block of queries the part is added to what the block before left. -/
theorem sound3_B (c : Dev nD) (i : grid3.Coords) (arg2 : Memref sig .tc .vmem S1x272x128 .bf16) (harg2 : arg2.IsWhole) (arg3 : Memref sig .tc .vmem S1x544x128 .bf16) (harg3 : arg3.IsWhole) (arg4 : Memref sig .tc .vmem S1x544x64 .bf16) (harg4 : arg4.IsWhole) (arg5 : Memref sig .tc .vmem S1x272x64 .f32) (harg5 : arg5.IsWhole) (arg6 : Memref sig .tc .vmem S1x544x128 .f32) (harg6 : arg6.IsWhole) (arg7 : Memref sig .tc .vmem S1x544x64 .f32) (harg7 : arg7.IsWhole) (arg8 : Memref sig .tc .vmem S1x272x128 .f32) (harg8 : arg8.IsWhole) (arg9 : Memref sig .tc .vmem S1x544x128 .f32) (harg9 : arg9.IsWhole) (arg10 : Memref sig .tc .vmem S1x544x64 .f32) (harg10 : arg10.IsWhole) (hc0 : ¬k3_cond1 i = 1#1) (hc1 : k3_cond2 i = 1#1)
    (x0 : Vec F S1x272x128 .bf16) (x1 : Vec F S1x544x128 .bf16) (x2 : Vec F S1x544x64 .bf16) (x3 : Vec F S1x272x64 .f32) (x4 : Vec F S1x544x128 .f32) (x5 : Vec F S1x544x64 .f32) (y7 : Vec F S1x544x128 .f32) (y8 : Vec F S1x544x64 .f32) (E : Set ℕ) (Q : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ owns c.tc arg9 fullShare y7 ∗ owns c.tc arg10 fullShare y8
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare (dqOut3 i x0 x1 x2 x3) ∗ owns c.tc arg9 fullShare (dkAdd3 i x0 x1 x2 x3 y7) ∗ owns c.tc arg10 fullShare (dvAdd3 i x0 x1 x3 y8)) -∗ Q ⟨⟩))
      ⊢ wp frame (wpE (defs₀ (F := F)) Variants.none c none) E (cc3_attn_bwd_seg0 i arg2 harg2 arg3 harg3 arg4 harg4 arg5 harg5 arg6 harg6 arg7 harg7 arg8 harg8 arg9 harg9 arg10 harg10) Q := by
  simp only [cc3_attn_bwd_seg0_eq_skeleton]; unfold cc3_attn_bwd_seg0_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (View.read_writes_eq_canon _ _ _ (View.cover_of_tiled _ S1x272x128.size (by rfl))).trans ?_
    rw [View.canon_unit_zero zeros]
    delta sound3_B.sl.r_1 sound3_B.sl.r_3 sound3_B.sl.r_4 sound3_B.sl.r_5
    iterate 8 (try rw [load_whole _ _ _ zeros])
    rfl
  isplitl [H7]
  · iexists _; isplitr
    swap; · iexact H7
    ipureintro
    refine (View.read_writes_eq_canon _ _ _ (View.cover_of_tiled _ S1x544x128.size (by rfl))).trans ?_
    rw [View.canon_unit_zero zeros]
    delta sound3_B.sl.r sound3_B.sl.r_3 sound3_B.sl.r_4 sound3_B.sl.r_5
    iterate 8 (try rw [load_whole _ _ _ zeros])
    rfl
  iexists _; isplitr
  swap; · iexact H8
  ipureintro
  refine (View.read_writes_eq_canon _ _ _ (View.cover_of_tiled _ S1x544x64.size (by rfl))).trans ?_
  rw [View.canon_unit_zero zeros]
  delta sound3_B.sl.r_2 sound3_B.sl.r_3
  iterate 8 (try rw [load_whole _ _ _ zeros])
  rfl

section Regions
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

variable (c : Dev nD) (t : Fin cfg3.N)

/-- No point's block of window 7 is cut short by the array's edge. -/
theorem xsize3_7 : ∀ (t : Fin cfg3.N) (a), (cfg3.win 7).xsize (cfg3.grid.coords t) a = (cfg3.win 7).size a :=
  (by decide +kernel : ∀ (t : Fin grid3.N) (a), win3_7.xsize (grid3.coords t) a = win3_7.size a)
theorem moved3_7 (j) : (cfg3.win 7).moved (cfg3.grid.coords t) j = true :=
  ((cfg3.win 7).moved_iff _ j).mpr fun a => by rw [xsize3_7 t a]; exact (j a).isLt
/-- No point's block of window 8 is cut short by the array's edge. -/
theorem xsize3_8 : ∀ (t : Fin cfg3.N) (a), (cfg3.win 8).xsize (cfg3.grid.coords t) a = (cfg3.win 8).size a :=
  (by decide +kernel : ∀ (t : Fin grid3.N) (a), win3_8.xsize (grid3.coords t) a = win3_8.size a)
theorem moved3_8 (j) : (cfg3.win 8).moved (cfg3.grid.coords t) j = true :=
  ((cfg3.win 8).moved_iff _ j).mpr fun a => by rw [xsize3_8 t a]; exact (j a).isLt

theorem cond3_1 : ∀ t : Fin cfg3.N, k3_cond1 (grid3.coords t) = 1#1 ↔ t.val % 2 = 0 :=
  (by decide +kernel : ∀ t : Fin grid3.N, k3_cond1 (grid3.coords t) = 1#1 ↔ t.val % 2 = 0)
theorem cond3_2 : ∀ t : Fin cfg3.N, k3_cond2 (grid3.coords t) = 1#1 ↔ t.val % 2 = 1 :=
  (by decide +kernel : ∀ t : Fin grid3.N, k3_cond2 (grid3.coords t) = 1#1 ↔ t.val % 2 = 1)

/-- The point before `t` (the first block of queries of the head when `t` is at the second). -/
def prev3 : Fin cfg3.N := ⟨t.val - 1, Nat.lt_of_le_of_lt (Nat.sub_le _ _) t.isLt⟩

/-! ## What the buffers of the outputs hold after the body -/

def dqAt3 : Vec F S1x272x128 .f32 := dqOut3 (grid3.coords t) (iblk3 V c 0 t) (iblk3 V c 1 t) (iblk3 V c 2 t) (iblk3 V c 3 t)
/-- The keys' gradient after the first block of queries, -/
def dkA3 : Vec F S1x544x128 .f32 := dkAdd3 (grid3.coords t) (iblk3 V c 0 t) (iblk3 V c 1 t) (iblk3 V c 2 t) (iblk3 V c 3 t) (iblk3 V c 4 t)
/-- and at any point. -/
def dkAt3 : Vec F S1x544x128 .f32 :=
  if t.val % 2 = 0 then dkA3 V c t else dkAdd3 (grid3.coords t) (iblk3 V c 0 t) (iblk3 V c 1 t) (iblk3 V c 2 t) (iblk3 V c 3 t) (dkA3 V c (prev3 t))
/-- The values' gradient after the first block of queries, -/
def dvA3 : Vec F S1x544x64 .f32 := dvAdd3 (grid3.coords t) (iblk3 V c 0 t) (iblk3 V c 1 t) (iblk3 V c 3 t) (iblk3 V c 5 t)
/-- and at any point. -/
def dvAt3 : Vec F S1x544x64 .f32 :=
  if t.val % 2 = 0 then dvA3 V c t else dvAdd3 (grid3.coords t) (iblk3 V c 0 t) (iblk3 V c 1 t) (iblk3 V c 3 t) (dvA3 V c (prev3 t))

/-- The pipeline's proof data: the arrays as the region finds them, and what each buffer holds after the body at a point. -/
def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => dqAt3 V c t
    | ⟨7, _⟩ => dkAt3 V c t
    | ⟨8, _⟩ => dvAt3 V c t
  Φ _ := Pipeline.ΦA spec3 c
  q _ := fullShare
  owed _ := 0

theorem A_eq3 (w : Fin cfg3.W) : (dat3 V c).A w = V c (Pipeline.arrRef spec3 w) := by
  dsimp only [dat3]
theorem after3_0 : (dat3 V c).after 0 t = iblk3 V c 0 t := rfl
theorem after3_1 : (dat3 V c).after 1 t = iblk3 V c 1 t := rfl
theorem after3_2 : (dat3 V c).after 2 t = iblk3 V c 2 t := rfl
theorem after3_3 : (dat3 V c).after 3 t = iblk3 V c 3 t := rfl
theorem after3_4 : (dat3 V c).after 4 t = iblk3 V c 4 t := rfl
theorem after3_5 : (dat3 V c).after 5 t = iblk3 V c 5 t := rfl
theorem after3_6 : (dat3 V c).after 6 t = dqAt3 V c t := rfl
theorem after3_7 : (dat3 V c).after 7 t = dkAt3 V c t := rfl
theorem after3_8 : (dat3 V c).after 8 t = dvAt3 V c t := rfl

theorem before3_0 (d) : (dat3 V c).before 0 t d = iblk3 V c 0 t :=
  ((dat3 V c).before_in_eq_fetched 0 rfl (fun _ => rfl) (fun _ _ _ => rfl) (fun _ => rfl) t d).trans rfl
theorem before3_1 (d) : (dat3 V c).before 1 t d = iblk3 V c 1 t :=
  ((dat3 V c).before_in_eq_fetched 1 rfl (fun _ => rfl) (fun _ _ _ => rfl) (fun _ => rfl) t d).trans rfl
theorem before3_2 (d) : (dat3 V c).before 2 t d = iblk3 V c 2 t :=
  ((dat3 V c).before_in_eq_fetched 2 rfl (fun _ => rfl) (fun _ _ _ => rfl) (fun _ => rfl) t d).trans rfl
theorem before3_3 (d) : (dat3 V c).before 3 t d = iblk3 V c 3 t :=
  ((dat3 V c).before_in_eq_fetched 3 rfl (fun _ => rfl) (fun _ _ _ => rfl) (fun _ => rfl) t d).trans rfl
theorem before3_4 (d) : (dat3 V c).before 4 t d = iblk3 V c 4 t :=
  ((dat3 V c).before_in_eq_fetched 4 rfl (fun _ => rfl) (fun _ _ _ => rfl) (fun _ => rfl) t d).trans rfl
theorem before3_5 (d) : (dat3 V c).before 5 t d = iblk3 V c 5 t :=
  ((dat3 V c).before_in_eq_fetched 5 rfl (fun _ => rfl) (fun _ _ _ => rfl) (fun _ => rfl) t d).trans rfl
theorem live3_0 : cfg3.idle 0 (grid3.coords t) = false := rfl
theorem live3_1 : cfg3.idle 1 (grid3.coords t) = false := rfl
theorem live3_2 : cfg3.idle 2 (grid3.coords t) = false := rfl
theorem live3_3 : cfg3.idle 3 (grid3.coords t) = false := rfl
theorem live3_4 : cfg3.idle 4 (grid3.coords t) = false := rfl
theorem live3_5 : cfg3.idle 5 (grid3.coords t) = false := rfl
theorem live3_6 : cfg3.idle 6 (grid3.coords t) = false := rfl
theorem live3_7 : ∀ t : Fin cfg3.N, cfg3.idle 7 (grid3.coords t) = false :=
  (by decide +kernel : ∀ t : Fin grid3.N, cfg3.idle 7 (grid3.coords t) = false)
theorem live3_8 : ∀ t : Fin cfg3.N, cfg3.idle 8 (grid3.coords t) = false :=
  (by decide +kernel : ∀ t : Fin grid3.N, cfg3.idle 8 (grid3.coords t) = false)
/-- At the second block of queries the buffer holds what the first left. -/
theorem before3_7 (h : t.val % 2 = 1) (d) : (dat3 V c).before 7 t d = dkA3 V c (prev3 t) := by
  have hp : (prev3 t).val % 2 = 0 := by show (t.val - 1) % 2 = 0; omega
  rw [Dat.before_of_pos _ 7 t (by omega) ((cfg3.win 7).fetch_out rfl _) d,
    if_neg (fun hf => by have := (flush3_7 (prev3 t)).mp hf; omega)]
  show (dat3 V c).left 7 (prev3 t) d = _
  unfold Dat.left
  rw [show cfg3.idle 7 (cfg3.grid.coords (prev3 t)) = false from live3_7 (prev3 t)]
  show (dat3 V c).kept 7 (prev3 t) d = _
  unfold Dat.kept
  rw [after3_7]
  unfold dkAt3
  rw [if_pos hp]
  funext j
  unfold Pipeline.Window.fill
  rw [dif_pos (moved3_7 (prev3 t) j)]

/-- At the second block of queries the buffer holds what the first left. -/
theorem before3_8 (h : t.val % 2 = 1) (d) : (dat3 V c).before 8 t d = dvA3 V c (prev3 t) := by
  have hp : (prev3 t).val % 2 = 0 := by show (t.val - 1) % 2 = 0; omega
  rw [Dat.before_of_pos _ 8 t (by omega) ((cfg3.win 8).fetch_out rfl _) d,
    if_neg (fun hf => by have := (flush3_8 (prev3 t)).mp hf; omega)]
  show (dat3 V c).left 8 (prev3 t) d = _
  unfold Dat.left
  rw [show cfg3.idle 8 (cfg3.grid.coords (prev3 t)) = false from live3_8 (prev3 t)]
  show (dat3 V c).kept 8 (prev3 t) d = _
  unfold Dat.kept
  rw [after3_8]
  unfold dvAt3
  rw [if_pos hp]
  funext j
  unfold Pipeline.Window.fill
  rw [dif_pos (moved3_8 (prev3 t) j)]

/-! ## The body obligation -/

def bodyPre3 : sProp 𝕄 :=
  iprop((dat3 V c).Φ t.castSucc ∗ (dat3 V c).owesAt () t.castSucc
    ∗ (∃ d, owns c.tc (st3_0 t) fullShare ((dat3 V c).before 0 t d))
    ∗ (∃ d, owns c.tc (st3_1 t) fullShare ((dat3 V c).before 1 t d))
    ∗ (∃ d, owns c.tc (st3_2 t) fullShare ((dat3 V c).before 2 t d))
    ∗ (∃ d, owns c.tc (st3_3 t) fullShare ((dat3 V c).before 3 t d))
    ∗ (∃ d, owns c.tc (st3_4 t) fullShare ((dat3 V c).before 4 t d))
    ∗ (∃ d, owns c.tc (st3_5 t) fullShare ((dat3 V c).before 5 t d))
    ∗ (∃ d, owns c.tc (st3_6 t) fullShare ((dat3 V c).before 6 t d))
    ∗ (∃ d, owns c.tc (st3_7 t) fullShare ((dat3 V c).before 7 t d))
    ∗ (∃ d, owns c.tc (st3_8 t) fullShare ((dat3 V c).before 8 t d)))
def bodyPost3 : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

theorem leaves3_0 : (dat3 V c).leavesExact 0 t = owns c.tc (st3_0 t) fullShare (iblk3 V c 0 t) := rfl
theorem leaves3_1 : (dat3 V c).leavesExact 1 t = owns c.tc (st3_1 t) fullShare (iblk3 V c 1 t) := rfl
theorem leaves3_2 : (dat3 V c).leavesExact 2 t = owns c.tc (st3_2 t) fullShare (iblk3 V c 2 t) := rfl
theorem leaves3_3 : (dat3 V c).leavesExact 3 t = owns c.tc (st3_3 t) fullShare (iblk3 V c 3 t) := rfl
theorem leaves3_4 : (dat3 V c).leavesExact 4 t = owns c.tc (st3_4 t) fullShare (iblk3 V c 4 t) := rfl
theorem leaves3_5 : (dat3 V c).leavesExact 5 t = owns c.tc (st3_5 t) fullShare (iblk3 V c 5 t) := rfl
theorem leaves3_6 : (dat3 V c).leavesExact 6 t = owns c.tc (st3_6 t) fullShare (dqAt3 V c t) := rfl
theorem leaves3_7 : (dat3 V c).leavesExact 7 t = owns c.tc (st3_7 t) fullShare (dkAt3 V c t) := by
  unfold Dat.leavesExact; rw [live3_7 t, after3_7]
theorem leaves3_8 : (dat3 V c).leavesExact 8 t = owns c.tc (st3_8 t) fullShare (dvAt3 V c t) := by
  unfold Dat.leavesExact; rw [live3_8 t, after3_8]

set_option maxHeartbeats 1600000 in
theorem sound_body3 :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    leaves3_0, leaves3_1, leaves3_2, leaves3_3, leaves3_4, leaves3_5, leaves3_6, leaves3_7, leaves3_8]
  unfold dqAt3 dkAt3 dvAt3
  by_cases h : t.val % 2 = 0
  · rw [if_pos h, if_pos h]
    unfold dkA3 dvA3
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound3_A c (grid3.coords t) _ _ _ _ _ _ _ _ _ _ _ _ _ _ _ _ _ _ ((cond3_1 t).mpr h) (fun h' => by have := (cond3_2 t).mp h'; omega) (iblk3 V c 0 t) (iblk3 V c 1 t) (iblk3 V c 2 t) (iblk3 V c 3 t) (iblk3 V c 4 t) (iblk3 V c 5 t) Set.univ _)
    iframe H0 H1 H2 H3 H4 H5
    isplitl [H6]; · iexists _; iexact H6
    isplitl [H7]; · iexists _; iexact H7
    isplitl [H8]; · iexists _; iexact H8
    iintro ⟨H0, H1, H2, H3, H4, H5, H6, H7, H8⟩
    iframe
  · rw [if_neg h, if_neg h]
    have h1 : t.val % 2 = 1 := by omega
    simp only [before3_7 V c t h1, before3_8 V c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound3_B c (grid3.coords t) _ _ _ _ _ _ _ _ _ _ _ _ _ _ _ _ _ _ (fun h' => h ((cond3_1 t).mp h')) ((cond3_2 t).mpr h1) (iblk3 V c 0 t) (iblk3 V c 1 t) (iblk3 V c 2 t) (iblk3 V c 3 t) (iblk3 V c 4 t) (iblk3 V c 5 t) (dkA3 V c (prev3 t)) (dvA3 V c (prev3 t)) Set.univ _)
    iframe H0 H1 H2 H3 H4 H5
    isplitl [H6]; · iexists _; iexact H6
    isplitl [H7]; · iexact H7
    isplitl [H8]; · iexact H8
    iintro ⟨H0, H1, H2, H3, H4, H5, H6, H7, H8⟩
    iframe

theorem defs₀_row3 :
    defs₀ (F := F) .tc cfg3.body (cfg3.bodyArgs t (cfg3.slots t)) = bodyAt3 t := by
  unfold defs₀; rw [Defs.onTc_tc]

/-- The body meets the pipeline's obligation at every point. -/
theorem body_obligation3 : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Att

end
-- ==== Proof.Run.lean ====
/- The program's run: its host stretches and its four regions in order, what every buffer holds between them, and the run of
   the whole from any memory, at any floats. -/
module

public import proofs.«01_k».proof.Proof.Region0
public import proofs.«01_k».proof.Proof.Region1
public import proofs.«01_k».proof.Proof.Region2
public import proofs.«01_k».proof.Proof.Region3
public import proofs.«01_k».proof.Proof.Gen.KernelIdeal.Regions

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold between the items -/

abbrev argRefs : List (Ref sig .tc) := [main_arg0, main_arg1, main_arg2, main_arg3]

/-- At the launch. -/
abbrev W0 : Dev nD → Valuation τ sig (Elt F) := fun c b => (s₀ m ρ).mem ((c : Dev nD), b)
theorem W0_args (c : Dev nD) : ∀ a ∈ argRefs, W0 m ρ c (Proc.devRef .tc a) = m (c.tc.loc a) := fun _ _ => rfl

/-- After host stretch 0, where region 0 is entered. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m (c.tc.loc a) :=
  fun a ha => (W1_of m ρ c a (ListAll.forall_mem_of_all_decide (p := fun a => a ∉ hostOps0_W) (by decide +kernel) a ha)).trans (W0_args m ρ c a ha)
abbrev E1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is no output's array keeps what it holds across the region. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (E1 m ρ) c).arrAt_in w (h w rfl) _).trans (A_eq0 (E1 m ρ) c w))
  · exact W2_of_ne m ρ c r fun w e => hw ⟨w, e⟩
theorem args_in0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m (c.tc.loc a) :=
  fun a ha => (W2_of m ρ c a (args_in0 a ha)).trans (W1_args m ρ c a ha)
abbrev E2 : (c : Dev nD) → (b : Ref sig .tc) → Buf (Elt F) ((c : Thread nD τ).loc b) := fun c b => W2 m ρ c b
theorem exit_arr0 (c : Dev nD) (w : Fin cfg0.W) : (dat0 (E1 m ρ) c).arrAt w cfg0.N = E2 m ρ c (Pipeline.arrRef spec0 w) :=
  (W2_arr m ρ c w).symm

/-- After host stretch 1, where region 1 is entered. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m (c.tc.loc a) :=
  fun a ha => (W3_of m ρ c a (ListAll.forall_mem_of_all_decide (p := fun a => a ∉ hostOps1_W) (by decide +kernel) a ha)).trans (W2_args m ρ c a ha)
abbrev E3 : (c : Dev nD) → (b : Ref sig .tc) → Buf (Elt F) ((c : Thread nD τ).loc b) := fun c b => W3 m ρ c b
/-- After region 1: its arrays at what the pipeline leaves, every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A buffer that is no output's array keeps what it holds across the region. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (E3 m ρ) c).arrAt_in w (h w rfl) _).trans (A_eq1 (E3 m ρ) c w))
  · exact W4_of_ne m ρ c r fun w e => hw ⟨w, e⟩
theorem args_in1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m (c.tc.loc a) :=
  fun a ha => (W4_of m ρ c a (args_in1 a ha)).trans (W3_args m ρ c a ha)
abbrev E4 : (c : Dev nD) → (b : Ref sig .tc) → Buf (Elt F) ((c : Thread nD τ).loc b) := fun c b => W4 m ρ c b
theorem exit_arr1 (c : Dev nD) (w : Fin cfg1.W) : (dat1 (E3 m ρ) c).arrAt w cfg1.N = E4 m ρ c (Pipeline.arrRef spec1 w) :=
  (W4_arr m ρ c w).symm

/-- After host stretch 2, where region 2 is entered. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m (c.tc.loc a) :=
  fun a ha => (W5_of m ρ c a (ListAll.forall_mem_of_all_decide (p := fun a => a ∉ hostOps2_W) (by decide +kernel) a ha)).trans (W4_args m ρ c a ha)
abbrev E5 : (c : Dev nD) → (b : Ref sig .tc) → Buf (Elt F) ((c : Thread nD τ).loc b) := fun c b => W5 m ρ c b
/-- After region 2: its arrays at what the pipeline leaves, every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A buffer that is no output's array keeps what it holds across the region. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (E5 m ρ) c).arrAt_in w (h w rfl) _).trans (A_eq2 (E5 m ρ) c w))
  · exact W6_of_ne m ρ c r fun w e => hw ⟨w, e⟩
theorem args_in2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m (c.tc.loc a) :=
  fun a ha => (W6_of m ρ c a (args_in2 a ha)).trans (W5_args m ρ c a ha)
abbrev E6 : (c : Dev nD) → (b : Ref sig .tc) → Buf (Elt F) ((c : Thread nD τ).loc b) := fun c b => W6 m ρ c b
theorem exit_arr2 (c : Dev nD) (w : Fin cfg2.W) : (dat2 (E5 m ρ) c).arrAt w cfg2.N = E6 m ρ c (Pipeline.arrRef spec2 w) :=
  (W6_arr m ρ c w).symm

/-- After host stretch 3, where region 3 is entered. -/
abbrev W7 : Dev nD → Valuation τ sig (Elt F) := fun c => StableHlo.after hostOps3 (W6 m ρ c)
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m (c.tc.loc a) :=
  fun a ha => (W7_of m ρ c a (ListAll.forall_mem_of_all_decide (p := fun a => a ∉ hostOps3_W) (by decide +kernel) a ha)).trans (W6_args m ρ c a ha)
abbrev E7 : (c : Dev nD) → (b : Ref sig .tc) → Buf (Elt F) ((c : Thread nD τ).loc b) := fun c b => W7 m ρ c b
/-- After region 3: its arrays at what the pipeline leaves, every other buffer as entered. -/
def W8 (c : Dev nD) : Valuation τ sig (Elt F) :=
  Pipeline.withArrays spec3 c (W7 m ρ c) fun w => (dat3 (E7 m ρ) c).arrAt w cfg3.N
theorem W8_arr (c : Dev nD) (w : Fin cfg3.W) :
    W8 m ρ c (Proc.devRef .tc (Pipeline.arrRef spec3 w)) = (dat3 (E7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A buffer that is no output's array keeps what it holds across the region. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (E7 m ρ) c).arrAt_in w (h w rfl) _).trans (A_eq3 (E7 m ρ) c w))
  · exact W8_of_ne m ρ c r fun w e => hw ⟨w, e⟩
theorem args_in3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m (c.tc.loc a) :=
  fun a ha => (W8_of m ρ c a (args_in3 a ha)).trans (W7_args m ρ c a ha)
abbrev E8 : (c : Dev nD) → (b : Ref sig .tc) → Buf (Elt F) ((c : Thread nD τ).loc b) := fun c b => W8 m ρ c b
theorem exit_arr3 (c : Dev nD) (w : Fin cfg3.W) : (dat3 (E7 m ρ) c).arrAt w cfg3.N = E8 m ρ c (Pipeline.arrRef spec3 w) :=
  (W8_arr m ρ c w).symm

/-- After the last host stretch. -/
abbrev W9 : Dev nD → Valuation τ sig (Elt F) := fun c => StableHlo.after hostOps4 (W8 m ρ c)
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m (c.tc.loc a) :=
  fun a ha => (W9_of m ρ c a (ListAll.forall_mem_of_all_decide (p := fun a => a ∉ hostOps4_W) (by decide +kernel) a ha)).trans (W8_args m ρ c a ha)

/-! ## The items as segments -/

abbrev admits : (p : Fin 4) → (pcfgs (F := F) p).Adm := fun p => (cfgs p).toPCfg_adm
/-- Every pipeline's proof data, at the contents its region is entered with. -/
def pdats : (p : Fin 4) → (c : Dev nD) → Dat τ (Elt F) Unit ℕ (UR sig nD τ) ℕ (Pipeline.pin (pcfgs (F := F)) admits p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
abbrev noLevels : GSem nD τ sig → Finset Unit := fun _ => ∅
abbrev level : GSem nD τ sig → Unit → ℕ := fun _ _ => 0
/-- What rides beside the buffers: the generator register and the core owing nothing. -/
abbrev beside (c : Dev nD) : sProp 𝕄 := iprop((∃ r, prngReg c r) ∗ ∃ W, owes (c : Thread nD τ) (0 : CellTallies nD τ sig Unit) W)
/-- A host stretch over the buffers at `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels level :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_refs (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core ends with. -/
abbrev finalState (c : Dev nD) : sProp 𝕄 := iprop(StableHlo.held (c : Thread nD τ) (Pipeline.ucRefs τ sig) (W9 m ρ c) ∗ ∃ r, prngReg c r)

abbrev bufsAt (W : Dev nD → Valuation τ sig (Elt F)) : (c : Dev nD) → (b : Ref sig .tc) → Buf (Elt F) ((c : Thread nD τ).loc b) := fun c b => W c b
/-- The buffers at `W`, and what rides beside them. -/
abbrev state (W : Dev nD → Valuation τ sig (Elt F)) (c : Dev nD) : sProp 𝕄 :=
  iprop(StableHlo.held (c : Thread nD τ) (Pipeline.ucRefs τ sig) (W c) ∗ beside c)
/-- A region as a segment: entered from the buffers at `W`, left with them at `W'`. -/
def segOf (p : Fin 4) (L : Pipeline.LaunchFacts (nD := nD) (τ := τ) cfgs p) (W W' : Dev nD → Valuation τ sig (Elt F))
    (hb : ∀ c, BodyObligation (pdats m ρ p c) (defs₀ (F := F)) Variants.none () Set.univ)
    (ho : ∀ c t, (pdats m ρ p c).owed t = 0) (hrec : ∀ c x, x ∈ (pdats m ρ p c).recorded 0)
    (hΦ : ∀ c t, (pdats m ρ p c).Φ t = Pipeline.ΦA (cfgs p).spec c)
    (hq : ∀ c w, (pdats m ρ p c).share w = fullShare)
    (hA : ∀ c w, (pdats m ρ p c).A w = bufsAt W c (Pipeline.arrRef (cfgs p).spec w))
    (hE : ∀ c w, (pdats m ρ p c).arrAt w (cfgs p).N = bufsAt W' c (Pipeline.arrRef (cfgs p).spec w))
    (hR : ∀ c b, (∀ w, Pipeline.arrRef (cfgs p).spec w ≠ b) → bufsAt W' c b = bufsAt W c b) :
    Pipeline.RegionSeg (pcfgs (F := F)) admits (pdats m ρ) () defs₀ Variants.none noLevels level p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ noLevels level p ho
  pre := state W
  post := state W'
  X c := iprop(∃ r, prngReg c r)
  Y c := iprop(∃ r, prngReg c r)
  Z c := Pipeline.unscopedRest (Ix := Unit) (Name := ℕ) (U := UR sig nD τ) (Lvl := ℕ) (cfgs p).spec c (bufsAt W c)
  hentry c := by
    rw [Pipeline.ownSems0_none]
    have hsplit := Pipeline.arrays_of_unscopedBufs (p := p) (pcfgs (F := F)) admits (pdats m ρ) L.win L.arr_whole c (hq c) (bufsAt W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (hrec c _)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admits (Ix := Unit) (Name := ℕ) (U := UR sig nD τ) (Lvl := ℕ)
      L.win L.arr_whole c (pdats m ρ) (hq c) (bufsAt W c) (bufsAt W' c) ((pdats m ρ p c).arrAt · (cfgs p).N) (hE c)
      (fun b hb => hR c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

/-- Region 0, entered from the buffers at `W1`, left with them at `W2`. -/
def reg0 := segOf m ρ 0 launch0 (W1 m ρ) (W2 m ρ) (body_obligation0 _) (fun _ _ => rfl) (fun _ _ => trivial) (fun _ _ => rfl)
  (fun c => (pdats m ρ 0 c).share_full fun _ => rfl) (A_eq0 _) (exit_arr0 m ρ) (W2_of_ne m ρ)
/-- Region 1, entered from the buffers at `W3`, left with them at `W4`. -/
def reg1 := segOf m ρ 1 launch1 (W3 m ρ) (W4 m ρ) (body_obligation1 _) (fun _ _ => rfl) (fun _ _ => trivial) (fun _ _ => rfl)
  (fun c => (pdats m ρ 1 c).share_full fun _ => rfl) (A_eq1 _) (exit_arr1 m ρ) (W4_of_ne m ρ)
/-- Region 2, entered from the buffers at `W5`, left with them at `W6`. -/
def reg2 := segOf m ρ 2 launch2 (W5 m ρ) (W6 m ρ) (body_obligation2 _) (fun _ _ => rfl) (fun _ _ => trivial) (fun _ _ => rfl)
  (fun c => (pdats m ρ 2 c).share_full fun _ => rfl) (A_eq2 _) (exit_arr2 m ρ) (W6_of_ne m ρ)
/-- Region 3, entered from the buffers at `W7`, left with them at `W8`. -/
def reg3 := segOf m ρ 3 launch3 (W7 m ρ) (W8 m ρ) (body_obligation3 _) (fun _ _ => rfl) (fun _ _ => trivial) (fun _ _ => rfl)
  (fun c => (pdats m ρ 3 c).share_full fun _ => rfl) (A_eq3 _) (exit_arr3 m ρ) (W8_of_ne m ρ)

/-- The program's nine items in order. -/
abbrev items : List (Pipeline.Seg (pcfgs (F := F)) admits (pdats m ρ) () defs₀ Variants.none noLevels level) :=
  [ .host (hostSeg hostOps0 hostOps0_sub hostOps0_fresh (W0 m ρ)), .region (reg0 m ρ),
    .host (hostSeg hostOps1 hostOps1_sub hostOps1_fresh (W2 m ρ)), .region (reg1 m ρ),
    .host (hostSeg hostOps2 hostOps2_sub hostOps2_fresh (W4 m ρ)), .region (reg2 m ρ),
    .host (hostSeg hostOps3 hostOps3_sub hostOps3_fresh (W6 m ρ)), .region (reg3 m ρ),
    .host (hostSeg hostOps4 hostOps4_sub hostOps4_fresh (W8 m ρ)) ]
theorem main_items (c : Dev nD) : main (F := F) c = Pipeline.Seg.run (items m ρ) := (main_chain c).trans (by chain_rfl)

set_option backward.isDefEq.respectTransparency.types false in
/-- The run: from any memory with zero counters every execution ends, every buffer that outlives the regions holds what `W9`
    says, and every counter reads zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W9 m ρ c b) ∧ r.2.sem = fun _ => 0) :=
  Pipeline.θ_run_regions_kit_sems (pcfgs (F := F)) admits (pdats m ρ) () cellOf_inj emb₁ defs₀ Variants.none noLevels level m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := finalState m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ beside c) ⊢ _
        iintro ⟨Hh, Hp, HO⟩
        isplitl [Hh Hp]
        · isplitl [Hh]; · iexact Hh
          iexact Hp
        iexact HO⟩)
    (hinit := by
      refine Pipeline.initEach noLevels level fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨h, funext fun g => hz g (.inr (regions_no_unscoped g.2))⟩)

/-- The run's frame: the arguments end as launched and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c _ (mem_refs main_arg0 (by decide))).trans (W9_args m ρ c main_arg0 (by decide)),
     (h.1 c _ (mem_refs main_arg1 (by decide))).trans (W9_args m ρ c main_arg1 (by decide)),
     (h.1 c _ (mem_refs main_arg2 (by decide))).trans (W9_args m ρ c main_arg2 (by decide)),
     (h.1 c _ (mem_refs main_arg3 (by decide))).trans (W9_args m ρ c main_arg3 (by decide))⟩, h.2⟩) (run_main m ρ)

end Cert.KernelIdeal.Att

end
-- ==== Proof.NamedBits.lean ====
/- A named constant read as the bits it is printed with, so that a statement about the program with named constants at any
   floats gives the one about the program as printed. -/
module

public import proofs.«01_k».proof.Proof.Gen.Kernel.Launch
public import proofs.«01_k».proof.Proof.Run

@[expose] public section
namespace Cert.KernelIdeal.Att
open Idealize.ShloMosaic Idealize.ShloMosaic.TcCoe Idealize.SL.Sem

/-- A named constant at the bits' own reading. -/
@[reducible] noncomputable def namedBits : Named Bits := ⟨fun _ _ {φ} b => Scalar.ofBits φ b⟩

attribute [local instance] namedBits

set_option maxRecDepth 100000 in
theorem kernel_run (m : (ℓ : Loc Cert.Kernel.nD Cert.Kernel.τ Cert.Kernel.sig) → Buf (Elt Bits) ℓ) (g : Dev Cert.Kernel.nD → PrngReg) :
    (θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)) = (θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)) := by chain_rfl

/-- The frame of the program as printed. -/
theorem kernel_frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) :=
  (kernel_run m g).mp (run_frame (F := Bits) m g)
end Cert.KernelIdeal.Att
end
-- ==== Proof.Rows.lean ====
/- The mathematics of one head of causal attention's gradient, over rows counted by natural numbers: the masked scores of a
   query row, their maximum, the exponentials and their sum, the weights, and the gradients, with what truncating a row's
   sums at the last key that the mask admits leaves unchanged. Real queries and keys are enough: values and the incoming
   gradient may be any extended reals. -/
module

public import Idealize.ShloMosaic.Lib.Pointwise

@[expose] public section
noncomputable section

namespace Cert.Att
open Idealize.ShloMosaic

/-- An extended real that is a real. -/
def IsReal (x : EReal) : Prop := ∃ r : ℝ, x = r

variable (z : EReal) (Q K : ℕ → Fin 96 → EReal) (V D : ℕ → Fin 64 → EReal)

/-- The masked score of query row `R` and key `j`. -/
def score (R j : ℕ) : EReal := if j ≤ R then (∑ e, Q R e * K j e) * z else ⊥
/-- The greatest score of a row. -/
def top (R : ℕ) : EReal := (Finset.range (R + 1)).sup (score z Q K R)
/-- The exponential of a score less the row's greatest. -/
def ex (R j : ℕ) : EReal := Ideal.exp (score z Q K R j - top z Q K R)
/-- The sum of a row's exponentials. -/
def den (R : ℕ) : EReal := ∑ j ∈ Finset.range (R + 1), ex z Q K R j
/-- The attention weight. -/
def pr (R j : ℕ) : EReal := ex z Q K R j * Ideal.div 1 (den z Q K R)
/-- The gradient of the weight. -/
def dp (R j : ℕ) : EReal := ∑ u, D R u * V j u
/-- The row's correction: the weights against their gradients. -/
def dl (R : ℕ) : EReal := ∑ j ∈ Finset.range (R + 1), pr z Q K R j * dp V D R j
/-- The gradient of the unscaled score. -/
def ds (R j : ℕ) : EReal := pr z Q K R j * (dp V D R j - dl z Q K V D R) * z

/-- A comparison of two small words as one of the numbers. -/
theorem select_sle (a b : ℕ) (ha : a < 2 ^ 31) (hb : b < 2 ^ 31) (x y : EReal) :
    Scalar.select (IntOp.cmpi .sle (BitVec.ofNat 32 a) (BitVec.ofNat 32 b)) x y = if a ≤ b then x else y := by
  have e : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  simp only [IntOp.cmpi, Scalar.select]
  by_cases h : a ≤ b <;> simp [e, h]

theorem fold_fin {n R : ℕ} (h : R < n) :
    Finset.univ.fold max ⊥ (fun j : Fin n => score z Q K R j) = top z Q K R := by
  have e : Finset.univ.fold max ⊥ (fun j : Fin n => score z Q K R j) = Finset.univ.sup (fun j : Fin n => score z Q K R j) := rfl
  rw [e]
  refine le_antisymm (Finset.sup_le fun j _ => ?_) (Finset.sup_le fun j hj => ?_)
  · by_cases hj : (j : ℕ) ≤ R
    · exact Finset.le_sup (f := score z Q K R) (Finset.mem_range.2 (Nat.lt_succ_of_le hj))
    · simp [score, hj]
  · have hj' := Finset.mem_range.1 hj
    exact Finset.le_sup (f := fun j : Fin n => score z Q K R j) (Finset.mem_univ (⟨j, by omega⟩ : Fin n))

theorem sum_fin {n R : ℕ} (h : R < n) (f : ℕ → EReal) (hf : ∀ j, R < j → f j = 0) :
    ∑ j : Fin n, f j = ∑ j ∈ Finset.range (R + 1), f j := by
  rw [Fin.sum_univ_eq_sum_range f n]
  refine (Finset.sum_subset (fun x hx => ?_) fun x _ hx => ?_).symm
  · rw [Finset.mem_range] at *; omega
  · rw [Finset.mem_range] at hx; exact hf x (by omega)

theorem fin_sum {ι : Type*} (s : Finset ι) (f : ι → EReal) (h : ∀ i ∈ s, IsReal (f i)) : IsReal (∑ i ∈ s, f i) := by
  refine Finset.sum_induction f IsReal ?_ ⟨0, rfl⟩ h
  rintro a b ⟨x, rfl⟩ ⟨y, rfl⟩
  exact ⟨x + y, (EReal.coe_add x y).symm⟩

theorem fin_mul {a b : EReal} : IsReal a → IsReal b → IsReal (a * b) := by
  rintro ⟨x, rfl⟩ ⟨y, rfl⟩
  exact ⟨x * y, (EReal.coe_mul x y).symm⟩

variable {z Q K V D} (hz : IsReal z) (hQ : ∀ r e, IsReal (Q r e)) (hK : ∀ r e, IsReal (K r e))
include hz hQ hK

theorem score_fin {R j : ℕ} (h : j ≤ R) : IsReal (score z Q K R j) := by
  rw [score, if_pos h]
  exact fin_mul (fin_sum _ _ fun e _ => fin_mul (hQ R e) (hK j e)) hz

theorem top_fin (R : ℕ) : IsReal (top z Q K R) := by
  obtain ⟨j, hj, e⟩ := Finset.exists_mem_eq_sup (Finset.range (R + 1)) ⟨0, by simp⟩ (score z Q K R)
  rw [top, e]
  exact score_fin hz hQ hK (Nat.lt_succ_iff.1 (Finset.mem_range.1 hj))

theorem ex_pos {R j : ℕ} (h : j ≤ R) : ∃ y : ℝ, 0 < y ∧ ex z Q K R j = y := by
  obtain ⟨a, ha⟩ := score_fin hz hQ hK h
  obtain ⟨b, hb⟩ := top_fin hz hQ hK R
  refine ⟨Real.exp (a - b), Real.exp_pos _, ?_⟩
  rw [ex, ha, hb, ← EReal.coe_sub]
  rfl

theorem ex_zero {R j : ℕ} (h : R < j) : ex z Q K R j = 0 := by
  obtain ⟨b, hb⟩ := top_fin hz hQ hK R
  rw [ex, hb, score, if_neg (by omega), EReal.bot_sub]
  rfl

theorem den_pos (R : ℕ) : ∃ y : ℝ, 0 < y ∧ den z Q K R = y := by
  refine Finset.sum_induction_nonempty (ex z Q K R) (fun x => ∃ y : ℝ, 0 < y ∧ x = y) ?_ ⟨0, by simp⟩ ?_
  · rintro a b ⟨x, hx, rfl⟩ ⟨y, hy, rfl⟩
    exact ⟨x + y, add_pos hx hy, (EReal.coe_add x y).symm⟩
  · intro j hj
    exact ex_pos hz hQ hK (Nat.lt_succ_iff.1 (Finset.mem_range.1 hj))

theorem pr_zero {R j : ℕ} (h : R < j) : pr z Q K R j = 0 := by
  rw [pr, ex_zero hz hQ hK h, zero_mul]

theorem ds_zero {R j : ℕ} (h : R < j) : ds z Q K V D R j = 0 := by
  rw [ds, pr_zero hz hQ hK h, zero_mul, zero_mul]

theorem den_fin {n R : ℕ} (h : R < n) : ∑ j : Fin n, ex z Q K R j = den z Q K R :=
  sum_fin h _ fun _ hj => ex_zero hz hQ hK hj

theorem dl_fin {n R : ℕ} (h : R < n) : ∑ j : Fin n, pr z Q K R j * dp V D R j = dl z Q K V D R :=
  sum_fin h (fun j => pr z Q K R j * dp V D R j) fun _ hj => by rw [pr_zero hz hQ hK hj, zero_mul]

/-- The weight as a quotient. -/
theorem div_pr (R j : ℕ) : Ideal.div (ex z Q K R j) (den z Q K R) = pr z Q K R j := by
  obtain ⟨l, hl, e⟩ := den_pos hz hQ hK R
  rw [pr, e, Ideal.div_coe hl.ne', Ideal.div_coe hl.ne', one_mul]

omit hz hQ hK in
theorem real_mul_sum {ι : Type*} (s : Finset ι) (f : ι → EReal) {c : ℝ} (hc : 0 ≤ c) :
    ∑ i ∈ s, (c : EReal) * f i = c * ∑ i ∈ s, f i := by
  classical
  induction s using Finset.induction_on with
  | empty => simp
  | insert a s ha ih =>
    rw [Finset.sum_insert ha, Finset.sum_insert ha, ih,
      EReal.left_distrib_of_nonneg_of_ne_top (by exact_mod_cast hc) (EReal.coe_ne_top c)]

/-- The quotient rule's own form of the score's gradient, at a key that the mask admits. -/
theorem quotient_ds {n R : ℕ} (h : R < n) (j : ℕ) :
    (Ideal.div (dp V D R j) (den z Q K R)
        + -∑ x : Fin n, dp V D R x * Ideal.div 1 (den z Q K R * den z Q K R) * ex z Q K R x) * ex z Q K R j * z
      = ds z Q K V D R j := by
  rw [sum_fin h (fun x => dp V D R x * Ideal.div 1 (den z Q K R * den z Q K R) * ex z Q K R x)
    fun x hx => by rw [ex_zero hz hQ hK hx, mul_zero]]
  have hpr : ∀ x, pr z Q K R x = ex z Q K R x * Ideal.div 1 (den z Q K R) := fun _ => rfl
  rw [ds, dl]
  simp only [hpr]
  obtain ⟨l, hl, e⟩ := den_pos hz hQ hK R
  have hc : (0 : ℝ) ≤ 1 / l := by positivity
  rw [e, ← EReal.coe_mul, Ideal.div_coe (mul_pos hl hl).ne', Ideal.div_coe hl.ne', Ideal.div_coe hl.ne', one_mul, one_mul]
  have e2 : ((1 / (l * l) : ℝ) : EReal) = ((1 / l : ℝ) : EReal) * ((1 / l : ℝ) : EReal) := by
    rw [← EReal.coe_mul]; congr 1; field_simp
  have e3 : ∀ x, dp V D R x * ((1 / (l * l) : ℝ) : EReal) * ex z Q K R x
      = ((1 / l : ℝ) : EReal) * (ex z Q K R x * ((1 / l : ℝ) : EReal) * dp V D R x) := by
    intro x; rw [e2]; ac_rfl
  simp only [e3]
  rw [real_mul_sum _ _ hc, ← mul_neg, mul_comm (dp V D R j),
    ← EReal.left_distrib_of_nonneg_of_ne_top (by exact_mod_cast hc) (EReal.coe_ne_top _), ← sub_eq_add_neg]
  congr 1
  ac_rfl

theorem row_point {n R : ℕ} (h : R < n) (j : ℕ) :
    Ideal.exp (score z Q K R j - Finset.univ.fold max ⊥ (fun x : Fin n => score z Q K R x))
      * Ideal.div 1 (∑ y : Fin n, Ideal.exp (score z Q K R y - Finset.univ.fold max ⊥ (fun x : Fin n => score z Q K R x)))
      = pr z Q K R j := by
  rw [fold_fin z Q K h, pr, ← den_fin hz hQ hK h]
  rfl

omit hz hQ hK
theorem neg_inf_word : Ideal.ofBits .f32 0xFF800000#32 = ⊥ := by simp [Ideal.ofBits, Ideal.ieee]

/-- Lanes past the 96th are zero. -/
def pad (f : Fin 96 → EReal) (e : Fin 128) : EReal := if h : (e : ℕ) < 96 then f ⟨e, h⟩ else 0

theorem pad_lt (f : Fin 96 → EReal) (e : Fin 96) (h : (e : ℕ) < 128) : pad f ⟨e, h⟩ = f e := by
  rw [pad, dif_pos e.isLt]

/-- A product over 128 lanes of which the last 32 are padding. -/
theorem sum_padded (f g : Fin 96 → EReal) : ∑ e : Fin 128, pad f e * pad g e = ∑ e : Fin 96, f e * g e := by
  refine (Fin.sum_univ_add (a := 96) (b := 32) (fun e => pad f e * pad g e)).trans ?_
  have e1 : ∀ x : Fin 96, ((Fin.castAdd 32 x : Fin (96 + 32)) : ℕ) < 96 := fun x => x.isLt
  have e2 : ∀ x : Fin 32, ¬ ((Fin.natAdd 96 x : Fin (96 + 32)) : ℕ) < 96 := fun x => by simp
  simp [pad, e1, e2]

variable (z Q K V D)
/-- The gradient of the queries. -/
def dqv (R : ℕ) (e : Fin 96) : EReal := ∑ j ∈ Finset.range (R + 1), ds z Q K V D R j * K j e
/-- The same over 128 lanes, the last 32 of them padding. -/
def dqp (R : ℕ) (e : Fin 128) : EReal := ∑ j ∈ Finset.range (R + 1), ds z Q K V D R j * pad (K j) e
/-- The gradient of the keys. -/
def dkv (j : ℕ) (e : Fin 96) : EReal := ∑ R ∈ Finset.range 2176, ds z Q K V D R j * Q R e
/-- The gradient of the values. -/
def dvv (j : ℕ) (u : Fin 64) : EReal := ∑ R ∈ Finset.range 2176, pr z Q K R j * D R u

/-- The scale as the programs hold it. -/
def scale : EReal := Ideal.ofBits .f32 0x3DD105EC#32

theorem scale_fin : IsReal scale := by
  simp only [scale, Ideal.ofBits, Ideal.ieee]
  norm_num
  exact ⟨_, rfl⟩

/-- One head of a `2176 × 8 × n` array, its rows counted by natural numbers (zero past the last). -/
def rows {n : ℕ} (a : FVec Ideal ⟨3, ![2176, 8, n]⟩ .f32) (h : Fin 8) (r : ℕ) (e : Fin n) : EReal :=
  if hr : r < 2176 then a (ix3 ⟨r, hr⟩ h e) else 0

theorem rows_val {n : ℕ} (a : FVec Ideal ⟨3, ![2176, 8, n]⟩ .f32) (h : Fin 8) (r : Fin 2176) (e : Fin n) :
    rows a h r e = a (ix3 r h e) := by
  simp [rows, r.isLt]

theorem rows_fin {n : ℕ} (a : FVec Ideal ⟨3, ![2176, 8, n]⟩ .f32) (ha : ∀ i, IsReal (a i)) (h : Fin 8) (r : ℕ) (e : Fin n) :
    IsReal (rows a h r e) := by
  unfold rows
  split
  · exact ha _
  · exact ⟨0, rfl⟩

end Cert.Att
end
-- ==== Proof.Operands.lean ====
/- The contents of the buffers that the four calls of the gradient read, in the rows of a head. -/
module

public import proofs.«01_k».proof.KernelIdeal
public import proofs.«01_k».proof.Proof.Rows

@[expose] public section
set_option maxRecDepth 16384
noncomputable section

namespace Cert.KernelIdeal.Att
open Cert.KernelIdeal Idealize.ShloMosaic Idealize.ShloMosaic.TcCoe Idealize.SL.Sem Cert.Att

/-- An index by its three coordinates. -/
theorem idx_eq {n0 n1 n2 : ℕ} (i : (⟨3, ![n0, n1, n2]⟩ : Shape).Idx) (a : Fin n0) (b : Fin n1) (c : Fin n2)
    (h0 : (i 0 : ℕ) = a) (h1 : (i 1 : ℕ) = b) (h2 : (i 2 : ℕ) = c) : i = ix3 a b c :=
  (eq_ix3 i).trans (congr (congr (congrArg ix3 (Fin.ext h0)) (Fin.ext h1)) (Fin.ext h2))

/-- The padded queries and keys, the values and the output's gradient, head by head: row `r` of head `h` is `Q h r`, … -/
structure Operands (x3 x6 : FVec Ideal S8x2176x128 .bf16) (x8 : FVec Ideal S8x2176x64 .bf16) (x9 : FVec Ideal S8x2176x64 .f32)
    (Q K : Fin 8 → ℕ → Fin 96 → EReal) (U D : Fin 8 → ℕ → Fin 64 → EReal) : Prop where
  q : ∀ (h : Fin 8) (r : Fin 2176) (e : Fin 128), x3 (ix3 h r e) = pad (Q h r) e
  k : ∀ (h : Fin 8) (r : Fin 2176) (e : Fin 128), x6 (ix3 h r e) = pad (K h r) e
  v : ∀ (h : Fin 8) (r : Fin 2176) (u : Fin 64), x8 (ix3 h r u) = U h r u
  d : ∀ (h : Fin 8) (r : Fin 2176) (u : Fin 64), x9 (ix3 h r u) = D h r u
  qreal : ∀ h r e, IsReal (Q h r e)
  kreal : ∀ h r e, IsReal (K h r e)

theorem Operands.of_eq {x3 x6 y3 y6 : FVec Ideal S8x2176x128 .bf16} {x8 y8 : FVec Ideal S8x2176x64 .bf16} {x9 y9 : FVec Ideal S8x2176x64 .f32}
    {Q K : Fin 8 → ℕ → Fin 96 → EReal} {U D : Fin 8 → ℕ → Fin 64 → EReal} (h : Operands x3 x6 x8 x9 Q K U D)
    (e3 : y3 = x3) (e6 : y6 = x6) (e8 : y8 = x8) (e9 : y9 = x9) : Operands y3 y6 y8 y9 Q K U D := by
  subst e3 e6 e8 e9
  exact h

/-- The four calls' sums, from the last rows to the first, are the sum over all rows. -/
theorem four_segments (f : ℕ → EReal) :
    ((((0 : EReal) + ∑ s ∈ Finset.range 544, f (1632 + s)) + ∑ s ∈ Finset.range 544, f (1088 + s)) + ∑ s ∈ Finset.range 544, f (544 + s))
      + ∑ s ∈ Finset.range 544, f (0 + s) = ∑ R ∈ Finset.range 2176, f R := by
  rw [show (2176 : ℕ) = 544 + (544 + (544 + 544)) from rfl, Finset.sum_range_add, Finset.sum_range_add, Finset.sum_range_add]
  simp only [zero_add, ← add_assoc, show 544 + 544 = 1088 from rfl, show 1088 + 544 = 1632 from rfl]
  ac_rfl

section
variable (B : ℕ) (Q K : Fin 8 → ℕ → Fin 96 → EReal) (U D : Fin 8 → ℕ → Fin 64 → EReal)

/-- The queries' gradient of the 544 queries from row `B` on, -/
def dqG : FVec Ideal S8x544x128 .f32 := fun i => dqp scale (Q (i 0)) (K (i 0)) (U (i 0)) (D (i 0)) (B + (i 1 : ℕ)) (i 2)
/-- what they add to the keys' gradient, -/
def dkG (dk : FVec Ideal S8x2176x128 .f32) : FVec Ideal S8x2176x128 .f32 := fun i =>
  (dk i : EReal) + ∑ s ∈ Finset.range 544, ds scale (Q (i 0)) (K (i 0)) (U (i 0)) (D (i 0)) (B + s) (i 1) * pad (Q (i 0) (B + s)) (i 2)
/-- and to the values'. -/
def dvG (dv : FVec Ideal S8x2176x64 .f32) : FVec Ideal S8x2176x64 .f32 := fun i =>
  (dv i : EReal) + ∑ s ∈ Finset.range 544, pr scale (Q (i 0)) (K (i 0)) (B + s) (i 1) * D (i 0) (B + s) (i 2)

/-- Two blocks of 272 rows are 544 rows. -/
theorem two_blocks (a : EReal) (f : ℕ → EReal) (b : ℕ) (hb : b * 272 = B) :
    (a + ∑ r : Fin 272, f ((b + 0) * 272 + r)) + ∑ r : Fin 272, f ((b + 1) * 272 + r) = a + ∑ s ∈ Finset.range 544, f (B + s) := by
  rw [add_assoc, Fin.sum_univ_eq_sum_range (fun r => f ((b + 0) * 272 + r)) 272,
    Fin.sum_univ_eq_sum_range (fun r => f ((b + 1) * 272 + r)) 272,
    show (544 : ℕ) = 272 + 272 from rfl, Finset.sum_range_add]
  refine congrArg (a + ·) (congrArg₂ (· + ·) ?_ ?_) <;> refine Finset.sum_congr rfl fun r _ => congrArg f ?_ <;> omega

variable {Q K}
/-- Queries add nothing to the keys after them. -/
theorem dkG_after (hQ : ∀ h r e, IsReal (Q h r e)) (hK : ∀ h r e, IsReal (K h r e)) (dk : FVec Ideal S8x2176x128 .f32)
    (i : S8x2176x128.Idx) (hi : B + 544 ≤ (i 1 : ℕ)) : dk i = dkG B Q K U D dk i := by
  unfold dkG
  rw [Finset.sum_eq_zero, add_zero]
  intro s hs
  have := Finset.mem_range.mp hs
  have e : ds scale (Q (i 0)) (K (i 0)) (U (i 0)) (D (i 0)) (B + s) (i 1) = 0 := ds_zero scale_fin (hQ _) (hK _) (by omega)
  exact (congrArg (· * _) e).trans (zero_mul _)

theorem dvG_after (hQ : ∀ h r e, IsReal (Q h r e)) (hK : ∀ h r e, IsReal (K h r e)) (dv : FVec Ideal S8x2176x64 .f32)
    (i : S8x2176x64.Idx) (hi : B + 544 ≤ (i 1 : ℕ)) : dv i = dvG B Q K D dv i := by
  unfold dvG
  rw [Finset.sum_eq_zero, add_zero]
  intro s hs
  have := Finset.mem_range.mp hs
  have e : pr scale (Q (i 0)) (K (i 0)) (B + s) (i 1) = 0 := pr_zero scale_fin (hQ _) (hK _) (by omega)
  exact (congrArg (· * _) e).trans (zero_mul _)
end

end Cert.KernelIdeal.Att
-- ==== Proof.Entry.lean ====
/- What the host computes before the first call: the heads' rows, padded to the lanes of a block, and two zero accumulators. -/
module

public import proofs.«01_k».proof.Proof.Run
public import proofs.«01_k».proof.Proof.Operands

@[expose] public section
set_option maxRecDepth 16384
noncomputable section

namespace Cert.KernelIdeal.Att
open Cert.KernelIdeal Cert.KernelIdeal.Gen Idealize.ShloMosaic Idealize.ShloMosaic.TcCoe Idealize.SL.Sem Cert.Att

variable (m : (ℓ : Loc nD τ sig) → Buf (Elt Ideal) ℓ) (ρ : Dev nD → PrngReg) (c : Dev nD)
  (a b : FVec Ideal S2176x8x96 .f32) (v d : FVec Ideal S2176x8x64 .f32)
  (ha : m (c.tc.loc main_arg0) = a) (hb : m (c.tc.loc main_arg1) = b)
  (hv : m (c.tc.loc main_arg2) = v) (hd : m (c.tc.loc main_arg3) = d)

include ha in
theorem entry_q (h : Fin 8) (r : Fin 2176) (e : Fin 128) : (W1 m ρ c (Proc.devRef .tc main_v3) : FVec Ideal S8x2176x128 .bf16) (ix3 h r e) = Att.pad (rows a h r) e := by
  after_results
  rw [show W0 m ρ c (Proc.devRef .tc main_arg0) = a from ha]
  unfold Att.pad
  pointwise [rows]
  trace_state

include hb in
theorem entry_k (h : Fin 8) (r : Fin 2176) (e : Fin 128) : (W1 m ρ c (Proc.devRef .tc main_v6) : FVec Ideal S8x2176x128 .bf16) (ix3 h r e) = Att.pad (rows b h r) e := by
  after_results
  rw [show W0 m ρ c (Proc.devRef .tc main_arg1) = b from hb]
  unfold Att.pad
  pointwise [rows]
  trace_state

include hv in
theorem entry_v (h : Fin 8) (r : Fin 2176) (u : Fin 64) : (W1 m ρ c (Proc.devRef .tc main_v8) : FVec Ideal S8x2176x64 .bf16) (ix3 h r u) = rows v h r u := by
  after_results
  rw [show W0 m ρ c (Proc.devRef .tc main_arg2) = v from hv]
  pointwise [rows]

include hd in
theorem entry_d (h : Fin 8) (r : Fin 2176) (u : Fin 64) : (W1 m ρ c (Proc.devRef .tc main_v9) : FVec Ideal S8x2176x64 .f32) (ix3 h r u) = rows d h r u := by
  after_results
  rw [show W0 m ρ c (Proc.devRef .tc main_arg3) = d from hd]
  pointwise [rows]

/-- The accumulators at the start. -/
def dkZero : FVec Ideal S8x2176x128 .f32 := fun _ => (0 : EReal)
def dvZero : FVec Ideal S8x2176x64 .f32 := fun _ => (0 : EReal)

theorem entry_dk : W1 m ρ c (Proc.devRef .tc main_v10) = dkZero := by
  after_results
  funext i
  exact Ideal.ofBits_zero .f32
theorem entry_dv : W1 m ρ c (Proc.devRef .tc main_v11) = dvZero := by
  after_results
  funext i
  exact Ideal.ofBits_zero .f32
theorem entry_dk' : W1 m ρ c (Proc.devRef .tc main_v12_1) = dkZero := by
  after_results
  funext i
  exact Ideal.ofBits_zero .f32
theorem entry_dv' : W1 m ρ c (Proc.devRef .tc main_v12_2) = dvZero := by
  after_results
  funext i
  exact Ideal.ofBits_zero .f32

include ha hb hv hd in
theorem entry (fa : ∀ i, IsReal (a i)) (fb : ∀ i, IsReal (b i)) :
    Operands (E1 m ρ c main_v3) (E1 m ρ c main_v6) (E1 m ρ c main_v8) (E1 m ρ c main_v9) (rows a) (rows b) (rows v) (rows d) where
  q := entry_q m ρ c a ha
  k := entry_k m ρ c b hb
  v := entry_v m ρ c v hv
  d := entry_d m ρ c d hd
  qreal := rows_fin a fa
  kreal := rows_fin b fb

end Cert.KernelIdeal.Att
-- ==== Proof.Block0.lean ====
/- What one grid step of the gradient's call over keys 0 … 2175 computes, element by element, in the row formulas of its head:
   its rows are the 272-row block of queries that its number names. -/
module

public import proofs.«01_k».proof.Proof.Region0
public import proofs.«01_k».proof.Proof.Rows

@[expose] public section
set_option maxRecDepth 16384
noncomputable section

namespace Cert.KernelIdeal.Att
open Cert.KernelIdeal Cert.KernelIdeal.Gen Idealize.ShloMosaic Idealize.ShloMosaic.TcCoe Idealize.SL.Sem Cert.Att

section
variable (i : grid0.Coords) (x0 : FVec Ideal S1x272x128 .bf16) (x1 : FVec Ideal S1x2176x128 .bf16)
  (x2 : FVec Ideal S1x2176x64 .bf16) (x3 : FVec Ideal S1x272x64 .f32)
  (Q K : ℕ → Fin 96 → EReal) (V D : ℕ → Fin 64 → EReal)

/-- The query row of block row `r`. -/
def row0 (r : Fin 272) : ℕ := (6 + (i 1 : ℕ)) * 272 + r

theorem row0_lt (r : Fin 272) : row0 i r < 2176 := by
  have h1 : (i 1 : ℕ) < 2 := (i 1).isLt
  have h2 := r.isLt
  unfold row0; omega

theorem row0_word (r : Fin 272) :
    IntOp.addi (Scalar.muli (Scalar.addi (6#32) (BitVec.ofNat 32 (i 1 : ℕ))) 272#32) (BitVec.ofNat 32 (r : ℕ)) = BitVec.ofNat 32 (row0 i r) := by
  have e : ∀ a b : ℕ, IntOp.addi (Scalar.muli (Scalar.addi (6#32) (BitVec.ofNat 32 a)) 272#32) (BitVec.ofNat 32 b) = BitVec.ofNat 32 ((6 + a) * 272 + b) := by
    intro a b
    simp only [BitVec.ofNat_add, BitVec.ofNat_mul]
    rfl
  exact e _ _

theorem mask0 : (Named.named κ "mask" (0xF149F2CA#32 : BitVec (FTy.f32).bits) : Ideal .f32) = (⊥ : EReal) := rfl

theorem q0_word (r : Fin 272) (e : Fin 128) : k0_pay9 (F := Ideal) x0 (ix2 r e) = x0 (ix3 0 r e) := by
  pointwise [k0_pay9]
theorem k0_word (j : Fin 2176) (e : Fin 128) : k0_pay10 (F := Ideal) x1 (ix2 j e) = x1 (ix3 0 j e) := by
  pointwise [k0_pay10]
theorem do0_word (r : Fin 272) (u : Fin 64) : k0_pay11 (F := Ideal) x3 (ix2 r u) = x3 (ix3 0 r u) := by
  pointwise [k0_pay11]

theorem dp0_word (r : Fin 272) (j : Fin 2176) : k0_pay13 (F := Ideal) x2 x3 (ix2 r j) = ∑ u : Fin 64, x3 (ix3 0 r u) * x2 (ix3 0 j u) := by
  pointwise [k0_pay13, k0_pay11]

theorem dl0_word (r : Fin 272) : k0_pay14 (F := Ideal) i x0 x1 x2 x3 (ix2 r 0)
    = ∑ j : Fin 2176, k0_pay12 (F := Ideal) i x0 x1 (ix2 r j) * k0_pay13 (F := Ideal) x2 x3 (ix2 r j) := by
  pointwise [k0_pay14]

theorem ds0_word (p g : FVec Ideal S272x2176 .f32) (l : FVec Ideal S272x1 .f32) (r : Fin 272) (j : Fin 2176) :
    k0_pay1 (F := Ideal) p g l (ix2 r j) = p (ix2 r j) * (g (ix2 r j) - l (ix2 r 0)) * Ideal.ofBits .f32 0x3DD105EC#32 := by
  pointwise [k0_pay1]

theorem dq0_word (k : FVec Ideal S2176x128 .bf16) (p g : FVec Ideal S272x2176 .f32) (l : FVec Ideal S272x1 .f32) (r : Fin 272) (e : Fin 128) :
    k0_pay2 (F := Ideal) k p g l (ix3 0 r e) = ∑ j : Fin 2176, k0_pay1 (F := Ideal) p g l (ix2 r j) * k (ix2 j e) := by
  pointwise [k0_pay2]

theorem dk0_word (q : FVec Ideal S272x128 .bf16) (p g : FVec Ideal S272x2176 .f32) (l : FVec Ideal S272x1 .f32)
    (acc : FVec Ideal S1x2176x128 .f32) (j : Fin 2176) (e : Fin 128) :
    k0_pay5 (F := Ideal) q p g l acc (ix3 0 j e) = acc (ix3 0 j e) + ∑ r : Fin 272, k0_pay1 (F := Ideal) p g l (ix2 r j) * q (ix2 r e) := by
  pointwise [k0_pay5, k0_pay3]

theorem dv0_word (d : FVec Ideal S272x64 .bf16) (p : FVec Ideal S272x2176 .f32) (acc : FVec Ideal S1x2176x64 .f32) (j : Fin 2176) (u : Fin 64) :
    k0_pay6 (F := Ideal) d p acc (ix3 0 j u) = acc (ix3 0 j u) + ∑ r : Fin 272, p (ix2 r j) * d (ix2 r u) := by
  pointwise [k0_pay6, k0_pay4]

/-- The masked score as the step forms it. -/
def sc0 (r : Fin 272) (j : Fin 2176) : EReal :=
  Scalar.select (IntOp.cmpi .sle (BitVec.ofNat 32 (j : ℕ)) (IntOp.addi (Scalar.muli (Scalar.addi (6#32) (BitVec.ofNat 32 (i 1 : ℕ))) 272#32) (BitVec.ofNat 32 (r : ℕ))))
    ((∑ e : Fin 128, x0 (ix3 0 r e) * x1 (ix3 0 j e)) * Ideal.ofBits .f32 0x3DD105EC#32) (Named.named κ "mask" (0xF149F2CA#32 : BitVec (FTy.f32).bits) : Ideal .f32)

theorem p0_word (r : Fin 272) (j : Fin 2176) : k0_pay12 (F := Ideal) i x0 x1 (ix2 r j)
    = Ideal.exp (sc0 i x0 x1 r j - Finset.univ.fold max (Ideal.ofBits .f32 0xFF800000#32) (fun x => sc0 i x0 x1 r x))
      * Ideal.div 1 (∑ y : Fin 2176, Ideal.exp (sc0 i x0 x1 r y - Finset.univ.fold max (Ideal.ofBits .f32 0xFF800000#32) (fun x => sc0 i x0 x1 r x))) := by
  simp only [sc0]
  pointwise [k0_pay12, k0_pay9, k0_pay10]

variable (h0 : ∀ (r : Fin 272) (e : Fin 128), x0 (ix3 0 r e) = pad (Q (row0 i r)) e)
  (h1 : ∀ (j : Fin 2176) (e : Fin 128), x1 (ix3 0 j e) = pad (K j) e)
  (h2 : ∀ (j : Fin 2176) (u : Fin 64), x2 (ix3 0 j u) = V j u)
  (h3 : ∀ (r : Fin 272) (u : Fin 64), x3 (ix3 0 r u) = D (row0 i r) u)
  (hQ : ∀ r e, IsReal (Q r e)) (hK : ∀ r e, IsReal (K r e))

include h0 h1 in
theorem sc0_point (r : Fin 272) (j : Fin 2176) : sc0 i x0 x1 r j = score scale Q K (row0 i r) j := by
  unfold sc0
  rw [row0_word, select_sle _ _ (by omega) (lt_trans (row0_lt i r) (by norm_num)), mask0, score]
  simp only [h0, h1, sum_padded, scale]

include h0 h1 hQ hK in
theorem p0_point (r : Fin 272) (j : Fin 2176) : k0_pay12 (F := Ideal) i x0 x1 (ix2 r j) = pr scale Q K (row0 i r) j := by
  rw [p0_word]
  simp only [sc0_point i x0 x1 Q K h0 h1, neg_inf_word]
  exact row_point scale_fin hQ hK (row0_lt i r) j

include h2 h3 in
theorem dp0_point (r : Fin 272) (j : Fin 2176) : k0_pay13 (F := Ideal) x2 x3 (ix2 r j) = dp V D (row0 i r) j := by
  rw [dp0_word, dp]
  simp only [h2, h3]

include h0 h1 h2 h3 hQ hK in
theorem dl0_point (r : Fin 272) : k0_pay14 (F := Ideal) i x0 x1 x2 x3 (ix2 r 0) = dl scale Q K V D (row0 i r) := by
  rw [dl0_word, ← dl_fin scale_fin hQ hK (row0_lt i r)]
  simp only [p0_point i x0 x1 Q K h0 h1 hQ hK, dp0_point i x2 x3 V D h2 h3]

include h0 h1 h2 h3 hQ hK in
theorem ds0_point (r : Fin 272) (j : Fin 2176) :
    k0_pay1 (F := Ideal) (k0_pay12 i x0 x1) (k0_pay13 x2 x3) (k0_pay14 i x0 x1 x2 x3) (ix2 r j) = ds scale Q K V D (row0 i r) j := by
  rw [ds0_word, p0_point i x0 x1 Q K h0 h1 hQ hK, dp0_point i x2 x3 V D h2 h3, dl0_point i x0 x1 x2 x3 Q K V D h0 h1 h2 h3 hQ hK]
  rfl

include h0 h1 h2 h3 hQ hK in
/-- A step's rows of the queries' gradient. -/
theorem dqOut0_point (r : Fin 272) (e : Fin 128) :
    dqOut0 (F := Ideal) i x0 x1 x2 x3 (ix3 0 r e) = dqp scale Q K V D (row0 i r) e := by
  refine (dq0_word _ _ _ _ r e).trans ?_
  rw [dqp, ← sum_fin (row0_lt i r) (fun j => ds scale Q K V D (row0 i r) j * pad (K j) e)
    fun j hj => by rw [ds_zero scale_fin hQ hK hj, zero_mul]]
  refine Finset.sum_congr rfl fun j _ => ?_
  rw [ds0_point i x0 x1 x2 x3 Q K V D h0 h1 h2 h3 hQ hK, k0_word, h1]

include h0 h1 h2 h3 hQ hK in
/-- A step's addition to the keys' gradient. -/
theorem dkAdd0_point (acc : FVec Ideal S1x2176x128 .f32) (j : Fin 2176) (e : Fin 128) :
    dkAdd0 (F := Ideal) i x0 x1 x2 x3 acc (ix3 0 j e)
      = acc (ix3 0 j e) + ∑ r : Fin 272, ds scale Q K V D (row0 i r) j * pad (Q (row0 i r)) e := by
  refine (dk0_word _ _ _ _ acc j e).trans (congrArg (acc (ix3 0 j e) + ·) ?_)
  refine Finset.sum_congr rfl fun r _ => ?_
  rw [ds0_point i x0 x1 x2 x3 Q K V D h0 h1 h2 h3 hQ hK, q0_word, h0]

include h0 h1 h3 hQ hK in
/-- A step's addition to the values' gradient. -/
theorem dvAdd0_point (acc : FVec Ideal S1x2176x64 .f32) (j : Fin 2176) (u : Fin 64) :
    dvAdd0 (F := Ideal) i x0 x1 x3 acc (ix3 0 j u)
      = acc (ix3 0 j u) + ∑ r : Fin 272, pr scale Q K (row0 i r) j * D (row0 i r) u := by
  refine (dv0_word _ _ acc j u).trans (congrArg (acc (ix3 0 j u) + ·) ?_)
  refine Finset.sum_congr rfl fun r _ => ?_
  rw [p0_point i x0 x1 Q K h0 h1 hQ hK, do0_word, h3]

end
end Cert.KernelIdeal.Att
end
-- ==== Proof.Array0.lean ====
/- What the gradient's call over keys 0 … 2175 leaves in its three results, as a function of the contents of its operands. -/
module

public import proofs.«01_k».proof.Proof.Block0
public import proofs.«01_k».proof.Proof.Operands

@[expose] public section
set_option maxRecDepth 16384
noncomputable section

namespace Cert.KernelIdeal.Att
open Cert.KernelIdeal Cert.KernelIdeal.Gen Idealize.ShloMosaic Idealize.ShloMosaic.TcCoe Idealize.SL.Sem Cert.Att

/-- The blocks of grid point `t`: head `t / 2`, block `t % 2` of the call's queries. -/
theorem at0 : ∀ t : Fin cfg0.N, win0_0.index t = ![t.val / 2, 6 + t.val % 2, 0] ∧ win0_1.index t = ![t.val / 2, 0, 0]
    ∧ win0_2.index t = ![t.val / 2, 0, 0] ∧ win0_3.index t = ![t.val / 2, 6 + t.val % 2, 0]
    ∧ win0_4.index t = ![t.val / 2, 0, 0] ∧ win0_5.index t = ![t.val / 2, 0, 0]
    ∧ win0_6.index t = ![t.val / 2, t.val % 2, 0] ∧ win0_7.index t = ![t.val / 2, 0, 0] ∧ win0_8.index t = ![t.val / 2, 0, 0]
    ∧ ((grid0.coords t) 1 : ℕ) = t.val % 2 :=
  (by decide +kernel : ∀ t : Fin grid0.N, _)

/-- The head of a grid point. -/
def head0 (t : Fin cfg0.N) : Fin 8 := ⟨t.val / 2, by have h : t.val < 16 := t.isLt; omega⟩

section
variable (V : (c : Dev nD) → (b : Ref sig .tc) → Buf (Elt Ideal) ((c : Thread nD τ).loc b)) (c : Dev nD)
  (Q K : Fin 8 → ℕ → Fin 96 → EReal) (U D : Fin 8 → ℕ → Fin 64 → EReal)
  (O : Operands (V c main_v3) (V c main_v6) (V c main_v8) (V c main_v9) Q K U D)
include O

theorem q0_block (t : Fin cfg0.N) (r : Fin 272) (e : Fin 128) :
    (iblk0 V c 0 t : FVec Ideal S1x272x128 .bf16) (ix3 0 r e) = pad (Q (head0 t) (row0 (grid0.coords t) r)) e := by
  have hr := row0_lt (grid0.coords t) r
  rw [← O.q (head0 t) ⟨row0 (grid0.coords t) r, by omega⟩ e]
  have h1 := (at0 t).2.2.2.2.2.2.2.2.2
  blk_point [iblk0, at0 t, head0, row0]

theorem k0_block (t : Fin cfg0.N) (j : Fin 2176) (e : Fin 128) :
    (iblk0 V c 1 t : FVec Ideal S1x2176x128 .bf16) (ix3 0 j e) = pad (K (head0 t) j) e := by
  have hj := j.isLt
  rw [← O.k (head0 t) ⟨j, by omega⟩ e]
  blk_point [iblk0, at0 t, head0]

theorem v0_block (t : Fin cfg0.N) (j : Fin 2176) (u : Fin 64) :
    (iblk0 V c 2 t : FVec Ideal S1x2176x64 .bf16) (ix3 0 j u) = U (head0 t) j u := by
  have hj := j.isLt
  rw [← O.v (head0 t) ⟨j, by omega⟩ u]
  blk_point [iblk0, at0 t, head0]

theorem d0_block (t : Fin cfg0.N) (r : Fin 272) (u : Fin 64) :
    (iblk0 V c 3 t : FVec Ideal S1x272x64 .f32) (ix3 0 r u) = D (head0 t) (row0 (grid0.coords t) r) u := by
  have hr := row0_lt (grid0.coords t) r
  rw [← O.d (head0 t) ⟨row0 (grid0.coords t) r, by omega⟩ u]
  have h1 := (at0 t).2.2.2.2.2.2.2.2.2
  blk_point [iblk0, at0 t, head0, row0]

omit O

variable (dk : FVec Ideal S8x2176x128 .f32) (dv : FVec Ideal S8x2176x64 .f32)
  (hdk : V c main_v10 = dk) (hdv : V c main_v11 = dv)
  (hdk' : V c main_v12_1 = dk) (hdv' : V c main_v12_2 = dv)
include hdk in
theorem dk0_block (t : Fin cfg0.N) (j : Fin 2176) (hj : (j : ℕ) < 2176) (e : Fin 128) :
    (iblk0 V c 4 t : FVec Ideal S1x2176x128 .f32) (ix3 0 j e) = dk (ix3 (head0 t) ⟨j, hj⟩ e) := by
  rw [← hdk]
  blk_point [iblk0, at0 t, head0]

include hdv in
theorem dv0_block (t : Fin cfg0.N) (j : Fin 2176) (hj : (j : ℕ) < 2176) (u : Fin 64) :
    (iblk0 V c 5 t : FVec Ideal S1x2176x64 .f32) (ix3 0 j u) = dv (ix3 (head0 t) ⟨j, hj⟩ u) := by
  rw [← hdv]
  blk_point [iblk0, at0 t, head0]

theorem row0_at (t : Fin cfg0.N) (r : Fin 272) : row0 (grid0.coords t) r = (6 + t.val % 2) * 272 + r := by
  unfold row0; rw [(at0 t).2.2.2.2.2.2.2.2.2]

include O in
theorem dqAt0_at (t : Fin cfg0.N) (r : Fin 272) (e : Fin 128) (h : ((t.val % 2) * 272 + r : ℕ) < 544) :
    dqAt0 (F := Ideal) V c t (ix3 0 r e) = dqG 1632 Q K U D (ix3 (head0 t) ⟨(t.val % 2) * 272 + r, h⟩ e) := by
  unfold dqAt0
  rw [dqOut0_point _ _ _ _ _ _ _ _ _ (q0_block V c Q K U D O t) (k0_block V c Q K U D O t) (v0_block V c Q K U D O t)
    (d0_block V c Q K U D O t) (O.qreal _) (O.kreal _) r e, row0_at]
  exact congrArg (fun x => dqp scale (Q (head0 t)) (K (head0 t)) (U (head0 t)) (D (head0 t)) x e) (by show _ = 1632 + (t.val % 2 * 272 + (r : ℕ)); omega)

include O hdk in
theorem dkA0_at (t : Fin cfg0.N) (j : Fin 2176) (hj : (j : ℕ) < 2176) (e : Fin 128) :
    dkA0 (F := Ideal) V c t (ix3 0 j e) = (dk (ix3 (head0 t) ⟨j, hj⟩ e) : EReal)
      + ∑ r : Fin 272, ds scale (Q (head0 t)) (K (head0 t)) (U (head0 t)) (D (head0 t)) ((6 + t.val % 2) * 272 + r) j * pad (Q (head0 t) ((6 + t.val % 2) * 272 + r)) e := by
  unfold dkA0
  refine (dkAdd0_point _ _ _ _ _ _ _ _ _ (q0_block V c Q K U D O t) (k0_block V c Q K U D O t) (v0_block V c Q K U D O t)
    (d0_block V c Q K U D O t) (O.qreal _) (O.kreal _) _ j e).trans ?_
  rw [dk0_block V c dk hdk t j hj e]
  simp only [row0_at]

include O hdk in
theorem dkAt0_at (t : Fin cfg0.N) (ht : t.val % 2 = 1) (j : Fin 2176) (hj : (j : ℕ) < 2176) (e : Fin 128) :
    dkAt0 (F := Ideal) V c t (ix3 0 j e) = dkG 1632 Q K U D dk (ix3 (head0 t) ⟨j, hj⟩ e) := by
  unfold dkAt0
  rw [if_neg (by omega)]
  refine (dkAdd0_point _ _ _ _ _ _ _ _ _ (q0_block V c Q K U D O t) (k0_block V c Q K U D O t) (v0_block V c Q K U D O t)
    (d0_block V c Q K U D O t) (O.qreal _) (O.kreal _) _ j e).trans ?_
  have hp : (prev0 t).val % 2 = 0 := by show (t.val - 1) % 2 = 0; omega
  have hh : head0 (prev0 t) = head0 t := Fin.ext (by show (t.val - 1) / 2 = t.val / 2; omega)
  rw [dkA0_at V c Q K U D O dk hdk (prev0 t) j hj e, hh, hp]
  simp only [row0_at, ht]
  exact two_blocks 1632 (dk (ix3 (head0 t) ⟨j, hj⟩ e))
    (fun R => ds scale (Q (head0 t)) (K (head0 t)) (U (head0 t)) (D (head0 t)) R j * pad (Q (head0 t) R) e) 6 rfl

include O hdv in
theorem dvA0_at (t : Fin cfg0.N) (j : Fin 2176) (hj : (j : ℕ) < 2176) (u : Fin 64) :
    dvA0 (F := Ideal) V c t (ix3 0 j u) = (dv (ix3 (head0 t) ⟨j, hj⟩ u) : EReal)
      + ∑ r : Fin 272, pr scale (Q (head0 t)) (K (head0 t)) ((6 + t.val % 2) * 272 + r) j * D (head0 t) ((6 + t.val % 2) * 272 + r) u := by
  unfold dvA0
  refine (dvAdd0_point _ _ _ _ _ _ _ (q0_block V c Q K U D O t) (k0_block V c Q K U D O t)
    (d0_block V c Q K U D O t) (O.qreal _) (O.kreal _) _ j u).trans ?_
  rw [dv0_block V c dv hdv t j hj u]
  simp only [row0_at]

include O hdv in
theorem dvAt0_at (t : Fin cfg0.N) (ht : t.val % 2 = 1) (j : Fin 2176) (hj : (j : ℕ) < 2176) (u : Fin 64) :
    dvAt0 (F := Ideal) V c t (ix3 0 j u) = dvG 1632 Q K D dv (ix3 (head0 t) ⟨j, hj⟩ u) := by
  unfold dvAt0
  rw [if_neg (by omega)]
  refine (dvAdd0_point _ _ _ _ _ _ _ (q0_block V c Q K U D O t) (k0_block V c Q K U D O t)
    (d0_block V c Q K U D O t) (O.qreal _) (O.kreal _) _ j u).trans ?_
  have hp : (prev0 t).val % 2 = 0 := by show (t.val - 1) % 2 = 0; omega
  have hh : head0 (prev0 t) = head0 t := Fin.ext (by show (t.val - 1) / 2 = t.val / 2; omega)
  rw [dvA0_at V c Q K U D O dv hdv (prev0 t) j hj u, hh, hp]
  simp only [row0_at, ht]
  exact two_blocks 1632 (dv (ix3 (head0 t) ⟨j, hj⟩ u))
    (fun R => pr scale (Q (head0 t)) (K (head0 t)) R j * D (head0 t) R u) 6 rfl

include O in
theorem dqAt0_idx (t : Fin cfg0.N) (b : S1x272x128.Idx) (i : S8x544x128.Idx)
    (h0 : (i 0 : ℕ) = t.val / 2) (h1 : (i 1 : ℕ) = t.val % 2 * 272 + b 1) (h2 : (i 2 : ℕ) = b 2) :
    dqAt0 (F := Ideal) V c t b = dqG 1632 Q K U D i := by
  have hb : b = ix3 0 (b 1) (b 2) := (eq_ix3 b).trans (congrArg (fun x => ix3 x (b 1) (b 2)) (Subsingleton.elim (α := Fin 1) _ _))
  have hl : (i 1 : ℕ) < 544 := (i 1).isLt
  have hi : i = ix3 (head0 t) ⟨t.val % 2 * 272 + b 1, by omega⟩ (b 2) :=
    idx_eq i _ _ _ h0 h1 h2
  exact (congrArg (dqAt0 (F := Ideal) V c t) hb).trans ((dqAt0_at V c Q K U D O t (b 1) (b 2) _).trans (congrArg (dqG 1632 Q K U D) hi.symm))

include O hdk in
theorem dkAt0_idx (t : Fin cfg0.N) (ht : t.val % 2 = 1) (b : S1x2176x128.Idx) (i : S8x2176x128.Idx)
    (h0 : (i 0 : ℕ) = t.val / 2) (h1 : (i 1 : ℕ) = b 1) (h2 : (i 2 : ℕ) = b 2) :
    dkAt0 (F := Ideal) V c t b = dkG 1632 Q K U D dk i := by
  have hb : b = ix3 0 (b 1) (b 2) := (eq_ix3 b).trans (congrArg (fun x => ix3 x (b 1) (b 2)) (Subsingleton.elim (α := Fin 1) _ _))
  have hl : (i 1 : ℕ) < 2176 := (i 1).isLt
  have hi : i = ix3 (head0 t) ⟨b 1, by omega⟩ (b 2) :=
    idx_eq i _ _ _ h0 h1 h2
  exact (congrArg (dkAt0 (F := Ideal) V c t) hb).trans ((dkAt0_at V c Q K U D O dk hdk t ht (b 1) _ (b 2)).trans (congrArg (dkG 1632 Q K U D dk) hi.symm))

include O hdv in
theorem dvAt0_idx (t : Fin cfg0.N) (ht : t.val % 2 = 1) (b : S1x2176x64.Idx) (i : S8x2176x64.Idx)
    (h0 : (i 0 : ℕ) = t.val / 2) (h1 : (i 1 : ℕ) = b 1) (h2 : (i 2 : ℕ) = b 2) :
    dvAt0 (F := Ideal) V c t b = dvG 1632 Q K D dv i := by
  have hb : b = ix3 0 (b 1) (b 2) := (eq_ix3 b).trans (congrArg (fun x => ix3 x (b 1) (b 2)) (Subsingleton.elim (α := Fin 1) _ _))
  have hl : (i 1 : ℕ) < 2176 := (i 1).isLt
  have hi : i = ix3 (head0 t) ⟨b 1, by omega⟩ (b 2) :=
    idx_eq i _ _ _ h0 h1 h2
  exact (congrArg (dvAt0 (F := Ideal) V c t) hb).trans ((dvAt0_at V c Q K U D O dv hdv t ht (b 1) _ (b 2)).trans (congrArg (dvG 1632 Q K D dv) hi.symm))

include O in
/-- The queries' gradient of the call's 544 queries, -/
theorem dq0_array : (dat0 V c).arrAt 6 cfg0.N = dqG 1632 Q K U D := by
  refine (dat0 V c).arrAt_eq_of_covers 6 _ (by decide +kernel) (fun t hf y => ?_)
  blk_simp
  rw [after0_6]
  frame_out
  refine dqAt0_idx V c Q K U D O t _ _ ?_ ?_ ?_ <;> blk_simp [at0 t]

include O hdk hdk' in
/-- the keys' gradient, -/
theorem dk0_array : (dat0 V c).arrAt 7 cfg0.N = dkG 1632 Q K U D dk := by
  refine (dat0 V c).arrAt_eq_of_coversWhere_of_agree 7 _ (fun β => β 1 = 0) (by decide +kernel) (fun t hf y => ?_) (fun j hj => ?_)
  · blk_simp
    rw [after0_7]
    frame_out
    refine dkAt0_idx V c Q K U D O dk hdk t ((Gen.flush0_7 t).1 hf) _ _ ?_ ?_ ?_ <;> blk_simp [at0 t]
  · rw [A_eq0, show V c (Pipeline.arrRef spec0 7) = dk from hdk']
    blk_simp [Pipeline.Window.cell_apply] at hj ⊢
    exact dkG_after _ _ _ O.qreal O.kreal _ _ (by omega)

include O hdv hdv' in
/-- and the values'. -/
theorem dv0_array : (dat0 V c).arrAt 8 cfg0.N = dvG 1632 Q K D dv := by
  refine (dat0 V c).arrAt_eq_of_coversWhere_of_agree 8 _ (fun β => β 1 = 0) (by decide +kernel) (fun t hf y => ?_) (fun j hj => ?_)
  · blk_simp
    rw [after0_8]
    frame_out
    refine dvAt0_idx V c Q K U D O dv hdv t ((Gen.flush0_8 t).1 hf) _ _ ?_ ?_ ?_ <;> blk_simp [at0 t]
  · rw [A_eq0, show V c (Pipeline.arrRef spec0 8) = dv from hdv']
    blk_simp [Pipeline.Window.cell_apply] at hj ⊢
    exact dvG_after _ _ O.qreal O.kreal _ _ (by omega)
end
end Cert.KernelIdeal.Att
-- ==== Proof.Block1.lean ====
/- What one grid step of the gradient's call over keys 0 … 1631 computes, element by element, in the row formulas of its head:
   its rows are the 272-row block of queries that its number names. -/
module

public import proofs.«01_k».proof.Proof.Region1
public import proofs.«01_k».proof.Proof.Rows

@[expose] public section
set_option maxRecDepth 16384
noncomputable section

namespace Cert.KernelIdeal.Att
open Cert.KernelIdeal Cert.KernelIdeal.Gen Idealize.ShloMosaic Idealize.ShloMosaic.TcCoe Idealize.SL.Sem Cert.Att

section
variable (i : grid1.Coords) (x0 : FVec Ideal S1x272x128 .bf16) (x1 : FVec Ideal S1x1632x128 .bf16)
  (x2 : FVec Ideal S1x1632x64 .bf16) (x3 : FVec Ideal S1x272x64 .f32)
  (Q K : ℕ → Fin 96 → EReal) (V D : ℕ → Fin 64 → EReal)

/-- The query row of block row `r`. -/
def row1 (r : Fin 272) : ℕ := (4 + (i 1 : ℕ)) * 272 + r

theorem row1_lt (r : Fin 272) : row1 i r < 1632 := by
  have h1 : (i 1 : ℕ) < 2 := (i 1).isLt
  have h2 := r.isLt
  unfold row1; omega

theorem row1_word (r : Fin 272) :
    IntOp.addi (Scalar.muli (Scalar.addi (4#32) (BitVec.ofNat 32 (i 1 : ℕ))) 272#32) (BitVec.ofNat 32 (r : ℕ)) = BitVec.ofNat 32 (row1 i r) := by
  have e : ∀ a b : ℕ, IntOp.addi (Scalar.muli (Scalar.addi (4#32) (BitVec.ofNat 32 a)) 272#32) (BitVec.ofNat 32 b) = BitVec.ofNat 32 ((4 + a) * 272 + b) := by
    intro a b
    simp only [BitVec.ofNat_add, BitVec.ofNat_mul]
    rfl
  exact e _ _

theorem mask1 : (Named.named κ "mask" (0xF149F2CA#32 : BitVec (FTy.f32).bits) : Ideal .f32) = (⊥ : EReal) := rfl

theorem q1_word (r : Fin 272) (e : Fin 128) : k1_pay9 (F := Ideal) x0 (ix2 r e) = x0 (ix3 0 r e) := by
  pointwise [k1_pay9]
theorem k1_word (j : Fin 1632) (e : Fin 128) : k1_pay10 (F := Ideal) x1 (ix2 j e) = x1 (ix3 0 j e) := by
  pointwise [k1_pay10]
theorem do1_word (r : Fin 272) (u : Fin 64) : k1_pay11 (F := Ideal) x3 (ix2 r u) = x3 (ix3 0 r u) := by
  pointwise [k1_pay11]

theorem dp1_word (r : Fin 272) (j : Fin 1632) : k1_pay13 (F := Ideal) x2 x3 (ix2 r j) = ∑ u : Fin 64, x3 (ix3 0 r u) * x2 (ix3 0 j u) := by
  pointwise [k1_pay13, k1_pay11]

theorem dl1_word (r : Fin 272) : k1_pay14 (F := Ideal) i x0 x1 x2 x3 (ix2 r 0)
    = ∑ j : Fin 1632, k1_pay12 (F := Ideal) i x0 x1 (ix2 r j) * k1_pay13 (F := Ideal) x2 x3 (ix2 r j) := by
  pointwise [k1_pay14]

theorem ds1_word (p g : FVec Ideal S272x1632 .f32) (l : FVec Ideal S272x1 .f32) (r : Fin 272) (j : Fin 1632) :
    k1_pay1 (F := Ideal) p g l (ix2 r j) = p (ix2 r j) * (g (ix2 r j) - l (ix2 r 0)) * Ideal.ofBits .f32 0x3DD105EC#32 := by
  pointwise [k1_pay1]

theorem dq1_word (k : FVec Ideal S1632x128 .bf16) (p g : FVec Ideal S272x1632 .f32) (l : FVec Ideal S272x1 .f32) (r : Fin 272) (e : Fin 128) :
    k1_pay2 (F := Ideal) k p g l (ix3 0 r e) = ∑ j : Fin 1632, k1_pay1 (F := Ideal) p g l (ix2 r j) * k (ix2 j e) := by
  pointwise [k1_pay2]

theorem dk1_word (q : FVec Ideal S272x128 .bf16) (p g : FVec Ideal S272x1632 .f32) (l : FVec Ideal S272x1 .f32)
    (acc : FVec Ideal S1x1632x128 .f32) (j : Fin 1632) (e : Fin 128) :
    k1_pay5 (F := Ideal) q p g l acc (ix3 0 j e) = acc (ix3 0 j e) + ∑ r : Fin 272, k1_pay1 (F := Ideal) p g l (ix2 r j) * q (ix2 r e) := by
  pointwise [k1_pay5, k1_pay3]

theorem dv1_word (d : FVec Ideal S272x64 .bf16) (p : FVec Ideal S272x1632 .f32) (acc : FVec Ideal S1x1632x64 .f32) (j : Fin 1632) (u : Fin 64) :
    k1_pay6 (F := Ideal) d p acc (ix3 0 j u) = acc (ix3 0 j u) + ∑ r : Fin 272, p (ix2 r j) * d (ix2 r u) := by
  pointwise [k1_pay6, k1_pay4]

/-- The masked score as the step forms it. -/
def sc1 (r : Fin 272) (j : Fin 1632) : EReal :=
  Scalar.select (IntOp.cmpi .sle (BitVec.ofNat 32 (j : ℕ)) (IntOp.addi (Scalar.muli (Scalar.addi (4#32) (BitVec.ofNat 32 (i 1 : ℕ))) 272#32) (BitVec.ofNat 32 (r : ℕ))))
    ((∑ e : Fin 128, x0 (ix3 0 r e) * x1 (ix3 0 j e)) * Ideal.ofBits .f32 0x3DD105EC#32) (Named.named κ "mask" (0xF149F2CA#32 : BitVec (FTy.f32).bits) : Ideal .f32)

theorem p1_word (r : Fin 272) (j : Fin 1632) : k1_pay12 (F := Ideal) i x0 x1 (ix2 r j)
    = Ideal.exp (sc1 i x0 x1 r j - Finset.univ.fold max (Ideal.ofBits .f32 0xFF800000#32) (fun x => sc1 i x0 x1 r x))
      * Ideal.div 1 (∑ y : Fin 1632, Ideal.exp (sc1 i x0 x1 r y - Finset.univ.fold max (Ideal.ofBits .f32 0xFF800000#32) (fun x => sc1 i x0 x1 r x))) := by
  simp only [sc1]
  pointwise [k1_pay12, k1_pay9, k1_pay10]

variable (h0 : ∀ (r : Fin 272) (e : Fin 128), x0 (ix3 0 r e) = pad (Q (row1 i r)) e)
  (h1 : ∀ (j : Fin 1632) (e : Fin 128), x1 (ix3 0 j e) = pad (K j) e)
  (h2 : ∀ (j : Fin 1632) (u : Fin 64), x2 (ix3 0 j u) = V j u)
  (h3 : ∀ (r : Fin 272) (u : Fin 64), x3 (ix3 0 r u) = D (row1 i r) u)
  (hQ : ∀ r e, IsReal (Q r e)) (hK : ∀ r e, IsReal (K r e))

include h0 h1 in
theorem sc1_point (r : Fin 272) (j : Fin 1632) : sc1 i x0 x1 r j = score scale Q K (row1 i r) j := by
  unfold sc1
  rw [row1_word, select_sle _ _ (by omega) (lt_trans (row1_lt i r) (by norm_num)), mask1, score]
  simp only [h0, h1, sum_padded, scale]

include h0 h1 hQ hK in
theorem p1_point (r : Fin 272) (j : Fin 1632) : k1_pay12 (F := Ideal) i x0 x1 (ix2 r j) = pr scale Q K (row1 i r) j := by
  rw [p1_word]
  simp only [sc1_point i x0 x1 Q K h0 h1, neg_inf_word]
  exact row_point scale_fin hQ hK (row1_lt i r) j

include h2 h3 in
theorem dp1_point (r : Fin 272) (j : Fin 1632) : k1_pay13 (F := Ideal) x2 x3 (ix2 r j) = dp V D (row1 i r) j := by
  rw [dp1_word, dp]
  simp only [h2, h3]

include h0 h1 h2 h3 hQ hK in
theorem dl1_point (r : Fin 272) : k1_pay14 (F := Ideal) i x0 x1 x2 x3 (ix2 r 0) = dl scale Q K V D (row1 i r) := by
  rw [dl1_word, ← dl_fin scale_fin hQ hK (row1_lt i r)]
  simp only [p1_point i x0 x1 Q K h0 h1 hQ hK, dp1_point i x2 x3 V D h2 h3]

include h0 h1 h2 h3 hQ hK in
theorem ds1_point (r : Fin 272) (j : Fin 1632) :
    k1_pay1 (F := Ideal) (k1_pay12 i x0 x1) (k1_pay13 x2 x3) (k1_pay14 i x0 x1 x2 x3) (ix2 r j) = ds scale Q K V D (row1 i r) j := by
  rw [ds1_word, p1_point i x0 x1 Q K h0 h1 hQ hK, dp1_point i x2 x3 V D h2 h3, dl1_point i x0 x1 x2 x3 Q K V D h0 h1 h2 h3 hQ hK]
  rfl

include h0 h1 h2 h3 hQ hK in
/-- A step's rows of the queries' gradient. -/
theorem dqOut1_point (r : Fin 272) (e : Fin 128) :
    dqOut1 (F := Ideal) i x0 x1 x2 x3 (ix3 0 r e) = dqp scale Q K V D (row1 i r) e := by
  refine (dq1_word _ _ _ _ r e).trans ?_
  rw [dqp, ← sum_fin (row1_lt i r) (fun j => ds scale Q K V D (row1 i r) j * pad (K j) e)
    fun j hj => by rw [ds_zero scale_fin hQ hK hj, zero_mul]]
  refine Finset.sum_congr rfl fun j _ => ?_
  rw [ds1_point i x0 x1 x2 x3 Q K V D h0 h1 h2 h3 hQ hK, k1_word, h1]

include h0 h1 h2 h3 hQ hK in
/-- A step's addition to the keys' gradient. -/
theorem dkAdd1_point (acc : FVec Ideal S1x1632x128 .f32) (j : Fin 1632) (e : Fin 128) :
    dkAdd1 (F := Ideal) i x0 x1 x2 x3 acc (ix3 0 j e)
      = acc (ix3 0 j e) + ∑ r : Fin 272, ds scale Q K V D (row1 i r) j * pad (Q (row1 i r)) e := by
  refine (dk1_word _ _ _ _ acc j e).trans (congrArg (acc (ix3 0 j e) + ·) ?_)
  refine Finset.sum_congr rfl fun r _ => ?_
  rw [ds1_point i x0 x1 x2 x3 Q K V D h0 h1 h2 h3 hQ hK, q1_word, h0]

include h0 h1 h3 hQ hK in
/-- A step's addition to the values' gradient. -/
theorem dvAdd1_point (acc : FVec Ideal S1x1632x64 .f32) (j : Fin 1632) (u : Fin 64) :
    dvAdd1 (F := Ideal) i x0 x1 x3 acc (ix3 0 j u)
      = acc (ix3 0 j u) + ∑ r : Fin 272, pr scale Q K (row1 i r) j * D (row1 i r) u := by
  refine (dv1_word _ _ acc j u).trans (congrArg (acc (ix3 0 j u) + ·) ?_)
  refine Finset.sum_congr rfl fun r _ => ?_
  rw [p1_point i x0 x1 Q K h0 h1 hQ hK, do1_word, h3]

end
end Cert.KernelIdeal.Att
end
-- ==== Proof.Array1.lean ====
/- What the gradient's call over keys 0 … 1631 leaves in its three results, as a function of the contents of its operands. -/
module

public import proofs.«01_k».proof.Proof.Block1
public import proofs.«01_k».proof.Proof.Operands

@[expose] public section
set_option maxRecDepth 16384
noncomputable section

namespace Cert.KernelIdeal.Att
open Cert.KernelIdeal Cert.KernelIdeal.Gen Idealize.ShloMosaic Idealize.ShloMosaic.TcCoe Idealize.SL.Sem Cert.Att

/-- The blocks of grid point `t`: head `t / 2`, block `t % 2` of the call's queries. -/
theorem at1 : ∀ t : Fin cfg1.N, win1_0.index t = ![t.val / 2, 4 + t.val % 2, 0] ∧ win1_1.index t = ![t.val / 2, 0, 0]
    ∧ win1_2.index t = ![t.val / 2, 0, 0] ∧ win1_3.index t = ![t.val / 2, 4 + t.val % 2, 0]
    ∧ win1_4.index t = ![t.val / 2, 0, 0] ∧ win1_5.index t = ![t.val / 2, 0, 0]
    ∧ win1_6.index t = ![t.val / 2, t.val % 2, 0] ∧ win1_7.index t = ![t.val / 2, 0, 0] ∧ win1_8.index t = ![t.val / 2, 0, 0]
    ∧ ((grid1.coords t) 1 : ℕ) = t.val % 2 :=
  (by decide +kernel : ∀ t : Fin grid1.N, _)

/-- The head of a grid point. -/
def head1 (t : Fin cfg1.N) : Fin 8 := ⟨t.val / 2, by have h : t.val < 16 := t.isLt; omega⟩

section
variable (V : (c : Dev nD) → (b : Ref sig .tc) → Buf (Elt Ideal) ((c : Thread nD τ).loc b)) (c : Dev nD)
  (Q K : Fin 8 → ℕ → Fin 96 → EReal) (U D : Fin 8 → ℕ → Fin 64 → EReal)
  (O : Operands (V c main_v3) (V c main_v6) (V c main_v8) (V c main_v9) Q K U D)
include O

theorem q1_block (t : Fin cfg1.N) (r : Fin 272) (e : Fin 128) :
    (iblk1 V c 0 t : FVec Ideal S1x272x128 .bf16) (ix3 0 r e) = pad (Q (head1 t) (row1 (grid1.coords t) r)) e := by
  have hr := row1_lt (grid1.coords t) r
  rw [← O.q (head1 t) ⟨row1 (grid1.coords t) r, by omega⟩ e]
  have h1 := (at1 t).2.2.2.2.2.2.2.2.2
  blk_point [iblk1, at1 t, head1, row1]

theorem k1_block (t : Fin cfg1.N) (j : Fin 1632) (e : Fin 128) :
    (full1_1 V c t : FVec Ideal S1x1632x128 .bf16) (ix3 0 j e) = pad (K (head1 t) j) e := by
  have hj := j.isLt
  rw [← O.k (head1 t) ⟨j, by omega⟩ e]
  rw [full1_1, Pipeline.Window.fill, dif_pos (moved1_1 t _)]
  blk_point [full1_1, iblk1, at1 t, head1]

theorem v1_block (t : Fin cfg1.N) (j : Fin 1632) (u : Fin 64) :
    (full1_2 V c t : FVec Ideal S1x1632x64 .bf16) (ix3 0 j u) = U (head1 t) j u := by
  have hj := j.isLt
  rw [← O.v (head1 t) ⟨j, by omega⟩ u]
  rw [full1_2, Pipeline.Window.fill, dif_pos (moved1_2 t _)]
  blk_point [full1_2, iblk1, at1 t, head1]

theorem d1_block (t : Fin cfg1.N) (r : Fin 272) (u : Fin 64) :
    (iblk1 V c 3 t : FVec Ideal S1x272x64 .f32) (ix3 0 r u) = D (head1 t) (row1 (grid1.coords t) r) u := by
  have hr := row1_lt (grid1.coords t) r
  rw [← O.d (head1 t) ⟨row1 (grid1.coords t) r, by omega⟩ u]
  have h1 := (at1 t).2.2.2.2.2.2.2.2.2
  blk_point [iblk1, at1 t, head1, row1]

omit O

variable (dk : FVec Ideal S8x2176x128 .f32) (dv : FVec Ideal S8x2176x64 .f32)
  (hdk : V c main_v12_1 = dk) (hdv : V c main_v12_2 = dv)
  (hdk' : V c main_v13_1 = dk) (hdv' : V c main_v13_2 = dv)
include hdk in
theorem dk1_block (t : Fin cfg1.N) (j : Fin 1632) (hj : (j : ℕ) < 2176) (e : Fin 128) :
    (full1_4 V c t : FVec Ideal S1x1632x128 .f32) (ix3 0 j e) = dk (ix3 (head1 t) ⟨j, hj⟩ e) := by
  rw [← hdk]
  rw [full1_4, Pipeline.Window.fill, dif_pos (moved1_4 t _)]
  blk_point [full1_4, iblk1, at1 t, head1]

include hdv in
theorem dv1_block (t : Fin cfg1.N) (j : Fin 1632) (hj : (j : ℕ) < 2176) (u : Fin 64) :
    (full1_5 V c t : FVec Ideal S1x1632x64 .f32) (ix3 0 j u) = dv (ix3 (head1 t) ⟨j, hj⟩ u) := by
  rw [← hdv]
  rw [full1_5, Pipeline.Window.fill, dif_pos (moved1_5 t _)]
  blk_point [full1_5, iblk1, at1 t, head1]

theorem row1_at (t : Fin cfg1.N) (r : Fin 272) : row1 (grid1.coords t) r = (4 + t.val % 2) * 272 + r := by
  unfold row1; rw [(at1 t).2.2.2.2.2.2.2.2.2]

include O in
theorem dqAt1_at (t : Fin cfg1.N) (r : Fin 272) (e : Fin 128) (h : ((t.val % 2) * 272 + r : ℕ) < 544) :
    dqAt1 (F := Ideal) V c t (ix3 0 r e) = dqG 1088 Q K U D (ix3 (head1 t) ⟨(t.val % 2) * 272 + r, h⟩ e) := by
  unfold dqAt1
  rw [dqOut1_point _ _ _ _ _ _ _ _ _ (q1_block V c Q K U D O t) (k1_block V c Q K U D O t) (v1_block V c Q K U D O t)
    (d1_block V c Q K U D O t) (O.qreal _) (O.kreal _) r e, row1_at]
  exact congrArg (fun x => dqp scale (Q (head1 t)) (K (head1 t)) (U (head1 t)) (D (head1 t)) x e) (by show _ = 1088 + (t.val % 2 * 272 + (r : ℕ)); omega)

include O hdk in
theorem dkA1_at (t : Fin cfg1.N) (j : Fin 1632) (hj : (j : ℕ) < 2176) (e : Fin 128) :
    dkA1 (F := Ideal) V c t (ix3 0 j e) = (dk (ix3 (head1 t) ⟨j, hj⟩ e) : EReal)
      + ∑ r : Fin 272, ds scale (Q (head1 t)) (K (head1 t)) (U (head1 t)) (D (head1 t)) ((4 + t.val % 2) * 272 + r) j * pad (Q (head1 t) ((4 + t.val % 2) * 272 + r)) e := by
  unfold dkA1
  refine (dkAdd1_point _ _ _ _ _ _ _ _ _ (q1_block V c Q K U D O t) (k1_block V c Q K U D O t) (v1_block V c Q K U D O t)
    (d1_block V c Q K U D O t) (O.qreal _) (O.kreal _) _ j e).trans ?_
  rw [dk1_block V c dk hdk t j hj e]
  simp only [row1_at]

include O hdk in
theorem dkAt1_at (t : Fin cfg1.N) (ht : t.val % 2 = 1) (j : Fin 1632) (hj : (j : ℕ) < 2176) (e : Fin 128) :
    dkAt1 (F := Ideal) V c t (ix3 0 j e) = dkG 1088 Q K U D dk (ix3 (head1 t) ⟨j, hj⟩ e) := by
  unfold dkAt1
  rw [if_neg (by omega)]
  refine (dkAdd1_point _ _ _ _ _ _ _ _ _ (q1_block V c Q K U D O t) (k1_block V c Q K U D O t) (v1_block V c Q K U D O t)
    (d1_block V c Q K U D O t) (O.qreal _) (O.kreal _) _ j e).trans ?_
  have hp : (prev1 t).val % 2 = 0 := by show (t.val - 1) % 2 = 0; omega
  have hh : head1 (prev1 t) = head1 t := Fin.ext (by show (t.val - 1) / 2 = t.val / 2; omega)
  rw [dkA1_at V c Q K U D O dk hdk (prev1 t) j hj e, hh, hp]
  simp only [row1_at, ht]
  exact two_blocks 1088 (dk (ix3 (head1 t) ⟨j, hj⟩ e))
    (fun R => ds scale (Q (head1 t)) (K (head1 t)) (U (head1 t)) (D (head1 t)) R j * pad (Q (head1 t) R) e) 4 rfl

include O hdv in
theorem dvA1_at (t : Fin cfg1.N) (j : Fin 1632) (hj : (j : ℕ) < 2176) (u : Fin 64) :
    dvA1 (F := Ideal) V c t (ix3 0 j u) = (dv (ix3 (head1 t) ⟨j, hj⟩ u) : EReal)
      + ∑ r : Fin 272, pr scale (Q (head1 t)) (K (head1 t)) ((4 + t.val % 2) * 272 + r) j * D (head1 t) ((4 + t.val % 2) * 272 + r) u := by
  unfold dvA1
  refine (dvAdd1_point _ _ _ _ _ _ _ (q1_block V c Q K U D O t) (k1_block V c Q K U D O t)
    (d1_block V c Q K U D O t) (O.qreal _) (O.kreal _) _ j u).trans ?_
  rw [dv1_block V c dv hdv t j hj u]
  simp only [row1_at]

include O hdv in
theorem dvAt1_at (t : Fin cfg1.N) (ht : t.val % 2 = 1) (j : Fin 1632) (hj : (j : ℕ) < 2176) (u : Fin 64) :
    dvAt1 (F := Ideal) V c t (ix3 0 j u) = dvG 1088 Q K D dv (ix3 (head1 t) ⟨j, hj⟩ u) := by
  unfold dvAt1
  rw [if_neg (by omega)]
  refine (dvAdd1_point _ _ _ _ _ _ _ (q1_block V c Q K U D O t) (k1_block V c Q K U D O t)
    (d1_block V c Q K U D O t) (O.qreal _) (O.kreal _) _ j u).trans ?_
  have hp : (prev1 t).val % 2 = 0 := by show (t.val - 1) % 2 = 0; omega
  have hh : head1 (prev1 t) = head1 t := Fin.ext (by show (t.val - 1) / 2 = t.val / 2; omega)
  rw [dvA1_at V c Q K U D O dv hdv (prev1 t) j hj u, hh, hp]
  simp only [row1_at, ht]
  exact two_blocks 1088 (dv (ix3 (head1 t) ⟨j, hj⟩ u))
    (fun R => pr scale (Q (head1 t)) (K (head1 t)) R j * D (head1 t) R u) 4 rfl

include O in
theorem dqAt1_idx (t : Fin cfg1.N) (b : S1x272x128.Idx) (i : S8x544x128.Idx)
    (h0 : (i 0 : ℕ) = t.val / 2) (h1 : (i 1 : ℕ) = t.val % 2 * 272 + b 1) (h2 : (i 2 : ℕ) = b 2) :
    dqAt1 (F := Ideal) V c t b = dqG 1088 Q K U D i := by
  have hb : b = ix3 0 (b 1) (b 2) := (eq_ix3 b).trans (congrArg (fun x => ix3 x (b 1) (b 2)) (Subsingleton.elim (α := Fin 1) _ _))
  have hl : (i 1 : ℕ) < 544 := (i 1).isLt
  have hi : i = ix3 (head1 t) ⟨t.val % 2 * 272 + b 1, by omega⟩ (b 2) :=
    idx_eq i _ _ _ h0 h1 h2
  exact (congrArg (dqAt1 (F := Ideal) V c t) hb).trans ((dqAt1_at V c Q K U D O t (b 1) (b 2) _).trans (congrArg (dqG 1088 Q K U D) hi.symm))

include O hdk in
theorem dkAt1_idx (t : Fin cfg1.N) (ht : t.val % 2 = 1) (b : S1x1632x128.Idx) (i : S8x2176x128.Idx)
    (h0 : (i 0 : ℕ) = t.val / 2) (h1 : (i 1 : ℕ) = b 1) (h2 : (i 2 : ℕ) = b 2) :
    dkAt1 (F := Ideal) V c t b = dkG 1088 Q K U D dk i := by
  have hb : b = ix3 0 (b 1) (b 2) := (eq_ix3 b).trans (congrArg (fun x => ix3 x (b 1) (b 2)) (Subsingleton.elim (α := Fin 1) _ _))
  have hl : (i 1 : ℕ) < 2176 := (i 1).isLt
  have hi : i = ix3 (head1 t) ⟨b 1, by omega⟩ (b 2) :=
    idx_eq i _ _ _ h0 h1 h2
  exact (congrArg (dkAt1 (F := Ideal) V c t) hb).trans ((dkAt1_at V c Q K U D O dk hdk t ht (b 1) _ (b 2)).trans (congrArg (dkG 1088 Q K U D dk) hi.symm))

include O hdv in
theorem dvAt1_idx (t : Fin cfg1.N) (ht : t.val % 2 = 1) (b : S1x1632x64.Idx) (i : S8x2176x64.Idx)
    (h0 : (i 0 : ℕ) = t.val / 2) (h1 : (i 1 : ℕ) = b 1) (h2 : (i 2 : ℕ) = b 2) :
    dvAt1 (F := Ideal) V c t b = dvG 1088 Q K D dv i := by
  have hb : b = ix3 0 (b 1) (b 2) := (eq_ix3 b).trans (congrArg (fun x => ix3 x (b 1) (b 2)) (Subsingleton.elim (α := Fin 1) _ _))
  have hl : (i 1 : ℕ) < 2176 := (i 1).isLt
  have hi : i = ix3 (head1 t) ⟨b 1, by omega⟩ (b 2) :=
    idx_eq i _ _ _ h0 h1 h2
  exact (congrArg (dvAt1 (F := Ideal) V c t) hb).trans ((dvAt1_at V c Q K U D O dv hdv t ht (b 1) _ (b 2)).trans (congrArg (dvG 1088 Q K D dv) hi.symm))

include O in
/-- The queries' gradient of the call's 544 queries, -/
theorem dq1_array : (dat1 V c).arrAt 6 cfg1.N = dqG 1088 Q K U D := by
  refine (dat1 V c).arrAt_eq_of_covers 6 _ (by decide +kernel) (fun t hf y => ?_)
  blk_simp
  rw [after1_6]
  frame_out
  refine dqAt1_idx V c Q K U D O t _ _ ?_ ?_ ?_ <;> blk_simp [at1 t]

include O hdk hdk' in
/-- the keys' gradient, -/
theorem dk1_array : (dat1 V c).arrAt 7 cfg1.N = dkG 1088 Q K U D dk := by
  refine (dat1 V c).arrAt_eq_of_coversWhere_of_agree 7 _ (fun β => β 1 = 0) (by decide +kernel) (fun t hf y => ?_) (fun j hj => ?_)
  · blk_simp
    rw [after1_7]
    have hy : (y 0 : ℕ) < 1 := lt_of_lt_of_eq (y 0).isLt (xsize1_7 t 0)
    frame_out
    refine dkAt1_idx V c Q K U D O dk hdk t ((Gen.flush1_7 t).1 hf) _ _ ?_ ?_ ?_ <;> blk_simp [at1 t] <;> omega
  · rw [A_eq1, show V c (Pipeline.arrRef spec1 7) = dk from hdk']
    blk_simp [Pipeline.Window.cell_apply] at hj ⊢
    exact dkG_after _ _ _ O.qreal O.kreal _ _ (by omega)

include O hdv hdv' in
/-- and the values'. -/
theorem dv1_array : (dat1 V c).arrAt 8 cfg1.N = dvG 1088 Q K D dv := by
  refine (dat1 V c).arrAt_eq_of_coversWhere_of_agree 8 _ (fun β => β 1 = 0) (by decide +kernel) (fun t hf y => ?_) (fun j hj => ?_)
  · blk_simp
    rw [after1_8]
    have hy : (y 0 : ℕ) < 1 := lt_of_lt_of_eq (y 0).isLt (xsize1_8 t 0)
    frame_out
    refine dvAt1_idx V c Q K U D O dv hdv t ((Gen.flush1_8 t).1 hf) _ _ ?_ ?_ ?_ <;> blk_simp [at1 t] <;> omega
  · rw [A_eq1, show V c (Pipeline.arrRef spec1 8) = dv from hdv']
    blk_simp [Pipeline.Window.cell_apply] at hj ⊢
    exact dvG_after _ _ O.qreal O.kreal _ _ (by omega)
end
end Cert.KernelIdeal.Att
-- ==== Proof.Block2.lean ====
/- What one grid step of the gradient's call over keys 0 … 1087 computes, element by element, in the row formulas of its head:
   its rows are the 272-row block of queries that its number names. -/
module

public import proofs.«01_k».proof.Proof.Region2
public import proofs.«01_k».proof.Proof.Rows

@[expose] public section
set_option maxRecDepth 16384
noncomputable section

namespace Cert.KernelIdeal.Att
open Cert.KernelIdeal Cert.KernelIdeal.Gen Idealize.ShloMosaic Idealize.ShloMosaic.TcCoe Idealize.SL.Sem Cert.Att

section
variable (i : grid2.Coords) (x0 : FVec Ideal S1x272x128 .bf16) (x1 : FVec Ideal S1x1088x128 .bf16)
  (x2 : FVec Ideal S1x1088x64 .bf16) (x3 : FVec Ideal S1x272x64 .f32)
  (Q K : ℕ → Fin 96 → EReal) (V D : ℕ → Fin 64 → EReal)

/-- The query row of block row `r`. -/
def row2 (r : Fin 272) : ℕ := (2 + (i 1 : ℕ)) * 272 + r

theorem row2_lt (r : Fin 272) : row2 i r < 1088 := by
  have h1 : (i 1 : ℕ) < 2 := (i 1).isLt
  have h2 := r.isLt
  unfold row2; omega

theorem row2_word (r : Fin 272) :
    IntOp.addi (Scalar.muli (Scalar.addi (2#32) (BitVec.ofNat 32 (i 1 : ℕ))) 272#32) (BitVec.ofNat 32 (r : ℕ)) = BitVec.ofNat 32 (row2 i r) := by
  have e : ∀ a b : ℕ, IntOp.addi (Scalar.muli (Scalar.addi (2#32) (BitVec.ofNat 32 a)) 272#32) (BitVec.ofNat 32 b) = BitVec.ofNat 32 ((2 + a) * 272 + b) := by
    intro a b
    simp only [BitVec.ofNat_add, BitVec.ofNat_mul]
    rfl
  exact e _ _

theorem mask2 : (Named.named κ "mask" (0xF149F2CA#32 : BitVec (FTy.f32).bits) : Ideal .f32) = (⊥ : EReal) := rfl

theorem q2_word (r : Fin 272) (e : Fin 128) : k2_pay9 (F := Ideal) x0 (ix2 r e) = x0 (ix3 0 r e) := by
  pointwise [k2_pay9]
theorem k2_word (j : Fin 1088) (e : Fin 128) : k2_pay10 (F := Ideal) x1 (ix2 j e) = x1 (ix3 0 j e) := by
  pointwise [k2_pay10]
theorem do2_word (r : Fin 272) (u : Fin 64) : k2_pay11 (F := Ideal) x3 (ix2 r u) = x3 (ix3 0 r u) := by
  pointwise [k2_pay11]

theorem dp2_word (r : Fin 272) (j : Fin 1088) : k2_pay13 (F := Ideal) x2 x3 (ix2 r j) = ∑ u : Fin 64, x3 (ix3 0 r u) * x2 (ix3 0 j u) := by
  pointwise [k2_pay13, k2_pay11]

theorem dl2_word (r : Fin 272) : k2_pay14 (F := Ideal) i x0 x1 x2 x3 (ix2 r 0)
    = ∑ j : Fin 1088, k2_pay12 (F := Ideal) i x0 x1 (ix2 r j) * k2_pay13 (F := Ideal) x2 x3 (ix2 r j) := by
  pointwise [k2_pay14]

theorem ds2_word (p g : FVec Ideal S272x1088 .f32) (l : FVec Ideal S272x1 .f32) (r : Fin 272) (j : Fin 1088) :
    k2_pay1 (F := Ideal) p g l (ix2 r j) = p (ix2 r j) * (g (ix2 r j) - l (ix2 r 0)) * Ideal.ofBits .f32 0x3DD105EC#32 := by
  pointwise [k2_pay1]

theorem dq2_word (k : FVec Ideal S1088x128 .bf16) (p g : FVec Ideal S272x1088 .f32) (l : FVec Ideal S272x1 .f32) (r : Fin 272) (e : Fin 128) :
    k2_pay2 (F := Ideal) k p g l (ix3 0 r e) = ∑ j : Fin 1088, k2_pay1 (F := Ideal) p g l (ix2 r j) * k (ix2 j e) := by
  pointwise [k2_pay2]

theorem dk2_word (q : FVec Ideal S272x128 .bf16) (p g : FVec Ideal S272x1088 .f32) (l : FVec Ideal S272x1 .f32)
    (acc : FVec Ideal S1x1088x128 .f32) (j : Fin 1088) (e : Fin 128) :
    k2_pay5 (F := Ideal) q p g l acc (ix3 0 j e) = acc (ix3 0 j e) + ∑ r : Fin 272, k2_pay1 (F := Ideal) p g l (ix2 r j) * q (ix2 r e) := by
  pointwise [k2_pay5, k2_pay3]

theorem dv2_word (d : FVec Ideal S272x64 .bf16) (p : FVec Ideal S272x1088 .f32) (acc : FVec Ideal S1x1088x64 .f32) (j : Fin 1088) (u : Fin 64) :
    k2_pay6 (F := Ideal) d p acc (ix3 0 j u) = acc (ix3 0 j u) + ∑ r : Fin 272, p (ix2 r j) * d (ix2 r u) := by
  pointwise [k2_pay6, k2_pay4]

/-- The masked score as the step forms it. -/
def sc2 (r : Fin 272) (j : Fin 1088) : EReal :=
  Scalar.select (IntOp.cmpi .sle (BitVec.ofNat 32 (j : ℕ)) (IntOp.addi (Scalar.muli (Scalar.addi (2#32) (BitVec.ofNat 32 (i 1 : ℕ))) 272#32) (BitVec.ofNat 32 (r : ℕ))))
    ((∑ e : Fin 128, x0 (ix3 0 r e) * x1 (ix3 0 j e)) * Ideal.ofBits .f32 0x3DD105EC#32) (Named.named κ "mask" (0xF149F2CA#32 : BitVec (FTy.f32).bits) : Ideal .f32)

theorem p2_word (r : Fin 272) (j : Fin 1088) : k2_pay12 (F := Ideal) i x0 x1 (ix2 r j)
    = Ideal.exp (sc2 i x0 x1 r j - Finset.univ.fold max (Ideal.ofBits .f32 0xFF800000#32) (fun x => sc2 i x0 x1 r x))
      * Ideal.div 1 (∑ y : Fin 1088, Ideal.exp (sc2 i x0 x1 r y - Finset.univ.fold max (Ideal.ofBits .f32 0xFF800000#32) (fun x => sc2 i x0 x1 r x))) := by
  simp only [sc2]
  pointwise [k2_pay12, k2_pay9, k2_pay10]

variable (h0 : ∀ (r : Fin 272) (e : Fin 128), x0 (ix3 0 r e) = pad (Q (row2 i r)) e)
  (h1 : ∀ (j : Fin 1088) (e : Fin 128), x1 (ix3 0 j e) = pad (K j) e)
  (h2 : ∀ (j : Fin 1088) (u : Fin 64), x2 (ix3 0 j u) = V j u)
  (h3 : ∀ (r : Fin 272) (u : Fin 64), x3 (ix3 0 r u) = D (row2 i r) u)
  (hQ : ∀ r e, IsReal (Q r e)) (hK : ∀ r e, IsReal (K r e))

include h0 h1 in
theorem sc2_point (r : Fin 272) (j : Fin 1088) : sc2 i x0 x1 r j = score scale Q K (row2 i r) j := by
  unfold sc2
  rw [row2_word, select_sle _ _ (by omega) (lt_trans (row2_lt i r) (by norm_num)), mask2, score]
  simp only [h0, h1, sum_padded, scale]

include h0 h1 hQ hK in
theorem p2_point (r : Fin 272) (j : Fin 1088) : k2_pay12 (F := Ideal) i x0 x1 (ix2 r j) = pr scale Q K (row2 i r) j := by
  rw [p2_word]
  simp only [sc2_point i x0 x1 Q K h0 h1, neg_inf_word]
  exact row_point scale_fin hQ hK (row2_lt i r) j

include h2 h3 in
theorem dp2_point (r : Fin 272) (j : Fin 1088) : k2_pay13 (F := Ideal) x2 x3 (ix2 r j) = dp V D (row2 i r) j := by
  rw [dp2_word, dp]
  simp only [h2, h3]

include h0 h1 h2 h3 hQ hK in
theorem dl2_point (r : Fin 272) : k2_pay14 (F := Ideal) i x0 x1 x2 x3 (ix2 r 0) = dl scale Q K V D (row2 i r) := by
  rw [dl2_word, ← dl_fin scale_fin hQ hK (row2_lt i r)]
  simp only [p2_point i x0 x1 Q K h0 h1 hQ hK, dp2_point i x2 x3 V D h2 h3]

include h0 h1 h2 h3 hQ hK in
theorem ds2_point (r : Fin 272) (j : Fin 1088) :
    k2_pay1 (F := Ideal) (k2_pay12 i x0 x1) (k2_pay13 x2 x3) (k2_pay14 i x0 x1 x2 x3) (ix2 r j) = ds scale Q K V D (row2 i r) j := by
  rw [ds2_word, p2_point i x0 x1 Q K h0 h1 hQ hK, dp2_point i x2 x3 V D h2 h3, dl2_point i x0 x1 x2 x3 Q K V D h0 h1 h2 h3 hQ hK]
  rfl

include h0 h1 h2 h3 hQ hK in
/-- A step's rows of the queries' gradient. -/
theorem dqOut2_point (r : Fin 272) (e : Fin 128) :
    dqOut2 (F := Ideal) i x0 x1 x2 x3 (ix3 0 r e) = dqp scale Q K V D (row2 i r) e := by
  refine (dq2_word _ _ _ _ r e).trans ?_
  rw [dqp, ← sum_fin (row2_lt i r) (fun j => ds scale Q K V D (row2 i r) j * pad (K j) e)
    fun j hj => by rw [ds_zero scale_fin hQ hK hj, zero_mul]]
  refine Finset.sum_congr rfl fun j _ => ?_
  rw [ds2_point i x0 x1 x2 x3 Q K V D h0 h1 h2 h3 hQ hK, k2_word, h1]

include h0 h1 h2 h3 hQ hK in
/-- A step's addition to the keys' gradient. -/
theorem dkAdd2_point (acc : FVec Ideal S1x1088x128 .f32) (j : Fin 1088) (e : Fin 128) :
    dkAdd2 (F := Ideal) i x0 x1 x2 x3 acc (ix3 0 j e)
      = acc (ix3 0 j e) + ∑ r : Fin 272, ds scale Q K V D (row2 i r) j * pad (Q (row2 i r)) e := by
  refine (dk2_word _ _ _ _ acc j e).trans (congrArg (acc (ix3 0 j e) + ·) ?_)
  refine Finset.sum_congr rfl fun r _ => ?_
  rw [ds2_point i x0 x1 x2 x3 Q K V D h0 h1 h2 h3 hQ hK, q2_word, h0]

include h0 h1 h3 hQ hK in
/-- A step's addition to the values' gradient. -/
theorem dvAdd2_point (acc : FVec Ideal S1x1088x64 .f32) (j : Fin 1088) (u : Fin 64) :
    dvAdd2 (F := Ideal) i x0 x1 x3 acc (ix3 0 j u)
      = acc (ix3 0 j u) + ∑ r : Fin 272, pr scale Q K (row2 i r) j * D (row2 i r) u := by
  refine (dv2_word _ _ acc j u).trans (congrArg (acc (ix3 0 j u) + ·) ?_)
  refine Finset.sum_congr rfl fun r _ => ?_
  rw [p2_point i x0 x1 Q K h0 h1 hQ hK, do2_word, h3]

end
end Cert.KernelIdeal.Att
end
-- ==== Proof.Array2.lean ====
/- What the gradient's call over keys 0 … 1087 leaves in its three results, as a function of the contents of its operands. -/
module

public import proofs.«01_k».proof.Proof.Block2
public import proofs.«01_k».proof.Proof.Operands

@[expose] public section
set_option maxRecDepth 16384
noncomputable section

namespace Cert.KernelIdeal.Att
open Cert.KernelIdeal Cert.KernelIdeal.Gen Idealize.ShloMosaic Idealize.ShloMosaic.TcCoe Idealize.SL.Sem Cert.Att

/-- The blocks of grid point `t`: head `t / 2`, block `t % 2` of the call's queries. -/
theorem at2 : ∀ t : Fin cfg2.N, win2_0.index t = ![t.val / 2, 2 + t.val % 2, 0] ∧ win2_1.index t = ![t.val / 2, 0, 0]
    ∧ win2_2.index t = ![t.val / 2, 0, 0] ∧ win2_3.index t = ![t.val / 2, 2 + t.val % 2, 0]
    ∧ win2_4.index t = ![t.val / 2, 0, 0] ∧ win2_5.index t = ![t.val / 2, 0, 0]
    ∧ win2_6.index t = ![t.val / 2, t.val % 2, 0] ∧ win2_7.index t = ![t.val / 2, 0, 0] ∧ win2_8.index t = ![t.val / 2, 0, 0]
    ∧ ((grid2.coords t) 1 : ℕ) = t.val % 2 :=
  (by decide +kernel : ∀ t : Fin grid2.N, _)

/-- The head of a grid point. -/
def head2 (t : Fin cfg2.N) : Fin 8 := ⟨t.val / 2, by have h : t.val < 16 := t.isLt; omega⟩

section
variable (V : (c : Dev nD) → (b : Ref sig .tc) → Buf (Elt Ideal) ((c : Thread nD τ).loc b)) (c : Dev nD)
  (Q K : Fin 8 → ℕ → Fin 96 → EReal) (U D : Fin 8 → ℕ → Fin 64 → EReal)
  (O : Operands (V c main_v3) (V c main_v6) (V c main_v8) (V c main_v9) Q K U D)
include O

theorem q2_block (t : Fin cfg2.N) (r : Fin 272) (e : Fin 128) :
    (iblk2 V c 0 t : FVec Ideal S1x272x128 .bf16) (ix3 0 r e) = pad (Q (head2 t) (row2 (grid2.coords t) r)) e := by
  have hr := row2_lt (grid2.coords t) r
  rw [← O.q (head2 t) ⟨row2 (grid2.coords t) r, by omega⟩ e]
  have h1 := (at2 t).2.2.2.2.2.2.2.2.2
  blk_point [iblk2, at2 t, head2, row2]

theorem k2_block (t : Fin cfg2.N) (j : Fin 1088) (e : Fin 128) :
    (iblk2 V c 1 t : FVec Ideal S1x1088x128 .bf16) (ix3 0 j e) = pad (K (head2 t) j) e := by
  have hj := j.isLt
  rw [← O.k (head2 t) ⟨j, by omega⟩ e]
  blk_point [iblk2, at2 t, head2]

theorem v2_block (t : Fin cfg2.N) (j : Fin 1088) (u : Fin 64) :
    (iblk2 V c 2 t : FVec Ideal S1x1088x64 .bf16) (ix3 0 j u) = U (head2 t) j u := by
  have hj := j.isLt
  rw [← O.v (head2 t) ⟨j, by omega⟩ u]
  blk_point [iblk2, at2 t, head2]

theorem d2_block (t : Fin cfg2.N) (r : Fin 272) (u : Fin 64) :
    (iblk2 V c 3 t : FVec Ideal S1x272x64 .f32) (ix3 0 r u) = D (head2 t) (row2 (grid2.coords t) r) u := by
  have hr := row2_lt (grid2.coords t) r
  rw [← O.d (head2 t) ⟨row2 (grid2.coords t) r, by omega⟩ u]
  have h1 := (at2 t).2.2.2.2.2.2.2.2.2
  blk_point [iblk2, at2 t, head2, row2]

omit O

variable (dk : FVec Ideal S8x2176x128 .f32) (dv : FVec Ideal S8x2176x64 .f32)
  (hdk : V c main_v13_1 = dk) (hdv : V c main_v13_2 = dv)
  (hdk' : V c main_v14_1 = dk) (hdv' : V c main_v14_2 = dv)
include hdk in
theorem dk2_block (t : Fin cfg2.N) (j : Fin 1088) (hj : (j : ℕ) < 2176) (e : Fin 128) :
    (iblk2 V c 4 t : FVec Ideal S1x1088x128 .f32) (ix3 0 j e) = dk (ix3 (head2 t) ⟨j, hj⟩ e) := by
  rw [← hdk]
  blk_point [iblk2, at2 t, head2]

include hdv in
theorem dv2_block (t : Fin cfg2.N) (j : Fin 1088) (hj : (j : ℕ) < 2176) (u : Fin 64) :
    (iblk2 V c 5 t : FVec Ideal S1x1088x64 .f32) (ix3 0 j u) = dv (ix3 (head2 t) ⟨j, hj⟩ u) := by
  rw [← hdv]
  blk_point [iblk2, at2 t, head2]

theorem row2_at (t : Fin cfg2.N) (r : Fin 272) : row2 (grid2.coords t) r = (2 + t.val % 2) * 272 + r := by
  unfold row2; rw [(at2 t).2.2.2.2.2.2.2.2.2]

include O in
theorem dqAt2_at (t : Fin cfg2.N) (r : Fin 272) (e : Fin 128) (h : ((t.val % 2) * 272 + r : ℕ) < 544) :
    dqAt2 (F := Ideal) V c t (ix3 0 r e) = dqG 544 Q K U D (ix3 (head2 t) ⟨(t.val % 2) * 272 + r, h⟩ e) := by
  unfold dqAt2
  rw [dqOut2_point _ _ _ _ _ _ _ _ _ (q2_block V c Q K U D O t) (k2_block V c Q K U D O t) (v2_block V c Q K U D O t)
    (d2_block V c Q K U D O t) (O.qreal _) (O.kreal _) r e, row2_at]
  exact congrArg (fun x => dqp scale (Q (head2 t)) (K (head2 t)) (U (head2 t)) (D (head2 t)) x e) (by show _ = 544 + (t.val % 2 * 272 + (r : ℕ)); omega)

include O hdk in
theorem dkA2_at (t : Fin cfg2.N) (j : Fin 1088) (hj : (j : ℕ) < 2176) (e : Fin 128) :
    dkA2 (F := Ideal) V c t (ix3 0 j e) = (dk (ix3 (head2 t) ⟨j, hj⟩ e) : EReal)
      + ∑ r : Fin 272, ds scale (Q (head2 t)) (K (head2 t)) (U (head2 t)) (D (head2 t)) ((2 + t.val % 2) * 272 + r) j * pad (Q (head2 t) ((2 + t.val % 2) * 272 + r)) e := by
  unfold dkA2
  refine (dkAdd2_point _ _ _ _ _ _ _ _ _ (q2_block V c Q K U D O t) (k2_block V c Q K U D O t) (v2_block V c Q K U D O t)
    (d2_block V c Q K U D O t) (O.qreal _) (O.kreal _) _ j e).trans ?_
  rw [dk2_block V c dk hdk t j hj e]
  simp only [row2_at]

include O hdk in
theorem dkAt2_at (t : Fin cfg2.N) (ht : t.val % 2 = 1) (j : Fin 1088) (hj : (j : ℕ) < 2176) (e : Fin 128) :
    dkAt2 (F := Ideal) V c t (ix3 0 j e) = dkG 544 Q K U D dk (ix3 (head2 t) ⟨j, hj⟩ e) := by
  unfold dkAt2
  rw [if_neg (by omega)]
  refine (dkAdd2_point _ _ _ _ _ _ _ _ _ (q2_block V c Q K U D O t) (k2_block V c Q K U D O t) (v2_block V c Q K U D O t)
    (d2_block V c Q K U D O t) (O.qreal _) (O.kreal _) _ j e).trans ?_
  have hp : (prev2 t).val % 2 = 0 := by show (t.val - 1) % 2 = 0; omega
  have hh : head2 (prev2 t) = head2 t := Fin.ext (by show (t.val - 1) / 2 = t.val / 2; omega)
  rw [dkA2_at V c Q K U D O dk hdk (prev2 t) j hj e, hh, hp]
  simp only [row2_at, ht]
  exact two_blocks 544 (dk (ix3 (head2 t) ⟨j, hj⟩ e))
    (fun R => ds scale (Q (head2 t)) (K (head2 t)) (U (head2 t)) (D (head2 t)) R j * pad (Q (head2 t) R) e) 2 rfl

include O hdv in
theorem dvA2_at (t : Fin cfg2.N) (j : Fin 1088) (hj : (j : ℕ) < 2176) (u : Fin 64) :
    dvA2 (F := Ideal) V c t (ix3 0 j u) = (dv (ix3 (head2 t) ⟨j, hj⟩ u) : EReal)
      + ∑ r : Fin 272, pr scale (Q (head2 t)) (K (head2 t)) ((2 + t.val % 2) * 272 + r) j * D (head2 t) ((2 + t.val % 2) * 272 + r) u := by
  unfold dvA2
  refine (dvAdd2_point _ _ _ _ _ _ _ (q2_block V c Q K U D O t) (k2_block V c Q K U D O t)
    (d2_block V c Q K U D O t) (O.qreal _) (O.kreal _) _ j u).trans ?_
  rw [dv2_block V c dv hdv t j hj u]
  simp only [row2_at]

include O hdv in
theorem dvAt2_at (t : Fin cfg2.N) (ht : t.val % 2 = 1) (j : Fin 1088) (hj : (j : ℕ) < 2176) (u : Fin 64) :
    dvAt2 (F := Ideal) V c t (ix3 0 j u) = dvG 544 Q K D dv (ix3 (head2 t) ⟨j, hj⟩ u) := by
  unfold dvAt2
  rw [if_neg (by omega)]
  refine (dvAdd2_point _ _ _ _ _ _ _ (q2_block V c Q K U D O t) (k2_block V c Q K U D O t)
    (d2_block V c Q K U D O t) (O.qreal _) (O.kreal _) _ j u).trans ?_
  have hp : (prev2 t).val % 2 = 0 := by show (t.val - 1) % 2 = 0; omega
  have hh : head2 (prev2 t) = head2 t := Fin.ext (by show (t.val - 1) / 2 = t.val / 2; omega)
  rw [dvA2_at V c Q K U D O dv hdv (prev2 t) j hj u, hh, hp]
  simp only [row2_at, ht]
  exact two_blocks 544 (dv (ix3 (head2 t) ⟨j, hj⟩ u))
    (fun R => pr scale (Q (head2 t)) (K (head2 t)) R j * D (head2 t) R u) 2 rfl

include O in
theorem dqAt2_idx (t : Fin cfg2.N) (b : S1x272x128.Idx) (i : S8x544x128.Idx)
    (h0 : (i 0 : ℕ) = t.val / 2) (h1 : (i 1 : ℕ) = t.val % 2 * 272 + b 1) (h2 : (i 2 : ℕ) = b 2) :
    dqAt2 (F := Ideal) V c t b = dqG 544 Q K U D i := by
  have hb : b = ix3 0 (b 1) (b 2) := (eq_ix3 b).trans (congrArg (fun x => ix3 x (b 1) (b 2)) (Subsingleton.elim (α := Fin 1) _ _))
  have hl : (i 1 : ℕ) < 544 := (i 1).isLt
  have hi : i = ix3 (head2 t) ⟨t.val % 2 * 272 + b 1, by omega⟩ (b 2) :=
    idx_eq i _ _ _ h0 h1 h2
  exact (congrArg (dqAt2 (F := Ideal) V c t) hb).trans ((dqAt2_at V c Q K U D O t (b 1) (b 2) _).trans (congrArg (dqG 544 Q K U D) hi.symm))

include O hdk in
theorem dkAt2_idx (t : Fin cfg2.N) (ht : t.val % 2 = 1) (b : S1x1088x128.Idx) (i : S8x2176x128.Idx)
    (h0 : (i 0 : ℕ) = t.val / 2) (h1 : (i 1 : ℕ) = b 1) (h2 : (i 2 : ℕ) = b 2) :
    dkAt2 (F := Ideal) V c t b = dkG 544 Q K U D dk i := by
  have hb : b = ix3 0 (b 1) (b 2) := (eq_ix3 b).trans (congrArg (fun x => ix3 x (b 1) (b 2)) (Subsingleton.elim (α := Fin 1) _ _))
  have hl : (i 1 : ℕ) < 2176 := (i 1).isLt
  have hi : i = ix3 (head2 t) ⟨b 1, by omega⟩ (b 2) :=
    idx_eq i _ _ _ h0 h1 h2
  exact (congrArg (dkAt2 (F := Ideal) V c t) hb).trans ((dkAt2_at V c Q K U D O dk hdk t ht (b 1) _ (b 2)).trans (congrArg (dkG 544 Q K U D dk) hi.symm))

include O hdv in
theorem dvAt2_idx (t : Fin cfg2.N) (ht : t.val % 2 = 1) (b : S1x1088x64.Idx) (i : S8x2176x64.Idx)
    (h0 : (i 0 : ℕ) = t.val / 2) (h1 : (i 1 : ℕ) = b 1) (h2 : (i 2 : ℕ) = b 2) :
    dvAt2 (F := Ideal) V c t b = dvG 544 Q K D dv i := by
  have hb : b = ix3 0 (b 1) (b 2) := (eq_ix3 b).trans (congrArg (fun x => ix3 x (b 1) (b 2)) (Subsingleton.elim (α := Fin 1) _ _))
  have hl : (i 1 : ℕ) < 2176 := (i 1).isLt
  have hi : i = ix3 (head2 t) ⟨b 1, by omega⟩ (b 2) :=
    idx_eq i _ _ _ h0 h1 h2
  exact (congrArg (dvAt2 (F := Ideal) V c t) hb).trans ((dvAt2_at V c Q K U D O dv hdv t ht (b 1) _ (b 2)).trans (congrArg (dvG 544 Q K D dv) hi.symm))

include O in
/-- The queries' gradient of the call's 544 queries, -/
theorem dq2_array : (dat2 V c).arrAt 6 cfg2.N = dqG 544 Q K U D := by
  refine (dat2 V c).arrAt_eq_of_covers 6 _ (by decide +kernel) (fun t hf y => ?_)
  blk_simp
  rw [after2_6]
  frame_out
  refine dqAt2_idx V c Q K U D O t _ _ ?_ ?_ ?_ <;> blk_simp [at2 t]

include O hdk hdk' in
/-- the keys' gradient, -/
theorem dk2_array : (dat2 V c).arrAt 7 cfg2.N = dkG 544 Q K U D dk := by
  refine (dat2 V c).arrAt_eq_of_coversWhere_of_agree 7 _ (fun β => β 1 = 0) (by decide +kernel) (fun t hf y => ?_) (fun j hj => ?_)
  · blk_simp
    rw [after2_7]
    frame_out
    refine dkAt2_idx V c Q K U D O dk hdk t ((Gen.flush2_7 t).1 hf) _ _ ?_ ?_ ?_ <;> blk_simp [at2 t]
  · rw [A_eq2, show V c (Pipeline.arrRef spec2 7) = dk from hdk']
    blk_simp [Pipeline.Window.cell_apply] at hj ⊢
    exact dkG_after _ _ _ O.qreal O.kreal _ _ (by omega)

include O hdv hdv' in
/-- and the values'. -/
theorem dv2_array : (dat2 V c).arrAt 8 cfg2.N = dvG 544 Q K D dv := by
  refine (dat2 V c).arrAt_eq_of_coversWhere_of_agree 8 _ (fun β => β 1 = 0) (by decide +kernel) (fun t hf y => ?_) (fun j hj => ?_)
  · blk_simp
    rw [after2_8]
    frame_out
    refine dvAt2_idx V c Q K U D O dv hdv t ((Gen.flush2_8 t).1 hf) _ _ ?_ ?_ ?_ <;> blk_simp [at2 t]
  · rw [A_eq2, show V c (Pipeline.arrRef spec2 8) = dv from hdv']
    blk_simp [Pipeline.Window.cell_apply] at hj ⊢
    exact dvG_after _ _ O.qreal O.kreal _ _ (by omega)
end
end Cert.KernelIdeal.Att
-- ==== Proof.Block3.lean ====
/- What one grid step of the gradient's call over keys 0 … 543 computes, element by element, in the row formulas of its head:
   its rows are the 272-row block of queries that its number names. -/
module

public import proofs.«01_k».proof.Proof.Region3
public import proofs.«01_k».proof.Proof.Rows

@[expose] public section
set_option maxRecDepth 16384
noncomputable section

namespace Cert.KernelIdeal.Att
open Cert.KernelIdeal Cert.KernelIdeal.Gen Idealize.ShloMosaic Idealize.ShloMosaic.TcCoe Idealize.SL.Sem Cert.Att

section
variable (i : grid3.Coords) (x0 : FVec Ideal S1x272x128 .bf16) (x1 : FVec Ideal S1x544x128 .bf16)
  (x2 : FVec Ideal S1x544x64 .bf16) (x3 : FVec Ideal S1x272x64 .f32)
  (Q K : ℕ → Fin 96 → EReal) (V D : ℕ → Fin 64 → EReal)

/-- The query row of block row `r`. -/
def row3 (r : Fin 272) : ℕ := (0 + (i 1 : ℕ)) * 272 + r

theorem row3_lt (r : Fin 272) : row3 i r < 544 := by
  have h1 : (i 1 : ℕ) < 2 := (i 1).isLt
  have h2 := r.isLt
  unfold row3; omega

theorem row3_word (r : Fin 272) :
    IntOp.addi (Scalar.muli (Scalar.addi (0#32) (BitVec.ofNat 32 (i 1 : ℕ))) 272#32) (BitVec.ofNat 32 (r : ℕ)) = BitVec.ofNat 32 (row3 i r) := by
  have e : ∀ a b : ℕ, IntOp.addi (Scalar.muli (Scalar.addi (0#32) (BitVec.ofNat 32 a)) 272#32) (BitVec.ofNat 32 b) = BitVec.ofNat 32 ((0 + a) * 272 + b) := by
    intro a b
    simp only [BitVec.ofNat_add, BitVec.ofNat_mul]
    rfl
  exact e _ _

theorem mask3 : (Named.named κ "mask" (0xF149F2CA#32 : BitVec (FTy.f32).bits) : Ideal .f32) = (⊥ : EReal) := rfl

theorem q3_word (r : Fin 272) (e : Fin 128) : k3_pay9 (F := Ideal) x0 (ix2 r e) = x0 (ix3 0 r e) := by
  pointwise [k3_pay9]
theorem k3_word (j : Fin 544) (e : Fin 128) : k3_pay10 (F := Ideal) x1 (ix2 j e) = x1 (ix3 0 j e) := by
  pointwise [k3_pay10]
theorem do3_word (r : Fin 272) (u : Fin 64) : k3_pay11 (F := Ideal) x3 (ix2 r u) = x3 (ix3 0 r u) := by
  pointwise [k3_pay11]

theorem dp3_word (r : Fin 272) (j : Fin 544) : k3_pay13 (F := Ideal) x2 x3 (ix2 r j) = ∑ u : Fin 64, x3 (ix3 0 r u) * x2 (ix3 0 j u) := by
  pointwise [k3_pay13, k3_pay11]

theorem dl3_word (r : Fin 272) : k3_pay14 (F := Ideal) i x0 x1 x2 x3 (ix2 r 0)
    = ∑ j : Fin 544, k3_pay12 (F := Ideal) i x0 x1 (ix2 r j) * k3_pay13 (F := Ideal) x2 x3 (ix2 r j) := by
  pointwise [k3_pay14]

theorem ds3_word (p g : FVec Ideal S272x544 .f32) (l : FVec Ideal S272x1 .f32) (r : Fin 272) (j : Fin 544) :
    k3_pay1 (F := Ideal) p g l (ix2 r j) = p (ix2 r j) * (g (ix2 r j) - l (ix2 r 0)) * Ideal.ofBits .f32 0x3DD105EC#32 := by
  pointwise [k3_pay1]

theorem dq3_word (k : FVec Ideal S544x128 .bf16) (p g : FVec Ideal S272x544 .f32) (l : FVec Ideal S272x1 .f32) (r : Fin 272) (e : Fin 128) :
    k3_pay2 (F := Ideal) k p g l (ix3 0 r e) = ∑ j : Fin 544, k3_pay1 (F := Ideal) p g l (ix2 r j) * k (ix2 j e) := by
  pointwise [k3_pay2]

theorem dk3_word (q : FVec Ideal S272x128 .bf16) (p g : FVec Ideal S272x544 .f32) (l : FVec Ideal S272x1 .f32)
    (acc : FVec Ideal S1x544x128 .f32) (j : Fin 544) (e : Fin 128) :
    k3_pay5 (F := Ideal) q p g l acc (ix3 0 j e) = acc (ix3 0 j e) + ∑ r : Fin 272, k3_pay1 (F := Ideal) p g l (ix2 r j) * q (ix2 r e) := by
  pointwise [k3_pay5, k3_pay3]

theorem dv3_word (d : FVec Ideal S272x64 .bf16) (p : FVec Ideal S272x544 .f32) (acc : FVec Ideal S1x544x64 .f32) (j : Fin 544) (u : Fin 64) :
    k3_pay6 (F := Ideal) d p acc (ix3 0 j u) = acc (ix3 0 j u) + ∑ r : Fin 272, p (ix2 r j) * d (ix2 r u) := by
  pointwise [k3_pay6, k3_pay4]

/-- The masked score as the step forms it. -/
def sc3 (r : Fin 272) (j : Fin 544) : EReal :=
  Scalar.select (IntOp.cmpi .sle (BitVec.ofNat 32 (j : ℕ)) (IntOp.addi (Scalar.muli (Scalar.addi (0#32) (BitVec.ofNat 32 (i 1 : ℕ))) 272#32) (BitVec.ofNat 32 (r : ℕ))))
    ((∑ e : Fin 128, x0 (ix3 0 r e) * x1 (ix3 0 j e)) * Ideal.ofBits .f32 0x3DD105EC#32) (Named.named κ "mask" (0xF149F2CA#32 : BitVec (FTy.f32).bits) : Ideal .f32)

theorem p3_word (r : Fin 272) (j : Fin 544) : k3_pay12 (F := Ideal) i x0 x1 (ix2 r j)
    = Ideal.exp (sc3 i x0 x1 r j - Finset.univ.fold max (Ideal.ofBits .f32 0xFF800000#32) (fun x => sc3 i x0 x1 r x))
      * Ideal.div 1 (∑ y : Fin 544, Ideal.exp (sc3 i x0 x1 r y - Finset.univ.fold max (Ideal.ofBits .f32 0xFF800000#32) (fun x => sc3 i x0 x1 r x))) := by
  simp only [sc3]
  pointwise [k3_pay12, k3_pay9, k3_pay10]

variable (h0 : ∀ (r : Fin 272) (e : Fin 128), x0 (ix3 0 r e) = pad (Q (row3 i r)) e)
  (h1 : ∀ (j : Fin 544) (e : Fin 128), x1 (ix3 0 j e) = pad (K j) e)
  (h2 : ∀ (j : Fin 544) (u : Fin 64), x2 (ix3 0 j u) = V j u)
  (h3 : ∀ (r : Fin 272) (u : Fin 64), x3 (ix3 0 r u) = D (row3 i r) u)
  (hQ : ∀ r e, IsReal (Q r e)) (hK : ∀ r e, IsReal (K r e))

include h0 h1 in
theorem sc3_point (r : Fin 272) (j : Fin 544) : sc3 i x0 x1 r j = score scale Q K (row3 i r) j := by
  unfold sc3
  rw [row3_word, select_sle _ _ (by omega) (lt_trans (row3_lt i r) (by norm_num)), mask3, score]
  simp only [h0, h1, sum_padded, scale]

include h0 h1 hQ hK in
theorem p3_point (r : Fin 272) (j : Fin 544) : k3_pay12 (F := Ideal) i x0 x1 (ix2 r j) = pr scale Q K (row3 i r) j := by
  rw [p3_word]
  simp only [sc3_point i x0 x1 Q K h0 h1, neg_inf_word]
  exact row_point scale_fin hQ hK (row3_lt i r) j

include h2 h3 in
theorem dp3_point (r : Fin 272) (j : Fin 544) : k3_pay13 (F := Ideal) x2 x3 (ix2 r j) = dp V D (row3 i r) j := by
  rw [dp3_word, dp]
  simp only [h2, h3]

include h0 h1 h2 h3 hQ hK in
theorem dl3_point (r : Fin 272) : k3_pay14 (F := Ideal) i x0 x1 x2 x3 (ix2 r 0) = dl scale Q K V D (row3 i r) := by
  rw [dl3_word, ← dl_fin scale_fin hQ hK (row3_lt i r)]
  simp only [p3_point i x0 x1 Q K h0 h1 hQ hK, dp3_point i x2 x3 V D h2 h3]

include h0 h1 h2 h3 hQ hK in
theorem ds3_point (r : Fin 272) (j : Fin 544) :
    k3_pay1 (F := Ideal) (k3_pay12 i x0 x1) (k3_pay13 x2 x3) (k3_pay14 i x0 x1 x2 x3) (ix2 r j) = ds scale Q K V D (row3 i r) j := by
  rw [ds3_word, p3_point i x0 x1 Q K h0 h1 hQ hK, dp3_point i x2 x3 V D h2 h3, dl3_point i x0 x1 x2 x3 Q K V D h0 h1 h2 h3 hQ hK]
  rfl

include h0 h1 h2 h3 hQ hK in
/-- A step's rows of the queries' gradient. -/
theorem dqOut3_point (r : Fin 272) (e : Fin 128) :
    dqOut3 (F := Ideal) i x0 x1 x2 x3 (ix3 0 r e) = dqp scale Q K V D (row3 i r) e := by
  refine (dq3_word _ _ _ _ r e).trans ?_
  rw [dqp, ← sum_fin (row3_lt i r) (fun j => ds scale Q K V D (row3 i r) j * pad (K j) e)
    fun j hj => by rw [ds_zero scale_fin hQ hK hj, zero_mul]]
  refine Finset.sum_congr rfl fun j _ => ?_
  rw [ds3_point i x0 x1 x2 x3 Q K V D h0 h1 h2 h3 hQ hK, k3_word, h1]

include h0 h1 h2 h3 hQ hK in
/-- A step's addition to the keys' gradient. -/
theorem dkAdd3_point (acc : FVec Ideal S1x544x128 .f32) (j : Fin 544) (e : Fin 128) :
    dkAdd3 (F := Ideal) i x0 x1 x2 x3 acc (ix3 0 j e)
      = acc (ix3 0 j e) + ∑ r : Fin 272, ds scale Q K V D (row3 i r) j * pad (Q (row3 i r)) e := by
  refine (dk3_word _ _ _ _ acc j e).trans (congrArg (acc (ix3 0 j e) + ·) ?_)
  refine Finset.sum_congr rfl fun r _ => ?_
  rw [ds3_point i x0 x1 x2 x3 Q K V D h0 h1 h2 h3 hQ hK, q3_word, h0]

include h0 h1 h3 hQ hK in
/-- A step's addition to the values' gradient. -/
theorem dvAdd3_point (acc : FVec Ideal S1x544x64 .f32) (j : Fin 544) (u : Fin 64) :
    dvAdd3 (F := Ideal) i x0 x1 x3 acc (ix3 0 j u)
      = acc (ix3 0 j u) + ∑ r : Fin 272, pr scale Q K (row3 i r) j * D (row3 i r) u := by
  refine (dv3_word _ _ acc j u).trans (congrArg (acc (ix3 0 j u) + ·) ?_)
  refine Finset.sum_congr rfl fun r _ => ?_
  rw [p3_point i x0 x1 Q K h0 h1 hQ hK, do3_word, h3]

end
end Cert.KernelIdeal.Att
end
-- ==== Proof.Array3.lean ====
/- What the gradient's call over keys 0 … 543 leaves in its three results, as a function of the contents of its operands. -/
module

public import proofs.«01_k».proof.Proof.Block3
public import proofs.«01_k».proof.Proof.Operands

@[expose] public section
set_option maxRecDepth 16384
noncomputable section

namespace Cert.KernelIdeal.Att
open Cert.KernelIdeal Cert.KernelIdeal.Gen Idealize.ShloMosaic Idealize.ShloMosaic.TcCoe Idealize.SL.Sem Cert.Att

/-- The blocks of grid point `t`: head `t / 2`, block `t % 2` of the call's queries. -/
theorem at3 : ∀ t : Fin cfg3.N, win3_0.index t = ![t.val / 2, 0 + t.val % 2, 0] ∧ win3_1.index t = ![t.val / 2, 0, 0]
    ∧ win3_2.index t = ![t.val / 2, 0, 0] ∧ win3_3.index t = ![t.val / 2, 0 + t.val % 2, 0]
    ∧ win3_4.index t = ![t.val / 2, 0, 0] ∧ win3_5.index t = ![t.val / 2, 0, 0]
    ∧ win3_6.index t = ![t.val / 2, t.val % 2, 0] ∧ win3_7.index t = ![t.val / 2, 0, 0] ∧ win3_8.index t = ![t.val / 2, 0, 0]
    ∧ ((grid3.coords t) 1 : ℕ) = t.val % 2 :=
  (by decide +kernel : ∀ t : Fin grid3.N, _)

/-- The head of a grid point. -/
def head3 (t : Fin cfg3.N) : Fin 8 := ⟨t.val / 2, by have h : t.val < 16 := t.isLt; omega⟩

section
variable (V : (c : Dev nD) → (b : Ref sig .tc) → Buf (Elt Ideal) ((c : Thread nD τ).loc b)) (c : Dev nD)
  (Q K : Fin 8 → ℕ → Fin 96 → EReal) (U D : Fin 8 → ℕ → Fin 64 → EReal)
  (O : Operands (V c main_v3) (V c main_v6) (V c main_v8) (V c main_v9) Q K U D)
include O

theorem q3_block (t : Fin cfg3.N) (r : Fin 272) (e : Fin 128) :
    (iblk3 V c 0 t : FVec Ideal S1x272x128 .bf16) (ix3 0 r e) = pad (Q (head3 t) (row3 (grid3.coords t) r)) e := by
  have hr := row3_lt (grid3.coords t) r
  rw [← O.q (head3 t) ⟨row3 (grid3.coords t) r, by omega⟩ e]
  have h1 := (at3 t).2.2.2.2.2.2.2.2.2
  blk_point [iblk3, at3 t, head3, row3]

theorem k3_block (t : Fin cfg3.N) (j : Fin 544) (e : Fin 128) :
    (iblk3 V c 1 t : FVec Ideal S1x544x128 .bf16) (ix3 0 j e) = pad (K (head3 t) j) e := by
  have hj := j.isLt
  rw [← O.k (head3 t) ⟨j, by omega⟩ e]
  blk_point [iblk3, at3 t, head3]

theorem v3_block (t : Fin cfg3.N) (j : Fin 544) (u : Fin 64) :
    (iblk3 V c 2 t : FVec Ideal S1x544x64 .bf16) (ix3 0 j u) = U (head3 t) j u := by
  have hj := j.isLt
  rw [← O.v (head3 t) ⟨j, by omega⟩ u]
  blk_point [iblk3, at3 t, head3]

theorem d3_block (t : Fin cfg3.N) (r : Fin 272) (u : Fin 64) :
    (iblk3 V c 3 t : FVec Ideal S1x272x64 .f32) (ix3 0 r u) = D (head3 t) (row3 (grid3.coords t) r) u := by
  have hr := row3_lt (grid3.coords t) r
  rw [← O.d (head3 t) ⟨row3 (grid3.coords t) r, by omega⟩ u]
  have h1 := (at3 t).2.2.2.2.2.2.2.2.2
  blk_point [iblk3, at3 t, head3, row3]

omit O

variable (dk : FVec Ideal S8x2176x128 .f32) (dv : FVec Ideal S8x2176x64 .f32)
  (hdk : V c main_v14_1 = dk) (hdv : V c main_v14_2 = dv)
  (hdk' : V c main_v15_1 = dk) (hdv' : V c main_v15_2 = dv)
include hdk in
theorem dk3_block (t : Fin cfg3.N) (j : Fin 544) (hj : (j : ℕ) < 2176) (e : Fin 128) :
    (iblk3 V c 4 t : FVec Ideal S1x544x128 .f32) (ix3 0 j e) = dk (ix3 (head3 t) ⟨j, hj⟩ e) := by
  rw [← hdk]
  blk_point [iblk3, at3 t, head3]

include hdv in
theorem dv3_block (t : Fin cfg3.N) (j : Fin 544) (hj : (j : ℕ) < 2176) (u : Fin 64) :
    (iblk3 V c 5 t : FVec Ideal S1x544x64 .f32) (ix3 0 j u) = dv (ix3 (head3 t) ⟨j, hj⟩ u) := by
  rw [← hdv]
  blk_point [iblk3, at3 t, head3]

theorem row3_at (t : Fin cfg3.N) (r : Fin 272) : row3 (grid3.coords t) r = (0 + t.val % 2) * 272 + r := by
  unfold row3; rw [(at3 t).2.2.2.2.2.2.2.2.2]

include O in
theorem dqAt3_at (t : Fin cfg3.N) (r : Fin 272) (e : Fin 128) (h : ((t.val % 2) * 272 + r : ℕ) < 544) :
    dqAt3 (F := Ideal) V c t (ix3 0 r e) = dqG 0 Q K U D (ix3 (head3 t) ⟨(t.val % 2) * 272 + r, h⟩ e) := by
  unfold dqAt3
  rw [dqOut3_point _ _ _ _ _ _ _ _ _ (q3_block V c Q K U D O t) (k3_block V c Q K U D O t) (v3_block V c Q K U D O t)
    (d3_block V c Q K U D O t) (O.qreal _) (O.kreal _) r e, row3_at]
  exact congrArg (fun x => dqp scale (Q (head3 t)) (K (head3 t)) (U (head3 t)) (D (head3 t)) x e) (by show _ = 0 + (t.val % 2 * 272 + (r : ℕ)); omega)

include O hdk in
theorem dkA3_at (t : Fin cfg3.N) (j : Fin 544) (hj : (j : ℕ) < 2176) (e : Fin 128) :
    dkA3 (F := Ideal) V c t (ix3 0 j e) = (dk (ix3 (head3 t) ⟨j, hj⟩ e) : EReal)
      + ∑ r : Fin 272, ds scale (Q (head3 t)) (K (head3 t)) (U (head3 t)) (D (head3 t)) ((0 + t.val % 2) * 272 + r) j * pad (Q (head3 t) ((0 + t.val % 2) * 272 + r)) e := by
  unfold dkA3
  refine (dkAdd3_point _ _ _ _ _ _ _ _ _ (q3_block V c Q K U D O t) (k3_block V c Q K U D O t) (v3_block V c Q K U D O t)
    (d3_block V c Q K U D O t) (O.qreal _) (O.kreal _) _ j e).trans ?_
  rw [dk3_block V c dk hdk t j hj e]
  simp only [row3_at]

include O hdk in
theorem dkAt3_at (t : Fin cfg3.N) (ht : t.val % 2 = 1) (j : Fin 544) (hj : (j : ℕ) < 2176) (e : Fin 128) :
    dkAt3 (F := Ideal) V c t (ix3 0 j e) = dkG 0 Q K U D dk (ix3 (head3 t) ⟨j, hj⟩ e) := by
  unfold dkAt3
  rw [if_neg (by omega)]
  refine (dkAdd3_point _ _ _ _ _ _ _ _ _ (q3_block V c Q K U D O t) (k3_block V c Q K U D O t) (v3_block V c Q K U D O t)
    (d3_block V c Q K U D O t) (O.qreal _) (O.kreal _) _ j e).trans ?_
  have hp : (prev3 t).val % 2 = 0 := by show (t.val - 1) % 2 = 0; omega
  have hh : head3 (prev3 t) = head3 t := Fin.ext (by show (t.val - 1) / 2 = t.val / 2; omega)
  rw [dkA3_at V c Q K U D O dk hdk (prev3 t) j hj e, hh, hp]
  simp only [row3_at, ht]
  exact two_blocks 0 (dk (ix3 (head3 t) ⟨j, hj⟩ e))
    (fun R => ds scale (Q (head3 t)) (K (head3 t)) (U (head3 t)) (D (head3 t)) R j * pad (Q (head3 t) R) e) 0 rfl

include O hdv in
theorem dvA3_at (t : Fin cfg3.N) (j : Fin 544) (hj : (j : ℕ) < 2176) (u : Fin 64) :
    dvA3 (F := Ideal) V c t (ix3 0 j u) = (dv (ix3 (head3 t) ⟨j, hj⟩ u) : EReal)
      + ∑ r : Fin 272, pr scale (Q (head3 t)) (K (head3 t)) ((0 + t.val % 2) * 272 + r) j * D (head3 t) ((0 + t.val % 2) * 272 + r) u := by
  unfold dvA3
  refine (dvAdd3_point _ _ _ _ _ _ _ (q3_block V c Q K U D O t) (k3_block V c Q K U D O t)
    (d3_block V c Q K U D O t) (O.qreal _) (O.kreal _) _ j u).trans ?_
  rw [dv3_block V c dv hdv t j hj u]
  simp only [row3_at]

include O hdv in
theorem dvAt3_at (t : Fin cfg3.N) (ht : t.val % 2 = 1) (j : Fin 544) (hj : (j : ℕ) < 2176) (u : Fin 64) :
    dvAt3 (F := Ideal) V c t (ix3 0 j u) = dvG 0 Q K D dv (ix3 (head3 t) ⟨j, hj⟩ u) := by
  unfold dvAt3
  rw [if_neg (by omega)]
  refine (dvAdd3_point _ _ _ _ _ _ _ (q3_block V c Q K U D O t) (k3_block V c Q K U D O t)
    (d3_block V c Q K U D O t) (O.qreal _) (O.kreal _) _ j u).trans ?_
  have hp : (prev3 t).val % 2 = 0 := by show (t.val - 1) % 2 = 0; omega
  have hh : head3 (prev3 t) = head3 t := Fin.ext (by show (t.val - 1) / 2 = t.val / 2; omega)
  rw [dvA3_at V c Q K U D O dv hdv (prev3 t) j hj u, hh, hp]
  simp only [row3_at, ht]
  exact two_blocks 0 (dv (ix3 (head3 t) ⟨j, hj⟩ u))
    (fun R => pr scale (Q (head3 t)) (K (head3 t)) R j * D (head3 t) R u) 0 rfl

include O in
theorem dqAt3_idx (t : Fin cfg3.N) (b : S1x272x128.Idx) (i : S8x544x128.Idx)
    (h0 : (i 0 : ℕ) = t.val / 2) (h1 : (i 1 : ℕ) = t.val % 2 * 272 + b 1) (h2 : (i 2 : ℕ) = b 2) :
    dqAt3 (F := Ideal) V c t b = dqG 0 Q K U D i := by
  have hb : b = ix3 0 (b 1) (b 2) := (eq_ix3 b).trans (congrArg (fun x => ix3 x (b 1) (b 2)) (Subsingleton.elim (α := Fin 1) _ _))
  have hl : (i 1 : ℕ) < 544 := (i 1).isLt
  have hi : i = ix3 (head3 t) ⟨t.val % 2 * 272 + b 1, by omega⟩ (b 2) :=
    idx_eq i _ _ _ h0 h1 h2
  exact (congrArg (dqAt3 (F := Ideal) V c t) hb).trans ((dqAt3_at V c Q K U D O t (b 1) (b 2) _).trans (congrArg (dqG 0 Q K U D) hi.symm))

include O hdk in
theorem dkAt3_idx (t : Fin cfg3.N) (ht : t.val % 2 = 1) (b : S1x544x128.Idx) (i : S8x2176x128.Idx)
    (h0 : (i 0 : ℕ) = t.val / 2) (h1 : (i 1 : ℕ) = b 1) (h2 : (i 2 : ℕ) = b 2) :
    dkAt3 (F := Ideal) V c t b = dkG 0 Q K U D dk i := by
  have hb : b = ix3 0 (b 1) (b 2) := (eq_ix3 b).trans (congrArg (fun x => ix3 x (b 1) (b 2)) (Subsingleton.elim (α := Fin 1) _ _))
  have hl : (i 1 : ℕ) < 2176 := (i 1).isLt
  have hi : i = ix3 (head3 t) ⟨b 1, by omega⟩ (b 2) :=
    idx_eq i _ _ _ h0 h1 h2
  exact (congrArg (dkAt3 (F := Ideal) V c t) hb).trans ((dkAt3_at V c Q K U D O dk hdk t ht (b 1) _ (b 2)).trans (congrArg (dkG 0 Q K U D dk) hi.symm))

include O hdv in
theorem dvAt3_idx (t : Fin cfg3.N) (ht : t.val % 2 = 1) (b : S1x544x64.Idx) (i : S8x2176x64.Idx)
    (h0 : (i 0 : ℕ) = t.val / 2) (h1 : (i 1 : ℕ) = b 1) (h2 : (i 2 : ℕ) = b 2) :
    dvAt3 (F := Ideal) V c t b = dvG 0 Q K D dv i := by
  have hb : b = ix3 0 (b 1) (b 2) := (eq_ix3 b).trans (congrArg (fun x => ix3 x (b 1) (b 2)) (Subsingleton.elim (α := Fin 1) _ _))
  have hl : (i 1 : ℕ) < 2176 := (i 1).isLt
  have hi : i = ix3 (head3 t) ⟨b 1, by omega⟩ (b 2) :=
    idx_eq i _ _ _ h0 h1 h2
  exact (congrArg (dvAt3 (F := Ideal) V c t) hb).trans ((dvAt3_at V c Q K U D O dv hdv t ht (b 1) _ (b 2)).trans (congrArg (dvG 0 Q K D dv) hi.symm))

include O in
/-- The queries' gradient of the call's 544 queries, -/
theorem dq3_array : (dat3 V c).arrAt 6 cfg3.N = dqG 0 Q K U D := by
  refine (dat3 V c).arrAt_eq_of_covers 6 _ (by decide +kernel) (fun t hf y => ?_)
  blk_simp
  rw [after3_6]
  frame_out
  refine dqAt3_idx V c Q K U D O t _ _ ?_ ?_ ?_ <;> blk_simp [at3 t]

include O hdk hdk' in
/-- the keys' gradient, -/
theorem dk3_array : (dat3 V c).arrAt 7 cfg3.N = dkG 0 Q K U D dk := by
  refine (dat3 V c).arrAt_eq_of_coversWhere_of_agree 7 _ (fun β => β 1 = 0) (by decide +kernel) (fun t hf y => ?_) (fun j hj => ?_)
  · blk_simp
    rw [after3_7]
    frame_out
    refine dkAt3_idx V c Q K U D O dk hdk t ((Gen.flush3_7 t).1 hf) _ _ ?_ ?_ ?_ <;> blk_simp [at3 t]
  · rw [A_eq3, show V c (Pipeline.arrRef spec3 7) = dk from hdk']
    blk_simp [Pipeline.Window.cell_apply] at hj ⊢
    exact dkG_after _ _ _ O.qreal O.kreal _ _ (by omega)

include O hdv hdv' in
/-- and the values'. -/
theorem dv3_array : (dat3 V c).arrAt 8 cfg3.N = dvG 0 Q K D dv := by
  refine (dat3 V c).arrAt_eq_of_coversWhere_of_agree 8 _ (fun β => β 1 = 0) (by decide +kernel) (fun t hf y => ?_) (fun j hj => ?_)
  · blk_simp
    rw [after3_8]
    frame_out
    refine dvAt3_idx V c Q K U D O dv hdv t ((Gen.flush3_8 t).1 hf) _ _ ?_ ?_ ?_ <;> blk_simp [at3 t]
  · rw [A_eq3, show V c (Pipeline.arrRef spec3 8) = dv from hdv']
    blk_simp [Pipeline.Window.cell_apply] at hj ⊢
    exact dvG_after _ _ O.qreal O.kreal _ _ (by omega)
end
end Cert.KernelIdeal.Att
-- ==== Proof.Value.lean ====
/- What the program leaves in its three results: the three gradients of the attention, in the rows of each head. -/
module

public import proofs.«01_k».proof.Proof.Entry
public import proofs.«01_k».proof.Proof.Array0
public import proofs.«01_k».proof.Proof.Array1
public import proofs.«01_k».proof.Proof.Array2
public import proofs.«01_k».proof.Proof.Array3

@[expose] public section
set_option maxRecDepth 16384
noncomputable section

namespace Cert.KernelIdeal.Att
open Cert.KernelIdeal Cert.KernelIdeal.Gen Idealize.ShloMosaic Idealize.ShloMosaic.TcCoe Idealize.SL.Sem Cert.Att

variable (m : (ℓ : Loc nD τ sig) → Buf (Elt Ideal) ℓ) (ρ : Dev nD → PrngReg) (c : Dev nD)
  (a b : FVec Ideal S2176x8x96 .f32) (v d : FVec Ideal S2176x8x64 .f32)
  (ha : m (c.tc.loc main_arg0) = a) (hb : m (c.tc.loc main_arg1) = b)
  (hv : m (c.tc.loc main_arg2) = v) (hd : m (c.tc.loc main_arg3) = d)
  (fa : ∀ i, IsReal (a i)) (fb : ∀ i, IsReal (b i))

/-- The operands are the same at call 1. -/
theorem same1 : ∀ r ∈ [main_v3, main_v6, main_v8, main_v9], W3 m ρ c (Proc.devRef .tc r) = W1 m ρ c (Proc.devRef .tc r) := fun r hr =>
  (W3_of m ρ c r (ListAll.forall_mem_of_all_decide (p := fun r => r ∉ hostOps1_W) (by decide +kernel) r hr)).trans
    (W2_of m ρ c r (ListAll.forall_mem_of_all_decide (p := fun r => ∀ w : Fin cfg0.W, Pipeline.arrRef spec0 w = r → (cfg0.win w).isOut = false) (by decide +kernel) r hr))
/-- The operands are the same at call 2. -/
theorem same2 : ∀ r ∈ [main_v3, main_v6, main_v8, main_v9], W5 m ρ c (Proc.devRef .tc r) = W3 m ρ c (Proc.devRef .tc r) := fun r hr =>
  (W5_of m ρ c r (ListAll.forall_mem_of_all_decide (p := fun r => r ∉ hostOps2_W) (by decide +kernel) r hr)).trans
    (W4_of m ρ c r (ListAll.forall_mem_of_all_decide (p := fun r => ∀ w : Fin cfg1.W, Pipeline.arrRef spec1 w = r → (cfg1.win w).isOut = false) (by decide +kernel) r hr))
/-- The operands are the same at call 3. -/
theorem same3 : ∀ r ∈ [main_v3, main_v6, main_v8, main_v9], W7 m ρ c (Proc.devRef .tc r) = W5 m ρ c (Proc.devRef .tc r) := fun r hr =>
  (W7_of m ρ c r (ListAll.forall_mem_of_all_decide (p := fun r => r ∉ hostOps3_W) (by decide +kernel) r hr)).trans
    (W6_of m ρ c r (ListAll.forall_mem_of_all_decide (p := fun r => ∀ w : Fin cfg2.W, Pipeline.arrRef spec2 w = r → (cfg2.win w).isOut = false) (by decide +kernel) r hr))

/-- The keys' gradient after each call, -/
def dkAfter0 : FVec Ideal S8x2176x128 .f32 := dkG 1632 (rows a) (rows b) (rows v) (rows d) dkZero
def dkAfter1 : FVec Ideal S8x2176x128 .f32 := dkG 1088 (rows a) (rows b) (rows v) (rows d) (dkAfter0 a b v d)
def dkAfter2 : FVec Ideal S8x2176x128 .f32 := dkG 544 (rows a) (rows b) (rows v) (rows d) (dkAfter1 a b v d)
def dkAfter3 : FVec Ideal S8x2176x128 .f32 := dkG 0 (rows a) (rows b) (rows v) (rows d) (dkAfter2 a b v d)
/-- and the values'. -/
def dvAfter0 : FVec Ideal S8x2176x64 .f32 := dvG 1632 (rows a) (rows b) (rows d) dvZero
def dvAfter1 : FVec Ideal S8x2176x64 .f32 := dvG 1088 (rows a) (rows b) (rows d) (dvAfter0 a b d)
def dvAfter2 : FVec Ideal S8x2176x64 .f32 := dvG 544 (rows a) (rows b) (rows d) (dvAfter1 a b d)
def dvAfter3 : FVec Ideal S8x2176x64 .f32 := dvG 0 (rows a) (rows b) (rows d) (dvAfter2 a b d)

section
include ha hb hv hd fa fb
theorem operands0 : Operands (E1 m ρ c main_v3) (E1 m ρ c main_v6) (E1 m ρ c main_v8) (E1 m ρ c main_v9) (rows a) (rows b) (rows v) (rows d) :=
  entry m ρ c a b v d ha hb hv hd fa fb
theorem operands1 : Operands (E3 m ρ c main_v3) (E3 m ρ c main_v6) (E3 m ρ c main_v8) (E3 m ρ c main_v9) (rows a) (rows b) (rows v) (rows d) := by
  have h := operands0 m ρ c a b v d ha hb hv hd fa fb
  have e3 := same1 m ρ c main_v3 (by simp)
  have e6 := same1 m ρ c main_v6 (by simp)
  have e8 := same1 m ρ c main_v8 (by simp)
  have e9 := same1 m ρ c main_v9 (by simp)
  exact h.of_eq e3 e6 e8 e9
theorem operands2 : Operands (E5 m ρ c main_v3) (E5 m ρ c main_v6) (E5 m ρ c main_v8) (E5 m ρ c main_v9) (rows a) (rows b) (rows v) (rows d) := by
  have h := operands1 m ρ c a b v d ha hb hv hd fa fb
  have e3 := same2 m ρ c main_v3 (by simp)
  have e6 := same2 m ρ c main_v6 (by simp)
  have e8 := same2 m ρ c main_v8 (by simp)
  have e9 := same2 m ρ c main_v9 (by simp)
  exact h.of_eq e3 e6 e8 e9
theorem operands3 : Operands (E7 m ρ c main_v3) (E7 m ρ c main_v6) (E7 m ρ c main_v8) (E7 m ρ c main_v9) (rows a) (rows b) (rows v) (rows d) := by
  have h := operands2 m ρ c a b v d ha hb hv hd fa fb
  have e3 := same3 m ρ c main_v3 (by simp)
  have e6 := same3 m ρ c main_v6 (by simp)
  have e8 := same3 m ρ c main_v8 (by simp)
  have e9 := same3 m ρ c main_v9 (by simp)
  exact h.of_eq e3 e6 e8 e9
theorem dq0_out : W2 m ρ c (Proc.devRef .tc main_v12_0) = dqG 1632 (rows a) (rows b) (rows v) (rows d) :=
  (W2_arr m ρ c 6).trans (dq0_array (E1 m ρ) c (rows a) (rows b) (rows v) (rows d) (operands0 m ρ c a b v d ha hb hv hd fa fb))
theorem dk0_out : W2 m ρ c (Proc.devRef .tc main_v12_1) = dkAfter0 a b v d :=
  (W2_arr m ρ c 7).trans (dk0_array (E1 m ρ) c (rows a) (rows b) (rows v) (rows d) (operands0 m ρ c a b v d ha hb hv hd fa fb) dkZero (entry_dk m ρ c) (entry_dk' m ρ c))
theorem dv0_out : W2 m ρ c (Proc.devRef .tc main_v12_2) = dvAfter0 a b d :=
  (W2_arr m ρ c 8).trans (dv0_array (E1 m ρ) c (rows a) (rows b) (rows v) (rows d) (operands0 m ρ c a b v d ha hb hv hd fa fb) dvZero (entry_dv m ρ c) (entry_dv' m ρ c))
theorem dk1_in : W3 m ρ c (Proc.devRef .tc main_v12_1) = (dkAfter0 a b v d) :=
  (W3_of m ρ c main_v12_1 (by decide +kernel)).trans (dk0_out m ρ c a b v d ha hb hv hd fa fb)
theorem dk1_start : W3 m ρ c (Proc.devRef .tc main_v13_1) = (dkAfter0 a b v d) := by
  have h := dk0_out m ρ c a b v d ha hb hv hd fa fb
  after_results
  exact h
theorem dv1_in : W3 m ρ c (Proc.devRef .tc main_v12_2) = (dvAfter0 a b d) :=
  (W3_of m ρ c main_v12_2 (by decide +kernel)).trans (dv0_out m ρ c a b v d ha hb hv hd fa fb)
theorem dv1_start : W3 m ρ c (Proc.devRef .tc main_v13_2) = (dvAfter0 a b d) := by
  have h := dv0_out m ρ c a b v d ha hb hv hd fa fb
  after_results
  exact h
theorem dq1_out : W4 m ρ c (Proc.devRef .tc main_v13_0) = dqG 1088 (rows a) (rows b) (rows v) (rows d) :=
  (W4_arr m ρ c 6).trans (dq1_array (E3 m ρ) c (rows a) (rows b) (rows v) (rows d) (operands1 m ρ c a b v d ha hb hv hd fa fb))
theorem dk1_out : W4 m ρ c (Proc.devRef .tc main_v13_1) = dkAfter1 a b v d :=
  (W4_arr m ρ c 7).trans (dk1_array (E3 m ρ) c (rows a) (rows b) (rows v) (rows d) (operands1 m ρ c a b v d ha hb hv hd fa fb) (dkAfter0 a b v d) (dk1_in m ρ c a b v d ha hb hv hd fa fb) (dk1_start m ρ c a b v d ha hb hv hd fa fb))
theorem dv1_out : W4 m ρ c (Proc.devRef .tc main_v13_2) = dvAfter1 a b d :=
  (W4_arr m ρ c 8).trans (dv1_array (E3 m ρ) c (rows a) (rows b) (rows v) (rows d) (operands1 m ρ c a b v d ha hb hv hd fa fb) (dvAfter0 a b d) (dv1_in m ρ c a b v d ha hb hv hd fa fb) (dv1_start m ρ c a b v d ha hb hv hd fa fb))
theorem dk2_in : W5 m ρ c (Proc.devRef .tc main_v13_1) = (dkAfter1 a b v d) :=
  (W5_of m ρ c main_v13_1 (by decide +kernel)).trans (dk1_out m ρ c a b v d ha hb hv hd fa fb)
theorem dk2_start : W5 m ρ c (Proc.devRef .tc main_v14_1) = (dkAfter1 a b v d) := by
  have h := dk1_out m ρ c a b v d ha hb hv hd fa fb
  after_results
  exact h
theorem dv2_in : W5 m ρ c (Proc.devRef .tc main_v13_2) = (dvAfter1 a b d) :=
  (W5_of m ρ c main_v13_2 (by decide +kernel)).trans (dv1_out m ρ c a b v d ha hb hv hd fa fb)
theorem dv2_start : W5 m ρ c (Proc.devRef .tc main_v14_2) = (dvAfter1 a b d) := by
  have h := dv1_out m ρ c a b v d ha hb hv hd fa fb
  after_results
  exact h
theorem dq2_out : W6 m ρ c (Proc.devRef .tc main_v14_0) = dqG 544 (rows a) (rows b) (rows v) (rows d) :=
  (W6_arr m ρ c 6).trans (dq2_array (E5 m ρ) c (rows a) (rows b) (rows v) (rows d) (operands2 m ρ c a b v d ha hb hv hd fa fb))
theorem dk2_out : W6 m ρ c (Proc.devRef .tc main_v14_1) = dkAfter2 a b v d :=
  (W6_arr m ρ c 7).trans (dk2_array (E5 m ρ) c (rows a) (rows b) (rows v) (rows d) (operands2 m ρ c a b v d ha hb hv hd fa fb) (dkAfter1 a b v d) (dk2_in m ρ c a b v d ha hb hv hd fa fb) (dk2_start m ρ c a b v d ha hb hv hd fa fb))
theorem dv2_out : W6 m ρ c (Proc.devRef .tc main_v14_2) = dvAfter2 a b d :=
  (W6_arr m ρ c 8).trans (dv2_array (E5 m ρ) c (rows a) (rows b) (rows v) (rows d) (operands2 m ρ c a b v d ha hb hv hd fa fb) (dvAfter1 a b d) (dv2_in m ρ c a b v d ha hb hv hd fa fb) (dv2_start m ρ c a b v d ha hb hv hd fa fb))
theorem dk3_in : W7 m ρ c (Proc.devRef .tc main_v14_1) = (dkAfter2 a b v d) :=
  (W7_of m ρ c main_v14_1 (by decide +kernel)).trans (dk2_out m ρ c a b v d ha hb hv hd fa fb)
theorem dk3_start : W7 m ρ c (Proc.devRef .tc main_v15_1) = (dkAfter2 a b v d) := by
  have h := dk2_out m ρ c a b v d ha hb hv hd fa fb
  after_results
  exact h
theorem dv3_in : W7 m ρ c (Proc.devRef .tc main_v14_2) = (dvAfter2 a b d) :=
  (W7_of m ρ c main_v14_2 (by decide +kernel)).trans (dv2_out m ρ c a b v d ha hb hv hd fa fb)
theorem dv3_start : W7 m ρ c (Proc.devRef .tc main_v15_2) = (dvAfter2 a b d) := by
  have h := dv2_out m ρ c a b v d ha hb hv hd fa fb
  after_results
  exact h
theorem dq3_out : W8 m ρ c (Proc.devRef .tc main_v15_0) = dqG 0 (rows a) (rows b) (rows v) (rows d) :=
  (W8_arr m ρ c 6).trans (dq3_array (E7 m ρ) c (rows a) (rows b) (rows v) (rows d) (operands3 m ρ c a b v d ha hb hv hd fa fb))
theorem dk3_out : W8 m ρ c (Proc.devRef .tc main_v15_1) = dkAfter3 a b v d :=
  (W8_arr m ρ c 7).trans (dk3_array (E7 m ρ) c (rows a) (rows b) (rows v) (rows d) (operands3 m ρ c a b v d ha hb hv hd fa fb) (dkAfter2 a b v d) (dk3_in m ρ c a b v d ha hb hv hd fa fb) (dk3_start m ρ c a b v d ha hb hv hd fa fb))
theorem dv3_out : W8 m ρ c (Proc.devRef .tc main_v15_2) = dvAfter3 a b d :=
  (W8_arr m ρ c 8).trans (dv3_array (E7 m ρ) c (rows a) (rows b) (rows v) (rows d) (operands3 m ρ c a b v d ha hb hv hd fa fb) (dvAfter2 a b d) (dv3_in m ρ c a b v d ha hb hv hd fa fb) (dv3_start m ρ c a b v d ha hb hv hd fa fb))
end
/-- The queries' gradient of call 0 stays. -/
theorem keep0 : W8 m ρ c (Proc.devRef .tc main_v12_0) = W2 m ρ c (Proc.devRef .tc main_v12_0) :=
  (W8_of m ρ c main_v12_0 (by decide +kernel)).trans ((W7_of m ρ c main_v12_0 (by decide +kernel)).trans ((W6_of m ρ c main_v12_0 (by decide +kernel)).trans ((W5_of m ρ c main_v12_0 (by decide +kernel)).trans ((W4_of m ρ c main_v12_0 (by decide +kernel)).trans ((W3_of m ρ c main_v12_0 (by decide +kernel)))))))
/-- The queries' gradient of call 1 stays. -/
theorem keep1 : W8 m ρ c (Proc.devRef .tc main_v13_0) = W4 m ρ c (Proc.devRef .tc main_v13_0) :=
  (W8_of m ρ c main_v13_0 (by decide +kernel)).trans ((W7_of m ρ c main_v13_0 (by decide +kernel)).trans ((W6_of m ρ c main_v13_0 (by decide +kernel)).trans ((W5_of m ρ c main_v13_0 (by decide +kernel)))))
/-- The queries' gradient of call 2 stays. -/
theorem keep2 : W8 m ρ c (Proc.devRef .tc main_v14_0) = W6 m ρ c (Proc.devRef .tc main_v14_0) :=
  (W8_of m ρ c main_v14_0 (by decide +kernel)).trans ((W7_of m ρ c main_v14_0 (by decide +kernel)))

theorem joined (x0 x1 x2 x3 : FVec Ideal S8x544x128 .f32) (r : Fin 2176) (h : Fin 8) (e : Fin 96) (f : ℕ → EReal)
    (h0 : ∀ s : Fin 544, x0 (ix3 h s ⟨e, by omega⟩) = f (0 + s)) (h1 : ∀ s : Fin 544, x1 (ix3 h s ⟨e, by omega⟩) = f (544 + s))
    (h2 : ∀ s : Fin 544, x2 (ix3 h s ⟨e, by omega⟩) = f (1088 + s)) (h3 : ∀ s : Fin 544, x3 (ix3 h s ⟨e, by omega⟩) = f (1632 + s)) :
    extractStridedSlice S2176x8x96 ![0, 0, 0]
      (transpose S2176x8x128 [1, 0, 2]
        (concatenate S8x2176x128 1 [⟨S8x544x128, x0⟩, ⟨S8x544x128, x1⟩, ⟨S8x544x128, x2⟩, ⟨S8x544x128, x3⟩]
          concatenates_S8x544x128_S8x544x128_S8x544x128_S8x544x128_S8x2176x128_d1)
        transposes_S8x2176x128_S2176x8x128_1_0_2)
      slices_S2176x8x128_S2176x8x96_0_0_0 (ix3 r h e) = f r := by
  pointwise
  have hr := r.isLt
  split
  · exact (h0 _).trans (congrArg f (by show 0 + (r : ℕ) = r; omega))
  split
  · exact (h1 _).trans (congrArg f (by show 544 + ((r : ℕ) - 544) = r; omega))
  split
  · exact (h2 _).trans (congrArg f (by show 1088 + ((r : ℕ) - 544 - 544) = r; omega))
  · exact (h3 _).trans (congrArg f (by show 1632 + ((r : ℕ) - 544 - 544 - 544) = r; omega))

section
include ha hb hv hd fa fb
theorem out_dk (r : Fin 2176) (h : Fin 8) (e : Fin 96) :
    (W9 m ρ c (Proc.devRef .tc main_v20) : FVec Ideal S2176x8x96 .f32) (ix3 r h e) = dkv scale (rows a h) (rows b h) (rows v h) (rows d h) r e := by
  have e1 := dk3_out m ρ c a b v d ha hb hv hd fa fb
  after_results
  rw [show W8 m ρ c (Proc.devRef .tc main_v15_1) = dkAfter3 a b v d from e1]
  pointwise
  refine (four_segments (fun R => ds scale (rows a h) (rows b h) (rows v h) (rows d h) R r * Att.pad (rows a h R) ⟨e, by omega⟩)).trans ?_
  exact Finset.sum_congr rfl fun R _ => congrArg _ (pad_lt _ _ _)
theorem out_dv (r : Fin 2176) (h : Fin 8) (u : Fin 64) :
    (W9 m ρ c (Proc.devRef .tc main_v21) : FVec Ideal S2176x8x64 .f32) (ix3 r h u) = dvv scale (rows a h) (rows b h) (rows d h) r u := by
  have e1 := dv3_out m ρ c a b v d ha hb hv hd fa fb
  after_results
  rw [show W8 m ρ c (Proc.devRef .tc main_v15_2) = dvAfter3 a b d from e1]
  pointwise
  exact four_segments (fun R => pr scale (rows a h) (rows b h) R r * rows d h R u)
theorem out_dq (r : Fin 2176) (h : Fin 8) (e : Fin 96) :
    (W9 m ρ c (Proc.devRef .tc main_v18) : FVec Ideal S2176x8x96 .f32) (ix3 r h e) = dqv scale (rows a h) (rows b h) (rows v h) (rows d h) r e := by
  have e0 := (keep0 m ρ c).trans (dq0_out m ρ c a b v d ha hb hv hd fa fb)
  have e1 := (keep1 m ρ c).trans (dq1_out m ρ c a b v d ha hb hv hd fa fb)
  have e2 := (keep2 m ρ c).trans (dq2_out m ρ c a b v d ha hb hv hd fa fb)
  have e3 := dq3_out m ρ c a b v d ha hb hv hd fa fb
  after_results
  have key : ∀ (B : ℕ) (s : Fin 544), dqG B (rows a) (rows b) (rows v) (rows d) (ix3 h s ⟨e, by omega⟩)
      = dqv scale (rows a h) (rows b h) (rows v h) (rows d h) (B + s) e := fun B s => by
    show dqp scale (rows a h) (rows b h) (rows v h) (rows d h) (B + s) ⟨e, by omega⟩ = _
    unfold dqp dqv
    exact Finset.sum_congr rfl fun R _ => congrArg (ds scale (rows a h) (rows b h) (rows v h) (rows d h) (B + s) R * ·) (pad_lt (rows b h R) e _)
  exact joined _ _ _ _ r h e (fun R => dqv scale (rows a h) (rows b h) (rows v h) (rows d h) R e)
    (fun s => (congrFun e3 _).trans (key 0 s)) (fun s => (congrFun e2 _).trans (key 544 s))
    (fun s => (congrFun e1 _).trans (key 1088 s)) (fun s => (congrFun e0 _).trans (key 1632 s))
end
end Cert.KernelIdeal.Att
-- ==== Proof.RefValue.lean ====
/- The reference's three gradients read element by element: each is the sum that the row formulas of one head name. -/
module

public import proofs.«01_k».proof.Proof.Gen.ReferenceIdeal.Run
public import proofs.«01_k».proof.Proof.Rows
@[expose] public section
set_option maxRecDepth 16384
noncomputable section
namespace Cert.ReferenceIdeal.Att
open Cert.ReferenceIdeal Cert.ReferenceIdeal.Gen Cert.ReferenceIdeal.Value Idealize.ShloMosaic Idealize.ShloMosaic.TcCoe Idealize.SL.Sem
open Cert.Att
/-- A score-shaped array. -/
abbrev B := FVec Ideal S8x2176x2176 .f32
/-- Which keys a query row sees. -/
def rmask : IVec S8x2176x2176 1 := broadcastInDim S8x2176x2176 ![0, 1, 2] bcast_S1x2176x2176_S8x2176x2176_0_1_2 (broadcastInDim S1x2176x2176 ![1, 2] bcast_S2176x2176_S1x2176x2176_1_2 (cmpi .sle (broadcastInDim S2176x2176 ![0, 1] bcast_S1x2176_S2176x2176_0_1 (broadcastInDim S1x2176 ![1] bcast_S2176_S1x2176_1 (iotaInDim S2176 32 0))) (broadcastInDim S2176x2176 ![0, 1] bcast_S2176x1_S2176x2176_0_1 (broadcastInDim S2176x1 ![0] bcast_S2176_S2176x1_0 (iotaInDim S2176 32 0)))))
/-- The masked scores. -/
def rscore (a b : FVec Ideal S2176x8x96 .f32) : B := select rmask (mulf (Host.dotGeneral dot_S2176x8x96_S2176x8x96_S8x2176x2176_2_2_0_0_1_1 none a b) (broadcastInDim S8x2176x2176 ![] bcast_S_S8x2176x2176 (constant S_ .f32 0x3DD105EC#32))) (broadcastInDim S8x2176x2176 ![] bcast_S_S8x2176x2176 (id (constant S_ .f32 0xFF800000#32)))
/-- The rows' maxima. -/
def rmax (s : B) : FVec Ideal S8x2176 .f32 := maximumf (broadcastInDim S8x2176 ![] bcast_S_S8x2176 (constant S_ .f32 0xFF800000#32)) (Host.reduce FloatOps.maximumf s (constant S_ .f32 0xFF800000#32) reducesTo_S8x2176x2176_S8x2176_d2 h_S_)
/-- The exponentials. -/
def rexp (s : B) : B := Host.exp (subf s (broadcastInDim S8x2176x2176 ![0, 1, 2] bcast_S8x2176x1_S8x2176x2176_0_1_2 (broadcastInDim S8x2176x1 ![0, 1] bcast_S8x2176_S8x2176x1_0_1 (rmax s))))
/-- The rows' sums. -/
def rden (e : B) : FVec Ideal S8x2176x1 .f32 := broadcastInDim S8x2176x1 ![0, 1] bcast_S8x2176_S8x2176x1_0_1 (Host.reduceAdd e (constant S_ .f32 0x00000000#32) reducesTo_S8x2176x2176_S8x2176_d2 h_S_)
/-- The weights. -/
def rp (e : B) (l : FVec Ideal S8x2176x1 .f32) : B := Host.divf e (broadcastInDim S8x2176x2176 ![0, 1, 2] bcast_S8x2176x1_S8x2176x2176_0_1_2 l)
/-- The values' gradient. -/
def rdv (d : FVec Ideal S2176x8x64 .f32) (p : B) : FVec Ideal S2176x8x64 .f32 := transpose S2176x8x64 [2, 0, 1] (Host.dotGeneral dot_S8x64x2176_S8x2176x2176_S8x64x2176_2_1_1_2_0_0 none (transpose S8x64x2176 [1, 2, 0] d transposes_S2176x8x64_S8x64x2176_1_2_0) p) transposes_S8x64x2176_S2176x8x64_2_0_1
/-- The weights' gradient. -/
def rdp (v d : FVec Ideal S2176x8x64 .f32) : B := Host.dotGeneral dot_S8x64x2176_S2176x8x64_S8x2176x2176_1_2_2_0_0_1 none (transpose S8x64x2176 [1, 2, 0] d transposes_S2176x8x64_S8x64x2176_1_2_0) v
/-- The rows' corrections. -/
def rcorr (g e : B) (l : FVec Ideal S8x2176x1 .f32) : FVec Ideal S8x2176 .f32 :=
  Host.reduceAdd (Host.negf (shapeCast _ (Host.reduceAdd (mulf (mulf g (broadcastInDim S8x2176x2176 ![0, 1, 2] bcast_S8x2176x1_S8x2176x2176_0_1_2 (Host.divf (broadcastInDim S8x2176x1 ![] bcast_S_S8x2176x1 (constant S_ .f32 0x3F800000#32)) (mulf l l)))) e) (constant S_ .f32 0x00000000#32) reducesTo_S8x2176x2176_S8x2176_d2 h_S_) shapeCasts_S8x2176_S8x2176x1)) (constant S_ .f32 0x00000000#32) reducesTo_S8x2176x1_S8x2176_d2 h_S_
/-- The scores' gradient. -/
def rds (g e : B) (l : FVec Ideal S8x2176x1 .f32) : B :=
  mulf (select rmask (mulf (addf (Host.divf g (broadcastInDim S8x2176x2176 ![0, 1, 2] bcast_S8x2176x1_S8x2176x2176_0_1_2 l)) (broadcastInDim S8x2176x2176 ![0, 1] bcast_S8x2176_S8x2176x2176_0_1 (rcorr g e l))) e) (broadcastInDim S8x2176x2176 ![] bcast_S_S8x2176x2176 (constant S_ .f32 0x00000000#32))) (broadcastInDim S8x2176x2176 ![] bcast_S_S8x2176x2176 (constant S_ .f32 0x3DD105EC#32))
/-- The keys' gradient. -/
def rdk (s : B) (q : FVec Ideal S2176x8x96 .f32) : FVec Ideal S2176x8x96 .f32 := transpose S2176x8x96 [1, 0, 2] (Host.dotGeneral dot_S8x2176x2176_S2176x8x96_S8x2176x96_1_0_2_2_0_1 none s q) transposes_S8x2176x96_S2176x8x96_1_0_2
/-- The queries' gradient. -/
def rdq (s : B) (k : FVec Ideal S2176x8x96 .f32) : FVec Ideal S2176x8x96 .f32 := transpose S2176x8x96 [1, 0, 2] (Host.dotGeneral dot_S8x2176x2176_S2176x8x96_S8x2176x96_2_0_1_2_0_1 none s k) transposes_S8x2176x96_S2176x8x96_1_0_2

theorem out2 (m : (ℓ : Loc nD τ sig) → Buf (Elt Ideal) ℓ) (c : Dev nD) (a b : FVec Ideal S2176x8x96 .f32) (v d : FVec Ideal S2176x8x64 .f32)
   (ha : m ((c.tc : Thread nD τ).loc main_arg0) = a) (hb : m ((c.tc : Thread nD τ).loc main_arg1) = b) (hd : m ((c.tc : Thread nD τ).loc main_arg3) = d) :
   res_out2 m c = rdv d (rp (rexp (rscore a b)) (rden (rexp (rscore a b)))) := by
  subst ha hb hd; rfl
theorem out1 (m : (ℓ : Loc nD τ sig) → Buf (Elt Ideal) ℓ) (c : Dev nD) (a b : FVec Ideal S2176x8x96 .f32) (v d : FVec Ideal S2176x8x64 .f32)
   (ha : m ((c.tc : Thread nD τ).loc main_arg0) = a) (hb : m ((c.tc : Thread nD τ).loc main_arg1) = b) (hv : m ((c.tc : Thread nD τ).loc main_arg2) = v) (hd : m ((c.tc : Thread nD τ).loc main_arg3) = d) :
   res_out1 m c = rdk (rds (rdp v d) (rexp (rscore a b)) (rden (rexp (rscore a b)))) a := by
  subst ha hb hd hv; rfl
theorem out0 (m : (ℓ : Loc nD τ sig) → Buf (Elt Ideal) ℓ) (c : Dev nD) (a b : FVec Ideal S2176x8x96 .f32) (v d : FVec Ideal S2176x8x64 .f32)
   (ha : m ((c.tc : Thread nD τ).loc main_arg0) = a) (hb : m ((c.tc : Thread nD τ).loc main_arg1) = b) (hv : m ((c.tc : Thread nD τ).loc main_arg2) = v) (hd : m ((c.tc : Thread nD τ).loc main_arg3) = d) :
   res_out0 m c = rdq (rds (rdp v d) (rexp (rscore a b)) (rden (rexp (rscore a b)))) b := by
  subst ha hb hd hv; rfl

theorem host_max {n0 n1 n2 : Nat} (h : (⟨3, ![n0, n1, n2]⟩ : Shape).ReducesTo [2] ⟨2, ![n0, n1]⟩) (v : FVec Ideal ⟨3, ![n0, n1, n2]⟩ .f32)
    (c : FVec Ideal S_ .f32) (z : EReal) (hc : ∀ i, c i = z) (hu : 0 < S_.numel) (w : FVec Ideal ⟨2, ![n0, n1]⟩ .f32) (hw : ∀ i, w i = z) (a : Fin n0) (b : Fin n1) :
    maximumf w (Host.reduce FloatOps.maximumf v c h hu) (ix2 a b) = max z (Finset.univ.fold max z fun k : Fin n2 => v (ix3 a b k)) := by
  simp only [pointwise, hc, hw]

theorem neg_inf : Ideal.ofBits .f32 0xFF800000#32 = ⊥ := by simp [Ideal.ofBits, Ideal.ieee]

theorem mask_word (h : Fin 8) (r j : Fin 2176) : rmask (ix3 h r j) = IntOp.cmpi .sle (BitVec.ofNat 32 j) (BitVec.ofNat 32 r) := by
  pointwise [rmask]

theorem select_mask (h : Fin 8) (r j : Fin 2176) (x y : EReal) : Scalar.select (rmask (ix3 h r j)) x y = if (j : ℕ) ≤ r then x else y := by
  rw [mask_word]
  exact select_sle _ _ (by omega) (by omega) x y

section
variable (a b : FVec Ideal S2176x8x96 .f32) (v d : FVec Ideal S2176x8x64 .f32) (h : Fin 8)

theorem score_point (r j : Fin 2176) : rscore a b (ix3 h r j) = score scale (rows a h) (rows b h) r j := by
  have e : rscore a b (ix3 h r j) = Scalar.select (rmask (ix3 h r j)) ((∑ x : Fin 96, a (ix3 r h x) * b (ix3 j h x)) * Ideal.ofBits .f32 0x3DD105EC#32)
      (Ideal.ofBits .f32 0xFF800000#32) := by
    pointwise [rscore]
    rfl
  rw [e, select_mask, neg_inf, score]
  simp only [rows_val, scale]

theorem max_point (s : B) (r : Fin 2176) : rmax s (ix2 h r) = Finset.univ.fold max ⊥ (fun x => s (ix3 h r x)) := by
  unfold rmax
  refine (host_max _ _ _ (Ideal.ofBits .f32 0xFF800000#32) (fun _ => rfl) _ _ (fun _ => rfl) h r).trans ?_
  rw [neg_inf]
  exact max_eq_right bot_le

theorem exp_word (s : B) (r j : Fin 2176) : rexp s (ix3 h r j) = Ideal.exp (s (ix3 h r j) - rmax s (ix2 h r)) := by
  pointwise [rexp]

theorem exp_point (r j : Fin 2176) : rexp (rscore a b) (ix3 h r j) = ex scale (rows a h) (rows b h) r j := by
  rw [exp_word, max_point, score_point, ex, ← fold_fin _ _ _ r.isLt]
  simp only [score_point]

theorem den_word (e : B) (r : Fin 2176) : rden e (ix3 h r 0) = ∑ x : Fin 2176, e (ix3 h r x) := by
  pointwise [rden]

theorem p_word (e : B) (l : FVec Ideal S8x2176x1 .f32) (r j : Fin 2176) : rp e l (ix3 h r j) = Ideal.div (e (ix3 h r j)) (l (ix3 h r 0)) := by
  pointwise [rp]

theorem dv_word (e : B) (j : Fin 2176) (u : Fin 64) : rdv d e (ix3 j h u) = ∑ x : Fin 2176, d (ix3 x h u) * e (ix3 h x j) := by
  pointwise [rdv]

theorem dp_word (r j : Fin 2176) : rdp v d (ix3 h r j) = ∑ x : Fin 64, d (ix3 r h x) * v (ix3 j h x) := by
  pointwise [rdp]

theorem dp_point (r j : Fin 2176) : rdp v d (ix3 h r j) = dp (rows v h) (rows d h) r j := by
  rw [dp_word, dp]
  simp only [rows_val]

theorem corr_word (g e : B) (l : FVec Ideal S8x2176x1 .f32) (r : Fin 2176) : rcorr g e l (ix2 h r)
    = ∑ y : Fin 1, -∑ x : Fin 2176, g (ix3 h r x) * Ideal.div 1 (l (ix3 h r 0) * l (ix3 h r 0)) * e (ix3 h r x) := by
  pointwise [rcorr]

theorem ds_word (g e : B) (l : FVec Ideal S8x2176x1 .f32) (r j : Fin 2176) : rds g e l (ix3 h r j)
    = Scalar.select (rmask (ix3 h r j)) ((Ideal.div (g (ix3 h r j)) (l (ix3 h r 0)) + rcorr g e l (ix2 h r)) * e (ix3 h r j)) 0 * Ideal.ofBits .f32 0x3DD105EC#32 := by
  pointwise [rds]

theorem dk_word (s : B) (j : Fin 2176) (u : Fin 96) : rdk s a (ix3 j h u) = ∑ x : Fin 2176, s (ix3 h x j) * a (ix3 x h u) := by
  pointwise [rdk]

theorem dq_word (s : B) (r : Fin 2176) (u : Fin 96) : rdq s b (ix3 r h u) = ∑ x : Fin 2176, s (ix3 h r x) * b (ix3 x h u) := by
  pointwise [rdq]

variable (ha : ∀ i, IsReal (a i)) (hb : ∀ i, IsReal (b i))
include ha hb

theorem den_point (r : Fin 2176) : rden (rexp (rscore a b)) (ix3 h r 0) = den scale (rows a h) (rows b h) r := by
  rw [den_word, ← den_fin scale_fin (rows_fin a ha h) (rows_fin b hb h) r.isLt]
  simp only [exp_point]

theorem p_point (r j : Fin 2176) : rp (rexp (rscore a b)) (rden (rexp (rscore a b))) (ix3 h r j) = pr scale (rows a h) (rows b h) r j := by
  rw [p_word, den_point a b h ha hb, exp_point, div_pr scale_fin (rows_fin a ha h) (rows_fin b hb h)]

theorem ds_point (r j : Fin 2176) : rds (rdp v d) (rexp (rscore a b)) (rden (rexp (rscore a b))) (ix3 h r j)
    = ds scale (rows a h) (rows b h) (rows v h) (rows d h) r j := by
  rw [ds_word, select_mask]
  by_cases hj : (j : ℕ) ≤ r
  · rw [if_pos hj, corr_word, ← quotient_ds scale_fin (rows_fin a ha h) (rows_fin b hb h) r.isLt]
    simp only [den_point a b h ha hb, exp_point, dp_point, Finset.univ_unique, Finset.sum_singleton]
    rfl
  · rw [if_neg hj, zero_mul, ds_zero scale_fin (rows_fin a ha h) (rows_fin b hb h) (by omega)]

theorem out2_point (j : Fin 2176) (u : Fin 64) :
    rdv d (rp (rexp (rscore a b)) (rden (rexp (rscore a b)))) (ix3 j h u) = dvv scale (rows a h) (rows b h) (rows d h) j u := by
  rw [dv_word, dvv, ← Fin.sum_univ_eq_sum_range]
  refine Finset.sum_congr rfl fun x _ => ?_
  rw [p_point a b h ha hb, rows_val, mul_comm]

theorem out1_point (j : Fin 2176) (u : Fin 96) :
    rdk (rds (rdp v d) (rexp (rscore a b)) (rden (rexp (rscore a b)))) a (ix3 j h u)
      = dkv scale (rows a h) (rows b h) (rows v h) (rows d h) j u := by
  rw [dk_word, dkv, ← Fin.sum_univ_eq_sum_range]
  refine Finset.sum_congr rfl fun x _ => ?_
  rw [ds_point a b v d h ha hb, rows_val]

theorem out0_point (r : Fin 2176) (u : Fin 96) :
    rdq (rds (rdp v d) (rexp (rscore a b)) (rden (rexp (rscore a b)))) b (ix3 r h u)
      = dqv scale (rows a h) (rows b h) (rows v h) (rows d h) r u := by
  rw [dq_word, dqv, ← sum_fin r.isLt (fun j => ds scale (rows a h) (rows b h) (rows v h) (rows d h) r j * rows b h j u)
    fun j hj => by rw [ds_zero scale_fin (rows_fin a ha h) (rows_fin b hb h) hj, zero_mul]]
  refine Finset.sum_congr rfl fun x _ => ?_
  rw [ds_point a b v d h ha hb, rows_val]

end
end Cert.ReferenceIdeal.Att
end
-- ==== Proof.Finite.lean ====
/- The precondition read back: every element of the two arrays is a real number. -/
module

public import proofs.«01_k».proof.Pre_finite_qk
public import proofs.«01_k».proof.Proof.Rows
public import Idealize.ShloMosaic.Lib.ReduceAll

@[expose] public section
noncomputable section

namespace Cert.Pre_finite_qk.Att
open Cert.Pre_finite_qk Idealize.ShloMosaic Cert.Att

/-- A number whose absolute value is below infinity is real. -/
theorem real_of_lt (x : EReal) (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

theorem real_of_reduce (x : FVec Ideal S2176x8x96 .f32) (hb : S_.BroadcastsInDim S2176x8x96 ![])
    (hr : S2176x8x96.ReducesTo [0, 1, 2] S_) (hu : 0 < S_.numel)
    (h : Host.reduce IntOp.andi (cmpf .olt (Host.absf x) (broadcastInDim S2176x8x96 ![] hb (constant S_ .f32 0x7F800000#32)) : IVec S2176x8x96 1)
      (constantI S_ 1 1#1) hr hu = fun _ => 1#1) (i : S2176x8x96.Idx) : IsReal (x i) := by
  haveI : Subsingleton S_.Idx := ⟨fun a b => funext fun k => k.elim0⟩
  exact real_of_lt (x i) (Host.reduce_andi_all _ _ hr hu (fun k => k.elim0) (congrFun h _) i)

theorem real_of_pre [Facts] (a b : FVec Ideal S2176x8x96 .f32) (v d : FVec Ideal S2176x8x64 .f32) (h : fn (F := Ideal) a b v d = fun _ => 1#1) :
    (∀ i, IsReal (a i)) ∧ ∀ i, IsReal (b i) := by
  have key := fun k => IntOp.andi_eq_one.1 (congrFun h k)
  exact ⟨real_of_reduce a _ _ _ (funext fun k => (key k).1), real_of_reduce b _ _ _ (funext fun k => (key k).2)⟩

end Cert.Pre_finite_qk.Att
-- ==== Proof.Claims.lean ====
/- The claims: the frames of the three programs, the named constant, and the equality of the gradients. -/
module

public import proofs.«01_k».proof.Defs
public import proofs.«01_k».proof.Proof.NamedBits
public import proofs.«01_k».proof.Proof.Value
public import proofs.«01_k».proof.Proof.RefValue
public import proofs.«01_k».proof.Proof.Finite
public import proofs.«01_k».proof.Proof.Gen.Pre_finite_qk

@[expose] public section
set_option maxRecDepth 16384
noncomputable section

namespace Cert.Proof
open Idealize.ShloMosaic Idealize.ShloMosaic.TcCoe Idealize.SL.Sem Cert.Att

theorem frame_kernel : Cert.quiescent_Kernel := fun m g _ => Cert.KernelIdeal.Att.kernel_frame m g
theorem frame_ideal : Cert.quiescent_KernelIdeal := fun m g _ => Cert.KernelIdeal.Att.run_frame m g
theorem frame_ideal_pre : Cert.quiescent_KernelIdeal_pre_finite_qk := fun m g _ => Cert.KernelIdeal.Att.run_frame m g
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)
theorem frame_reference_pre : Cert.quiescent_ReferenceIdeal_pre_finite_qk := fun m g _ => frame_reference m g trivial

theorem preserves : Cert.preserves_Kernel_KernelIdeal :=
  IdealRules.named_const.statement Cert.KernelIdeal.κ "mask" .f32 0xF149F2CA#32 ⊥ rfl

section
variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)
  (a b : FVec Ideal ⟨3, ![2176, 8, 96]⟩ .f32) (v d : FVec Ideal ⟨3, ![2176, 8, 64]⟩ .f32)
  (ha : m ((c : Thread Cert.KernelIdeal.nD Cert.KernelIdeal.τ).loc Cert.KernelIdeal.main_arg0) = a)
  (hb : m ((c : Thread Cert.KernelIdeal.nD Cert.KernelIdeal.τ).loc Cert.KernelIdeal.main_arg1) = b)
  (hv : m ((c : Thread Cert.KernelIdeal.nD Cert.KernelIdeal.τ).loc Cert.KernelIdeal.main_arg2) = v)
  (hd : m ((c : Thread Cert.KernelIdeal.nD Cert.KernelIdeal.τ).loc Cert.KernelIdeal.main_arg3) = d)
  (ha' : m' ((c : Thread Cert.ReferenceIdeal.nD Cert.ReferenceIdeal.τ).loc Cert.ReferenceIdeal.main_arg0) = a)
  (hb' : m' ((c : Thread Cert.ReferenceIdeal.nD Cert.ReferenceIdeal.τ).loc Cert.ReferenceIdeal.main_arg1) = b)
  (hv' : m' ((c : Thread Cert.ReferenceIdeal.nD Cert.ReferenceIdeal.τ).loc Cert.ReferenceIdeal.main_arg2) = v)
  (hd' : m' ((c : Thread Cert.ReferenceIdeal.nD Cert.ReferenceIdeal.τ).loc Cert.ReferenceIdeal.main_arg3) = d)
  (fa : ∀ i, IsReal (a i)) (fb : ∀ i, IsReal (b i))
include ha hb hv hd ha' hb' hv' hd' fa fb

/-- The queries' gradients agree, -/
theorem same_dq : (Cert.ReferenceIdeal.Value.res_out0 m' c : FVec Ideal ⟨3, ![2176, 8, 96]⟩ .f32)
    = Cert.KernelIdeal.Att.W9 m g c (Proc.devRef .tc Cert.KernelIdeal.main_v18) := by
  refine (Cert.ReferenceIdeal.Att.out0 m' c a b v d ha' hb' hv' hd').trans (funext fun i => ?_)
  obtain ⟨r, h, e, rfl⟩ : ∃ r h e, i = ix3 r h e := ⟨_, _, _, eq_ix3 i⟩
  exact (Cert.ReferenceIdeal.Att.out0_point a b v d h fa fb r e).trans (Cert.KernelIdeal.Att.out_dq m g c a b v d ha hb hv hd fa fb r h e).symm

/-- the keys', -/
theorem same_dk : (Cert.ReferenceIdeal.Value.res_out1 m' c : FVec Ideal ⟨3, ![2176, 8, 96]⟩ .f32)
    = Cert.KernelIdeal.Att.W9 m g c (Proc.devRef .tc Cert.KernelIdeal.main_v20) := by
  refine (Cert.ReferenceIdeal.Att.out1 m' c a b v d ha' hb' hv' hd').trans (funext fun i => ?_)
  obtain ⟨r, h, e, rfl⟩ : ∃ r h e, i = ix3 r h e := ⟨_, _, _, eq_ix3 i⟩
  exact (Cert.ReferenceIdeal.Att.out1_point a b v d h fa fb r e).trans (Cert.KernelIdeal.Att.out_dk m g c a b v d ha hb hv hd fa fb r h e).symm

/-- and the values'. -/
theorem same_dv : (Cert.ReferenceIdeal.Value.res_out2 m' c : FVec Ideal ⟨3, ![2176, 8, 64]⟩ .f32)
    = Cert.KernelIdeal.Att.W9 m g c (Proc.devRef .tc Cert.KernelIdeal.main_v21) := by
  refine (Cert.ReferenceIdeal.Att.out2 m' c a b v d ha' hb' hd').trans (funext fun i => ?_)
  obtain ⟨r, h, u, rfl⟩ : ∃ r h u, i = ix3 r h u := ⟨_, _, _, eq_ix3 i⟩
  exact (Cert.ReferenceIdeal.Att.out2_point a b d h fa fb r u).trans (Cert.KernelIdeal.Att.out_dv m g c a b v d ha hb hv hd fa fb r h u).symm
end

theorem algebraic : Cert.algebraic_KernelIdeal_ReferenceIdeal_pre_finite_qk := by
  intro m g m' g' hpre hargs
  have hf := fun c => Cert.Pre_finite_qk.Att.real_of_pre _ _ _ _ (hpre c)
  refine ⟨fun c => Cert.KernelIdeal.Att.W9 m g c (Proc.devRef .tc Cert.KernelIdeal.main_v18),
    fun c => Cert.KernelIdeal.Att.W9 m g c (Proc.devRef .tc Cert.KernelIdeal.main_v20),
    fun c => Cert.KernelIdeal.Att.W9 m g c (Proc.devRef .tc Cert.KernelIdeal.main_v21), ?_, ?_⟩
  · exact (θ_run Cert.KernelIdeal.defs _ _).mono (fun r h c =>
      ⟨h.1 c _ (Cert.KernelIdeal.Att.mem_refs Cert.KernelIdeal.main_v18 (by decide)),
       h.1 c _ (Cert.KernelIdeal.Att.mem_refs Cert.KernelIdeal.main_v20 (by decide)),
       h.1 c _ (Cert.KernelIdeal.Att.mem_refs Cert.KernelIdeal.main_v21 (by decide)),
       (h.1 c _ (Cert.KernelIdeal.Att.mem_refs Cert.KernelIdeal.main_arg0 (by decide))).trans (Cert.KernelIdeal.Att.W9_args m g c Cert.KernelIdeal.main_arg0 (by decide)),
       (h.1 c _ (Cert.KernelIdeal.Att.mem_refs Cert.KernelIdeal.main_arg1 (by decide))).trans (Cert.KernelIdeal.Att.W9_args m g c Cert.KernelIdeal.main_arg1 (by decide)),
       (h.1 c _ (Cert.KernelIdeal.Att.mem_refs Cert.KernelIdeal.main_arg2 (by decide))).trans (Cert.KernelIdeal.Att.W9_args m g c Cert.KernelIdeal.main_arg2 (by decide)),
       (h.1 c _ (Cert.KernelIdeal.Att.mem_refs Cert.KernelIdeal.main_arg3 (by decide))).trans (Cert.KernelIdeal.Att.W9_args m g c Cert.KernelIdeal.main_arg3 (by decide))⟩)
      (Cert.KernelIdeal.Att.run_main (F := Ideal) m g)
  · exact (θ_run Cert.ReferenceIdeal.defs _ _).mono (fun r h c =>
      ⟨(h c).1.trans (same_dq m g m' c _ _ _ _ rfl rfl rfl rfl (hargs c).1 (hargs c).2.1 (hargs c).2.2.1 (hargs c).2.2.2 (hf c).1 (hf c).2),
       (h c).2.1.trans (same_dk m g m' c _ _ _ _ rfl rfl rfl rfl (hargs c).1 (hargs c).2.1 (hargs c).2.2.1 (hargs c).2.2.2 (hf c).1 (hf c).2),
       (h c).2.2.1.trans (same_dv m g m' c _ _ _ _ rfl rfl rfl rfl (hargs c).1 (hargs c).2.1 (hargs c).2.2.1 (hargs c).2.2.2 (hf c).1 (hf c).2),
       (h c).2.2.2⟩)
      (Cert.ReferenceIdeal.Value.run (F := Ideal) m' g')

end Cert.Proof
-- ==== Proof.Ffn.Run.lean ====
/- The run of the feed-forward program, with what every array holds at its end. -/
module

public import proofs.«01_k».proof.Proof.Gen.Kernel2Ideal.Frame

@[expose] public section
set_option maxRecDepth 16384
noncomputable section

namespace Cert.Kernel2Ideal.Ffn
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends, with every array that outlives the launches at its last contents and every counter at zero. -/
theorem run_all : θ_run defs (onTc (τ := τ) (main (F := F))) ⟨m, fun _ => 0, ρ⟩ (fun r => (∀ c : Dev nD, ∀ b ∈ Pipeline.ucRefs τ sig, r.2.mem (((c : Thread nD τ)).1, b) = W14 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨h, funext fun g => hz g (.inr (no_unscoped g.2))⟩)

end Cert.Kernel2Ideal.Ffn
-- ==== Proof.Ffn.Products.lean ====
/- The three products of two matrices that the feed-forward layer and its gradients are made of. -/
module

public import proofs.«01_k».proof.Proof.Rows

@[expose] public section
noncomputable section

namespace Cert.Ffn
open Idealize.ShloMosaic

/-- Rows of `a` against rows of `b`. -/
def nt {m n k : ℕ} (a : (⟨2, ![m, k]⟩ : Shape).Idx → EReal) (b : (⟨2, ![n, k]⟩ : Shape).Idx → EReal) : (⟨2, ![m, n]⟩ : Shape).Idx → EReal :=
  fun i => ∑ e : Fin k, a (ix2 (i 0) e) * b (ix2 (i 1) e)
/-- Rows of `a` against columns of `b`. -/
def nn {m n k : ℕ} (a : (⟨2, ![m, k]⟩ : Shape).Idx → EReal) (b : (⟨2, ![k, n]⟩ : Shape).Idx → EReal) : (⟨2, ![m, n]⟩ : Shape).Idx → EReal :=
  fun i => ∑ e : Fin k, a (ix2 (i 0) e) * b (ix2 e (i 1))
/-- Columns of `a` against columns of `b`. -/
def tn {m n k : ℕ} (a : (⟨2, ![k, m]⟩ : Shape).Idx → EReal) (b : (⟨2, ![k, n]⟩ : Shape).Idx → EReal) : (⟨2, ![m, n]⟩ : Shape).Idx → EReal :=
  fun i => ∑ e : Fin k, a (ix2 e (i 0)) * b (ix2 e (i 1))

/-- Two arrays' sum. -/
def plus {s : Shape} (a b : s.Idx → EReal) : s.Idx → EReal := fun i => a i + b i

/-- The gated activation: `silu` of the gate, times the other branch. -/
def actF {s : Shape} (g u : s.Idx → EReal) : s.Idx → EReal := fun i => g i * Ideal.logistic (g i) * u i
/-- Its gradient for the gate, from the gradient `d` of the activation, -/
def dgateF {s : Shape} (g u d : s.Idx → EReal) : s.Idx → EReal := fun i =>
  d i * u i * (Ideal.logistic (g i) * (1 + g i * (1 - Ideal.logistic (g i))))
/-- and for the other branch. -/
def dupF {s : Shape} (g d : s.Idx → EReal) : s.Idx → EReal := fun i => d i * (g i * Ideal.logistic (g i))

/-- An index by its two coordinates. -/
theorem idx_eq {n0 n1 : ℕ} (i : (⟨2, ![n0, n1]⟩ : Shape).Idx) (a : Fin n0) (b : Fin n1) (h0 : (i 0 : ℕ) = a) (h1 : (i 1 : ℕ) = b) : i = ix2 a b :=
  (eq_ix2 i).trans (congr (congrArg ix2 (Fin.ext h0)) (Fin.ext h1))

/-- A matrix transposed. -/
def tr {m n : ℕ} (a : (⟨2, ![m, n]⟩ : Shape).Idx → EReal) : (⟨2, ![n, m]⟩ : Shape).Idx → EReal := fun i => a (ix2 (i 1) (i 0))

theorem nt_tr {m n k : ℕ} (a : (⟨2, ![m, k]⟩ : Shape).Idx → EReal) (b : (⟨2, ![k, n]⟩ : Shape).Idx → EReal) : nt a (tr b) = nn a b := rfl
theorem nn_tr {m n k : ℕ} (a : (⟨2, ![m, k]⟩ : Shape).Idx → EReal) (b : (⟨2, ![n, k]⟩ : Shape).Idx → EReal) : nn a (tr b) = nt a b := rfl
theorem tr_tn {m n k : ℕ} (a : (⟨2, ![k, m]⟩ : Shape).Idx → EReal) (b : (⟨2, ![k, n]⟩ : Shape).Idx → EReal) : tr (tn a b) = tn b a :=
  funext fun i => by
    unfold tr tn
    exact Finset.sum_congr rfl fun e _ => mul_comm _ _

section
variable {m n k : ℕ} {s : Shape}
theorem nt_congr {a a' : (⟨2, ![m, k]⟩ : Shape).Idx → EReal} {b b' : (⟨2, ![n, k]⟩ : Shape).Idx → EReal} (ha : a = a') (hb : b = b') : nt a b = nt a' b' := by rw [ha, hb]
theorem nn_congr {a a' : (⟨2, ![m, k]⟩ : Shape).Idx → EReal} {b b' : (⟨2, ![k, n]⟩ : Shape).Idx → EReal} (ha : a = a') (hb : b = b') : nn a b = nn a' b' := by rw [ha, hb]
theorem tn_congr {a a' : (⟨2, ![k, m]⟩ : Shape).Idx → EReal} {b b' : (⟨2, ![k, n]⟩ : Shape).Idx → EReal} (ha : a = a') (hb : b = b') : tn a b = tn a' b' := by rw [ha, hb]
theorem plus_congr {a a' b b' : s.Idx → EReal} (ha : a = a') (hb : b = b') : plus a b = plus a' b' := by rw [ha, hb]
theorem actF_congr {a a' b b' : s.Idx → EReal} (ha : a = a') (hb : b = b') : actF a b = actF a' b' := by rw [ha, hb]
theorem dupF_congr {a a' b b' : s.Idx → EReal} (ha : a = a') (hb : b = b') : dupF a b = dupF a' b' := by rw [ha, hb]
theorem dgateF_congr {a a' b b' d d' : s.Idx → EReal} (ha : a = a') (hb : b = b') (hd : d = d') : dgateF a b d = dgateF a' b' d' := by rw [ha, hb, hd]
end

/-! The layer: `x` the rows, `wg`, `wu`, `wd` the weights, `df` the gradient of the output, `dx` the gradient that reaches `x` by another path. -/
section
abbrev Rows := (⟨2, ![2176, 1024]⟩ : Shape).Idx → EReal
abbrev Wide := (⟨2, ![2176, 2816]⟩ : Shape).Idx → EReal
abbrev In := (⟨2, ![1024, 2816]⟩ : Shape).Idx → EReal
abbrev Out := (⟨2, ![2816, 1024]⟩ : Shape).Idx → EReal
variable (x : Rows) (wg wu : In) (wd : Out) (dx df : Rows)

/-- The activation. -/
def act : Wide := actF (nn x wg) (nn x wu)
/-- The output. -/
def outv : Rows := nn (act x wg wu) wd
/-- The activation's gradient. -/
def dact : Wide := nt df wd
/-- The gate's gradient. -/
def dgate : Wide := dgateF (nn x wg) (nn x wu) (dact wd df)
/-- The other branch's gradient. -/
def dup : Wide := dupF (nn x wg) (dact wd df)
/-- The input's gradient. -/
def dinput : Rows := plus (nt (dup x wg wd df) wu) (plus (nt (dgate x wg wu wd df) wg) dx)
/-- The gate weights' gradient, -/
def dwg : In := tn x (dgate x wg wu wd df)
/-- the other branch's, -/
def dwu : In := tn x (dup x wg wd df)
/-- and the down weights'. -/
def dwd : Out := tn (act x wg wu) df
end

end Cert.Ffn
-- ==== Proof.Ffn.Array0.lean ====
/- What the launch of the input cast leaves in its results, as a function of the arrays it reads. -/
module

public import proofs.«01_k».proof.Proof.Ffn.Products
public import proofs.«01_k».proof.Proof.Gen.Kernel2Ideal.Frame
public import Idealize.ShloMosaic.Lib.Pipeline.ValueKit

@[expose] public section
set_option maxRecDepth 16384
noncomputable section

namespace Cert.Kernel2Ideal.Ffn
open Cert.Kernel2Ideal Cert.Kernel2Ideal.Gen Idealize.ShloMosaic Idealize.ShloMosaic.TcCoe Idealize.SL.Sem Cert.Ffn

/-- The blocks of grid point `t`. -/
theorem at0 : ∀ t : Fin cfg0.N, win0_0.index t = ![t.val, 0] ∧ win0_1.index t = ![t.val, 0] :=
  (by decide +kernel : ∀ t : Fin grid0.N, _)

section
variable (V : (c : Dev nD) → (b : Ref sig .tc) → Buf (Elt Ideal) ((c : Thread nD τ).loc b)) (c : Dev nD)

/-- One element of a grid point's block. -/
theorem out0_1_at (t : Fin cfg0.N) (b : S544x1024.Idx) (i : S2176x1024.Idx) (h0 : (i 0 : ℕ) = t.val * 544 + b 0) (h1 : (i 1 : ℕ) = b 1) :
    k0_pay1 (F := Ideal) (iblk0 V c 0 t) b = ((V c main_arg0 : FVec Ideal S2176x1024 .f32)) i := by
  have e0 : (iblk0 V c 0 t : FVec Ideal S544x1024 .f32) b = (V c main_arg0 : FVec Ideal S2176x1024 .f32) i := by
    refine (congrArg (iblk0 V c 0 t : FVec Ideal S544x1024 .f32) (eq_ix2 b)).trans ?_
    rw [idx_eq i ⟨t.val * 544 + b 0, h0 ▸ (i 0).isLt⟩ ⟨b 1, h1 ▸ (i 1).isLt⟩ h0 h1]
    blk_point [iblk0, at0 t]
  pointwise [k0_pay1]
  rw [e0]

/-- The result whole. -/
theorem array0_1 : (dat0 V c).arrAt 1 cfg0.N = (V c main_arg0 : FVec Ideal S2176x1024 .f32) := by
  refine (dat0 V c).arrAt_eq_of_covers 1 _ (by decide +kernel) (fun t hf y => ?_)
  blk_simp
  rw [after0_1]
  frame_out
  refine out0_1_at V c t _ _ ?_ ?_ <;> blk_simp [at0 t]
end
end Cert.Kernel2Ideal.Ffn
-- ==== Proof.Ffn.Array1.lean ====
/- What the launch of the gate product leaves in its result, as a function of the arrays it reads. -/
module

public import proofs.«01_k».proof.Proof.Ffn.Products
public import proofs.«01_k».proof.Proof.Gen.Kernel2Ideal.Frame
public import Idealize.ShloMosaic.Lib.Pipeline.ValueKit

@[expose] public section
set_option maxRecDepth 16384
noncomputable section

namespace Cert.Kernel2Ideal.Ffn
open Cert.Kernel2Ideal Cert.Kernel2Ideal.Gen Idealize.ShloMosaic Idealize.ShloMosaic.TcCoe Idealize.SL.Sem Cert.Ffn

/-- The blocks of grid point `t`. -/
theorem at1 : ∀ t : Fin cfg1.N, win1_0.index t = ![0, 0] ∧ win1_1.index t = ![t.val, 0] ∧ win1_2.index t = ![0, t.val] :=
  (by decide +kernel : ∀ t : Fin grid1.N, _)

section
variable (V : (c : Dev nD) → (b : Ref sig .tc) → Buf (Elt Ideal) ((c : Thread nD τ).loc b)) (c : Dev nD)

/-- One element of a grid point's block. -/
theorem out1_at (t : Fin cfg1.N) (b : S2176x256.Idx) (i : S2176x2816.Idx) (h0 : (i 0 : ℕ) = b 0) (h1 : (i 1 : ℕ) = t.val * 256 + b 1) :
    k1_pay1 (F := Ideal) (iblk1 V c 0 t) (iblk1 V c 1 t) b = nt (V c main_v6 : FVec Ideal S2176x1024 .bf16) (V c main_v1 : FVec Ideal S2816x1024 .bf16) i := by
  rw [show b = ix2 (b 0) (b 1) from eq_ix2 b]
  pointwise [k1_pay1]
  unfold nt
  refine Finset.sum_congr rfl fun e _ => congr (congrArg HMul.hMul ?_) ?_ <;> blk_point [iblk1, at1 t]

/-- The result whole. -/
theorem array1 : (dat1 V c).arrAt 2 cfg1.N = nt (V c main_v6 : FVec Ideal S2176x1024 .bf16) (V c main_v1 : FVec Ideal S2816x1024 .bf16) := by
  refine (dat1 V c).arrAt_eq_of_covers 2 _ (by decide +kernel) (fun t hf y => ?_)
  blk_simp
  rw [after1_2]
  frame_out
  refine out1_at V c t _ _ ?_ ?_ <;> blk_simp [at1 t]
end
end Cert.Kernel2Ideal.Ffn
-- ==== Proof.Ffn.Array2.lean ====
/- What the launch of the up product leaves in its result, as a function of the arrays it reads. -/
module

public import proofs.«01_k».proof.Proof.Ffn.Products
public import proofs.«01_k».proof.Proof.Gen.Kernel2Ideal.Frame
public import Idealize.ShloMosaic.Lib.Pipeline.ValueKit

@[expose] public section
set_option maxRecDepth 16384
noncomputable section

namespace Cert.Kernel2Ideal.Ffn
open Cert.Kernel2Ideal Cert.Kernel2Ideal.Gen Idealize.ShloMosaic Idealize.ShloMosaic.TcCoe Idealize.SL.Sem Cert.Ffn

/-- The blocks of grid point `t`. -/
theorem at2 : ∀ t : Fin cfg2.N, win2_0.index t = ![0, 0] ∧ win2_1.index t = ![t.val, 0] ∧ win2_2.index t = ![0, t.val] :=
  (by decide +kernel : ∀ t : Fin grid2.N, _)

section
variable (V : (c : Dev nD) → (b : Ref sig .tc) → Buf (Elt Ideal) ((c : Thread nD τ).loc b)) (c : Dev nD)

/-- One element of a grid point's block. -/
theorem out2_at (t : Fin cfg2.N) (b : S2176x256.Idx) (i : S2176x2816.Idx) (h0 : (i 0 : ℕ) = b 0) (h1 : (i 1 : ℕ) = t.val * 256 + b 1) :
    k2_pay1 (F := Ideal) (iblk2 V c 0 t) (iblk2 V c 1 t) b = nt (V c main_v6 : FVec Ideal S2176x1024 .bf16) (V c main_v3 : FVec Ideal S2816x1024 .bf16) i := by
  rw [show b = ix2 (b 0) (b 1) from eq_ix2 b]
  pointwise [k2_pay1]
  unfold nt
  refine Finset.sum_congr rfl fun e _ => congr (congrArg HMul.hMul ?_) ?_ <;> blk_point [iblk2, at2 t]

/-- The result whole. -/
theorem array2 : (dat2 V c).arrAt 2 cfg2.N = nt (V c main_v6 : FVec Ideal S2176x1024 .bf16) (V c main_v3 : FVec Ideal S2816x1024 .bf16) := by
  refine (dat2 V c).arrAt_eq_of_covers 2 _ (by decide +kernel) (fun t hf y => ?_)
  blk_simp
  rw [after2_2]
  frame_out
  refine out2_at V c t _ _ ?_ ?_ <;> blk_simp [at2 t]
end
end Cert.Kernel2Ideal.Ffn
-- ==== Proof.Ffn.Array3.lean ====
/- What the launch of the activation leaves in its results, as a function of the arrays it reads. -/
module

public import proofs.«01_k».proof.Proof.Ffn.Products
public import proofs.«01_k».proof.Proof.Gen.Kernel2Ideal.Frame
public import Idealize.ShloMosaic.Lib.Pipeline.ValueKit

@[expose] public section
set_option maxRecDepth 16384
noncomputable section

namespace Cert.Kernel2Ideal.Ffn
open Cert.Kernel2Ideal Cert.Kernel2Ideal.Gen Idealize.ShloMosaic Idealize.ShloMosaic.TcCoe Idealize.SL.Sem Cert.Ffn

/-- The blocks of grid point `t`. -/
theorem at3 : ∀ t : Fin cfg3.N, win3_0.index t = ![t.val, 0] ∧ win3_1.index t = ![t.val, 0] ∧ win3_2.index t = ![t.val, 0] :=
  (by decide +kernel : ∀ t : Fin grid3.N, _)

section
variable (V : (c : Dev nD) → (b : Ref sig .tc) → Buf (Elt Ideal) ((c : Thread nD τ).loc b)) (c : Dev nD)

/-- One element of a grid point's block. -/
theorem out3_2_at (t : Fin cfg3.N) (b : S128x2816.Idx) (i : S2176x2816.Idx) (h0 : (i 0 : ℕ) = t.val * 128 + b 0) (h1 : (i 1 : ℕ) = b 1) :
    k3_pay1 (F := Ideal) (iblk3 V c 0 t) (iblk3 V c 1 t) b = (actF (V c main_v7 : FVec Ideal S2176x2816 .f32) (V c main_v8 : FVec Ideal S2176x2816 .f32)) i := by
  have e0 : (iblk3 V c 0 t : FVec Ideal S128x2816 .f32) b = (V c main_v7 : FVec Ideal S2176x2816 .f32) i := by
    refine (congrArg (iblk3 V c 0 t : FVec Ideal S128x2816 .f32) (eq_ix2 b)).trans ?_
    rw [idx_eq i ⟨t.val * 128 + b 0, h0 ▸ (i 0).isLt⟩ ⟨b 1, h1 ▸ (i 1).isLt⟩ h0 h1]
    blk_point [iblk3, at3 t]
  have e1 : (iblk3 V c 1 t : FVec Ideal S128x2816 .f32) b = (V c main_v8 : FVec Ideal S2176x2816 .f32) i := by
    refine (congrArg (iblk3 V c 1 t : FVec Ideal S128x2816 .f32) (eq_ix2 b)).trans ?_
    rw [idx_eq i ⟨t.val * 128 + b 0, h0 ▸ (i 0).isLt⟩ ⟨b 1, h1 ▸ (i 1).isLt⟩ h0 h1]
    blk_point [iblk3, at3 t]
  pointwise [k3_pay1]
  rw [e0, e1]
  rfl

/-- The result whole. -/
theorem array3_2 : (dat3 V c).arrAt 2 cfg3.N = actF (V c main_v7 : FVec Ideal S2176x2816 .f32) (V c main_v8 : FVec Ideal S2176x2816 .f32) := by
  refine (dat3 V c).arrAt_eq_of_covers 2 _ (by decide +kernel) (fun t hf y => ?_)
  blk_simp
  rw [after3_2]
  frame_out
  refine out3_2_at V c t _ _ ?_ ?_ <;> blk_simp [at3 t]
end
end Cert.Kernel2Ideal.Ffn
-- ==== Proof.Ffn.Array4.lean ====
/- What the launch of the down product leaves in its result, as a function of the arrays it reads. -/
module

public import proofs.«01_k».proof.Proof.Ffn.Products
public import proofs.«01_k».proof.Proof.Gen.Kernel2Ideal.Frame
public import Idealize.ShloMosaic.Lib.Pipeline.ValueKit

@[expose] public section
set_option maxRecDepth 16384
noncomputable section

namespace Cert.Kernel2Ideal.Ffn
open Cert.Kernel2Ideal Cert.Kernel2Ideal.Gen Idealize.ShloMosaic Idealize.ShloMosaic.TcCoe Idealize.SL.Sem Cert.Ffn

/-- The blocks of grid point `t`. -/
theorem at4 : ∀ t : Fin cfg4.N, win4_0.index t = ![t.val / 2, 0] ∧ win4_1.index t = ![0, t.val % 2] ∧ win4_2.index t = ![t.val / 2, t.val % 2] :=
  (by decide +kernel : ∀ t : Fin grid4.N, _)

section
variable (V : (c : Dev nD) → (b : Ref sig .tc) → Buf (Elt Ideal) ((c : Thread nD τ).loc b)) (c : Dev nD)

/-- One element of a grid point's block. -/
theorem out4_at (t : Fin cfg4.N) (b : S1088x512.Idx) (i : S2176x1024.Idx) (h0 : (i 0 : ℕ) = t.val / 2 * 1088 + b 0) (h1 : (i 1 : ℕ) = t.val % 2 * 512 + b 1) :
    k4_pay1 (F := Ideal) (iblk4 V c 0 t) (iblk4 V c 1 t) b = nn (V c main_v9 : FVec Ideal S2176x2816 .bf16) (V c main_v4 : FVec Ideal S2816x1024 .bf16) i := by
  rw [show b = ix2 (b 0) (b 1) from eq_ix2 b]
  pointwise [k4_pay1]
  unfold nn
  refine Finset.sum_congr rfl fun e _ => congr (congrArg HMul.hMul ?_) ?_ <;> blk_point [iblk4, at4 t]

/-- The result whole. -/
theorem array4 : (dat4 V c).arrAt 2 cfg4.N = nn (V c main_v9 : FVec Ideal S2176x2816 .bf16) (V c main_v4 : FVec Ideal S2816x1024 .bf16) := by
  refine (dat4 V c).arrAt_eq_of_covers 2 _ (by decide +kernel) (fun t hf y => ?_)
  blk_simp
  rw [after4_2]
  frame_out
  refine out4_at V c t _ _ ?_ ?_ <;> blk_simp [at4 t]
end
end Cert.Kernel2Ideal.Ffn
-- ==== Proof.Ffn.Array5.lean ====
/- What the launch of the activation's gradient leaves in its result, as a function of the arrays it reads. -/
module

public import proofs.«01_k».proof.Proof.Ffn.Products
public import proofs.«01_k».proof.Proof.Gen.Kernel2Ideal.Frame
public import Idealize.ShloMosaic.Lib.Pipeline.ValueKit

@[expose] public section
set_option maxRecDepth 16384
noncomputable section

namespace Cert.Kernel2Ideal.Ffn
open Cert.Kernel2Ideal Cert.Kernel2Ideal.Gen Idealize.ShloMosaic Idealize.ShloMosaic.TcCoe Idealize.SL.Sem Cert.Ffn

/-- The blocks of grid point `t`. -/
theorem at5 : ∀ t : Fin cfg5.N, win5_0.index t = ![0, 0] ∧ win5_1.index t = ![t.val, 0] ∧ win5_2.index t = ![0, t.val] :=
  (by decide +kernel : ∀ t : Fin grid5.N, _)

section
variable (V : (c : Dev nD) → (b : Ref sig .tc) → Buf (Elt Ideal) ((c : Thread nD τ).loc b)) (c : Dev nD)

/-- One element of a grid point's block. -/
theorem out5_at (t : Fin cfg5.N) (b : S2176x256.Idx) (i : S2176x2816.Idx) (h0 : (i 0 : ℕ) = b 0) (h1 : (i 1 : ℕ) = t.val * 256 + b 1) :
    k5_pay1 (F := Ideal) (iblk5 V c 0 t) (iblk5 V c 1 t) b = nt (V c main_v5 : FVec Ideal S2176x1024 .bf16) (V c main_v4 : FVec Ideal S2816x1024 .bf16) i := by
  rw [show b = ix2 (b 0) (b 1) from eq_ix2 b]
  pointwise [k5_pay1]
  unfold nt
  refine Finset.sum_congr rfl fun e _ => congr (congrArg HMul.hMul ?_) ?_ <;> blk_point [iblk5, at5 t]

/-- The result whole. -/
theorem array5 : (dat5 V c).arrAt 2 cfg5.N = nt (V c main_v5 : FVec Ideal S2176x1024 .bf16) (V c main_v4 : FVec Ideal S2816x1024 .bf16) := by
  refine (dat5 V c).arrAt_eq_of_covers 2 _ (by decide +kernel) (fun t hf y => ?_)
  blk_simp
  rw [after5_2]
  frame_out
  refine out5_at V c t _ _ ?_ ?_ <;> blk_simp [at5 t]
end
end Cert.Kernel2Ideal.Ffn
-- ==== Proof.Ffn.Array6.lean ====
/- What the launch of the down weights' gradient leaves in its result, as a function of the arrays it reads. -/
module

public import proofs.«01_k».proof.Proof.Ffn.Products
public import proofs.«01_k».proof.Proof.Gen.Kernel2Ideal.Frame
public import Idealize.ShloMosaic.Lib.Pipeline.ValueKit

@[expose] public section
set_option maxRecDepth 16384
noncomputable section

namespace Cert.Kernel2Ideal.Ffn
open Cert.Kernel2Ideal Cert.Kernel2Ideal.Gen Idealize.ShloMosaic Idealize.ShloMosaic.TcCoe Idealize.SL.Sem Cert.Ffn

/-- The blocks of grid point `t`. -/
theorem at6 : ∀ t : Fin cfg6.N, win6_0.index t = ![0, t.val / 2] ∧ win6_1.index t = ![0, t.val % 2] ∧ win6_2.index t = ![t.val / 2, t.val % 2] :=
  (by decide +kernel : ∀ t : Fin grid6.N, _)

section
variable (V : (c : Dev nD) → (b : Ref sig .tc) → Buf (Elt Ideal) ((c : Thread nD τ).loc b)) (c : Dev nD)

/-- One element of a grid point's block. -/
theorem out6_at (t : Fin cfg6.N) (b : S1408x512.Idx) (i : S2816x1024.Idx) (h0 : (i 0 : ℕ) = t.val / 2 * 1408 + b 0) (h1 : (i 1 : ℕ) = t.val % 2 * 512 + b 1) :
    k6_pay1 (F := Ideal) (iblk6 V c 0 t) (iblk6 V c 1 t) b = tn (V c main_v9 : FVec Ideal S2176x2816 .bf16) (V c main_v5 : FVec Ideal S2176x1024 .bf16) i := by
  rw [show b = ix2 (b 0) (b 1) from eq_ix2 b]
  pointwise [k6_pay1]
  unfold tn
  refine Finset.sum_congr rfl fun e _ => congr (congrArg HMul.hMul ?_) ?_ <;> blk_point [iblk6, at6 t]

/-- The result whole. -/
theorem array6 : (dat6 V c).arrAt 2 cfg6.N = tn (V c main_v9 : FVec Ideal S2176x2816 .bf16) (V c main_v5 : FVec Ideal S2176x1024 .bf16) := by
  refine (dat6 V c).arrAt_eq_of_covers 2 _ (by decide +kernel) (fun t hf y => ?_)
  blk_simp
  rw [after6_2]
  frame_out
  refine out6_at V c t _ _ ?_ ?_ <;> blk_simp [at6 t]
end
end Cert.Kernel2Ideal.Ffn
-- ==== Proof.Ffn.Array7.lean ====
/- What the launch of the activation's backward leaves in its results, as a function of the arrays it reads. -/
module

public import proofs.«01_k».proof.Proof.Ffn.Products
public import proofs.«01_k».proof.Proof.Gen.Kernel2Ideal.Frame
public import Idealize.ShloMosaic.Lib.Pipeline.ValueKit

@[expose] public section
set_option maxRecDepth 16384
noncomputable section

namespace Cert.Kernel2Ideal.Ffn
open Cert.Kernel2Ideal Cert.Kernel2Ideal.Gen Idealize.ShloMosaic Idealize.ShloMosaic.TcCoe Idealize.SL.Sem Cert.Ffn

/-- The blocks of grid point `t`. -/
theorem at7 : ∀ t : Fin cfg7.N, win7_0.index t = ![t.val, 0] ∧ win7_1.index t = ![t.val, 0] ∧ win7_2.index t = ![t.val, 0] ∧ win7_3.index t = ![t.val, 0] ∧ win7_4.index t = ![t.val, 0] :=
  (by decide +kernel : ∀ t : Fin grid7.N, _)

section
variable (V : (c : Dev nD) → (b : Ref sig .tc) → Buf (Elt Ideal) ((c : Thread nD τ).loc b)) (c : Dev nD)

/-- One element of a grid point's block. -/
theorem out7_3_at (t : Fin cfg7.N) (b : S128x2816.Idx) (i : S2176x2816.Idx) (h0 : (i 0 : ℕ) = t.val * 128 + b 0) (h1 : (i 1 : ℕ) = b 1) :
    k7_pay4 (F := Ideal) (iblk7 V c 0 t) (iblk7 V c 2 t) (iblk7 V c 1 t) b = (dgateF (V c main_v7 : FVec Ideal S2176x2816 .f32) (V c main_v8 : FVec Ideal S2176x2816 .f32) (V c main_v11 : FVec Ideal S2176x2816 .bf16)) i := by
  have e0 : (iblk7 V c 0 t : FVec Ideal S128x2816 .f32) b = (V c main_v7 : FVec Ideal S2176x2816 .f32) i := by
    refine (congrArg (iblk7 V c 0 t : FVec Ideal S128x2816 .f32) (eq_ix2 b)).trans ?_
    rw [idx_eq i ⟨t.val * 128 + b 0, h0 ▸ (i 0).isLt⟩ ⟨b 1, h1 ▸ (i 1).isLt⟩ h0 h1]
    blk_point [iblk7, at7 t]
  have e1 : (iblk7 V c 1 t : FVec Ideal S128x2816 .f32) b = (V c main_v8 : FVec Ideal S2176x2816 .f32) i := by
    refine (congrArg (iblk7 V c 1 t : FVec Ideal S128x2816 .f32) (eq_ix2 b)).trans ?_
    rw [idx_eq i ⟨t.val * 128 + b 0, h0 ▸ (i 0).isLt⟩ ⟨b 1, h1 ▸ (i 1).isLt⟩ h0 h1]
    blk_point [iblk7, at7 t]
  have e2 : (iblk7 V c 2 t : FVec Ideal S128x2816 .bf16) b = (V c main_v11 : FVec Ideal S2176x2816 .bf16) i := by
    refine (congrArg (iblk7 V c 2 t : FVec Ideal S128x2816 .bf16) (eq_ix2 b)).trans ?_
    rw [idx_eq i ⟨t.val * 128 + b 0, h0 ▸ (i 0).isLt⟩ ⟨b 1, h1 ▸ (i 1).isLt⟩ h0 h1]
    blk_point [iblk7, at7 t]
  pointwise [k7_pay1, k7_pay2, k7_pay3, k7_pay4, k7_pay5]
  rw [e0, e1, e2]
  rfl

/-- The result whole. -/
theorem array7_3 : (dat7 V c).arrAt 3 cfg7.N = dgateF (V c main_v7 : FVec Ideal S2176x2816 .f32) (V c main_v8 : FVec Ideal S2176x2816 .f32) (V c main_v11 : FVec Ideal S2176x2816 .bf16) := by
  refine (dat7 V c).arrAt_eq_of_covers 3 _ (by decide +kernel) (fun t hf y => ?_)
  blk_simp
  rw [after7_3]
  frame_out
  refine out7_3_at V c t _ _ ?_ ?_ <;> blk_simp [at7 t]

/-- One element of a grid point's block. -/
theorem out7_4_at (t : Fin cfg7.N) (b : S128x2816.Idx) (i : S2176x2816.Idx) (h0 : (i 0 : ℕ) = t.val * 128 + b 0) (h1 : (i 1 : ℕ) = b 1) :
    k7_pay5 (F := Ideal) (iblk7 V c 0 t) (iblk7 V c 2 t) b = (dupF (V c main_v7 : FVec Ideal S2176x2816 .f32) (V c main_v11 : FVec Ideal S2176x2816 .bf16)) i := by
  have e0 : (iblk7 V c 0 t : FVec Ideal S128x2816 .f32) b = (V c main_v7 : FVec Ideal S2176x2816 .f32) i := by
    refine (congrArg (iblk7 V c 0 t : FVec Ideal S128x2816 .f32) (eq_ix2 b)).trans ?_
    rw [idx_eq i ⟨t.val * 128 + b 0, h0 ▸ (i 0).isLt⟩ ⟨b 1, h1 ▸ (i 1).isLt⟩ h0 h1]
    blk_point [iblk7, at7 t]
  have e2 : (iblk7 V c 2 t : FVec Ideal S128x2816 .bf16) b = (V c main_v11 : FVec Ideal S2176x2816 .bf16) i := by
    refine (congrArg (iblk7 V c 2 t : FVec Ideal S128x2816 .bf16) (eq_ix2 b)).trans ?_
    rw [idx_eq i ⟨t.val * 128 + b 0, h0 ▸ (i 0).isLt⟩ ⟨b 1, h1 ▸ (i 1).isLt⟩ h0 h1]
    blk_point [iblk7, at7 t]
  pointwise [k7_pay1, k7_pay2, k7_pay3, k7_pay4, k7_pay5]
  rw [e0, e2]
  rfl

/-- The result whole. -/
theorem array7_4 : (dat7 V c).arrAt 4 cfg7.N = dupF (V c main_v7 : FVec Ideal S2176x2816 .f32) (V c main_v11 : FVec Ideal S2176x2816 .bf16) := by
  refine (dat7 V c).arrAt_eq_of_covers 4 _ (by decide +kernel) (fun t hf y => ?_)
  blk_simp
  rw [after7_4]
  frame_out
  refine out7_4_at V c t _ _ ?_ ?_ <;> blk_simp [at7 t]
end
end Cert.Kernel2Ideal.Ffn
-- ==== Proof.Ffn.Array8.lean ====
/- What the launch of the gate weights' gradient leaves in its result, as a function of the arrays it reads. -/
module

public import proofs.«01_k».proof.Proof.Ffn.Products
public import proofs.«01_k».proof.Proof.Gen.Kernel2Ideal.Frame
public import Idealize.ShloMosaic.Lib.Pipeline.ValueKit

@[expose] public section
set_option maxRecDepth 16384
noncomputable section

namespace Cert.Kernel2Ideal.Ffn
open Cert.Kernel2Ideal Cert.Kernel2Ideal.Gen Idealize.ShloMosaic Idealize.ShloMosaic.TcCoe Idealize.SL.Sem Cert.Ffn

/-- The blocks of grid point `t`. -/
theorem at8 : ∀ t : Fin cfg8.N, win8_0.index t = ![0, t.val / 2] ∧ win8_1.index t = ![0, t.val % 2] ∧ win8_2.index t = ![t.val / 2, t.val % 2] :=
  (by decide +kernel : ∀ t : Fin grid8.N, _)

section
variable (V : (c : Dev nD) → (b : Ref sig .tc) → Buf (Elt Ideal) ((c : Thread nD τ).loc b)) (c : Dev nD)

/-- One element of a grid point's block. -/
theorem out8_at (t : Fin cfg8.N) (b : S1408x512.Idx) (i : S2816x1024.Idx) (h0 : (i 0 : ℕ) = t.val / 2 * 1408 + b 0) (h1 : (i 1 : ℕ) = t.val % 2 * 512 + b 1) :
    k8_pay1 (F := Ideal) (iblk8 V c 0 t) (iblk8 V c 1 t) b = tn (V c main_v13_0 : FVec Ideal S2176x2816 .bf16) (V c main_v6 : FVec Ideal S2176x1024 .bf16) i := by
  rw [show b = ix2 (b 0) (b 1) from eq_ix2 b]
  pointwise [k8_pay1]
  unfold tn
  refine Finset.sum_congr rfl fun e _ => congr (congrArg HMul.hMul ?_) ?_ <;> blk_point [iblk8, at8 t]

/-- The result whole. -/
theorem array8 : (dat8 V c).arrAt 2 cfg8.N = tn (V c main_v13_0 : FVec Ideal S2176x2816 .bf16) (V c main_v6 : FVec Ideal S2176x1024 .bf16) := by
  refine (dat8 V c).arrAt_eq_of_covers 2 _ (by decide +kernel) (fun t hf y => ?_)
  blk_simp
  rw [after8_2]
  frame_out
  refine out8_at V c t _ _ ?_ ?_ <;> blk_simp [at8 t]
end
end Cert.Kernel2Ideal.Ffn
-- ==== Proof.Ffn.Array9.lean ====
/- What the launch of the up weights' gradient leaves in its result, as a function of the arrays it reads. -/
module

public import proofs.«01_k».proof.Proof.Ffn.Products
public import proofs.«01_k».proof.Proof.Gen.Kernel2Ideal.Frame
public import Idealize.ShloMosaic.Lib.Pipeline.ValueKit

@[expose] public section
set_option maxRecDepth 16384
noncomputable section

namespace Cert.Kernel2Ideal.Ffn
open Cert.Kernel2Ideal Cert.Kernel2Ideal.Gen Idealize.ShloMosaic Idealize.ShloMosaic.TcCoe Idealize.SL.Sem Cert.Ffn

/-- The blocks of grid point `t`. -/
theorem at9 : ∀ t : Fin cfg9.N, win9_0.index t = ![0, t.val / 2] ∧ win9_1.index t = ![0, t.val % 2] ∧ win9_2.index t = ![t.val / 2, t.val % 2] :=
  (by decide +kernel : ∀ t : Fin grid9.N, _)

section
variable (V : (c : Dev nD) → (b : Ref sig .tc) → Buf (Elt Ideal) ((c : Thread nD τ).loc b)) (c : Dev nD)

/-- One element of a grid point's block. -/
theorem out9_at (t : Fin cfg9.N) (b : S1408x512.Idx) (i : S2816x1024.Idx) (h0 : (i 0 : ℕ) = t.val / 2 * 1408 + b 0) (h1 : (i 1 : ℕ) = t.val % 2 * 512 + b 1) :
    k9_pay1 (F := Ideal) (iblk9 V c 0 t) (iblk9 V c 1 t) b = tn (V c main_v13_1 : FVec Ideal S2176x2816 .bf16) (V c main_v6 : FVec Ideal S2176x1024 .bf16) i := by
  rw [show b = ix2 (b 0) (b 1) from eq_ix2 b]
  pointwise [k9_pay1]
  unfold tn
  refine Finset.sum_congr rfl fun e _ => congr (congrArg HMul.hMul ?_) ?_ <;> blk_point [iblk9, at9 t]

/-- The result whole. -/
theorem array9 : (dat9 V c).arrAt 2 cfg9.N = tn (V c main_v13_1 : FVec Ideal S2176x2816 .bf16) (V c main_v6 : FVec Ideal S2176x1024 .bf16) := by
  refine (dat9 V c).arrAt_eq_of_covers 2 _ (by decide +kernel) (fun t hf y => ?_)
  blk_simp
  rw [after9_2]
  frame_out
  refine out9_at V c t _ _ ?_ ?_ <;> blk_simp [at9 t]
end
end Cert.Kernel2Ideal.Ffn
-- ==== Proof.Ffn.Array10.lean ====
/- What the launch of the gate's part of the input's gradient leaves in its result, as a function of the arrays it reads. -/
module

public import proofs.«01_k».proof.Proof.Ffn.Products
public import proofs.«01_k».proof.Proof.Gen.Kernel2Ideal.Frame
public import Idealize.ShloMosaic.Lib.Pipeline.ValueKit

@[expose] public section
set_option maxRecDepth 16384
noncomputable section

namespace Cert.Kernel2Ideal.Ffn
open Cert.Kernel2Ideal Cert.Kernel2Ideal.Gen Idealize.ShloMosaic Idealize.ShloMosaic.TcCoe Idealize.SL.Sem Cert.Ffn

/-- The blocks of grid point `t`. -/
theorem at10 : ∀ t : Fin cfg10.N, win10_0.index t = ![t.val / 2, 0] ∧ win10_1.index t = ![0, t.val % 2] ∧ win10_2.index t = ![t.val / 2, t.val % 2] ∧ win10_3.index t = ![t.val / 2, t.val % 2] :=
  (by decide +kernel : ∀ t : Fin grid10.N, _)

section
variable (V : (c : Dev nD) → (b : Ref sig .tc) → Buf (Elt Ideal) ((c : Thread nD τ).loc b)) (c : Dev nD)

/-- One element of a grid point's block. -/
theorem out10_at (t : Fin cfg10.N) (b : S1088x512.Idx) (i : S2176x1024.Idx) (h0 : (i 0 : ℕ) = t.val / 2 * 1088 + b 0) (h1 : (i 1 : ℕ) = t.val % 2 * 512 + b 1) :
    k10_pay1 (F := Ideal) (iblk10 V c 0 t) (iblk10 V c 1 t) (iblk10 V c 2 t) b = plus (nn (V c main_v13_0 : FVec Ideal S2176x2816 .bf16) (V c main_v1 : FVec Ideal S2816x1024 .bf16)) (V c main_arg4 : FVec Ideal S2176x1024 .f32) i := by
  rw [show b = ix2 (b 0) (b 1) from eq_ix2 b]
  pointwise [k10_pay1]
  unfold plus nn
  refine congr (congrArg HAdd.hAdd ?_) ?_
  · refine Finset.sum_congr rfl fun e _ => congr (congrArg HMul.hMul ?_) ?_ <;> blk_point [iblk10, at10 t]
  · blk_point [iblk10, at10 t]

/-- The result whole. -/
theorem array10 : (dat10 V c).arrAt 3 cfg10.N = plus (nn (V c main_v13_0 : FVec Ideal S2176x2816 .bf16) (V c main_v1 : FVec Ideal S2816x1024 .bf16)) (V c main_arg4 : FVec Ideal S2176x1024 .f32) := by
  refine (dat10 V c).arrAt_eq_of_covers 3 _ (by decide +kernel) (fun t hf y => ?_)
  blk_simp
  rw [after10_3]
  frame_out
  refine out10_at V c t _ _ ?_ ?_ <;> blk_simp [at10 t]
end
end Cert.Kernel2Ideal.Ffn
-- ==== Proof.Ffn.Array11.lean ====
/- What the launch of the up's part of the input's gradient leaves in its result, as a function of the arrays it reads. -/
module

public import proofs.«01_k».proof.Proof.Ffn.Products
public import proofs.«01_k».proof.Proof.Gen.Kernel2Ideal.Frame
public import Idealize.ShloMosaic.Lib.Pipeline.ValueKit

@[expose] public section
set_option maxRecDepth 16384
noncomputable section

namespace Cert.Kernel2Ideal.Ffn
open Cert.Kernel2Ideal Cert.Kernel2Ideal.Gen Idealize.ShloMosaic Idealize.ShloMosaic.TcCoe Idealize.SL.Sem Cert.Ffn

/-- The blocks of grid point `t`. -/
theorem at11 : ∀ t : Fin cfg11.N, win11_0.index t = ![t.val / 2, 0] ∧ win11_1.index t = ![0, t.val % 2] ∧ win11_2.index t = ![t.val / 2, t.val % 2] ∧ win11_3.index t = ![t.val / 2, t.val % 2] :=
  (by decide +kernel : ∀ t : Fin grid11.N, _)

section
variable (V : (c : Dev nD) → (b : Ref sig .tc) → Buf (Elt Ideal) ((c : Thread nD τ).loc b)) (c : Dev nD)

/-- One element of a grid point's block. -/
theorem out11_at (t : Fin cfg11.N) (b : S1088x512.Idx) (i : S2176x1024.Idx) (h0 : (i 0 : ℕ) = t.val / 2 * 1088 + b 0) (h1 : (i 1 : ℕ) = t.val % 2 * 512 + b 1) :
    k11_pay1 (F := Ideal) (iblk11 V c 0 t) (iblk11 V c 1 t) (iblk11 V c 2 t) b = plus (nn (V c main_v13_1 : FVec Ideal S2176x2816 .bf16) (V c main_v3 : FVec Ideal S2816x1024 .bf16)) (V c main_v16 : FVec Ideal S2176x1024 .f32) i := by
  rw [show b = ix2 (b 0) (b 1) from eq_ix2 b]
  pointwise [k11_pay1]
  unfold plus nn
  refine congr (congrArg HAdd.hAdd ?_) ?_
  · refine Finset.sum_congr rfl fun e _ => congr (congrArg HMul.hMul ?_) ?_ <;> blk_point [iblk11, at11 t]
  · blk_point [iblk11, at11 t]

/-- The result whole. -/
theorem array11 : (dat11 V c).arrAt 3 cfg11.N = plus (nn (V c main_v13_1 : FVec Ideal S2176x2816 .bf16) (V c main_v3 : FVec Ideal S2816x1024 .bf16)) (V c main_v16 : FVec Ideal S2176x1024 .f32) := by
  refine (dat11 V c).arrAt_eq_of_covers 3 _ (by decide +kernel) (fun t hf y => ?_)
  blk_simp
  rw [after11_3]
  frame_out
  refine out11_at V c t _ _ ?_ ?_ <;> blk_simp [at11 t]
end
end Cert.Kernel2Ideal.Ffn
-- ==== Proof.Ffn.Value.lean ====
/- What the program leaves in its five results: the layer's output and its gradients. -/
module

public import proofs.«01_k».proof.Proof.Ffn.Array0
public import proofs.«01_k».proof.Proof.Ffn.Array1
public import proofs.«01_k».proof.Proof.Ffn.Array2
public import proofs.«01_k».proof.Proof.Ffn.Array3
public import proofs.«01_k».proof.Proof.Ffn.Array4
public import proofs.«01_k».proof.Proof.Ffn.Array5
public import proofs.«01_k».proof.Proof.Ffn.Array6
public import proofs.«01_k».proof.Proof.Ffn.Array7
public import proofs.«01_k».proof.Proof.Ffn.Array8
public import proofs.«01_k».proof.Proof.Ffn.Array9
public import proofs.«01_k».proof.Proof.Ffn.Array10
public import proofs.«01_k».proof.Proof.Ffn.Array11

@[expose] public section
set_option maxRecDepth 16384
noncomputable section

namespace Cert.Kernel2Ideal.Ffn
open Cert.Kernel2Ideal Cert.Kernel2Ideal.Gen Idealize.ShloMosaic Idealize.ShloMosaic.TcCoe Idealize.SL.Sem Cert.Ffn

variable (m : (ℓ : Loc nD τ sig) → Buf (Elt Ideal) ℓ) (ρ : Dev nD → PrngReg) (c : Dev nD)

/-- What launch 0 leaves as it was, of the arrays read later. -/
theorem keep0 : ∀ r ∈ [main_arg4, main_v1, main_v3, main_v4, main_v5], W2 m ρ c (Proc.devRef .tc r) = W1 m ρ c (Proc.devRef .tc r) := fun r hr =>
  W2_of m ρ c r (ListAll.forall_mem_of_all_decide (p := fun r => ∀ w : Fin cfg0.W, Pipeline.arrRef spec0 w = r → (cfg0.win w).isOut = false) (by decide +kernel) r hr)
/-- What launch 1 leaves as it was, of the arrays read later. -/
theorem keep1 : ∀ r ∈ [main_arg4, main_v1, main_v3, main_v4, main_v5, main_v6], W3 m ρ c (Proc.devRef .tc r) = W2 m ρ c (Proc.devRef .tc r) := fun r hr =>
  W3_of m ρ c r (ListAll.forall_mem_of_all_decide (p := fun r => ∀ w : Fin cfg1.W, Pipeline.arrRef spec1 w = r → (cfg1.win w).isOut = false) (by decide +kernel) r hr)
/-- What launch 2 leaves as it was, of the arrays read later. -/
theorem keep2 : ∀ r ∈ [main_arg4, main_v1, main_v3, main_v4, main_v5, main_v6, main_v7], W4 m ρ c (Proc.devRef .tc r) = W3 m ρ c (Proc.devRef .tc r) := fun r hr =>
  W4_of m ρ c r (ListAll.forall_mem_of_all_decide (p := fun r => ∀ w : Fin cfg2.W, Pipeline.arrRef spec2 w = r → (cfg2.win w).isOut = false) (by decide +kernel) r hr)
/-- What launch 3 leaves as it was, of the arrays read later. -/
theorem keep3 : ∀ r ∈ [main_arg4, main_v1, main_v3, main_v4, main_v5, main_v6, main_v7, main_v8], W5 m ρ c (Proc.devRef .tc r) = W4 m ρ c (Proc.devRef .tc r) := fun r hr =>
  W5_of m ρ c r (ListAll.forall_mem_of_all_decide (p := fun r => ∀ w : Fin cfg3.W, Pipeline.arrRef spec3 w = r → (cfg3.win w).isOut = false) (by decide +kernel) r hr)
/-- What launch 4 leaves as it was, of the arrays read later. -/
theorem keep4 : ∀ r ∈ [main_arg4, main_v1, main_v3, main_v4, main_v5, main_v6, main_v7, main_v8, main_v9], W6 m ρ c (Proc.devRef .tc r) = W5 m ρ c (Proc.devRef .tc r) := fun r hr =>
  W6_of m ρ c r (ListAll.forall_mem_of_all_decide (p := fun r => ∀ w : Fin cfg4.W, Pipeline.arrRef spec4 w = r → (cfg4.win w).isOut = false) (by decide +kernel) r hr)
/-- What launch 5 leaves as it was, of the arrays read later. -/
theorem keep5 : ∀ r ∈ [main_arg4, main_v1, main_v3, main_v5, main_v6, main_v7, main_v8, main_v9, main_v10], W7 m ρ c (Proc.devRef .tc r) = W6 m ρ c (Proc.devRef .tc r) := fun r hr =>
  W7_of m ρ c r (ListAll.forall_mem_of_all_decide (p := fun r => ∀ w : Fin cfg5.W, Pipeline.arrRef spec5 w = r → (cfg5.win w).isOut = false) (by decide +kernel) r hr)
/-- What launch 6 leaves as it was, of the arrays read later. -/
theorem keep6 : ∀ r ∈ [main_arg4, main_v1, main_v3, main_v6, main_v7, main_v8, main_v10, main_v11], W8 m ρ c (Proc.devRef .tc r) = W7 m ρ c (Proc.devRef .tc r) := fun r hr =>
  W8_of m ρ c r (ListAll.forall_mem_of_all_decide (p := fun r => ∀ w : Fin cfg6.W, Pipeline.arrRef spec6 w = r → (cfg6.win w).isOut = false) (by decide +kernel) r hr)
/-- What launch 7 leaves as it was, of the arrays read later. -/
theorem keep7 : ∀ r ∈ [main_arg4, main_v1, main_v3, main_v6, main_v10, main_v12], W9 m ρ c (Proc.devRef .tc r) = W8 m ρ c (Proc.devRef .tc r) := fun r hr =>
  W9_of m ρ c r (ListAll.forall_mem_of_all_decide (p := fun r => ∀ w : Fin cfg7.W, Pipeline.arrRef spec7 w = r → (cfg7.win w).isOut = false) (by decide +kernel) r hr)
/-- What launch 8 leaves as it was, of the arrays read later. -/
theorem keep8 : ∀ r ∈ [main_arg4, main_v1, main_v3, main_v6, main_v10, main_v12, main_v13_0, main_v13_1], W10 m ρ c (Proc.devRef .tc r) = W9 m ρ c (Proc.devRef .tc r) := fun r hr =>
  W10_of m ρ c r (ListAll.forall_mem_of_all_decide (p := fun r => ∀ w : Fin cfg8.W, Pipeline.arrRef spec8 w = r → (cfg8.win w).isOut = false) (by decide +kernel) r hr)
/-- What launch 9 leaves as it was, of the arrays read later. -/
theorem keep9 : ∀ r ∈ [main_arg4, main_v1, main_v3, main_v10, main_v12, main_v13_0, main_v13_1, main_v14], W11 m ρ c (Proc.devRef .tc r) = W10 m ρ c (Proc.devRef .tc r) := fun r hr =>
  W11_of m ρ c r (ListAll.forall_mem_of_all_decide (p := fun r => ∀ w : Fin cfg9.W, Pipeline.arrRef spec9 w = r → (cfg9.win w).isOut = false) (by decide +kernel) r hr)
/-- What launch 10 leaves as it was, of the arrays read later. -/
theorem keep10 : ∀ r ∈ [main_v3, main_v10, main_v12, main_v13_1, main_v14, main_v15], W12 m ρ c (Proc.devRef .tc r) = W11 m ρ c (Proc.devRef .tc r) := fun r hr =>
  W12_of m ρ c r (ListAll.forall_mem_of_all_decide (p := fun r => ∀ w : Fin cfg10.W, Pipeline.arrRef spec10 w = r → (cfg10.win w).isOut = false) (by decide +kernel) r hr)
/-- What launch 11 leaves as it was, of the arrays read later. -/
theorem keep11 : ∀ r ∈ [main_v10, main_v12, main_v14, main_v15], W13 m ρ c (Proc.devRef .tc r) = W12 m ρ c (Proc.devRef .tc r) := fun r hr =>
  W13_of m ρ c r (ListAll.forall_mem_of_all_decide (p := fun r => ∀ w : Fin cfg11.W, Pipeline.arrRef spec11 w = r → (cfg11.win w).isOut = false) (by decide +kernel) r hr)

variable (x : FVec Ideal S2176x1024 .f32) (wg wu : FVec Ideal S1024x2816 .f32) (wd : FVec Ideal S2816x1024 .f32) (dx df : FVec Ideal S2176x1024 .f32)

/-- The arguments. -/
structure Args : Prop where
  x : m (c.tc.loc main_arg0) = x
  wg : m (c.tc.loc main_arg1) = wg
  wu : m (c.tc.loc main_arg2) = wu
  wd : m (c.tc.loc main_arg3) = wd
  dx : m (c.tc.loc main_arg4) = dx
  df : m (c.tc.loc main_arg5) = df

variable {m c} {x wg wu wd dx df} (A : Args m c x wg wu wd dx df)
include A

theorem arg0_at1 : (W1 m ρ c (Proc.devRef .tc main_arg0) : Rows) = x :=
  (W1_args m ρ c main_arg0 (by decide)).trans A.x
theorem arg4_at1 : (W1 m ρ c (Proc.devRef .tc main_arg4) : Rows) = dx :=
  (W1_args m ρ c main_arg4 (by decide)).trans A.dx
theorem v1_at1 : (W1 m ρ c (Proc.devRef .tc main_v1) : Out) = (tr wg) := by
  after_results
  rw [show W0 m ρ c (Proc.devRef .tc main_arg1) = wg from A.wg]
  funext i
  rw [eq_ix2 i]
  pointwise [tr]
theorem v3_at1 : (W1 m ρ c (Proc.devRef .tc main_v3) : Out) = (tr wu) := by
  after_results
  rw [show W0 m ρ c (Proc.devRef .tc main_arg2) = wu from A.wu]
  funext i
  rw [eq_ix2 i]
  pointwise [tr]
theorem v4_at1 : (W1 m ρ c (Proc.devRef .tc main_v4) : Out) = wd := by
  after_results
  rw [show W0 m ρ c (Proc.devRef .tc main_arg3) = wd from A.wd]
  funext i
  rw [eq_ix2 i]
  pointwise [tr]
theorem v5_at1 : (W1 m ρ c (Proc.devRef .tc main_v5) : Rows) = df := by
  after_results
  rw [show W0 m ρ c (Proc.devRef .tc main_arg5) = df from A.df]
  funext i
  rw [eq_ix2 i]
  pointwise [tr]
theorem v6_at2 : (W2 m ρ c (Proc.devRef .tc main_v6) : Rows) = x :=
  (W2_arr m ρ c 1).trans ((array0_1 (V1 m ρ) c).trans ((arg0_at1 ρ A)))
theorem v1_at2 : (W2 m ρ c (Proc.devRef .tc main_v1) : Out) = (tr wg) :=
  (keep0 m ρ c main_v1 (by simp)).trans (v1_at1 ρ A)
theorem v7_at3 : (W3 m ρ c (Proc.devRef .tc main_v7) : Wide) = (nn x wg) :=
  (W3_arr m ρ c 2).trans ((array1 (V2 m ρ) c).trans (nt_congr (v6_at2 ρ A) (v1_at2 ρ A)))
theorem v6_at3 : (W3 m ρ c (Proc.devRef .tc main_v6) : Rows) = x :=
  (keep1 m ρ c main_v6 (by simp)).trans (v6_at2 ρ A)
theorem v3_at3 : (W3 m ρ c (Proc.devRef .tc main_v3) : Out) = (tr wu) :=
  (keep1 m ρ c main_v3 (by simp)).trans ((keep0 m ρ c main_v3 (by simp)).trans (v3_at1 ρ A))
theorem v8_at4 : (W4 m ρ c (Proc.devRef .tc main_v8) : Wide) = (nn x wu) :=
  (W4_arr m ρ c 2).trans ((array2 (V3 m ρ) c).trans (nt_congr (v6_at3 ρ A) (v3_at3 ρ A)))
theorem v7_at4 : (W4 m ρ c (Proc.devRef .tc main_v7) : Wide) = (nn x wg) :=
  (keep2 m ρ c main_v7 (by simp)).trans (v7_at3 ρ A)
theorem v9_at5 : (W5 m ρ c (Proc.devRef .tc main_v9) : Wide) = (act x wg wu) :=
  (W5_arr m ρ c 2).trans ((array3_2 (V4 m ρ) c).trans (actF_congr (v7_at4 ρ A) (v8_at4 ρ A)))
theorem v4_at5 : (W5 m ρ c (Proc.devRef .tc main_v4) : Out) = wd :=
  (keep3 m ρ c main_v4 (by simp)).trans ((keep2 m ρ c main_v4 (by simp)).trans ((keep1 m ρ c main_v4 (by simp)).trans ((keep0 m ρ c main_v4 (by simp)).trans (v4_at1 ρ A))))
theorem v10_at6 : (W6 m ρ c (Proc.devRef .tc main_v10) : Rows) = (outv x wg wu wd) :=
  (W6_arr m ρ c 2).trans ((array4 (V5 m ρ) c).trans (nn_congr (v9_at5 ρ A) (v4_at5 ρ A)))
theorem v5_at6 : (W6 m ρ c (Proc.devRef .tc main_v5) : Rows) = df :=
  (keep4 m ρ c main_v5 (by simp)).trans ((keep3 m ρ c main_v5 (by simp)).trans ((keep2 m ρ c main_v5 (by simp)).trans ((keep1 m ρ c main_v5 (by simp)).trans ((keep0 m ρ c main_v5 (by simp)).trans (v5_at1 ρ A)))))
theorem v4_at6 : (W6 m ρ c (Proc.devRef .tc main_v4) : Out) = wd :=
  (keep4 m ρ c main_v4 (by simp)).trans (v4_at5 ρ A)
theorem v11_at7 : (W7 m ρ c (Proc.devRef .tc main_v11) : Wide) = (dact wd df) :=
  (W7_arr m ρ c 2).trans ((array5 (V6 m ρ) c).trans (nt_congr (v5_at6 ρ A) (v4_at6 ρ A)))
theorem v9_at7 : (W7 m ρ c (Proc.devRef .tc main_v9) : Wide) = (act x wg wu) :=
  (keep5 m ρ c main_v9 (by simp)).trans ((keep4 m ρ c main_v9 (by simp)).trans (v9_at5 ρ A))
theorem v5_at7 : (W7 m ρ c (Proc.devRef .tc main_v5) : Rows) = df :=
  (keep5 m ρ c main_v5 (by simp)).trans (v5_at6 ρ A)
theorem v12_at8 : (W8 m ρ c (Proc.devRef .tc main_v12) : Out) = (dwd x wg wu df) :=
  (W8_arr m ρ c 2).trans ((array6 (V7 m ρ) c).trans (tn_congr (v9_at7 ρ A) (v5_at7 ρ A)))
theorem v7_at8 : (W8 m ρ c (Proc.devRef .tc main_v7) : Wide) = (nn x wg) :=
  (keep6 m ρ c main_v7 (by simp)).trans ((keep5 m ρ c main_v7 (by simp)).trans ((keep4 m ρ c main_v7 (by simp)).trans ((keep3 m ρ c main_v7 (by simp)).trans (v7_at4 ρ A))))
theorem v8_at8 : (W8 m ρ c (Proc.devRef .tc main_v8) : Wide) = (nn x wu) :=
  (keep6 m ρ c main_v8 (by simp)).trans ((keep5 m ρ c main_v8 (by simp)).trans ((keep4 m ρ c main_v8 (by simp)).trans ((keep3 m ρ c main_v8 (by simp)).trans (v8_at4 ρ A))))
theorem v11_at8 : (W8 m ρ c (Proc.devRef .tc main_v11) : Wide) = (dact wd df) :=
  (keep6 m ρ c main_v11 (by simp)).trans (v11_at7 ρ A)
theorem v13_0_at9 : (W9 m ρ c (Proc.devRef .tc main_v13_0) : Wide) = (dgate x wg wu wd df) :=
  (W9_arr m ρ c 3).trans ((array7_3 (V8 m ρ) c).trans (dgateF_congr (v7_at8 ρ A) (v8_at8 ρ A) (v11_at8 ρ A)))
theorem v13_1_at9 : (W9 m ρ c (Proc.devRef .tc main_v13_1) : Wide) = (dup x wg wd df) :=
  (W9_arr m ρ c 4).trans ((array7_4 (V8 m ρ) c).trans (dupF_congr (v7_at8 ρ A) (v11_at8 ρ A)))
theorem v6_at9 : (W9 m ρ c (Proc.devRef .tc main_v6) : Rows) = x :=
  (keep7 m ρ c main_v6 (by simp)).trans ((keep6 m ρ c main_v6 (by simp)).trans ((keep5 m ρ c main_v6 (by simp)).trans ((keep4 m ρ c main_v6 (by simp)).trans ((keep3 m ρ c main_v6 (by simp)).trans ((keep2 m ρ c main_v6 (by simp)).trans (v6_at3 ρ A))))))
theorem v14_at10 : (W10 m ρ c (Proc.devRef .tc main_v14) : Out) = (tn (dgate x wg wu wd df) x) :=
  (W10_arr m ρ c 2).trans ((array8 (V9 m ρ) c).trans (tn_congr (v13_0_at9 ρ A) (v6_at9 ρ A)))
theorem v13_1_at10 : (W10 m ρ c (Proc.devRef .tc main_v13_1) : Wide) = (dup x wg wd df) :=
  (keep8 m ρ c main_v13_1 (by simp)).trans (v13_1_at9 ρ A)
theorem v6_at10 : (W10 m ρ c (Proc.devRef .tc main_v6) : Rows) = x :=
  (keep8 m ρ c main_v6 (by simp)).trans (v6_at9 ρ A)
theorem v15_at11 : (W11 m ρ c (Proc.devRef .tc main_v15) : Out) = (tn (dup x wg wd df) x) :=
  (W11_arr m ρ c 2).trans ((array9 (V10 m ρ) c).trans (tn_congr (v13_1_at10 ρ A) (v6_at10 ρ A)))
theorem v13_0_at11 : (W11 m ρ c (Proc.devRef .tc main_v13_0) : Wide) = (dgate x wg wu wd df) :=
  (keep9 m ρ c main_v13_0 (by simp)).trans ((keep8 m ρ c main_v13_0 (by simp)).trans (v13_0_at9 ρ A))
theorem v1_at11 : (W11 m ρ c (Proc.devRef .tc main_v1) : Out) = (tr wg) :=
  (keep9 m ρ c main_v1 (by simp)).trans ((keep8 m ρ c main_v1 (by simp)).trans ((keep7 m ρ c main_v1 (by simp)).trans ((keep6 m ρ c main_v1 (by simp)).trans ((keep5 m ρ c main_v1 (by simp)).trans ((keep4 m ρ c main_v1 (by simp)).trans ((keep3 m ρ c main_v1 (by simp)).trans ((keep2 m ρ c main_v1 (by simp)).trans ((keep1 m ρ c main_v1 (by simp)).trans (v1_at2 ρ A)))))))))
theorem arg4_at11 : (W11 m ρ c (Proc.devRef .tc main_arg4) : Rows) = dx :=
  (keep9 m ρ c main_arg4 (by simp)).trans ((keep8 m ρ c main_arg4 (by simp)).trans ((keep7 m ρ c main_arg4 (by simp)).trans ((keep6 m ρ c main_arg4 (by simp)).trans ((keep5 m ρ c main_arg4 (by simp)).trans ((keep4 m ρ c main_arg4 (by simp)).trans ((keep3 m ρ c main_arg4 (by simp)).trans ((keep2 m ρ c main_arg4 (by simp)).trans ((keep1 m ρ c main_arg4 (by simp)).trans ((keep0 m ρ c main_arg4 (by simp)).trans (arg4_at1 ρ A))))))))))
theorem v16_at12 : (W12 m ρ c (Proc.devRef .tc main_v16) : Rows) = (plus (nt (dgate x wg wu wd df) wg) dx) :=
  (W12_arr m ρ c 3).trans ((array10 (V11 m ρ) c).trans (plus_congr (nn_congr (v13_0_at11 ρ A) (v1_at11 ρ A)) (arg4_at11 ρ A)))
theorem v13_1_at12 : (W12 m ρ c (Proc.devRef .tc main_v13_1) : Wide) = (dup x wg wd df) :=
  (keep10 m ρ c main_v13_1 (by simp)).trans ((keep9 m ρ c main_v13_1 (by simp)).trans (v13_1_at10 ρ A))
theorem v3_at12 : (W12 m ρ c (Proc.devRef .tc main_v3) : Out) = (tr wu) :=
  (keep10 m ρ c main_v3 (by simp)).trans ((keep9 m ρ c main_v3 (by simp)).trans ((keep8 m ρ c main_v3 (by simp)).trans ((keep7 m ρ c main_v3 (by simp)).trans ((keep6 m ρ c main_v3 (by simp)).trans ((keep5 m ρ c main_v3 (by simp)).trans ((keep4 m ρ c main_v3 (by simp)).trans ((keep3 m ρ c main_v3 (by simp)).trans ((keep2 m ρ c main_v3 (by simp)).trans (v3_at3 ρ A)))))))))
theorem v17_at13 : (W13 m ρ c (Proc.devRef .tc main_v17) : Rows) = (dinput x wg wu wd dx df) :=
  (W13_arr m ρ c 3).trans ((array11 (V12 m ρ) c).trans (plus_congr (nn_congr (v13_1_at12 ρ A) (v3_at12 ρ A)) (v16_at12 ρ A)))
theorem v10_at13 : (W13 m ρ c (Proc.devRef .tc main_v10) : Rows) = (outv x wg wu wd) :=
  (keep11 m ρ c main_v10 (by simp)).trans ((keep10 m ρ c main_v10 (by simp)).trans ((keep9 m ρ c main_v10 (by simp)).trans ((keep8 m ρ c main_v10 (by simp)).trans ((keep7 m ρ c main_v10 (by simp)).trans ((keep6 m ρ c main_v10 (by simp)).trans ((keep5 m ρ c main_v10 (by simp)).trans (v10_at6 ρ A)))))))
theorem v14_at13 : (W13 m ρ c (Proc.devRef .tc main_v14) : Out) = (tn (dgate x wg wu wd df) x) :=
  (keep11 m ρ c main_v14 (by simp)).trans ((keep10 m ρ c main_v14 (by simp)).trans ((keep9 m ρ c main_v14 (by simp)).trans (v14_at10 ρ A)))
theorem v15_at13 : (W13 m ρ c (Proc.devRef .tc main_v15) : Out) = (tn (dup x wg wd df) x) :=
  (keep11 m ρ c main_v15 (by simp)).trans ((keep10 m ρ c main_v15 (by simp)).trans (v15_at11 ρ A))
theorem v12_at13 : (W13 m ρ c (Proc.devRef .tc main_v12) : Out) = (dwd x wg wu df) :=
  (keep11 m ρ c main_v12 (by simp)).trans ((keep10 m ρ c main_v12 (by simp)).trans ((keep9 m ρ c main_v12 (by simp)).trans ((keep8 m ρ c main_v12 (by simp)).trans ((keep7 m ρ c main_v12 (by simp)).trans (v12_at8 ρ A)))))

/-- The results: the output, -/
theorem out0 : (W14 m ρ c (Proc.devRef .tc main_v10) : Rows) = outv x wg wu wd :=
  (W14_of m ρ c main_v10 (by decide +kernel)).trans (v10_at13 ρ A)
/-- the input's gradient, -/
theorem out1 : (W14 m ρ c (Proc.devRef .tc main_v17) : Rows) = dinput x wg wu wd dx df :=
  (W14_of m ρ c main_v17 (by decide +kernel)).trans (v17_at13 ρ A)
/-- the weights' gradients: the gate's, -/
theorem out2 : (W14 m ρ c (Proc.devRef .tc main_v19) : In) = dwg x wg wu wd df := by
  have h := v14_at13 ρ A
  refine Eq.trans ?_ ((congrArg tr h).trans (tr_tn _ _))
  after_results
  funext i
  rw [eq_ix2 i]
  pointwise [tr]
/-- the other branch's -/
theorem out3 : (W14 m ρ c (Proc.devRef .tc main_v21) : In) = dwu x wg wd df := by
  have h := v15_at13 ρ A
  refine Eq.trans ?_ ((congrArg tr h).trans (tr_tn _ _))
  after_results
  funext i
  rw [eq_ix2 i]
  pointwise [tr]
/-- and the down weights'. -/
theorem out4 : (W14 m ρ c (Proc.devRef .tc main_v22) : Out) = dwd x wg wu df := by
  have h := v12_at13 ρ A
  refine Eq.trans ?_ h
  after_results
  rfl

end Cert.Kernel2Ideal.Ffn
-- ==== Proof.Ffn.Gate.lean ====
/- The gate's gradient in the two forms that occur, and where they agree: at a real gradient of the gated value, whatever the
   gate is. -/
module

public import proofs.«01_k».proof.Proof.Ffn.Products

@[expose] public section
noncomputable section

namespace Cert.Ffn
open Idealize.ShloMosaic Cert.Att

/-- The derivative of `silu` in one factor, and as a sum of two. -/
theorem silu_grad (x t : EReal) (ht : IsReal t) :
    t * (Ideal.logistic x * (1 + x * (1 - Ideal.logistic x))) = t * Ideal.logistic x + x * t * (Ideal.logistic x * (1 - Ideal.logistic x)) := by
  obtain ⟨r, rfl⟩ := ht
  induction x with
  | bot => simp
  | top =>
    have h : (1 : EReal) - 1 = 0 := by rw [← EReal.coe_one, ← EReal.coe_sub, sub_self, EReal.coe_zero]
    simp [h]
  | coe y =>
    rw [Ideal.logistic_coe]
    set s : ℝ := (1 + Real.exp (-y))⁻¹
    rw [← EReal.coe_one, ← EReal.coe_sub, ← EReal.coe_mul, ← EReal.coe_add, ← EReal.coe_mul, ← EReal.coe_mul, ← EReal.coe_mul, ← EReal.coe_mul,
      ← EReal.coe_mul, ← EReal.coe_mul, ← EReal.coe_add]
    congr 1
    ring

/-- A sum of products of reals is real. -/
theorem isReal_sum {k : ℕ} (f g : Fin k → EReal) (hf : ∀ e, IsReal (f e)) (hg : ∀ e, IsReal (g e)) : IsReal (∑ e, f e * g e) :=
  fin_sum _ _ fun e _ => fin_mul (hf e) (hg e)

/-- The gate's gradient as the sum of two, -/
def dgateS {s : Shape} (g u d : s.Idx → EReal) : s.Idx → EReal := fun i =>
  d i * u i * Ideal.logistic (g i) + g i * (d i * u i) * (Ideal.logistic (g i) * (1 - Ideal.logistic (g i)))

/-- which is the one of one factor where the other branch and the activation's gradient are real. -/
theorem dgateS_eq {s : Shape} (g u d : s.Idx → EReal) (hu : ∀ i, IsReal (u i)) (hd : ∀ i, IsReal (d i)) : dgateS g u d = dgateF g u d :=
  funext fun i => (silu_grad (g i) (d i * u i) (fin_mul (hd i) (hu i))).symm

end Cert.Ffn
-- ==== Proof.Ffn.RefValue.lean ====
/- The reference's five results: the layer's output and its gradients, in the same formulas. -/
module

public import proofs.«01_k».proof.Proof.Gen.Reference2Ideal.Run
public import proofs.«01_k».proof.Proof.Ffn.Gate

@[expose] public section
set_option maxRecDepth 16384
noncomputable section

namespace Cert.Reference2Ideal.Ffn
open Cert.Reference2Ideal Cert.Reference2Ideal.Gen Idealize.ShloMosaic Idealize.ShloMosaic.TcCoe Idealize.SL.Sem Cert.Ffn

abbrev X := FVec Ideal S2176x1024 .f32
abbrev H := FVec Ideal S2176x2816 .f32
abbrev WI := FVec Ideal S1024x2816 .f32
abbrev WO := FVec Ideal S2816x1024 .f32

/-- The reference's operations, -/
def up (x : X) (w : WI) : H := Host.dotGeneral dot_S2176x1024_S1024x2816_S2176x2816_1_0_0_1_n_n none x w
def down (a : H) (w : WO) : X := Host.dotGeneral dot_S2176x2816_S2816x1024_S2176x1024_1_0_0_1_n_n none a w
def back (d : X) (w : WO) : H := Host.dotGeneral dot_S2176x1024_S2816x1024_S2176x2816_1_1_0_0_n_n none d w
def into (a : H) (w : WI) : X := Host.dotGeneral dot_S2176x2816_S1024x2816_S2176x1024_1_1_0_0_n_n none a w
def wIn (a : H) (x : X) : WI := transpose S1024x2816 [1, 0] (Host.dotGeneral dot_S2176x2816_S2176x1024_S2816x1024_0_0_1_1_n_n none a x) transposes_S2816x1024_S1024x2816_1_0
def wOut (d : X) (a : H) : WO := transpose S2816x1024 [1, 0] (Host.dotGeneral dot_S2176x1024_S2176x2816_S1024x2816_0_0_1_1_n_n none d a) transposes_S1024x2816_S2816x1024_1_0
def one : H := broadcastInDim S2176x2816 ![] bcast_S_S2176x2816 (constant S_ .f32 0x3F800000#32)
def sigm (g : H) : H := Host.divf one (addf one (Host.exp (Host.negf g)))
def silu (g : H) : H := mulf g (sigm g)
def gateGrad (g u d : H) : H := addf (mulf (mulf d u) (sigm g)) (mulf (mulf g (mulf d u)) (mulf (sigm g) (subf one (sigm g))))

/-- and what each is. -/
theorem up_eq (x : X) (w : WI) : up x w = nn x w := by
  funext i
  rw [eq_ix2 i]
  pointwise [up]
  rfl
theorem down_eq (a : H) (w : WO) : down a w = nn a w := by
  funext i
  rw [eq_ix2 i]
  pointwise [down]
  rfl
theorem back_eq (d : X) (w : WO) : back d w = nt d w := by
  funext i
  rw [eq_ix2 i]
  pointwise [back]
  rfl
theorem into_eq (a : H) (w : WI) : into a w = nt a w := by
  funext i
  rw [eq_ix2 i]
  pointwise [into]
  rfl
theorem wIn_eq (a : H) (x : X) : wIn a x = tn x a := by
  refine Eq.trans ?_ (tr_tn (m := 2816) (n := 1024) a x)
  funext i
  rw [eq_ix2 i]
  pointwise [wIn]
  rfl
theorem wOut_eq (d : X) (a : H) : wOut d a = tn a d := by
  refine Eq.trans ?_ (tr_tn (m := 1024) (n := 2816) d a)
  funext i
  rw [eq_ix2 i]
  pointwise [wOut]
  rfl
theorem one_at (i : S2176x2816.Idx) : (one i : EReal) = 1 := by
  rw [eq_ix2 i]
  pointwise [one]
theorem sigm_at (g : H) (i : S2176x2816.Idx) : (sigm g i : EReal) = Ideal.logistic (g i) := by
  show Ideal.div (one i) (one i + Ideal.exp (-(g i))) = _
  rw [one_at]
  rfl
theorem act_eq (g u : H) : (mulf (silu g) u : H) = actF g u := funext fun i => by
  show (g i * sigm g i) * u i = _
  rw [sigm_at]
  rfl
theorem up_grad_eq (g d : H) : (mulf (silu g) d : H) = dupF g d := funext fun i => by
  show (g i * sigm g i) * d i = _
  rw [sigm_at]
  exact mul_comm _ _
theorem gate_grad_eq (g u d : H) : gateGrad g u d = dgateS g u d := funext fun i => by
  show (d i * u i) * sigm g i + (g i * (d i * u i)) * (sigm g i * (one i - sigm g i)) = _
  rw [sigm_at, one_at]
  rfl

section
variable (x : X) (wg wu : WI) (wd : WO) (dx df : X)
  (fx : ∀ i, Cert.Att.IsReal (x i)) (fu : ∀ i, Cert.Att.IsReal (wu i)) (fd : ∀ i, Cert.Att.IsReal (wd i)) (ff : ∀ i, Cert.Att.IsReal (df i))

theorem val0 : down (mulf (silu (up x wg)) (up x wu)) wd = outv x wg wu wd := by
  rw [down_eq, act_eq, up_eq, up_eq]
  rfl
theorem valA : (mulf (silu (up x wg)) (back df wd) : H) = dup x wg wd df := by
  rw [up_grad_eq, up_eq, back_eq]
  rfl
include fx fu fd ff in
theorem valG : gateGrad (up x wg) (up x wu) (back df wd) = dgate x wg wu wd df := by
  rw [gate_grad_eq, up_eq, up_eq, back_eq]
  exact dgateS_eq _ _ _ (fun i => isReal_sum _ _ (fun e => fx _) (fun e => fu _)) (fun i => isReal_sum _ _ (fun e => ff _) (fun e => fd _))
include fx fu fd ff in
theorem val1 : (addf dx (addf (into (mulf (silu (up x wg)) (back df wd)) wu) (into (gateGrad (up x wg) (up x wu) (back df wd)) wg)) : X) = dinput x wg wu wd dx df := by
  rw [valA, valG x wg wu wd df fx fu fd ff, into_eq, into_eq]
  funext i
  show dx i + (nt (dup x wg wd df) wu i + nt (dgate x wg wu wd df) wg i) = nt (dup x wg wd df) wu i + (nt (dgate x wg wu wd df) wg i + dx i)
  rw [add_comm, add_assoc]
include fx fu fd ff in
theorem val2 : wIn (gateGrad (up x wg) (up x wu) (back df wd)) x = dwg x wg wu wd df := by
  rw [valG x wg wu wd df fx fu fd ff, wIn_eq]
  rfl
theorem val3 : wIn (mulf (silu (up x wg)) (back df wd)) x = dwu x wg wd df := by
  rw [valA, wIn_eq]
  rfl
theorem val4 : wOut df (mulf (silu (up x wg)) (up x wu)) = dwd x wg wu df := by
  rw [act_eq, up_eq, up_eq, wOut_eq]
  rfl
end

variable (m : (ℓ : Loc nD τ sig) → Buf (Elt Ideal) ℓ)

/-- The run leaves the five formulas in its results, and its arguments as they were. -/
theorem run (ρ : Dev nD → PrngReg) : θ_run defs (onTc (τ := τ) (main (F := Ideal))) ⟨m, fun _ => 0, ρ⟩ fun r => ∀ c : Dev nD,
    (∀ (x : X) (wg wu : WI) (wd : WO) (dx df : X),
      m ((c.tc : Thread nD τ).loc main_arg0) = x → m ((c.tc : Thread nD τ).loc main_arg1) = wg → m ((c.tc : Thread nD τ).loc main_arg2) = wu →
      m ((c.tc : Thread nD τ).loc main_arg3) = wd → m ((c.tc : Thread nD τ).loc main_arg4) = dx → m ((c.tc : Thread nD τ).loc main_arg5) = df →
      (∀ i, Cert.Att.IsReal (x i)) → (∀ i, Cert.Att.IsReal (wu i)) → (∀ i, Cert.Att.IsReal (wd i)) → (∀ i, Cert.Att.IsReal (df i)) →
      (r.2.mem ((c.tc : Thread nD τ).loc main_v4) : X) = outv x wg wu wd
      ∧ (r.2.mem ((c.tc : Thread nD τ).loc main_v18) : X) = dinput x wg wu wd dx df
      ∧ (r.2.mem ((c.tc : Thread nD τ).loc main_v15) : WI) = dwg x wg wu wd df
      ∧ (r.2.mem ((c.tc : Thread nD τ).loc main_v11) : WI) = dwu x wg wd df
      ∧ (r.2.mem ((c.tc : Thread nD τ).loc main_v6) : WO) = dwd x wg wu df)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun r h c => ⟨fun x wg wu wd dx df h0 h1 h2 h3 h4 h5 fx fu fd ff => by
    subst h0 h1 h2 h3 h4 h5
    exact ⟨(h c).1.trans (val0 _ _ _ _), (h c).2.1.trans (val1 _ _ _ _ _ _ fx fu fd ff), (h c).2.2.1.trans (val2 _ _ _ _ _ fx fu fd ff),
      (h c).2.2.2.1.trans (val3 _ _ _ _), (h c).2.2.2.2.1.trans (val4 _ _ _ _)⟩, (h c).2.2.2.2.2⟩) (Cert.Reference2Ideal.Value.run (F := Ideal) m ρ)

end Cert.Reference2Ideal.Ffn
-- ==== Proof.Ffn.Finite.lean ====
/- The precondition of the feed-forward layer read back: every element of four of its arrays is a real number. -/
module

public import proofs.«01_k».proof.Pre_finite_ffn
public import proofs.«01_k».proof.Proof.Finite

@[expose] public section
noncomputable section

namespace Cert.Pre_finite_ffn.Ffn
open Cert.Pre_finite_ffn Idealize.ShloMosaic Cert.Att

theorem real_of_reduce (s : Shape) (dims : List (Fin s.rank)) (x : FVec Ideal s .f32) (hb : S_.BroadcastsInDim s ![])
    (hr : s.ReducesTo dims S_) (hu : 0 < S_.numel)
    (h : Host.reduce IntOp.andi (cmpf .olt (Host.absf x) (broadcastInDim s ![] hb (constant S_ .f32 0x7F800000#32)) : IVec s 1)
      (constantI S_ 1 1#1) hr hu = fun _ => 1#1) (i : s.Idx) : IsReal (x i) := by
  haveI : Subsingleton S_.Idx := ⟨fun a b => funext fun k => k.elim0⟩
  exact Cert.Pre_finite_qk.Att.real_of_lt (x i) (Host.reduce_andi_all _ _ hr hu (fun k => k.elim0) (congrFun h _) i)

theorem real_of_pre [Facts] (x : FVec Ideal S2176x1024 .f32) (wg wu : FVec Ideal S1024x2816 .f32) (wd : FVec Ideal S2816x1024 .f32)
    (dx df : FVec Ideal S2176x1024 .f32) (h : fn (F := Ideal) x wg wu wd dx df = fun _ => 1#1) :
    (∀ i, IsReal (x i)) ∧ (∀ i, IsReal (wu i)) ∧ (∀ i, IsReal (wd i)) ∧ ∀ i, IsReal (df i) := by
  have k1 := fun k => IntOp.andi_eq_one.1 (congrFun h k)
  have k2 := fun k => IntOp.andi_eq_one.1 (k1 k).1
  have k3 := fun k => IntOp.andi_eq_one.1 (k2 k).1
  exact ⟨real_of_reduce _ _ x _ _ _ (funext fun k => (k3 k).1), real_of_reduce _ _ wu _ _ _ (funext fun k => (k3 k).2),
    real_of_reduce _ _ wd _ _ _ (funext fun k => (k2 k).2), real_of_reduce _ _ df _ _ _ (funext fun k => (k1 k).2)⟩

end Cert.Pre_finite_ffn.Ffn
-- ==== Proof.Ffn.Claims.lean ====
/- The claims of the feed-forward layer: the frames of its programs, and the equality of its output and gradients. -/
module

public import proofs.«01_k».proof.Defs
public import proofs.«01_k».proof.Proof.Ffn.Run
public import proofs.«01_k».proof.Proof.Ffn.Value
public import proofs.«01_k».proof.Proof.Ffn.RefValue
public import proofs.«01_k».proof.Proof.Ffn.Finite
public import proofs.«01_k».proof.Proof.Gen.Kernel2.Frame
public import proofs.«01_k».proof.Proof.Gen.Pre_finite_ffn

@[expose] public section
set_option maxRecDepth 16384
noncomputable section

namespace Cert.Proof
open Idealize.ShloMosaic Idealize.ShloMosaic.TcCoe Idealize.SL.Sem Cert.Att

theorem frame_kernel2 : Cert.quiescent_Kernel2 := fun m g _ => Cert.Kernel2.Gen.frame m g
theorem frame_ideal2 : Cert.quiescent_Kernel2Ideal := fun m g _ => Cert.Kernel2Ideal.Gen.frame m g
theorem frame_ideal2_pre : Cert.quiescent_Kernel2Ideal_pre_finite_ffn := fun m g _ => Cert.Kernel2Ideal.Gen.frame m g
theorem frame_reference2 : Cert.quiescent_Reference2Ideal := fun m g _ =>
  (θ_run Cert.Reference2Ideal.defs _ _).mono (fun r h => ⟨fun c => (h c).2.2.2.2.2, sem_eq_zero_of_no_sems (by decide) r.2⟩)
    (Cert.Reference2Ideal.Value.run (F := Ideal) m g)
theorem frame_reference2_pre : Cert.quiescent_Reference2Ideal_pre_finite_ffn := fun m g _ => frame_reference2 m g trivial

theorem preserves2 : Cert.preserves_Kernel2_Kernel2Ideal := trivial

open Cert.Kernel2Ideal Cert.Kernel2Ideal.Gen in
theorem algebraic2 : Cert.algebraic_Kernel2Ideal_Reference2Ideal_pre_finite_ffn := by
  intro m g m' g' hpre hargs
  have hf := fun c => Cert.Pre_finite_ffn.Ffn.real_of_pre _ _ _ _ _ _ (hpre c)
  have hA := fun c => (⟨rfl, rfl, rfl, rfl, rfl, rfl⟩ : Cert.Kernel2Ideal.Ffn.Args m c _ _ _ _ _ _)
  refine ⟨fun c => W14 m g c (Proc.devRef .tc main_v10),
    fun c => W14 m g c (Proc.devRef .tc main_v17),
    fun c => W14 m g c (Proc.devRef .tc main_v19),
    fun c => W14 m g c (Proc.devRef .tc main_v21),
    fun c => W14 m g c (Proc.devRef .tc main_v22), ?_, ?_⟩
  · exact (θ_run Cert.Kernel2Ideal.defs _ _).mono (fun r h c =>
      ⟨h.1 c _ (mem_uc main_v10 (by decide)),
       h.1 c _ (mem_uc main_v17 (by decide)),
       h.1 c _ (mem_uc main_v19 (by decide)),
       h.1 c _ (mem_uc main_v21 (by decide)),
       h.1 c _ (mem_uc main_v22 (by decide)),
       (h.1 c _ (mem_uc main_arg0 (by decide))).trans (W14_main_arg0 m g c),
       (h.1 c _ (mem_uc main_arg1 (by decide))).trans (W14_main_arg1 m g c),
       (h.1 c _ (mem_uc main_arg2 (by decide))).trans (W14_main_arg2 m g c),
       (h.1 c _ (mem_uc main_arg3 (by decide))).trans (W14_main_arg3 m g c),
       (h.1 c _ (mem_uc main_arg4 (by decide))).trans (W14_main_arg4 m g c),
       (h.1 c _ (mem_uc main_arg5 (by decide))).trans (W14_main_arg5 m g c)⟩)
      (Cert.Kernel2Ideal.Ffn.run_all (F := Ideal) m g)
  · refine (θ_run Cert.Reference2Ideal.defs _ _).mono (fun r h c => ?_) (Cert.Reference2Ideal.Ffn.run m' g')
    obtain ⟨a0, a1, a2, a3, a4, a5⟩ := hargs c
    obtain ⟨f0, f2, f3, f5⟩ := hf c
    obtain ⟨r0, r1, r2, r3, r4⟩ := (h c).1 _ _ _ _ _ _ a0 a1 a2 a3 a4 a5 f0 f2 f3 f5
    exact ⟨r0.trans (Cert.Kernel2Ideal.Ffn.out0 g (hA c)).symm, r1.trans (Cert.Kernel2Ideal.Ffn.out1 g (hA c)).symm,
      r2.trans (Cert.Kernel2Ideal.Ffn.out2 g (hA c)).symm, r3.trans (Cert.Kernel2Ideal.Ffn.out3 g (hA c)).symm,
      r4.trans (Cert.Kernel2Ideal.Ffn.out4 g (hA c)).symm, (h c).2⟩

end Cert.Proof
-- ==== Proof.Proj.Run.lean ====
/- The run of the input projection, with what every array holds at its end. -/
module

public import proofs.«01_k».proof.Proof.Gen.Kernel3Ideal.Frame

@[expose] public section
set_option maxRecDepth 16384
noncomputable section

namespace Cert.Kernel3Ideal.Proj
open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends, with every array that outlives the launches at its last contents and every counter at zero. -/
theorem run_all : θ_run defs (onTc (τ := τ) (main (F := F))) ⟨m, fun _ => 0, ρ⟩ (fun r => (∀ c : Dev nD, ∀ b ∈ Pipeline.ucRefs τ sig, r.2.mem (((c : Thread nD τ)).1, b) = W10 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

end Cert.Kernel3Ideal.Proj
-- ==== Proof.Proj.Array0.lean ====
/- What the launch of the input cast leaves in its results, as a function of the arrays it reads. -/
module

public import proofs.«01_k».proof.Proof.Ffn.Products
public import proofs.«01_k».proof.Proof.Gen.Kernel3Ideal.Frame
public import Idealize.ShloMosaic.Lib.Pipeline.ValueKit

@[expose] public section
set_option maxRecDepth 16384
noncomputable section

namespace Cert.Kernel3Ideal.Proj
open Cert.Kernel3Ideal Cert.Kernel3Ideal.Gen Idealize.ShloMosaic Idealize.ShloMosaic.TcCoe Idealize.SL.Sem Cert.Ffn

/-- The blocks of grid point `t`. -/
theorem at0 : ∀ t : Fin cfg0.N, win0_0.index t = ![t.val, 0] ∧ win0_1.index t = ![t.val, 0] :=
  (by decide +kernel : ∀ t : Fin grid0.N, _)

section
variable (V : (c : Dev nD) → (b : Ref sig .tc) → Buf (Elt Ideal) ((c : Thread nD τ).loc b)) (c : Dev nD)

/-- One element of a grid point's block. -/
theorem out0_1_at (t : Fin cfg0.N) (b : S544x1024.Idx) (i : S2176x1024.Idx) (h0 : (i 0 : ℕ) = t.val * 544 + b 0) (h1 : (i 1 : ℕ) = b 1) :
    k0_pay1 (F := Ideal) (iblk0 V c 0 t) b = ((V c main_arg0 : FVec Ideal S2176x1024 .f32)) i := by
  have e0 : (iblk0 V c 0 t : FVec Ideal S544x1024 .f32) b = (V c main_arg0 : FVec Ideal S2176x1024 .f32) i := by
    refine (congrArg (iblk0 V c 0 t : FVec Ideal S544x1024 .f32) (eq_ix2 b)).trans ?_
    rw [idx_eq i ⟨t.val * 544 + b 0, h0 ▸ (i 0).isLt⟩ ⟨b 1, h1 ▸ (i 1).isLt⟩ h0 h1]
    blk_point [iblk0, at0 t]
  pointwise [k0_pay1]
  rw [e0]

/-- The result whole. -/
theorem array0_1 : (dat0 V c).arrAt 1 cfg0.N = (V c main_arg0 : FVec Ideal S2176x1024 .f32) := by
  refine (dat0 V c).arrAt_eq_of_covers 1 _ (by decide +kernel) (fun t hf y => ?_)
  blk_simp
  rw [after0_1]
  frame_out
  refine out0_1_at V c t _ _ ?_ ?_ <;> blk_simp [at0 t]
end
end Cert.Kernel3Ideal.Proj
-- ==== Proof.Proj.Array1.lean ====
/- What the launch of the projection leaves in its result, as a function of the arrays it reads. -/
module

public import proofs.«01_k».proof.Proof.Ffn.Products
public import proofs.«01_k».proof.Proof.Gen.Kernel3Ideal.Frame
public import Idealize.ShloMosaic.Lib.Pipeline.ValueKit

@[expose] public section
set_option maxRecDepth 16384
noncomputable section

namespace Cert.Kernel3Ideal.Proj
open Cert.Kernel3Ideal Cert.Kernel3Ideal.Gen Idealize.ShloMosaic Idealize.ShloMosaic.TcCoe Idealize.SL.Sem Cert.Ffn

/-- The blocks of grid point `t`. -/
theorem at1 : ∀ t : Fin cfg1.N, win1_0.index t = ![0, 0] ∧ win1_1.index t = ![t.val, 0] ∧ win1_2.index t = ![0, t.val] :=
  (by decide +kernel : ∀ t : Fin grid1.N, _)

section
variable (V : (c : Dev nD) → (b : Ref sig .tc) → Buf (Elt Ideal) ((c : Thread nD τ).loc b)) (c : Dev nD)

/-- One element of a grid point's block. -/
theorem out1_at (t : Fin cfg1.N) (b : S2176x512.Idx) (i : S2176x6144.Idx) (h0 : (i 0 : ℕ) = b 0) (h1 : (i 1 : ℕ) = t.val * 512 + b 1) :
    k1_pay1 (F := Ideal) (iblk1 V c 0 t) (iblk1 V c 1 t) b = nt (V c main_v16 : FVec Ideal S2176x1024 .bf16) (V c main_v15 : FVec Ideal S6144x1024 .bf16) i := by
  rw [show b = ix2 (b 0) (b 1) from eq_ix2 b]
  pointwise [k1_pay1]
  unfold nt
  refine Finset.sum_congr rfl fun e _ => congr (congrArg HMul.hMul ?_) ?_ <;> blk_point [iblk1, at1 t]

/-- The result whole. -/
theorem array1 : (dat1 V c).arrAt 2 cfg1.N = nt (V c main_v16 : FVec Ideal S2176x1024 .bf16) (V c main_v15 : FVec Ideal S6144x1024 .bf16) := by
  refine (dat1 V c).arrAt_eq_of_covers 2 _ (by decide +kernel) (fun t hf y => ?_)
  blk_simp
  rw [after1_2]
  frame_out
  refine out1_at V c t _ _ ?_ ?_ <;> blk_simp [at1 t]
end
end Cert.Kernel3Ideal.Proj
-- ==== Proof.Proj.Array2.lean ====
/- What the launch of the weights' gradient leaves in its result, as a function of the arrays it reads. -/
module

public import proofs.«01_k».proof.Proof.Ffn.Products
public import proofs.«01_k».proof.Proof.Gen.Kernel3Ideal.Frame
public import Idealize.ShloMosaic.Lib.Pipeline.ValueKit

@[expose] public section
set_option maxRecDepth 16384
noncomputable section

namespace Cert.Kernel3Ideal.Proj
open Cert.Kernel3Ideal Cert.Kernel3Ideal.Gen Idealize.ShloMosaic Idealize.ShloMosaic.TcCoe Idealize.SL.Sem Cert.Ffn

/-- The blocks of grid point `t`. -/
theorem at2 : ∀ t : Fin cfg2.N, win2_0.index t = ![0, t.val / 2] ∧ win2_1.index t = ![0, t.val % 2] ∧ win2_2.index t = ![t.val / 2, t.val % 2] :=
  (by decide +kernel : ∀ t : Fin grid2.N, _)

section
variable (V : (c : Dev nD) → (b : Ref sig .tc) → Buf (Elt Ideal) ((c : Thread nD τ).loc b)) (c : Dev nD)

/-- One element of a grid point's block. -/
theorem out2_at (t : Fin cfg2.N) (b : S1024x512.Idx) (i : S6144x1024.Idx) (h0 : (i 0 : ℕ) = t.val / 2 * 1024 + b 0) (h1 : (i 1 : ℕ) = t.val % 2 * 512 + b 1) :
    k2_pay1 (F := Ideal) (iblk2 V c 0 t) (iblk2 V c 1 t) b = tn (V c main_v47 : FVec Ideal S2176x6144 .bf16) (V c main_v16 : FVec Ideal S2176x1024 .bf16) i := by
  rw [show b = ix2 (b 0) (b 1) from eq_ix2 b]
  pointwise [k2_pay1]
  unfold tn
  refine Finset.sum_congr rfl fun e _ => congr (congrArg HMul.hMul ?_) ?_ <;> blk_point [iblk2, at2 t]

/-- The result whole. -/
theorem array2 : (dat2 V c).arrAt 2 cfg2.N = tn (V c main_v47 : FVec Ideal S2176x6144 .bf16) (V c main_v16 : FVec Ideal S2176x1024 .bf16) := by
  refine (dat2 V c).arrAt_eq_of_covers 2 _ (by decide +kernel) (fun t hf y => ?_)
  blk_simp
  rw [after2_2]
  frame_out
  refine out2_at V c t _ _ ?_ ?_ <;> blk_simp [at2 t]
end
end Cert.Kernel3Ideal.Proj
-- ==== Proof.Proj.Pack.lean ====
/- The packed columns of the input projection: 5792 columns laid into 6144, with zeros in the gaps. -/
module

public import proofs.«01_k».proof.Proof.Ffn.Products

@[expose] public section
set_option maxRecDepth 16384
noncomputable section

namespace Cert.Proj
open Idealize.ShloMosaic Cert.Ffn

/-- Where a column is laid. -/
def spot (j : ℕ) : ℕ := if j < 656 then j else if j < 672 then j + 112 else j + 224

theorem spot_lt {j : ℕ} (h : j < 5792) : spot j < 6144 := by
  unfold spot
  split_ifs <;> omega

/-- The place of a column among the packed ones. -/
def place (j : Fin 5792) : Fin 6144 := ⟨spot j, spot_lt j.isLt⟩

theorem place_val (j : Fin 5792) : (place j : ℕ) = spot j := rfl

/-- A row of 5792 numbers laid out. -/
def packed (f : Fin 5792 → EReal) (k : Fin 6144) : EReal :=
  if h : (k : ℕ) < 656 then f ⟨k, by omega⟩
  else if (k : ℕ) < 768 then 0
  else if h : (k : ℕ) < 784 then f ⟨k - 112, by omega⟩
  else if (k : ℕ) < 896 then 0
  else if h : (k : ℕ) < 6016 then f ⟨k - 224, by omega⟩
  else 0

theorem packed_place (f : Fin 5792 → EReal) (j : Fin 5792) : packed f (place j) = f j := by
  have hj := j.isLt
  unfold packed
  simp only [place_val, spot]
  split_ifs <;> first | omega | (refine congrArg f (Fin.ext ?_); first | rfl | omega)

theorem place_injective : Function.Injective place := fun a b h => by
  have e : spot a = spot b := congrArg Fin.val h
  unfold spot at e
  refine Fin.ext ?_
  split_ifs at e <;> omega

/-- Off the places there is zero. -/
theorem packed_gap (f : Fin 5792 → EReal) (k : Fin 6144) (h : k ∉ Set.range place) : packed f k = 0 := by
  have hk := k.isLt
  have h' : ∀ j : ℕ, j < 5792 → spot j ≠ k := fun j hj e => h ⟨⟨j, hj⟩, Fin.ext e⟩
  unfold packed
  split_ifs with h1 h2 h3 h4 h5
  · exact absurd (by unfold spot; rw [if_pos h1]) (h' k (by omega))
  · rfl
  · refine absurd ?_ (h' (k - 112) (by omega))
    unfold spot
    rw [if_neg (by omega), if_pos (by omega)]
    omega
  · rfl
  · refine absurd ?_ (h' (k - 224) (by omega))
    unfold spot
    rw [if_neg (by omega), if_neg (by omega)]
    omega
  · rfl

/-- The gaps add nothing to a product. -/
theorem sum_packed (f g : Fin 5792 → EReal) : ∑ k : Fin 6144, packed f k * packed g k = ∑ j : Fin 5792, f j * g j := by
  symm
  refine Fintype.sum_of_injective place place_injective _ _ (fun k hk => ?_) (fun j => ?_)
  · rw [packed_gap f k hk, zero_mul]
  · rw [packed_place, packed_place]

/-- A matrix with packed rows, -/
def packRows (w : (⟨2, ![1024, 5792]⟩ : Shape).Idx → EReal) : (⟨2, ![6144, 1024]⟩ : Shape).Idx → EReal :=
  fun i => packed (fun j => w (ix2 (i 1) j)) (i 0)
/-- and one with packed columns. -/
def packCols (d : (⟨2, ![2176, 5792]⟩ : Shape).Idx → EReal) : (⟨2, ![2176, 6144]⟩ : Shape).Idx → EReal :=
  fun i => packed (fun j => d (ix2 (i 0) j)) (i 1)

/-- The product over the packed columns is the product over the columns. -/
theorem nn_packed (d : (⟨2, ![2176, 5792]⟩ : Shape).Idx → EReal) (w : (⟨2, ![1024, 5792]⟩ : Shape).Idx → EReal) :
    nn (packCols d) (packRows w) = nt d w := funext fun i => sum_packed _ _

end Cert.Proj
-- ==== Proof.Proj.Lay.lean ====
/- Arrays laid one after the other, read at an index. -/
module

public import proofs.«01_k».proof.Proof.Proj.Pack
public import Idealize.ShloMosaic.Lib.Pipeline.ValueKit

@[expose] public section
set_option maxRecDepth 16384
noncomputable section

namespace Cert.Proj
open Idealize.ShloMosaic Cert.Ffn

/-- Read in the first sixteen of a padded block, and behind them. -/
theorem packed_lo (f : Fin 5792 → EReal) (k : Fin 6144) (h : (k : ℕ) < 656) : packed f k = f ⟨k, by omega⟩ := dif_pos h
theorem packed_mid (f : Fin 5792 → EReal) (k : Fin 6144) (h : 768 ≤ (k : ℕ)) (h' : (k : ℕ) < 784) : packed f k = f ⟨k - 112, by omega⟩ :=
  (dif_neg (by omega)).trans ((if_neg (by omega)).trans (dif_pos h'))
theorem packed_hi (f : Fin 5792 → EReal) (k : Fin 6144) (h : 896 ≤ (k : ℕ)) (h' : (k : ℕ) < 6016) : packed f k = f ⟨k - 224, by omega⟩ :=
  (dif_neg (by omega)).trans ((if_neg (by omega)).trans ((dif_neg (by omega)).trans ((if_neg (by omega)).trans (dif_pos h'))))
theorem packed_gap1 (f : Fin 5792 → EReal) (k : Fin 6144) (h : 656 ≤ (k : ℕ)) (h' : (k : ℕ) < 768) : packed f k = 0 :=
  (dif_neg (by omega)).trans (if_pos h')
theorem packed_gap2 (f : Fin 5792 → EReal) (k : Fin 6144) (h : 784 ≤ (k : ℕ)) (h' : (k : ℕ) < 896) : packed f k = 0 :=
  (dif_neg (by omega)).trans ((if_neg (by omega)).trans ((dif_neg (by omega)).trans (if_pos h')))
theorem packed_end (f : Fin 5792 → EReal) (k : Fin 6144) (h : 6016 ≤ (k : ℕ)) : packed f k = 0 :=
  (dif_neg (by omega)).trans ((if_neg (by omega)).trans ((dif_neg (by omega)).trans ((if_neg (by omega)).trans (dif_neg (by omega)))))

theorem place_lo (j : Fin 5792) (h : (j : ℕ) < 656) : (place j : ℕ) = j := if_pos h
theorem place_mid (j : Fin 5792) (h : 656 ≤ (j : ℕ)) (h' : (j : ℕ) < 672) : (place j : ℕ) = j + 112 := (if_neg (by omega)).trans (if_pos h')
theorem place_hi (j : Fin 5792) (h : 672 ≤ (j : ℕ)) : (place j : ℕ) = j + 224 := (if_neg (by omega)).trans (if_neg (by omega))

/-- Ten pieces of rows. -/
theorem laid_weights (p0 : FVec Ideal (⟨2, ![384, 1024]⟩ : Shape) .bf16) (p1 : FVec Ideal (⟨2, ![256, 1024]⟩ : Shape) .bf16) (p2 : FVec Ideal (⟨2, ![128, 1024]⟩ : Shape) .bf16) (p3 : FVec Ideal (⟨2, ![128, 1024]⟩ : Shape) .bf16) (p4 : FVec Ideal (⟨2, ![512, 1024]⟩ : Shape) .bf16) (p5 : FVec Ideal (⟨2, ![512, 1024]⟩ : Shape) .bf16) (p6 : FVec Ideal (⟨2, ![512, 1024]⟩ : Shape) .bf16) (p7 : FVec Ideal (⟨2, ![512, 1024]⟩ : Shape) .bf16) (p8 : FVec Ideal (⟨2, ![3072, 1024]⟩ : Shape) .bf16) (p9 : FVec Ideal (⟨2, ![128, 1024]⟩ : Shape) .bf16)
    (hc : Shape.Concatenates [(⟨2, ![384, 1024]⟩ : Shape), (⟨2, ![256, 1024]⟩ : Shape), (⟨2, ![128, 1024]⟩ : Shape), (⟨2, ![128, 1024]⟩ : Shape), (⟨2, ![512, 1024]⟩ : Shape), (⟨2, ![512, 1024]⟩ : Shape), (⟨2, ![512, 1024]⟩ : Shape), (⟨2, ![512, 1024]⟩ : Shape), (⟨2, ![3072, 1024]⟩ : Shape), (⟨2, ![128, 1024]⟩ : Shape)] (⟨2, ![6144, 1024]⟩ : Shape) 0) (a : Fin 1024) (k : Fin 6144) (g : Fin 6144 → EReal)
    (h0 : ∀ e : Fin 384, p0 (ix2 e a) = g ⟨0 + e, by omega⟩)
    (h1 : ∀ e : Fin 256, p1 (ix2 e a) = g ⟨384 + e, by omega⟩)
    (h2 : ∀ e : Fin 128, p2 (ix2 e a) = g ⟨640 + e, by omega⟩)
    (h3 : ∀ e : Fin 128, p3 (ix2 e a) = g ⟨768 + e, by omega⟩)
    (h4 : ∀ e : Fin 512, p4 (ix2 e a) = g ⟨896 + e, by omega⟩)
    (h5 : ∀ e : Fin 512, p5 (ix2 e a) = g ⟨1408 + e, by omega⟩)
    (h6 : ∀ e : Fin 512, p6 (ix2 e a) = g ⟨1920 + e, by omega⟩)
    (h7 : ∀ e : Fin 512, p7 (ix2 e a) = g ⟨2432 + e, by omega⟩)
    (h8 : ∀ e : Fin 3072, p8 (ix2 e a) = g ⟨2944 + e, by omega⟩)
    (h9 : ∀ e : Fin 128, p9 (ix2 e a) = g ⟨6016 + e, by omega⟩) :
    concatenate (⟨2, ![6144, 1024]⟩ : Shape) 0 [⟨(⟨2, ![384, 1024]⟩ : Shape), p0⟩, ⟨(⟨2, ![256, 1024]⟩ : Shape), p1⟩, ⟨(⟨2, ![128, 1024]⟩ : Shape), p2⟩, ⟨(⟨2, ![128, 1024]⟩ : Shape), p3⟩, ⟨(⟨2, ![512, 1024]⟩ : Shape), p4⟩, ⟨(⟨2, ![512, 1024]⟩ : Shape), p5⟩, ⟨(⟨2, ![512, 1024]⟩ : Shape), p6⟩, ⟨(⟨2, ![512, 1024]⟩ : Shape), p7⟩, ⟨(⟨2, ![3072, 1024]⟩ : Shape), p8⟩, ⟨(⟨2, ![128, 1024]⟩ : Shape), p9⟩] hc (ix2 k a) = g k := by
  pointwise
  by_cases c0 : (k : ℕ) < 384
  · exact (dif_pos (by omega)).trans ((h0 _).trans (congrArg g (Fin.ext (by dsimp only; omega))))
  by_cases c1 : (k : ℕ) < 640
  · exact (dif_neg (by omega)).trans ((dif_pos (by omega)).trans ((h1 _).trans (congrArg g (Fin.ext (by dsimp only; omega)))))
  by_cases c2 : (k : ℕ) < 768
  · exact (dif_neg (by omega)).trans ((dif_neg (by omega)).trans ((dif_pos (by omega)).trans ((h2 _).trans (congrArg g (Fin.ext (by dsimp only; omega))))))
  by_cases c3 : (k : ℕ) < 896
  · exact (dif_neg (by omega)).trans ((dif_neg (by omega)).trans ((dif_neg (by omega)).trans ((dif_pos (by omega)).trans ((h3 _).trans (congrArg g (Fin.ext (by dsimp only; omega)))))))
  by_cases c4 : (k : ℕ) < 1408
  · exact (dif_neg (by omega)).trans ((dif_neg (by omega)).trans ((dif_neg (by omega)).trans ((dif_neg (by omega)).trans ((dif_pos (by omega)).trans ((h4 _).trans (congrArg g (Fin.ext (by dsimp only; omega))))))))
  by_cases c5 : (k : ℕ) < 1920
  · exact (dif_neg (by omega)).trans ((dif_neg (by omega)).trans ((dif_neg (by omega)).trans ((dif_neg (by omega)).trans ((dif_neg (by omega)).trans ((dif_pos (by omega)).trans ((h5 _).trans (congrArg g (Fin.ext (by dsimp only; omega)))))))))
  by_cases c6 : (k : ℕ) < 2432
  · exact (dif_neg (by omega)).trans ((dif_neg (by omega)).trans ((dif_neg (by omega)).trans ((dif_neg (by omega)).trans ((dif_neg (by omega)).trans ((dif_neg (by omega)).trans ((dif_pos (by omega)).trans ((h6 _).trans (congrArg g (Fin.ext (by dsimp only; omega))))))))))
  by_cases c7 : (k : ℕ) < 2944
  · exact (dif_neg (by omega)).trans ((dif_neg (by omega)).trans ((dif_neg (by omega)).trans ((dif_neg (by omega)).trans ((dif_neg (by omega)).trans ((dif_neg (by omega)).trans ((dif_neg (by omega)).trans ((dif_pos (by omega)).trans ((h7 _).trans (congrArg g (Fin.ext (by dsimp only; omega)))))))))))
  by_cases c8 : (k : ℕ) < 6016
  · exact (dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans ((h8 _).trans (congrArg g (Fin.ext (by dsimp only; omega))))))))))))
  exact (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((h9 _).trans (congrArg g (Fin.ext (by dsimp only; omega))))))))))))

/-- Twelve pieces of columns. -/
theorem laid_cotangent (p0 : FVec Ideal (⟨2, ![2176, 384]⟩ : Shape) .bf16) (p1 : FVec Ideal (⟨2, ![2176, 256]⟩ : Shape) .bf16) (p2 : FVec Ideal (⟨2, ![2176, 128]⟩ : Shape) .bf16) (p3 : FVec Ideal (⟨2, ![2176, 128]⟩ : Shape) .bf16) (p4 : FVec Ideal (⟨2, ![2176, 512]⟩ : Shape) .bf16) (p5 : FVec Ideal (⟨2, ![2176, 512]⟩ : Shape) .bf16) (p6 : FVec Ideal (⟨2, ![2176, 512]⟩ : Shape) .bf16) (p7 : FVec Ideal (⟨2, ![2176, 512]⟩ : Shape) .bf16) (p8 : FVec Ideal (⟨2, ![2176, 1024]⟩ : Shape) .bf16) (p9 : FVec Ideal (⟨2, ![2176, 1024]⟩ : Shape) .bf16) (p10 : FVec Ideal (⟨2, ![2176, 1024]⟩ : Shape) .bf16) (p11 : FVec Ideal (⟨2, ![2176, 128]⟩ : Shape) .bf16)
    (hc : Shape.Concatenates [(⟨2, ![2176, 384]⟩ : Shape), (⟨2, ![2176, 256]⟩ : Shape), (⟨2, ![2176, 128]⟩ : Shape), (⟨2, ![2176, 128]⟩ : Shape), (⟨2, ![2176, 512]⟩ : Shape), (⟨2, ![2176, 512]⟩ : Shape), (⟨2, ![2176, 512]⟩ : Shape), (⟨2, ![2176, 512]⟩ : Shape), (⟨2, ![2176, 1024]⟩ : Shape), (⟨2, ![2176, 1024]⟩ : Shape), (⟨2, ![2176, 1024]⟩ : Shape), (⟨2, ![2176, 128]⟩ : Shape)] (⟨2, ![2176, 6144]⟩ : Shape) 1) (a : Fin 2176) (k : Fin 6144) (g : Fin 6144 → EReal)
    (h0 : ∀ e : Fin 384, p0 (ix2 a e) = g ⟨0 + e, by omega⟩)
    (h1 : ∀ e : Fin 256, p1 (ix2 a e) = g ⟨384 + e, by omega⟩)
    (h2 : ∀ e : Fin 128, p2 (ix2 a e) = g ⟨640 + e, by omega⟩)
    (h3 : ∀ e : Fin 128, p3 (ix2 a e) = g ⟨768 + e, by omega⟩)
    (h4 : ∀ e : Fin 512, p4 (ix2 a e) = g ⟨896 + e, by omega⟩)
    (h5 : ∀ e : Fin 512, p5 (ix2 a e) = g ⟨1408 + e, by omega⟩)
    (h6 : ∀ e : Fin 512, p6 (ix2 a e) = g ⟨1920 + e, by omega⟩)
    (h7 : ∀ e : Fin 512, p7 (ix2 a e) = g ⟨2432 + e, by omega⟩)
    (h8 : ∀ e : Fin 1024, p8 (ix2 a e) = g ⟨2944 + e, by omega⟩)
    (h9 : ∀ e : Fin 1024, p9 (ix2 a e) = g ⟨3968 + e, by omega⟩)
    (h10 : ∀ e : Fin 1024, p10 (ix2 a e) = g ⟨4992 + e, by omega⟩)
    (h11 : ∀ e : Fin 128, p11 (ix2 a e) = g ⟨6016 + e, by omega⟩) :
    concatenate (⟨2, ![2176, 6144]⟩ : Shape) 1 [⟨(⟨2, ![2176, 384]⟩ : Shape), p0⟩, ⟨(⟨2, ![2176, 256]⟩ : Shape), p1⟩, ⟨(⟨2, ![2176, 128]⟩ : Shape), p2⟩, ⟨(⟨2, ![2176, 128]⟩ : Shape), p3⟩, ⟨(⟨2, ![2176, 512]⟩ : Shape), p4⟩, ⟨(⟨2, ![2176, 512]⟩ : Shape), p5⟩, ⟨(⟨2, ![2176, 512]⟩ : Shape), p6⟩, ⟨(⟨2, ![2176, 512]⟩ : Shape), p7⟩, ⟨(⟨2, ![2176, 1024]⟩ : Shape), p8⟩, ⟨(⟨2, ![2176, 1024]⟩ : Shape), p9⟩, ⟨(⟨2, ![2176, 1024]⟩ : Shape), p10⟩, ⟨(⟨2, ![2176, 128]⟩ : Shape), p11⟩] hc (ix2 a k) = g k := by
  pointwise
  by_cases c0 : (k : ℕ) < 384
  · exact (dif_pos (by omega)).trans ((h0 _).trans (congrArg g (Fin.ext (by dsimp only; omega))))
  by_cases c1 : (k : ℕ) < 640
  · exact (dif_neg (by omega)).trans ((dif_pos (by omega)).trans ((h1 _).trans (congrArg g (Fin.ext (by dsimp only; omega)))))
  by_cases c2 : (k : ℕ) < 768
  · exact (dif_neg (by omega)).trans ((dif_neg (by omega)).trans ((dif_pos (by omega)).trans ((h2 _).trans (congrArg g (Fin.ext (by dsimp only; omega))))))
  by_cases c3 : (k : ℕ) < 896
  · exact (dif_neg (by omega)).trans ((dif_neg (by omega)).trans ((dif_neg (by omega)).trans ((dif_pos (by omega)).trans ((h3 _).trans (congrArg g (Fin.ext (by dsimp only; omega)))))))
  by_cases c4 : (k : ℕ) < 1408
  · exact (dif_neg (by omega)).trans ((dif_neg (by omega)).trans ((dif_neg (by omega)).trans ((dif_neg (by omega)).trans ((dif_pos (by omega)).trans ((h4 _).trans (congrArg g (Fin.ext (by dsimp only; omega))))))))
  by_cases c5 : (k : ℕ) < 1920
  · exact (dif_neg (by omega)).trans ((dif_neg (by omega)).trans ((dif_neg (by omega)).trans ((dif_neg (by omega)).trans ((dif_neg (by omega)).trans ((dif_pos (by omega)).trans ((h5 _).trans (congrArg g (Fin.ext (by dsimp only; omega)))))))))
  by_cases c6 : (k : ℕ) < 2432
  · exact (dif_neg (by omega)).trans ((dif_neg (by omega)).trans ((dif_neg (by omega)).trans ((dif_neg (by omega)).trans ((dif_neg (by omega)).trans ((dif_neg (by omega)).trans ((dif_pos (by omega)).trans ((h6 _).trans (congrArg g (Fin.ext (by dsimp only; omega))))))))))
  by_cases c7 : (k : ℕ) < 2944
  · exact (dif_neg (by omega)).trans ((dif_neg (by omega)).trans ((dif_neg (by omega)).trans ((dif_neg (by omega)).trans ((dif_neg (by omega)).trans ((dif_neg (by omega)).trans ((dif_neg (by omega)).trans ((dif_pos (by omega)).trans ((h7 _).trans (congrArg g (Fin.ext (by dsimp only; omega)))))))))))
  by_cases c8 : (k : ℕ) < 3968
  · exact (dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans ((h8 _).trans (congrArg g (Fin.ext (by dsimp only; omega))))))))))))
  by_cases c9 : (k : ℕ) < 4992
  · exact (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans ((h9 _).trans (congrArg g (Fin.ext (by dsimp only; omega)))))))))))))
  by_cases c10 : (k : ℕ) < 6016
  · exact (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_pos (by omega)).trans ((h10 _).trans (congrArg g (Fin.ext (by dsimp only; omega))))))))))))))
  exact (dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((dif_neg (by omega)).trans ((h11 _).trans (congrArg g (Fin.ext (by dsimp only; omega))))))))))))))

/-- Six pieces of columns. -/
theorem laid_result (p0 : FVec Ideal (⟨2, ![2176, 384]⟩ : Shape) .f32) (p1 : FVec Ideal (⟨2, ![2176, 256]⟩ : Shape) .f32) (p2 : FVec Ideal (⟨2, ![2176, 16]⟩ : Shape) .f32) (p3 : FVec Ideal (⟨2, ![2176, 16]⟩ : Shape) .f32) (p4 : FVec Ideal (⟨2, ![2176, 2048]⟩ : Shape) .f32) (p5 : FVec Ideal (⟨2, ![2176, 3072]⟩ : Shape) .f32)
    (hc : Shape.Concatenates [(⟨2, ![2176, 384]⟩ : Shape), (⟨2, ![2176, 256]⟩ : Shape), (⟨2, ![2176, 16]⟩ : Shape), (⟨2, ![2176, 16]⟩ : Shape), (⟨2, ![2176, 2048]⟩ : Shape), (⟨2, ![2176, 3072]⟩ : Shape)] (⟨2, ![2176, 5792]⟩ : Shape) 1) (a : Fin 2176) (k : Fin 5792) (g : Fin 5792 → EReal)
    (h0 : ∀ e : Fin 384, p0 (ix2 a e) = g ⟨0 + e, by omega⟩)
    (h1 : ∀ e : Fin 256, p1 (ix2 a e) = g ⟨384 + e, by omega⟩)
    (h2 : ∀ e : Fin 16, p2 (ix2 a e) = g ⟨640 + e, by omega⟩)
    (h3 : ∀ e : Fin 16, p3 (ix2 a e) = g ⟨656 + e, by omega⟩)
    (h4 : ∀ e : Fin 2048, p4 (ix2 a e) = g ⟨672 + e, by omega⟩)
    (h5 : ∀ e : Fin 3072, p5 (ix2 a e) = g ⟨2720 + e, by omega⟩) :
    concatenate (⟨2, ![2176, 5792]⟩ : Shape) 1 [⟨(⟨2, ![2176, 384]⟩ : Shape), p0⟩, ⟨(⟨2, ![2176, 256]⟩ : Shape), p1⟩, ⟨(⟨2, ![2176, 16]⟩ : Shape), p2⟩, ⟨(⟨2, ![2176, 16]⟩ : Shape), p3⟩, ⟨(⟨2, ![2176, 2048]⟩ : Shape), p4⟩, ⟨(⟨2, ![2176, 3072]⟩ : Shape), p5⟩] hc (ix2 a k) = g k := by
  pointwise
  by_cases c0 : (k : ℕ) < 384
  · exact (dif_pos (by omega)).trans ((h0 _).trans (congrArg g (Fin.ext (by dsimp only; omega))))
  by_cases c1 : (k : ℕ) < 640
  · exact (dif_neg (by omega)).trans ((dif_pos (by omega)).trans ((h1 _).trans (congrArg g (Fin.ext (by dsimp only; omega)))))
  by_cases c2 : (k : ℕ) < 656
  · exact (dif_neg (by omega)).trans ((dif_neg (by omega)).trans ((dif_pos (by omega)).trans ((h2 _).trans (congrArg g (Fin.ext (by dsimp only; omega))))))
  by_cases c3 : (k : ℕ) < 672
  · exact (dif_neg (by omega)).trans ((dif_neg (by omega)).trans ((dif_neg (by omega)).trans ((dif_pos (by omega)).trans ((h3 _).trans (congrArg g (Fin.ext (by dsimp only; omega)))))))
  by_cases c4 : (k : ℕ) < 2720
  · exact (dif_neg (by omega)).trans ((dif_neg (by omega)).trans ((dif_neg (by omega)).trans ((dif_neg (by omega)).trans ((dif_pos (by omega)).trans ((h4 _).trans (congrArg g (Fin.ext (by dsimp only; omega))))))))
  exact (dif_neg (by omega)).trans ((dif_neg (by omega)).trans ((dif_neg (by omega)).trans ((dif_neg (by omega)).trans ((dif_neg (by omega)).trans ((h5 _).trans (congrArg g (Fin.ext (by dsimp only; omega))))))))

/-- Six pieces of rows. -/
theorem laid_gradient (p0 : FVec Ideal (⟨2, ![384, 1024]⟩ : Shape) .bf16) (p1 : FVec Ideal (⟨2, ![256, 1024]⟩ : Shape) .bf16) (p2 : FVec Ideal (⟨2, ![16, 1024]⟩ : Shape) .bf16) (p3 : FVec Ideal (⟨2, ![16, 1024]⟩ : Shape) .bf16) (p4 : FVec Ideal (⟨2, ![2048, 1024]⟩ : Shape) .bf16) (p5 : FVec Ideal (⟨2, ![3072, 1024]⟩ : Shape) .bf16)
    (hc : Shape.Concatenates [(⟨2, ![384, 1024]⟩ : Shape), (⟨2, ![256, 1024]⟩ : Shape), (⟨2, ![16, 1024]⟩ : Shape), (⟨2, ![16, 1024]⟩ : Shape), (⟨2, ![2048, 1024]⟩ : Shape), (⟨2, ![3072, 1024]⟩ : Shape)] (⟨2, ![5792, 1024]⟩ : Shape) 0) (a : Fin 1024) (k : Fin 5792) (g : Fin 5792 → EReal)
    (h0 : ∀ e : Fin 384, p0 (ix2 e a) = g ⟨0 + e, by omega⟩)
    (h1 : ∀ e : Fin 256, p1 (ix2 e a) = g ⟨384 + e, by omega⟩)
    (h2 : ∀ e : Fin 16, p2 (ix2 e a) = g ⟨640 + e, by omega⟩)
    (h3 : ∀ e : Fin 16, p3 (ix2 e a) = g ⟨656 + e, by omega⟩)
    (h4 : ∀ e : Fin 2048, p4 (ix2 e a) = g ⟨672 + e, by omega⟩)
    (h5 : ∀ e : Fin 3072, p5 (ix2 e a) = g ⟨2720 + e, by omega⟩) :
    concatenate (⟨2, ![5792, 1024]⟩ : Shape) 0 [⟨(⟨2, ![384, 1024]⟩ : Shape), p0⟩, ⟨(⟨2, ![256, 1024]⟩ : Shape), p1⟩, ⟨(⟨2, ![16, 1024]⟩ : Shape), p2⟩, ⟨(⟨2, ![16, 1024]⟩ : Shape), p3⟩, ⟨(⟨2, ![2048, 1024]⟩ : Shape), p4⟩, ⟨(⟨2, ![3072, 1024]⟩ : Shape), p5⟩] hc (ix2 k a) = g k := by
  pointwise
  by_cases c0 : (k : ℕ) < 384
  · exact (dif_pos (by omega)).trans ((h0 _).trans (congrArg g (Fin.ext (by dsimp only; omega))))
  by_cases c1 : (k : ℕ) < 640
  · exact (dif_neg (by omega)).trans ((dif_pos (by omega)).trans ((h1 _).trans (congrArg g (Fin.ext (by dsimp only; omega)))))
  by_cases c2 : (k : ℕ) < 656
  · exact (dif_neg (by omega)).trans ((dif_neg (by omega)).trans ((dif_pos (by omega)).trans ((h2 _).trans (congrArg g (Fin.ext (by dsimp only; omega))))))
  by_cases c3 : (k : ℕ) < 672
  · exact (dif_neg (by omega)).trans ((dif_neg (by omega)).trans ((dif_neg (by omega)).trans ((dif_pos (by omega)).trans ((h3 _).trans (congrArg g (Fin.ext (by dsimp only; omega)))))))
  by_cases c4 : (k : ℕ) < 2720
  · exact (dif_neg (by omega)).trans ((dif_neg (by omega)).trans ((dif_neg (by omega)).trans ((dif_neg (by omega)).trans ((dif_pos (by omega)).trans ((h4 _).trans (congrArg g (Fin.ext (by dsimp only; omega))))))))
  exact (dif_neg (by omega)).trans ((dif_neg (by omega)).trans ((dif_neg (by omega)).trans ((dif_neg (by omega)).trans ((dif_neg (by omega)).trans ((h5 _).trans (congrArg g (Fin.ext (by dsimp only; omega))))))))

end Cert.Proj
-- ==== Proof.Proj.Host.lean ====
/- The host's packing of the weights and of the cotangent, and its unpacking of the results. -/
module

public import proofs.«01_k».proof.Proof.Proj.Lay
public import proofs.«01_k».proof.Proof.Gen.Kernel3Ideal.Frame

@[expose] public section
set_option maxRecDepth 16384
noncomputable section

namespace Cert.Kernel3Ideal.Proj
open Cert.Kernel3Ideal Cert.Kernel3Ideal.Gen Idealize.ShloMosaic Idealize.ShloMosaic.TcCoe Idealize.SL.Sem Cert.Ffn Cert.Proj

variable (m : (ℓ : Loc nD τ sig) → Buf (Elt Ideal) ℓ) (ρ : Dev nD → PrngReg) (c : Dev nD)

/-- The padding is zero. -/
theorem sitofp_zero : (FloatOps.sitofp (F := Ideal) FTy.bf16 0#32 : EReal) = 0 := by
  show (((0#32 : BitVec 32).toInt : ℝ) : EReal) = 0
  simp

/-- The packed weights are ten pieces laid one after the other. -/
theorem pack_read (F : Valuation τ sig (Elt Ideal)) :
    (StableHlo.after hostOps0_4 F (Proc.devRef .tc main_v15) : FVec Ideal S6144x1024 .bf16) =
    concatenate S6144x1024 0 [
      ⟨S384x1024, (F (Proc.devRef .tc main_v2) : FVec Ideal S384x1024 .bf16)⟩,
      ⟨S256x1024, (F (Proc.devRef .tc main_v3) : FVec Ideal S256x1024 .bf16)⟩,
      ⟨S128x1024, (F (Proc.devRef .tc main_v11) : FVec Ideal S128x1024 .bf16)⟩,
      ⟨S128x1024, (F (Proc.devRef .tc main_v13) : FVec Ideal S128x1024 .bf16)⟩,
      ⟨S512x1024, (F (Proc.devRef .tc main_v5) : FVec Ideal S512x1024 .bf16)⟩,
      ⟨S512x1024, (F (Proc.devRef .tc main_v6) : FVec Ideal S512x1024 .bf16)⟩,
      ⟨S512x1024, (F (Proc.devRef .tc main_v7) : FVec Ideal S512x1024 .bf16)⟩,
      ⟨S512x1024, (F (Proc.devRef .tc main_v8) : FVec Ideal S512x1024 .bf16)⟩,
      ⟨S3072x1024, (F (Proc.devRef .tc main_v9) : FVec Ideal S3072x1024 .bf16)⟩,
      ⟨S128x1024, (broadcastInDim S128x1024 ![] bcast_S_S128x1024 (constant S_ .bf16 0x0000#16 : FVec Ideal S_ .bf16) : FVec Ideal S128x1024 .bf16)⟩]
      concatenates_S384x1024_S256x1024_S128x1024_S128x1024_S512x1024_S512x1024_S512x1024_S512x1024_S3072x1024_S128x1024_S6144x1024_d0 := by
  after_results
  rfl

/-- The packed weights. -/
theorem w_at5 (w : FVec Ideal S1024x5792 .f32) (h : m (c.tc.loc main_arg1) = w) :
    (W5 m ρ c (Proc.devRef .tc main_v15) : FVec Ideal S6144x1024 .bf16) = packRows w := by
  refine (pack_read _).trans ?_
  after_results
  simp only [StableHlo.TRef.toBuf, StableHlo.TRef.ofBuf, cast_cast, cast_eq]
  rw [show W0 m ρ c (Proc.devRef .tc main_arg1) = w from h]
  funext i
  rw [eq_ix2 i]
  refine (laid_weights _ _ _ _ _ _ _ _ _ _ _ (i 1) (i 0) (packed fun j => w (ix2 (i 1) j)) ?_ ?_ ?_ ?_ ?_ ?_ ?_ ?_ ?_ ?_).trans rfl
  · intro e
    have he := e.isLt
    refine Eq.trans ?_ (packed_lo _ _ (by dsimp only; omega)).symm
    pointwise
    all_goals exact congrArg (fun e => w (ix2 (i 1) e)) (Fin.ext (by first | rfl | (dsimp only; omega)))
  · intro e
    have he := e.isLt
    refine Eq.trans ?_ (packed_lo _ _ (by dsimp only; omega)).symm
    pointwise
    all_goals exact congrArg (fun e => w (ix2 (i 1) e)) (Fin.ext (by first | rfl | (dsimp only; omega)))
  · intro e
    have he := e.isLt
    by_cases hs : (e : ℕ) < 16
    · refine Eq.trans ?_ (packed_lo _ _ (by dsimp only; omega)).symm
      pointwise
      refine (dif_pos hs).trans ?_
      exact congrArg (fun e => w (ix2 (i 1) e)) (Fin.ext (by first | rfl | (dsimp only; omega)))
    · refine Eq.trans ?_ (packed_gap1 _ _ (by dsimp only; omega) (by dsimp only; omega)).symm
      pointwise
      refine (dif_neg hs).trans ?_
      exact sitofp_zero
  · intro e
    have he := e.isLt
    by_cases hs : (e : ℕ) < 16
    · refine Eq.trans ?_ (packed_mid _ _ (by dsimp only; omega) (by dsimp only; omega)).symm
      pointwise
      refine (dif_pos hs).trans ?_
      exact congrArg (fun e => w (ix2 (i 1) e)) (Fin.ext (by first | rfl | (dsimp only; omega)))
    · refine Eq.trans ?_ (packed_gap2 _ _ (by dsimp only; omega) (by dsimp only; omega)).symm
      pointwise
      refine (dif_neg hs).trans ?_
      exact sitofp_zero
  · intro e
    have he := e.isLt
    refine Eq.trans ?_ (packed_hi _ _ (by dsimp only; omega) (by dsimp only; omega)).symm
    pointwise
    all_goals exact congrArg (fun e => w (ix2 (i 1) e)) (Fin.ext (by first | rfl | (dsimp only; omega)))
  · intro e
    have he := e.isLt
    refine Eq.trans ?_ (packed_hi _ _ (by dsimp only; omega) (by dsimp only; omega)).symm
    pointwise
    all_goals exact congrArg (fun e => w (ix2 (i 1) e)) (Fin.ext (by first | rfl | (dsimp only; omega)))
  · intro e
    have he := e.isLt
    refine Eq.trans ?_ (packed_hi _ _ (by dsimp only; omega) (by dsimp only; omega)).symm
    pointwise
    all_goals exact congrArg (fun e => w (ix2 (i 1) e)) (Fin.ext (by first | rfl | (dsimp only; omega)))
  · intro e
    have he := e.isLt
    refine Eq.trans ?_ (packed_hi _ _ (by dsimp only; omega) (by dsimp only; omega)).symm
    pointwise
    all_goals exact congrArg (fun e => w (ix2 (i 1) e)) (Fin.ext (by first | rfl | (dsimp only; omega)))
  · intro e
    have he := e.isLt
    refine Eq.trans ?_ (packed_hi _ _ (by dsimp only; omega) (by dsimp only; omega)).symm
    pointwise
    all_goals exact congrArg (fun e => w (ix2 (i 1) e)) (Fin.ext (by first | rfl | (dsimp only; omega)))
  · intro e
    have he := e.isLt
    refine Eq.trans ?_ (packed_end _ _ (by dsimp only; omega)).symm
    pointwise

/-- The twelve pieces of a cotangent, one after the other. -/
def cut (d : FVec Ideal S2176x5792 .f32) : FVec Ideal S2176x6144 .bf16 :=
  concatenate S2176x6144 1 [
    ⟨S2176x384, truncf .bf16 (extractStridedSlice S2176x384 ![0, 0] d slices_S2176x5792_S2176x384_0_0 : FVec Ideal S2176x384 .f32) bitsLt_bf16_f32⟩,
    ⟨S2176x256, truncf .bf16 (extractStridedSlice S2176x256 ![0, 384] d slices_S2176x5792_S2176x256_0_384 : FVec Ideal S2176x256 .f32) bitsLt_bf16_f32⟩,
    ⟨S2176x128, truncf .bf16 (concatenate S2176x128 1 [⟨S2176x16, extractStridedSlice S2176x16 ![0, 0] (extractStridedSlice S2176x32 ![0, 640] d slices_S2176x5792_S2176x32_0_640) slices_S2176x32_S2176x16_0_0⟩, ⟨S2176x112, (broadcastInDim S2176x112 ![] bcast_S_S2176x112 (constant S_ .f32 0x00000000#32 : FVec Ideal S_ .f32) : FVec Ideal S2176x112 .f32)⟩] concatenates_S2176x16_S2176x112_S2176x128_d1 : FVec Ideal S2176x128 .f32) bitsLt_bf16_f32⟩,
    ⟨S2176x128, truncf .bf16 (concatenate S2176x128 1 [⟨S2176x16, extractStridedSlice S2176x16 ![0, 16] (extractStridedSlice S2176x32 ![0, 640] d slices_S2176x5792_S2176x32_0_640) slices_S2176x32_S2176x16_0_16⟩, ⟨S2176x112, (broadcastInDim S2176x112 ![] bcast_S_S2176x112 (constant S_ .f32 0x00000000#32 : FVec Ideal S_ .f32) : FVec Ideal S2176x112 .f32)⟩] concatenates_S2176x16_S2176x112_S2176x128_d1 : FVec Ideal S2176x128 .f32) bitsLt_bf16_f32⟩,
    ⟨S2176x512, truncf .bf16 (extractStridedSlice S2176x512 ![0, 672] d slices_S2176x5792_S2176x512_0_672 : FVec Ideal S2176x512 .f32) bitsLt_bf16_f32⟩,
    ⟨S2176x512, truncf .bf16 (extractStridedSlice S2176x512 ![0, 1184] d slices_S2176x5792_S2176x512_0_1184 : FVec Ideal S2176x512 .f32) bitsLt_bf16_f32⟩,
    ⟨S2176x512, truncf .bf16 (extractStridedSlice S2176x512 ![0, 1696] d slices_S2176x5792_S2176x512_0_1696 : FVec Ideal S2176x512 .f32) bitsLt_bf16_f32⟩,
    ⟨S2176x512, truncf .bf16 (extractStridedSlice S2176x512 ![0, 2208] d slices_S2176x5792_S2176x512_0_2208 : FVec Ideal S2176x512 .f32) bitsLt_bf16_f32⟩,
    ⟨S2176x1024, truncf .bf16 (extractStridedSlice S2176x1024 ![0, 2720] d slices_S2176x5792_S2176x1024_0_2720 : FVec Ideal S2176x1024 .f32) bitsLt_bf16_f32⟩,
    ⟨S2176x1024, truncf .bf16 (extractStridedSlice S2176x1024 ![0, 3744] d slices_S2176x5792_S2176x1024_0_3744 : FVec Ideal S2176x1024 .f32) bitsLt_bf16_f32⟩,
    ⟨S2176x1024, truncf .bf16 (extractStridedSlice S2176x1024 ![0, 4768] d slices_S2176x5792_S2176x1024_0_4768 : FVec Ideal S2176x1024 .f32) bitsLt_bf16_f32⟩,
    ⟨S2176x128, truncf .bf16 (broadcastInDim S2176x128 ![] bcast_S_S2176x128 (constant S_ .f32 0x00000000#32 : FVec Ideal S_ .f32) : FVec Ideal S2176x128 .f32) bitsLt_bf16_f32⟩]
    concatenates_S2176x384_S2176x256_S2176x128_S2176x128_S2176x512_S2176x512_S2176x512_S2176x512_S2176x1024_S2176x1024_S2176x1024_S2176x128_S2176x6144_d1

/-- They are the cotangent's columns, packed. -/
theorem cut_eq (d : FVec Ideal S2176x5792 .f32) : cut d = packCols d := by
  funext i
  rw [eq_ix2 i]
  refine (laid_cotangent _ _ _ _ _ _ _ _ _ _ _ _ _ (i 0) (i 1) (packed fun j => d (ix2 (i 0) j)) ?_ ?_ ?_ ?_ ?_ ?_ ?_ ?_ ?_ ?_ ?_ ?_).trans rfl
  · intro e
    have he := e.isLt
    refine Eq.trans ?_ (packed_lo _ _ (by dsimp only; omega)).symm
    pointwise
    all_goals exact congrArg (fun e => d (ix2 (i 0) e)) (Fin.ext (by first | rfl | (dsimp only; omega)))
  · intro e
    have he := e.isLt
    refine Eq.trans ?_ (packed_lo _ _ (by dsimp only; omega)).symm
    pointwise
    all_goals exact congrArg (fun e => d (ix2 (i 0) e)) (Fin.ext (by first | rfl | (dsimp only; omega)))
  · intro e
    have he := e.isLt
    by_cases hs : (e : ℕ) < 16
    · refine Eq.trans ?_ (packed_lo _ _ (by dsimp only; omega)).symm
      pointwise
      refine (dif_pos hs).trans ?_
      exact congrArg (fun e => d (ix2 (i 0) e)) (Fin.ext (by first | rfl | (dsimp only; omega)))
    · refine Eq.trans ?_ (packed_gap1 _ _ (by dsimp only; omega) (by dsimp only; omega)).symm
      pointwise
      refine (dif_neg hs).trans ?_
      rfl
  · intro e
    have he := e.isLt
    by_cases hs : (e : ℕ) < 16
    · refine Eq.trans ?_ (packed_mid _ _ (by dsimp only; omega) (by dsimp only; omega)).symm
      pointwise
      refine (dif_pos hs).trans ?_
      exact congrArg (fun e => d (ix2 (i 0) e)) (Fin.ext (by first | rfl | (dsimp only; omega)))
    · refine Eq.trans ?_ (packed_gap2 _ _ (by dsimp only; omega) (by dsimp only; omega)).symm
      pointwise
      refine (dif_neg hs).trans ?_
      rfl
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_end _ _ (by dsimp only; omega)).symm
    pointwise

theorem cut_read (F : Valuation τ sig (Elt Ideal)) :
    (StableHlo.after hostOps2 F (Proc.devRef .tc main_v47) : FVec Ideal S2176x6144 .bf16) =
    cut (F (Proc.devRef .tc main_arg2) : FVec Ideal S2176x5792 .f32) := by
  after_results
  rfl

/-- The columns of a packed result, taken out. -/
def joinCols (g : FVec Ideal S2176x6144 .f32) : FVec Ideal S2176x5792 .f32 :=
  concatenate S2176x5792 1 [
    ⟨S2176x384, extractStridedSlice S2176x384 ![0, 0] g slices_S2176x6144_S2176x384_0_0⟩,
      ⟨S2176x256, extractStridedSlice S2176x256 ![0, 384] g slices_S2176x6144_S2176x256_0_384⟩,
      ⟨S2176x16, extractStridedSlice S2176x16 ![0, 640] g slices_S2176x6144_S2176x16_0_640⟩,
      ⟨S2176x16, extractStridedSlice S2176x16 ![0, 768] g slices_S2176x6144_S2176x16_0_768⟩,
      ⟨S2176x2048, extractStridedSlice S2176x2048 ![0, 896] g slices_S2176x6144_S2176x2048_0_896⟩,
      ⟨S2176x3072, extractStridedSlice S2176x3072 ![0, 2944] g slices_S2176x6144_S2176x3072_0_2944⟩]
    concatenates_S2176x384_S2176x256_S2176x16_S2176x16_S2176x2048_S2176x3072_S2176x5792_d1

theorem joinCols_eq (g : FVec Ideal S2176x6144 .f32) : joinCols g = fun i => g (ix2 (i 0) (place (i 1))) := by
  funext i
  rw [eq_ix2 i]
  refine (laid_result _ _ _ _ _ _ _ (i 0) (i 1) (fun j => g (ix2 (i 0) (place j))) ?_ ?_ ?_ ?_ ?_ ?_).trans rfl
  · intro e
    have he := e.isLt
    pointwise
    exact congrArg (fun e => g (ix2 (i 0) e)) (Fin.ext (Eq.trans (by first | rfl | (dsimp only; omega)) (place_lo _ (by dsimp only; omega)).symm))
  · intro e
    have he := e.isLt
    pointwise
    exact congrArg (fun e => g (ix2 (i 0) e)) (Fin.ext (Eq.trans (by first | rfl | (dsimp only; omega)) (place_lo _ (by dsimp only; omega)).symm))
  · intro e
    have he := e.isLt
    pointwise
    exact congrArg (fun e => g (ix2 (i 0) e)) (Fin.ext (Eq.trans (by first | rfl | (dsimp only; omega)) (place_lo _ (by dsimp only; omega)).symm))
  · intro e
    have he := e.isLt
    pointwise
    exact congrArg (fun e => g (ix2 (i 0) e)) (Fin.ext (Eq.trans (by first | rfl | (dsimp only; omega)) (place_mid _ (by dsimp only; omega) (by dsimp only; omega)).symm))
  · intro e
    have he := e.isLt
    pointwise
    exact congrArg (fun e => g (ix2 (i 0) e)) (Fin.ext (Eq.trans (by first | rfl | (dsimp only; omega)) (place_hi _ (by dsimp only; omega)).symm))
  · intro e
    have he := e.isLt
    pointwise
    exact congrArg (fun e => g (ix2 (i 0) e)) (Fin.ext (Eq.trans (by first | rfl | (dsimp only; omega)) (place_hi _ (by dsimp only; omega)).symm))

theorem out_read (F : Valuation τ sig (Elt Ideal)) :
    (StableHlo.after hostOps3 F (Proc.devRef .tc main_v55) : FVec Ideal S2176x5792 .f32) =
    joinCols (F (Proc.devRef .tc main_v17) : FVec Ideal S2176x6144 .f32) := by
  after_results
  rfl

/-- The rows of a packed gradient, taken out. -/
def rowsOf (g : FVec Ideal S6144x1024 .bf16) : FVec Ideal S5792x1024 .bf16 :=
  concatenate S5792x1024 0 [
    ⟨S384x1024, extractStridedSlice S384x1024 ![0, 0] g slices_S6144x1024_S384x1024_0_0⟩,
      ⟨S256x1024, extractStridedSlice S256x1024 ![384, 0] g slices_S6144x1024_S256x1024_384_0⟩,
      ⟨S16x1024, extractStridedSlice S16x1024 ![640, 0] g slices_S6144x1024_S16x1024_640_0⟩,
      ⟨S16x1024, extractStridedSlice S16x1024 ![768, 0] g slices_S6144x1024_S16x1024_768_0⟩,
      ⟨S2048x1024, extractStridedSlice S2048x1024 ![896, 0] g slices_S6144x1024_S2048x1024_896_0⟩,
      ⟨S3072x1024, extractStridedSlice S3072x1024 ![2944, 0] g slices_S6144x1024_S3072x1024_2944_0⟩]
    concatenates_S384x1024_S256x1024_S16x1024_S16x1024_S2048x1024_S3072x1024_S5792x1024_d0

/-- The rows of a packed gradient, taken out and turned. -/
def joinRows (g : FVec Ideal S6144x1024 .bf16) : FVec Ideal S1024x5792 .f32 :=
  extf .f32 (transpose S1024x5792 [1, 0] (rowsOf g) transposes_S5792x1024_S1024x5792_1_0 : FVec Ideal S1024x5792 .bf16) bitsLt_bf16_f32

theorem joinRows_eq (g : FVec Ideal S6144x1024 .bf16) : joinRows g = fun i => g (ix2 (place (i 1)) (i 0)) := by
  funext i
  rw [eq_ix2 i]
  have hj : joinRows g (ix2 (i 0) (i 1)) = rowsOf g (ix2 (i 1) (i 0)) := by pointwise [joinRows]
  refine hj.trans ?_
  refine (laid_gradient _ _ _ _ _ _ _ (i 0) (i 1) (fun j => g (ix2 (place j) (i 0))) ?_ ?_ ?_ ?_ ?_ ?_).trans rfl
  · intro e
    have he := e.isLt
    pointwise
    exact congrArg (fun e => g (ix2 e (i 0))) (Fin.ext (Eq.trans (by first | rfl | (dsimp only; omega)) (place_lo _ (by dsimp only; omega)).symm))
  · intro e
    have he := e.isLt
    pointwise
    exact congrArg (fun e => g (ix2 e (i 0))) (Fin.ext (Eq.trans (by first | rfl | (dsimp only; omega)) (place_lo _ (by dsimp only; omega)).symm))
  · intro e
    have he := e.isLt
    pointwise
    exact congrArg (fun e => g (ix2 e (i 0))) (Fin.ext (Eq.trans (by first | rfl | (dsimp only; omega)) (place_lo _ (by dsimp only; omega)).symm))
  · intro e
    have he := e.isLt
    pointwise
    exact congrArg (fun e => g (ix2 e (i 0))) (Fin.ext (Eq.trans (by first | rfl | (dsimp only; omega)) (place_mid _ (by dsimp only; omega) (by dsimp only; omega)).symm))
  · intro e
    have he := e.isLt
    pointwise
    exact congrArg (fun e => g (ix2 e (i 0))) (Fin.ext (Eq.trans (by first | rfl | (dsimp only; omega)) (place_hi _ (by dsimp only; omega)).symm))
  · intro e
    have he := e.isLt
    pointwise
    exact congrArg (fun e => g (ix2 e (i 0))) (Fin.ext (Eq.trans (by first | rfl | (dsimp only; omega)) (place_hi _ (by dsimp only; omega)).symm))

theorem grad_read (F : Valuation τ sig (Elt Ideal)) :
    (StableHlo.after hostOps3 F (Proc.devRef .tc main_v64) : FVec Ideal S1024x5792 .f32) =
    joinRows (F (Proc.devRef .tc main_v48) : FVec Ideal S6144x1024 .bf16) := by
  after_results
  rfl

end Cert.Kernel3Ideal.Proj
-- ==== Proof.Proj.Value.lean ====
/- What the program leaves in its two results: the projection, and the weights' gradient. -/
module

public import proofs.«01_k».proof.Proof.Proj.Array0
public import proofs.«01_k».proof.Proof.Proj.Array1
public import proofs.«01_k».proof.Proof.Proj.Array2
public import proofs.«01_k».proof.Proof.Proj.Host

@[expose] public section
set_option maxRecDepth 16384
noncomputable section

namespace Cert.Kernel3Ideal.Proj
open Cert.Kernel3Ideal Cert.Kernel3Ideal.Gen Idealize.ShloMosaic Idealize.ShloMosaic.TcCoe Idealize.SL.Sem Cert.Ffn Cert.Proj

/-- A column of the product with the packed weights is a column of the product. -/
theorem nt_place (x : (⟨2, ![2176, 1024]⟩ : Shape).Idx → EReal) (w : (⟨2, ![1024, 5792]⟩ : Shape).Idx → EReal) :
    (fun i : (⟨2, ![2176, 5792]⟩ : Shape).Idx => nt x (packRows w) (ix2 (i 0) (place (i 1)))) = nn x w := funext fun i =>
  Finset.sum_congr rfl fun e _ => congrArg (x (ix2 (i 0) e) * ·) (packed_place (fun j => w (ix2 e j)) (i 1))

/-- A row of the packed gradient is a column of the gradient. -/
theorem tn_place (d : (⟨2, ![2176, 5792]⟩ : Shape).Idx → EReal) (x : (⟨2, ![2176, 1024]⟩ : Shape).Idx → EReal) :
    (fun i : (⟨2, ![1024, 5792]⟩ : Shape).Idx => tn (packCols d) x (ix2 (place (i 1)) (i 0))) = tn x d := funext fun i =>
  Finset.sum_congr rfl fun e _ => (congrArg (· * x (ix2 e (i 0))) (packed_place (fun j => d (ix2 e j)) (i 1))).trans (mul_comm _ _)

variable (m : (ℓ : Loc nD τ sig) → Buf (Elt Ideal) ℓ) (ρ : Dev nD → PrngReg) (c : Dev nD)

/-- What launch 0 leaves as it was, of the arrays read later. -/
theorem keep0 : ∀ r ∈ [main_arg2, main_v15], W6 m ρ c (Proc.devRef .tc r) = W5 m ρ c (Proc.devRef .tc r) := fun r hr =>
  W6_of m ρ c r (ListAll.forall_mem_of_all_decide (p := fun r => ∀ w : Fin cfg0.W, Pipeline.arrRef spec0 w = r → (cfg0.win w).isOut = false) (by decide +kernel) r hr)
/-- What launch 1 leaves as it was, of the arrays read later. -/
theorem keep1 : ∀ r ∈ [main_arg2, main_v16], W7 m ρ c (Proc.devRef .tc r) = W6 m ρ c (Proc.devRef .tc r) := fun r hr =>
  W7_of m ρ c r (ListAll.forall_mem_of_all_decide (p := fun r => ∀ w : Fin cfg1.W, Pipeline.arrRef spec1 w = r → (cfg1.win w).isOut = false) (by decide +kernel) r hr)
/-- What launch 2 leaves as it was, of the arrays read later. -/
theorem keep2 : ∀ r ∈ [main_v17], W9 m ρ c (Proc.devRef .tc r) = W8 m ρ c (Proc.devRef .tc r) := fun r hr =>
  W9_of m ρ c r (ListAll.forall_mem_of_all_decide (p := fun r => ∀ w : Fin cfg2.W, Pipeline.arrRef spec2 w = r → (cfg2.win w).isOut = false) (by decide +kernel) r hr)

variable (x : FVec Ideal S2176x1024 .f32) (w : FVec Ideal S1024x5792 .f32) (d : FVec Ideal S2176x5792 .f32)

/-- The arguments. -/
structure Args : Prop where
  x : m (c.tc.loc main_arg0) = x
  w : m (c.tc.loc main_arg1) = w
  d : m (c.tc.loc main_arg2) = d

variable (A : Args m c x w d)
include A

theorem x_at5 : (W5 m ρ c (Proc.devRef .tc main_arg0) : FVec Ideal S2176x1024 .f32) = x :=
  (W5_args m ρ c main_arg0 (by decide)).trans A.x
theorem x_at6 : (W6 m ρ c (Proc.devRef .tc main_v16) : FVec Ideal S2176x1024 .bf16) = x :=
  (W6_arr m ρ c 1).trans ((array0_1 (V5 m ρ) c).trans (x_at5 m ρ c x w d A))
theorem w_at6 : (W6 m ρ c (Proc.devRef .tc main_v15) : FVec Ideal S6144x1024 .bf16) = packRows w :=
  (keep0 m ρ c main_v15 (by simp)).trans (w_at5 m ρ c w A.w)
theorem out_at7 : (W7 m ρ c (Proc.devRef .tc main_v17) : FVec Ideal S2176x6144 .f32) = nt x (packRows w) :=
  (W7_arr m ρ c 2).trans ((array1 (V6 m ρ) c).trans (nt_congr (x_at6 m ρ c x w d A) (w_at6 m ρ c x w d A)))
theorem x_at7 : (W7 m ρ c (Proc.devRef .tc main_v16) : FVec Ideal S2176x1024 .bf16) = x :=
  (keep1 m ρ c main_v16 (by simp)).trans (x_at6 m ρ c x w d A)
theorem d_at7 : (W7 m ρ c (Proc.devRef .tc main_arg2) : FVec Ideal S2176x5792 .f32) = d :=
  (W7_args m ρ c main_arg2 (by decide)).trans A.d
theorem d_at8 : (W8 m ρ c (Proc.devRef .tc main_v47) : FVec Ideal S2176x6144 .bf16) = packCols d :=
  (cut_read _).trans ((congrArg cut (d_at7 m ρ c x w d A)).trans (cut_eq d))
theorem x_at8 : (W8 m ρ c (Proc.devRef .tc main_v16) : FVec Ideal S2176x1024 .bf16) = x :=
  (W8_of m ρ c main_v16 (by decide +kernel)).trans (x_at7 m ρ c x w d A)
theorem out_at9 : (W9 m ρ c (Proc.devRef .tc main_v17) : FVec Ideal S2176x6144 .f32) = nt x (packRows w) :=
  (keep2 m ρ c main_v17 (by simp)).trans ((W8_of m ρ c main_v17 (by decide +kernel)).trans (out_at7 m ρ c x w d A))
theorem grad_at9 : (W9 m ρ c (Proc.devRef .tc main_v48) : FVec Ideal S6144x1024 .bf16) = tn (packCols d) x :=
  (W9_arr m ρ c 2).trans ((array2 (V8 m ρ) c).trans (tn_congr (d_at8 m ρ c x w d A) (x_at8 m ρ c x w d A)))

/-- The projection, -/
theorem out0 : (W10 m ρ c (Proc.devRef .tc main_v55) : FVec Ideal S2176x5792 .f32) = nn x w :=
  (out_read _).trans ((congrArg joinCols (out_at9 m ρ c x w d A)).trans ((joinCols_eq _).trans (nt_place x w)))
/-- and the weights' gradient. -/
theorem out1 : (W10 m ρ c (Proc.devRef .tc main_v64) : FVec Ideal S1024x5792 .f32) = tn x d :=
  (grad_read _).trans ((congrArg joinRows (grad_at9 m ρ c x w d A)).trans ((joinRows_eq _).trans (tn_place d x)))

end Cert.Kernel3Ideal.Proj
-- ==== Proof.Proj.RowsHost.lean ====
/- The host's packing of the weights and of the cotangent, in the program of the rows' gradient. -/
module

public import proofs.«01_k».proof.Proof.Proj.Lay
public import proofs.«01_k».proof.Proof.Gen.Kernel4Ideal.Frame

@[expose] public section
set_option maxRecDepth 16384
noncomputable section

namespace Cert.Kernel4Ideal.Proj
open Cert.Kernel4Ideal Cert.Kernel4Ideal.Gen Idealize.ShloMosaic Idealize.ShloMosaic.TcCoe Idealize.SL.Sem Cert.Ffn Cert.Proj

variable (m : (ℓ : Loc nD τ sig) → Buf (Elt Ideal) ℓ) (c : Dev nD)

/-- What the lines before the packing leave, for the launch reads of the packing's own. -/
abbrev before : Valuation τ sig (Elt Ideal) :=
  StableHlo.after hostOps0_3 (StableHlo.after hostOps0_2 (StableHlo.after hostOps0_1 (StableHlo.after hostOps0 fun b => m (c, b))))

theorem V_eq (b : Ref sig .tc) : V m c b = StableHlo.after hostOps0_4 (before m c) (Proc.devRef .tc b) := by
  unfold V before
  simp only [List.flatten_cons, List.flatten_nil, List.append_nil, StableHlo.after_append]

/-- The padding is zero. -/
theorem sitofp_zero : (FloatOps.sitofp (F := Ideal) FTy.bf16 0#32 : EReal) = 0 := by
  show (((0#32 : BitVec 32).toInt : ℝ) : EReal) = 0
  simp

/-- The packed weights are ten pieces laid one after the other. -/
theorem pack_read (F : Valuation τ sig (Elt Ideal)) :
    (StableHlo.after hostOps0_4 F (Proc.devRef .tc main_v15) : FVec Ideal S6144x1024 .bf16) =
    concatenate S6144x1024 0 [
      ⟨S384x1024, (F (Proc.devRef .tc main_v2) : FVec Ideal S384x1024 .bf16)⟩,
      ⟨S256x1024, (F (Proc.devRef .tc main_v3) : FVec Ideal S256x1024 .bf16)⟩,
      ⟨S128x1024, (F (Proc.devRef .tc main_v11) : FVec Ideal S128x1024 .bf16)⟩,
      ⟨S128x1024, (F (Proc.devRef .tc main_v13) : FVec Ideal S128x1024 .bf16)⟩,
      ⟨S512x1024, (F (Proc.devRef .tc main_v5) : FVec Ideal S512x1024 .bf16)⟩,
      ⟨S512x1024, (F (Proc.devRef .tc main_v6) : FVec Ideal S512x1024 .bf16)⟩,
      ⟨S512x1024, (F (Proc.devRef .tc main_v7) : FVec Ideal S512x1024 .bf16)⟩,
      ⟨S512x1024, (F (Proc.devRef .tc main_v8) : FVec Ideal S512x1024 .bf16)⟩,
      ⟨S3072x1024, (F (Proc.devRef .tc main_v9) : FVec Ideal S3072x1024 .bf16)⟩,
      ⟨S128x1024, (broadcastInDim S128x1024 ![] bcast_S_S128x1024 (constant S_ .bf16 0x0000#16 : FVec Ideal S_ .bf16) : FVec Ideal S128x1024 .bf16)⟩]
      concatenates_S384x1024_S256x1024_S128x1024_S128x1024_S512x1024_S512x1024_S512x1024_S512x1024_S3072x1024_S128x1024_S6144x1024_d0 := by
  after_results
  rfl

/-- The packed weights. -/
theorem w_at (w : FVec Ideal S1024x5792 .f32) (h : m (c.tc.loc main_arg0) = w) :
    (V m c main_v15 : FVec Ideal S6144x1024 .bf16) = packRows w := by
  refine (V_eq m c main_v15).trans ((pack_read _).trans ?_)
  unfold before
  after_results
  simp only [StableHlo.TRef.toBuf, StableHlo.TRef.ofBuf, cast_cast, cast_eq]
  rw [show m (c, Proc.devRef .tc main_arg0) = w from h]
  funext i
  rw [eq_ix2 i]
  refine (laid_weights _ _ _ _ _ _ _ _ _ _ _ (i 1) (i 0) (packed fun j => w (ix2 (i 1) j)) ?_ ?_ ?_ ?_ ?_ ?_ ?_ ?_ ?_ ?_).trans rfl
  · intro e
    have he := e.isLt
    refine Eq.trans ?_ (packed_lo _ _ (by dsimp only; omega)).symm
    pointwise
    all_goals exact congrArg (fun e => w (ix2 (i 1) e)) (Fin.ext (by first | rfl | (dsimp only; omega)))
  · intro e
    have he := e.isLt
    refine Eq.trans ?_ (packed_lo _ _ (by dsimp only; omega)).symm
    pointwise
    all_goals exact congrArg (fun e => w (ix2 (i 1) e)) (Fin.ext (by first | rfl | (dsimp only; omega)))
  · intro e
    have he := e.isLt
    by_cases hs : (e : ℕ) < 16
    · refine Eq.trans ?_ (packed_lo _ _ (by dsimp only; omega)).symm
      pointwise
      refine (dif_pos hs).trans ?_
      exact congrArg (fun e => w (ix2 (i 1) e)) (Fin.ext (by first | rfl | (dsimp only; omega)))
    · refine Eq.trans ?_ (packed_gap1 _ _ (by dsimp only; omega) (by dsimp only; omega)).symm
      pointwise
      refine (dif_neg hs).trans ?_
      exact sitofp_zero
  · intro e
    have he := e.isLt
    by_cases hs : (e : ℕ) < 16
    · refine Eq.trans ?_ (packed_mid _ _ (by dsimp only; omega) (by dsimp only; omega)).symm
      pointwise
      refine (dif_pos hs).trans ?_
      exact congrArg (fun e => w (ix2 (i 1) e)) (Fin.ext (by first | rfl | (dsimp only; omega)))
    · refine Eq.trans ?_ (packed_gap2 _ _ (by dsimp only; omega) (by dsimp only; omega)).symm
      pointwise
      refine (dif_neg hs).trans ?_
      exact sitofp_zero
  · intro e
    have he := e.isLt
    refine Eq.trans ?_ (packed_hi _ _ (by dsimp only; omega) (by dsimp only; omega)).symm
    pointwise
    all_goals exact congrArg (fun e => w (ix2 (i 1) e)) (Fin.ext (by first | rfl | (dsimp only; omega)))
  · intro e
    have he := e.isLt
    refine Eq.trans ?_ (packed_hi _ _ (by dsimp only; omega) (by dsimp only; omega)).symm
    pointwise
    all_goals exact congrArg (fun e => w (ix2 (i 1) e)) (Fin.ext (by first | rfl | (dsimp only; omega)))
  · intro e
    have he := e.isLt
    refine Eq.trans ?_ (packed_hi _ _ (by dsimp only; omega) (by dsimp only; omega)).symm
    pointwise
    all_goals exact congrArg (fun e => w (ix2 (i 1) e)) (Fin.ext (by first | rfl | (dsimp only; omega)))
  · intro e
    have he := e.isLt
    refine Eq.trans ?_ (packed_hi _ _ (by dsimp only; omega) (by dsimp only; omega)).symm
    pointwise
    all_goals exact congrArg (fun e => w (ix2 (i 1) e)) (Fin.ext (by first | rfl | (dsimp only; omega)))
  · intro e
    have he := e.isLt
    refine Eq.trans ?_ (packed_hi _ _ (by dsimp only; omega) (by dsimp only; omega)).symm
    pointwise
    all_goals exact congrArg (fun e => w (ix2 (i 1) e)) (Fin.ext (by first | rfl | (dsimp only; omega)))
  · intro e
    have he := e.isLt
    refine Eq.trans ?_ (packed_end _ _ (by dsimp only; omega)).symm
    pointwise

/-- The twelve pieces of a cotangent, one after the other. -/
def cut (d : FVec Ideal S2176x5792 .f32) : FVec Ideal S2176x6144 .bf16 :=
  concatenate S2176x6144 1 [
    ⟨S2176x384, truncf .bf16 (extractStridedSlice S2176x384 ![0, 0] d slices_S2176x5792_S2176x384_0_0 : FVec Ideal S2176x384 .f32) bitsLt_bf16_f32⟩,
    ⟨S2176x256, truncf .bf16 (extractStridedSlice S2176x256 ![0, 384] d slices_S2176x5792_S2176x256_0_384 : FVec Ideal S2176x256 .f32) bitsLt_bf16_f32⟩,
    ⟨S2176x128, truncf .bf16 (concatenate S2176x128 1 [⟨S2176x16, extractStridedSlice S2176x16 ![0, 0] (extractStridedSlice S2176x32 ![0, 640] d slices_S2176x5792_S2176x32_0_640) slices_S2176x32_S2176x16_0_0⟩, ⟨S2176x112, (broadcastInDim S2176x112 ![] bcast_S_S2176x112 (constant S_ .f32 0x00000000#32 : FVec Ideal S_ .f32) : FVec Ideal S2176x112 .f32)⟩] concatenates_S2176x16_S2176x112_S2176x128_d1 : FVec Ideal S2176x128 .f32) bitsLt_bf16_f32⟩,
    ⟨S2176x128, truncf .bf16 (concatenate S2176x128 1 [⟨S2176x16, extractStridedSlice S2176x16 ![0, 16] (extractStridedSlice S2176x32 ![0, 640] d slices_S2176x5792_S2176x32_0_640) slices_S2176x32_S2176x16_0_16⟩, ⟨S2176x112, (broadcastInDim S2176x112 ![] bcast_S_S2176x112 (constant S_ .f32 0x00000000#32 : FVec Ideal S_ .f32) : FVec Ideal S2176x112 .f32)⟩] concatenates_S2176x16_S2176x112_S2176x128_d1 : FVec Ideal S2176x128 .f32) bitsLt_bf16_f32⟩,
    ⟨S2176x512, truncf .bf16 (extractStridedSlice S2176x512 ![0, 672] d slices_S2176x5792_S2176x512_0_672 : FVec Ideal S2176x512 .f32) bitsLt_bf16_f32⟩,
    ⟨S2176x512, truncf .bf16 (extractStridedSlice S2176x512 ![0, 1184] d slices_S2176x5792_S2176x512_0_1184 : FVec Ideal S2176x512 .f32) bitsLt_bf16_f32⟩,
    ⟨S2176x512, truncf .bf16 (extractStridedSlice S2176x512 ![0, 1696] d slices_S2176x5792_S2176x512_0_1696 : FVec Ideal S2176x512 .f32) bitsLt_bf16_f32⟩,
    ⟨S2176x512, truncf .bf16 (extractStridedSlice S2176x512 ![0, 2208] d slices_S2176x5792_S2176x512_0_2208 : FVec Ideal S2176x512 .f32) bitsLt_bf16_f32⟩,
    ⟨S2176x1024, truncf .bf16 (extractStridedSlice S2176x1024 ![0, 2720] d slices_S2176x5792_S2176x1024_0_2720 : FVec Ideal S2176x1024 .f32) bitsLt_bf16_f32⟩,
    ⟨S2176x1024, truncf .bf16 (extractStridedSlice S2176x1024 ![0, 3744] d slices_S2176x5792_S2176x1024_0_3744 : FVec Ideal S2176x1024 .f32) bitsLt_bf16_f32⟩,
    ⟨S2176x1024, truncf .bf16 (extractStridedSlice S2176x1024 ![0, 4768] d slices_S2176x5792_S2176x1024_0_4768 : FVec Ideal S2176x1024 .f32) bitsLt_bf16_f32⟩,
    ⟨S2176x128, truncf .bf16 (broadcastInDim S2176x128 ![] bcast_S_S2176x128 (constant S_ .f32 0x00000000#32 : FVec Ideal S_ .f32) : FVec Ideal S2176x128 .f32) bitsLt_bf16_f32⟩]
    concatenates_S2176x384_S2176x256_S2176x128_S2176x128_S2176x512_S2176x512_S2176x512_S2176x512_S2176x1024_S2176x1024_S2176x1024_S2176x128_S2176x6144_d1

/-- They are the cotangent's columns, packed. -/
theorem cut_eq (d : FVec Ideal S2176x5792 .f32) : cut d = packCols d := by
  funext i
  rw [eq_ix2 i]
  refine (laid_cotangent _ _ _ _ _ _ _ _ _ _ _ _ _ (i 0) (i 1) (packed fun j => d (ix2 (i 0) j)) ?_ ?_ ?_ ?_ ?_ ?_ ?_ ?_ ?_ ?_ ?_ ?_).trans rfl
  · intro e
    have he := e.isLt
    refine Eq.trans ?_ (packed_lo _ _ (by dsimp only; omega)).symm
    pointwise
    all_goals exact congrArg (fun e => d (ix2 (i 0) e)) (Fin.ext (by first | rfl | (dsimp only; omega)))
  · intro e
    have he := e.isLt
    refine Eq.trans ?_ (packed_lo _ _ (by dsimp only; omega)).symm
    pointwise
    all_goals exact congrArg (fun e => d (ix2 (i 0) e)) (Fin.ext (by first | rfl | (dsimp only; omega)))
  · intro e
    have he := e.isLt
    by_cases hs : (e : ℕ) < 16
    · refine Eq.trans ?_ (packed_lo _ _ (by dsimp only; omega)).symm
      pointwise
      refine (dif_pos hs).trans ?_
      exact congrArg (fun e => d (ix2 (i 0) e)) (Fin.ext (by first | rfl | (dsimp only; omega)))
    · refine Eq.trans ?_ (packed_gap1 _ _ (by dsimp only; omega) (by dsimp only; omega)).symm
      pointwise
      refine (dif_neg hs).trans ?_
      rfl
  · intro e
    have he := e.isLt
    by_cases hs : (e : ℕ) < 16
    · refine Eq.trans ?_ (packed_mid _ _ (by dsimp only; omega) (by dsimp only; omega)).symm
      pointwise
      refine (dif_pos hs).trans ?_
      exact congrArg (fun e => d (ix2 (i 0) e)) (Fin.ext (by first | rfl | (dsimp only; omega)))
    · refine Eq.trans ?_ (packed_gap2 _ _ (by dsimp only; omega) (by dsimp only; omega)).symm
      pointwise
      refine (dif_neg hs).trans ?_
      rfl
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_hi _ _ (by dsimp only; omega) (by dsimp only; omega)).symm
    pointwise
    all_goals exact congrArg (fun e => d (ix2 (i 0) e)) (Fin.ext (by first | rfl | (dsimp only; omega)))
  · intro e
    have he := e.isLt
    refine Eq.trans ?_ (packed_end _ _ (by dsimp only; omega)).symm
    pointwise

theorem cut_read (F : Valuation τ sig (Elt Ideal)) :
    (StableHlo.after hostOps0_4 F (Proc.devRef .tc main_v45) : FVec Ideal S2176x6144 .bf16) =
    cut (F (Proc.devRef .tc main_arg1) : FVec Ideal S2176x5792 .f32) := by
  after_results
  rfl

/-- The packed cotangent. -/
theorem d_at (d : FVec Ideal S2176x5792 .f32) (h : m (c.tc.loc main_arg1) = d) :
    (V m c main_v45 : FVec Ideal S2176x6144 .bf16) = packCols d := by
  refine (V_eq m c main_v45).trans ((cut_read _).trans ((congrArg cut ?_).trans (cut_eq d)))
  unfold before
  after_results
  exact h

end Cert.Kernel4Ideal.Proj
-- ==== Proof.Proj.RowsValue.lean ====
/- What the program of the rows' gradient leaves in its result: six blocks of the product, added up. -/
module

public import proofs.«01_k».proof.Proof.Proj.RowsHost
public import proofs.«01_k».proof.Proof.Gen.Kernel4Ideal.Value

@[expose] public section
set_option maxRecDepth 16384
noncomputable section

namespace Cert.Kernel4Ideal.Proj
open Cert.Kernel4Ideal Cert.Kernel4Ideal.Gen Idealize.ShloMosaic Idealize.ShloMosaic.TcCoe Idealize.SL.Sem Cert.Ffn Cert.Proj

variable (m : (ℓ : Loc nD τ sig) → Buf (Elt Ideal) ℓ) (c : Dev nD)

/-- The blocks of grid point `t`. -/
theorem at0 : ∀ t : Fin cfg0.N, win0_0.index t = ![0, t.val % 6] ∧ win0_1.index t = ![t.val % 6, t.val / 6] ∧ win0_2.index t = ![0, t.val / 6] :=
  (by decide +kernel : ∀ t : Fin grid0.N, _)

/-- The `k`-th sixth of a product of packed columns. -/
def part (a : (⟨2, ![2176, 6144]⟩ : Shape).Idx → EReal) (b : (⟨2, ![6144, 1024]⟩ : Shape).Idx → EReal) (k : Fin 6) (i : (⟨2, ![2176, 1024]⟩ : Shape).Idx) : EReal :=
  ∑ e : Fin 1024, a (ix2 (i 0) ⟨k * 1024 + e, by omega⟩) * b (ix2 ⟨k * 1024 + e, by omega⟩ (i 1))

/-- The sixths make up the product. -/
theorem sum_part (a : (⟨2, ![2176, 6144]⟩ : Shape).Idx → EReal) (b : (⟨2, ![6144, 1024]⟩ : Shape).Idx → EReal) (i : (⟨2, ![2176, 1024]⟩ : Shape).Idx) :
    ∑ k : Fin 6, part a b k i = nn a b i :=
  Fin.sum_mul_add_congr (L := 6144) (f := fun l => a (ix2 (i 0) l) * b (ix2 l (i 1))) fun k e hl => rfl

/-- What grid point `t` adds to its block. -/
def term (t : Fin cfg0.N) (b : S2176x512.Idx) : EReal := k0_pay1 (F := Ideal) (iblk m c 0 t) (iblk m c 1 t) b

/-- The block behind the last of its six points is the sum of what they add. -/
theorem block (t : Fin cfg0.N) (hr : t.val % 6 = 6 - 1) (b : S2176x512.Idx) :
    outsAt0 m c t.val t.isLt b = 0 + ∑ s : Fin 6, term m c ⟨6 * (t.val / 6) + s.val, Pipeline.run_point_lt_of_flush t hr s⟩ b := by
  refine Pipeline.eq_sum_fin_of_reset_step_apply_of_flush (fun n h => outsAt0 m c n h) 6 (fun _ => (0 : EReal)) (term m c) (fun t h i => ?_) (fun t h i => ?_) t hr b
  · rw [outsAt0_A m c t h (by omega)]
    frame_out
    exact (zero_add _).symm
  · rw [outsAt0_B m c t h (by omega)]
    frame_out
    unfold term
    generalize outsAt0 m c (t.val - 1) _ = X
    rw [eq_ix2 i]
    pointwise [k0_pay2]

/-- One element of what a point adds. -/
theorem term_at (t : Fin cfg0.N) (b : S2176x512.Idx) (i : S2176x1024.Idx) (h0 : (i 0 : ℕ) = b 0) (h1 : (i 1 : ℕ) = t.val / 6 * 512 + b 1) (k : Fin 6) (hk : (k : ℕ) = t.val % 6) :
    term m c t b = part (V m c main_v45 : FVec Ideal S2176x6144 .bf16) (V m c main_v15 : FVec Ideal S6144x1024 .bf16) k i := by
  unfold term
  rw [show b = ix2 (b 0) (b 1) from eq_ix2 b]
  pointwise [k0_pay1]
  unfold part
  refine Finset.sum_congr rfl fun e _ => congr (congrArg HMul.hMul ?_) ?_ <;> blk_point [iblk, at0 t]

/-- The result whole. -/
theorem array : (dats m 0 c).arrAt 2 cfg0.N = nn (V m c main_v45 : FVec Ideal S2176x6144 .bf16) (V m c main_v15 : FVec Ideal S6144x1024 .bf16) := by
  refine (dats m 0 c).arrAt_eq_of_covers 2 _ (by decide +kernel) (fun t hf y => ?_)
  have hr : t.val % 6 = 6 - 1 := (flush0_2 t).mp hf
  blk_simp
  rw [after0_2]
  refine (block m c t hr y).trans ((zero_add _).trans (Eq.trans ?_ (sum_part _ _ _)))
  refine Finset.sum_congr rfl fun s _ => ?_
  refine term_at m c _ y _ ?_ ?_ s (by dsimp only; omega)
  · blk_simp [at0 t]
  · have hq : (6 * (t.val / 6) + s.val) / 6 = t.val / 6 := by omega
    dsimp only
    rw [hq]
    blk_simp [at0 t]

/-- The rows' gradient. -/
theorem out (w : FVec Ideal S1024x5792 .f32) (d : FVec Ideal S2176x5792 .f32) (hw : m (c.tc.loc main_arg0) = w) (hd : m (c.tc.loc main_arg1) = d) :
    ((dats m 0 c).arrAt 2 cfg0.N : FVec Ideal S2176x1024 .f32) = nt d w :=
  (array m c).trans ((nn_congr (d_at m c d hd) (w_at m c w hw)).trans (nn_packed d w))

end Cert.Kernel4Ideal.Proj
-- ==== Proof.Proj.RefValue.lean ====
/- The references' results, as products: the projection, the weights' gradient and the rows' gradient. -/
module

public import proofs.«01_k».proof.Proof.Gen.Reference3Ideal.Run
public import proofs.«01_k».proof.Proof.Gen.Reference4Ideal.Run
public import proofs.«01_k».proof.Proof.Ffn.Products

@[expose] public section
set_option maxRecDepth 16384
noncomputable section

namespace Cert.Reference3Ideal.Proj
open Cert.Reference3Ideal Cert.Reference3Ideal.Gen Idealize.ShloMosaic Idealize.ShloMosaic.TcCoe Idealize.SL.Sem Cert.Ffn

/-- The projection. -/
theorem out_eq (x : FVec Ideal S2176x1024 .f32) (w : FVec Ideal S1024x5792 .f32) :
    (Host.dotGeneral dot_S2176x1024_S1024x5792_S2176x5792_1_0_0_1_n_n none x w : FVec Ideal S2176x5792 .f32) = nn x w := by
  funext i
  rw [eq_ix2 i]
  pointwise
  rfl
/-- The weights' gradient. -/
theorem grad_eq (x : FVec Ideal S2176x1024 .f32) (d : FVec Ideal S2176x5792 .f32) :
    (transpose S1024x5792 [1, 0] (Host.dotGeneral dot_S2176x5792_S2176x1024_S5792x1024_0_0_1_1_n_n none d x : FVec Ideal S5792x1024 .f32) transposes_S5792x1024_S1024x5792_1_0 : FVec Ideal S1024x5792 .f32) = tn x d := by
  refine Eq.trans ?_ (tr_tn (m := 5792) (n := 1024) d x)
  funext i
  rw [eq_ix2 i]
  pointwise
  rfl
end Cert.Reference3Ideal.Proj

namespace Cert.Reference4Ideal.Proj
open Cert.Reference4Ideal Cert.Reference4Ideal.Gen Idealize.ShloMosaic Idealize.ShloMosaic.TcCoe Idealize.SL.Sem Cert.Ffn

/-- The rows' gradient. -/
theorem grad_eq (d : FVec Ideal S2176x5792 .f32) (w : FVec Ideal S1024x5792 .f32) :
    (Host.dotGeneral dot_S2176x5792_S1024x5792_S2176x1024_1_1_0_0_n_n none d w : FVec Ideal S2176x1024 .f32) = nt d w := by
  funext i
  rw [eq_ix2 i]
  pointwise
  rfl
end Cert.Reference4Ideal.Proj
-- ==== Proof.Proj.Claims.lean ====
/- The claims of the input projection: the frames of its programs, and the equality of its output, its weights' gradient
   and its rows' gradient. -/
module

public import proofs.«01_k».proof.Defs
public import proofs.«01_k».proof.Proof.Proj.Run
public import proofs.«01_k».proof.Proof.Proj.Value
public import proofs.«01_k».proof.Proof.Proj.RowsValue
public import proofs.«01_k».proof.Proof.Proj.RefValue
public import proofs.«01_k».proof.Proof.Gen.Kernel3.Frame
public import proofs.«01_k».proof.Proof.Gen.Kernel4.Frame

@[expose] public section
set_option maxRecDepth 16384
noncomputable section

namespace Cert.Proof
open Idealize.ShloMosaic Idealize.ShloMosaic.TcCoe Idealize.SL.Sem Cert.Att

theorem frame_kernel3 : Cert.quiescent_Kernel3 := fun m g _ => Cert.Kernel3.Gen.frame m g
theorem frame_ideal3 : Cert.quiescent_Kernel3Ideal := fun m g _ => Cert.Kernel3Ideal.Gen.frame m g
theorem frame_reference3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

theorem preserves3 : Cert.preserves_Kernel3_Kernel3Ideal := trivial

open Cert.Kernel3Ideal Cert.Kernel3Ideal.Gen in
theorem algebraic3 : Cert.algebraic_Kernel3Ideal_Reference3Ideal := by
  intro m g m' g' _ hargs
  have hA := fun c => (⟨rfl, rfl, rfl⟩ : Cert.Kernel3Ideal.Proj.Args m c _ _ _)
  refine ⟨fun c => W10 m g c (Proc.devRef .tc main_v55),
    fun c => W10 m g c (Proc.devRef .tc main_v64), ?_, ?_⟩
  · exact (θ_run Cert.Kernel3Ideal.defs _ _).mono (fun r h c =>
      ⟨h.1 c _ (mem_uc main_v55 (by decide)),
       h.1 c _ (mem_uc main_v64 (by decide)),
       (h.1 c _ (mem_uc main_arg0 (by decide))).trans (W10_main_arg0 m g c),
       (h.1 c _ (mem_uc main_arg1 (by decide))).trans (W10_main_arg1 m g c),
       (h.1 c _ (mem_uc main_arg2 (by decide))).trans (W10_main_arg2 m g c)⟩)
      (Cert.Kernel3Ideal.Proj.run_all (F := Ideal) m g)
  · refine (θ_run Cert.Reference3Ideal.defs _ _).mono (fun r h c => ?_) (Cert.Reference3Ideal.Value.run (F := Ideal) m' g')
    obtain ⟨a0, a1, a2⟩ := hargs c
    obtain ⟨r0, r1, kept⟩ := h c
    rw [a0, a1] at r0
    rw [a0, a2] at r1
    exact ⟨(r0.trans (Cert.Reference3Ideal.Proj.out_eq _ _)).trans (Cert.Kernel3Ideal.Proj.out0 m g c _ _ _ (hA c)).symm,
      (r1.trans (Cert.Reference3Ideal.Proj.grad_eq _ _)).trans (Cert.Kernel3Ideal.Proj.out1 m g c _ _ _ (hA c)).symm, kept⟩

theorem frame_kernel4 : Cert.quiescent_Kernel4 := fun m g _ => Cert.Kernel4.Gen.frame m g
theorem frame_ideal4 : Cert.quiescent_Kernel4Ideal := fun m g _ => Cert.Kernel4Ideal.Gen.frame m g
theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem preserves4 : Cert.preserves_Kernel4_Kernel4Ideal := trivial

theorem algebraic4 : Cert.algebraic_Kernel4Ideal_Reference4Ideal := by
  intro m g m' g' _ hargs
  refine ⟨fun c => (Cert.Kernel4Ideal.Gen.dats m 0 c).arrAt 2 Cert.Kernel4Ideal.cfg0.N, Cert.Kernel4Ideal.Value.run_blocks (F := Ideal) m g, ?_⟩
  refine (θ_run Cert.Reference4Ideal.defs _ _).mono (fun r h c => ?_) (Cert.Reference4Ideal.Value.run (F := Ideal) m' g')
  obtain ⟨a0, a1⟩ := hargs c
  obtain ⟨r0, kept⟩ := h c
  rw [a0, a1] at r0
  exact ⟨(r0.trans (Cert.Reference4Ideal.Proj.grad_eq _ _)).trans (Cert.Kernel4Ideal.Proj.out m c _ _ rfl rfl).symm, kept⟩

end Cert.Proof
-- ==== Proof.Mix.Run.lean ====
/- The run of the merge of the branches, with what every array holds at its end. -/
module

public import proofs.«01_k».proof.Proof.Gen.Kernel5Ideal.Frame

@[expose] public section
set_option maxRecDepth 16384
noncomputable section

namespace Cert.Kernel5Ideal.Mix
open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends, with every array that outlives the launches at its last contents and every counter at zero. -/
theorem run_all : θ_run defs (onTc (τ := τ) (main (F := F))) ⟨m, fun _ => 0, ρ⟩ (fun r => (∀ c : Dev nD, ∀ b ∈ Pipeline.ucRefs τ sig, r.2.mem (((c : Thread nD τ)).1, b) = W12 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

end Cert.Kernel5Ideal.Mix
-- ==== Proof.Mix.Formulas.lean ====
/- The merge of three gated branches, the products around it, and their gradients. -/
module

public import proofs.«01_k».proof.Proof.Ffn.Products

@[expose] public section
noncomputable section

namespace Cert.Mix
open Idealize.ShloMosaic Cert.Ffn

/-- The sum of three branches, each through its gate's logistic function. -/
def mergeF {s : Shape} (ga gb gc ya yb yc : s.Idx → EReal) : s.Idx → EReal := fun i =>
  Ideal.logistic (ga i) * ya i + Ideal.logistic (gb i) * yb i + Ideal.logistic (gc i) * yc i
/-- A branch's gradient, from the gradient `d` of the sum, -/
def branchF {s : Shape} (g d : s.Idx → EReal) : s.Idx → EReal := fun i => Ideal.logistic (g i) * d i
/-- and its gate's. -/
def gateF {s : Shape} (g y d : s.Idx → EReal) : s.Idx → EReal := fun i => d i * y i * (Ideal.logistic (g i) * (1 - Ideal.logistic (g i)))

section
variable {s : Shape}
theorem mergeF_congr {a a' b b' c c' x x' y y' z z' : s.Idx → EReal} (ha : a = a') (hb : b = b') (hc : c = c') (hx : x = x') (hy : y = y') (hz : z = z') :
    mergeF a b c x y z = mergeF a' b' c' x' y' z' := by rw [ha, hb, hc, hx, hy, hz]
theorem branchF_congr {g g' d d' : s.Idx → EReal} (hg : g = g') (hd : d = d') : branchF g d = branchF g' d' := by rw [hg, hd]
theorem gateF_congr {g g' y y' d d' : s.Idx → EReal} (hg : g = g') (hy : y = y') (hd : d = d') : gateF g y d = gateF g' y' d' := by rw [hg, hy, hd]
end

/-! The layer: `xa`, `xb`, `xc` the branches, `ga`, `gb`, `gc` their gates, `wa`, `wb`, `wc` their weights, `wo` the output's
    weights, `d` the output's gradient. -/
section
abbrev Rows := (⟨2, ![2176, 1024]⟩ : Shape).Idx → EReal
abbrev Half := (⟨2, ![2176, 512]⟩ : Shape).Idx → EReal
abbrev Wide := (⟨2, ![512, 1024]⟩ : Shape).Idx → EReal
abbrev Tall := (⟨2, ![1024, 512]⟩ : Shape).Idx → EReal
abbrev Square := (⟨2, ![1024, 1024]⟩ : Shape).Idx → EReal

/-- The merged branches. -/
def mixed (xa xb xc : Half) (ga gb gc : Rows) (wa wb wc : Wide) : Rows := mergeF ga gb gc (nn xa wa) (nn xb wb) (nn xc wc)
/-- The output. -/
def outv (xa xb xc : Half) (ga gb gc : Rows) (wa wb wc : Wide) (wo : Square) : Rows := nn (mixed xa xb xc ga gb gc wa wb wc) wo
/-- A branch's input gradient, -/
def dbranch (g : Rows) (w : Wide) (wo : Square) (d : Rows) : Half := nt (branchF g (nt d wo)) w
/-- and its gate's. -/
def dgate (x : Half) (g : Rows) (w : Wide) (wo : Square) (d : Rows) : Rows := gateF g (nn x w) (nt d wo)
end

end Cert.Mix
-- ==== Proof.Mix.Array0.lean ====
/- What the launch of the first branch leaves in its result, as a function of the arrays it reads. -/
module

public import proofs.«01_k».proof.Proof.Mix.Formulas
public import proofs.«01_k».proof.Proof.Gen.Kernel5Ideal.Frame
public import Idealize.ShloMosaic.Lib.Pipeline.ValueKit

@[expose] public section
set_option maxRecDepth 16384
noncomputable section

namespace Cert.Kernel5Ideal.Mix
open Cert.Kernel5Ideal Cert.Kernel5Ideal.Gen Idealize.ShloMosaic Idealize.ShloMosaic.TcCoe Idealize.SL.Sem Cert.Ffn Cert.Mix

/-- The blocks of grid point `t`. -/
theorem at0 : ∀ t : Fin cfg0.N, win0_0.index t = ![t.val / 2, 0] ∧ win0_1.index t = ![t.val % 2, 0] ∧ win0_2.index t = ![t.val / 2, t.val % 2] :=
  (by decide +kernel : ∀ t : Fin grid0.N, _)

section
variable (V : (c : Dev nD) → (b : Ref sig .tc) → Buf (Elt Ideal) ((c : Thread nD τ).loc b)) (c : Dev nD)

/-- One element of a grid point's block. -/
theorem out0_at (t : Fin cfg0.N) (b : S1088x512.Idx) (i : S2176x1024.Idx) (h0 : (i 0 : ℕ) = t.val / 2 * 1088 + b 0) (h1 : (i 1 : ℕ) = t.val % 2 * 512 + b 1) :
    k0_pay1 (F := Ideal) (iblk0 V c 0 t) (iblk0 V c 1 t) b = nt (V c main_arg0 : FVec Ideal S2176x512 .f32) (V c main_v2 : FVec Ideal S1024x512 .bf16) i := by
  rw [show b = ix2 (b 0) (b 1) from eq_ix2 b]
  pointwise [k0_pay1]
  unfold nt
  refine Finset.sum_congr rfl fun e _ => congr (congrArg HMul.hMul ?_) ?_ <;> blk_point [iblk0, at0 t]

/-- The result whole. -/
theorem array0 : (dat0 V c).arrAt 2 cfg0.N = nt (V c main_arg0 : FVec Ideal S2176x512 .f32) (V c main_v2 : FVec Ideal S1024x512 .bf16) := by
  refine (dat0 V c).arrAt_eq_of_covers 2 _ (by decide +kernel) (fun t hf y => ?_)
  blk_simp
  rw [after0_2]
  frame_out
  refine out0_at V c t _ _ ?_ ?_ <;> blk_simp [at0 t]
end
end Cert.Kernel5Ideal.Mix
-- ==== Proof.Mix.Array1.lean ====
/- What the launch of the second branch leaves in its result, as a function of the arrays it reads. -/
module

public import proofs.«01_k».proof.Proof.Mix.Formulas
public import proofs.«01_k».proof.Proof.Gen.Kernel5Ideal.Frame
public import Idealize.ShloMosaic.Lib.Pipeline.ValueKit

@[expose] public section
set_option maxRecDepth 16384
noncomputable section

namespace Cert.Kernel5Ideal.Mix
open Cert.Kernel5Ideal Cert.Kernel5Ideal.Gen Idealize.ShloMosaic Idealize.ShloMosaic.TcCoe Idealize.SL.Sem Cert.Ffn Cert.Mix

/-- The blocks of grid point `t`. -/
theorem at1 : ∀ t : Fin cfg1.N, win1_0.index t = ![t.val / 2, 0] ∧ win1_1.index t = ![t.val % 2, 0] ∧ win1_2.index t = ![t.val / 2, t.val % 2] :=
  (by decide +kernel : ∀ t : Fin grid1.N, _)

section
variable (V : (c : Dev nD) → (b : Ref sig .tc) → Buf (Elt Ideal) ((c : Thread nD τ).loc b)) (c : Dev nD)

/-- One element of a grid point's block. -/
theorem out1_at (t : Fin cfg1.N) (b : S1088x512.Idx) (i : S2176x1024.Idx) (h0 : (i 0 : ℕ) = t.val / 2 * 1088 + b 0) (h1 : (i 1 : ℕ) = t.val % 2 * 512 + b 1) :
    k1_pay1 (F := Ideal) (iblk1 V c 0 t) (iblk1 V c 1 t) b = nt (V c main_arg1 : FVec Ideal S2176x512 .f32) (V c main_v4 : FVec Ideal S1024x512 .bf16) i := by
  rw [show b = ix2 (b 0) (b 1) from eq_ix2 b]
  pointwise [k1_pay1]
  unfold nt
  refine Finset.sum_congr rfl fun e _ => congr (congrArg HMul.hMul ?_) ?_ <;> blk_point [iblk1, at1 t]

/-- The result whole. -/
theorem array1 : (dat1 V c).arrAt 2 cfg1.N = nt (V c main_arg1 : FVec Ideal S2176x512 .f32) (V c main_v4 : FVec Ideal S1024x512 .bf16) := by
  refine (dat1 V c).arrAt_eq_of_covers 2 _ (by decide +kernel) (fun t hf y => ?_)
  blk_simp
  rw [after1_2]
  frame_out
  refine out1_at V c t _ _ ?_ ?_ <;> blk_simp [at1 t]
end
end Cert.Kernel5Ideal.Mix
-- ==== Proof.Mix.Array2.lean ====
/- What the launch of the third branch leaves in its result, as a function of the arrays it reads. -/
module

public import proofs.«01_k».proof.Proof.Mix.Formulas
public import proofs.«01_k».proof.Proof.Gen.Kernel5Ideal.Frame
public import Idealize.ShloMosaic.Lib.Pipeline.ValueKit

@[expose] public section
set_option maxRecDepth 16384
noncomputable section

namespace Cert.Kernel5Ideal.Mix
open Cert.Kernel5Ideal Cert.Kernel5Ideal.Gen Idealize.ShloMosaic Idealize.ShloMosaic.TcCoe Idealize.SL.Sem Cert.Ffn Cert.Mix

/-- The blocks of grid point `t`. -/
theorem at2 : ∀ t : Fin cfg2.N, win2_0.index t = ![0, 0] ∧ win2_1.index t = ![t.val, 0] ∧ win2_2.index t = ![0, t.val] :=
  (by decide +kernel : ∀ t : Fin grid2.N, _)

section
variable (V : (c : Dev nD) → (b : Ref sig .tc) → Buf (Elt Ideal) ((c : Thread nD τ).loc b)) (c : Dev nD)

/-- One element of a grid point's block. -/
theorem out2_at (t : Fin cfg2.N) (b : S2176x512.Idx) (i : S2176x1024.Idx) (h0 : (i 0 : ℕ) = b 0) (h1 : (i 1 : ℕ) = t.val * 512 + b 1) :
    k2_pay1 (F := Ideal) (iblk2 V c 0 t) (iblk2 V c 1 t) b = nt (V c main_v0 : FVec Ideal S2176x512 .bf16) (V c main_v6 : FVec Ideal S1024x512 .bf16) i := by
  rw [show b = ix2 (b 0) (b 1) from eq_ix2 b]
  pointwise [k2_pay1]
  unfold nt
  refine Finset.sum_congr rfl fun e _ => congr (congrArg HMul.hMul ?_) ?_ <;> blk_point [iblk2, at2 t]

/-- The result whole. -/
theorem array2 : (dat2 V c).arrAt 2 cfg2.N = nt (V c main_v0 : FVec Ideal S2176x512 .bf16) (V c main_v6 : FVec Ideal S1024x512 .bf16) := by
  refine (dat2 V c).arrAt_eq_of_covers 2 _ (by decide +kernel) (fun t hf y => ?_)
  blk_simp
  rw [after2_2]
  frame_out
  refine out2_at V c t _ _ ?_ ?_ <;> blk_simp [at2 t]
end
end Cert.Kernel5Ideal.Mix
-- ==== Proof.Mix.Array3.lean ====
/- What the launch of the merge leaves in its results, as a function of the arrays it reads. -/
module

public import proofs.«01_k».proof.Proof.Mix.Formulas
public import proofs.«01_k».proof.Proof.Gen.Kernel5Ideal.Frame
public import Idealize.ShloMosaic.Lib.Pipeline.ValueKit

@[expose] public section
set_option maxRecDepth 16384
noncomputable section

namespace Cert.Kernel5Ideal.Mix
open Cert.Kernel5Ideal Cert.Kernel5Ideal.Gen Idealize.ShloMosaic Idealize.ShloMosaic.TcCoe Idealize.SL.Sem Cert.Ffn Cert.Mix

/-- The blocks of grid point `t`. -/
theorem at3 : ∀ t : Fin cfg3.N, win3_0.index t = ![t.val, 0] ∧ win3_1.index t = ![t.val, 0] ∧ win3_2.index t = ![t.val, 0] ∧ win3_3.index t = ![t.val, 0] ∧ win3_4.index t = ![t.val, 0] ∧ win3_5.index t = ![t.val, 0] ∧ win3_6.index t = ![t.val, 0] :=
  (by decide +kernel : ∀ t : Fin grid3.N, _)

section
variable (V : (c : Dev nD) → (b : Ref sig .tc) → Buf (Elt Ideal) ((c : Thread nD τ).loc b)) (c : Dev nD)

/-- One element of a grid point's block. -/
theorem out3_6_at (t : Fin cfg3.N) (b : S128x1024.Idx) (i : S2176x1024.Idx) (h0 : (i 0 : ℕ) = t.val * 128 + b 0) (h1 : (i 1 : ℕ) = b 1) :
    k3_pay1 (F := Ideal) (iblk3 V c 0 t) (iblk3 V c 1 t) (iblk3 V c 2 t) (iblk3 V c 3 t) (iblk3 V c 4 t) (iblk3 V c 5 t) b = (mergeF (V c main_arg3 : FVec Ideal S2176x1024 .f32) (V c main_arg4 : FVec Ideal S2176x1024 .f32) (V c main_arg5 : FVec Ideal S2176x1024 .f32) (V c main_v8 : FVec Ideal S2176x1024 .f32) (V c main_v9 : FVec Ideal S2176x1024 .f32) (V c main_v10 : FVec Ideal S2176x1024 .f32)) i := by
  have e0 : (iblk3 V c 0 t : FVec Ideal S128x1024 .f32) b = (V c main_arg3 : FVec Ideal S2176x1024 .f32) i := by
    refine (congrArg (iblk3 V c 0 t : FVec Ideal S128x1024 .f32) (eq_ix2 b)).trans ?_
    rw [idx_eq i ⟨t.val * 128 + b 0, h0 ▸ (i 0).isLt⟩ ⟨b 1, h1 ▸ (i 1).isLt⟩ h0 h1]
    blk_point [iblk3, at3 t]
  have e1 : (iblk3 V c 1 t : FVec Ideal S128x1024 .f32) b = (V c main_arg4 : FVec Ideal S2176x1024 .f32) i := by
    refine (congrArg (iblk3 V c 1 t : FVec Ideal S128x1024 .f32) (eq_ix2 b)).trans ?_
    rw [idx_eq i ⟨t.val * 128 + b 0, h0 ▸ (i 0).isLt⟩ ⟨b 1, h1 ▸ (i 1).isLt⟩ h0 h1]
    blk_point [iblk3, at3 t]
  have e2 : (iblk3 V c 2 t : FVec Ideal S128x1024 .f32) b = (V c main_arg5 : FVec Ideal S2176x1024 .f32) i := by
    refine (congrArg (iblk3 V c 2 t : FVec Ideal S128x1024 .f32) (eq_ix2 b)).trans ?_
    rw [idx_eq i ⟨t.val * 128 + b 0, h0 ▸ (i 0).isLt⟩ ⟨b 1, h1 ▸ (i 1).isLt⟩ h0 h1]
    blk_point [iblk3, at3 t]
  have e3 : (iblk3 V c 3 t : FVec Ideal S128x1024 .f32) b = (V c main_v8 : FVec Ideal S2176x1024 .f32) i := by
    refine (congrArg (iblk3 V c 3 t : FVec Ideal S128x1024 .f32) (eq_ix2 b)).trans ?_
    rw [idx_eq i ⟨t.val * 128 + b 0, h0 ▸ (i 0).isLt⟩ ⟨b 1, h1 ▸ (i 1).isLt⟩ h0 h1]
    blk_point [iblk3, at3 t]
  have e4 : (iblk3 V c 4 t : FVec Ideal S128x1024 .f32) b = (V c main_v9 : FVec Ideal S2176x1024 .f32) i := by
    refine (congrArg (iblk3 V c 4 t : FVec Ideal S128x1024 .f32) (eq_ix2 b)).trans ?_
    rw [idx_eq i ⟨t.val * 128 + b 0, h0 ▸ (i 0).isLt⟩ ⟨b 1, h1 ▸ (i 1).isLt⟩ h0 h1]
    blk_point [iblk3, at3 t]
  have e5 : (iblk3 V c 5 t : FVec Ideal S128x1024 .f32) b = (V c main_v10 : FVec Ideal S2176x1024 .f32) i := by
    refine (congrArg (iblk3 V c 5 t : FVec Ideal S128x1024 .f32) (eq_ix2 b)).trans ?_
    rw [idx_eq i ⟨t.val * 128 + b 0, h0 ▸ (i 0).isLt⟩ ⟨b 1, h1 ▸ (i 1).isLt⟩ h0 h1]
    blk_point [iblk3, at3 t]
  pointwise [k3_pay1]
  rw [e0, e1, e2, e3, e4, e5]
  rfl

/-- The result whole. -/
theorem array3_6 : (dat3 V c).arrAt 6 cfg3.N = mergeF (V c main_arg3 : FVec Ideal S2176x1024 .f32) (V c main_arg4 : FVec Ideal S2176x1024 .f32) (V c main_arg5 : FVec Ideal S2176x1024 .f32) (V c main_v8 : FVec Ideal S2176x1024 .f32) (V c main_v9 : FVec Ideal S2176x1024 .f32) (V c main_v10 : FVec Ideal S2176x1024 .f32) := by
  refine (dat3 V c).arrAt_eq_of_covers 6 _ (by decide +kernel) (fun t hf y => ?_)
  blk_simp
  rw [after3_6]
  frame_out
  refine out3_6_at V c t _ _ ?_ ?_ <;> blk_simp [at3 t]
end
end Cert.Kernel5Ideal.Mix
-- ==== Proof.Mix.Array4.lean ====
/- What the launch of the output product leaves in its result, as a function of the arrays it reads. -/
module

public import proofs.«01_k».proof.Proof.Mix.Formulas
public import proofs.«01_k».proof.Proof.Gen.Kernel5Ideal.Frame
public import Idealize.ShloMosaic.Lib.Pipeline.ValueKit

@[expose] public section
set_option maxRecDepth 16384
noncomputable section

namespace Cert.Kernel5Ideal.Mix
open Cert.Kernel5Ideal Cert.Kernel5Ideal.Gen Idealize.ShloMosaic Idealize.ShloMosaic.TcCoe Idealize.SL.Sem Cert.Ffn Cert.Mix

/-- The blocks of grid point `t`. -/
theorem at4 : ∀ t : Fin cfg4.N, win4_0.index t = ![0, 0] ∧ win4_1.index t = ![0, t.val] ∧ win4_2.index t = ![0, t.val] :=
  (by decide +kernel : ∀ t : Fin grid4.N, _)

section
variable (V : (c : Dev nD) → (b : Ref sig .tc) → Buf (Elt Ideal) ((c : Thread nD τ).loc b)) (c : Dev nD)

/-- One element of a grid point's block. -/
theorem out4_at (t : Fin cfg4.N) (b : S2176x512.Idx) (i : S2176x1024.Idx) (h0 : (i 0 : ℕ) = b 0) (h1 : (i 1 : ℕ) = t.val * 512 + b 1) :
    k4_pay1 (F := Ideal) (iblk4 V c 0 t) (iblk4 V c 1 t) b = nn (V c main_v11 : FVec Ideal S2176x1024 .bf16) (V c main_v7 : FVec Ideal S1024x1024 .bf16) i := by
  rw [show b = ix2 (b 0) (b 1) from eq_ix2 b]
  pointwise [k4_pay1]
  unfold nn
  refine Finset.sum_congr rfl fun e _ => congr (congrArg HMul.hMul ?_) ?_ <;> blk_point [iblk4, at4 t]

/-- The result whole. -/
theorem array4 : (dat4 V c).arrAt 2 cfg4.N = nn (V c main_v11 : FVec Ideal S2176x1024 .bf16) (V c main_v7 : FVec Ideal S1024x1024 .bf16) := by
  refine (dat4 V c).arrAt_eq_of_covers 2 _ (by decide +kernel) (fun t hf y => ?_)
  blk_simp
  rw [after4_2]
  frame_out
  refine out4_at V c t _ _ ?_ ?_ <;> blk_simp [at4 t]
end
end Cert.Kernel5Ideal.Mix
-- ==== Proof.Mix.Array5.lean ====
/- What the launch of the merge's gradient leaves in its result, as a function of the arrays it reads. -/
module

public import proofs.«01_k».proof.Proof.Mix.Formulas
public import proofs.«01_k».proof.Proof.Gen.Kernel5Ideal.Frame
public import Idealize.ShloMosaic.Lib.Pipeline.ValueKit

@[expose] public section
set_option maxRecDepth 16384
noncomputable section

namespace Cert.Kernel5Ideal.Mix
open Cert.Kernel5Ideal Cert.Kernel5Ideal.Gen Idealize.ShloMosaic Idealize.ShloMosaic.TcCoe Idealize.SL.Sem Cert.Ffn Cert.Mix

/-- The blocks of grid point `t`. -/
theorem at5 : ∀ t : Fin cfg5.N, win5_0.index t = ![t.val / 2, 0] ∧ win5_1.index t = ![t.val % 2, 0] ∧ win5_2.index t = ![t.val / 2, t.val % 2] :=
  (by decide +kernel : ∀ t : Fin grid5.N, _)

section
variable (V : (c : Dev nD) → (b : Ref sig .tc) → Buf (Elt Ideal) ((c : Thread nD τ).loc b)) (c : Dev nD)

/-- One element of a grid point's block. -/
theorem out5_at (t : Fin cfg5.N) (b : S1088x512.Idx) (i : S2176x1024.Idx) (h0 : (i 0 : ℕ) = t.val / 2 * 1088 + b 0) (h1 : (i 1 : ℕ) = t.val % 2 * 512 + b 1) :
    k5_pay1 (F := Ideal) (iblk5 V c 0 t) (iblk5 V c 1 t) b = nt (V c main_arg10 : FVec Ideal S2176x1024 .f32) (V c main_v7 : FVec Ideal S1024x1024 .bf16) i := by
  rw [show b = ix2 (b 0) (b 1) from eq_ix2 b]
  pointwise [k5_pay1]
  unfold nt
  refine Finset.sum_congr rfl fun e _ => congr (congrArg HMul.hMul ?_) ?_ <;> blk_point [iblk5, at5 t]

/-- The result whole. -/
theorem array5 : (dat5 V c).arrAt 2 cfg5.N = nt (V c main_arg10 : FVec Ideal S2176x1024 .f32) (V c main_v7 : FVec Ideal S1024x1024 .bf16) := by
  refine (dat5 V c).arrAt_eq_of_covers 2 _ (by decide +kernel) (fun t hf y => ?_)
  blk_simp
  rw [after5_2]
  frame_out
  refine out5_at V c t _ _ ?_ ?_ <;> blk_simp [at5 t]
end
end Cert.Kernel5Ideal.Mix
-- ==== Proof.Mix.Array6.lean ====
/- What the launch of the merge's backward leaves in its results, as a function of the arrays it reads. -/
module

public import proofs.«01_k».proof.Proof.Mix.Formulas
public import proofs.«01_k».proof.Proof.Gen.Kernel5Ideal.Frame
public import Idealize.ShloMosaic.Lib.Pipeline.ValueKit

@[expose] public section
set_option maxRecDepth 16384
noncomputable section

namespace Cert.Kernel5Ideal.Mix
open Cert.Kernel5Ideal Cert.Kernel5Ideal.Gen Idealize.ShloMosaic Idealize.ShloMosaic.TcCoe Idealize.SL.Sem Cert.Ffn Cert.Mix

/-- The blocks of grid point `t`. -/
theorem at6 : ∀ t : Fin cfg6.N, win6_0.index t = ![t.val, 0] ∧ win6_1.index t = ![t.val, 0] ∧ win6_2.index t = ![t.val, 0] ∧ win6_3.index t = ![t.val, 0] ∧ win6_4.index t = ![t.val, 0] ∧ win6_5.index t = ![t.val, 0] ∧ win6_6.index t = ![t.val, 0] ∧ win6_7.index t = ![t.val, 0] ∧ win6_8.index t = ![t.val, 0] ∧ win6_9.index t = ![t.val, 0] ∧ win6_10.index t = ![t.val, 0] ∧ win6_11.index t = ![t.val, 0] ∧ win6_12.index t = ![t.val, 0] :=
  (by decide +kernel : ∀ t : Fin grid6.N, _)

section
variable (V : (c : Dev nD) → (b : Ref sig .tc) → Buf (Elt Ideal) ((c : Thread nD τ).loc b)) (c : Dev nD)

/-- One element of a grid point's block. -/
theorem out6_7_at (t : Fin cfg6.N) (b : S64x1024.Idx) (i : S2176x1024.Idx) (h0 : (i 0 : ℕ) = t.val * 64 + b 0) (h1 : (i 1 : ℕ) = b 1) :
    k6_pay10 (F := Ideal) (iblk6 V c 0 t) (iblk6 V c 3 t) (iblk6 V c 6 t) b = (gateF (V c main_arg3 : FVec Ideal S2176x1024 .f32) (V c main_v8 : FVec Ideal S2176x1024 .f32) (V c main_v13 : FVec Ideal S2176x1024 .bf16)) i := by
  have e0 : (iblk6 V c 0 t : FVec Ideal S64x1024 .f32) b = (V c main_arg3 : FVec Ideal S2176x1024 .f32) i := by
    refine (congrArg (iblk6 V c 0 t : FVec Ideal S64x1024 .f32) (eq_ix2 b)).trans ?_
    rw [idx_eq i ⟨t.val * 64 + b 0, h0 ▸ (i 0).isLt⟩ ⟨b 1, h1 ▸ (i 1).isLt⟩ h0 h1]
    blk_point [iblk6, at6 t]
  have e3 : (iblk6 V c 3 t : FVec Ideal S64x1024 .f32) b = (V c main_v8 : FVec Ideal S2176x1024 .f32) i := by
    refine (congrArg (iblk6 V c 3 t : FVec Ideal S64x1024 .f32) (eq_ix2 b)).trans ?_
    rw [idx_eq i ⟨t.val * 64 + b 0, h0 ▸ (i 0).isLt⟩ ⟨b 1, h1 ▸ (i 1).isLt⟩ h0 h1]
    blk_point [iblk6, at6 t]
  have e6 : (iblk6 V c 6 t : FVec Ideal S64x1024 .bf16) b = (V c main_v13 : FVec Ideal S2176x1024 .bf16) i := by
    refine (congrArg (iblk6 V c 6 t : FVec Ideal S64x1024 .bf16) (eq_ix2 b)).trans ?_
    rw [idx_eq i ⟨t.val * 64 + b 0, h0 ▸ (i 0).isLt⟩ ⟨b 1, h1 ▸ (i 1).isLt⟩ h0 h1]
    blk_point [iblk6, at6 t]
  pointwise [k6_pay1, k6_pay2, k6_pay3, k6_pay4, k6_pay5, k6_pay6, k6_pay7, k6_pay8, k6_pay9, k6_pay10]
  rw [e0, e3, e6]
  rfl

/-- The result whole. -/
theorem array6_7 : (dat6 V c).arrAt 7 cfg6.N = gateF (V c main_arg3 : FVec Ideal S2176x1024 .f32) (V c main_v8 : FVec Ideal S2176x1024 .f32) (V c main_v13 : FVec Ideal S2176x1024 .bf16) := by
  refine (dat6 V c).arrAt_eq_of_covers 7 _ (by decide +kernel) (fun t hf y => ?_)
  blk_simp
  rw [after6_7]
  frame_out
  refine out6_7_at V c t _ _ ?_ ?_ <;> blk_simp [at6 t]

/-- One element of a grid point's block. -/
theorem out6_8_at (t : Fin cfg6.N) (b : S64x1024.Idx) (i : S2176x1024.Idx) (h0 : (i 0 : ℕ) = t.val * 64 + b 0) (h1 : (i 1 : ℕ) = b 1) :
    k6_pay8 (F := Ideal) (iblk6 V c 1 t) (iblk6 V c 4 t) (iblk6 V c 6 t) b = (gateF (V c main_arg4 : FVec Ideal S2176x1024 .f32) (V c main_v9 : FVec Ideal S2176x1024 .f32) (V c main_v13 : FVec Ideal S2176x1024 .bf16)) i := by
  have e1 : (iblk6 V c 1 t : FVec Ideal S64x1024 .f32) b = (V c main_arg4 : FVec Ideal S2176x1024 .f32) i := by
    refine (congrArg (iblk6 V c 1 t : FVec Ideal S64x1024 .f32) (eq_ix2 b)).trans ?_
    rw [idx_eq i ⟨t.val * 64 + b 0, h0 ▸ (i 0).isLt⟩ ⟨b 1, h1 ▸ (i 1).isLt⟩ h0 h1]
    blk_point [iblk6, at6 t]
  have e4 : (iblk6 V c 4 t : FVec Ideal S64x1024 .f32) b = (V c main_v9 : FVec Ideal S2176x1024 .f32) i := by
    refine (congrArg (iblk6 V c 4 t : FVec Ideal S64x1024 .f32) (eq_ix2 b)).trans ?_
    rw [idx_eq i ⟨t.val * 64 + b 0, h0 ▸ (i 0).isLt⟩ ⟨b 1, h1 ▸ (i 1).isLt⟩ h0 h1]
    blk_point [iblk6, at6 t]
  have e6 : (iblk6 V c 6 t : FVec Ideal S64x1024 .bf16) b = (V c main_v13 : FVec Ideal S2176x1024 .bf16) i := by
    refine (congrArg (iblk6 V c 6 t : FVec Ideal S64x1024 .bf16) (eq_ix2 b)).trans ?_
    rw [idx_eq i ⟨t.val * 64 + b 0, h0 ▸ (i 0).isLt⟩ ⟨b 1, h1 ▸ (i 1).isLt⟩ h0 h1]
    blk_point [iblk6, at6 t]
  pointwise [k6_pay1, k6_pay2, k6_pay3, k6_pay4, k6_pay5, k6_pay6, k6_pay7, k6_pay8, k6_pay9, k6_pay10]
  rw [e1, e4, e6]
  rfl

/-- The result whole. -/
theorem array6_8 : (dat6 V c).arrAt 8 cfg6.N = gateF (V c main_arg4 : FVec Ideal S2176x1024 .f32) (V c main_v9 : FVec Ideal S2176x1024 .f32) (V c main_v13 : FVec Ideal S2176x1024 .bf16) := by
  refine (dat6 V c).arrAt_eq_of_covers 8 _ (by decide +kernel) (fun t hf y => ?_)
  blk_simp
  rw [after6_8]
  frame_out
  refine out6_8_at V c t _ _ ?_ ?_ <;> blk_simp [at6 t]

/-- One element of a grid point's block. -/
theorem out6_9_at (t : Fin cfg6.N) (b : S64x1024.Idx) (i : S2176x1024.Idx) (h0 : (i 0 : ℕ) = t.val * 64 + b 0) (h1 : (i 1 : ℕ) = b 1) :
    k6_pay6 (F := Ideal) (iblk6 V c 2 t) (iblk6 V c 5 t) (iblk6 V c 6 t) b = (gateF (V c main_arg5 : FVec Ideal S2176x1024 .f32) (V c main_v10 : FVec Ideal S2176x1024 .f32) (V c main_v13 : FVec Ideal S2176x1024 .bf16)) i := by
  have e2 : (iblk6 V c 2 t : FVec Ideal S64x1024 .f32) b = (V c main_arg5 : FVec Ideal S2176x1024 .f32) i := by
    refine (congrArg (iblk6 V c 2 t : FVec Ideal S64x1024 .f32) (eq_ix2 b)).trans ?_
    rw [idx_eq i ⟨t.val * 64 + b 0, h0 ▸ (i 0).isLt⟩ ⟨b 1, h1 ▸ (i 1).isLt⟩ h0 h1]
    blk_point [iblk6, at6 t]
  have e5 : (iblk6 V c 5 t : FVec Ideal S64x1024 .f32) b = (V c main_v10 : FVec Ideal S2176x1024 .f32) i := by
    refine (congrArg (iblk6 V c 5 t : FVec Ideal S64x1024 .f32) (eq_ix2 b)).trans ?_
    rw [idx_eq i ⟨t.val * 64 + b 0, h0 ▸ (i 0).isLt⟩ ⟨b 1, h1 ▸ (i 1).isLt⟩ h0 h1]
    blk_point [iblk6, at6 t]
  have e6 : (iblk6 V c 6 t : FVec Ideal S64x1024 .bf16) b = (V c main_v13 : FVec Ideal S2176x1024 .bf16) i := by
    refine (congrArg (iblk6 V c 6 t : FVec Ideal S64x1024 .bf16) (eq_ix2 b)).trans ?_
    rw [idx_eq i ⟨t.val * 64 + b 0, h0 ▸ (i 0).isLt⟩ ⟨b 1, h1 ▸ (i 1).isLt⟩ h0 h1]
    blk_point [iblk6, at6 t]
  pointwise [k6_pay1, k6_pay2, k6_pay3, k6_pay4, k6_pay5, k6_pay6, k6_pay7, k6_pay8, k6_pay9, k6_pay10]
  rw [e2, e5, e6]
  rfl

/-- The result whole. -/
theorem array6_9 : (dat6 V c).arrAt 9 cfg6.N = gateF (V c main_arg5 : FVec Ideal S2176x1024 .f32) (V c main_v10 : FVec Ideal S2176x1024 .f32) (V c main_v13 : FVec Ideal S2176x1024 .bf16) := by
  refine (dat6 V c).arrAt_eq_of_covers 9 _ (by decide +kernel) (fun t hf y => ?_)
  blk_simp
  rw [after6_9]
  frame_out
  refine out6_9_at V c t _ _ ?_ ?_ <;> blk_simp [at6 t]

/-- One element of a grid point's block. -/
theorem out6_10_at (t : Fin cfg6.N) (b : S64x1024.Idx) (i : S2176x1024.Idx) (h0 : (i 0 : ℕ) = t.val * 64 + b 0) (h1 : (i 1 : ℕ) = b 1) :
    k6_pay9 (F := Ideal) (iblk6 V c 0 t) (iblk6 V c 6 t) b = (branchF (V c main_arg3 : FVec Ideal S2176x1024 .f32) (V c main_v13 : FVec Ideal S2176x1024 .bf16)) i := by
  have e0 : (iblk6 V c 0 t : FVec Ideal S64x1024 .f32) b = (V c main_arg3 : FVec Ideal S2176x1024 .f32) i := by
    refine (congrArg (iblk6 V c 0 t : FVec Ideal S64x1024 .f32) (eq_ix2 b)).trans ?_
    rw [idx_eq i ⟨t.val * 64 + b 0, h0 ▸ (i 0).isLt⟩ ⟨b 1, h1 ▸ (i 1).isLt⟩ h0 h1]
    blk_point [iblk6, at6 t]
  have e6 : (iblk6 V c 6 t : FVec Ideal S64x1024 .bf16) b = (V c main_v13 : FVec Ideal S2176x1024 .bf16) i := by
    refine (congrArg (iblk6 V c 6 t : FVec Ideal S64x1024 .bf16) (eq_ix2 b)).trans ?_
    rw [idx_eq i ⟨t.val * 64 + b 0, h0 ▸ (i 0).isLt⟩ ⟨b 1, h1 ▸ (i 1).isLt⟩ h0 h1]
    blk_point [iblk6, at6 t]
  pointwise [k6_pay1, k6_pay2, k6_pay3, k6_pay4, k6_pay5, k6_pay6, k6_pay7, k6_pay8, k6_pay9, k6_pay10]
  rw [e0, e6]
  rfl

/-- The result whole. -/
theorem array6_10 : (dat6 V c).arrAt 10 cfg6.N = branchF (V c main_arg3 : FVec Ideal S2176x1024 .f32) (V c main_v13 : FVec Ideal S2176x1024 .bf16) := by
  refine (dat6 V c).arrAt_eq_of_covers 10 _ (by decide +kernel) (fun t hf y => ?_)
  blk_simp
  rw [after6_10]
  frame_out
  refine out6_10_at V c t _ _ ?_ ?_ <;> blk_simp [at6 t]

/-- One element of a grid point's block. -/
theorem out6_11_at (t : Fin cfg6.N) (b : S64x1024.Idx) (i : S2176x1024.Idx) (h0 : (i 0 : ℕ) = t.val * 64 + b 0) (h1 : (i 1 : ℕ) = b 1) :
    k6_pay7 (F := Ideal) (iblk6 V c 1 t) (iblk6 V c 6 t) b = (branchF (V c main_arg4 : FVec Ideal S2176x1024 .f32) (V c main_v13 : FVec Ideal S2176x1024 .bf16)) i := by
  have e1 : (iblk6 V c 1 t : FVec Ideal S64x1024 .f32) b = (V c main_arg4 : FVec Ideal S2176x1024 .f32) i := by
    refine (congrArg (iblk6 V c 1 t : FVec Ideal S64x1024 .f32) (eq_ix2 b)).trans ?_
    rw [idx_eq i ⟨t.val * 64 + b 0, h0 ▸ (i 0).isLt⟩ ⟨b 1, h1 ▸ (i 1).isLt⟩ h0 h1]
    blk_point [iblk6, at6 t]
  have e6 : (iblk6 V c 6 t : FVec Ideal S64x1024 .bf16) b = (V c main_v13 : FVec Ideal S2176x1024 .bf16) i := by
    refine (congrArg (iblk6 V c 6 t : FVec Ideal S64x1024 .bf16) (eq_ix2 b)).trans ?_
    rw [idx_eq i ⟨t.val * 64 + b 0, h0 ▸ (i 0).isLt⟩ ⟨b 1, h1 ▸ (i 1).isLt⟩ h0 h1]
    blk_point [iblk6, at6 t]
  pointwise [k6_pay1, k6_pay2, k6_pay3, k6_pay4, k6_pay5, k6_pay6, k6_pay7, k6_pay8, k6_pay9, k6_pay10]
  rw [e1, e6]
  rfl

/-- The result whole. -/
theorem array6_11 : (dat6 V c).arrAt 11 cfg6.N = branchF (V c main_arg4 : FVec Ideal S2176x1024 .f32) (V c main_v13 : FVec Ideal S2176x1024 .bf16) := by
  refine (dat6 V c).arrAt_eq_of_covers 11 _ (by decide +kernel) (fun t hf y => ?_)
  blk_simp
  rw [after6_11]
  frame_out
  refine out6_11_at V c t _ _ ?_ ?_ <;> blk_simp [at6 t]

/-- One element of a grid point's block. -/
theorem out6_12_at (t : Fin cfg6.N) (b : S64x1024.Idx) (i : S2176x1024.Idx) (h0 : (i 0 : ℕ) = t.val * 64 + b 0) (h1 : (i 1 : ℕ) = b 1) :
    k6_pay5 (F := Ideal) (iblk6 V c 2 t) (iblk6 V c 6 t) b = (branchF (V c main_arg5 : FVec Ideal S2176x1024 .f32) (V c main_v13 : FVec Ideal S2176x1024 .bf16)) i := by
  have e2 : (iblk6 V c 2 t : FVec Ideal S64x1024 .f32) b = (V c main_arg5 : FVec Ideal S2176x1024 .f32) i := by
    refine (congrArg (iblk6 V c 2 t : FVec Ideal S64x1024 .f32) (eq_ix2 b)).trans ?_
    rw [idx_eq i ⟨t.val * 64 + b 0, h0 ▸ (i 0).isLt⟩ ⟨b 1, h1 ▸ (i 1).isLt⟩ h0 h1]
    blk_point [iblk6, at6 t]
  have e6 : (iblk6 V c 6 t : FVec Ideal S64x1024 .bf16) b = (V c main_v13 : FVec Ideal S2176x1024 .bf16) i := by
    refine (congrArg (iblk6 V c 6 t : FVec Ideal S64x1024 .bf16) (eq_ix2 b)).trans ?_
    rw [idx_eq i ⟨t.val * 64 + b 0, h0 ▸ (i 0).isLt⟩ ⟨b 1, h1 ▸ (i 1).isLt⟩ h0 h1]
    blk_point [iblk6, at6 t]
  pointwise [k6_pay1, k6_pay2, k6_pay3, k6_pay4, k6_pay5, k6_pay6, k6_pay7, k6_pay8, k6_pay9, k6_pay10]
  rw [e2, e6]
  rfl

/-- The result whole. -/
theorem array6_12 : (dat6 V c).arrAt 12 cfg6.N = branchF (V c main_arg5 : FVec Ideal S2176x1024 .f32) (V c main_v13 : FVec Ideal S2176x1024 .bf16) := by
  refine (dat6 V c).arrAt_eq_of_covers 12 _ (by decide +kernel) (fun t hf y => ?_)
  blk_simp
  rw [after6_12]
  frame_out
  refine out6_12_at V c t _ _ ?_ ?_ <;> blk_simp [at6 t]
end
end Cert.Kernel5Ideal.Mix
-- ==== Proof.Mix.Array7.lean ====
/- What the launch of the first branch's input gradient leaves in its result, as a function of the arrays it reads. -/
module

public import proofs.«01_k».proof.Proof.Mix.Formulas
public import proofs.«01_k».proof.Proof.Gen.Kernel5Ideal.Frame
public import Idealize.ShloMosaic.Lib.Pipeline.ValueKit

@[expose] public section
set_option maxRecDepth 16384
noncomputable section

namespace Cert.Kernel5Ideal.Mix
open Cert.Kernel5Ideal Cert.Kernel5Ideal.Gen Idealize.ShloMosaic Idealize.ShloMosaic.TcCoe Idealize.SL.Sem Cert.Ffn Cert.Mix

/-- The blocks of grid point `t`. -/
theorem at7 : ∀ t : Fin cfg7.N, win7_0.index t = ![t.val, 0] ∧ win7_1.index t = ![0, 0] ∧ win7_2.index t = ![t.val, 0] :=
  (by decide +kernel : ∀ t : Fin grid7.N, _)

section
variable (V : (c : Dev nD) → (b : Ref sig .tc) → Buf (Elt Ideal) ((c : Thread nD τ).loc b)) (c : Dev nD)

/-- One element of a grid point's block. -/
theorem out7_at (t : Fin cfg7.N) (b : S1088x512.Idx) (i : S2176x512.Idx) (h0 : (i 0 : ℕ) = t.val * 1088 + b 0) (h1 : (i 1 : ℕ) = b 1) :
    k7_pay1 (F := Ideal) (iblk7 V c 0 t) (iblk7 V c 1 t) b = nn (V c main_v14_3 : FVec Ideal S2176x1024 .f32) (V c main_v2 : FVec Ideal S1024x512 .bf16) i := by
  rw [show b = ix2 (b 0) (b 1) from eq_ix2 b]
  pointwise [k7_pay1]
  unfold nn
  refine Finset.sum_congr rfl fun e _ => congr (congrArg HMul.hMul ?_) ?_ <;> blk_point [iblk7, at7 t]

/-- The result whole. -/
theorem array7 : (dat7 V c).arrAt 2 cfg7.N = nn (V c main_v14_3 : FVec Ideal S2176x1024 .f32) (V c main_v2 : FVec Ideal S1024x512 .bf16) := by
  refine (dat7 V c).arrAt_eq_of_covers 2 _ (by decide +kernel) (fun t hf y => ?_)
  blk_simp
  rw [after7_2]
  frame_out
  refine out7_at V c t _ _ ?_ ?_ <;> blk_simp [at7 t]
end
end Cert.Kernel5Ideal.Mix
-- ==== Proof.Mix.Array8.lean ====
/- What the launch of the second branch's input gradient leaves in its result, as a function of the arrays it reads. -/
module

public import proofs.«01_k».proof.Proof.Mix.Formulas
public import proofs.«01_k».proof.Proof.Gen.Kernel5Ideal.Frame
public import Idealize.ShloMosaic.Lib.Pipeline.ValueKit

@[expose] public section
set_option maxRecDepth 16384
noncomputable section

namespace Cert.Kernel5Ideal.Mix
open Cert.Kernel5Ideal Cert.Kernel5Ideal.Gen Idealize.ShloMosaic Idealize.ShloMosaic.TcCoe Idealize.SL.Sem Cert.Ffn Cert.Mix

/-- The blocks of grid point `t`. -/
theorem at8 : ∀ t : Fin cfg8.N, win8_0.index t = ![t.val, 0] ∧ win8_1.index t = ![0, 0] ∧ win8_2.index t = ![t.val, 0] :=
  (by decide +kernel : ∀ t : Fin grid8.N, _)

section
variable (V : (c : Dev nD) → (b : Ref sig .tc) → Buf (Elt Ideal) ((c : Thread nD τ).loc b)) (c : Dev nD)

/-- One element of a grid point's block. -/
theorem out8_at (t : Fin cfg8.N) (b : S1088x512.Idx) (i : S2176x512.Idx) (h0 : (i 0 : ℕ) = t.val * 1088 + b 0) (h1 : (i 1 : ℕ) = b 1) :
    k8_pay1 (F := Ideal) (iblk8 V c 0 t) (iblk8 V c 1 t) b = nn (V c main_v14_4 : FVec Ideal S2176x1024 .f32) (V c main_v4 : FVec Ideal S1024x512 .bf16) i := by
  rw [show b = ix2 (b 0) (b 1) from eq_ix2 b]
  pointwise [k8_pay1]
  unfold nn
  refine Finset.sum_congr rfl fun e _ => congr (congrArg HMul.hMul ?_) ?_ <;> blk_point [iblk8, at8 t]

/-- The result whole. -/
theorem array8 : (dat8 V c).arrAt 2 cfg8.N = nn (V c main_v14_4 : FVec Ideal S2176x1024 .f32) (V c main_v4 : FVec Ideal S1024x512 .bf16) := by
  refine (dat8 V c).arrAt_eq_of_covers 2 _ (by decide +kernel) (fun t hf y => ?_)
  blk_simp
  rw [after8_2]
  frame_out
  refine out8_at V c t _ _ ?_ ?_ <;> blk_simp [at8 t]
end
end Cert.Kernel5Ideal.Mix
-- ==== Proof.Mix.Array9.lean ====
/- What the launch of the third branch's input gradient leaves in its result, as a function of the arrays it reads. -/
module

public import proofs.«01_k».proof.Proof.Mix.Formulas
public import proofs.«01_k».proof.Proof.Gen.Kernel5Ideal.Frame
public import Idealize.ShloMosaic.Lib.Pipeline.ValueKit

@[expose] public section
set_option maxRecDepth 16384
noncomputable section

namespace Cert.Kernel5Ideal.Mix
open Cert.Kernel5Ideal Cert.Kernel5Ideal.Gen Idealize.ShloMosaic Idealize.ShloMosaic.TcCoe Idealize.SL.Sem Cert.Ffn Cert.Mix

/-- The blocks of grid point `t`. -/
theorem at9 : ∀ t : Fin cfg9.N, win9_0.index t = ![t.val, 0] ∧ win9_1.index t = ![0, 0] ∧ win9_2.index t = ![t.val, 0] :=
  (by decide +kernel : ∀ t : Fin grid9.N, _)

section
variable (V : (c : Dev nD) → (b : Ref sig .tc) → Buf (Elt Ideal) ((c : Thread nD τ).loc b)) (c : Dev nD)

/-- One element of a grid point's block. -/
theorem out9_at (t : Fin cfg9.N) (b : S1088x512.Idx) (i : S2176x512.Idx) (h0 : (i 0 : ℕ) = t.val * 1088 + b 0) (h1 : (i 1 : ℕ) = b 1) :
    k9_pay1 (F := Ideal) (iblk9 V c 0 t) (iblk9 V c 1 t) b = nn (V c main_v14_5 : FVec Ideal S2176x1024 .f32) (V c main_v6 : FVec Ideal S1024x512 .bf16) i := by
  rw [show b = ix2 (b 0) (b 1) from eq_ix2 b]
  pointwise [k9_pay1]
  unfold nn
  refine Finset.sum_congr rfl fun e _ => congr (congrArg HMul.hMul ?_) ?_ <;> blk_point [iblk9, at9 t]

/-- The result whole. -/
theorem array9 : (dat9 V c).arrAt 2 cfg9.N = nn (V c main_v14_5 : FVec Ideal S2176x1024 .f32) (V c main_v6 : FVec Ideal S1024x512 .bf16) := by
  refine (dat9 V c).arrAt_eq_of_covers 2 _ (by decide +kernel) (fun t hf y => ?_)
  blk_simp
  rw [after9_2]
  frame_out
  refine out9_at V c t _ _ ?_ ?_ <;> blk_simp [at9 t]
end
end Cert.Kernel5Ideal.Mix
-- ==== Proof.Mix.Value.lean ====
/- What the program leaves in its seven results: the layer's output, and the gradients of the branches and gates. -/
module

public import proofs.«01_k».proof.Proof.Mix.Array0
public import proofs.«01_k».proof.Proof.Mix.Array1
public import proofs.«01_k».proof.Proof.Mix.Array2
public import proofs.«01_k».proof.Proof.Mix.Array3
public import proofs.«01_k».proof.Proof.Mix.Array4
public import proofs.«01_k».proof.Proof.Mix.Array5
public import proofs.«01_k».proof.Proof.Mix.Array6
public import proofs.«01_k».proof.Proof.Mix.Array7
public import proofs.«01_k».proof.Proof.Mix.Array8
public import proofs.«01_k».proof.Proof.Mix.Array9

@[expose] public section
set_option maxRecDepth 16384
noncomputable section

namespace Cert.Kernel5Ideal.Mix
open Cert.Kernel5Ideal Cert.Kernel5Ideal.Gen Idealize.ShloMosaic Idealize.ShloMosaic.TcCoe Idealize.SL.Sem Cert.Ffn Cert.Mix

variable (m : (ℓ : Loc nD τ sig) → Buf (Elt Ideal) ℓ) (ρ : Dev nD → PrngReg) (c : Dev nD)

/-- What launch 0 leaves as it was, of the arrays read later. -/
theorem keep0 : ∀ r ∈ [main_arg3, main_arg4, main_arg5, main_arg10, main_arg1, main_v0, main_v2, main_v4, main_v6, main_v7], W2 m ρ c (Proc.devRef .tc r) = W1 m ρ c (Proc.devRef .tc r) := fun r hr =>
  W2_of m ρ c r (ListAll.forall_mem_of_all_decide (p := fun r => ∀ w : Fin cfg0.W, Pipeline.arrRef spec0 w = r → (cfg0.win w).isOut = false) (by decide +kernel) r hr)
/-- What launch 1 leaves as it was, of the arrays read later. -/
theorem keep1 : ∀ r ∈ [main_arg3, main_arg4, main_arg5, main_arg10, main_v0, main_v2, main_v4, main_v6, main_v7, main_v8], W3 m ρ c (Proc.devRef .tc r) = W2 m ρ c (Proc.devRef .tc r) := fun r hr =>
  W3_of m ρ c r (ListAll.forall_mem_of_all_decide (p := fun r => ∀ w : Fin cfg1.W, Pipeline.arrRef spec1 w = r → (cfg1.win w).isOut = false) (by decide +kernel) r hr)
/-- What launch 2 leaves as it was, of the arrays read later. -/
theorem keep2 : ∀ r ∈ [main_arg3, main_arg4, main_arg5, main_arg10, main_v2, main_v4, main_v6, main_v7, main_v8, main_v9], W4 m ρ c (Proc.devRef .tc r) = W3 m ρ c (Proc.devRef .tc r) := fun r hr =>
  W4_of m ρ c r (ListAll.forall_mem_of_all_decide (p := fun r => ∀ w : Fin cfg2.W, Pipeline.arrRef spec2 w = r → (cfg2.win w).isOut = false) (by decide +kernel) r hr)
/-- What launch 3 leaves as it was, of the arrays read later. -/
theorem keep3 : ∀ r ∈ [main_arg3, main_arg4, main_arg5, main_arg10, main_v2, main_v4, main_v6, main_v7, main_v8, main_v9, main_v10], W5 m ρ c (Proc.devRef .tc r) = W4 m ρ c (Proc.devRef .tc r) := fun r hr =>
  W5_of m ρ c r (ListAll.forall_mem_of_all_decide (p := fun r => ∀ w : Fin cfg3.W, Pipeline.arrRef spec3 w = r → (cfg3.win w).isOut = false) (by decide +kernel) r hr)
/-- What launch 4 leaves as it was, of the arrays read later. -/
theorem keep4 : ∀ r ∈ [main_arg3, main_arg4, main_arg5, main_arg10, main_v2, main_v4, main_v6, main_v7, main_v8, main_v9, main_v10], W6 m ρ c (Proc.devRef .tc r) = W5 m ρ c (Proc.devRef .tc r) := fun r hr =>
  W6_of m ρ c r (ListAll.forall_mem_of_all_decide (p := fun r => ∀ w : Fin cfg4.W, Pipeline.arrRef spec4 w = r → (cfg4.win w).isOut = false) (by decide +kernel) r hr)
/-- What launch 5 leaves as it was, of the arrays read later. -/
theorem keep5 : ∀ r ∈ [main_arg3, main_arg4, main_arg5, main_v2, main_v4, main_v6, main_v8, main_v9, main_v10, main_v12], W7 m ρ c (Proc.devRef .tc r) = W6 m ρ c (Proc.devRef .tc r) := fun r hr =>
  W7_of m ρ c r (ListAll.forall_mem_of_all_decide (p := fun r => ∀ w : Fin cfg5.W, Pipeline.arrRef spec5 w = r → (cfg5.win w).isOut = false) (by decide +kernel) r hr)
/-- What launch 6 leaves as it was, of the arrays read later. -/
theorem keep6 : ∀ r ∈ [main_v2, main_v4, main_v6, main_v12], W8 m ρ c (Proc.devRef .tc r) = W7 m ρ c (Proc.devRef .tc r) := fun r hr =>
  W8_of m ρ c r (ListAll.forall_mem_of_all_decide (p := fun r => ∀ w : Fin cfg6.W, Pipeline.arrRef spec6 w = r → (cfg6.win w).isOut = false) (by decide +kernel) r hr)
/-- What launch 7 leaves as it was, of the arrays read later. -/
theorem keep7 : ∀ r ∈ [main_v4, main_v6, main_v12, main_v14_0, main_v14_1, main_v14_2, main_v14_4, main_v14_5], W9 m ρ c (Proc.devRef .tc r) = W8 m ρ c (Proc.devRef .tc r) := fun r hr =>
  W9_of m ρ c r (ListAll.forall_mem_of_all_decide (p := fun r => ∀ w : Fin cfg7.W, Pipeline.arrRef spec7 w = r → (cfg7.win w).isOut = false) (by decide +kernel) r hr)
/-- What launch 8 leaves as it was, of the arrays read later. -/
theorem keep8 : ∀ r ∈ [main_v6, main_v12, main_v14_0, main_v14_1, main_v14_2, main_v14_5, main_v15], W10 m ρ c (Proc.devRef .tc r) = W9 m ρ c (Proc.devRef .tc r) := fun r hr =>
  W10_of m ρ c r (ListAll.forall_mem_of_all_decide (p := fun r => ∀ w : Fin cfg8.W, Pipeline.arrRef spec8 w = r → (cfg8.win w).isOut = false) (by decide +kernel) r hr)
/-- What launch 9 leaves as it was, of the arrays read later. -/
theorem keep9 : ∀ r ∈ [main_v12, main_v14_0, main_v14_1, main_v14_2, main_v15, main_v16], W11 m ρ c (Proc.devRef .tc r) = W10 m ρ c (Proc.devRef .tc r) := fun r hr =>
  W11_of m ρ c r (ListAll.forall_mem_of_all_decide (p := fun r => ∀ w : Fin cfg9.W, Pipeline.arrRef spec9 w = r → (cfg9.win w).isOut = false) (by decide +kernel) r hr)

variable (xa xb xc : FVec Ideal S2176x512 .f32) (ga gb gc : FVec Ideal S2176x1024 .f32) (wa wb wc : FVec Ideal S512x1024 .f32)
  (wo : FVec Ideal S1024x1024 .f32) (d : FVec Ideal S2176x1024 .f32)

/-- The arguments. -/
structure Args : Prop where
  xa : m (c.tc.loc main_arg0) = xa
  xb : m (c.tc.loc main_arg1) = xb
  xc : m (c.tc.loc main_arg2) = xc
  ga : m (c.tc.loc main_arg3) = ga
  gb : m (c.tc.loc main_arg4) = gb
  gc : m (c.tc.loc main_arg5) = gc
  wa : m (c.tc.loc main_arg6) = wa
  wb : m (c.tc.loc main_arg7) = wb
  wc : m (c.tc.loc main_arg8) = wc
  wo : m (c.tc.loc main_arg9) = wo
  d : m (c.tc.loc main_arg10) = d

variable {m c} {xa xb xc ga gb gc wa wb wc wo d} (A : Args m c xa xb xc ga gb gc wa wb wc wo d)
include A

theorem arg0_at1 : (W1 m ρ c (Proc.devRef .tc main_arg0) : Mix.Half) = xa :=
  (W1_args m ρ c main_arg0 (by decide)).trans A.xa
theorem v2_at1 : (W1 m ρ c (Proc.devRef .tc main_v2) : Mix.Tall) = (tr wa) := by
  after_results
  rw [show W0 m ρ c (Proc.devRef .tc main_arg6) = wa from A.wa]
  funext i
  rw [eq_ix2 i]
  pointwise [tr]
theorem v8_at2 : (W2 m ρ c (Proc.devRef .tc main_v8) : Mix.Rows) = (nn xa wa) :=
  (W2_arr m ρ c 2).trans ((array0 (V1 m ρ) c).trans (nt_congr (arg0_at1 ρ A) (v2_at1 ρ A)))
theorem arg1_at1 : (W1 m ρ c (Proc.devRef .tc main_arg1) : Mix.Half) = xb :=
  (W1_args m ρ c main_arg1 (by decide)).trans A.xb
theorem arg1_at2 : (W2 m ρ c (Proc.devRef .tc main_arg1) : Mix.Half) = xb :=
  (keep0 m ρ c main_arg1 (by simp)).trans (arg1_at1 ρ A)
theorem v4_at1 : (W1 m ρ c (Proc.devRef .tc main_v4) : Mix.Tall) = (tr wb) := by
  after_results
  rw [show W0 m ρ c (Proc.devRef .tc main_arg7) = wb from A.wb]
  funext i
  rw [eq_ix2 i]
  pointwise [tr]
theorem v4_at2 : (W2 m ρ c (Proc.devRef .tc main_v4) : Mix.Tall) = (tr wb) :=
  (keep0 m ρ c main_v4 (by simp)).trans (v4_at1 ρ A)
theorem v9_at3 : (W3 m ρ c (Proc.devRef .tc main_v9) : Mix.Rows) = (nn xb wb) :=
  (W3_arr m ρ c 2).trans ((array1 (V2 m ρ) c).trans (nt_congr (arg1_at2 ρ A) (v4_at2 ρ A)))
theorem v0_at1 : (W1 m ρ c (Proc.devRef .tc main_v0) : Mix.Half) = xc := by
  after_results
  rw [show W0 m ρ c (Proc.devRef .tc main_arg2) = xc from A.xc]
  funext i
  rw [eq_ix2 i]
  pointwise [tr]
theorem v0_at3 : (W3 m ρ c (Proc.devRef .tc main_v0) : Mix.Half) = xc :=
  (keep1 m ρ c main_v0 (by simp)).trans ((keep0 m ρ c main_v0 (by simp)).trans (v0_at1 ρ A))
theorem v6_at1 : (W1 m ρ c (Proc.devRef .tc main_v6) : Mix.Tall) = (tr wc) := by
  after_results
  rw [show W0 m ρ c (Proc.devRef .tc main_arg8) = wc from A.wc]
  funext i
  rw [eq_ix2 i]
  pointwise [tr]
theorem v6_at3 : (W3 m ρ c (Proc.devRef .tc main_v6) : Mix.Tall) = (tr wc) :=
  (keep1 m ρ c main_v6 (by simp)).trans ((keep0 m ρ c main_v6 (by simp)).trans (v6_at1 ρ A))
theorem v10_at4 : (W4 m ρ c (Proc.devRef .tc main_v10) : Mix.Rows) = (nn xc wc) :=
  (W4_arr m ρ c 2).trans ((array2 (V3 m ρ) c).trans (nt_congr (v0_at3 ρ A) (v6_at3 ρ A)))
theorem arg3_at1 : (W1 m ρ c (Proc.devRef .tc main_arg3) : Mix.Rows) = ga :=
  (W1_args m ρ c main_arg3 (by decide)).trans A.ga
theorem arg3_at4 : (W4 m ρ c (Proc.devRef .tc main_arg3) : Mix.Rows) = ga :=
  (keep2 m ρ c main_arg3 (by simp)).trans ((keep1 m ρ c main_arg3 (by simp)).trans ((keep0 m ρ c main_arg3 (by simp)).trans (arg3_at1 ρ A)))
theorem arg4_at1 : (W1 m ρ c (Proc.devRef .tc main_arg4) : Mix.Rows) = gb :=
  (W1_args m ρ c main_arg4 (by decide)).trans A.gb
theorem arg4_at4 : (W4 m ρ c (Proc.devRef .tc main_arg4) : Mix.Rows) = gb :=
  (keep2 m ρ c main_arg4 (by simp)).trans ((keep1 m ρ c main_arg4 (by simp)).trans ((keep0 m ρ c main_arg4 (by simp)).trans (arg4_at1 ρ A)))
theorem arg5_at1 : (W1 m ρ c (Proc.devRef .tc main_arg5) : Mix.Rows) = gc :=
  (W1_args m ρ c main_arg5 (by decide)).trans A.gc
theorem arg5_at4 : (W4 m ρ c (Proc.devRef .tc main_arg5) : Mix.Rows) = gc :=
  (keep2 m ρ c main_arg5 (by simp)).trans ((keep1 m ρ c main_arg5 (by simp)).trans ((keep0 m ρ c main_arg5 (by simp)).trans (arg5_at1 ρ A)))
theorem v8_at4 : (W4 m ρ c (Proc.devRef .tc main_v8) : Mix.Rows) = (nn xa wa) :=
  (keep2 m ρ c main_v8 (by simp)).trans ((keep1 m ρ c main_v8 (by simp)).trans (v8_at2 ρ A))
theorem v9_at4 : (W4 m ρ c (Proc.devRef .tc main_v9) : Mix.Rows) = (nn xb wb) :=
  (keep2 m ρ c main_v9 (by simp)).trans (v9_at3 ρ A)
theorem v11_at5 : (W5 m ρ c (Proc.devRef .tc main_v11) : Mix.Rows) = (mixed xa xb xc ga gb gc wa wb wc) :=
  (W5_arr m ρ c 6).trans ((array3_6 (V4 m ρ) c).trans (mergeF_congr (arg3_at4 ρ A) (arg4_at4 ρ A) (arg5_at4 ρ A) (v8_at4 ρ A) (v9_at4 ρ A) (v10_at4 ρ A)))
theorem v7_at1 : (W1 m ρ c (Proc.devRef .tc main_v7) : Mix.Square) = wo := by
  after_results
  rw [show W0 m ρ c (Proc.devRef .tc main_arg9) = wo from A.wo]
  funext i
  rw [eq_ix2 i]
  pointwise [tr]
theorem v7_at5 : (W5 m ρ c (Proc.devRef .tc main_v7) : Mix.Square) = wo :=
  (keep3 m ρ c main_v7 (by simp)).trans ((keep2 m ρ c main_v7 (by simp)).trans ((keep1 m ρ c main_v7 (by simp)).trans ((keep0 m ρ c main_v7 (by simp)).trans (v7_at1 ρ A))))
theorem v12_at6 : (W6 m ρ c (Proc.devRef .tc main_v12) : Mix.Rows) = (Mix.outv xa xb xc ga gb gc wa wb wc wo) :=
  (W6_arr m ρ c 2).trans ((array4 (V5 m ρ) c).trans (nn_congr (v11_at5 ρ A) (v7_at5 ρ A)))
theorem arg10_at1 : (W1 m ρ c (Proc.devRef .tc main_arg10) : Mix.Rows) = d :=
  (W1_args m ρ c main_arg10 (by decide)).trans A.d
theorem arg10_at6 : (W6 m ρ c (Proc.devRef .tc main_arg10) : Mix.Rows) = d :=
  (keep4 m ρ c main_arg10 (by simp)).trans ((keep3 m ρ c main_arg10 (by simp)).trans ((keep2 m ρ c main_arg10 (by simp)).trans ((keep1 m ρ c main_arg10 (by simp)).trans ((keep0 m ρ c main_arg10 (by simp)).trans (arg10_at1 ρ A)))))
theorem v7_at6 : (W6 m ρ c (Proc.devRef .tc main_v7) : Mix.Square) = wo :=
  (keep4 m ρ c main_v7 (by simp)).trans (v7_at5 ρ A)
theorem v13_at7 : (W7 m ρ c (Proc.devRef .tc main_v13) : Mix.Rows) = (nt d wo) :=
  (W7_arr m ρ c 2).trans ((array5 (V6 m ρ) c).trans (nt_congr (arg10_at6 ρ A) (v7_at6 ρ A)))
theorem arg3_at7 : (W7 m ρ c (Proc.devRef .tc main_arg3) : Mix.Rows) = ga :=
  (keep5 m ρ c main_arg3 (by simp)).trans ((keep4 m ρ c main_arg3 (by simp)).trans ((keep3 m ρ c main_arg3 (by simp)).trans (arg3_at4 ρ A)))
theorem v8_at7 : (W7 m ρ c (Proc.devRef .tc main_v8) : Mix.Rows) = (nn xa wa) :=
  (keep5 m ρ c main_v8 (by simp)).trans ((keep4 m ρ c main_v8 (by simp)).trans ((keep3 m ρ c main_v8 (by simp)).trans (v8_at4 ρ A)))
theorem v14_0_at8 : (W8 m ρ c (Proc.devRef .tc main_v14_0) : Mix.Rows) = (Mix.dgate xa ga wa wo d) :=
  (W8_arr m ρ c 7).trans ((array6_7 (V7 m ρ) c).trans (gateF_congr (arg3_at7 ρ A) (v8_at7 ρ A) (v13_at7 ρ A)))
theorem v14_3_at8 : (W8 m ρ c (Proc.devRef .tc main_v14_3) : Mix.Rows) = (branchF ga (nt d wo)) :=
  (W8_arr m ρ c 10).trans ((array6_10 (V7 m ρ) c).trans (branchF_congr (arg3_at7 ρ A) (v13_at7 ρ A)))
theorem arg4_at7 : (W7 m ρ c (Proc.devRef .tc main_arg4) : Mix.Rows) = gb :=
  (keep5 m ρ c main_arg4 (by simp)).trans ((keep4 m ρ c main_arg4 (by simp)).trans ((keep3 m ρ c main_arg4 (by simp)).trans (arg4_at4 ρ A)))
theorem v9_at7 : (W7 m ρ c (Proc.devRef .tc main_v9) : Mix.Rows) = (nn xb wb) :=
  (keep5 m ρ c main_v9 (by simp)).trans ((keep4 m ρ c main_v9 (by simp)).trans ((keep3 m ρ c main_v9 (by simp)).trans (v9_at4 ρ A)))
theorem v14_1_at8 : (W8 m ρ c (Proc.devRef .tc main_v14_1) : Mix.Rows) = (Mix.dgate xb gb wb wo d) :=
  (W8_arr m ρ c 8).trans ((array6_8 (V7 m ρ) c).trans (gateF_congr (arg4_at7 ρ A) (v9_at7 ρ A) (v13_at7 ρ A)))
theorem v14_4_at8 : (W8 m ρ c (Proc.devRef .tc main_v14_4) : Mix.Rows) = (branchF gb (nt d wo)) :=
  (W8_arr m ρ c 11).trans ((array6_11 (V7 m ρ) c).trans (branchF_congr (arg4_at7 ρ A) (v13_at7 ρ A)))
theorem arg5_at7 : (W7 m ρ c (Proc.devRef .tc main_arg5) : Mix.Rows) = gc :=
  (keep5 m ρ c main_arg5 (by simp)).trans ((keep4 m ρ c main_arg5 (by simp)).trans ((keep3 m ρ c main_arg5 (by simp)).trans (arg5_at4 ρ A)))
theorem v10_at7 : (W7 m ρ c (Proc.devRef .tc main_v10) : Mix.Rows) = (nn xc wc) :=
  (keep5 m ρ c main_v10 (by simp)).trans ((keep4 m ρ c main_v10 (by simp)).trans ((keep3 m ρ c main_v10 (by simp)).trans (v10_at4 ρ A)))
theorem v14_2_at8 : (W8 m ρ c (Proc.devRef .tc main_v14_2) : Mix.Rows) = (Mix.dgate xc gc wc wo d) :=
  (W8_arr m ρ c 9).trans ((array6_9 (V7 m ρ) c).trans (gateF_congr (arg5_at7 ρ A) (v10_at7 ρ A) (v13_at7 ρ A)))
theorem v14_5_at8 : (W8 m ρ c (Proc.devRef .tc main_v14_5) : Mix.Rows) = (branchF gc (nt d wo)) :=
  (W8_arr m ρ c 12).trans ((array6_12 (V7 m ρ) c).trans (branchF_congr (arg5_at7 ρ A) (v13_at7 ρ A)))
theorem v2_at8 : (W8 m ρ c (Proc.devRef .tc main_v2) : Mix.Tall) = (tr wa) :=
  (keep6 m ρ c main_v2 (by simp)).trans ((keep5 m ρ c main_v2 (by simp)).trans ((keep4 m ρ c main_v2 (by simp)).trans ((keep3 m ρ c main_v2 (by simp)).trans ((keep2 m ρ c main_v2 (by simp)).trans ((keep1 m ρ c main_v2 (by simp)).trans ((keep0 m ρ c main_v2 (by simp)).trans (v2_at1 ρ A)))))))
theorem v15_at9 : (W9 m ρ c (Proc.devRef .tc main_v15) : Mix.Half) = (dbranch ga wa wo d) :=
  (W9_arr m ρ c 2).trans ((array7 (V8 m ρ) c).trans (nn_congr (v14_3_at8 ρ A) (v2_at8 ρ A)))
theorem v14_4_at9 : (W9 m ρ c (Proc.devRef .tc main_v14_4) : Mix.Rows) = (branchF gb (nt d wo)) :=
  (keep7 m ρ c main_v14_4 (by simp)).trans (v14_4_at8 ρ A)
theorem v4_at9 : (W9 m ρ c (Proc.devRef .tc main_v4) : Mix.Tall) = (tr wb) :=
  (keep7 m ρ c main_v4 (by simp)).trans ((keep6 m ρ c main_v4 (by simp)).trans ((keep5 m ρ c main_v4 (by simp)).trans ((keep4 m ρ c main_v4 (by simp)).trans ((keep3 m ρ c main_v4 (by simp)).trans ((keep2 m ρ c main_v4 (by simp)).trans ((keep1 m ρ c main_v4 (by simp)).trans (v4_at2 ρ A)))))))
theorem v16_at10 : (W10 m ρ c (Proc.devRef .tc main_v16) : Mix.Half) = (dbranch gb wb wo d) :=
  (W10_arr m ρ c 2).trans ((array8 (V9 m ρ) c).trans (nn_congr (v14_4_at9 ρ A) (v4_at9 ρ A)))
theorem v14_5_at10 : (W10 m ρ c (Proc.devRef .tc main_v14_5) : Mix.Rows) = (branchF gc (nt d wo)) :=
  (keep8 m ρ c main_v14_5 (by simp)).trans ((keep7 m ρ c main_v14_5 (by simp)).trans (v14_5_at8 ρ A))
theorem v6_at10 : (W10 m ρ c (Proc.devRef .tc main_v6) : Mix.Tall) = (tr wc) :=
  (keep8 m ρ c main_v6 (by simp)).trans ((keep7 m ρ c main_v6 (by simp)).trans ((keep6 m ρ c main_v6 (by simp)).trans ((keep5 m ρ c main_v6 (by simp)).trans ((keep4 m ρ c main_v6 (by simp)).trans ((keep3 m ρ c main_v6 (by simp)).trans ((keep2 m ρ c main_v6 (by simp)).trans (v6_at3 ρ A)))))))
theorem v17_at11 : (W11 m ρ c (Proc.devRef .tc main_v17) : Mix.Half) = (dbranch gc wc wo d) :=
  (W11_arr m ρ c 2).trans ((array9 (V10 m ρ) c).trans (nn_congr (v14_5_at10 ρ A) (v6_at10 ρ A)))
theorem v12_at11 : (W11 m ρ c (Proc.devRef .tc main_v12) : Mix.Rows) = (Mix.outv xa xb xc ga gb gc wa wb wc wo) :=
  (keep9 m ρ c main_v12 (by simp)).trans ((keep8 m ρ c main_v12 (by simp)).trans ((keep7 m ρ c main_v12 (by simp)).trans ((keep6 m ρ c main_v12 (by simp)).trans ((keep5 m ρ c main_v12 (by simp)).trans (v12_at6 ρ A)))))
theorem v15_at11 : (W11 m ρ c (Proc.devRef .tc main_v15) : Mix.Half) = (dbranch ga wa wo d) :=
  (keep9 m ρ c main_v15 (by simp)).trans ((keep8 m ρ c main_v15 (by simp)).trans (v15_at9 ρ A))
theorem v16_at11 : (W11 m ρ c (Proc.devRef .tc main_v16) : Mix.Half) = (dbranch gb wb wo d) :=
  (keep9 m ρ c main_v16 (by simp)).trans (v16_at10 ρ A)
theorem v14_0_at11 : (W11 m ρ c (Proc.devRef .tc main_v14_0) : Mix.Rows) = (Mix.dgate xa ga wa wo d) :=
  (keep9 m ρ c main_v14_0 (by simp)).trans ((keep8 m ρ c main_v14_0 (by simp)).trans ((keep7 m ρ c main_v14_0 (by simp)).trans (v14_0_at8 ρ A)))
theorem v14_1_at11 : (W11 m ρ c (Proc.devRef .tc main_v14_1) : Mix.Rows) = (Mix.dgate xb gb wb wo d) :=
  (keep9 m ρ c main_v14_1 (by simp)).trans ((keep8 m ρ c main_v14_1 (by simp)).trans ((keep7 m ρ c main_v14_1 (by simp)).trans (v14_1_at8 ρ A)))
theorem v14_2_at11 : (W11 m ρ c (Proc.devRef .tc main_v14_2) : Mix.Rows) = (Mix.dgate xc gc wc wo d) :=
  (keep9 m ρ c main_v14_2 (by simp)).trans ((keep8 m ρ c main_v14_2 (by simp)).trans ((keep7 m ρ c main_v14_2 (by simp)).trans (v14_2_at8 ρ A)))

/-- The results: the output, -/
theorem out0 : (W12 m ρ c (Proc.devRef .tc main_v12) : Mix.Rows) = Mix.outv xa xb xc ga gb gc wa wb wc wo :=
  (W12_of m ρ c main_v12 (by decide +kernel)).trans (v12_at11 ρ A)
/-- the first branch's gradient, -/
theorem out1 : (W12 m ρ c (Proc.devRef .tc main_v15) : Mix.Half) = dbranch ga wa wo d :=
  (W12_of m ρ c main_v15 (by decide +kernel)).trans (v15_at11 ρ A)
/-- the second's, -/
theorem out2 : (W12 m ρ c (Proc.devRef .tc main_v16) : Mix.Half) = dbranch gb wb wo d :=
  (W12_of m ρ c main_v16 (by decide +kernel)).trans (v16_at11 ρ A)
/-- the third's, -/
theorem out3 : (W12 m ρ c (Proc.devRef .tc main_v18) : Mix.Half) = dbranch gc wc wo d := by
  have h := v17_at11 ρ A
  refine Eq.trans ?_ h
  after_results
  rfl
/-- the first gate's gradient, -/
theorem out4 : (W12 m ρ c (Proc.devRef .tc main_v14_0) : Mix.Rows) = Mix.dgate xa ga wa wo d :=
  (W12_of m ρ c main_v14_0 (by decide +kernel)).trans (v14_0_at11 ρ A)
/-- the second's -/
theorem out5 : (W12 m ρ c (Proc.devRef .tc main_v14_1) : Mix.Rows) = Mix.dgate xb gb wb wo d :=
  (W12_of m ρ c main_v14_1 (by decide +kernel)).trans (v14_1_at11 ρ A)
/-- and the third's. -/
theorem out6 : (W12 m ρ c (Proc.devRef .tc main_v14_2) : Mix.Rows) = Mix.dgate xc gc wc wo d :=
  (W12_of m ρ c main_v14_2 (by decide +kernel)).trans (v14_2_at11 ρ A)

end Cert.Kernel5Ideal.Mix
-- ==== Proof.Mix.RefValue.lean ====
/- The reference's seven results: the layer's output, and the gradients of the branches and gates, in the same formulas. -/
module

public import proofs.«01_k».proof.Proof.Gen.Reference5Ideal.Run
public import proofs.«01_k».proof.Proof.Mix.Formulas

@[expose] public section
set_option maxRecDepth 16384
noncomputable section

namespace Cert.Reference5Ideal.Mix
open Cert.Reference5Ideal Cert.Reference5Ideal.Gen Idealize.ShloMosaic Idealize.ShloMosaic.TcCoe Idealize.SL.Sem Cert.Ffn Cert.Mix

abbrev R := FVec Ideal S2176x1024 .f32
abbrev B := FVec Ideal S2176x512 .f32
abbrev WB := FVec Ideal S512x1024 .f32
abbrev WO := FVec Ideal S1024x1024 .f32

/-- The reference's operations, -/
def up (x : B) (w : WB) : R := Host.dotGeneral dot_S2176x512_S512x1024_S2176x1024_1_0_0_1_n_n none x w
def project (x : R) (w : WO) : R := Host.dotGeneral dot_S2176x1024_S1024x1024_S2176x1024_1_0_0_1_n_n none x w
def back (d : R) (w : WO) : R := Host.dotGeneral dot_S2176x1024_S1024x1024_S2176x1024_1_1_0_0_n_n none d w
def down (d : R) (w : WB) : B := Host.dotGeneral dot_S2176x1024_S512x1024_S2176x512_1_1_0_0_n_n none d w
def one : R := broadcastInDim S2176x1024 ![] bcast_S_S2176x1024 (constant S_ .f32 0x3F800000#32)
def sigm (g : R) : R := Host.divf one (addf one (Host.exp (Host.negf g)))
def gateGrad (g y d : R) : R := mulf (mulf d y) (mulf (sigm g) (subf one (sigm g)))

/-- and what each is. -/
theorem up_eq (x : B) (w : WB) : up x w = nn x w := by
  funext i
  rw [eq_ix2 i]
  pointwise [up]
  rfl
theorem project_eq (x : R) (w : WO) : project x w = nn x w := by
  funext i
  rw [eq_ix2 i]
  pointwise [project]
  rfl
theorem back_eq (d : R) (w : WO) : back d w = nt d w := by
  funext i
  rw [eq_ix2 i]
  pointwise [back]
  rfl
theorem down_eq (d : R) (w : WB) : down d w = nt d w := by
  funext i
  rw [eq_ix2 i]
  pointwise [down]
  rfl
theorem one_at (i : S2176x1024.Idx) : (one i : EReal) = 1 := by
  rw [eq_ix2 i]
  pointwise [one]
theorem sigm_at (g : R) (i : S2176x1024.Idx) : (sigm g i : EReal) = Ideal.logistic (g i) := by
  show Ideal.div (one i) (one i + Ideal.exp (-(g i))) = _
  rw [one_at]
  rfl
theorem merge_eq (ga gb gc a b c : R) : (addf (addf (mulf (sigm ga) a) (mulf (sigm gb) b)) (mulf (sigm gc) c) : R) = mergeF ga gb gc a b c := funext fun i => by
  show sigm ga i * a i + sigm gb i * b i + sigm gc i * c i = _
  rw [sigm_at, sigm_at, sigm_at]
  rfl
theorem branch_eq (g d : R) : (mulf (sigm g) d : R) = branchF g d := funext fun i => by
  show sigm g i * d i = _
  rw [sigm_at]
  rfl
theorem gate_eq (g y d : R) : gateGrad g y d = gateF g y d := funext fun i => by
  show d i * y i * (sigm g i * (one i - sigm g i)) = _
  rw [sigm_at, one_at]
  rfl

/-- The output, -/
theorem out_eq (xa xb xc : B) (ga gb gc : R) (wa wb wc : WB) (wo : WO) :
    project (addf (addf (mulf (sigm ga) (up xa wa)) (mulf (sigm gb) (up xb wb))) (mulf (sigm gc) (up xc wc))) wo = Mix.outv xa xb xc ga gb gc wa wb wc wo := by
  rw [project_eq, merge_eq, up_eq, up_eq, up_eq]
  rfl
/-- a branch's gradient, -/
theorem dbranch_eq (g : R) (w : WB) (wo : WO) (d : R) : down (mulf (sigm g) (back d wo)) w = dbranch g w wo d := by
  rw [down_eq, branch_eq, back_eq]
  rfl
/-- and its gate's. -/
theorem dgate_eq (x : B) (g : R) (w : WB) (wo : WO) (d : R) : gateGrad g (up x w) (back d wo) = Mix.dgate x g w wo d := by
  rw [gate_eq, up_eq, back_eq]
  rfl

end Cert.Reference5Ideal.Mix
-- ==== Proof.Mix.WoValue.lean ====
/- What the program of the output weights' gradient leaves in its result: two halves of the product, added up. -/
module

public import proofs.«01_k».proof.Proof.Mix.Formulas
public import proofs.«01_k».proof.Proof.Gen.Kernel6Ideal.Value
public import Idealize.ShloMosaic.Lib.Pipeline.ValueKit

@[expose] public section
set_option maxRecDepth 16384
noncomputable section

namespace Cert.Kernel6Ideal.Mix
open Cert.Kernel6Ideal Cert.Kernel6Ideal.Gen Idealize.ShloMosaic Idealize.ShloMosaic.TcCoe Idealize.SL.Sem Cert.Ffn

variable (m : (ℓ : Loc nD τ sig) → Buf (Elt Ideal) ℓ) (c : Dev nD)

/-- The blocks of grid point `t`. -/
theorem at0 : ∀ t : Fin cfg0.N, win0_0.index t = ![t.val % 2, 0] ∧ win0_1.index t = ![t.val % 2, t.val / 2] ∧ win0_2.index t = ![0, t.val / 2] :=
  (by decide +kernel : ∀ t : Fin grid0.N, _)

/-- The `k`-th half of a product over the rows. -/
def part {n p : ℕ} (a : (⟨2, ![2176, n]⟩ : Shape).Idx → EReal) (b : (⟨2, ![2176, p]⟩ : Shape).Idx → EReal) (k : Fin 2) (i : (⟨2, ![n, p]⟩ : Shape).Idx) : EReal :=
  ∑ e : Fin 1088, a (ix2 ⟨k * 1088 + e, by omega⟩ (i 0)) * b (ix2 ⟨k * 1088 + e, by omega⟩ (i 1))

/-- The halves make up the product. -/
theorem sum_part {n p : ℕ} (a : (⟨2, ![2176, n]⟩ : Shape).Idx → EReal) (b : (⟨2, ![2176, p]⟩ : Shape).Idx → EReal) (i : (⟨2, ![n, p]⟩ : Shape).Idx) :
    ∑ k : Fin 2, part a b k i = tn a b i :=
  Fin.sum_mul_add_congr (L := 2176) (f := fun l => a (ix2 l (i 0)) * b (ix2 l (i 1))) fun k e hl => rfl

/-- What grid point `t` adds to its block. -/
def term (t : Fin cfg0.N) (b : S1024x512.Idx) : EReal := k0_pay1 (F := Ideal) (iblk m c 0 t) (iblk m c 1 t) b

/-- What is kept behind the last of a block's two points is the sum of what they add. -/
theorem kept (t : Fin cfg0.N) (hr : t.val % 2 = 2 - 1) (b : S1024x512.Idx) :
    (outsAt0 m c t.val t.isLt).2 b = 0 + ∑ s : Fin 2, term m c ⟨2 * (t.val / 2) + s.val, Pipeline.run_point_lt_of_flush t hr s⟩ b := by
  refine Pipeline.eq_sum_fin_of_reset_step_apply_of_flush (fun n h => (outsAt0 m c n h).2) 2 (fun _ => (0 : EReal)) (term m c) (fun t h i => ?_) (fun t h i => ?_) t hr b
  · rw [outsAt0_A m c t h (by omega) (by omega)]
    frame_out
    unfold term
    rw [eq_ix2 i]
    pointwise [k0_pay2]
  · rw [outsAt0_B m c t h (by omega) (by omega)]
    frame_out
    unfold term
    generalize (outsAt0 m c (t.val - 1) _).2 = X
    rw [eq_ix2 i]
    pointwise [k0_pay3]
    exact congrArg (· + _) (congrFun ((Memref.isWhole_whole cc0_scratch0).read_unread X) _)

/-- What is written is what is kept. -/
theorem written (t : Fin cfg0.N) (hr : t.val % 2 = 2 - 1) (b : S1024x512.Idx) : (outsAt0 m c t.val t.isLt).1 b = (outsAt0 m c t.val t.isLt).2 b := by
  rw [outsAt0_B m c t (by omega) (by omega) (by omega)]
  frame_out
  generalize (outsAt0 m c (t.val - 1) _).2 = X
  rw [eq_ix2 b]
  pointwise [k0_pay4]

/-- One element of what a point adds. -/
theorem term_at (t : Fin cfg0.N) (b : S1024x512.Idx) (i : S1024x1024.Idx) (h0 : (i 0 : ℕ) = b 0) (h1 : (i 1 : ℕ) = t.val / 2 * 512 + b 1) (k : Fin 2) (hk : (k : ℕ) = t.val % 2) :
    term m c t b = part (V m c main_v0 : FVec Ideal S2176x1024 .bf16) (V m c main_arg1 : FVec Ideal S2176x1024 .f32) k i := by
  unfold term
  rw [show b = ix2 (b 0) (b 1) from eq_ix2 b]
  pointwise [k0_pay1]
  unfold part
  refine Finset.sum_congr rfl fun e _ => congr (congrArg HMul.hMul ?_) ?_ <;> blk_point [iblk, at0 t]

/-- The result whole. -/
theorem array : (dats m 0 c).arrAt 2 cfg0.N = tn (V m c main_v0 : FVec Ideal S2176x1024 .bf16) (V m c main_arg1 : FVec Ideal S2176x1024 .f32) := by
  refine (dats m 0 c).arrAt_eq_of_covers 2 _ (by decide +kernel) (fun t hf y => ?_)
  have hr : t.val % 2 = 2 - 1 := (flush0_2 t).mp hf
  blk_simp
  rw [after0_2]
  refine (written m c t hr y).trans ((kept m c t hr y).trans ((zero_add _).trans (Eq.trans ?_ (sum_part _ _ _))))
  refine Finset.sum_congr rfl fun s _ => ?_
  refine term_at m c _ y _ ?_ ?_ s (by dsimp only; omega)
  · blk_simp [at0 t]
  · have hq : (2 * (t.val / 2) + s.val) / 2 = t.val / 2 := by omega
    try dsimp only
    try rw [hq]
    blk_simp [at0 t]

/-- The rows' array, as the program casts it. -/
theorem rows_at (x : FVec Ideal S2176x1024 .f32) (hx : m (c.tc.loc main_arg0) = x) : (V m c main_v0 : (⟨2, ![2176, 1024]⟩ : Shape).Idx → EReal) = x := by
  unfold V
  after_results
  rw [show m (c, Proc.devRef .tc main_arg0) = x from hx]
  funext i
  rw [eq_ix2 i]
  pointwise

/-- The other array, as it comes. -/
theorem grad_at (d : FVec Ideal S2176x1024 .f32) (hd : m (c.tc.loc main_arg1) = d) : (V m c main_arg1 : (⟨2, ![2176, 1024]⟩ : Shape).Idx → EReal) = d := hd

/-- The weights' gradient. -/
theorem out (x : FVec Ideal S2176x1024 .f32) (d : FVec Ideal S2176x1024 .f32) (hx : m (c.tc.loc main_arg0) = x) (hd : m (c.tc.loc main_arg1) = d) :
    ((dats m 0 c).arrAt 2 cfg0.N : FVec Ideal S1024x1024 .bf16) = tn x d :=
  (array m c).trans (tn_congr (rows_at m c x hx) (grad_at m c d hd))

end Cert.Kernel6Ideal.Mix
-- ==== Proof.Mix.BranchValue.lean ====
/- What the program of the first two branches' weights' gradient leaves in its result: two halves of the product, added up. -/
module

public import proofs.«01_k».proof.Proof.Mix.Formulas
public import proofs.«01_k».proof.Proof.Gen.Kernel7Ideal.Value
public import Idealize.ShloMosaic.Lib.Pipeline.ValueKit

@[expose] public section
set_option maxRecDepth 16384
noncomputable section

namespace Cert.Kernel7Ideal.Mix
open Cert.Kernel7Ideal Cert.Kernel7Ideal.Gen Idealize.ShloMosaic Idealize.ShloMosaic.TcCoe Idealize.SL.Sem Cert.Ffn

variable (m : (ℓ : Loc nD τ sig) → Buf (Elt Ideal) ℓ) (c : Dev nD)

/-- The blocks of grid point `t`. -/
theorem at0 : ∀ t : Fin cfg0.N, win0_0.index t = ![t.val, 0] ∧ win0_1.index t = ![t.val, 0] ∧ win0_2.index t = ![0, 0] :=
  (by decide +kernel : ∀ t : Fin grid0.N, _)

/-- The `k`-th half of a product over the rows. -/
def part {n p : ℕ} (a : (⟨2, ![2176, n]⟩ : Shape).Idx → EReal) (b : (⟨2, ![2176, p]⟩ : Shape).Idx → EReal) (k : Fin 2) (i : (⟨2, ![n, p]⟩ : Shape).Idx) : EReal :=
  ∑ e : Fin 1088, a (ix2 ⟨k * 1088 + e, by omega⟩ (i 0)) * b (ix2 ⟨k * 1088 + e, by omega⟩ (i 1))

/-- The halves make up the product. -/
theorem sum_part {n p : ℕ} (a : (⟨2, ![2176, n]⟩ : Shape).Idx → EReal) (b : (⟨2, ![2176, p]⟩ : Shape).Idx → EReal) (i : (⟨2, ![n, p]⟩ : Shape).Idx) :
    ∑ k : Fin 2, part a b k i = tn a b i :=
  Fin.sum_mul_add_congr (L := 2176) (f := fun l => a (ix2 l (i 0)) * b (ix2 l (i 1))) fun k e hl => rfl

/-- What grid point `t` adds to its block. -/
def term (t : Fin cfg0.N) (b : S1024x512.Idx) : EReal := k0_pay1 (F := Ideal) (iblk m c 0 t) (iblk m c 1 t) b

/-- What is kept behind the last of a block's two points is the sum of what they add. -/
theorem kept (t : Fin cfg0.N) (hr : t.val % 2 = 2 - 1) (b : S1024x512.Idx) :
    (outsAt0 m c t.val t.isLt).2 b = 0 + ∑ s : Fin 2, term m c ⟨2 * (t.val / 2) + s.val, Pipeline.run_point_lt_of_flush t hr s⟩ b := by
  refine Pipeline.eq_sum_fin_of_reset_step_apply_of_flush (fun n h => (outsAt0 m c n h).2) 2 (fun _ => (0 : EReal)) (term m c) (fun t h i => ?_) (fun t h i => ?_) t hr b
  · rw [outsAt0_A m c t h (by omega) (by omega)]
    frame_out
    unfold term
    rw [eq_ix2 i]
    pointwise [k0_pay2]
  · rw [outsAt0_B m c t h (by omega) (by omega)]
    frame_out
    unfold term
    generalize (outsAt0 m c (t.val - 1) _).2 = X
    rw [eq_ix2 i]
    pointwise [k0_pay3]
    exact congrArg (· + _) (congrFun ((Memref.isWhole_whole cc0_scratch0).read_unread X) _)

/-- What is written is what is kept. -/
theorem written (t : Fin cfg0.N) (hr : t.val % 2 = 2 - 1) (b : S1024x512.Idx) : (outsAt0 m c t.val t.isLt).1 b = (outsAt0 m c t.val t.isLt).2 b := by
  rw [outsAt0_B m c t (by omega) (by omega) (by omega)]
  frame_out
  generalize (outsAt0 m c (t.val - 1) _).2 = X
  rw [eq_ix2 b]
  pointwise [k0_pay4]

/-- One element of what a point adds. -/
theorem term_at (t : Fin cfg0.N) (b : S1024x512.Idx) (i : S1024x512.Idx) (h0 : (i 0 : ℕ) = b 0) (h1 : (i 1 : ℕ) = b 1) (k : Fin 2) (hk : (k : ℕ) = t.val % 2) :
    term m c t b = part (V m c main_arg1 : FVec Ideal S2176x1024 .f32) (V m c main_arg0 : FVec Ideal S2176x512 .f32) k i := by
  unfold term
  rw [show b = ix2 (b 0) (b 1) from eq_ix2 b]
  pointwise [k0_pay1]
  unfold part
  refine Finset.sum_congr rfl fun e _ => congr (congrArg HMul.hMul ?_) ?_ <;> blk_point [iblk, at0 t]

/-- The result whole. -/
theorem array : (dats m 0 c).arrAt 2 cfg0.N = tn (V m c main_arg1 : FVec Ideal S2176x1024 .f32) (V m c main_arg0 : FVec Ideal S2176x512 .f32) := by
  refine (dats m 0 c).arrAt_eq_of_covers 2 _ (by decide +kernel) (fun t hf y => ?_)
  have hr : t.val % 2 = 2 - 1 := (flush0_2 t).mp hf
  blk_simp
  rw [after0_2]
  refine (written m c t hr y).trans ((kept m c t hr y).trans ((zero_add _).trans (Eq.trans ?_ (sum_part _ _ _))))
  refine Finset.sum_congr rfl fun s _ => ?_
  refine term_at m c _ y _ ?_ ?_ s (by dsimp only; omega)
  · blk_simp [at0 t]
  · have hq : (2 * (t.val / 2) + s.val) / 2 = t.val / 2 := by omega
    try dsimp only
    try rw [hq]
    blk_simp [at0 t]

/-- The rows' array, as it comes. -/
theorem rows_at (x : FVec Ideal S2176x512 .f32) (hx : m (c.tc.loc main_arg0) = x) : (V m c main_arg0 : (⟨2, ![2176, 512]⟩ : Shape).Idx → EReal) = x := hx

/-- The other array, as it comes. -/
theorem grad_at (d : FVec Ideal S2176x1024 .f32) (hd : m (c.tc.loc main_arg1) = d) : (V m c main_arg1 : (⟨2, ![2176, 1024]⟩ : Shape).Idx → EReal) = d := hd

/-- The weights' gradient. -/
theorem out (x : FVec Ideal S2176x512 .f32) (d : FVec Ideal S2176x1024 .f32) (hx : m (c.tc.loc main_arg0) = x) (hd : m (c.tc.loc main_arg1) = d) :
    ((dats m 0 c).arrAt 2 cfg0.N : FVec Ideal S1024x512 .bf16) = tn d x :=
  (array m c).trans (tn_congr (grad_at m c d hd) (rows_at m c x hx))

end Cert.Kernel7Ideal.Mix
-- ==== Proof.Mix.ThirdValue.lean ====
/- What the program of the third branch's weights' gradient leaves in its result: two halves of the product, added up. -/
module

public import proofs.«01_k».proof.Proof.Mix.BranchValue
public import proofs.«01_k».proof.Proof.Gen.Kernel9Ideal.Value

@[expose] public section
set_option maxRecDepth 16384
noncomputable section

namespace Cert.Kernel9Ideal.Mix
open Cert.Kernel9Ideal Cert.Kernel9Ideal.Gen Idealize.ShloMosaic Idealize.ShloMosaic.TcCoe Idealize.SL.Sem Cert.Ffn
open Cert.Kernel7Ideal.Mix (part sum_part)

variable (m : (ℓ : Loc nD τ sig) → Buf (Elt Ideal) ℓ) (c : Dev nD)

/-- The blocks of grid point `t`. -/
theorem at0 : ∀ t : Fin cfg0.N, win0_0.index t = ![t.val, 0] ∧ win0_1.index t = ![t.val, 0] ∧ win0_2.index t = ![0, 0] :=
  (by decide +kernel : ∀ t : Fin grid0.N, _)

/-- What grid point `t` adds to its block. -/
def term (t : Fin cfg0.N) (b : S1024x512.Idx) : EReal := k0_pay1 (F := Ideal) (iblk m c 0 t) (iblk m c 1 t) b

/-- What is kept behind the last of a block's two points is the sum of what they add. -/
theorem kept (t : Fin cfg0.N) (hr : t.val % 2 = 2 - 1) (b : S1024x512.Idx) :
    (outsAt0 m c t.val t.isLt).2 b = 0 + ∑ s : Fin 2, term m c ⟨2 * (t.val / 2) + s.val, Pipeline.run_point_lt_of_flush t hr s⟩ b := by
  refine Pipeline.eq_sum_fin_of_reset_step_apply_of_flush (fun n h => (outsAt0 m c n h).2) 2 (fun _ => (0 : EReal)) (term m c) (fun t h i => ?_) (fun t h i => ?_) t hr b
  · rw [outsAt0_A m c t h (by omega) (by omega)]
    frame_out
    unfold term
    rw [eq_ix2 i]
    pointwise [k0_pay2]
  · rw [outsAt0_B m c t h (by omega) (by omega)]
    frame_out
    unfold term
    generalize (outsAt0 m c (t.val - 1) _).2 = X
    rw [eq_ix2 i]
    pointwise [k0_pay3]
    exact congrArg (· + _) (congrFun ((Memref.isWhole_whole cc0_scratch0).read_unread X) _)

/-- What is written is what is kept. -/
theorem written (t : Fin cfg0.N) (hr : t.val % 2 = 2 - 1) (b : S1024x512.Idx) : (outsAt0 m c t.val t.isLt).1 b = (outsAt0 m c t.val t.isLt).2 b := by
  rw [outsAt0_B m c t (by omega) (by omega) (by omega)]
  frame_out
  generalize (outsAt0 m c (t.val - 1) _).2 = X
  rw [eq_ix2 b]
  pointwise [k0_pay4]

/-- One element of what a point adds. -/
theorem term_at (t : Fin cfg0.N) (b : S1024x512.Idx) (i : S1024x512.Idx) (h0 : (i 0 : ℕ) = b 0) (h1 : (i 1 : ℕ) = b 1) (k : Fin 2) (hk : (k : ℕ) = t.val % 2) :
    term m c t b = part (V m c main_arg1 : FVec Ideal S2176x1024 .f32) (V m c main_v0 : FVec Ideal S2176x512 .bf16) k i := by
  unfold term
  rw [show b = ix2 (b 0) (b 1) from eq_ix2 b]
  pointwise [k0_pay1]
  unfold part
  refine Finset.sum_congr rfl fun e _ => congr (congrArg HMul.hMul ?_) ?_ <;> blk_point [iblk, at0 t]

/-- The result whole. -/
theorem array : (dats m 0 c).arrAt 2 cfg0.N = tn (V m c main_arg1 : FVec Ideal S2176x1024 .f32) (V m c main_v0 : FVec Ideal S2176x512 .bf16) := by
  refine (dats m 0 c).arrAt_eq_of_covers 2 _ (by decide +kernel) (fun t hf y => ?_)
  have hr : t.val % 2 = 2 - 1 := (flush0_2 t).mp hf
  blk_simp
  rw [after0_2]
  refine (written m c t hr y).trans ((kept m c t hr y).trans ((zero_add _).trans (Eq.trans ?_ (sum_part _ _ _))))
  refine Finset.sum_congr rfl fun s _ => ?_
  refine term_at m c _ y _ ?_ ?_ s (by dsimp only; omega)
  · blk_simp [at0 t]
  · have hq : (2 * (t.val / 2) + s.val) / 2 = t.val / 2 := by omega
    try dsimp only
    try rw [hq]
    blk_simp [at0 t]

/-- The rows' array, as the program casts it. -/
theorem rows_at (x : FVec Ideal S2176x512 .f32) (hx : m (c.tc.loc main_arg0) = x) : (V m c main_v0 : (⟨2, ![2176, 512]⟩ : Shape).Idx → EReal) = x := by
  unfold V
  after_results
  rw [show m (c, Proc.devRef .tc main_arg0) = x from hx]
  funext i
  rw [eq_ix2 i]
  pointwise

/-- The other array, as it comes. -/
theorem grad_at (d : FVec Ideal S2176x1024 .f32) (hd : m (c.tc.loc main_arg1) = d) : (V m c main_arg1 : (⟨2, ![2176, 1024]⟩ : Shape).Idx → EReal) = d := hd

/-- The weights' gradient. -/
theorem out (x : FVec Ideal S2176x512 .f32) (d : FVec Ideal S2176x1024 .f32) (hx : m (c.tc.loc main_arg0) = x) (hd : m (c.tc.loc main_arg1) = d) :
    ((dats m 0 c).arrAt 2 cfg0.N : FVec Ideal S1024x512 .bf16) = tn d x :=
  (array m c).trans (tn_congr (grad_at m c d hd) (rows_at m c x hx))

end Cert.Kernel9Ideal.Mix
-- ==== Proof.Mix.RefWeights.lean ====
/- The references of the weights' gradients: each is the product of the rows with the gradient that comes in. -/
module

public import proofs.«01_k».proof.Proof.Gen.Reference6Ideal.Run
public import proofs.«01_k».proof.Proof.Gen.Reference7Ideal.Run
public import proofs.«01_k».proof.Proof.Mix.Formulas

@[expose] public section
set_option maxRecDepth 16384
noncomputable section

namespace Cert.Reference6Ideal.Mix
open Cert.Reference6Ideal Cert.Reference6Ideal.Gen Idealize.ShloMosaic Idealize.ShloMosaic.TcCoe Idealize.SL.Sem Cert.Ffn

/-- The output weights' gradient. -/
theorem grad_eq (x d : FVec Ideal S2176x1024 .f32) :
    (truncf .bf16 (transpose S1024x1024 [1, 0] (Host.dotGeneral dot_S2176x1024_S2176x1024_S1024x1024_0_0_1_1_n_n none d x) transposes_S1024x1024_S1024x1024_1_0) bitsLt_bf16_f32 : FVec Ideal S1024x1024 .bf16) = tn x d := by
  refine Eq.trans ?_ (tr_tn (m := 1024) (n := 1024) d x)
  funext i
  rw [eq_ix2 i]
  pointwise
  rfl

end Cert.Reference6Ideal.Mix

namespace Cert.Reference7Ideal.Mix
open Cert.Reference7Ideal Cert.Reference7Ideal.Gen Idealize.ShloMosaic Idealize.ShloMosaic.TcCoe Idealize.SL.Sem Cert.Ffn

/-- A branch weights' gradient, with the columns first. -/
theorem grad_eq (x : FVec Ideal S2176x512 .f32) (d : FVec Ideal S2176x1024 .f32) :
    (truncf .bf16 (transpose S1024x512 [1, 0] (transpose S512x1024 [1, 0] (Host.dotGeneral dot_S2176x1024_S2176x512_S1024x512_0_0_1_1_n_n none d x) transposes_S1024x512_S512x1024_1_0) transposes_S512x1024_S1024x512_1_0) bitsLt_bf16_f32 : FVec Ideal S1024x512 .bf16) = tn d x := by
  funext i
  rw [eq_ix2 i]
  pointwise
  rfl

end Cert.Reference7Ideal.Mix
-- ==== Proof.Mix.Claims.lean ====
/- The claims of the merge of the branches: the frames of its programs, and the equality of its output and gradients. -/
module

public import proofs.«01_k».proof.Defs
public import proofs.«01_k».proof.Proof.Mix.Run
public import proofs.«01_k».proof.Proof.Mix.Value
public import proofs.«01_k».proof.Proof.Mix.RefValue
public import proofs.«01_k».proof.Proof.Mix.WoValue
public import proofs.«01_k».proof.Proof.Mix.ThirdValue
public import proofs.«01_k».proof.Proof.Mix.RefWeights
public import proofs.«01_k».proof.Proof.Gen.Kernel5.Frame
public import proofs.«01_k».proof.Proof.Gen.Kernel6.Frame
public import proofs.«01_k».proof.Proof.Gen.Kernel7.Frame
public import proofs.«01_k».proof.Proof.Gen.Kernel9.Frame

@[expose] public section
set_option maxRecDepth 16384
noncomputable section

namespace Cert.Proof
open Idealize.ShloMosaic Idealize.ShloMosaic.TcCoe Idealize.SL.Sem

theorem frame_kernel5 : Cert.quiescent_Kernel5 := fun m g _ => Cert.Kernel5.Gen.frame m g
theorem frame_ideal5 : Cert.quiescent_Kernel5Ideal := fun m g _ => Cert.Kernel5Ideal.Gen.frame m g
theorem frame_reference5 : Cert.quiescent_Reference5Ideal := fun m g _ =>
  (θ_run Cert.Reference5Ideal.defs _ _).mono (fun r h => ⟨fun c => (h c).2.2.2.2.2.2.2, sem_eq_zero_of_no_sems (by decide) r.2⟩)
    (Cert.Reference5Ideal.Value.run (F := Ideal) m g)

theorem preserves5 : Cert.preserves_Kernel5_Kernel5Ideal := trivial

open Cert.Kernel5Ideal Cert.Kernel5Ideal.Gen in
theorem algebraic5 : Cert.algebraic_Kernel5Ideal_Reference5Ideal := by
  intro m g m' g' _ hargs
  have hA := fun c => (⟨rfl, rfl, rfl, rfl, rfl, rfl, rfl, rfl, rfl, rfl, rfl⟩ : Cert.Kernel5Ideal.Mix.Args m c _ _ _ _ _ _ _ _ _ _ _)
  refine ⟨fun c => W12 m g c (Proc.devRef .tc main_v12),
    fun c => W12 m g c (Proc.devRef .tc main_v15),
    fun c => W12 m g c (Proc.devRef .tc main_v16),
    fun c => W12 m g c (Proc.devRef .tc main_v18),
    fun c => W12 m g c (Proc.devRef .tc main_v14_0),
    fun c => W12 m g c (Proc.devRef .tc main_v14_1),
    fun c => W12 m g c (Proc.devRef .tc main_v14_2), ?_, ?_⟩
  · exact (θ_run Cert.Kernel5Ideal.defs _ _).mono (fun r h c =>
      ⟨h.1 c _ (mem_uc main_v12 (by decide)),
       h.1 c _ (mem_uc main_v15 (by decide)),
       h.1 c _ (mem_uc main_v16 (by decide)),
       h.1 c _ (mem_uc main_v18 (by decide)),
       h.1 c _ (mem_uc main_v14_0 (by decide)),
       h.1 c _ (mem_uc main_v14_1 (by decide)),
       h.1 c _ (mem_uc main_v14_2 (by decide)),
       (h.1 c _ (mem_uc main_arg0 (by decide))).trans (W12_main_arg0 m g c),
       (h.1 c _ (mem_uc main_arg1 (by decide))).trans (W12_main_arg1 m g c),
       (h.1 c _ (mem_uc main_arg2 (by decide))).trans (W12_main_arg2 m g c),
       (h.1 c _ (mem_uc main_arg3 (by decide))).trans (W12_main_arg3 m g c),
       (h.1 c _ (mem_uc main_arg4 (by decide))).trans (W12_main_arg4 m g c),
       (h.1 c _ (mem_uc main_arg5 (by decide))).trans (W12_main_arg5 m g c),
       (h.1 c _ (mem_uc main_arg6 (by decide))).trans (W12_main_arg6 m g c),
       (h.1 c _ (mem_uc main_arg7 (by decide))).trans (W12_main_arg7 m g c),
       (h.1 c _ (mem_uc main_arg8 (by decide))).trans (W12_main_arg8 m g c),
       (h.1 c _ (mem_uc main_arg9 (by decide))).trans (W12_main_arg9 m g c),
       (h.1 c _ (mem_uc main_arg10 (by decide))).trans (W12_main_arg10 m g c)⟩)
      (Cert.Kernel5Ideal.Mix.run_all (F := Ideal) m g)
  · refine (θ_run Cert.Reference5Ideal.defs _ _).mono (fun r h c => ?_) (Cert.Reference5Ideal.Value.run (F := Ideal) m' g')
    obtain ⟨a0, a1, a2, a3, a4, a5, a6, a7, a8, a9, a10⟩ := hargs c
    obtain ⟨r0, r1, r2, r3, r4, r5, r6, kept⟩ := h c
    rw [a0, a1, a2, a3, a4, a5, a6, a7, a8, a9] at r0
    rw [a3, a10, a9, a6] at r1
    rw [a4, a10, a9, a7] at r2
    rw [a5, a10, a9, a8] at r3
    rw [a10, a9, a0, a6, a3] at r4
    rw [a10, a9, a1, a7, a4] at r5
    rw [a10, a9, a2, a8, a5] at r6
    exact ⟨(r0.trans (Cert.Reference5Ideal.Mix.out_eq _ _ _ _ _ _ _ _ _ _)).trans (Cert.Kernel5Ideal.Mix.out0 g (hA c)).symm,
      (r1.trans (Cert.Reference5Ideal.Mix.dbranch_eq _ _ _ _)).trans (Cert.Kernel5Ideal.Mix.out1 g (hA c)).symm,
      (r2.trans (Cert.Reference5Ideal.Mix.dbranch_eq _ _ _ _)).trans (Cert.Kernel5Ideal.Mix.out2 g (hA c)).symm,
      (r3.trans (Cert.Reference5Ideal.Mix.dbranch_eq _ _ _ _)).trans (Cert.Kernel5Ideal.Mix.out3 g (hA c)).symm,
      (r4.trans (Cert.Reference5Ideal.Mix.dgate_eq _ _ _ _ _)).trans (Cert.Kernel5Ideal.Mix.out4 g (hA c)).symm,
      (r5.trans (Cert.Reference5Ideal.Mix.dgate_eq _ _ _ _ _)).trans (Cert.Kernel5Ideal.Mix.out5 g (hA c)).symm,
      (r6.trans (Cert.Reference5Ideal.Mix.dgate_eq _ _ _ _ _)).trans (Cert.Kernel5Ideal.Mix.out6 g (hA c)).symm,
      kept⟩

theorem frame_kernel6 : Cert.quiescent_Kernel6 := fun m g _ => Cert.Kernel6.Gen.frame m g
theorem frame_ideal6 : Cert.quiescent_Kernel6Ideal := fun m g _ => Cert.Kernel6Ideal.Gen.frame m g
theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem preserves6 : Cert.preserves_Kernel6_Kernel6Ideal := trivial

theorem algebraic6 : Cert.algebraic_Kernel6Ideal_Reference6Ideal := by
  intro m g m' g' _ hargs
  refine ⟨fun c => (Cert.Kernel6Ideal.Gen.dats m 0 c).arrAt 2 Cert.Kernel6Ideal.cfg0.N, Cert.Kernel6Ideal.Value.run_blocks (F := Ideal) m g, ?_⟩
  refine (θ_run Cert.Reference6Ideal.defs _ _).mono (fun r h c => ?_) (Cert.Reference6Ideal.Value.run (F := Ideal) m' g')
  obtain ⟨a0, a1⟩ := hargs c
  obtain ⟨r0, kept⟩ := h c
  rw [a0, a1] at r0
  exact ⟨(r0.trans (Cert.Reference6Ideal.Mix.grad_eq _ _)).trans (Cert.Kernel6Ideal.Mix.out m c _ _ rfl rfl).symm, kept⟩

theorem frame_kernel7 : Cert.quiescent_Kernel7 := fun m g _ => Cert.Kernel7.Gen.frame m g
theorem frame_ideal7 : Cert.quiescent_Kernel7Ideal := fun m g _ => Cert.Kernel7Ideal.Gen.frame m g
theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem preserves7 : Cert.preserves_Kernel7_Kernel7Ideal := trivial

theorem algebraic7 : Cert.algebraic_Kernel7Ideal_Reference7Ideal := by
  intro m g m' g' _ hargs
  refine ⟨fun c => (Cert.Kernel7Ideal.Gen.dats m 0 c).arrAt 2 Cert.Kernel7Ideal.cfg0.N, Cert.Kernel7Ideal.Value.run_blocks (F := Ideal) m g, ?_⟩
  refine (θ_run Cert.Reference7Ideal.defs _ _).mono (fun r h c => ?_) (Cert.Reference7Ideal.Value.run (F := Ideal) m' g')
  obtain ⟨a0, a1⟩ := hargs c
  obtain ⟨r0, kept⟩ := h c
  rw [a0, a1] at r0
  exact ⟨(r0.trans (Cert.Reference7Ideal.Mix.grad_eq _ _)).trans (Cert.Kernel7Ideal.Mix.out m c _ _ rfl rfl).symm, kept⟩

theorem frame_kernel9 : Cert.quiescent_Kernel9 := fun m g _ => Cert.Kernel9.Gen.frame m g
theorem frame_ideal9 : Cert.quiescent_Kernel9Ideal := fun m g _ => Cert.Kernel9Ideal.Gen.frame m g
theorem preserves9 : Cert.preserves_Kernel9_Kernel9Ideal := trivial

theorem algebraic9 : Cert.algebraic_Kernel9Ideal_Reference7Ideal := by
  intro m g m' g' _ hargs
  refine ⟨fun c => (Cert.Kernel9Ideal.Gen.dats m 0 c).arrAt 2 Cert.Kernel9Ideal.cfg0.N, Cert.Kernel9Ideal.Value.run_blocks (F := Ideal) m g, ?_⟩
  refine (θ_run Cert.Reference7Ideal.defs _ _).mono (fun r h c => ?_) (Cert.Reference7Ideal.Value.run (F := Ideal) m' g')
  obtain ⟨a0, a1⟩ := hargs c
  obtain ⟨r0, kept⟩ := h c
  rw [a0, a1] at r0
  exact ⟨(r0.trans (Cert.Reference7Ideal.Mix.grad_eq _ _)).trans (Cert.Kernel9Ideal.Mix.out m c _ _ rfl rfl).symm, kept⟩

end Cert.Proof
-- ==== Proof.Fwd.Regions.lean ====
/- The four calls of the attention's forward pass: each body's specification and the proof data of its pipeline, at any contents
   of the buffers when the call is entered. Call `s` serves the queries from row 544 s on, against keys 0 … 544 s + 543. -/
module

public import proofs.«01_k».proof.Proof.Gen.Kernel8Ideal.Launch
public import proofs.«01_k».proof.Proof.Gen.Kernel8Ideal.Skeleton
public import proofs.«01_k».proof.Proof.Gen.Kernel8Ideal.Points
public import Idealize.ShloMosaic.Lib.Pipeline.ValueKit
public import Idealize.ShloMosaic.Lib.Ring

@[expose] public section

set_option maxRecDepth 16384

noncomputable section

namespace Cert.Kernel8Ideal.Fwd

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

private theorem zeros : (![0, 0, 0] : Fin 3 → ℕ) = fun _ => 0 := by funext a; fin_cases a <;> rfl

/-- A load of a whole buffer through the rectangle at offset zero gives what the buffer holds. -/
private theorem load_whole {S : Shape} {e : EltTy} (m : Memref sig .tc .vmem S e) (h : m.IsWhole) (x : Vec F S e) {off : Fin S.rank → ℕ}
    (ho : off = fun _ => 0) (inb : ∀ a, off a + S.size a ≤ S.size a) :
    m.view.readAt (Elt F) (Rect.unit off S.size inb).toLoadRect (h.unread x) = x := by
  rw [View.readAt_eq_ld, Memref.IsWhole.read_unread]; exact View.ld_unit_zero ho inb x

set_option maxHeartbeats 2000000 in
/-- The body leaves the attention of its block of queries. -/
theorem sound0 (c : Dev nD) (i : grid0.Coords) (arg2 : Memref sig .tc .vmem S1x272x128 .bf16) (harg2 : arg2.IsWhole) (arg3 : Memref sig .tc .vmem S1x544x128 .bf16) (harg3 : arg3.IsWhole)
    (arg4 : Memref sig .tc .vmem S1x544x64 .bf16) (harg4 : arg4.IsWhole) (arg5 : Memref sig .tc .vmem S1x272x64 .f32) (harg5 : arg5.IsWhole)
    (x0 : Vec F S1x272x128 .bf16) (x1 : Vec F S1x544x128 .bf16) (x2 : Vec F S1x544x64 .bf16) (E : Set ℕ) (Q : PUnit → sProp 𝕄) :
    iprop(owns c.tc arg2 fullShare x0 ∗ owns c.tc arg3 fullShare x1 ∗ owns c.tc arg4 fullShare x2 ∗ (∃ d, owns c.tc arg5 fullShare d)
        ∗ (iprop(owns c.tc arg2 fullShare x0 ∗ owns c.tc arg3 fullShare x1 ∗ owns c.tc arg4 fullShare x2
          ∗ owns c.tc arg5 fullShare (k0_pay1 i x0 x1 x2)) -∗ Q ⟨⟩))
      ⊢ wp frame (wpE (defs₀ (F := F)) Variants.none c none) E (cc0_attn_fwd_seg0 i arg2 harg2 arg3 harg3 arg4 harg4 arg5 harg5) Q := by
  simp only [cc0_attn_fwd_seg0_eq_skeleton]; unfold cc0_attn_fwd_seg0_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  refine (View.read_writes_eq_canon _ _ _ (View.cover_of_tiled _ S1x272x64.size (by rfl))).trans ?_
  rw [View.canon_unit_zero zeros]
  iterate 3 (try rw [load_whole _ _ _ zeros])

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

variable (c : Dev nD) (t : Fin cfg0.N)

/-- The pipeline's proof data: the arrays as the call finds them, and what each buffer holds after the body at a point. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (grid0.coords t) (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := by
  dsimp only [dat0]
theorem after0_0 : (dat0 V c).after 0 t = iblk0 V c 0 t := rfl
theorem after0_1 : (dat0 V c).after 1 t = iblk0 V c 1 t := rfl
theorem after0_2 : (dat0 V c).after 2 t = iblk0 V c 2 t := rfl
theorem after0_3 : (dat0 V c).after 3 t = k0_pay1 (grid0.coords t) (iblk0 V c 0 t) (iblk0 V c 1 t) (iblk0 V c 2 t) := rfl

theorem before0_0 (d) : (dat0 V c).before 0 t d = iblk0 V c 0 t :=
  ((dat0 V c).before_in_eq_fetched 0 rfl (fun _ => rfl) (fun _ _ _ => rfl) (fun _ => rfl) t d).trans rfl
theorem before0_1 (d) : (dat0 V c).before 1 t d = iblk0 V c 1 t :=
  ((dat0 V c).before_in_eq_fetched 1 rfl (fun _ => rfl) (fun _ _ _ => rfl) (fun _ => rfl) t d).trans rfl
theorem before0_2 (d) : (dat0 V c).before 2 t d = iblk0 V c 2 t :=
  ((dat0 V c).before_in_eq_fetched 2 rfl (fun _ => rfl) (fun _ _ _ => rfl) (fun _ => rfl) t d).trans rfl

def bodyPre0 : sProp 𝕄 :=
  iprop((dat0 V c).Φ t.castSucc ∗ (dat0 V c).owesAt () t.castSucc
    ∗ (∃ d, owns c.tc (st0_0 t) fullShare ((dat0 V c).before 0 t d))
    ∗ (∃ d, owns c.tc (st0_1 t) fullShare ((dat0 V c).before 1 t d))
    ∗ (∃ d, owns c.tc (st0_2 t) fullShare ((dat0 V c).before 2 t d))
    ∗ (∃ d, owns c.tc (st0_3 t) fullShare ((dat0 V c).before 3 t d)))
def bodyPost0 : sProp 𝕄 :=
  iprop((dat0 V c).Φ t.succ ∗ (dat0 V c).owesAt () t.succ
    ∗ owns c.tc (st0_0 t) fullShare ((dat0 V c).after 0 t)
    ∗ owns c.tc (st0_1 t) fullShare ((dat0 V c).after 1 t)
    ∗ owns c.tc (st0_2 t) fullShare ((dat0 V c).after 2 t)
    ∗ owns c.tc (st0_3 t) fullShare ((dat0 V c).after 3 t))

theorem sound_body0 :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound0 c (grid0.coords t) _ _ _ _ _ _ _ _ (iblk0 V c 0 t) (iblk0 V c 1 t) (iblk0 V c 2 t) Set.univ _)
  iframe H0 H1 H2
  isplitl [H3]; · iexists _; iexact H3
  iintro ⟨H0, H1, H2, H3⟩
  iframe

theorem defs₀_row0 :
    defs₀ (F := F) .tc cfg0.body (cfg0.bodyArgs t (cfg0.slots t)) = bodyAt0 t := by
  unfold defs₀; rw [Defs.onTc_tc]

/-- The body meets the pipeline's obligation at every point. -/
theorem body_obligation0 : BodyObligation (dat0 (F := F) V c) (defs₀ (F := F)) Variants.none () Set.univ := fun t => by
  rw [bigSep_W0, bigSep_W0, defs₀_row0]
  exact triple_restated (sound_body0 V c t) rfl .rfl fun _ => .rfl

end

set_option maxHeartbeats 2000000 in
/-- The body leaves the attention of its block of queries. -/
theorem sound1 (c : Dev nD) (i : grid1.Coords) (arg2 : Memref sig .tc .vmem S1x272x128 .bf16) (harg2 : arg2.IsWhole) (arg3 : Memref sig .tc .vmem S1x1088x128 .bf16) (harg3 : arg3.IsWhole)
    (arg4 : Memref sig .tc .vmem S1x1088x64 .bf16) (harg4 : arg4.IsWhole) (arg5 : Memref sig .tc .vmem S1x272x64 .f32) (harg5 : arg5.IsWhole)
    (x0 : Vec F S1x272x128 .bf16) (x1 : Vec F S1x1088x128 .bf16) (x2 : Vec F S1x1088x64 .bf16) (E : Set ℕ) (Q : PUnit → sProp 𝕄) :
    iprop(owns c.tc arg2 fullShare x0 ∗ owns c.tc arg3 fullShare x1 ∗ owns c.tc arg4 fullShare x2 ∗ (∃ d, owns c.tc arg5 fullShare d)
        ∗ (iprop(owns c.tc arg2 fullShare x0 ∗ owns c.tc arg3 fullShare x1 ∗ owns c.tc arg4 fullShare x2
          ∗ owns c.tc arg5 fullShare (k1_pay1 i x0 x1 x2)) -∗ Q ⟨⟩))
      ⊢ wp frame (wpE (defs₀ (F := F)) Variants.none c none) E (cc1_attn_fwd_seg1 i arg2 harg2 arg3 harg3 arg4 harg4 arg5 harg5) Q := by
  simp only [cc1_attn_fwd_seg1_eq_skeleton]; unfold cc1_attn_fwd_seg1_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  refine (View.read_writes_eq_canon _ _ _ (View.cover_of_tiled _ S1x272x64.size (by rfl))).trans ?_
  rw [View.canon_unit_zero zeros]
  iterate 3 (try rw [load_whole _ _ _ zeros])

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

variable (c : Dev nD) (t : Fin cfg1.N)

/-- The pipeline's proof data: the arrays as the call finds them, and what each buffer holds after the body at a point. -/
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (grid1.coords t) (iblk1 V c 0 t) (iblk1 V c 1 t) (iblk1 V c 2 t)
  Φ _ := Pipeline.ΦA spec1 c
  q _ := fullShare
  owed _ := 0

theorem A_eq1 (w : Fin cfg1.W) : (dat1 V c).A w = V c (Pipeline.arrRef spec1 w) := by
  dsimp only [dat1]
theorem after1_0 : (dat1 V c).after 0 t = iblk1 V c 0 t := rfl
theorem after1_1 : (dat1 V c).after 1 t = iblk1 V c 1 t := rfl
theorem after1_2 : (dat1 V c).after 2 t = iblk1 V c 2 t := rfl
theorem after1_3 : (dat1 V c).after 3 t = k1_pay1 (grid1.coords t) (iblk1 V c 0 t) (iblk1 V c 1 t) (iblk1 V c 2 t) := rfl

theorem before1_0 (d) : (dat1 V c).before 0 t d = iblk1 V c 0 t :=
  ((dat1 V c).before_in_eq_fetched 0 rfl (fun _ => rfl) (fun _ _ _ => rfl) (fun _ => rfl) t d).trans rfl
theorem before1_1 (d) : (dat1 V c).before 1 t d = iblk1 V c 1 t :=
  ((dat1 V c).before_in_eq_fetched 1 rfl (fun _ => rfl) (fun _ _ _ => rfl) (fun _ => rfl) t d).trans rfl
theorem before1_2 (d) : (dat1 V c).before 2 t d = iblk1 V c 2 t :=
  ((dat1 V c).before_in_eq_fetched 2 rfl (fun _ => rfl) (fun _ _ _ => rfl) (fun _ => rfl) t d).trans rfl

def bodyPre1 : sProp 𝕄 :=
  iprop((dat1 V c).Φ t.castSucc ∗ (dat1 V c).owesAt () t.castSucc
    ∗ (∃ d, owns c.tc (st1_0 t) fullShare ((dat1 V c).before 0 t d))
    ∗ (∃ d, owns c.tc (st1_1 t) fullShare ((dat1 V c).before 1 t d))
    ∗ (∃ d, owns c.tc (st1_2 t) fullShare ((dat1 V c).before 2 t d))
    ∗ (∃ d, owns c.tc (st1_3 t) fullShare ((dat1 V c).before 3 t d)))
def bodyPost1 : sProp 𝕄 :=
  iprop((dat1 V c).Φ t.succ ∗ (dat1 V c).owesAt () t.succ
    ∗ owns c.tc (st1_0 t) fullShare ((dat1 V c).after 0 t)
    ∗ owns c.tc (st1_1 t) fullShare ((dat1 V c).after 1 t)
    ∗ owns c.tc (st1_2 t) fullShare ((dat1 V c).after 2 t)
    ∗ owns c.tc (st1_3 t) fullShare ((dat1 V c).after 3 t))

theorem sound_body1 :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound1 c (grid1.coords t) _ _ _ _ _ _ _ _ (iblk1 V c 0 t) (iblk1 V c 1 t) (iblk1 V c 2 t) Set.univ _)
  iframe H0 H1 H2
  isplitl [H3]; · iexists _; iexact H3
  iintro ⟨H0, H1, H2, H3⟩
  iframe

theorem defs₀_row1 :
    defs₀ (F := F) .tc cfg1.body (cfg1.bodyArgs t (cfg1.slots t)) = bodyAt1 t := by
  unfold defs₀; rw [Defs.onTc_tc]

/-- The body meets the pipeline's obligation at every point. -/
theorem body_obligation1 : BodyObligation (dat1 (F := F) V c) (defs₀ (F := F)) Variants.none () Set.univ := fun t => by
  rw [bigSep_W1, bigSep_W1, defs₀_row1]
  exact triple_restated (sound_body1 V c t) rfl .rfl fun _ => .rfl

end

set_option maxHeartbeats 2000000 in
/-- The body leaves the attention of its block of queries. -/
theorem sound2 (c : Dev nD) (i : grid2.Coords) (arg2 : Memref sig .tc .vmem S1x272x128 .bf16) (harg2 : arg2.IsWhole) (arg3 : Memref sig .tc .vmem S1x1632x128 .bf16) (harg3 : arg3.IsWhole)
    (arg4 : Memref sig .tc .vmem S1x1632x64 .bf16) (harg4 : arg4.IsWhole) (arg5 : Memref sig .tc .vmem S1x272x64 .f32) (harg5 : arg5.IsWhole)
    (x0 : Vec F S1x272x128 .bf16) (x1 : Vec F S1x1632x128 .bf16) (x2 : Vec F S1x1632x64 .bf16) (E : Set ℕ) (Q : PUnit → sProp 𝕄) :
    iprop(owns c.tc arg2 fullShare x0 ∗ owns c.tc arg3 fullShare x1 ∗ owns c.tc arg4 fullShare x2 ∗ (∃ d, owns c.tc arg5 fullShare d)
        ∗ (iprop(owns c.tc arg2 fullShare x0 ∗ owns c.tc arg3 fullShare x1 ∗ owns c.tc arg4 fullShare x2
          ∗ owns c.tc arg5 fullShare (k2_pay1 i x0 x1 x2)) -∗ Q ⟨⟩))
      ⊢ wp frame (wpE (defs₀ (F := F)) Variants.none c none) E (cc2_attn_fwd_seg2 i arg2 harg2 arg3 harg3 arg4 harg4 arg5 harg5) Q := by
  simp only [cc2_attn_fwd_seg2_eq_skeleton]; unfold cc2_attn_fwd_seg2_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  refine (View.read_writes_eq_canon _ _ _ (View.cover_of_tiled _ S1x272x64.size (by rfl))).trans ?_
  rw [View.canon_unit_zero zeros]
  iterate 3 (try rw [load_whole _ _ _ zeros])

section
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

variable (c : Dev nD) (t : Fin cfg2.N)

/-- No point's block of window 1 is cut short by the array's edge. -/
theorem xsize2_1 : ∀ (t : Fin cfg2.N) (a), (cfg2.win 1).xsize (cfg2.grid.coords t) a = (cfg2.win 1).size a :=
  (by decide +kernel : ∀ (t : Fin grid2.N) (a), win2_1.xsize (grid2.coords t) a = win2_1.size a)
theorem moved2_1 (t : Fin cfg2.N) (j) : (cfg2.win 1).moved (cfg2.grid.coords t) j = true :=
  ((cfg2.win 1).moved_iff _ j).mpr fun a => by rw [xsize2_1 t a]; exact (j a).isLt
def dflt2_1 : (cfg2.win 1).block.Idx → Elt F (cfg2.win 1).elt := fun _ => Classical.choice inferInstance
/-- What the buffer of window 1 holds once its block is fetched. -/
def full2_1 : (cfg2.win 1).block.Idx → Elt F (cfg2.win 1).elt :=
  (cfg2.win 1).fill (cfg2.grid.coords t) dflt2_1 (iblk2 V c 1 t)
theorem fill2_1 (t : Fin cfg2.N) (d d' : (cfg2.win 1).block.Idx → Elt F (cfg2.win 1).elt) (g) :
    (cfg2.win 1).fill (cfg2.grid.coords t) d g = (cfg2.win 1).fill (cfg2.grid.coords t) d' g := by
  funext j; unfold Pipeline.Window.fill; rw [dif_pos (moved2_1 t j), dif_pos (moved2_1 t j)]
/-- No point's block of window 2 is cut short by the array's edge. -/
theorem xsize2_2 : ∀ (t : Fin cfg2.N) (a), (cfg2.win 2).xsize (cfg2.grid.coords t) a = (cfg2.win 2).size a :=
  (by decide +kernel : ∀ (t : Fin grid2.N) (a), win2_2.xsize (grid2.coords t) a = win2_2.size a)
theorem moved2_2 (t : Fin cfg2.N) (j) : (cfg2.win 2).moved (cfg2.grid.coords t) j = true :=
  ((cfg2.win 2).moved_iff _ j).mpr fun a => by rw [xsize2_2 t a]; exact (j a).isLt
def dflt2_2 : (cfg2.win 2).block.Idx → Elt F (cfg2.win 2).elt := fun _ => Classical.choice inferInstance
/-- What the buffer of window 2 holds once its block is fetched. -/
def full2_2 : (cfg2.win 2).block.Idx → Elt F (cfg2.win 2).elt :=
  (cfg2.win 2).fill (cfg2.grid.coords t) dflt2_2 (iblk2 V c 2 t)
theorem fill2_2 (t : Fin cfg2.N) (d d' : (cfg2.win 2).block.Idx → Elt F (cfg2.win 2).elt) (g) :
    (cfg2.win 2).fill (cfg2.grid.coords t) d g = (cfg2.win 2).fill (cfg2.grid.coords t) d' g := by
  funext j; unfold Pipeline.Window.fill; rw [dif_pos (moved2_2 t j), dif_pos (moved2_2 t j)]

/-- The pipeline's proof data: the arrays as the call finds them, and what each buffer holds after the body at a point. -/
def dat2 : Dat τ (Elt F) Unit ℕ (UR sig nD τ) ℕ cfg2 c where
  A w := V c (Pipeline.arrRef spec2 w)
  after w t := match w with
    | ⟨0, _⟩ => iblk2 V c 0 t
    | ⟨1, _⟩ => full2_1 V c t
    | ⟨2, _⟩ => full2_2 V c t
    | ⟨3, _⟩ => k2_pay1 (grid2.coords t) (iblk2 V c 0 t) (full2_1 V c t) (full2_2 V c t)
  Φ _ := Pipeline.ΦA spec2 c
  q _ := fullShare
  owed _ := 0

theorem A_eq2 (w : Fin cfg2.W) : (dat2 V c).A w = V c (Pipeline.arrRef spec2 w) := by
  dsimp only [dat2]
theorem after2_0 : (dat2 V c).after 0 t = iblk2 V c 0 t := rfl
theorem after2_1 : (dat2 V c).after 1 t = full2_1 V c t := rfl
theorem after2_2 : (dat2 V c).after 2 t = full2_2 V c t := rfl
theorem after2_3 : (dat2 V c).after 3 t = k2_pay1 (grid2.coords t) (iblk2 V c 0 t) (full2_1 V c t) (full2_2 V c t) := rfl

theorem before2_0 (d) : (dat2 V c).before 0 t d = iblk2 V c 0 t :=
  ((dat2 V c).before_in_eq_fetched 0 rfl (fun _ => rfl) (fun _ _ _ => rfl) (fun _ => rfl) t d).trans rfl
theorem before2_1 (d) : (dat2 V c).before 1 t d = full2_1 V c t :=
  ((dat2 V c).before_in_eq_fetched 1 rfl (fun _ => rfl)
    (fun t t' h => funext fun a => congrArg (fun n => Pipeline.Clip.of n ((cfg2.win 1).size a) (S8x2176x128.size a)) (congrFun h a))
    (fun t => by rw [after2_1]; unfold full2_1; rw [Pipeline.Window.cut_fill]; unfold Dat.blockOf iblk2; rw [A_eq2]; try rfl) t d).trans
    (by unfold Dat.fetched full2_1; rw [fill2_1 t d dflt2_1]; unfold Dat.blockOf iblk2; rw [A_eq2]; try rfl)
theorem before2_2 (d) : (dat2 V c).before 2 t d = full2_2 V c t :=
  ((dat2 V c).before_in_eq_fetched 2 rfl (fun _ => rfl)
    (fun t t' h => funext fun a => congrArg (fun n => Pipeline.Clip.of n ((cfg2.win 2).size a) (S8x2176x64.size a)) (congrFun h a))
    (fun t => by rw [after2_2]; unfold full2_2; rw [Pipeline.Window.cut_fill]; unfold Dat.blockOf iblk2; rw [A_eq2]; try rfl) t d).trans
    (by unfold Dat.fetched full2_2; rw [fill2_2 t d dflt2_2]; unfold Dat.blockOf iblk2; rw [A_eq2]; try rfl)

def bodyPre2 : sProp 𝕄 :=
  iprop((dat2 V c).Φ t.castSucc ∗ (dat2 V c).owesAt () t.castSucc
    ∗ (∃ d, owns c.tc (st2_0 t) fullShare ((dat2 V c).before 0 t d))
    ∗ (∃ d, owns c.tc (st2_1 t) fullShare ((dat2 V c).before 1 t d))
    ∗ (∃ d, owns c.tc (st2_2 t) fullShare ((dat2 V c).before 2 t d))
    ∗ (∃ d, owns c.tc (st2_3 t) fullShare ((dat2 V c).before 3 t d)))
def bodyPost2 : sProp 𝕄 :=
  iprop((dat2 V c).Φ t.succ ∗ (dat2 V c).owesAt () t.succ
    ∗ owns c.tc (st2_0 t) fullShare ((dat2 V c).after 0 t)
    ∗ owns c.tc (st2_1 t) fullShare ((dat2 V c).after 1 t)
    ∗ owns c.tc (st2_2 t) fullShare ((dat2 V c).after 2 t)
    ∗ owns c.tc (st2_3 t) fullShare ((dat2 V c).after 3 t))

theorem sound_body2 :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound2 c (grid2.coords t) _ _ _ _ _ _ _ _ (iblk2 V c 0 t) (full2_1 V c t) (full2_2 V c t) Set.univ _)
  iframe H0 H1 H2
  isplitl [H3]; · iexists _; iexact H3
  iintro ⟨H0, H1, H2, H3⟩
  iframe

theorem defs₀_row2 :
    defs₀ (F := F) .tc cfg2.body (cfg2.bodyArgs t (cfg2.slots t)) = bodyAt2 t := by
  unfold defs₀; rw [Defs.onTc_tc]

/-- The body meets the pipeline's obligation at every point. -/
theorem body_obligation2 : BodyObligation (dat2 (F := F) V c) (defs₀ (F := F)) Variants.none () Set.univ := fun t => by
  rw [bigSep_W2, bigSep_W2, defs₀_row2]
  exact triple_restated (sound_body2 V c t) rfl .rfl fun _ => .rfl

end

set_option maxHeartbeats 2000000 in
/-- The body leaves the attention of its block of queries. -/
theorem sound3 (c : Dev nD) (i : grid3.Coords) (arg2 : Memref sig .tc .vmem S1x272x128 .bf16) (harg2 : arg2.IsWhole) (arg3 : Memref sig .tc .vmem S1x2176x128 .bf16) (harg3 : arg3.IsWhole)
    (arg4 : Memref sig .tc .vmem S1x2176x64 .bf16) (harg4 : arg4.IsWhole) (arg5 : Memref sig .tc .vmem S1x272x64 .f32) (harg5 : arg5.IsWhole)
    (x0 : Vec F S1x272x128 .bf16) (x1 : Vec F S1x2176x128 .bf16) (x2 : Vec F S1x2176x64 .bf16) (E : Set ℕ) (Q : PUnit → sProp 𝕄) :
    iprop(owns c.tc arg2 fullShare x0 ∗ owns c.tc arg3 fullShare x1 ∗ owns c.tc arg4 fullShare x2 ∗ (∃ d, owns c.tc arg5 fullShare d)
        ∗ (iprop(owns c.tc arg2 fullShare x0 ∗ owns c.tc arg3 fullShare x1 ∗ owns c.tc arg4 fullShare x2
          ∗ owns c.tc arg5 fullShare (k3_pay1 i x0 x1 x2)) -∗ Q ⟨⟩))
      ⊢ wp frame (wpE (defs₀ (F := F)) Variants.none c none) E (cc3_attn_fwd_seg3 i arg2 harg2 arg3 harg3 arg4 harg4 arg5 harg5) Q := by
  simp only [cc3_attn_fwd_seg3_eq_skeleton]; unfold cc3_attn_fwd_seg3_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  refine (View.read_writes_eq_canon _ _ _ (View.cover_of_tiled _ S1x272x64.size (by rfl))).trans ?_
  rw [View.canon_unit_zero zeros]
  iterate 3 (try rw [load_whole _ _ _ zeros])

section
variable (V : (c : Dev nD) → (b : Ref sig .tc) → Buf (Elt F) ((c : Thread nD τ).loc b))

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

variable (c : Dev nD) (t : Fin cfg3.N)

/-- The pipeline's proof data: the arrays as the call finds them, and what each buffer holds after the body at a point. -/
def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (grid3.coords t) (iblk3 V c 0 t) (iblk3 V c 1 t) (iblk3 V c 2 t)
  Φ _ := Pipeline.ΦA spec3 c
  q _ := fullShare
  owed _ := 0

theorem A_eq3 (w : Fin cfg3.W) : (dat3 V c).A w = V c (Pipeline.arrRef spec3 w) := by
  dsimp only [dat3]
theorem after3_0 : (dat3 V c).after 0 t = iblk3 V c 0 t := rfl
theorem after3_1 : (dat3 V c).after 1 t = iblk3 V c 1 t := rfl
theorem after3_2 : (dat3 V c).after 2 t = iblk3 V c 2 t := rfl
theorem after3_3 : (dat3 V c).after 3 t = k3_pay1 (grid3.coords t) (iblk3 V c 0 t) (iblk3 V c 1 t) (iblk3 V c 2 t) := rfl

theorem before3_0 (d) : (dat3 V c).before 0 t d = iblk3 V c 0 t :=
  ((dat3 V c).before_in_eq_fetched 0 rfl (fun _ => rfl) (fun _ _ _ => rfl) (fun _ => rfl) t d).trans rfl
theorem before3_1 (d) : (dat3 V c).before 1 t d = iblk3 V c 1 t :=
  ((dat3 V c).before_in_eq_fetched 1 rfl (fun _ => rfl) (fun _ _ _ => rfl) (fun _ => rfl) t d).trans rfl
theorem before3_2 (d) : (dat3 V c).before 2 t d = iblk3 V c 2 t :=
  ((dat3 V c).before_in_eq_fetched 2 rfl (fun _ => rfl) (fun _ _ _ => rfl) (fun _ => rfl) t d).trans rfl

def bodyPre3 : sProp 𝕄 :=
  iprop((dat3 V c).Φ t.castSucc ∗ (dat3 V c).owesAt () t.castSucc
    ∗ (∃ d, owns c.tc (st3_0 t) fullShare ((dat3 V c).before 0 t d))
    ∗ (∃ d, owns c.tc (st3_1 t) fullShare ((dat3 V c).before 1 t d))
    ∗ (∃ d, owns c.tc (st3_2 t) fullShare ((dat3 V c).before 2 t d))
    ∗ (∃ d, owns c.tc (st3_3 t) fullShare ((dat3 V c).before 3 t d)))
def bodyPost3 : sProp 𝕄 :=
  iprop((dat3 V c).Φ t.succ ∗ (dat3 V c).owesAt () t.succ
    ∗ owns c.tc (st3_0 t) fullShare ((dat3 V c).after 0 t)
    ∗ owns c.tc (st3_1 t) fullShare ((dat3 V c).after 1 t)
    ∗ owns c.tc (st3_2 t) fullShare ((dat3 V c).after 2 t)
    ∗ owns c.tc (st3_3 t) fullShare ((dat3 V c).after 3 t))

theorem sound_body3 :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound3 c (grid3.coords t) _ _ _ _ _ _ _ _ (iblk3 V c 0 t) (iblk3 V c 1 t) (iblk3 V c 2 t) Set.univ _)
  iframe H0 H1 H2
  isplitl [H3]; · iexists _; iexact H3
  iintro ⟨H0, H1, H2, H3⟩
  iframe

theorem defs₀_row3 :
    defs₀ (F := F) .tc cfg3.body (cfg3.bodyArgs t (cfg3.slots t)) = bodyAt3 t := by
  unfold defs₀; rw [Defs.onTc_tc]

/-- The body meets the pipeline's obligation at every point. -/
theorem body_obligation3 : BodyObligation (dat3 (F := F) V c) (defs₀ (F := F)) Variants.none () Set.univ := fun t => by
  rw [bigSep_W3, bigSep_W3, defs₀_row3]
  exact triple_restated (sound_body3 V c t) rfl .rfl fun _ => .rfl

end

end Cert.Kernel8Ideal.Fwd

end
-- ==== Proof.Fwd.Run.lean ====
/- The forward program's run: its two host stretches and its four calls in order, what every buffer holds between them, and the
   run of the whole from any memory, at any floats. -/
module

public import proofs.«01_k».proof.Proof.Fwd.Regions
public import proofs.«01_k».proof.Proof.Gen.Kernel8Ideal.Regions
public import Idealize.ShloMosaic.Lib.Pipeline.FrameSuffix

@[expose] public section

set_option maxRecDepth 16384

noncomputable section

namespace Cert.Kernel8Ideal.Fwd

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the buffers hold between the items -/

abbrev entry (W : Dev nD → Valuation τ sig (Elt F)) : (c : Dev nD) → (b : Ref sig .tc) → Buf (Elt F) ((c : Thread nD τ).loc b) := fun c b => W c b

section
variable (p : Fin 4) (W : Dev nD → Valuation τ sig (Elt F)) (D : (c : Dev nD) → Dat τ (Elt F) Unit ℕ (UR sig nD τ) ℕ (cfgs p) c)

/-- After a call: its arrays at what the pipeline leaves, every other buffer as entered. -/
def leave : Dev nD → Valuation τ sig (Elt F) := fun c =>
  Pipeline.withArrays (cfgs p).spec c (W c) fun w => (D c).arrAt w (cfgs p).N
theorem leave_arr (L : Pipeline.LaunchFacts (nD := nD) (τ := τ) cfgs p) (c : Dev nD) (w : Fin (cfgs p).W) :
    leave p W D c (Proc.devRef .tc (Pipeline.arrRef (cfgs p).spec w)) = (D c).arrAt w (cfgs p).N := by
  unfold leave; exact Pipeline.withArrays_arr _ L.win.arr_inj c _ _ w
theorem leave_of_ne (c : Dev nD) (b : Ref sig .tc) (hb : ∀ w, Pipeline.arrRef (cfgs p).spec w ≠ b) :
    leave p W D c (Proc.devRef .tc b) = W c (Proc.devRef .tc b) := by
  unfold leave; exact Pipeline.withArrays_of_ne _ c _ _ b hb
/-- A buffer that is no output's array keeps what it holds across the call. -/
theorem leave_of (L : Pipeline.LaunchFacts (nD := nD) (τ := τ) cfgs p) (hA : ∀ c w, (D c).A w = entry W c (Pipeline.arrRef (cfgs p).spec w))
    (c : Dev nD) (r : Ref sig .tc) (h : ∀ w : Fin (cfgs p).W, Pipeline.arrRef (cfgs p).spec w = r → ((cfgs p).win w).isOut = false) :
    leave p W D c (Proc.devRef .tc r) = W c (Proc.devRef .tc r) := by
  by_cases hw : ∃ w : Fin (cfgs p).W, Pipeline.arrRef (cfgs p).spec w = r
  · obtain ⟨w, rfl⟩ := hw
    exact (leave_arr p W D L c w).trans (((D c).arrAt_in w (h w rfl) _).trans (hA c w))
  · exact leave_of_ne p W D c r fun w e => hw ⟨w, e⟩
end

variable (m : (ℓ : Loc nD τ sig) → Buf (Elt F) ℓ) (ρ : Dev nD → PrngReg)

/-- At the launch, -/
abbrev W0 : Dev nD → Valuation τ sig (Elt F) := fun c b => (s₀ m ρ).mem ((c : Dev nD), b)
/-- after the first host stretch, -/
abbrev W1 : Dev nD → Valuation τ sig (Elt F) := fun c => StableHlo.after hostOps0 (W0 m ρ c)
/-- after each of the calls, -/
abbrev W2 : Dev nD → Valuation τ sig (Elt F) := leave 0 (W1 m ρ) fun c => dat0 (entry (W1 m ρ)) c
abbrev W3 : Dev nD → Valuation τ sig (Elt F) := leave 1 (W2 m ρ) fun c => dat1 (entry (W2 m ρ)) c
abbrev W4 : Dev nD → Valuation τ sig (Elt F) := leave 2 (W3 m ρ) fun c => dat2 (entry (W3 m ρ)) c
abbrev W5 : Dev nD → Valuation τ sig (Elt F) := leave 3 (W4 m ρ) fun c => dat3 (entry (W4 m ρ)) c
/-- and after the last host stretch. -/
abbrev W6 : Dev nD → Valuation τ sig (Elt F) := fun c => StableHlo.after hostOps4 (W5 m ρ c)

theorem keep2 (c : Dev nD) (r : Ref sig .tc) (h : ∀ w : Fin cfg0.W, Pipeline.arrRef spec0 w = r → (cfg0.win w).isOut = false) :
    W2 m ρ c (Proc.devRef .tc r) = W1 m ρ c (Proc.devRef .tc r) := leave_of 0 _ _ launch0 (A_eq0 _) c r h
theorem keep3 (c : Dev nD) (r : Ref sig .tc) (h : ∀ w : Fin cfg1.W, Pipeline.arrRef spec1 w = r → (cfg1.win w).isOut = false) :
    W3 m ρ c (Proc.devRef .tc r) = W2 m ρ c (Proc.devRef .tc r) := leave_of 1 _ _ launch1 (A_eq1 _) c r h
theorem keep4 (c : Dev nD) (r : Ref sig .tc) (h : ∀ w : Fin cfg2.W, Pipeline.arrRef spec2 w = r → (cfg2.win w).isOut = false) :
    W4 m ρ c (Proc.devRef .tc r) = W3 m ρ c (Proc.devRef .tc r) := leave_of 2 _ _ launch2 (A_eq2 _) c r h
theorem keep5 (c : Dev nD) (r : Ref sig .tc) (h : ∀ w : Fin cfg3.W, Pipeline.arrRef spec3 w = r → (cfg3.win w).isOut = false) :
    W5 m ρ c (Proc.devRef .tc r) = W4 m ρ c (Proc.devRef .tc r) := leave_of 3 _ _ launch3 (A_eq3 _) c r h

/-- The arguments end as launched. -/
theorem W6_args (c : Dev nD) : ∀ a ∈ [main_arg0, main_arg1, main_arg2], W6 m ρ c (Proc.devRef .tc a) = m (c.tc.loc a) := fun a ha =>
  (StableHlo.after_of_writes_sub hostOps4 _ hostOps4_writes (ListAll.forall_mem_of_all_decide (p := fun a => a ∉ hostOps4_W) (by decide +kernel) a ha)).trans
  ((keep5 m ρ c a (ListAll.forall_mem_of_all_decide (p := fun a => ∀ w : Fin cfg3.W, Pipeline.arrRef spec3 w = a → (cfg3.win w).isOut = false) (by decide +kernel) a ha)).trans
  ((keep4 m ρ c a (ListAll.forall_mem_of_all_decide (p := fun a => ∀ w : Fin cfg2.W, Pipeline.arrRef spec2 w = a → (cfg2.win w).isOut = false) (by decide +kernel) a ha)).trans
  ((keep3 m ρ c a (ListAll.forall_mem_of_all_decide (p := fun a => ∀ w : Fin cfg1.W, Pipeline.arrRef spec1 w = a → (cfg1.win w).isOut = false) (by decide +kernel) a ha)).trans
  ((keep2 m ρ c a (ListAll.forall_mem_of_all_decide (p := fun a => ∀ w : Fin cfg0.W, Pipeline.arrRef spec0 w = a → (cfg0.win w).isOut = false) (by decide +kernel) a ha)).trans
  (StableHlo.after_of_writes_sub hostOps0 _ hostOps0_writes (ListAll.forall_mem_of_all_decide (p := fun a => a ∉ hostOps0_W) (by decide +kernel) a ha))))))

/-! ## The items as segments -/

abbrev admits : (p : Fin 4) → (pcfgs (F := F) p).Adm := fun p => (cfgs p).toPCfg_adm
/-- Every pipeline's proof data, at the contents its call is entered with. -/
def pdats : (p : Fin 4) → (c : Dev nD) → Dat τ (Elt F) Unit ℕ (UR sig nD τ) ℕ (Pipeline.pin (pcfgs (F := F)) admits p) c
  | ⟨0, _⟩ => fun c => dat0 (entry (W1 m ρ)) c
  | ⟨1, _⟩ => fun c => dat1 (entry (W2 m ρ)) c
  | ⟨2, _⟩ => fun c => dat2 (entry (W3 m ρ)) c
  | ⟨3, _⟩ => fun c => dat3 (entry (W4 m ρ)) c
abbrev noLevels : GSem nD τ sig → Finset Unit := fun _ => ∅
abbrev level : GSem nD τ sig → Unit → ℕ := fun _ _ => 0
/-- What rides beside the buffers: the generator register and the core owing nothing. -/
abbrev beside (c : Dev nD) : sProp 𝕄 := iprop((∃ r, prngReg c r) ∗ ∃ W, owes (c : Thread nD τ) (0 : CellTallies nD τ sig Unit) W)
/-- The buffers at `W`, and what rides beside them. -/
abbrev state (W : Dev nD → Valuation τ sig (Elt F)) (c : Dev nD) : sProp 𝕄 :=
  iprop(StableHlo.held (c : Thread nD τ) (Pipeline.ucRefs τ sig) (W c) ∗ beside c)
/-- A host stretch over the buffers at `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels level :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_refs (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A call as a segment: entered from the buffers at `W`, left with them at `W'`. -/
def segOf (p : Fin 4) (L : Pipeline.LaunchFacts (nD := nD) (τ := τ) cfgs p) (W W' : Dev nD → Valuation τ sig (Elt F))
    (hb : ∀ c, BodyObligation (pdats m ρ p c) (defs₀ (F := F)) Variants.none () Set.univ)
    (ho : ∀ c t, (pdats m ρ p c).owed t = 0) (hrec : ∀ c x, x ∈ (pdats m ρ p c).recorded 0)
    (hΦ : ∀ c t, (pdats m ρ p c).Φ t = Pipeline.ΦA (cfgs p).spec c)
    (hq : ∀ c w, (pdats m ρ p c).share w = fullShare)
    (hA : ∀ c w, (pdats m ρ p c).A w = entry W c (Pipeline.arrRef (cfgs p).spec w))
    (hE : ∀ c w, (pdats m ρ p c).arrAt w (cfgs p).N = entry W' c (Pipeline.arrRef (cfgs p).spec w))
    (hR : ∀ c b, (∀ w, Pipeline.arrRef (cfgs p).spec w ≠ b) → entry W' c b = entry W c b) :
    Pipeline.RegionSeg (pcfgs (F := F)) admits (pdats m ρ) () defs₀ Variants.none noLevels level p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ noLevels level p ho
  pre := state W
  post := state W'
  X c := iprop(∃ r, prngReg c r)
  Y c := iprop(∃ r, prngReg c r)
  Z c := Pipeline.unscopedRest (Ix := Unit) (Name := ℕ) (U := UR sig nD τ) (Lvl := ℕ) (cfgs p).spec c (entry W c)
  hentry c := by
    rw [Pipeline.ownSems0_none]
    have hsplit := Pipeline.arrays_of_unscopedBufs (p := p) (pcfgs (F := F)) admits (pdats m ρ) L.win L.arr_whole c (hq c) (entry W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun _ _ => Or.inl (hrec c _)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) admits (Ix := Unit) (Name := ℕ) (U := UR sig nD τ) (Lvl := ℕ)
      L.win L.arr_whole c (pdats m ρ) (hq c) (entry W c) (entry W' c) ((pdats m ρ p c).arrAt · (cfgs p).N) (hE c)
      (fun b hb => hR c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

def reg0 := segOf m ρ 0 launch0 (W1 m ρ) (W2 m ρ) (body_obligation0 _) (fun _ _ => rfl) (fun _ _ => trivial) (fun _ _ => rfl) (fun c => (pdats m ρ 0 c).share_full fun _ => rfl)
  (A_eq0 _) (fun c w => (leave_arr 0 _ _ launch0 c w).symm) (leave_of_ne 0 _ _)
def reg1 := segOf m ρ 1 launch1 (W2 m ρ) (W3 m ρ) (body_obligation1 _) (fun _ _ => rfl) (fun _ _ => trivial) (fun _ _ => rfl) (fun c => (pdats m ρ 1 c).share_full fun _ => rfl)
  (A_eq1 _) (fun c w => (leave_arr 1 _ _ launch1 c w).symm) (leave_of_ne 1 _ _)
def reg2 := segOf m ρ 2 launch2 (W3 m ρ) (W4 m ρ) (body_obligation2 _) (fun _ _ => rfl) (fun _ _ => trivial) (fun _ _ => rfl) (fun c => (pdats m ρ 2 c).share_full fun _ => rfl)
  (A_eq2 _) (fun c w => (leave_arr 2 _ _ launch2 c w).symm) (leave_of_ne 2 _ _)
def reg3 := segOf m ρ 3 launch3 (W4 m ρ) (W5 m ρ) (body_obligation3 _) (fun _ _ => rfl) (fun _ _ => trivial) (fun _ _ => rfl) (fun c => (pdats m ρ 3 c).share_full fun _ => rfl)
  (A_eq3 _) (fun c w => (leave_arr 3 _ _ launch3 c w).symm) (leave_of_ne 3 _ _)

/-- The program's six items in order. -/
abbrev items : List (Pipeline.Seg (pcfgs (F := F)) admits (pdats m ρ) () defs₀ Variants.none noLevels level) :=
  [ .host (hostSeg hostOps0 hostOps0_sub hostOps0_fresh (W0 m ρ)), .region (reg0 m ρ), .region (reg1 m ρ), .region (reg2 m ρ),
    .region (reg3 m ρ), .host (hostSeg hostOps4 hostOps4_sub hostOps4_fresh (W5 m ρ)) ]
theorem main_items (c : Dev nD) : main (F := F) c = Pipeline.Seg.run (items m ρ) := (main_chain c).trans (by chain_rfl)

set_option backward.isDefEq.respectTransparency.types false in
/-- The run: from any memory with zero counters every execution ends, every buffer that outlives the calls holds what `W6`
    says, and every counter reads zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W6 m ρ c b) ∧ r.2.sem = fun _ => 0) :=
  Pipeline.θ_run_regions_kit_sems (pcfgs (F := F)) admits (pdats m ρ) () cellOf_inj emb₁ defs₀ Variants.none noLevels level m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := state (W0 m ρ)) (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl,
      fun c => by
        show state (W6 m ρ) c ⊢ _
        iintro ⟨Hh, Hp, HO⟩
        isplitl [Hh Hp]
        · isplitl [Hh]; · iexact Hh
          iexact Hp
        iexact HO⟩)
    (hinit := by
      refine Pipeline.initEach noLevels level fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (regions_no_unscoped g.2))⟩)

/-- The run's frame: the arguments end as launched and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (mem_refs main_arg0 (by decide))).trans (W6_args m ρ c main_arg0 (by decide)),
     (h.1 c _ (mem_refs main_arg1 (by decide))).trans (W6_args m ρ c main_arg1 (by decide)),
     (h.1 c _ (mem_refs main_arg2 (by decide))).trans (W6_args m ρ c main_arg2 (by decide))⟩, h.2⟩) (run_main m ρ)

end Cert.Kernel8Ideal.Fwd

end
-- ==== Proof.Fwd.NamedBits.lean ====
/- The frame of the forward program as printed, from the one of the program with a named constant, read at the constant's bits. -/
module

public import proofs.«01_k».proof.Proof.Gen.Kernel8.Launch
public import proofs.«01_k».proof.Proof.NamedBits
public import proofs.«01_k».proof.Proof.Fwd.Run

@[expose] public section
namespace Cert.Kernel8.Fwd
open Idealize.ShloMosaic Idealize.ShloMosaic.TcCoe Idealize.SL.Sem
/-- What the frame says of a run of the program as printed. -/
abbrev Framed (m : (ℓ : Loc nD τ sig) → Buf (Elt Bits) ℓ) (g : Dev nD → PrngReg) : Prop :=
  θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)
end Cert.Kernel8.Fwd

namespace Cert.Kernel8Ideal.Fwd
open Idealize.ShloMosaic Idealize.ShloMosaic.TcCoe Idealize.SL.Sem

attribute [local instance] Cert.KernelIdeal.Att.namedBits

set_option maxRecDepth 100000 in
theorem kernel_run (m : (ℓ : Loc Cert.Kernel8.nD Cert.Kernel8.τ Cert.Kernel8.sig) → Buf (Elt Bits) ℓ) (g : Dev Cert.Kernel8.nD → PrngReg) :
    (θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)) = Cert.Kernel8.Fwd.Framed m g := by chain_rfl

/-- The frame of the program as printed. -/
theorem kernel_frame (m : (ℓ : Loc Cert.Kernel8.nD Cert.Kernel8.τ Cert.Kernel8.sig) → Buf (Elt Bits) ℓ) (g : Dev Cert.Kernel8.nD → PrngReg) :
    Cert.Kernel8.Fwd.Framed m g := (kernel_run m g).mp (run_frame (F := Bits) m g)
end Cert.Kernel8Ideal.Fwd
end
-- ==== Proof.Fwd.Formulas.lean ====
/- The mathematics of one head of causal attention's forward pass, in the row formulas of the gradient: what a grid step forms from
   the rows it reads is the weighted sum of the values of a query row. -/
module

public import proofs.«01_k».proof.Proof.Rows

@[expose] public section
noncomputable section

namespace Cert.Fwd
open Idealize.ShloMosaic Cert.Att

/-- A masked score as a step forms it. -/
def masked {n : ℕ} (W : BitVec 32) (k : EReal) (q : Fin 128 → EReal) (x : Fin n → Fin 128 → EReal) (j : Fin n) : EReal :=
  Scalar.select (IntOp.cmpi .sle (BitVec.ofNat 32 (j : ℕ)) W) ((∑ e : Fin 128, q e * x j e) * Ideal.ofBits .f32 0x3DD105EC#32) k

/-- One element of a step's result: the exponentials of the scores over their sum, against the values. -/
def step {n : ℕ} (W : BitVec 32) (k : EReal) (q : Fin 128 → EReal) (x : Fin n → Fin 128 → EReal) (v : Fin n → EReal) : EReal :=
  ∑ j : Fin n, Ideal.exp (masked W k q x j - Finset.univ.fold max (Ideal.ofBits .f32 0xFF800000#32) (fun y => masked W k q x y))
    * Ideal.div 1 (∑ z : Fin n, Ideal.exp (masked W k q x z - Finset.univ.fold max (Ideal.ofBits .f32 0xFF800000#32) (fun y => masked W k q x y))) * v j

/-- The attention's output: the values under the weights of a query row. -/
def attended (Q K : ℕ → Fin 96 → EReal) (V : ℕ → Fin 64 → EReal) (R : ℕ) (u : Fin 64) : EReal :=
  ∑ j ∈ Finset.range (R + 1), pr scale Q K R j * V j u

/-- The output of the 544 queries from row `B` on. -/
def band (B : ℕ) (Q K : Fin 8 → ℕ → Fin 96 → EReal) (U : Fin 8 → ℕ → Fin 64 → EReal) : FVec Ideal ⟨3, ![8, 544, 64]⟩ .f32 :=
  fun i => attended (Q (i 0)) (K (i 0)) (U (i 0)) (B + (i 1 : ℕ)) (i 2)

/-- The number of a query row as a word. -/
theorem row_word (b a r : ℕ) : IntOp.addi (Scalar.muli (Scalar.addi (BitVec.ofNat 32 b) (BitVec.ofNat 32 a)) 272#32) (BitVec.ofNat 32 r)
    = BitVec.ofNat 32 ((b + a) * 272 + r) := by
  simp only [BitVec.ofNat_add, BitVec.ofNat_mul]
  rfl

theorem attended_fin {n R : ℕ} (h : R < n) (Q K : ℕ → Fin 96 → EReal) (V : ℕ → Fin 64 → EReal)
    (hQ : ∀ r e, IsReal (Q r e)) (hK : ∀ r e, IsReal (K r e)) (u : Fin 64) :
    ∑ j : Fin n, pr scale Q K R j * V j u = attended Q K V R u :=
  sum_fin h (fun j => pr scale Q K R j * V j u) fun j hj => by rw [pr_zero scale_fin hQ hK hj, zero_mul]

/-- A step at a query row, in the row formulas of its head. -/
theorem step_point {n R : ℕ} (Q K : ℕ → Fin 96 → EReal) (V : ℕ → Fin 64 → EReal) (hR : R < n) (hn : n ≤ 2176)
    (W : BitVec 32) (hW : W = BitVec.ofNat 32 R) (k : EReal) (hk : k = ⊥)
    (q : Fin 128 → EReal) (x : Fin n → Fin 128 → EReal) (v : Fin n → EReal) (u : Fin 64)
    (hq : ∀ e, q e = pad (Q R) e) (hx : ∀ j e, x j e = pad (K j) e) (hv : ∀ j, v j = V j u)
    (hQ : ∀ r e, IsReal (Q r e)) (hK : ∀ r e, IsReal (K r e)) : step W k q x v = attended Q K V R u := by
  have hs : ∀ j, masked W k q x j = score scale Q K R j := fun j => by
    unfold masked
    rw [hW, hk, select_sle _ _ (by omega) (by omega), score]
    simp only [hq, hx, sum_padded, scale]
  rw [← attended_fin hR Q K V hQ hK]
  unfold step
  simp only [hs, hv, neg_inf_word]
  exact Finset.sum_congr rfl fun j _ => congrArg (· * V j u) (row_point scale_fin hQ hK hR j)

/-- The padded queries and keys and the values, head by head: row `r` of head `h` is `Q h r`, … -/
structure Operands (x3 x6 : FVec Ideal ⟨3, ![8, 2176, 128]⟩ .bf16) (x8 : FVec Ideal ⟨3, ![8, 2176, 64]⟩ .bf16)
    (Q K : Fin 8 → ℕ → Fin 96 → EReal) (U : Fin 8 → ℕ → Fin 64 → EReal) : Prop where
  q : ∀ (h : Fin 8) (r : Fin 2176) (e : Fin 128), x3 (ix3 h r e) = pad (Q h r) e
  k : ∀ (h : Fin 8) (r : Fin 2176) (e : Fin 128), x6 (ix3 h r e) = pad (K h r) e
  v : ∀ (h : Fin 8) (r : Fin 2176) (u : Fin 64), x8 (ix3 h r u) = U h r u
  qreal : ∀ h r e, IsReal (Q h r e)
  kreal : ∀ h r e, IsReal (K h r e)

theorem Operands.of_eq {x3 x6 y3 y6 : FVec Ideal ⟨3, ![8, 2176, 128]⟩ .bf16} {x8 y8 : FVec Ideal ⟨3, ![8, 2176, 64]⟩ .bf16}
    {Q K : Fin 8 → ℕ → Fin 96 → EReal} {U : Fin 8 → ℕ → Fin 64 → EReal} (h : Operands x3 x6 x8 Q K U)
    (e3 : y3 = x3) (e6 : y6 = x6) (e8 : y8 = x8) : Operands y3 y6 y8 Q K U := by
  subst e3 e6 e8
  exact h

end Cert.Fwd
end
-- ==== Proof.Fwd.Arrays.lean ====
/- What each forward call leaves in its result, as a function of the contents of its operands. -/
module

public import proofs.«01_k».proof.Proof.Fwd.Regions
public import proofs.«01_k».proof.Proof.Fwd.Formulas

@[expose] public section

set_option maxRecDepth 16384

noncomputable section

namespace Cert.Kernel8Ideal.Fwd
open Cert.Kernel8Ideal Cert.Kernel8Ideal.Gen Idealize.ShloMosaic Idealize.ShloMosaic.TcCoe Idealize.SL.Sem Cert.Att Cert.Fwd

section
variable (V : (c : Dev nD) → (b : Ref sig .tc) → Buf (Elt Ideal) ((c : Thread nD τ).loc b)) (c : Dev nD)
  (Q K : Fin 8 → ℕ → Fin 96 → EReal) (U : Fin 8 → ℕ → Fin 64 → EReal)
  (O : Operands (V c main_v3) (V c main_v6) (V c main_v8) Q K U)

/-- The blocks of grid point `t`: head `t / 2`, block `t % 2` of the call's queries. -/
theorem at0 : ∀ t : Fin cfg0.N, win0_0.index t = ![t.val / 2, 0 + t.val % 2, 0] ∧ win0_1.index t = ![t.val / 2, 0, 0]
    ∧ win0_2.index t = ![t.val / 2, 0, 0] ∧ win0_3.index t = ![t.val / 2, t.val % 2, 0] ∧ ((grid0.coords t) 1 : ℕ) = t.val % 2 :=
  (by decide +kernel : ∀ t : Fin grid0.N, _)

/-- The head of a grid point. -/
def head0 (t : Fin cfg0.N) : Fin 8 := ⟨t.val / 2, by have h : t.val < 16 := t.isLt; omega⟩

/-- One element of a step's block, as the step forms it. -/
theorem word0 (i : grid0.Coords) (x0 : FVec Ideal S1x272x128 .bf16) (x1 : FVec Ideal S1x544x128 .bf16) (x2 : FVec Ideal S1x544x64 .bf16)
    (r : Fin 272) (u : Fin 64) : k0_pay1 (F := Ideal) i x0 x1 x2 (ix3 0 r u)
      = step (IntOp.addi (Scalar.muli (Scalar.addi (0#32) (BitVec.ofNat 32 (i 1 : ℕ))) 272#32) (BitVec.ofNat 32 (r : ℕ)))
        (Named.named κ "mask" (0xF149F2CA#32 : BitVec (FTy.f32).bits) : Ideal .f32)
        (fun e => x0 (ix3 0 r e)) (fun (j : Fin 544) e => x1 (ix3 0 j e)) (fun j => x2 (ix3 0 j u)) := by
  simp only [step, masked]
  pointwise [k0_pay1]

include O in
theorem q0_block (t : Fin cfg0.N) (r : Fin 272) (e : Fin 128) :
    (iblk0 V c 0 t : FVec Ideal S1x272x128 .bf16) (ix3 0 r e) = pad (Q (head0 t) ((0 + t.val % 2) * 272 + r)) e := by
  have hr := r.isLt
  rw [← O.q (head0 t) ⟨(0 + t.val % 2) * 272 + r, by omega⟩ e]
  blk_point [iblk0, at0 t, head0]

include O in
theorem k0_block (t : Fin cfg0.N) (j : Fin 544) (e : Fin 128) :
    (iblk0 V c 1 t : FVec Ideal S1x544x128 .bf16) (ix3 0 j e) = pad (K (head0 t) j) e := by
  have hj := j.isLt
  rw [← O.k (head0 t) ⟨j, by omega⟩ e]
  blk_point [iblk0, at0 t, head0]

include O in
theorem v0_block (t : Fin cfg0.N) (j : Fin 544) (u : Fin 64) :
    (iblk0 V c 2 t : FVec Ideal S1x544x64 .bf16) (ix3 0 j u) = U (head0 t) j u := by
  have hj := j.isLt
  rw [← O.v (head0 t) ⟨j, by omega⟩ u]
  blk_point [iblk0, at0 t, head0]

include O in
/-- One element of a grid point's block. -/
theorem out0_at (t : Fin cfg0.N) (y : S1x272x64.Idx) (i : S8x544x64.Idx)
    (h0 : (i 0 : ℕ) = t.val / 2) (h1 : (i 1 : ℕ) = t.val % 2 * 272 + y 1) (h2 : (i 2 : ℕ) = y 2) :
    k0_pay1 (F := Ideal) (grid0.coords t) (iblk0 V c 0 t) (iblk0 V c 1 t) (iblk0 V c 2 t) y = band 0 Q K U i := by
  have hr : (y 1 : ℕ) < 272 := (y 1).isLt
  rw [show y = ix3 (0 : Fin 1) (y 1) (y 2) from (eq_ix3 y).trans (congrArg (fun z : Fin 1 => ix3 z (y 1) (y 2)) (Subsingleton.elim _ _))]
  refine (word0 _ _ _ _ (y 1) (y 2)).trans ?_
  refine (step_point (Q (head0 t)) (K (head0 t)) (U (head0 t)) (R := (0 + t.val % 2) * 272 + y 1) (by omega) (by omega) _
    ((row_word 0 _ _).trans (by rw [(at0 t).2.2.2.2])) _ rfl _ _ _ (y 2)
    (q0_block V c Q K U O t (y 1)) (k0_block V c Q K U O t) (fun j => v0_block V c Q K U O t j (y 2)) (O.qreal _) (O.kreal _)).trans ?_
  unfold band
  rw [show i 0 = head0 t from Fin.ext h0, show i 2 = y 2 from Fin.ext h2, h1]
  exact congrArg (fun R => attended _ _ _ R (y 2)) (by omega)

include O in
/-- The result whole. -/
theorem array0 : (dat0 V c).arrAt 3 cfg0.N = band 0 Q K U := by
  refine (dat0 V c).arrAt_eq_of_covers 3 _ (by decide +kernel) (fun t hf y => ?_)
  blk_simp
  rw [after0_3]
  refine out0_at V c Q K U O t _ _ ?_ ?_ ?_ <;> blk_simp [at0 t]

/-- The blocks of grid point `t`: head `t / 2`, block `t % 2` of the call's queries. -/
theorem at1 : ∀ t : Fin cfg1.N, win1_0.index t = ![t.val / 2, 2 + t.val % 2, 0] ∧ win1_1.index t = ![t.val / 2, 0, 0]
    ∧ win1_2.index t = ![t.val / 2, 0, 0] ∧ win1_3.index t = ![t.val / 2, t.val % 2, 0] ∧ ((grid1.coords t) 1 : ℕ) = t.val % 2 :=
  (by decide +kernel : ∀ t : Fin grid1.N, _)

/-- The head of a grid point. -/
def head1 (t : Fin cfg1.N) : Fin 8 := ⟨t.val / 2, by have h : t.val < 16 := t.isLt; omega⟩

/-- One element of a step's block, as the step forms it. -/
theorem word1 (i : grid1.Coords) (x0 : FVec Ideal S1x272x128 .bf16) (x1 : FVec Ideal S1x1088x128 .bf16) (x2 : FVec Ideal S1x1088x64 .bf16)
    (r : Fin 272) (u : Fin 64) : k1_pay1 (F := Ideal) i x0 x1 x2 (ix3 0 r u)
      = step (IntOp.addi (Scalar.muli (Scalar.addi (2#32) (BitVec.ofNat 32 (i 1 : ℕ))) 272#32) (BitVec.ofNat 32 (r : ℕ)))
        (Named.named κ "mask" (0xF149F2CA#32 : BitVec (FTy.f32).bits) : Ideal .f32)
        (fun e => x0 (ix3 0 r e)) (fun (j : Fin 1088) e => x1 (ix3 0 j e)) (fun j => x2 (ix3 0 j u)) := by
  simp only [step, masked]
  pointwise [k1_pay1]

include O in
theorem q1_block (t : Fin cfg1.N) (r : Fin 272) (e : Fin 128) :
    (iblk1 V c 0 t : FVec Ideal S1x272x128 .bf16) (ix3 0 r e) = pad (Q (head1 t) ((2 + t.val % 2) * 272 + r)) e := by
  have hr := r.isLt
  rw [← O.q (head1 t) ⟨(2 + t.val % 2) * 272 + r, by omega⟩ e]
  blk_point [iblk1, at1 t, head1]

include O in
theorem k1_block (t : Fin cfg1.N) (j : Fin 1088) (e : Fin 128) :
    (iblk1 V c 1 t : FVec Ideal S1x1088x128 .bf16) (ix3 0 j e) = pad (K (head1 t) j) e := by
  have hj := j.isLt
  rw [← O.k (head1 t) ⟨j, by omega⟩ e]
  blk_point [iblk1, at1 t, head1]

include O in
theorem v1_block (t : Fin cfg1.N) (j : Fin 1088) (u : Fin 64) :
    (iblk1 V c 2 t : FVec Ideal S1x1088x64 .bf16) (ix3 0 j u) = U (head1 t) j u := by
  have hj := j.isLt
  rw [← O.v (head1 t) ⟨j, by omega⟩ u]
  blk_point [iblk1, at1 t, head1]

include O in
/-- One element of a grid point's block. -/
theorem out1_at (t : Fin cfg1.N) (y : S1x272x64.Idx) (i : S8x544x64.Idx)
    (h0 : (i 0 : ℕ) = t.val / 2) (h1 : (i 1 : ℕ) = t.val % 2 * 272 + y 1) (h2 : (i 2 : ℕ) = y 2) :
    k1_pay1 (F := Ideal) (grid1.coords t) (iblk1 V c 0 t) (iblk1 V c 1 t) (iblk1 V c 2 t) y = band 544 Q K U i := by
  have hr : (y 1 : ℕ) < 272 := (y 1).isLt
  rw [show y = ix3 (0 : Fin 1) (y 1) (y 2) from (eq_ix3 y).trans (congrArg (fun z : Fin 1 => ix3 z (y 1) (y 2)) (Subsingleton.elim _ _))]
  refine (word1 _ _ _ _ (y 1) (y 2)).trans ?_
  refine (step_point (Q (head1 t)) (K (head1 t)) (U (head1 t)) (R := (2 + t.val % 2) * 272 + y 1) (by omega) (by omega) _
    ((row_word 2 _ _).trans (by rw [(at1 t).2.2.2.2])) _ rfl _ _ _ (y 2)
    (q1_block V c Q K U O t (y 1)) (k1_block V c Q K U O t) (fun j => v1_block V c Q K U O t j (y 2)) (O.qreal _) (O.kreal _)).trans ?_
  unfold band
  rw [show i 0 = head1 t from Fin.ext h0, show i 2 = y 2 from Fin.ext h2, h1]
  exact congrArg (fun R => attended _ _ _ R (y 2)) (by omega)

include O in
/-- The result whole. -/
theorem array1 : (dat1 V c).arrAt 3 cfg1.N = band 544 Q K U := by
  refine (dat1 V c).arrAt_eq_of_covers 3 _ (by decide +kernel) (fun t hf y => ?_)
  blk_simp
  rw [after1_3]
  refine out1_at V c Q K U O t _ _ ?_ ?_ ?_ <;> blk_simp [at1 t]

/-- The blocks of grid point `t`: head `t / 2`, block `t % 2` of the call's queries. -/
theorem at2 : ∀ t : Fin cfg2.N, win2_0.index t = ![t.val / 2, 4 + t.val % 2, 0] ∧ win2_1.index t = ![t.val / 2, 0, 0]
    ∧ win2_2.index t = ![t.val / 2, 0, 0] ∧ win2_3.index t = ![t.val / 2, t.val % 2, 0] ∧ ((grid2.coords t) 1 : ℕ) = t.val % 2 :=
  (by decide +kernel : ∀ t : Fin grid2.N, _)

/-- The head of a grid point. -/
def head2 (t : Fin cfg2.N) : Fin 8 := ⟨t.val / 2, by have h : t.val < 16 := t.isLt; omega⟩

/-- One element of a step's block, as the step forms it. -/
theorem word2 (i : grid2.Coords) (x0 : FVec Ideal S1x272x128 .bf16) (x1 : FVec Ideal S1x1632x128 .bf16) (x2 : FVec Ideal S1x1632x64 .bf16)
    (r : Fin 272) (u : Fin 64) : k2_pay1 (F := Ideal) i x0 x1 x2 (ix3 0 r u)
      = step (IntOp.addi (Scalar.muli (Scalar.addi (4#32) (BitVec.ofNat 32 (i 1 : ℕ))) 272#32) (BitVec.ofNat 32 (r : ℕ)))
        (Named.named κ "mask" (0xF149F2CA#32 : BitVec (FTy.f32).bits) : Ideal .f32)
        (fun e => x0 (ix3 0 r e)) (fun (j : Fin 1632) e => x1 (ix3 0 j e)) (fun j => x2 (ix3 0 j u)) := by
  simp only [step, masked]
  pointwise [k2_pay1]

include O in
theorem q2_block (t : Fin cfg2.N) (r : Fin 272) (e : Fin 128) :
    (iblk2 V c 0 t : FVec Ideal S1x272x128 .bf16) (ix3 0 r e) = pad (Q (head2 t) ((4 + t.val % 2) * 272 + r)) e := by
  have hr := r.isLt
  rw [← O.q (head2 t) ⟨(4 + t.val % 2) * 272 + r, by omega⟩ e]
  blk_point [iblk2, at2 t, head2]

include O in
theorem k2_block (t : Fin cfg2.N) (j : Fin 1632) (e : Fin 128) :
    (full2_1 V c t : FVec Ideal S1x1632x128 .bf16) (ix3 0 j e) = pad (K (head2 t) j) e := by
  have hj := j.isLt
  rw [← O.k (head2 t) ⟨j, by omega⟩ e]
  rw [full2_1, Pipeline.Window.fill, dif_pos (moved2_1 t _)]
  blk_point [iblk2, at2 t, head2]

include O in
theorem v2_block (t : Fin cfg2.N) (j : Fin 1632) (u : Fin 64) :
    (full2_2 V c t : FVec Ideal S1x1632x64 .bf16) (ix3 0 j u) = U (head2 t) j u := by
  have hj := j.isLt
  rw [← O.v (head2 t) ⟨j, by omega⟩ u]
  rw [full2_2, Pipeline.Window.fill, dif_pos (moved2_2 t _)]
  blk_point [iblk2, at2 t, head2]

include O in
/-- One element of a grid point's block. -/
theorem out2_at (t : Fin cfg2.N) (y : S1x272x64.Idx) (i : S8x544x64.Idx)
    (h0 : (i 0 : ℕ) = t.val / 2) (h1 : (i 1 : ℕ) = t.val % 2 * 272 + y 1) (h2 : (i 2 : ℕ) = y 2) :
    k2_pay1 (F := Ideal) (grid2.coords t) (iblk2 V c 0 t) (full2_1 V c t) (full2_2 V c t) y = band 1088 Q K U i := by
  have hr : (y 1 : ℕ) < 272 := (y 1).isLt
  rw [show y = ix3 (0 : Fin 1) (y 1) (y 2) from (eq_ix3 y).trans (congrArg (fun z : Fin 1 => ix3 z (y 1) (y 2)) (Subsingleton.elim _ _))]
  refine (word2 _ _ _ _ (y 1) (y 2)).trans ?_
  refine (step_point (Q (head2 t)) (K (head2 t)) (U (head2 t)) (R := (4 + t.val % 2) * 272 + y 1) (by omega) (by omega) _
    ((row_word 4 _ _).trans (by rw [(at2 t).2.2.2.2])) _ rfl _ _ _ (y 2)
    (q2_block V c Q K U O t (y 1)) (k2_block V c Q K U O t) (fun j => v2_block V c Q K U O t j (y 2)) (O.qreal _) (O.kreal _)).trans ?_
  unfold band
  rw [show i 0 = head2 t from Fin.ext h0, show i 2 = y 2 from Fin.ext h2, h1]
  exact congrArg (fun R => attended _ _ _ R (y 2)) (by omega)

include O in
/-- The result whole. -/
theorem array2 : (dat2 V c).arrAt 3 cfg2.N = band 1088 Q K U := by
  refine (dat2 V c).arrAt_eq_of_covers 3 _ (by decide +kernel) (fun t hf y => ?_)
  blk_simp
  rw [after2_3]
  refine out2_at V c Q K U O t _ _ ?_ ?_ ?_ <;> blk_simp [at2 t]

/-- The blocks of grid point `t`: head `t / 2`, block `t % 2` of the call's queries. -/
theorem at3 : ∀ t : Fin cfg3.N, win3_0.index t = ![t.val / 2, 6 + t.val % 2, 0] ∧ win3_1.index t = ![t.val / 2, 0, 0]
    ∧ win3_2.index t = ![t.val / 2, 0, 0] ∧ win3_3.index t = ![t.val / 2, t.val % 2, 0] ∧ ((grid3.coords t) 1 : ℕ) = t.val % 2 :=
  (by decide +kernel : ∀ t : Fin grid3.N, _)

/-- The head of a grid point. -/
def head3 (t : Fin cfg3.N) : Fin 8 := ⟨t.val / 2, by have h : t.val < 16 := t.isLt; omega⟩

/-- One element of a step's block, as the step forms it. -/
theorem word3 (i : grid3.Coords) (x0 : FVec Ideal S1x272x128 .bf16) (x1 : FVec Ideal S1x2176x128 .bf16) (x2 : FVec Ideal S1x2176x64 .bf16)
    (r : Fin 272) (u : Fin 64) : k3_pay1 (F := Ideal) i x0 x1 x2 (ix3 0 r u)
      = step (IntOp.addi (Scalar.muli (Scalar.addi (6#32) (BitVec.ofNat 32 (i 1 : ℕ))) 272#32) (BitVec.ofNat 32 (r : ℕ)))
        (Named.named κ "mask" (0xF149F2CA#32 : BitVec (FTy.f32).bits) : Ideal .f32)
        (fun e => x0 (ix3 0 r e)) (fun (j : Fin 2176) e => x1 (ix3 0 j e)) (fun j => x2 (ix3 0 j u)) := by
  simp only [step, masked]
  pointwise [k3_pay1]

include O in
theorem q3_block (t : Fin cfg3.N) (r : Fin 272) (e : Fin 128) :
    (iblk3 V c 0 t : FVec Ideal S1x272x128 .bf16) (ix3 0 r e) = pad (Q (head3 t) ((6 + t.val % 2) * 272 + r)) e := by
  have hr := r.isLt
  rw [← O.q (head3 t) ⟨(6 + t.val % 2) * 272 + r, by omega⟩ e]
  blk_point [iblk3, at3 t, head3]

include O in
theorem k3_block (t : Fin cfg3.N) (j : Fin 2176) (e : Fin 128) :
    (iblk3 V c 1 t : FVec Ideal S1x2176x128 .bf16) (ix3 0 j e) = pad (K (head3 t) j) e := by
  have hj := j.isLt
  rw [← O.k (head3 t) ⟨j, by omega⟩ e]
  blk_point [iblk3, at3 t, head3]

include O in
theorem v3_block (t : Fin cfg3.N) (j : Fin 2176) (u : Fin 64) :
    (iblk3 V c 2 t : FVec Ideal S1x2176x64 .bf16) (ix3 0 j u) = U (head3 t) j u := by
  have hj := j.isLt
  rw [← O.v (head3 t) ⟨j, by omega⟩ u]
  blk_point [iblk3, at3 t, head3]

include O in
/-- One element of a grid point's block. -/
theorem out3_at (t : Fin cfg3.N) (y : S1x272x64.Idx) (i : S8x544x64.Idx)
    (h0 : (i 0 : ℕ) = t.val / 2) (h1 : (i 1 : ℕ) = t.val % 2 * 272 + y 1) (h2 : (i 2 : ℕ) = y 2) :
    k3_pay1 (F := Ideal) (grid3.coords t) (iblk3 V c 0 t) (iblk3 V c 1 t) (iblk3 V c 2 t) y = band 1632 Q K U i := by
  have hr : (y 1 : ℕ) < 272 := (y 1).isLt
  rw [show y = ix3 (0 : Fin 1) (y 1) (y 2) from (eq_ix3 y).trans (congrArg (fun z : Fin 1 => ix3 z (y 1) (y 2)) (Subsingleton.elim _ _))]
  refine (word3 _ _ _ _ (y 1) (y 2)).trans ?_
  refine (step_point (Q (head3 t)) (K (head3 t)) (U (head3 t)) (R := (6 + t.val % 2) * 272 + y 1) (by omega) (by omega) _
    ((row_word 6 _ _).trans (by rw [(at3 t).2.2.2.2])) _ rfl _ _ _ (y 2)
    (q3_block V c Q K U O t (y 1)) (k3_block V c Q K U O t) (fun j => v3_block V c Q K U O t j (y 2)) (O.qreal _) (O.kreal _)).trans ?_
  unfold band
  rw [show i 0 = head3 t from Fin.ext h0, show i 2 = y 2 from Fin.ext h2, h1]
  exact congrArg (fun R => attended _ _ _ R (y 2)) (by omega)

include O in
/-- The result whole. -/
theorem array3 : (dat3 V c).arrAt 3 cfg3.N = band 1632 Q K U := by
  refine (dat3 V c).arrAt_eq_of_covers 3 _ (by decide +kernel) (fun t hf y => ?_)
  blk_simp
  rw [after3_3]
  refine out3_at V c Q K U O t _ _ ?_ ?_ ?_ <;> blk_simp [at3 t]
end
end Cert.Kernel8Ideal.Fwd
end
-- ==== Proof.Fwd.Value.lean ====
/- What the forward program leaves in its result: the attention's output, in the rows of each head. -/
module

public import proofs.«01_k».proof.Proof.Fwd.Run
public import proofs.«01_k».proof.Proof.Fwd.Arrays

@[expose] public section
set_option maxRecDepth 16384
noncomputable section

namespace Cert.Kernel8Ideal.Fwd
open Cert.Kernel8Ideal Cert.Kernel8Ideal.Gen Idealize.ShloMosaic Idealize.ShloMosaic.TcCoe Idealize.SL.Sem Cert.Att Cert.Fwd

variable (m : (ℓ : Loc nD τ sig) → Buf (Elt Ideal) ℓ) (ρ : Dev nD → PrngReg) (c : Dev nD)
  (a b : FVec Ideal S2176x8x96 .f32) (v : FVec Ideal S2176x8x64 .f32)
  (ha : m (c.tc.loc main_arg0) = a) (hb : m (c.tc.loc main_arg1) = b)
  (hv : m (c.tc.loc main_arg2) = v) (fa : ∀ i, IsReal (a i)) (fb : ∀ i, IsReal (b i))

include ha in
theorem entry_q (h : Fin 8) (r : Fin 2176) (e : Fin 128) : (W1 m ρ c (Proc.devRef .tc main_v3) : FVec Ideal S8x2176x128 .bf16) (ix3 h r e) = Att.pad (rows a h r) e := by
  after_results
  rw [show W0 m ρ c (Proc.devRef .tc main_arg0) = a from ha]
  unfold Att.pad
  pointwise [rows]

include hb in
theorem entry_k (h : Fin 8) (r : Fin 2176) (e : Fin 128) : (W1 m ρ c (Proc.devRef .tc main_v6) : FVec Ideal S8x2176x128 .bf16) (ix3 h r e) = Att.pad (rows b h r) e := by
  after_results
  rw [show W0 m ρ c (Proc.devRef .tc main_arg1) = b from hb]
  unfold Att.pad
  pointwise [rows]

include hv in
theorem entry_v (h : Fin 8) (r : Fin 2176) (u : Fin 64) : (W1 m ρ c (Proc.devRef .tc main_v8) : FVec Ideal S8x2176x64 .bf16) (ix3 h r u) = rows v h r u := by
  after_results
  rw [show W0 m ρ c (Proc.devRef .tc main_arg2) = v from hv]
  pointwise [rows]

/-- The operands at contents `W`. -/
abbrev OperandsAt (W : Dev nD → Valuation τ sig (Elt Ideal)) : Prop :=
  Operands (entry W c main_v3) (entry W c main_v6) (entry W c main_v8) (rows a) (rows b) (rows v)

section
include ha hb hv fa fb
theorem operands1 : OperandsAt c a b v (W1 m ρ) :=
  ⟨entry_q m ρ c a ha, entry_k m ρ c b hb, entry_v m ρ c v hv, rows_fin a fa, rows_fin b fb⟩
theorem operands2 : OperandsAt c a b v (W2 m ρ) := (operands1 m ρ c a b v ha hb hv fa fb).of_eq
  (keep2 m ρ c main_v3 (by decide +kernel)) (keep2 m ρ c main_v6 (by decide +kernel)) (keep2 m ρ c main_v8 (by decide +kernel))
theorem operands3 : OperandsAt c a b v (W3 m ρ) := (operands2 m ρ c a b v ha hb hv fa fb).of_eq
  (keep3 m ρ c main_v3 (by decide +kernel)) (keep3 m ρ c main_v6 (by decide +kernel)) (keep3 m ρ c main_v8 (by decide +kernel))
theorem operands4 : OperandsAt c a b v (W4 m ρ) := (operands3 m ρ c a b v ha hb hv fa fb).of_eq
  (keep4 m ρ c main_v3 (by decide +kernel)) (keep4 m ρ c main_v6 (by decide +kernel)) (keep4 m ρ c main_v8 (by decide +kernel))

theorem out0 : W5 m ρ c (Proc.devRef .tc main_v9) = band 0 (rows a) (rows b) (rows v) :=
  (keep5 m ρ c main_v9 (by decide +kernel)).trans ((keep4 m ρ c main_v9 (by decide +kernel)).trans ((keep3 m ρ c main_v9 (by decide +kernel)).trans
    ((leave_arr 0 _ _ launch0 c 3).trans (array0 _ c _ _ _ (operands1 m ρ c a b v ha hb hv fa fb)))))
theorem out1 : W5 m ρ c (Proc.devRef .tc main_v10) = band 544 (rows a) (rows b) (rows v) :=
  (keep5 m ρ c main_v10 (by decide +kernel)).trans ((keep4 m ρ c main_v10 (by decide +kernel)).trans
    ((leave_arr 1 _ _ launch1 c 3).trans (array1 _ c _ _ _ (operands2 m ρ c a b v ha hb hv fa fb))))
theorem out2 : W5 m ρ c (Proc.devRef .tc main_v11) = band 1088 (rows a) (rows b) (rows v) :=
  (keep5 m ρ c main_v11 (by decide +kernel)).trans ((leave_arr 2 _ _ launch2 c 3).trans (array2 _ c _ _ _ (operands3 m ρ c a b v ha hb hv fa fb)))
theorem out3 : W5 m ρ c (Proc.devRef .tc main_v12) = band 1632 (rows a) (rows b) (rows v) :=
  (leave_arr 3 _ _ launch3 c 3).trans (array3 _ c _ _ _ (operands4 m ρ c a b v ha hb hv fa fb))
end

theorem joined (x0 x1 x2 x3 : FVec Ideal S8x544x64 .f32) (r : Fin 2176) (h : Fin 8) (e : Fin 64) (f : ℕ → EReal)
    (h0 : ∀ s : Fin 544, x0 (ix3 h s e) = f (0 + s)) (h1 : ∀ s : Fin 544, x1 (ix3 h s e) = f (544 + s))
    (h2 : ∀ s : Fin 544, x2 (ix3 h s e) = f (1088 + s)) (h3 : ∀ s : Fin 544, x3 (ix3 h s e) = f (1632 + s)) :
    transpose S2176x8x64 [1, 0, 2]
        (concatenate S8x2176x64 1 [⟨S8x544x64, x0⟩, ⟨S8x544x64, x1⟩, ⟨S8x544x64, x2⟩, ⟨S8x544x64, x3⟩]
          concatenates_S8x544x64_S8x544x64_S8x544x64_S8x544x64_S8x2176x64_d1)
        transposes_S8x2176x64_S2176x8x64_1_0_2 (ix3 r h e) = f r := by
  pointwise
  have hr := r.isLt
  split
  · exact (h0 _).trans (congrArg f (by show 0 + (r : ℕ) = r; omega))
  split
  · exact (h1 _).trans (congrArg f (by show 544 + ((r : ℕ) - 544) = r; omega))
  split
  · exact (h2 _).trans (congrArg f (by show 1088 + ((r : ℕ) - 544 - 544) = r; omega))
  · exact (h3 _).trans (congrArg f (by show 1632 + ((r : ℕ) - 544 - 544 - 544) = r; omega))

include ha hb hv fa fb in
theorem out_point (r : Fin 2176) (h : Fin 8) (u : Fin 64) :
    (W6 m ρ c (Proc.devRef .tc main_v14) : FVec Ideal S2176x8x64 .f32) (ix3 r h u) = attended (rows a h) (rows b h) (rows v h) r u := by
  have e0 := out0 m ρ c a b v ha hb hv fa fb
  have e1 := out1 m ρ c a b v ha hb hv fa fb
  have e2 := out2 m ρ c a b v ha hb hv fa fb
  have e3 := out3 m ρ c a b v ha hb hv fa fb
  after_results
  exact joined _ _ _ _ r h u (fun R => attended (rows a h) (rows b h) (rows v h) R u)
    (fun s => congrFun e0 _) (fun s => congrFun e1 _) (fun s => congrFun e2 _) (fun s => congrFun e3 _)
end Cert.Kernel8Ideal.Fwd
-- ==== Proof.Fwd.RefValue.lean ====
/- The forward reference's result read element by element, and its precondition read back. -/
module

public import proofs.«01_k».proof.Proof.Gen.Reference8Ideal.Run
public import proofs.«01_k».proof.Pre_finite_qk_fwd
public import proofs.«01_k».proof.Proof.Finite
public import proofs.«01_k».proof.Proof.RefValue
public import proofs.«01_k».proof.Proof.Fwd.Formulas

@[expose] public section
set_option maxRecDepth 16384
noncomputable section
namespace Cert.Fwd
open Idealize.ShloMosaic Idealize.ShloMosaic.TcCoe Idealize.SL.Sem Cert.Att Cert.ReferenceIdeal.Att

section
open Cert.Reference8Ideal Cert.Reference8Ideal.Gen Cert.Reference8Ideal.Value
/-- The values under the weights. -/
def rout (v : FVec Ideal S2176x8x64 .f32) (p : B) : FVec Ideal S2176x8x64 .f32 :=
  transpose S2176x8x64 [2, 0, 1] (Host.dotGeneral dot_S2176x8x64_S8x2176x2176_S8x64x2176_0_2_2_1_1_0 none v p) transposes_S8x64x2176_S2176x8x64_2_0_1

/-- The reference's scores and weights are those of the gradient's reference. -/
theorem ref_out (m : (ℓ : Loc nD τ sig) → Buf (Elt Ideal) ℓ) (c : Dev nD) (a b : FVec Ideal S2176x8x96 .f32) (v : FVec Ideal S2176x8x64 .f32)
    (ha : m ((c.tc : Thread nD τ).loc main_arg0) = a) (hb : m ((c.tc : Thread nD τ).loc main_arg1) = b) (hv : m ((c.tc : Thread nD τ).loc main_arg2) = v) :
    res_out0 m c = rout v (rp (rexp (rscore a b)) (rden (rexp (rscore a b)))) := by
  subst ha hb hv; rfl

theorem rout_word (v : FVec Ideal S2176x8x64 .f32) (p : B) (r : Fin 2176) (h : Fin 8) (u : Fin 64) :
    rout v p (ix3 r h u) = ∑ x : Fin 2176, v (ix3 x h u) * p (ix3 h r x) := by
  pointwise [rout]

theorem ref_point (a b : FVec Ideal S2176x8x96 .f32) (v : FVec Ideal S2176x8x64 .f32) (ha : ∀ i, IsReal (a i)) (hb : ∀ i, IsReal (b i))
    (r : Fin 2176) (h : Fin 8) (u : Fin 64) :
    rout v (rp (rexp (rscore a b)) (rden (rexp (rscore a b)))) (ix3 r h u) = attended (rows a h) (rows b h) (rows v h) r u := by
  rw [rout_word, ← attended_fin r.isLt _ _ _ (rows_fin a ha h) (rows_fin b hb h)]
  refine Finset.sum_congr rfl fun x _ => ?_
  rw [p_point a b h ha hb, rows_val, mul_comm]
end

open Cert.Pre_finite_qk_fwd in
theorem real_of_pre [Facts] (a b : FVec Ideal S2176x8x96 .f32) (v : FVec Ideal S2176x8x64 .f32) (h : fn (F := Ideal) a b v = fun _ => 1#1) :
    (∀ i, IsReal (a i)) ∧ ∀ i, IsReal (b i) := by
  have key := fun k => IntOp.andi_eq_one.1 (congrFun h k)
  exact ⟨Cert.Pre_finite_qk.Att.real_of_reduce a _ _ _ (funext fun k => (key k).1), Cert.Pre_finite_qk.Att.real_of_reduce b _ _ _ (funext fun k => (key k).2)⟩
end Cert.Fwd
-- ==== Proof.Fwd.Claims.lean ====
/- The forward attention's claims: the frames of its programs, the named constant, and the equality of the outputs. -/
module

public import proofs.«01_k».proof.Defs
public import proofs.«01_k».proof.Proof.Fwd.NamedBits
public import proofs.«01_k».proof.Proof.Fwd.Value
public import proofs.«01_k».proof.Proof.Fwd.RefValue
public import proofs.«01_k».proof.Proof.Gen.Pre_finite_qk_fwd

@[expose] public section
set_option maxRecDepth 16384
noncomputable section

namespace Cert.Proof
open Idealize.ShloMosaic Idealize.ShloMosaic.TcCoe Idealize.SL.Sem Cert.Att Cert.Fwd Cert.Kernel8Ideal.Fwd

theorem frame_kernel8 : Cert.quiescent_Kernel8 := fun m g _ => kernel_frame m g
theorem frame_ideal8 : Cert.quiescent_Kernel8Ideal := fun m g _ => run_frame m g
theorem frame_ideal8_pre : Cert.quiescent_Kernel8Ideal_pre_finite_qk_fwd := fun m g _ => run_frame m g
theorem frame_reference8 : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)
theorem frame_reference8_pre : Cert.quiescent_Reference8Ideal_pre_finite_qk_fwd := fun m g _ => frame_reference8 m g trivial

theorem preserves8 : Cert.preserves_Kernel8_Kernel8Ideal :=
  IdealRules.named_const.statement Cert.Kernel8Ideal.κ "mask" .f32 0xF149F2CA#32 ⊥ rfl

section
open Cert.Kernel8Ideal
/-- The outputs agree. -/
theorem same_out (m : (ℓ : Loc nD τ sig) → Buf (Elt Ideal) ℓ) (g : Dev nD → PrngReg)
    (m' : (ℓ : Loc Cert.Reference8Ideal.nD Cert.Reference8Ideal.τ Cert.Reference8Ideal.sig) → Buf (Elt Ideal) ℓ) (c : Dev nD)
    (a b : FVec Ideal ⟨3, ![2176, 8, 96]⟩ .f32) (v : FVec Ideal ⟨3, ![2176, 8, 64]⟩ .f32)
    (ha : m (c.tc.loc main_arg0) = a) (hb : m (c.tc.loc main_arg1) = b) (hv : m (c.tc.loc main_arg2) = v)
    (ha' : m' ((c : Thread Cert.Reference8Ideal.nD Cert.Reference8Ideal.τ).loc Cert.Reference8Ideal.main_arg0) = a)
    (hb' : m' ((c : Thread Cert.Reference8Ideal.nD Cert.Reference8Ideal.τ).loc Cert.Reference8Ideal.main_arg1) = b)
    (hv' : m' ((c : Thread Cert.Reference8Ideal.nD Cert.Reference8Ideal.τ).loc Cert.Reference8Ideal.main_arg2) = v)
    (fa : ∀ i, IsReal (a i)) (fb : ∀ i, IsReal (b i)) :
    (Cert.Reference8Ideal.Value.res_out0 m' c : FVec Ideal ⟨3, ![2176, 8, 64]⟩ .f32) = W6 m g c (Proc.devRef .tc main_v14) := by
  refine (ref_out m' c a b v ha' hb' hv').trans (funext fun i => ?_)
  obtain ⟨r, h, u, rfl⟩ : ∃ r h u, i = ix3 r h u := ⟨_, _, _, eq_ix3 i⟩
  exact (ref_point a b v fa fb r h u).trans (out_point m g c a b v ha hb hv fa fb r h u).symm

theorem algebraic8 : Cert.algebraic_Kernel8Ideal_Reference8Ideal_pre_finite_qk_fwd := by
  intro m g m' g' hpre hargs
  have hf := fun c => real_of_pre _ _ _ (hpre c)
  refine ⟨fun c => W6 m g c (Proc.devRef .tc main_v14), ?_, ?_⟩
  · exact (θ_run defs _ _).mono (fun r h c =>
      ⟨h.1 c _ (mem_refs main_v14 (by decide)),
       (h.1 c _ (mem_refs main_arg0 (by decide))).trans (W6_args m g c main_arg0 (by decide)),
       (h.1 c _ (mem_refs main_arg1 (by decide))).trans (W6_args m g c main_arg1 (by decide)),
       (h.1 c _ (mem_refs main_arg2 (by decide))).trans (W6_args m g c main_arg2 (by decide))⟩)
      (run_main (F := Ideal) m g)
  · exact (θ_run Cert.Reference8Ideal.defs _ _).mono (fun r h c =>
      ⟨(h c).1.trans (same_out m g m' c _ _ _ rfl rfl rfl (hargs c).1 (hargs c).2.1 (hargs c).2.2 (hf c).1 (hf c).2), (h c).2⟩)
      (Cert.Reference8Ideal.Value.run (F := Ideal) m' g')
end

end Cert.Proof
-- ==== Proof.Wide.Run.lean ====
/- The run of the three products and their gradients, with what every array holds at its end. -/
module

public import proofs.«01_k».proof.Proof.Gen.Kernel10Ideal.Frame

@[expose] public section
set_option maxRecDepth 16384
noncomputable section

namespace Cert.Kernel10Ideal.Wide
open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution ends, with every array that outlives the launches at its last contents and every counter at zero. -/
theorem run_all : θ_run defs (onTc (τ := τ) (main (F := F))) ⟨m, fun _ => 0, ρ⟩ (fun r => (∀ c : Dev nD, ∀ b ∈ Pipeline.ucRefs τ sig, r.2.mem (((c : Thread nD τ)).1, b) = W8 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

end Cert.Kernel10Ideal.Wide
-- ==== Proof.Wide.Value.lean ====
/- What the six launches leave in their results, and the program in its results: three products and their gradients in the rows. -/
module

public import proofs.«01_k».proof.Proof.Mix.Formulas
public import proofs.«01_k».proof.Proof.Gen.Kernel10Ideal.Frame
public import Idealize.ShloMosaic.Lib.Pipeline.ValueKit

@[expose] public section
set_option maxRecDepth 16384
noncomputable section

namespace Cert.Kernel10Ideal.Wide
open Cert.Kernel10Ideal Cert.Kernel10Ideal.Gen Idealize.ShloMosaic Idealize.ShloMosaic.TcCoe Idealize.SL.Sem Cert.Ffn

/-- An array of numbers. -/
abbrev A (m n : ℕ) := (⟨2, ![m, n]⟩ : Shape).Idx → EReal

section
variable (V : (c : Dev nD) → (b : Ref sig .tc) → Buf (Elt Ideal) ((c : Thread nD τ).loc b)) (c : Dev nD)

/-- Launch 0: the blocks of grid point `t`, -/
theorem at0 : ∀ t : Fin cfg0.N, win0_0.index t = ![0, 0] ∧ win0_1.index t = ![t.val, 0] ∧ win0_2.index t = ![0, t.val] :=
  (by decide +kernel : ∀ t : Fin grid0.N, _)
/-- one element of a grid point's block, -/
theorem out0_at (t : Fin cfg0.N) (b : S2176x384.Idx) (i : S2176x768.Idx) (h0 : (i 0 : ℕ) = b 0) (h1 : (i 1 : ℕ) = t.val * 384 + b 1) :
    k0_pay1 (F := Ideal) (iblk0 V c 0 t) (iblk0 V c 1 t) b = nt (V c main_v0 : A 2176 384) (V c main_v3 : A 768 384) i := by
  rw [show b = ix2 (b 0) (b 1) from eq_ix2 b]
  pointwise [k0_pay1]
  unfold nt
  refine Finset.sum_congr rfl fun e _ => congr (congrArg HMul.hMul ?_) ?_ <;> blk_point [iblk0, at0 t]
/-- and the result whole. -/
theorem array0 : (dat0 V c).arrAt 2 cfg0.N = nt (V c main_v0 : A 2176 384) (V c main_v3 : A 768 384) := by
  refine (dat0 V c).arrAt_eq_of_covers 2 _ (by decide +kernel) (fun t hf y => ?_)
  blk_simp
  rw [after0_2]
  frame_out
  refine out0_at V c t _ _ ?_ ?_ <;> blk_simp [at0 t]

/-- Launch 1: the blocks of grid point `t`, -/
theorem at1 : ∀ t : Fin cfg1.N, win1_0.index t = ![0, 0] ∧ win1_1.index t = ![t.val, 0] ∧ win1_2.index t = ![0, t.val] :=
  (by decide +kernel : ∀ t : Fin grid1.N, _)
/-- one element of a grid point's block, -/
theorem out1_at (t : Fin cfg1.N) (b : S2176x512.Idx) (i : S2176x1024.Idx) (h0 : (i 0 : ℕ) = b 0) (h1 : (i 1 : ℕ) = t.val * 512 + b 1) :
    k1_pay1 (F := Ideal) (iblk1 V c 0 t) (iblk1 V c 1 t) b = nt (V c main_v1 : A 2176 256) (V c main_v5 : A 1024 256) i := by
  rw [show b = ix2 (b 0) (b 1) from eq_ix2 b]
  pointwise [k1_pay1]
  unfold nt
  refine Finset.sum_congr rfl fun e _ => congr (congrArg HMul.hMul ?_) ?_ <;> blk_point [iblk1, at1 t]
/-- and the result whole. -/
theorem array1 : (dat1 V c).arrAt 2 cfg1.N = nt (V c main_v1 : A 2176 256) (V c main_v5 : A 1024 256) := by
  refine (dat1 V c).arrAt_eq_of_covers 2 _ (by decide +kernel) (fun t hf y => ?_)
  blk_simp
  rw [after1_2]
  frame_out
  refine out1_at V c t _ _ ?_ ?_ <;> blk_simp [at1 t]

/-- Launch 2: the blocks of grid point `t`, -/
theorem at2 : ∀ t : Fin cfg2.N, win2_0.index t = ![t.val, 0] ∧ win2_1.index t = ![0, 0] ∧ win2_2.index t = ![t.val, 0] :=
  (by decide +kernel : ∀ t : Fin grid2.N, _)
/-- one element of a grid point's block, -/
theorem out2_at (t : Fin cfg2.N) (b : S1088x512.Idx) (i : S2176x512.Idx) (h0 : (i 0 : ℕ) = t.val * 1088 + b 0) (h1 : (i 1 : ℕ) = b 1) :
    k2_pay1 (F := Ideal) (iblk2 V c 0 t) (iblk2 V c 1 t) b = nn (V c main_arg2 : A 2176 512) (V c main_v6 : A 512 512) i := by
  rw [show b = ix2 (b 0) (b 1) from eq_ix2 b]
  pointwise [k2_pay1]
  unfold nn
  refine Finset.sum_congr rfl fun e _ => congr (congrArg HMul.hMul ?_) ?_ <;> blk_point [iblk2, at2 t]
/-- and the result whole. -/
theorem array2 : (dat2 V c).arrAt 2 cfg2.N = nn (V c main_arg2 : A 2176 512) (V c main_v6 : A 512 512) := by
  refine (dat2 V c).arrAt_eq_of_covers 2 _ (by decide +kernel) (fun t hf y => ?_)
  blk_simp
  rw [after2_2]
  frame_out
  refine out2_at V c t _ _ ?_ ?_ <;> blk_simp [at2 t]

/-- Launch 3: the blocks of grid point `t`, -/
theorem at3 : ∀ t : Fin cfg3.N, win3_0.index t = ![t.val, 0] ∧ win3_1.index t = ![0, 0] ∧ win3_2.index t = ![t.val, 0] :=
  (by decide +kernel : ∀ t : Fin grid3.N, _)
/-- one element of a grid point's block, -/
theorem out3_at (t : Fin cfg3.N) (b : S1088x384.Idx) (i : S2176x384.Idx) (h0 : (i 0 : ℕ) = t.val * 1088 + b 0) (h1 : (i 1 : ℕ) = b 1) :
    k3_pay1 (F := Ideal) (iblk3 V c 0 t) (iblk3 V c 1 t) b = nn (V c main_arg6 : A 2176 768) (V c main_v3 : A 768 384) i := by
  rw [show b = ix2 (b 0) (b 1) from eq_ix2 b]
  pointwise [k3_pay1]
  unfold nn
  refine Finset.sum_congr rfl fun e _ => congr (congrArg HMul.hMul ?_) ?_ <;> blk_point [iblk3, at3 t]
/-- and the result whole. -/
theorem array3 : (dat3 V c).arrAt 2 cfg3.N = nn (V c main_arg6 : A 2176 768) (V c main_v3 : A 768 384) := by
  refine (dat3 V c).arrAt_eq_of_covers 2 _ (by decide +kernel) (fun t hf y => ?_)
  blk_simp
  rw [after3_2]
  frame_out
  refine out3_at V c t _ _ ?_ ?_ <;> blk_simp [at3 t]

/-- Launch 4: the blocks of grid point `t`, -/
theorem at4 : ∀ t : Fin cfg4.N, win4_0.index t = ![t.val, 0] ∧ win4_1.index t = ![0, 0] ∧ win4_2.index t = ![t.val, 0] :=
  (by decide +kernel : ∀ t : Fin grid4.N, _)
/-- one element of a grid point's block, -/
theorem out4_at (t : Fin cfg4.N) (b : S1088x256.Idx) (i : S2176x256.Idx) (h0 : (i 0 : ℕ) = t.val * 1088 + b 0) (h1 : (i 1 : ℕ) = b 1) :
    k4_pay1 (F := Ideal) (iblk4 V c 0 t) (iblk4 V c 1 t) b = nn (V c main_arg7 : A 2176 1024) (V c main_v5 : A 1024 256) i := by
  rw [show b = ix2 (b 0) (b 1) from eq_ix2 b]
  pointwise [k4_pay1]
  unfold nn
  refine Finset.sum_congr rfl fun e _ => congr (congrArg HMul.hMul ?_) ?_ <;> blk_point [iblk4, at4 t]
/-- and the result whole. -/
theorem array4 : (dat4 V c).arrAt 2 cfg4.N = nn (V c main_arg7 : A 2176 1024) (V c main_v5 : A 1024 256) := by
  refine (dat4 V c).arrAt_eq_of_covers 2 _ (by decide +kernel) (fun t hf y => ?_)
  blk_simp
  rw [after4_2]
  frame_out
  refine out4_at V c t _ _ ?_ ?_ <;> blk_simp [at4 t]

/-- Launch 5: the blocks of grid point `t`, -/
theorem at5 : ∀ t : Fin cfg5.N, win5_0.index t = ![t.val, 0] ∧ win5_1.index t = ![0, 0] ∧ win5_2.index t = ![t.val, 0] :=
  (by decide +kernel : ∀ t : Fin grid5.N, _)
/-- one element of a grid point's block, -/
theorem out5_at (t : Fin cfg5.N) (b : S1088x512.Idx) (i : S2176x512.Idx) (h0 : (i 0 : ℕ) = t.val * 1088 + b 0) (h1 : (i 1 : ℕ) = b 1) :
    k5_pay1 (F := Ideal) (iblk5 V c 0 t) (iblk5 V c 1 t) b = nt (V c main_arg8 : A 2176 512) (V c main_v6 : A 512 512) i := by
  rw [show b = ix2 (b 0) (b 1) from eq_ix2 b]
  pointwise [k5_pay1]
  unfold nt
  refine Finset.sum_congr rfl fun e _ => congr (congrArg HMul.hMul ?_) ?_ <;> blk_point [iblk5, at5 t]
/-- and the result whole. -/
theorem array5 : (dat5 V c).arrAt 2 cfg5.N = nt (V c main_arg8 : A 2176 512) (V c main_v6 : A 512 512) := by
  refine (dat5 V c).arrAt_eq_of_covers 2 _ (by decide +kernel) (fun t hf y => ?_)
  blk_simp
  rw [after5_2]
  frame_out
  refine out5_at V c t _ _ ?_ ?_ <;> blk_simp [at5 t]
end

variable (m : (ℓ : Loc nD τ sig) → Buf (Elt Ideal) ℓ) (ρ : Dev nD → PrngReg) (c : Dev nD)

/-! What the launches read: an argument as it is, cast, or transposed and cast. -/
theorem v0_at1 : (W1 m ρ c (Proc.devRef .tc main_v0) : A 2176 384) = m (c.tc.loc main_arg0) := by
  after_results
  funext i
  rw [eq_ix2 i]
  pointwise
theorem v1_at1 : (W1 m ρ c (Proc.devRef .tc main_v1) : A 2176 256) = m (c.tc.loc main_arg1) := by
  after_results
  funext i
  rw [eq_ix2 i]
  pointwise
theorem v3_at1 : (W1 m ρ c (Proc.devRef .tc main_v3) : A 768 384) = tr (m (c.tc.loc main_arg3) : A 384 768) := by
  after_results
  funext i
  rw [eq_ix2 i]
  pointwise [tr]
theorem v5_at1 : (W1 m ρ c (Proc.devRef .tc main_v5) : A 1024 256) = tr (m (c.tc.loc main_arg4) : A 256 1024) := by
  after_results
  funext i
  rw [eq_ix2 i]
  pointwise [tr]
theorem v6_at1 : (W1 m ρ c (Proc.devRef .tc main_v6) : A 512 512) = m (c.tc.loc main_arg5) := by
  after_results
  funext i
  rw [eq_ix2 i]
  pointwise

/-! The results: the three products, and the gradients of their rows. -/
theorem out0 : (W8 m ρ c (Proc.devRef .tc main_v7) : A 2176 768) = nn (m (c.tc.loc main_arg0) : A 2176 384) (m (c.tc.loc main_arg3) : A 384 768) := by
  have h := (W2_arr m ρ c 2).trans ((array0 (V1 m ρ) c).trans (nt_congr (v0_at1 m ρ c) (v3_at1 m ρ c)))
  exact (W8_of m ρ c main_v7 (by decide +kernel)).trans ((W7_of m ρ c main_v7 (by decide +kernel)).trans ((W6_of m ρ c main_v7 (by decide +kernel)).trans ((W5_of m ρ c main_v7 (by decide +kernel)).trans ((W4_of m ρ c main_v7 (by decide +kernel)).trans ((W3_of m ρ c main_v7 (by decide +kernel)).trans h)))))
theorem out1 : (W8 m ρ c (Proc.devRef .tc main_v8) : A 2176 1024) = nn (m (c.tc.loc main_arg1) : A 2176 256) (m (c.tc.loc main_arg4) : A 256 1024) := by
  have h := (W3_arr m ρ c 2).trans ((array1 (V2 m ρ) c).trans (nt_congr ((W2_of m ρ c main_v1 (by decide +kernel)).trans (v1_at1 m ρ c)) ((W2_of m ρ c main_v5 (by decide +kernel)).trans (v5_at1 m ρ c))))
  exact (W8_of m ρ c main_v8 (by decide +kernel)).trans ((W7_of m ρ c main_v8 (by decide +kernel)).trans ((W6_of m ρ c main_v8 (by decide +kernel)).trans ((W5_of m ρ c main_v8 (by decide +kernel)).trans ((W4_of m ρ c main_v8 (by decide +kernel)).trans h))))
theorem out2 : (W8 m ρ c (Proc.devRef .tc main_v9) : A 2176 512) = nn (m (c.tc.loc main_arg2) : A 2176 512) (m (c.tc.loc main_arg5) : A 512 512) := by
  have h := (W4_arr m ρ c 2).trans ((array2 (V3 m ρ) c).trans (nn_congr (W3_args m ρ c main_arg2 (by decide)) ((W3_of m ρ c main_v6 (by decide +kernel)).trans ((W2_of m ρ c main_v6 (by decide +kernel)).trans (v6_at1 m ρ c)))))
  exact (W8_of m ρ c main_v9 (by decide +kernel)).trans ((W7_of m ρ c main_v9 (by decide +kernel)).trans ((W6_of m ρ c main_v9 (by decide +kernel)).trans ((W5_of m ρ c main_v9 (by decide +kernel)).trans h)))
theorem out3 : (W8 m ρ c (Proc.devRef .tc main_v13) : A 2176 384) = nt (m (c.tc.loc main_arg6) : A 2176 768) (m (c.tc.loc main_arg3) : A 384 768) := by
  have h := (W5_arr m ρ c 2).trans ((array3 (V4 m ρ) c).trans (nn_congr (W4_args m ρ c main_arg6 (by decide)) ((W4_of m ρ c main_v3 (by decide +kernel)).trans ((W3_of m ρ c main_v3 (by decide +kernel)).trans ((W2_of m ρ c main_v3 (by decide +kernel)).trans (v3_at1 m ρ c))))))
  refine Eq.trans ?_ ((W7_of m ρ c main_v10 (by decide +kernel)).trans ((W6_of m ρ c main_v10 (by decide +kernel)).trans h))
  after_results
  rfl
theorem out4 : (W8 m ρ c (Proc.devRef .tc main_v14) : A 2176 256) = nt (m (c.tc.loc main_arg7) : A 2176 1024) (m (c.tc.loc main_arg4) : A 256 1024) := by
  have h := (W6_arr m ρ c 2).trans ((array4 (V5 m ρ) c).trans (nn_congr (W5_args m ρ c main_arg7 (by decide)) ((W5_of m ρ c main_v5 (by decide +kernel)).trans ((W4_of m ρ c main_v5 (by decide +kernel)).trans ((W3_of m ρ c main_v5 (by decide +kernel)).trans ((W2_of m ρ c main_v5 (by decide +kernel)).trans (v5_at1 m ρ c)))))))
  refine Eq.trans ?_ ((W7_of m ρ c main_v11 (by decide +kernel)).trans h)
  after_results
  rfl
theorem out5 : (W8 m ρ c (Proc.devRef .tc main_v12) : A 2176 512) = nt (m (c.tc.loc main_arg8) : A 2176 512) (m (c.tc.loc main_arg5) : A 512 512) := by
  have h := (W7_arr m ρ c 2).trans ((array5 (V6 m ρ) c).trans (nt_congr (W6_args m ρ c main_arg8 (by decide)) ((W6_of m ρ c main_v6 (by decide +kernel)).trans ((W5_of m ρ c main_v6 (by decide +kernel)).trans ((W4_of m ρ c main_v6 (by decide +kernel)).trans ((W3_of m ρ c main_v6 (by decide +kernel)).trans ((W2_of m ρ c main_v6 (by decide +kernel)).trans (v6_at1 m ρ c))))))))
  exact (W8_of m ρ c main_v12 (by decide +kernel)).trans (h)

end Cert.Kernel10Ideal.Wide
-- ==== Proof.Wide.Claims.lean ====
/- The claims of the three products: the frames of their programs, and the equality of the products and their rows' gradients. -/
module

public import proofs.«01_k».proof.Defs
public import proofs.«01_k».proof.Proof.Wide.Run
public import proofs.«01_k».proof.Proof.Wide.Value
public import proofs.«01_k».proof.Proof.Gen.Kernel10.Frame
public import proofs.«01_k».proof.Proof.Gen.Reference10Ideal.Run

@[expose] public section
set_option maxRecDepth 16384
noncomputable section

namespace Cert.Reference10Ideal.Wide
open Cert.Reference10Ideal Cert.Reference10Ideal.Gen Idealize.ShloMosaic Idealize.ShloMosaic.TcCoe Idealize.SL.Sem Cert.Ffn

/-! The reference's products, and the gradients of their rows. -/
theorem eq0 (x : FVec Ideal S2176x384 .f32) (w : FVec Ideal S384x768 .f32) : (Host.dotGeneral dot_S2176x384_S384x768_S2176x768_1_0_0_1_n_n none x w : FVec Ideal S2176x768 .f32) = nn x w := by
  funext i
  rw [eq_ix2 i]
  pointwise
  rfl
theorem eq1 (x : FVec Ideal S2176x256 .f32) (w : FVec Ideal S256x1024 .f32) : (Host.dotGeneral dot_S2176x256_S256x1024_S2176x1024_1_0_0_1_n_n none x w : FVec Ideal S2176x1024 .f32) = nn x w := by
  funext i
  rw [eq_ix2 i]
  pointwise
  rfl
theorem eq2 (x : FVec Ideal S2176x512 .f32) (w : FVec Ideal S512x512 .f32) : (Host.dotGeneral dot_S2176x512_S512x512_S2176x512_1_0_0_1_n_n none x w : FVec Ideal S2176x512 .f32) = nn x w := by
  funext i
  rw [eq_ix2 i]
  pointwise
  rfl
theorem eq3 (x : FVec Ideal S2176x768 .f32) (w : FVec Ideal S384x768 .f32) : (Host.dotGeneral dot_S2176x768_S384x768_S2176x384_1_1_0_0_n_n none x w : FVec Ideal S2176x384 .f32) = nt x w := by
  funext i
  rw [eq_ix2 i]
  pointwise
  rfl
theorem eq4 (x : FVec Ideal S2176x1024 .f32) (w : FVec Ideal S256x1024 .f32) : (Host.dotGeneral dot_S2176x1024_S256x1024_S2176x256_1_1_0_0_n_n none x w : FVec Ideal S2176x256 .f32) = nt x w := by
  funext i
  rw [eq_ix2 i]
  pointwise
  rfl
theorem eq5 (x : FVec Ideal S2176x512 .f32) (w : FVec Ideal S512x512 .f32) : (Host.dotGeneral dot_S2176x512_S512x512_S2176x512_1_1_0_0_n_n none x w : FVec Ideal S2176x512 .f32) = nt x w := by
  funext i
  rw [eq_ix2 i]
  pointwise
  rfl

end Cert.Reference10Ideal.Wide

namespace Cert.Proof
open Idealize.ShloMosaic Idealize.ShloMosaic.TcCoe Idealize.SL.Sem

theorem frame_kernel10 : Cert.quiescent_Kernel10 := fun m g _ => Cert.Kernel10.Gen.frame m g
theorem frame_ideal10 : Cert.quiescent_Kernel10Ideal := fun m g _ => Cert.Kernel10Ideal.Gen.frame m g
theorem frame_reference10 : Cert.quiescent_Reference10Ideal := fun m g _ =>
  (θ_run Cert.Reference10Ideal.defs _ _).mono (fun r h => ⟨fun c => (h c).2.2.2.2.2.2, sem_eq_zero_of_no_sems (by decide) r.2⟩)
    (Cert.Reference10Ideal.Value.run (F := Ideal) m g)

theorem preserves10 : Cert.preserves_Kernel10_Kernel10Ideal := trivial

open Cert.Kernel10Ideal.Gen in
open Cert.Kernel10Ideal Cert.Kernel10Ideal.Gen in
theorem algebraic10 : Cert.algebraic_Kernel10Ideal_Reference10Ideal := by
  intro m g m' g' _ hargs
  let E (b : Ref Cert.Kernel10Ideal.sig .tc) (c) := W8 (F := Ideal) m g c (Proc.devRef .tc b)
  refine ⟨E main_v7, E main_v8, E main_v9, E main_v13, E main_v14, E main_v12, ?_, ?_⟩
  · exact (θ_run Cert.Kernel10Ideal.defs _ _).mono (fun r h c =>
      ⟨h.1 c _ (mem_uc main_v7 (by decide)), h.1 c _ (mem_uc main_v8 (by decide)), h.1 c _ (mem_uc main_v9 (by decide)), h.1 c _ (mem_uc main_v13 (by decide)), h.1 c _ (mem_uc main_v14 (by decide)), h.1 c _ (mem_uc main_v12 (by decide)),
       (h.1 c _ (mem_uc main_arg0 (by decide))).trans (W8_main_arg0 m g c),
       (h.1 c _ (mem_uc main_arg1 (by decide))).trans (W8_main_arg1 m g c),
       (h.1 c _ (mem_uc main_arg2 (by decide))).trans (W8_main_arg2 m g c),
       (h.1 c _ (mem_uc main_arg3 (by decide))).trans (W8_main_arg3 m g c),
       (h.1 c _ (mem_uc main_arg4 (by decide))).trans (W8_main_arg4 m g c),
       (h.1 c _ (mem_uc main_arg5 (by decide))).trans (W8_main_arg5 m g c),
       (h.1 c _ (mem_uc main_arg6 (by decide))).trans (W8_main_arg6 m g c),
       (h.1 c _ (mem_uc main_arg7 (by decide))).trans (W8_main_arg7 m g c),
       (h.1 c _ (mem_uc main_arg8 (by decide))).trans (W8_main_arg8 m g c)⟩)
      (Cert.Kernel10Ideal.Wide.run_all (F := Ideal) m g)
  · refine (θ_run Cert.Reference10Ideal.defs _ _).mono (fun r h c => ?_) (Cert.Reference10Ideal.Value.run (F := Ideal) m' g')
    obtain ⟨a0, a1, a2, a3, a4, a5, a6, a7, a8⟩ := hargs c
    obtain ⟨r0, r1, r2, r3, r4, r5, kept⟩ := h c
    rw [a0, a3] at r0
    rw [a1, a4] at r1
    rw [a2, a5] at r2
    rw [a6, a3] at r3
    rw [a7, a4] at r4
    rw [a8, a5] at r5
    exact ⟨r0.trans ((Cert.Reference10Ideal.Wide.eq0 _ _).trans (Cert.Kernel10Ideal.Wide.out0 m g c).symm),
      r1.trans ((Cert.Reference10Ideal.Wide.eq1 _ _).trans (Cert.Kernel10Ideal.Wide.out1 m g c).symm),
      r2.trans ((Cert.Reference10Ideal.Wide.eq2 _ _).trans (Cert.Kernel10Ideal.Wide.out2 m g c).symm),
      r3.trans ((Cert.Reference10Ideal.Wide.eq3 _ _).trans (Cert.Kernel10Ideal.Wide.out3 m g c).symm),
      r4.trans ((Cert.Reference10Ideal.Wide.eq4 _ _).trans (Cert.Kernel10Ideal.Wide.out4 m g c).symm),
      r5.trans ((Cert.Reference10Ideal.Wide.eq5 _ _).trans (Cert.Kernel10Ideal.Wide.out5 m g c).symm), kept⟩

end Cert.Proof
-- ==== Proof.Wide.Grads.lean ====
/- What the programs of the gradients of the three products' weights leave in their results: two halves of the product, added up. -/
module

public import proofs.«01_k».proof.Proof.Mix.BranchValue
public import proofs.«01_k».proof.Proof.Gen.Kernel11Ideal.Value
public import proofs.«01_k».proof.Proof.Gen.Kernel12Ideal.Value
public import proofs.«01_k».proof.Proof.Gen.Kernel13Ideal.Value

@[expose] public section
set_option maxRecDepth 16384
noncomputable section

namespace Cert.Kernel11Ideal.Wide
open Cert.Kernel11Ideal Cert.Kernel11Ideal.Gen Idealize.ShloMosaic Idealize.ShloMosaic.TcCoe Idealize.SL.Sem Cert.Ffn
open Cert.Kernel7Ideal.Mix (part sum_part)

variable (m : (ℓ : Loc nD τ sig) → Buf (Elt Ideal) ℓ) (c : Dev nD)

/-- The blocks of grid point `t`. -/
theorem at0 : ∀ t : Fin cfg0.N, win0_0.index t = ![t.val, 0] ∧ win0_1.index t = ![t.val, 0] ∧ win0_2.index t = ![0, 0] :=
  (by decide +kernel : ∀ t : Fin grid0.N, _)

/-- What grid point `t` adds to its block. -/
def term (t : Fin cfg0.N) (b : S768x384.Idx) : EReal := k0_pay1 (F := Ideal) (iblk m c 0 t) (iblk m c 1 t) b

/-- What is kept behind the last of a block's two points is the sum of what they add. -/
theorem kept (t : Fin cfg0.N) (hr : t.val % 2 = 2 - 1) (b : S768x384.Idx) :
    (outsAt0 m c t.val t.isLt).2 b = 0 + ∑ s : Fin 2, term m c ⟨2 * (t.val / 2) + s.val, Pipeline.run_point_lt_of_flush t hr s⟩ b := by
  refine Pipeline.eq_sum_fin_of_reset_step_apply_of_flush (fun n h => (outsAt0 m c n h).2) 2 (fun _ => (0 : EReal)) (term m c) (fun t h i => ?_) (fun t h i => ?_) t hr b
  · rw [outsAt0_A m c t h (by omega) (by omega)]
    frame_out
    unfold term
    rw [eq_ix2 i]
    pointwise [k0_pay2]
  · rw [outsAt0_B m c t h (by omega) (by omega)]
    frame_out
    unfold term
    generalize (outsAt0 m c (t.val - 1) _).2 = X
    rw [eq_ix2 i]
    pointwise [k0_pay3]
    exact congrArg (· + _) (congrFun ((Memref.isWhole_whole cc0_scratch0).read_unread X) _)

/-- What is written is what is kept. -/
theorem written (t : Fin cfg0.N) (hr : t.val % 2 = 2 - 1) (b : S768x384.Idx) : (outsAt0 m c t.val t.isLt).1 b = (outsAt0 m c t.val t.isLt).2 b := by
  rw [outsAt0_B m c t (by omega) (by omega) (by omega)]
  frame_out
  generalize (outsAt0 m c (t.val - 1) _).2 = X
  rw [eq_ix2 b]
  pointwise [k0_pay4]

/-- One element of what a point adds. -/
theorem term_at (t : Fin cfg0.N) (b : S768x384.Idx) (i : S768x384.Idx) (h0 : (i 0 : ℕ) = b 0) (h1 : (i 1 : ℕ) = b 1) (k : Fin 2) (hk : (k : ℕ) = t.val % 2) :
    term m c t b = part (V m c main_arg1 : FVec Ideal S2176x768 .f32) (V m c main_v0 : FVec Ideal S2176x384 .bf16) k i := by
  unfold term
  rw [show b = ix2 (b 0) (b 1) from eq_ix2 b]
  pointwise [k0_pay1]
  unfold part
  refine Finset.sum_congr rfl fun e _ => congr (congrArg HMul.hMul ?_) ?_ <;> blk_point [iblk, at0 t]

/-- The result whole. -/
theorem array : (dats m 0 c).arrAt 2 cfg0.N = tn (V m c main_arg1 : FVec Ideal S2176x768 .f32) (V m c main_v0 : FVec Ideal S2176x384 .bf16) := by
  refine (dats m 0 c).arrAt_eq_of_covers 2 _ (by decide +kernel) (fun t hf y => ?_)
  have hr : t.val % 2 = 2 - 1 := (flush0_2 t).mp hf
  blk_simp
  rw [after0_2]
  refine (written m c t hr y).trans ((kept m c t hr y).trans ((zero_add _).trans (Eq.trans ?_ (sum_part _ _ _))))
  refine Finset.sum_congr rfl fun s _ => ?_
  refine term_at m c _ y _ ?_ ?_ s (by dsimp only; omega)
  · blk_simp [at0 t]
  · have hq : (2 * (t.val / 2) + s.val) / 2 = t.val / 2 := by omega
    try dsimp only
    try rw [hq]
    blk_simp [at0 t]

/-- The weight's gradient; the rows' array is cast by the program. -/
theorem out : ((dats m 0 c).arrAt 2 cfg0.N : FVec Ideal S768x384 .bf16) = tn (m (c.tc.loc main_arg1) : FVec Ideal S2176x768 .f32) (m (c.tc.loc main_arg0) : FVec Ideal S2176x384 .f32) := by
  refine (array m c).trans (tn_congr rfl ?_)
  unfold V
  after_results
  funext i
  rw [eq_ix2 i]
  pointwise

end Cert.Kernel11Ideal.Wide

namespace Cert.Kernel12Ideal.Wide
open Cert.Kernel12Ideal Cert.Kernel12Ideal.Gen Idealize.ShloMosaic Idealize.ShloMosaic.TcCoe Idealize.SL.Sem Cert.Ffn
open Cert.Kernel7Ideal.Mix (part sum_part)

variable (m : (ℓ : Loc nD τ sig) → Buf (Elt Ideal) ℓ) (c : Dev nD)

theorem at0 : ∀ t : Fin cfg0.N, win0_0.index t = ![t.val, 0] ∧ win0_1.index t = ![t.val, 0] ∧ win0_2.index t = ![0, 0] :=
  (by decide +kernel : ∀ t : Fin grid0.N, _)

def term (t : Fin cfg0.N) (b : S1024x256.Idx) : EReal := k0_pay1 (F := Ideal) (iblk m c 0 t) (iblk m c 1 t) b

theorem kept (t : Fin cfg0.N) (hr : t.val % 2 = 2 - 1) (b : S1024x256.Idx) :
    (outsAt0 m c t.val t.isLt).2 b = 0 + ∑ s : Fin 2, term m c ⟨2 * (t.val / 2) + s.val, Pipeline.run_point_lt_of_flush t hr s⟩ b := by
  refine Pipeline.eq_sum_fin_of_reset_step_apply_of_flush (fun n h => (outsAt0 m c n h).2) 2 (fun _ => (0 : EReal)) (term m c) (fun t h i => ?_) (fun t h i => ?_) t hr b
  · rw [outsAt0_A m c t h (by omega) (by omega)]
    frame_out
    unfold term
    rw [eq_ix2 i]
    pointwise [k0_pay2]
  · rw [outsAt0_B m c t h (by omega) (by omega)]
    frame_out
    unfold term
    generalize (outsAt0 m c (t.val - 1) _).2 = X
    rw [eq_ix2 i]
    pointwise [k0_pay3]
    exact congrArg (· + _) (congrFun ((Memref.isWhole_whole cc0_scratch0).read_unread X) _)

theorem written (t : Fin cfg0.N) (hr : t.val % 2 = 2 - 1) (b : S1024x256.Idx) : (outsAt0 m c t.val t.isLt).1 b = (outsAt0 m c t.val t.isLt).2 b := by
  rw [outsAt0_B m c t (by omega) (by omega) (by omega)]
  frame_out
  generalize (outsAt0 m c (t.val - 1) _).2 = X
  rw [eq_ix2 b]
  pointwise [k0_pay4]

theorem term_at (t : Fin cfg0.N) (b : S1024x256.Idx) (i : S1024x256.Idx) (h0 : (i 0 : ℕ) = b 0) (h1 : (i 1 : ℕ) = b 1) (k : Fin 2) (hk : (k : ℕ) = t.val % 2) :
    term m c t b = part (V m c main_arg1 : FVec Ideal S2176x1024 .f32) (V m c main_v0 : FVec Ideal S2176x256 .bf16) k i := by
  unfold term
  rw [show b = ix2 (b 0) (b 1) from eq_ix2 b]
  pointwise [k0_pay1]
  unfold part
  refine Finset.sum_congr rfl fun e _ => congr (congrArg HMul.hMul ?_) ?_ <;> blk_point [iblk, at0 t]

theorem array : (dats m 0 c).arrAt 2 cfg0.N = tn (V m c main_arg1 : FVec Ideal S2176x1024 .f32) (V m c main_v0 : FVec Ideal S2176x256 .bf16) := by
  refine (dats m 0 c).arrAt_eq_of_covers 2 _ (by decide +kernel) (fun t hf y => ?_)
  have hr : t.val % 2 = 2 - 1 := (flush0_2 t).mp hf
  blk_simp
  rw [after0_2]
  refine (written m c t hr y).trans ((kept m c t hr y).trans ((zero_add _).trans (Eq.trans ?_ (sum_part _ _ _))))
  refine Finset.sum_congr rfl fun s _ => ?_
  refine term_at m c _ y _ ?_ ?_ s (by dsimp only; omega)
  · blk_simp [at0 t]
  · have hq : (2 * (t.val / 2) + s.val) / 2 = t.val / 2 := by omega
    try dsimp only
    try rw [hq]
    blk_simp [at0 t]

/-- The weight's gradient; the rows' array is cast by the program. -/
theorem out : ((dats m 0 c).arrAt 2 cfg0.N : FVec Ideal S1024x256 .bf16) = tn (m (c.tc.loc main_arg1) : FVec Ideal S2176x1024 .f32) (m (c.tc.loc main_arg0) : FVec Ideal S2176x256 .f32) := by
  refine (array m c).trans (tn_congr rfl ?_)
  unfold V
  after_results
  funext i
  rw [eq_ix2 i]
  pointwise

end Cert.Kernel12Ideal.Wide

namespace Cert.Kernel13Ideal.Wide
open Cert.Kernel13Ideal Cert.Kernel13Ideal.Gen Idealize.ShloMosaic Idealize.ShloMosaic.TcCoe Idealize.SL.Sem Cert.Ffn
open Cert.Kernel7Ideal.Mix (part sum_part)

variable (m : (ℓ : Loc nD τ sig) → Buf (Elt Ideal) ℓ) (c : Dev nD)

theorem at0 : ∀ t : Fin cfg0.N, win0_0.index t = ![t.val, 0] ∧ win0_1.index t = ![t.val, 0] ∧ win0_2.index t = ![0, 0] :=
  (by decide +kernel : ∀ t : Fin grid0.N, _)

def term (t : Fin cfg0.N) (b : S512x512.Idx) : EReal := k0_pay1 (F := Ideal) (iblk m c 0 t) (iblk m c 1 t) b

theorem kept (t : Fin cfg0.N) (hr : t.val % 2 = 2 - 1) (b : S512x512.Idx) :
    (outsAt0 m c t.val t.isLt).2 b = 0 + ∑ s : Fin 2, term m c ⟨2 * (t.val / 2) + s.val, Pipeline.run_point_lt_of_flush t hr s⟩ b := by
  refine Pipeline.eq_sum_fin_of_reset_step_apply_of_flush (fun n h => (outsAt0 m c n h).2) 2 (fun _ => (0 : EReal)) (term m c) (fun t h i => ?_) (fun t h i => ?_) t hr b
  · rw [outsAt0_A m c t h (by omega) (by omega)]
    frame_out
    unfold term
    rw [eq_ix2 i]
    pointwise [k0_pay2]
  · rw [outsAt0_B m c t h (by omega) (by omega)]
    frame_out
    unfold term
    generalize (outsAt0 m c (t.val - 1) _).2 = X
    rw [eq_ix2 i]
    pointwise [k0_pay3]
    exact congrArg (· + _) (congrFun ((Memref.isWhole_whole cc0_scratch0).read_unread X) _)

theorem written (t : Fin cfg0.N) (hr : t.val % 2 = 2 - 1) (b : S512x512.Idx) : (outsAt0 m c t.val t.isLt).1 b = (outsAt0 m c t.val t.isLt).2 b := by
  rw [outsAt0_B m c t (by omega) (by omega) (by omega)]
  frame_out
  generalize (outsAt0 m c (t.val - 1) _).2 = X
  rw [eq_ix2 b]
  pointwise [k0_pay4]

theorem term_at (t : Fin cfg0.N) (b : S512x512.Idx) (i : S512x512.Idx) (h0 : (i 0 : ℕ) = b 0) (h1 : (i 1 : ℕ) = b 1) (k : Fin 2) (hk : (k : ℕ) = t.val % 2) :
    term m c t b = part (V m c main_arg0 : FVec Ideal S2176x512 .f32) (V m c main_arg1 : FVec Ideal S2176x512 .f32) k i := by
  unfold term
  rw [show b = ix2 (b 0) (b 1) from eq_ix2 b]
  pointwise [k0_pay1]
  unfold part
  refine Finset.sum_congr rfl fun e _ => congr (congrArg HMul.hMul ?_) ?_ <;> blk_point [iblk, at0 t]

theorem array : (dats m 0 c).arrAt 2 cfg0.N = tn (V m c main_arg0 : FVec Ideal S2176x512 .f32) (V m c main_arg1 : FVec Ideal S2176x512 .f32) := by
  refine (dats m 0 c).arrAt_eq_of_covers 2 _ (by decide +kernel) (fun t hf y => ?_)
  have hr : t.val % 2 = 2 - 1 := (flush0_2 t).mp hf
  blk_simp
  rw [after0_2]
  refine (written m c t hr y).trans ((kept m c t hr y).trans ((zero_add _).trans (Eq.trans ?_ (sum_part _ _ _))))
  refine Finset.sum_congr rfl fun s _ => ?_
  refine term_at m c _ y _ ?_ ?_ s (by dsimp only; omega)
  · blk_simp [at0 t]
  · have hq : (2 * (t.val / 2) + s.val) / 2 = t.val / 2 := by omega
    try dsimp only
    try rw [hq]
    blk_simp [at0 t]

theorem out : ((dats m 0 c).arrAt 2 cfg0.N : FVec Ideal S512x512 .bf16) = tn (m (c.tc.loc main_arg0) : FVec Ideal S2176x512 .f32) (m (c.tc.loc main_arg1) : FVec Ideal S2176x512 .f32) := array m c

end Cert.Kernel13Ideal.Wide
-- ==== Proof.Wide.GradClaims.lean ====
/- The claims of the three products' weights' gradients: the frames of their programs, and the equality with the plain derivatives. -/
module

public import proofs.«01_k».proof.Defs
public import proofs.«01_k».proof.Proof.Wide.Grads
public import proofs.«01_k».proof.Proof.Gen.Kernel11.Frame
public import proofs.«01_k».proof.Proof.Gen.Reference11Ideal.Run
public import proofs.«01_k».proof.Proof.Gen.Kernel12.Frame
public import proofs.«01_k».proof.Proof.Gen.Reference12Ideal.Run
public import proofs.«01_k».proof.Proof.Gen.Kernel13.Frame
public import proofs.«01_k».proof.Proof.Gen.Reference13Ideal.Run

@[expose] public section
set_option maxRecDepth 16384
noncomputable section

namespace Cert.Proof
open Idealize.ShloMosaic Idealize.ShloMosaic.TcCoe Idealize.SL.Sem Cert.Ffn

open Cert.Reference11Ideal Cert.Reference11Ideal.Gen in
theorem grad11 (x : FVec Ideal S2176x384 .f32) (d : FVec Ideal S2176x768 .f32) :
    (truncf .bf16 (transpose S768x384 [1, 0] (transpose S384x768 [1, 0] (Host.dotGeneral dot_S2176x768_S2176x384_S768x384_0_0_1_1_n_n none d x) transposes_S768x384_S384x768_1_0) transposes_S384x768_S768x384_1_0) bitsLt_bf16_f32 : FVec Ideal S768x384 .bf16) = tn d x := by
  funext i
  rw [eq_ix2 i]
  pointwise
  rfl

theorem frame_kernel11 : Cert.quiescent_Kernel11 := fun m g _ => Cert.Kernel11.Gen.frame m g
theorem frame_ideal11 : Cert.quiescent_Kernel11Ideal := fun m g _ => Cert.Kernel11Ideal.Gen.frame m g
theorem frame_reference11 : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)
theorem preserves11 : Cert.preserves_Kernel11_Kernel11Ideal := trivial

theorem algebraic11 : Cert.algebraic_Kernel11Ideal_Reference11Ideal := by
  intro m g m' g' _ hargs
  refine ⟨fun c => (Cert.Kernel11Ideal.Gen.dats m 0 c).arrAt 2 Cert.Kernel11Ideal.cfg0.N, Cert.Kernel11Ideal.Value.run_blocks (F := Ideal) m g, ?_⟩
  refine (θ_run Cert.Reference11Ideal.defs _ _).mono (fun r h c => ?_) (Cert.Reference11Ideal.Value.run (F := Ideal) m' g')
  obtain ⟨a0, a1⟩ := hargs c
  obtain ⟨r0, kept⟩ := h c
  rw [a0, a1] at r0
  exact ⟨(r0.trans (grad11 _ _)).trans (Cert.Kernel11Ideal.Wide.out m c).symm, kept⟩

open Cert.Reference12Ideal Cert.Reference12Ideal.Gen in
theorem grad12 (x : FVec Ideal S2176x256 .f32) (d : FVec Ideal S2176x1024 .f32) :
    (truncf .bf16 (transpose S1024x256 [1, 0] (transpose S256x1024 [1, 0] (Host.dotGeneral dot_S2176x1024_S2176x256_S1024x256_0_0_1_1_n_n none d x) transposes_S1024x256_S256x1024_1_0) transposes_S256x1024_S1024x256_1_0) bitsLt_bf16_f32 : FVec Ideal S1024x256 .bf16) = tn d x := by
  funext i
  rw [eq_ix2 i]
  pointwise
  rfl

theorem frame_kernel12 : Cert.quiescent_Kernel12 := fun m g _ => Cert.Kernel12.Gen.frame m g
theorem frame_ideal12 : Cert.quiescent_Kernel12Ideal := fun m g _ => Cert.Kernel12Ideal.Gen.frame m g
theorem frame_reference12 : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)
theorem preserves12 : Cert.preserves_Kernel12_Kernel12Ideal := trivial

theorem algebraic12 : Cert.algebraic_Kernel12Ideal_Reference12Ideal := by
  intro m g m' g' _ hargs
  refine ⟨fun c => (Cert.Kernel12Ideal.Gen.dats m 0 c).arrAt 2 Cert.Kernel12Ideal.cfg0.N, Cert.Kernel12Ideal.Value.run_blocks (F := Ideal) m g, ?_⟩
  refine (θ_run Cert.Reference12Ideal.defs _ _).mono (fun r h c => ?_) (Cert.Reference12Ideal.Value.run (F := Ideal) m' g')
  obtain ⟨a0, a1⟩ := hargs c
  obtain ⟨r0, kept⟩ := h c
  rw [a0, a1] at r0
  exact ⟨(r0.trans (grad12 _ _)).trans (Cert.Kernel12Ideal.Wide.out m c).symm, kept⟩

open Cert.Reference13Ideal Cert.Reference13Ideal.Gen in
theorem grad13 (x : FVec Ideal S2176x512 .f32) (d : FVec Ideal S2176x512 .f32) :
    (truncf .bf16 (transpose S512x512 [1, 0] (Host.dotGeneral dot_S2176x512_S2176x512_S512x512_0_0_1_1_n_n none d x) transposes_S512x512_S512x512_1_0) bitsLt_bf16_f32 : FVec Ideal S512x512 .bf16) = tn x d := by
  refine Eq.trans ?_ (tr_tn (m := 512) (n := 512) d x)
  funext i
  rw [eq_ix2 i]
  pointwise
  rfl

theorem frame_kernel13 : Cert.quiescent_Kernel13 := fun m g _ => Cert.Kernel13.Gen.frame m g
theorem frame_ideal13 : Cert.quiescent_Kernel13Ideal := fun m g _ => Cert.Kernel13Ideal.Gen.frame m g
theorem frame_reference13 : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)
theorem preserves13 : Cert.preserves_Kernel13_Kernel13Ideal := trivial

theorem algebraic13 : Cert.algebraic_Kernel13Ideal_Reference13Ideal := by
  intro m g m' g' _ hargs
  refine ⟨fun c => (Cert.Kernel13Ideal.Gen.dats m 0 c).arrAt 2 Cert.Kernel13Ideal.cfg0.N, Cert.Kernel13Ideal.Value.run_blocks (F := Ideal) m g, ?_⟩
  refine (θ_run Cert.Reference13Ideal.defs _ _).mono (fun r h c => ?_) (Cert.Reference13Ideal.Value.run (F := Ideal) m' g')
  obtain ⟨a0, a1⟩ := hargs c
  obtain ⟨r0, kept⟩ := h c
  rw [a0, a1] at r0
  exact ⟨(r0.trans (grad13 _ _)).trans (Cert.Kernel13Ideal.Wide.out m c).symm, kept⟩

end Cert.Proof
-- ==== Proof.lean ====
/- The gradient of the causal attention: four passes over bands of query rows, each adding to the key and value
   gradients that the previous one left, against the derivative of the plain softmax attention. Then the gated
   feed-forward layer: its output and its gradients, against the plain layer and its derivative. Then the input
   projection: its output and its gradients, against the plain product and its derivative. Then the merge of the three
   gated branches and the output projection: the output and its gradients, against the plain layer and its derivative.
   Then the forward attention. Then the three products inside the branches: the products and their gradients, against the plain products and their
   derivatives. This file puts the claims together; they are proved in the `Claims.lean` files under `Proof/`. -/
module

public import proofs.«01_k».proof.Proof.Claims
public import proofs.«01_k».proof.Proof.Ffn.Claims
public import proofs.«01_k».proof.Proof.Proj.Claims
public import proofs.«01_k».proof.Proof.Mix.Claims
public import proofs.«01_k».proof.Proof.Fwd.Claims
public import proofs.«01_k».proof.Proof.Wide.Claims
public import proofs.«01_k».proof.Proof.Wide.GradClaims

@[expose] public section

noncomputable section

namespace Cert.Proof

open Idealize.ShloMosaic Idealize.SL.Sem

/-- The whole statement of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts, Cert.Kernel9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite_qk.Gen.facts, Cert.Pre_finite_ffn.Gen.facts, Cert.Pre_finite_qk_fwd.Gen.facts,
    frame_kernel, frame_ideal, frame_ideal_pre, frame_reference, frame_reference_pre,
    frame_kernel2, frame_ideal2, frame_ideal2_pre, frame_reference2, frame_reference2_pre,
    frame_kernel3, frame_ideal3, frame_reference3, frame_kernel4, frame_ideal4, frame_reference4,
    frame_kernel5, frame_ideal5, frame_reference5, frame_kernel6, frame_ideal6, frame_reference6, frame_kernel7, frame_ideal7, frame_reference7,
    frame_kernel8, frame_ideal8, frame_ideal8_pre, frame_reference8, frame_reference8_pre, frame_kernel9, frame_ideal9, frame_kernel10, frame_ideal10, frame_reference10, frame_kernel11, frame_ideal11, frame_reference11, frame_kernel12, frame_ideal12, frame_reference12, frame_kernel13, frame_ideal13, frame_reference13,
    preserves, algebraic, preserves2, algebraic2, preserves3, algebraic3, preserves4, algebraic4,
    preserves5, algebraic5, preserves6, algebraic6, preserves7, algebraic7, preserves8, algebraic8, preserves9, algebraic9, preserves10, algebraic10, preserves11, algebraic11, preserves12, algebraic12, preserves13, algebraic13⟩

end Cert.Proof

end
